-- ==== Defs.lean ====
def Pre_Kernel [hPre_sorted_counts : Cert.Pre_sorted_counts.Facts] (m : (ℓ : Loc Cert.Kernel.nD Cert.Kernel.τ Cert.Kernel.sig) → Buf (Elt Bits) ℓ) : Prop :=
  ∀ c : Dev Cert.Kernel.nD,
    (Cert.Pre_sorted_counts.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_sorted_counts : Cert.Pre_sorted_counts.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_counts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_counts [hPre_sorted_counts : Cert.Pre_sorted_counts.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_counts.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 [hPre_sorted_counts3 : Cert.Pre_sorted_counts3.Facts] (m : (ℓ : Loc Cert.Kernel3.nD Cert.Kernel3.τ Cert.Kernel3.sig) → Buf (Elt Bits) ℓ) : Prop :=
  ∀ c : Dev Cert.Kernel3.nD,
    (Cert.Pre_sorted_counts3.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4))) = (fun _ => 1#1)

def Pre_Kernel3Ideal [hPre_sorted_counts3 : Cert.Pre_sorted_counts3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_sorted_counts3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_sorted_counts3 [hPre_sorted_counts3 : Cert.Pre_sorted_counts3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_sorted_counts3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def quiescent_Kernel [hKernel : Cert.Kernel.Facts] [hPre_sorted_counts : Cert.Pre_sorted_counts.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_sorted_counts : Cert.Pre_sorted_counts.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_sorted_counts [hReferenceIdeal : Cert.ReferenceIdeal.Facts] [hPre_sorted_counts : Cert.Pre_sorted_counts.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_counts m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] [hPre_sorted_counts3 : Cert.Pre_sorted_counts3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] [hPre_sorted_counts3 : Cert.Pre_sorted_counts3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_sorted_counts3 [hReference3Ideal : Cert.Reference3Ideal.Facts] [hPre_sorted_counts3 : Cert.Pre_sorted_counts3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_sorted_counts3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sorted_counts : Cert.Pre_sorted_counts.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v95) = v0 c
          ∧ r.2.mem ((c.tc : Thread Cert.Reference2Ideal.nD Cert.Reference2Ideal.τ).loc Cert.Reference2Ideal.main_v107) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] [hPre_sorted_counts3 : Cert.Pre_sorted_counts3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v96)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v96) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v47) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_sorted_counts : Cert.Pre_sorted_counts.Facts) (hPre_finite : Cert.Pre_finite.Facts) (hPre_sorted_counts3 : Cert.Pre_sorted_counts3.Facts),
    quiescent_Kernel (hKernel := hKernel) (hPre_sorted_counts := hPre_sorted_counts)
    ∧ quiescent_KernelIdeal (hKernelIdeal := hKernelIdeal) (hPre_sorted_counts := hPre_sorted_counts)
    ∧ quiescent_ReferenceIdeal (hReferenceIdeal := hReferenceIdeal)
    ∧ quiescent_ReferenceIdeal_pre_sorted_counts (hReferenceIdeal := hReferenceIdeal) (hPre_sorted_counts := hPre_sorted_counts)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3) (hPre_sorted_counts3 := hPre_sorted_counts3)
    ∧ quiescent_Kernel3Ideal (hKernel3Ideal := hKernel3Ideal) (hPre_sorted_counts3 := hPre_sorted_counts3)
    ∧ quiescent_Reference3Ideal (hReference3Ideal := hReference3Ideal)
    ∧ quiescent_Reference3Ideal_pre_sorted_counts3 (hReference3Ideal := hReference3Ideal) (hPre_sorted_counts3 := hPre_sorted_counts3)
    ∧ preserves_Kernel_KernelIdeal
    ∧ algebraic_KernelIdeal_ReferenceIdeal (hKernelIdeal := hKernelIdeal) (hReferenceIdeal := hReferenceIdeal) (hPre_sorted_counts := hPre_sorted_counts)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal) (hPre_sorted_counts3 := hPre_sorted_counts3)
-- ==== Pre_finite.lean ====
abbrev S2x4 : Shape := ⟨2, ![2, 4]⟩
abbrev S16640x1024 : Shape := ⟨2, ![16640, 1024]⟩
abbrev S16640x2048 : Shape := ⟨2, ![16640, 2048]⟩
abbrev S_ : Shape := ⟨0, ![]⟩

class Facts : Prop where
  bitsLt_bf16_f32 : FTy.bits .bf16 < FTy.bits .f32
  bcast_S_S16640x1024 : S_.BroadcastsInDim S16640x1024 (![] : Fin 0 → Fin S16640x1024.rank)
  reducesTo_S16640x1024_S_d0_1 : S16640x1024.ReducesTo [0, 1] S_
  h_S_ : 0 < S_.numel
  bcast_S_S16640x2048 : S_.BroadcastsInDim S16640x2048 (![] : Fin 0 → Fin S16640x2048.rank)
  reducesTo_S16640x2048_S_d0_1 : S16640x2048.ReducesTo [0, 1] S_

variable [Facts]

def fn {F : FTy → Type} [FloatOps F] (main_arg0 : FVec F S2x4 .f32) (main_arg1 : FVec F S16640x1024 .bf16) (main_arg2 : FVec F S16640x1024 .bf16) (main_arg3 : FVec F S16640x2048 .bf16) : IVec S_ 1 :=
  let main_v0 : FVec F S16640x1024 .f32 := (extf .f32 · bitsLt_bf16_f32) main_arg1
  let main_v1 : FVec F S16640x1024 .f32 := Host.absf main_v0
  let main_cst : FVec F S_ .f32 := constant S_ .f32 0x7F800000#32
  let main_v2 : FVec F S16640x1024 .f32 := broadcastInDim S16640x1024 ![] bcast_S_S16640x1024 main_cst
  let main_v3 : IVec S16640x1024 1 := cmpf .olt main_v1 main_v2
  let main_c : IVec S_ 1 := constantI S_ 1 1#1
  let main_v4 : IVec S_ 1 := (fun x v => Host.reduce IntOp.andi x v reducesTo_S16640x1024_S_d0_1 h_S_) main_v3 main_c
  let main_v5 : FVec F S16640x1024 .f32 := (extf .f32 · bitsLt_bf16_f32) main_arg2
  let main_v6 : FVec F S16640x1024 .f32 := Host.absf main_v5
  let main_cst_0 : FVec F S_ .f32 := constant S_ .f32 0x7F800000#32
  let main_v7 : FVec F S16640x1024 .f32 := broadcastInDim S16640x1024 ![] bcast_S_S16640x1024 main_cst_0
  let main_v8 : IVec S16640x1024 1 := cmpf .olt main_v6 main_v7
  let main_c_1 : IVec S_ 1 := constantI S_ 1 1#1
  let main_v9 : IVec S_ 1 := (fun x v => Host.reduce IntOp.andi x v reducesTo_S16640x1024_S_d0_1 h_S_) main_v8 main_c_1
  let main_v10 : IVec S_ 1 := andi main_v4 main_v9
  let main_v11 : FVec F S16640x2048 .f32 := (extf .f32 · bitsLt_bf16_f32) main_arg3
  let main_v12 : FVec F S16640x2048 .f32 := Host.absf main_v11
  let main_cst_2 : FVec F S_ .f32 := constant S_ .f32 0x7F800000#32
  let main_v13 : FVec F S16640x2048 .f32 := broadcastInDim S16640x2048 ![] bcast_S_S16640x2048 main_cst_2
  let main_v14 : IVec S16640x2048 1 := cmpf .olt main_v12 main_v13
  let main_c_3 : IVec S_ 1 := constantI S_ 1 1#1
  let main_v15 : IVec S_ 1 := (fun x v => Host.reduce IntOp.andi x v reducesTo_S16640x2048_S_d0_1 h_S_) main_v14 main_c_3
  let main_v16 : IVec S_ 1 := andi main_v10 main_v15
  main_v16
-- ==== Pre_sorted_counts.lean ====
abbrev S64 : Shape := ⟨1, ![64]⟩
abbrev S22784x1152 : Shape := ⟨2, ![22784, 1152]⟩
abbrev S2x16x1024x512 : Shape := ⟨4, ![2, 16, 1024, 512]⟩
abbrev S2x16x512x1024 : Shape := ⟨4, ![2, 16, 512, 1024]⟩
abbrev S_ : Shape := ⟨0, ![]⟩

class Facts : Prop where
  bcast_S_S64 : S_.BroadcastsInDim S64 (![] : Fin 0 → Fin S64.rank)
  reducesTo_S64_S_d0 : S64.ReducesTo [0] S_
  h_S_ : 0 < S_.numel

variable [Facts]

noncomputable abbrev lit0 : Fin 64 → BitVec 1 := fun
  | 0 => 0#1 | 1 => 0#1 | 2 => 0#1 | 3 => 1#1 | 4 => 0#1 | 5 => 1#1 | 6 => 1#1 | 7 => 0#1
  | 8 => 0#1 | 9 => 1#1 | 10 => 1#1 | 11 => 0#1 | 12 => 1#1 | 13 => 0#1 | 14 => 0#1 | 15 => 0#1
  | 16 => 0#1 | 17 => 0#1 | 18 => 0#1 | 19 => 1#1 | 20 => 0#1 | 21 => 1#1 | 22 => 1#1 | 23 => 0#1
  | 24 => 0#1 | 25 => 1#1 | 26 => 1#1 | 27 => 0#1 | 28 => 1#1 | 29 => 0#1 | 30 => 0#1 | 31 => 0#1
  | 32 => 0#1 | 33 => 0#1 | 34 => 0#1 | 35 => 1#1 | 36 => 0#1 | 37 => 1#1 | 38 => 1#1 | 39 => 0#1
  | 40 => 0#1 | 41 => 1#1 | 42 => 1#1 | 43 => 0#1 | 44 => 1#1 | 45 => 0#1 | 46 => 0#1 | 47 => 0#1
  | 48 => 0#1 | 49 => 0#1 | 50 => 0#1 | 51 => 1#1 | 52 => 0#1 | 53 => 1#1 | 54 => 1#1 | 55 => 0#1
  | 56 => 0#1 | 57 => 1#1 | 58 => 1#1 | 59 => 0#1 | 60 => 1#1 | 61 => 0#1 | 62 => 0#1 | 63 => 0#1
  | _ => 0#1

def fn_where {F : FTy → Type} [FloatOps F] (arg0 : IVec S64 1) (arg1 : IVec S64 32) (arg2 : IVec S64 32) : IVec S64 32 :=
  let v0 : IVec S64 32 := select arg0 arg1 arg2
  v0

def fn_floor_divide {F : FTy → Type} [FloatOps F] (arg0 : IVec S64 32) (arg1 : IVec S_ 32) : IVec S64 32 :=
  let v0 : IVec S_ 32 := id arg1
  let v1 : IVec S64 32 := broadcastInDim S64 ![] bcast_S_S64 v0
  let v2 : IVec S64 32 := Host.divsi arg0 v1
  let v3 : IVec S64 32 := signi arg0
  let v4 : IVec S_ 32 := signi v0
  let v5 : IVec S64 32 := broadcastInDim S64 ![] bcast_S_S64 v4
  let v6 : IVec S64 1 := cmpi .ne v3 v5
  let v7 : IVec S64 32 := broadcastInDim S64 ![] bcast_S_S64 v0
  let v8 : IVec S64 32 := Host.remsi arg0 v7
  let c : IVec S_ 32 := constantI S_ 32 0#32
  let v9 : IVec S64 32 := broadcastInDim S64 ![] bcast_S_S64 c
  let v10 : IVec S64 1 := cmpi .ne v8 v9
  let v11 : IVec S64 1 := andi v6 v10
  let c_0 : IVec S_ 32 := constantI S_ 32 1#32
  let v12 : IVec S64 32 := broadcastInDim S64 ![] bcast_S_S64 c_0
  let v13 : IVec S64 32 := subi v2 v12
  let v14 : IVec S64 32 := fn_where (F := F) v11 v13 v2
  v14

def fn_part1 {F : FTy → Type} [FloatOps F] (main_v12 : IVec S_ 32) (main_v13 : IVec S_ 1) (main_v14 : IVec S_ 1) : IVec S_ 1 :=
  let main_v15 : IVec S_ 1 := andi main_v13 main_v14
  let main_c_8 : IVec S_ 32 := constantI S_ 32 89#32
  let main_v16 : IVec S_ 1 := cmpi .sle main_v12 main_c_8
  let main_v17 : IVec S_ 1 := andi main_v15 main_v16
  main_v17

def fn {F : FTy → Type} [FloatOps F] (main_arg0 : IVec S64 32) (main_arg1 : FVec F S22784x1152 .f32) (main_arg2 : FVec F S2x16x1024x512 .f32) (main_arg3 : FVec F S2x16x1024x512 .f32) (main_arg4 : FVec F S2x16x512x1024 .f32) : IVec S_ 1 :=
  let main_c : IVec S64 1 := fun i => lit0 (S64.rowMajor i)
  let main_c_0 : IVec S_ 32 := constantI S_ 32 0#32
  let main_v0 : IVec S64 32 := broadcastInDim S64 ![] bcast_S_S64 main_c_0
  let main_v1 : IVec S64 1 := cmpi .sge main_arg0 main_v0
  let main_c_1 : IVec S_ 32 := constantI S_ 32 16640#32
  let main_v2 : IVec S64 32 := broadcastInDim S64 ![] bcast_S_S64 main_c_1
  let main_v3 : IVec S64 1 := cmpi .sle main_arg0 main_v2
  let main_v4 : IVec S64 1 := andi main_v1 main_v3
  let main_c_2 : IVec S_ 32 := constantI S_ 32 0#32
  let main_v5 : IVec S64 32 := broadcastInDim S64 ![] bcast_S_S64 main_c_2
  let main_v6 : IVec S64 1 := cmpi .eq main_arg0 main_v5
  let main_v7 : IVec S64 1 := ori main_c main_v6
  let main_v8 : IVec S64 1 := andi main_v4 main_v7
  let main_c_3 : IVec S_ 32 := constantI S_ 32 255#32
  let main_v9 : IVec S64 32 := broadcastInDim S64 ![] bcast_S_S64 main_c_3
  let main_v10 : IVec S64 32 := addi main_arg0 main_v9
  let main_c_4 : IVec S_ 32 := constantI S_ 32 256#32
  let main_v11 : IVec S64 32 := fn_floor_divide (F := F) main_v10 main_c_4
  let main_c_5 : IVec S_ 32 := constantI S_ 32 0#32
  let main_v12 : IVec S_ 32 := (fun x v => Host.reduce IntOp.addi x v reducesTo_S64_S_d0 h_S_) main_v11 main_c_5
  let main_c_6 : IVec S_ 1 := constantI S_ 1 1#1
  let main_v13 : IVec S_ 1 := (fun x v => Host.reduce IntOp.andi x v reducesTo_S64_S_d0 h_S_) main_v8 main_c_6
  let main_c_7 : IVec S_ 32 := constantI S_ 32 1#32
  let main_v14 : IVec S_ 1 := cmpi .sge main_v12 main_c_7
  fn_part1 (F := F) main_v12 main_v13 main_v14
-- ==== Pre_sorted_counts3.lean ====
abbrev S64 : Shape := ⟨1, ![64]⟩
abbrev S22528x1152 : Shape := ⟨2, ![22528, 1152]⟩
abbrev S2x16x1024x512 : Shape := ⟨4, ![2, 16, 1024, 512]⟩
abbrev S2x16x512x1024 : Shape := ⟨4, ![2, 16, 512, 1024]⟩
abbrev S_ : Shape := ⟨0, ![]⟩

class Facts : Prop where
  bcast_S_S64 : S_.BroadcastsInDim S64 (![] : Fin 0 → Fin S64.rank)
  reducesTo_S64_S_d0 : S64.ReducesTo [0] S_
  h_S_ : 0 < S_.numel

variable [Facts]

noncomputable abbrev lit0 : Fin 64 → BitVec 1 := fun
  | 0 => 0#1 | 1 => 0#1 | 2 => 0#1 | 3 => 1#1 | 4 => 0#1 | 5 => 1#1 | 6 => 1#1 | 7 => 0#1
  | 8 => 0#1 | 9 => 1#1 | 10 => 1#1 | 11 => 0#1 | 12 => 1#1 | 13 => 0#1 | 14 => 0#1 | 15 => 0#1
  | 16 => 0#1 | 17 => 0#1 | 18 => 0#1 | 19 => 1#1 | 20 => 0#1 | 21 => 1#1 | 22 => 1#1 | 23 => 0#1
  | 24 => 0#1 | 25 => 1#1 | 26 => 1#1 | 27 => 0#1 | 28 => 1#1 | 29 => 0#1 | 30 => 0#1 | 31 => 0#1
  | 32 => 0#1 | 33 => 0#1 | 34 => 0#1 | 35 => 1#1 | 36 => 0#1 | 37 => 1#1 | 38 => 1#1 | 39 => 0#1
  | 40 => 0#1 | 41 => 1#1 | 42 => 1#1 | 43 => 0#1 | 44 => 1#1 | 45 => 0#1 | 46 => 0#1 | 47 => 0#1
  | 48 => 0#1 | 49 => 0#1 | 50 => 0#1 | 51 => 1#1 | 52 => 0#1 | 53 => 1#1 | 54 => 1#1 | 55 => 0#1
  | 56 => 0#1 | 57 => 1#1 | 58 => 1#1 | 59 => 0#1 | 60 => 1#1 | 61 => 0#1 | 62 => 0#1 | 63 => 0#1
  | _ => 0#1

def fn_where {F : FTy → Type} [FloatOps F] (arg0 : IVec S64 1) (arg1 : IVec S64 32) (arg2 : IVec S64 32) : IVec S64 32 :=
  let v0 : IVec S64 32 := select arg0 arg1 arg2
  v0

def fn_floor_divide {F : FTy → Type} [FloatOps F] (arg0 : IVec S64 32) (arg1 : IVec S_ 32) : IVec S64 32 :=
  let v0 : IVec S_ 32 := id arg1
  let v1 : IVec S64 32 := broadcastInDim S64 ![] bcast_S_S64 v0
  let v2 : IVec S64 32 := Host.divsi arg0 v1
  let v3 : IVec S64 32 := signi arg0
  let v4 : IVec S_ 32 := signi v0
  let v5 : IVec S64 32 := broadcastInDim S64 ![] bcast_S_S64 v4
  let v6 : IVec S64 1 := cmpi .ne v3 v5
  let v7 : IVec S64 32 := broadcastInDim S64 ![] bcast_S_S64 v0
  let v8 : IVec S64 32 := Host.remsi arg0 v7
  let c : IVec S_ 32 := constantI S_ 32 0#32
  let v9 : IVec S64 32 := broadcastInDim S64 ![] bcast_S_S64 c
  let v10 : IVec S64 1 := cmpi .ne v8 v9
  let v11 : IVec S64 1 := andi v6 v10
  let c_0 : IVec S_ 32 := constantI S_ 32 1#32
  let v12 : IVec S64 32 := broadcastInDim S64 ![] bcast_S_S64 c_0
  let v13 : IVec S64 32 := subi v2 v12
  let v14 : IVec S64 32 := fn_where (F := F) v11 v13 v2
  v14

def fn_part1 {F : FTy → Type} [FloatOps F] (main_v12 : IVec S_ 32) (main_v13 : IVec S_ 1) (main_v14 : IVec S_ 1) : IVec S_ 1 :=
  let main_v15 : IVec S_ 1 := andi main_v13 main_v14
  let main_c_8 : IVec S_ 32 := constantI S_ 32 88#32
  let main_v16 : IVec S_ 1 := cmpi .sle main_v12 main_c_8
  let main_v17 : IVec S_ 1 := andi main_v15 main_v16
  main_v17

def fn {F : FTy → Type} [FloatOps F] (main_arg0 : IVec S64 32) (main_arg1 : FVec F S22528x1152 .f32) (main_arg2 : FVec F S2x16x1024x512 .f32) (main_arg3 : FVec F S2x16x1024x512 .f32) (main_arg4 : FVec F S2x16x512x1024 .f32) : IVec S_ 1 :=
  let main_c : IVec S64 1 := fun i => lit0 (S64.rowMajor i)
  let main_c_0 : IVec S_ 32 := constantI S_ 32 0#32
  let main_v0 : IVec S64 32 := broadcastInDim S64 ![] bcast_S_S64 main_c_0
  let main_v1 : IVec S64 1 := cmpi .sge main_arg0 main_v0
  let main_c_1 : IVec S_ 32 := constantI S_ 32 16640#32
  let main_v2 : IVec S64 32 := broadcastInDim S64 ![] bcast_S_S64 main_c_1
  let main_v3 : IVec S64 1 := cmpi .sle main_arg0 main_v2
  let main_v4 : IVec S64 1 := andi main_v1 main_v3
  let main_c_2 : IVec S_ 32 := constantI S_ 32 0#32
  let main_v5 : IVec S64 32 := broadcastInDim S64 ![] bcast_S_S64 main_c_2
  let main_v6 : IVec S64 1 := cmpi .eq main_arg0 main_v5
  let main_v7 : IVec S64 1 := ori main_c main_v6
  let main_v8 : IVec S64 1 := andi main_v4 main_v7
  let main_c_3 : IVec S_ 32 := constantI S_ 32 255#32
  let main_v9 : IVec S64 32 := broadcastInDim S64 ![] bcast_S_S64 main_c_3
  let main_v10 : IVec S64 32 := addi main_arg0 main_v9
  let main_c_4 : IVec S_ 32 := constantI S_ 32 256#32
  let main_v11 : IVec S64 32 := fn_floor_divide (F := F) main_v10 main_c_4
  let main_c_5 : IVec S_ 32 := constantI S_ 32 0#32
  let main_v12 : IVec S_ 32 := (fun x v => Host.reduce IntOp.addi x v reducesTo_S64_S_d0 h_S_) main_v11 main_c_5
  let main_c_6 : IVec S_ 1 := constantI S_ 1 1#1
  let main_v13 : IVec S_ 1 := (fun x v => Host.reduce IntOp.andi x v reducesTo_S64_S_d0 h_S_) main_v8 main_c_6
  let main_c_7 : IVec S_ 32 := constantI S_ 32 1#32
  let main_v14 : IVec S_ 1 := cmpi .sge main_v12 main_c_7
  fn_part1 (F := F) main_v12 main_v13 main_v14
-- ==== Kernel.lean ====
abbrev S64 : Shape := ⟨1, ![64]⟩
abbrev S22784x1152 : Shape := ⟨2, ![22784, 1152]⟩
abbrev S2x16x1024x512 : Shape := ⟨4, ![2, 16, 1024, 512]⟩
abbrev S2x16x512x1024 : Shape := ⟨4, ![2, 16, 512, 1024]⟩
abbrev S32x1024x512 : Shape := ⟨3, ![32, 1024, 512]⟩
abbrev S32x512x1024 : Shape := ⟨3, ![32, 512, 1024]⟩
abbrev S_ : Shape := ⟨0, ![]⟩
abbrev S1 : Shape := ⟨1, ![1]⟩
abbrev S89 : Shape := ⟨1, ![89]⟩
abbrev S1x64 : Shape := ⟨2, ![1, 64]⟩
abbrev S89x1 : Shape := ⟨2, ![89, 1]⟩
abbrev S89x64 : Shape := ⟨2, ![89, 64]⟩
abbrev S88 : Shape := ⟨1, ![88]⟩
abbrev S1x89 : Shape := ⟨2, ![1, 89]⟩
abbrev S6x89 : Shape := ⟨2, ![6, 89]⟩
abbrev S22784x1024 : Shape := ⟨2, ![22784, 1024]⟩
abbrev S256x1152 : Shape := ⟨2, ![256, 1152]⟩
abbrev S256x1024 : Shape := ⟨2, ![256, 1024]⟩
abbrev S2x2x1024x512 : Shape := ⟨4, ![2, 2, 1024, 512]⟩
abbrev S2x2x512x1024 : Shape := ⟨4, ![2, 2, 512, 1024]⟩
abbrev S2x6 : Shape := ⟨2, ![2, 6]⟩
abbrev S1x1 : Shape := ⟨2, ![1, 1]⟩
abbrev S1x1x1024x512 : Shape := ⟨4, ![1, 1, 1024, 512]⟩
abbrev S1024x512 : Shape := ⟨2, ![1024, 512]⟩
abbrev S1x1024x512 : Shape := ⟨3, ![1, 1024, 512]⟩
abbrev S1x1x512x1024 : Shape := ⟨4, ![1, 1, 512, 1024]⟩
abbrev S512x1024 : Shape := ⟨2, ![512, 1024]⟩
abbrev S1x512x1024 : Shape := ⟨3, ![1, 512, 1024]⟩
abbrev S256x1 : Shape := ⟨2, ![256, 1]⟩
abbrev S256x512 : Shape := ⟨2, ![256, 512]⟩

abbrev nBuf : Space → Nat
  | .hbm => 171
  | .vmem => 7
  | .smem => 2
  | _ => 0

abbrev hbmTy0_0 (i : Nat) : BufTy := match i % 128 with
  | 0 => ⟨S64, .i32⟩
  | 1 => ⟨S22784x1152, .f32⟩
  | 2 => ⟨S2x16x1024x512, .f32⟩
  | 3 => ⟨S2x16x1024x512, .f32⟩
  | 4 => ⟨S2x16x512x1024, .f32⟩
  | 5 => ⟨S64, .i32⟩
  | 6 => ⟨S64, .i32⟩
  | 7 => ⟨S32x1024x512, .f32⟩
  | 8 => ⟨S32x1024x512, .f32⟩
  | 9 => ⟨S32x512x1024, .f32⟩
  | 10 => ⟨S_, .i32⟩
  | 11 => ⟨S64, .i32⟩
  | 12 => ⟨S64, .i32⟩
  | 13 => ⟨S_, .i32⟩
  | 14 => ⟨S64, .i32⟩
  | 15 => ⟨S64, .i32⟩
  | 16 => ⟨S_, .i32⟩
  | 17 => ⟨S_, .i32⟩
  | 18 => ⟨S64, .i32⟩
  | 19 => ⟨S64, .i32⟩
  | 20 => ⟨S64, .i32⟩
  | 21 => ⟨S_, .i32⟩
  | 22 => ⟨S64, .i32⟩
  | 23 => ⟨S64, .i1⟩
  | 24 => ⟨S64, .i32⟩
  | 25 => ⟨S64, .i32⟩
  | 26 => ⟨S_, .i32⟩
  | 27 => ⟨S64, .i32⟩
  | 28 => ⟨S64, .i1⟩
  | 29 => ⟨S64, .i1⟩
  | 30 => ⟨S_, .i32⟩
  | 31 => ⟨S64, .i32⟩
  | 32 => ⟨S64, .i32⟩
  | 33 => ⟨S64, .i32⟩
  | 34 => ⟨S_, .i32⟩
  | 35 => ⟨S_, .i32⟩
  | 36 => ⟨S64, .i32⟩
  | 37 => ⟨S1, .i32⟩
  | 38 => ⟨S_, .i32⟩
  | 39 => ⟨S89, .i32⟩
  | 40 => ⟨S_, .i32⟩
  | 41 => ⟨S_, .i32⟩
  | 42 => ⟨S89, .i32⟩
  | 43 => ⟨S89, .i32⟩
  | 44 => ⟨S1x64, .i32⟩
  | 45 => ⟨S89x1, .i32⟩
  | 46 => ⟨S89x64, .i32⟩
  | 47 => ⟨S89x64, .i32⟩
  | 48 => ⟨S89x64, .i1⟩
  | 49 => ⟨S89x64, .i32⟩
  | 50 => ⟨S_, .i32⟩
  | 51 => ⟨S89, .i32⟩
  | 52 => ⟨S_, .i32⟩
  | 53 => ⟨S64, .i32⟩
  | 54 => ⟨S64, .i32⟩
  | 55 => ⟨S_, .i32⟩
  | 56 => ⟨S64, .i32⟩
  | 57 => ⟨S64, .i32⟩
  | 58 => ⟨S89, .i32⟩
  | 59 => ⟨S_, .i32⟩
  | 60 => ⟨S1, .i32⟩
  | 61 => ⟨S88, .i32⟩
  | 62 => ⟨S89, .i32⟩
  | 63 => ⟨S89, .i1⟩
  | 64 => ⟨S89, .i32⟩
  | 65 => ⟨S89, .i1⟩
  | 66 => ⟨S89, .i1⟩
  | 67 => ⟨S89, .i32⟩
  | 68 => ⟨S_, .i32⟩
  | 69 => ⟨S_, .i32⟩
  | 70 => ⟨S89, .i32⟩
  | 71 => ⟨S_, .i32⟩
  | 72 => ⟨S89, .i32⟩
  | 73 => ⟨S89, .i32⟩
  | 74 => ⟨S_, .i32⟩
  | 75 => ⟨S_, .i32⟩
  | 76 => ⟨S_, .i32⟩
  | 77 => ⟨S_, .i1⟩
  | 78 => ⟨S_, .i32⟩
  | 79 => ⟨S_, .i32⟩
  | 80 => ⟨S89, .i32⟩
  | 81 => ⟨S89, .i32⟩
  | 82 => ⟨S_, .i32⟩
  | 83 => ⟨S89, .i32⟩
  | 84 => ⟨S89, .i1⟩
  | 85 => ⟨S_, .i32⟩
  | 86 => ⟨S89, .i32⟩
  | 87 => ⟨S89, .i1⟩
  | 88 => ⟨S_, .i32⟩
  | 89 => ⟨S_, .i1⟩
  | 90 => ⟨S89, .i1⟩
  | 91 => ⟨S89, .i1⟩
  | 92 => ⟨S89, .i1⟩
  | 93 => ⟨S89, .i32⟩
  | 94 => ⟨S89, .i32⟩
  | 95 => ⟨S89, .i32⟩
  | 96 => ⟨S_, .i32⟩
  | 97 => ⟨S89, .i32⟩
  | 98 => ⟨S89, .i1⟩
  | 99 => ⟨S_, .i32⟩
  | 100 => ⟨S89, .i32⟩
  | 101 => ⟨S89, .i32⟩
  | 102 => ⟨S89, .i32⟩
  | 103 => ⟨S89x1, .i32⟩
  | 104 => ⟨S89, .i32⟩
  | 105 => ⟨S89, .i32⟩
  | 106 => ⟨S89, .i1⟩
  | 107 => ⟨S_, .i32⟩
  | 108 => ⟨S89, .i32⟩
  | 109 => ⟨S89, .i32⟩
  | 110 => ⟨S_, .i32⟩
  | 111 => ⟨S89, .i32⟩
  | 112 => ⟨S89, .i1⟩
  | 113 => ⟨S_, .i32⟩
  | 114 => ⟨S89, .i32⟩
  | 115 => ⟨S89, .i32⟩
  | 116 => ⟨S89, .i32⟩
  | 117 => ⟨S89x1, .i32⟩
  | 118 => ⟨S89, .i32⟩
  | 119 => ⟨S_, .i32⟩
  | 120 => ⟨S89, .i32⟩
  | 121 => ⟨S89, .i1⟩
  | 122 => ⟨S_, .i32⟩
  | 123 => ⟨S89, .i32⟩
  | 124 => ⟨S89, .i32⟩
  | 125 => ⟨S89, .i32⟩
  | 126 => ⟨S89x1, .i32⟩
  | 127 => ⟨S89, .i32⟩
  | _ => ⟨S64, .i32⟩

abbrev hbmTy0_1 (i : Nat) : BufTy := match i % 128 with
  | 0 => ⟨S_, .i32⟩
  | 1 => ⟨S89, .i32⟩
  | 2 => ⟨S89, .i1⟩
  | 3 => ⟨S_, .i32⟩
  | 4 => ⟨S89, .i32⟩
  | 5 => ⟨S89, .i32⟩
  | 6 => ⟨S89, .i32⟩
  | 7 => ⟨S89x1, .i32⟩
  | 8 => ⟨S89, .i32⟩
  | 9 => ⟨S89, .i32⟩
  | 10 => ⟨S_, .i32⟩
  | 11 => ⟨S89, .i32⟩
  | 12 => ⟨S89, .i1⟩
  | 13 => ⟨S_, .i32⟩
  | 14 => ⟨S89, .i32⟩
  | 15 => ⟨S89, .i32⟩
  | 16 => ⟨S89, .i32⟩
  | 17 => ⟨S89x1, .i32⟩
  | 18 => ⟨S89, .i32⟩
  | 19 => ⟨S_, .i32⟩
  | 20 => ⟨S_, .i32⟩
  | 21 => ⟨S89, .i32⟩
  | 22 => ⟨S89, .i32⟩
  | 23 => ⟨S_, .i32⟩
  | 24 => ⟨S89, .i32⟩
  | 25 => ⟨S89, .i1⟩
  | 26 => ⟨S_, .i32⟩
  | 27 => ⟨S89, .i32⟩
  | 28 => ⟨S89, .i32⟩
  | 29 => ⟨S89, .i32⟩
  | 30 => ⟨S89x1, .i32⟩
  | 31 => ⟨S89, .i32⟩
  | 32 => ⟨S_, .i32⟩
  | 33 => ⟨S_, .i32⟩
  | 34 => ⟨S89, .i32⟩
  | 35 => ⟨S89, .i32⟩
  | 36 => ⟨S1x89, .i32⟩
  | 37 => ⟨S1x89, .i32⟩
  | 38 => ⟨S1x89, .i32⟩
  | 39 => ⟨S1x89, .i32⟩
  | 40 => ⟨S1x89, .i32⟩
  | 41 => ⟨S1x89, .i32⟩
  | 42 => ⟨S22784x1024, .f32⟩
  | _ => ⟨S64, .i32⟩

abbrev hbmTy (i : Nat) : BufTy := match i / 128 with
  | 0 => hbmTy0_0 i
  | 1 => hbmTy0_1 i
  | _ => ⟨S64, .i32⟩

abbrev bufTy : (tb : Table) → Fin (tcTables nBuf tb) → BufTy
  | .hbm, ⟨i, _⟩ => hbmTy i
  | .local _ .vmem, ⟨0, _⟩ => ⟨S256x1152, .f32⟩
  | .local _ .vmem, ⟨1, _⟩ => ⟨S256x1152, .f32⟩
  | .local _ .vmem, ⟨2, _⟩ => ⟨S256x1024, .f32⟩
  | .local _ .vmem, ⟨3, _⟩ => ⟨S256x1024, .f32⟩
  | .local _ .vmem, ⟨4, _⟩ => ⟨S2x2x1024x512, .f32⟩
  | .local _ .vmem, ⟨5, _⟩ => ⟨S2x2x1024x512, .f32⟩
  | .local _ .vmem, ⟨6, _⟩ => ⟨S2x2x512x1024, .f32⟩
  | .local _ .smem, ⟨0, _⟩ => ⟨S6x89, .i32⟩
  | .local _ .smem, ⟨1, _⟩ => ⟨S1, .i32⟩
  | _, _ => ⟨S64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_1 : Ref sig .tc := ⟨.hbm, 10, rfl⟩
abbrev main_v3 : Ref sig .tc := ⟨.hbm, 11, rfl⟩
abbrev main_v4 : Ref sig .tc := ⟨.hbm, 12, rfl⟩
abbrev main_c_2 : Ref sig .tc := ⟨.hbm, 13, rfl⟩
abbrev main_v5 : Ref sig .tc := ⟨.hbm, 14, rfl⟩
abbrev main_v6 : Ref sig .tc := ⟨.hbm, 15, rfl⟩
abbrev main_c_3 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v7 : Ref sig .tc := ⟨.hbm, 33, rfl⟩
abbrev main_call1_call0_c : Ref sig .tc := ⟨.hbm, 34, rfl⟩
abbrev main_call1_call0_v0 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_c_4 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_c_5 : Ref sig .tc := ⟨.hbm, 50, rfl⟩
abbrev main_v21 : Ref sig .tc := ⟨.hbm, 51, rfl⟩
abbrev main_c_6 : Ref sig .tc := ⟨.hbm, 52, rfl⟩
abbrev main_v22 : Ref sig .tc := ⟨.hbm, 53, rfl⟩
abbrev main_v23 : Ref sig .tc := ⟨.hbm, 54, rfl⟩
abbrev main_c_7 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_c_8 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_call2_call0_c : Ref sig .tc := ⟨.hbm, 68, rfl⟩
abbrev main_call2_call0_v0 : Ref sig .tc := ⟨.hbm, 69, rfl⟩
abbrev main_v35 : Ref sig .tc := ⟨.hbm, 70, rfl⟩
abbrev main_c_9 : Ref sig .tc := ⟨.hbm, 71, rfl⟩
abbrev main_v36 : Ref sig .tc := ⟨.hbm, 72, rfl⟩
abbrev main_v37 : Ref sig .tc := ⟨.hbm, 73, rfl⟩
abbrev main_c_10 : Ref sig .tc := ⟨.hbm, 74, rfl⟩
abbrev main_call3_v0 : Ref sig .tc := ⟨.hbm, 75, rfl⟩
abbrev main_call3_c : Ref sig .tc := ⟨.hbm, 76, rfl⟩
abbrev main_call3_v1 : Ref sig .tc := ⟨.hbm, 77, rfl⟩
abbrev main_call3_c_0 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_call3_c_1 : Ref sig .tc := ⟨.hbm, 82, rfl⟩
abbrev main_call3_v5 : Ref sig .tc := ⟨.hbm, 83, rfl⟩
abbrev main_call3_v6 : Ref sig .tc := ⟨.hbm, 84, rfl⟩
abbrev main_call3_c_2 : Ref sig .tc := ⟨.hbm, 85, rfl⟩
abbrev main_call3_v7 : Ref sig .tc := ⟨.hbm, 86, rfl⟩
abbrev main_call3_v8 : Ref sig .tc := ⟨.hbm, 87, rfl⟩
abbrev main_call3_c_3 : Ref sig .tc := ⟨.hbm, 88, rfl⟩
abbrev main_call3_v9 : Ref sig .tc := ⟨.hbm, 89, rfl⟩
abbrev main_call3_v10 : Ref sig .tc := ⟨.hbm, 90, rfl⟩
abbrev main_call3_v11 : Ref sig .tc := ⟨.hbm, 91, rfl⟩
abbrev main_call3_v12 : Ref sig .tc := ⟨.hbm, 92, rfl⟩
abbrev main_call3_v13 : Ref sig .tc := ⟨.hbm, 93, rfl⟩
abbrev main_call3_v14 : Ref sig .tc := ⟨.hbm, 94, rfl⟩
abbrev main_v38 : Ref sig .tc := ⟨.hbm, 95, rfl⟩
abbrev main_c_11 : Ref sig .tc := ⟨.hbm, 96, rfl⟩
abbrev main_v39 : Ref sig .tc := ⟨.hbm, 97, rfl⟩
abbrev main_v40 : Ref sig .tc := ⟨.hbm, 98, rfl⟩
abbrev main_c_12 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_c_13 : Ref sig .tc := ⟨.hbm, 107, rfl⟩
abbrev main_v48 : Ref sig .tc := ⟨.hbm, 108, rfl⟩
abbrev main_v49 : Ref sig .tc := ⟨.hbm, 109, rfl⟩
abbrev main_c_14 : Ref sig .tc := ⟨.hbm, 110, rfl⟩
abbrev main_v50 : Ref sig .tc := ⟨.hbm, 111, rfl⟩
abbrev main_v51 : Ref sig .tc := ⟨.hbm, 112, rfl⟩
abbrev main_c_15 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_c_16 : Ref sig .tc := ⟨.hbm, 119, rfl⟩
abbrev main_v57 : Ref sig .tc := ⟨.hbm, 120, rfl⟩
abbrev main_v58 : Ref sig .tc := ⟨.hbm, 121, rfl⟩
abbrev main_c_17 : Ref sig .tc := ⟨.hbm, 122, rfl⟩
abbrev main_v59 : Ref sig .tc := ⟨.hbm, 123, rfl⟩
abbrev main_v60 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_c_18 : Ref sig .tc := ⟨.hbm, 128, rfl⟩
abbrev main_v64 : Ref sig .tc := ⟨.hbm, 129, rfl⟩
abbrev main_v65 : Ref sig .tc := ⟨.hbm, 130, rfl⟩
abbrev main_c_19 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_c_20 : Ref sig .tc := ⟨.hbm, 138, rfl⟩
abbrev main_v72 : Ref sig .tc := ⟨.hbm, 139, rfl⟩
abbrev main_v73 : Ref sig .tc := ⟨.hbm, 140, rfl⟩
abbrev main_c_21 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_v78 : Ref sig .tc := ⟨.hbm, 146, rfl⟩
abbrev main_c_22 : Ref sig .tc := ⟨.hbm, 147, rfl⟩
abbrev main_call4_v0 : Ref sig .tc := ⟨.hbm, 148, rfl⟩
abbrev main_call4_v1 : Ref sig .tc := ⟨.hbm, 149, rfl⟩
abbrev main_v79 : Ref sig .tc := ⟨.hbm, 150, rfl⟩
abbrev main_c_23 : Ref sig .tc := ⟨.hbm, 151, rfl⟩
abbrev main_v80 : Ref sig .tc := ⟨.hbm, 152, rfl⟩
abbrev main_v81 : Ref sig .tc := ⟨.hbm, 153, rfl⟩
abbrev main_c_24 : Ref sig .tc := ⟨.hbm, 154, rfl⟩
abbrev main_v82 : Ref sig .tc := ⟨.hbm, 155, rfl⟩
abbrev main_v83 : Ref sig .tc := ⟨.hbm, 156, rfl⟩
abbrev main_v84 : Ref sig .tc := ⟨.hbm, 157, rfl⟩
abbrev main_v85 : Ref sig .tc := ⟨.hbm, 158, rfl⟩
abbrev main_v86 : Ref sig .tc := ⟨.hbm, 159, rfl⟩
abbrev main_c_25 : Ref sig .tc := ⟨.hbm, 160, rfl⟩
abbrev main_call5_v0 : Ref sig .tc := ⟨.hbm, 161, rfl⟩
abbrev main_call5_v1 : Ref sig .tc := ⟨.hbm, 162, rfl⟩
abbrev main_v87 : Ref sig .tc := ⟨.hbm, 163, rfl⟩
abbrev main_v88 : Ref sig .tc := ⟨.hbm, 164, rfl⟩
abbrev main_v89 : Ref sig .tc := ⟨.hbm, 165, rfl⟩
abbrev main_v90 : Ref sig .tc := ⟨.hbm, 166, rfl⟩
abbrev main_v91 : Ref sig .tc := ⟨.hbm, 167, rfl⟩
abbrev main_v92 : Ref sig .tc := ⟨.hbm, 168, rfl⟩
abbrev main_v93 : Ref sig .tc := ⟨.hbm, 169, rfl⟩
abbrev main_v96 : Ref sig .tc := ⟨.hbm, 170, rfl⟩
abbrev main_v94 : Ref sig .tc := ⟨.smem, 0, rfl⟩
abbrev main_v95 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![89], ![false]⟩

abbrev pre0 : Pipeline.Prefetch sig := ⟨2, ![main_v94.idx, main_v95.idx], fun | 0 => main_v94.names | 1 => main_v95.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 2 → Nat :=
  let c3 : Index := 3#32
  let arg0 : BitVec 32 := BitVec.ofNat 32 (i 0).val
  let v0 : Index := Scalar.indexCast arg0
  ![3, v0.toNat]
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off2 (v18 : BitVec 32) : Fin 3 → Nat :=
  let c0_i32_14 : BitVec 32 := 0#32
  let c0_i32_15 : BitVec 32 := 0#32
  ![v18.toNat, 0, 0]

def k0_off3 (v18 : BitVec 32) : Fin 3 → Nat :=
  let c0_i32_29 : BitVec 32 := 0#32
  let c0_i32_30 : BitVec 32 := 0#32
  ![v18.toNat, 0, 0]

def k0_chk1 (i : grid0.Coords) (v18 : BitVec 32) : Prop :=
  (∀ (k0_h1 : k0_cond1 i = 1#1), ∀ a, (k0_off2 v18) a + S1x1024x512.size a ≤ S32x1024x512.size a) ∧
  (∀ (k0_h1 : k0_cond1 i = 1#1), ∀ a, (k0_off3 v18) a + S1x512x1024.size a ≤ S32x512x1024.size a)
theorem k0_off2_inb : ∀ (i : grid0.Coords) (v18 : BitVec 32) (k0_hw1 : k0_chk1 i v18), ∀ (k0_h1 : k0_cond1 i = 1#1), ∀ a, (k0_off2 v18) a + S1x1024x512.size a ≤ S32x1024x512.size a := fun i v18 k0_hw1 k0_h1 => k0_hw1.1 k0_h1
theorem k0_off3_inb : ∀ (i : grid0.Coords) (v18 : BitVec 32) (k0_hw1 : k0_chk1 i v18), ∀ (k0_h1 : k0_cond1 i = 1#1), ∀ a, (k0_off3 v18) a + S1x512x1024.size a ≤ S32x512x1024.size a := fun i v18 k0_hw1 k0_h1 => k0_hw1.2 k0_h1

def k0_off4 (v19 : BitVec 32) : Fin 3 → Nat :=
  let c0_i32_36 : BitVec 32 := 0#32
  let c0_i32_37 : BitVec 32 := 0#32
  ![v19.toNat, 0, 0]

def k0_off5 (v19 : BitVec 32) : Fin 3 → Nat :=
  let c0_i32_50 : BitVec 32 := 0#32
  let c0_i32_51 : BitVec 32 := 0#32
  ![v19.toNat, 0, 0]

def k0_chk2 (i : grid0.Coords) (v19 : BitVec 32) : Prop :=
  (∀ (k0_h1 : k0_cond1 i = 1#1), ∀ a, (k0_off4 v19) a + S1x1024x512.size a ≤ S32x1024x512.size a) ∧
  (∀ (k0_h1 : k0_cond1 i = 1#1), ∀ a, (k0_off5 v19) a + S1x512x1024.size a ≤ S32x512x1024.size a)
theorem k0_off4_inb : ∀ (i : grid0.Coords) (v19 : BitVec 32) (k0_hw2 : k0_chk2 i v19), ∀ (k0_h1 : k0_cond1 i = 1#1), ∀ a, (k0_off4 v19) a + S1x1024x512.size a ≤ S32x1024x512.size a := fun i v19 k0_hw2 k0_h1 => k0_hw2.1 k0_h1
theorem k0_off5_inb : ∀ (i : grid0.Coords) (v19 : BitVec 32) (k0_hw2 : k0_chk2 i v19), ∀ (k0_h1 : k0_cond1 i = 1#1), ∀ a, (k0_off5 v19) a + S1x512x1024.size a ≤ S32x512x1024.size a := fun i v19 k0_hw2 k0_h1 => k0_hw2.2 k0_h1

def k0_off6 (i : grid0.Coords) : Fin 2 → Nat :=
  let c2 : Index := 2#32
  let arg0 : BitVec 32 := BitVec.ofNat 32 (i 0).val
  let v5 : Index := Scalar.indexCast arg0
  ![2, v5.toNat]
def k0_off7 (i : grid0.Coords) : Fin 2 → Nat :=
  let c0_5 : Index := 0#32
  let arg0 : BitVec 32 := BitVec.ofNat 32 (i 0).val
  let v18 : Index := Scalar.indexCast arg0
  ![0, v18.toNat]
def k0_off8 (i : grid0.Coords) : Fin 2 → Nat :=
  let c1 : Index := 1#32
  let arg0 : BitVec 32 := BitVec.ofNat 32 (i 0).val
  let v20 : Index := Scalar.indexCast arg0
  ![1, v20.toNat]
def k0_off9 (v1 : BitVec 32) : Fin 2 → Nat :=
  let c0_i32_7 : BitVec 32 := 0#32
  ![v1.toNat, 0]
def k0_cond2 (v6 : BitVec 32) : BitVec 1 :=
  let c1_i32 : BitVec 32 := 1#32
  let v7 : BitVec 1 := Scalar.cmpi .eq v6 c1_i32
  let v8 : BitVec 32 := Scalar.extui v7
  let c0_i32_1 : BitVec 32 := 0#32
  let v9 : BitVec 1 := Scalar.cmpi .ne v8 c0_i32_1
  v9

def k0_off10 (v1 : BitVec 32) : Fin 4 → Nat :=
  let c0_i32_6 : BitVec 32 := 0#32
  let c0_i32_8 : BitVec 32 := 0#32
  let c0_i32_9 : BitVec 32 := 0#32
  ![v1.toNat, 0, 0, 0]
def k0_off11 (v19 : BitVec 32) : Fin 3 → Nat :=
  let c0_i32_10 : BitVec 32 := 0#32
  let c0_i32_11 : BitVec 32 := 0#32
  ![v19.toNat, 0, 0]

def k0_off12 (v1 : BitVec 32) : Fin 2 → Nat :=
  let c1_i32_13 : BitVec 32 := 1#32
  ![v1.toNat, 1]
def k0_off13 (v1 : BitVec 32) : Fin 4 → Nat :=
  let c0_i32_12 : BitVec 32 := 0#32
  let c0_i32_14 : BitVec 32 := 0#32
  let c0_i32_15 : BitVec 32 := 0#32
  ![v1.toNat, 0, 0, 0]
def k0_off14 (v1 : BitVec 32) : Fin 2 → Nat :=
  let c2_i32 : BitVec 32 := 2#32
  ![v1.toNat, 2]
def k0_off15 (v1 : BitVec 32) : Fin 4 → Nat :=
  let c0_i32_18 : BitVec 32 := 0#32
  let c0_i32_19 : BitVec 32 := 0#32
  let c0_i32_20 : BitVec 32 := 0#32
  ![v1.toNat, 0, 0, 0]
def k0_off16 (v19 : BitVec 32) : Fin 3 → Nat :=
  let c0_i32_21 : BitVec 32 := 0#32
  let c0_i32_22 : BitVec 32 := 0#32
  ![v19.toNat, 0, 0]

def k0_chk4 (v6 : BitVec 32) (v19 : BitVec 32) : Prop :=
  (∀ (k0_h2 : k0_cond2 v6 = 1#1), ∀ a, (k0_off11 v19) a + S1x1024x512.size a ≤ S32x1024x512.size a) ∧
  (∀ (k0_h2 : k0_cond2 v6 = 1#1), ∀ a, (k0_off16 v19) a + S1x512x1024.size a ≤ S32x512x1024.size a)
theorem k0_off11_inb : ∀ (v6 : BitVec 32) (v19 : BitVec 32) (k0_hw4 : k0_chk4 v6 v19), ∀ (k0_h2 : k0_cond2 v6 = 1#1), ∀ a, (k0_off11 v19) a + S1x1024x512.size a ≤ S32x1024x512.size a := fun v6 v19 k0_hw4 k0_h2 => k0_hw4.1 k0_h2
theorem k0_off16_inb : ∀ (v6 : BitVec 32) (v19 : BitVec 32) (k0_hw4 : k0_chk4 v6 v19), ∀ (k0_h2 : k0_cond2 v6 = 1#1), ∀ a, (k0_off16 v19) a + S1x512x1024.size a ≤ S32x512x1024.size a := fun v6 v19 k0_hw4 k0_h2 => k0_hw4.2 k0_h2

def k0_off17 (v1 : BitVec 32) : Fin 2 → Nat :=
  let c3_i32 : BitVec 32 := 3#32
  ![v1.toNat, 3]
def k0_off18 (v1 : BitVec 32) : Fin 4 → Nat :=
  let c1_i32_23 : BitVec 32 := 1#32
  let c0_i32_24 : BitVec 32 := 0#32
  let c0_i32_25 : BitVec 32 := 0#32
  ![v1.toNat, 1, 0, 0]
def k0_off19 (v21 : BitVec 32) : Fin 3 → Nat :=
  let c0_i32_26 : BitVec 32 := 0#32
  let c0_i32_27 : BitVec 32 := 0#32
  ![v21.toNat, 0, 0]

def k0_off20 (v1 : BitVec 32) : Fin 2 → Nat :=
  let c4_i32 : BitVec 32 := 4#32
  ![v1.toNat, 4]
def k0_off21 (v1 : BitVec 32) : Fin 4 → Nat :=
  let c1_i32_28 : BitVec 32 := 1#32
  let c0_i32_29 : BitVec 32 := 0#32
  let c0_i32_30 : BitVec 32 := 0#32
  ![v1.toNat, 1, 0, 0]
def k0_off22 (v1 : BitVec 32) : Fin 2 → Nat :=
  let c5_i32 : BitVec 32 := 5#32
  ![v1.toNat, 5]
def k0_off23 (v1 : BitVec 32) : Fin 4 → Nat :=
  let c1_i32_33 : BitVec 32 := 1#32
  let c0_i32_34 : BitVec 32 := 0#32
  let c0_i32_35 : BitVec 32 := 0#32
  ![v1.toNat, 1, 0, 0]

def k0_chk3 (v1 : BitVec 32) (v6 : BitVec 32) : Prop :=
  (∀ (k0_h2 : k0_cond2 v6 = 1#1), ∀ a, (k0_off9 v1) a + S1x1.size a ≤ S2x6.size a) ∧
  (∀ (k0_h2 : k0_cond2 v6 = 1#1), ∀ a, (k0_off10 v1) a + S1x1x1024x512.size a ≤ S2x2x1024x512.size a) ∧
  (∀ (k0_h2 : k0_cond2 v6 = 1#1), ∀ a, (k0_off12 v1) a + S1x1.size a ≤ S2x6.size a) ∧
  (∀ (k0_h2 : k0_cond2 v6 = 1#1), ∀ a, (k0_off13 v1) a + S1x1x1024x512.size a ≤ S2x2x1024x512.size a) ∧
  (∀ (k0_h2 : k0_cond2 v6 = 1#1), ∀ a, (k0_off14 v1) a + S1x1.size a ≤ S2x6.size a) ∧
  (∀ (k0_h2 : k0_cond2 v6 = 1#1), ∀ a, (k0_off15 v1) a + S1x1x512x1024.size a ≤ S2x2x512x1024.size a) ∧
  (∀ (k0_h2 : k0_cond2 v6 = 1#1), ∀ a, (k0_off17 v1) a + S1x1.size a ≤ S2x6.size a) ∧
  (∀ (k0_h2 : k0_cond2 v6 = 1#1), ∀ a, (k0_off18 v1) a + S1x1x1024x512.size a ≤ S2x2x1024x512.size a) ∧
  (∀ (k0_h2 : k0_cond2 v6 = 1#1), ∀ a, (k0_off20 v1) a + S1x1.size a ≤ S2x6.size a) ∧
  (∀ (k0_h2 : k0_cond2 v6 = 1#1), ∀ a, (k0_off21 v1) a + S1x1x1024x512.size a ≤ S2x2x1024x512.size a) ∧
  (∀ (k0_h2 : k0_cond2 v6 = 1#1), ∀ a, (k0_off22 v1) a + S1x1.size a ≤ S2x6.size a) ∧
  (∀ (k0_h2 : k0_cond2 v6 = 1#1), ∀ a, (k0_off23 v1) a + S1x1x512x1024.size a ≤ S2x2x512x1024.size a)
theorem k0_off9_inb : ∀ (v1 : BitVec 32) (v6 : BitVec 32) (k0_hw3 : k0_chk3 v1 v6), ∀ (k0_h2 : k0_cond2 v6 = 1#1), ∀ a, (k0_off9 v1) a + S1x1.size a ≤ S2x6.size a := fun v1 v6 k0_hw3 k0_h2 => k0_hw3.1 k0_h2
theorem k0_off10_inb : ∀ (v1 : BitVec 32) (v6 : BitVec 32) (k0_hw3 : k0_chk3 v1 v6), ∀ (k0_h2 : k0_cond2 v6 = 1#1), ∀ a, (k0_off10 v1) a + S1x1x1024x512.size a ≤ S2x2x1024x512.size a := fun v1 v6 k0_hw3 k0_h2 => k0_hw3.2.1 k0_h2
theorem k0_off12_inb : ∀ (v1 : BitVec 32) (v6 : BitVec 32) (k0_hw3 : k0_chk3 v1 v6), ∀ (k0_h2 : k0_cond2 v6 = 1#1), ∀ a, (k0_off12 v1) a + S1x1.size a ≤ S2x6.size a := fun v1 v6 k0_hw3 k0_h2 => k0_hw3.2.2.1 k0_h2
theorem k0_off13_inb : ∀ (v1 : BitVec 32) (v6 : BitVec 32) (k0_hw3 : k0_chk3 v1 v6), ∀ (k0_h2 : k0_cond2 v6 = 1#1), ∀ a, (k0_off13 v1) a + S1x1x1024x512.size a ≤ S2x2x1024x512.size a := fun v1 v6 k0_hw3 k0_h2 => k0_hw3.2.2.2.1 k0_h2
theorem k0_off14_inb : ∀ (v1 : BitVec 32) (v6 : BitVec 32) (k0_hw3 : k0_chk3 v1 v6), ∀ (k0_h2 : k0_cond2 v6 = 1#1), ∀ a, (k0_off14 v1) a + S1x1.size a ≤ S2x6.size a := fun v1 v6 k0_hw3 k0_h2 => k0_hw3.2.2.2.2.1 k0_h2
theorem k0_off15_inb : ∀ (v1 : BitVec 32) (v6 : BitVec 32) (k0_hw3 : k0_chk3 v1 v6), ∀ (k0_h2 : k0_cond2 v6 = 1#1), ∀ a, (k0_off15 v1) a + S1x1x512x1024.size a ≤ S2x2x512x1024.size a := fun v1 v6 k0_hw3 k0_h2 => k0_hw3.2.2.2.2.2.1 k0_h2
theorem k0_off17_inb : ∀ (v1 : BitVec 32) (v6 : BitVec 32) (k0_hw3 : k0_chk3 v1 v6), ∀ (k0_h2 : k0_cond2 v6 = 1#1), ∀ a, (k0_off17 v1) a + S1x1.size a ≤ S2x6.size a := fun v1 v6 k0_hw3 k0_h2 => k0_hw3.2.2.2.2.2.2.1 k0_h2
theorem k0_off18_inb : ∀ (v1 : BitVec 32) (v6 : BitVec 32) (k0_hw3 : k0_chk3 v1 v6), ∀ (k0_h2 : k0_cond2 v6 = 1#1), ∀ a, (k0_off18 v1) a + S1x1x1024x512.size a ≤ S2x2x1024x512.size a := fun v1 v6 k0_hw3 k0_h2 => k0_hw3.2.2.2.2.2.2.2.1 k0_h2
theorem k0_off20_inb : ∀ (v1 : BitVec 32) (v6 : BitVec 32) (k0_hw3 : k0_chk3 v1 v6), ∀ (k0_h2 : k0_cond2 v6 = 1#1), ∀ a, (k0_off20 v1) a + S1x1.size a ≤ S2x6.size a := fun v1 v6 k0_hw3 k0_h2 => k0_hw3.2.2.2.2.2.2.2.2.1 k0_h2
theorem k0_off21_inb : ∀ (v1 : BitVec 32) (v6 : BitVec 32) (k0_hw3 : k0_chk3 v1 v6), ∀ (k0_h2 : k0_cond2 v6 = 1#1), ∀ a, (k0_off21 v1) a + S1x1x1024x512.size a ≤ S2x2x1024x512.size a := fun v1 v6 k0_hw3 k0_h2 => k0_hw3.2.2.2.2.2.2.2.2.2.1 k0_h2
theorem k0_off22_inb : ∀ (v1 : BitVec 32) (v6 : BitVec 32) (k0_hw3 : k0_chk3 v1 v6), ∀ (k0_h2 : k0_cond2 v6 = 1#1), ∀ a, (k0_off22 v1) a + S1x1.size a ≤ S2x6.size a := fun v1 v6 k0_hw3 k0_h2 => k0_hw3.2.2.2.2.2.2.2.2.2.2.1 k0_h2
theorem k0_off23_inb : ∀ (v1 : BitVec 32) (v6 : BitVec 32) (k0_hw3 : k0_chk3 v1 v6), ∀ (k0_h2 : k0_cond2 v6 = 1#1), ∀ a, (k0_off23 v1) a + S1x1x512x1024.size a ≤ S2x2x512x1024.size a := fun v1 v6 k0_hw3 k0_h2 => k0_hw3.2.2.2.2.2.2.2.2.2.2.2 k0_h2

def k0_off24 (v21 : BitVec 32) : Fin 3 → Nat :=
  let c0_i32_36 : BitVec 32 := 0#32
  let c0_i32_37 : BitVec 32 := 0#32
  ![v21.toNat, 0, 0]

def k0_chk5 (v6 : BitVec 32) (v21 : BitVec 32) : Prop :=
  (∀ (k0_h2 : k0_cond2 v6 = 1#1), ∀ a, (k0_off19 v21) a + S1x1024x512.size a ≤ S32x1024x512.size a) ∧
  (∀ (k0_h2 : k0_cond2 v6 = 1#1), ∀ a, (k0_off24 v21) a + S1x512x1024.size a ≤ S32x512x1024.size a)
theorem k0_off19_inb : ∀ (v6 : BitVec 32) (v21 : BitVec 32) (k0_hw5 : k0_chk5 v6 v21), ∀ (k0_h2 : k0_cond2 v6 = 1#1), ∀ a, (k0_off19 v21) a + S1x1024x512.size a ≤ S32x1024x512.size a := fun v6 v21 k0_hw5 k0_h2 => k0_hw5.1 k0_h2
theorem k0_off24_inb : ∀ (v6 : BitVec 32) (v21 : BitVec 32) (k0_hw5 : k0_chk5 v6 v21), ∀ (k0_h2 : k0_cond2 v6 = 1#1), ∀ a, (k0_off24 v21) a + S1x512x1024.size a ≤ S32x512x1024.size a := fun v6 v21 k0_hw5 k0_h2 => k0_hw5.2 k0_h2

def k0_off25 (i : grid0.Coords) : Fin 2 → Nat :=
  let c4 : Index := 4#32
  let arg0 : BitVec 32 := BitVec.ofNat 32 (i 0).val
  let v58 : Index := Scalar.indexCast arg0
  ![4, v58.toNat]
def k0_off26 (i : grid0.Coords) : Fin 2 → Nat :=
  let c4_40 : Index := 4#32
  let arg0 : BitVec 32 := BitVec.ofNat 32 (i 0).val
  let v63 : Index := Scalar.indexCast arg0
  ![4, v63.toNat]
def k0_off27 (i : grid0.Coords) : Fin 2 → Nat :=
  let c5 : Index := 5#32
  let arg0 : BitVec 32 := BitVec.ofNat 32 (i 0).val
  let v65 : Index := Scalar.indexCast arg0
  ![5, v65.toNat]
def k0_off28 (v1 : BitVec 32) : Fin 2 → Nat :=
  let c1_i32_41 : BitVec 32 := 1#32
  let v67 : BitVec 32 := Scalar.subi c1_i32_41 v1
  let c0_i32_43 : BitVec 32 := 0#32
  ![v67.toNat, 0]
def k0_cond3 (v59 : BitVec 32) : BitVec 1 :=
  let c0_i32_38 : BitVec 32 := 0#32
  let v60 : BitVec 1 := Scalar.cmpi .sge v59 c0_i32_38
  let v61 : BitVec 32 := Scalar.extui v60
  let c0_i32_39 : BitVec 32 := 0#32
  let v62 : BitVec 1 := Scalar.cmpi .ne v61 c0_i32_39
  v62

def k0_off29 (v1 : BitVec 32) : Fin 4 → Nat :=
  let c1_i32_41 : BitVec 32 := 1#32
  let v67 : BitVec 32 := Scalar.subi c1_i32_41 v1
  let c0_i32_42 : BitVec 32 := 0#32
  let c0_i32_44 : BitVec 32 := 0#32
  let c0_i32_45 : BitVec 32 := 0#32
  ![v67.toNat, 0, 0, 0]
def k0_off30 (v64 : BitVec 32) : Fin 3 → Nat :=
  let c0_i32_46 : BitVec 32 := 0#32
  let c0_i32_47 : BitVec 32 := 0#32
  ![v64.toNat, 0, 0]

def k0_off31 (v1 : BitVec 32) : Fin 2 → Nat :=
  let c1_i32_41 : BitVec 32 := 1#32
  let v67 : BitVec 32 := Scalar.subi c1_i32_41 v1
  let c1_i32_49 : BitVec 32 := 1#32
  ![v67.toNat, 1]
def k0_off32 (v1 : BitVec 32) : Fin 4 → Nat :=
  let c1_i32_41 : BitVec 32 := 1#32
  let v67 : BitVec 32 := Scalar.subi c1_i32_41 v1
  let c0_i32_48 : BitVec 32 := 0#32
  let c0_i32_50 : BitVec 32 := 0#32
  let c0_i32_51 : BitVec 32 := 0#32
  ![v67.toNat, 0, 0, 0]
def k0_off33 (v1 : BitVec 32) : Fin 2 → Nat :=
  let c1_i32_41 : BitVec 32 := 1#32
  let v67 : BitVec 32 := Scalar.subi c1_i32_41 v1
  let c2_i32_55 : BitVec 32 := 2#32
  ![v67.toNat, 2]
def k0_off34 (v1 : BitVec 32) : Fin 4 → Nat :=
  let c1_i32_41 : BitVec 32 := 1#32
  let v67 : BitVec 32 := Scalar.subi c1_i32_41 v1
  let c0_i32_54 : BitVec 32 := 0#32
  let c0_i32_56 : BitVec 32 := 0#32
  let c0_i32_57 : BitVec 32 := 0#32
  ![v67.toNat, 0, 0, 0]
def k0_off35 (v64 : BitVec 32) : Fin 3 → Nat :=
  let c0_i32_58 : BitVec 32 := 0#32
  let c0_i32_59 : BitVec 32 := 0#32
  ![v64.toNat, 0, 0]

def k0_chk7 (v6 : BitVec 32) (v59 : BitVec 32) (v64 : BitVec 32) : Prop :=
  (∀ (k0_h2 : k0_cond2 v6 = 1#1), ∀ (k0_h3 : k0_cond3 v59 = 1#1), ∀ a, (k0_off30 v64) a + S1x1024x512.size a ≤ S32x1024x512.size a) ∧
  (∀ (k0_h2 : k0_cond2 v6 = 1#1), ∀ (k0_h3 : k0_cond3 v59 = 1#1), ∀ a, (k0_off35 v64) a + S1x512x1024.size a ≤ S32x512x1024.size a)
theorem k0_off30_inb : ∀ (v6 : BitVec 32) (v59 : BitVec 32) (v64 : BitVec 32) (k0_hw7 : k0_chk7 v6 v59 v64), ∀ (k0_h2 : k0_cond2 v6 = 1#1), ∀ (k0_h3 : k0_cond3 v59 = 1#1), ∀ a, (k0_off30 v64) a + S1x1024x512.size a ≤ S32x1024x512.size a := fun v6 v59 v64 k0_hw7 k0_h2 k0_h3 => k0_hw7.1 k0_h2 k0_h3
theorem k0_off35_inb : ∀ (v6 : BitVec 32) (v59 : BitVec 32) (v64 : BitVec 32) (k0_hw7 : k0_chk7 v6 v59 v64), ∀ (k0_h2 : k0_cond2 v6 = 1#1), ∀ (k0_h3 : k0_cond3 v59 = 1#1), ∀ a, (k0_off35 v64) a + S1x512x1024.size a ≤ S32x512x1024.size a := fun v6 v59 v64 k0_hw7 k0_h2 k0_h3 => k0_hw7.2 k0_h2 k0_h3

def k0_off36 (v1 : BitVec 32) : Fin 2 → Nat :=
  let c1_i32_41 : BitVec 32 := 1#32
  let v67 : BitVec 32 := Scalar.subi c1_i32_41 v1
  let c3_i32_61 : BitVec 32 := 3#32
  ![v67.toNat, 3]
def k0_off37 (v1 : BitVec 32) : Fin 4 → Nat :=
  let c1_i32_41 : BitVec 32 := 1#32
  let v67 : BitVec 32 := Scalar.subi c1_i32_41 v1
  let c1_i32_60 : BitVec 32 := 1#32
  let c0_i32_62 : BitVec 32 := 0#32
  let c0_i32_63 : BitVec 32 := 0#32
  ![v67.toNat, 1, 0, 0]
def k0_off38 (v66 : BitVec 32) : Fin 3 → Nat :=
  let c0_i32_64 : BitVec 32 := 0#32
  let c0_i32_65 : BitVec 32 := 0#32
  ![v66.toNat, 0, 0]

def k0_off39 (v1 : BitVec 32) : Fin 2 → Nat :=
  let c1_i32_41 : BitVec 32 := 1#32
  let v67 : BitVec 32 := Scalar.subi c1_i32_41 v1
  let c4_i32_67 : BitVec 32 := 4#32
  ![v67.toNat, 4]
def k0_off40 (v1 : BitVec 32) : Fin 4 → Nat :=
  let c1_i32_41 : BitVec 32 := 1#32
  let v67 : BitVec 32 := Scalar.subi c1_i32_41 v1
  let c1_i32_66 : BitVec 32 := 1#32
  let c0_i32_68 : BitVec 32 := 0#32
  let c0_i32_69 : BitVec 32 := 0#32
  ![v67.toNat, 1, 0, 0]
def k0_off41 (v1 : BitVec 32) : Fin 2 → Nat :=
  let c1_i32_41 : BitVec 32 := 1#32
  let v67 : BitVec 32 := Scalar.subi c1_i32_41 v1
  let c5_i32_73 : BitVec 32 := 5#32
  ![v67.toNat, 5]
def k0_off42 (v1 : BitVec 32) : Fin 4 → Nat :=
  let c1_i32_41 : BitVec 32 := 1#32
  let v67 : BitVec 32 := Scalar.subi c1_i32_41 v1
  let c1_i32_72 : BitVec 32 := 1#32
  let c0_i32_74 : BitVec 32 := 0#32
  let c0_i32_75 : BitVec 32 := 0#32
  ![v67.toNat, 1, 0, 0]

def k0_chk6 (v1 : BitVec 32) (v6 : BitVec 32) (v59 : BitVec 32) : Prop :=
  (∀ (k0_h2 : k0_cond2 v6 = 1#1), ∀ (k0_h3 : k0_cond3 v59 = 1#1), ∀ a, (k0_off28 v1) a + S1x1.size a ≤ S2x6.size a) ∧
  (∀ (k0_h2 : k0_cond2 v6 = 1#1), ∀ (k0_h3 : k0_cond3 v59 = 1#1), ∀ a, (k0_off29 v1) a + S1x1x1024x512.size a ≤ S2x2x1024x512.size a) ∧
  (∀ (k0_h2 : k0_cond2 v6 = 1#1), ∀ (k0_h3 : k0_cond3 v59 = 1#1), ∀ a, (k0_off31 v1) a + S1x1.size a ≤ S2x6.size a) ∧
  (∀ (k0_h2 : k0_cond2 v6 = 1#1), ∀ (k0_h3 : k0_cond3 v59 = 1#1), ∀ a, (k0_off32 v1) a + S1x1x1024x512.size a ≤ S2x2x1024x512.size a) ∧
  (∀ (k0_h2 : k0_cond2 v6 = 1#1), ∀ (k0_h3 : k0_cond3 v59 = 1#1), ∀ a, (k0_off33 v1) a + S1x1.size a ≤ S2x6.size a) ∧
  (∀ (k0_h2 : k0_cond2 v6 = 1#1), ∀ (k0_h3 : k0_cond3 v59 = 1#1), ∀ a, (k0_off34 v1) a + S1x1x512x1024.size a ≤ S2x2x512x1024.size a) ∧
  (∀ (k0_h2 : k0_cond2 v6 = 1#1), ∀ (k0_h3 : k0_cond3 v59 = 1#1), ∀ a, (k0_off36 v1) a + S1x1.size a ≤ S2x6.size a) ∧
  (∀ (k0_h2 : k0_cond2 v6 = 1#1), ∀ (k0_h3 : k0_cond3 v59 = 1#1), ∀ a, (k0_off37 v1) a + S1x1x1024x512.size a ≤ S2x2x1024x512.size a) ∧
  (∀ (k0_h2 : k0_cond2 v6 = 1#1), ∀ (k0_h3 : k0_cond3 v59 = 1#1), ∀ a, (k0_off39 v1) a + S1x1.size a ≤ S2x6.size a) ∧
  (∀ (k0_h2 : k0_cond2 v6 = 1#1), ∀ (k0_h3 : k0_cond3 v59 = 1#1), ∀ a, (k0_off40 v1) a + S1x1x1024x512.size a ≤ S2x2x1024x512.size a) ∧
  (∀ (k0_h2 : k0_cond2 v6 = 1#1), ∀ (k0_h3 : k0_cond3 v59 = 1#1), ∀ a, (k0_off41 v1) a + S1x1.size a ≤ S2x6.size a) ∧
  (∀ (k0_h2 : k0_cond2 v6 = 1#1), ∀ (k0_h3 : k0_cond3 v59 = 1#1), ∀ a, (k0_off42 v1) a + S1x1x512x1024.size a ≤ S2x2x512x1024.size a)
theorem k0_off28_inb : ∀ (v1 : BitVec 32) (v6 : BitVec 32) (v59 : BitVec 32) (k0_hw6 : k0_chk6 v1 v6 v59), ∀ (k0_h2 : k0_cond2 v6 = 1#1), ∀ (k0_h3 : k0_cond3 v59 = 1#1), ∀ a, (k0_off28 v1) a + S1x1.size a ≤ S2x6.size a := fun v1 v6 v59 k0_hw6 k0_h2 k0_h3 => k0_hw6.1 k0_h2 k0_h3
theorem k0_off29_inb : ∀ (v1 : BitVec 32) (v6 : BitVec 32) (v59 : BitVec 32) (k0_hw6 : k0_chk6 v1 v6 v59), ∀ (k0_h2 : k0_cond2 v6 = 1#1), ∀ (k0_h3 : k0_cond3 v59 = 1#1), ∀ a, (k0_off29 v1) a + S1x1x1024x512.size a ≤ S2x2x1024x512.size a := fun v1 v6 v59 k0_hw6 k0_h2 k0_h3 => k0_hw6.2.1 k0_h2 k0_h3
theorem k0_off31_inb : ∀ (v1 : BitVec 32) (v6 : BitVec 32) (v59 : BitVec 32) (k0_hw6 : k0_chk6 v1 v6 v59), ∀ (k0_h2 : k0_cond2 v6 = 1#1), ∀ (k0_h3 : k0_cond3 v59 = 1#1), ∀ a, (k0_off31 v1) a + S1x1.size a ≤ S2x6.size a := fun v1 v6 v59 k0_hw6 k0_h2 k0_h3 => k0_hw6.2.2.1 k0_h2 k0_h3
theorem k0_off32_inb : ∀ (v1 : BitVec 32) (v6 : BitVec 32) (v59 : BitVec 32) (k0_hw6 : k0_chk6 v1 v6 v59), ∀ (k0_h2 : k0_cond2 v6 = 1#1), ∀ (k0_h3 : k0_cond3 v59 = 1#1), ∀ a, (k0_off32 v1) a + S1x1x1024x512.size a ≤ S2x2x1024x512.size a := fun v1 v6 v59 k0_hw6 k0_h2 k0_h3 => k0_hw6.2.2.2.1 k0_h2 k0_h3
theorem k0_off33_inb : ∀ (v1 : BitVec 32) (v6 : BitVec 32) (v59 : BitVec 32) (k0_hw6 : k0_chk6 v1 v6 v59), ∀ (k0_h2 : k0_cond2 v6 = 1#1), ∀ (k0_h3 : k0_cond3 v59 = 1#1), ∀ a, (k0_off33 v1) a + S1x1.size a ≤ S2x6.size a := fun v1 v6 v59 k0_hw6 k0_h2 k0_h3 => k0_hw6.2.2.2.2.1 k0_h2 k0_h3
theorem k0_off34_inb : ∀ (v1 : BitVec 32) (v6 : BitVec 32) (v59 : BitVec 32) (k0_hw6 : k0_chk6 v1 v6 v59), ∀ (k0_h2 : k0_cond2 v6 = 1#1), ∀ (k0_h3 : k0_cond3 v59 = 1#1), ∀ a, (k0_off34 v1) a + S1x1x512x1024.size a ≤ S2x2x512x1024.size a := fun v1 v6 v59 k0_hw6 k0_h2 k0_h3 => k0_hw6.2.2.2.2.2.1 k0_h2 k0_h3
theorem k0_off36_inb : ∀ (v1 : BitVec 32) (v6 : BitVec 32) (v59 : BitVec 32) (k0_hw6 : k0_chk6 v1 v6 v59), ∀ (k0_h2 : k0_cond2 v6 = 1#1), ∀ (k0_h3 : k0_cond3 v59 = 1#1), ∀ a, (k0_off36 v1) a + S1x1.size a ≤ S2x6.size a := fun v1 v6 v59 k0_hw6 k0_h2 k0_h3 => k0_hw6.2.2.2.2.2.2.1 k0_h2 k0_h3
theorem k0_off37_inb : ∀ (v1 : BitVec 32) (v6 : BitVec 32) (v59 : BitVec 32) (k0_hw6 : k0_chk6 v1 v6 v59), ∀ (k0_h2 : k0_cond2 v6 = 1#1), ∀ (k0_h3 : k0_cond3 v59 = 1#1), ∀ a, (k0_off37 v1) a + S1x1x1024x512.size a ≤ S2x2x1024x512.size a := fun v1 v6 v59 k0_hw6 k0_h2 k0_h3 => k0_hw6.2.2.2.2.2.2.2.1 k0_h2 k0_h3
theorem k0_off39_inb : ∀ (v1 : BitVec 32) (v6 : BitVec 32) (v59 : BitVec 32) (k0_hw6 : k0_chk6 v1 v6 v59), ∀ (k0_h2 : k0_cond2 v6 = 1#1), ∀ (k0_h3 : k0_cond3 v59 = 1#1), ∀ a, (k0_off39 v1) a + S1x1.size a ≤ S2x6.size a := fun v1 v6 v59 k0_hw6 k0_h2 k0_h3 => k0_hw6.2.2.2.2.2.2.2.2.1 k0_h2 k0_h3
theorem k0_off40_inb : ∀ (v1 : BitVec 32) (v6 : BitVec 32) (v59 : BitVec 32) (k0_hw6 : k0_chk6 v1 v6 v59), ∀ (k0_h2 : k0_cond2 v6 = 1#1), ∀ (k0_h3 : k0_cond3 v59 = 1#1), ∀ a, (k0_off40 v1) a + S1x1x1024x512.size a ≤ S2x2x1024x512.size a := fun v1 v6 v59 k0_hw6 k0_h2 k0_h3 => k0_hw6.2.2.2.2.2.2.2.2.2.1 k0_h2 k0_h3
theorem k0_off41_inb : ∀ (v1 : BitVec 32) (v6 : BitVec 32) (v59 : BitVec 32) (k0_hw6 : k0_chk6 v1 v6 v59), ∀ (k0_h2 : k0_cond2 v6 = 1#1), ∀ (k0_h3 : k0_cond3 v59 = 1#1), ∀ a, (k0_off41 v1) a + S1x1.size a ≤ S2x6.size a := fun v1 v6 v59 k0_hw6 k0_h2 k0_h3 => k0_hw6.2.2.2.2.2.2.2.2.2.2.1 k0_h2 k0_h3
theorem k0_off42_inb : ∀ (v1 : BitVec 32) (v6 : BitVec 32) (v59 : BitVec 32) (k0_hw6 : k0_chk6 v1 v6 v59), ∀ (k0_h2 : k0_cond2 v6 = 1#1), ∀ (k0_h3 : k0_cond3 v59 = 1#1), ∀ a, (k0_off42 v1) a + S1x1x512x1024.size a ≤ S2x2x512x1024.size a := fun v1 v6 v59 k0_hw6 k0_h2 k0_h3 => k0_hw6.2.2.2.2.2.2.2.2.2.2.2 k0_h2 k0_h3

def k0_off43 (v66 : BitVec 32) : Fin 3 → Nat :=
  let c0_i32_76 : BitVec 32 := 0#32
  let c0_i32_77 : BitVec 32 := 0#32
  ![v66.toNat, 0, 0]

def k0_chk8 (v6 : BitVec 32) (v59 : BitVec 32) (v66 : BitVec 32) : Prop :=
  (∀ (k0_h2 : k0_cond2 v6 = 1#1), ∀ (k0_h3 : k0_cond3 v59 = 1#1), ∀ a, (k0_off38 v66) a + S1x1024x512.size a ≤ S32x1024x512.size a) ∧
  (∀ (k0_h2 : k0_cond2 v6 = 1#1), ∀ (k0_h3 : k0_cond3 v59 = 1#1), ∀ a, (k0_off43 v66) a + S1x512x1024.size a ≤ S32x512x1024.size a)
theorem k0_off38_inb : ∀ (v6 : BitVec 32) (v59 : BitVec 32) (v66 : BitVec 32) (k0_hw8 : k0_chk8 v6 v59 v66), ∀ (k0_h2 : k0_cond2 v6 = 1#1), ∀ (k0_h3 : k0_cond3 v59 = 1#1), ∀ a, (k0_off38 v66) a + S1x1024x512.size a ≤ S32x1024x512.size a := fun v6 v59 v66 k0_hw8 k0_h2 k0_h3 => k0_hw8.1 k0_h2 k0_h3
theorem k0_off43_inb : ∀ (v6 : BitVec 32) (v59 : BitVec 32) (v66 : BitVec 32) (k0_hw8 : k0_chk8 v6 v59 v66), ∀ (k0_h2 : k0_cond2 v6 = 1#1), ∀ (k0_h3 : k0_cond3 v59 = 1#1), ∀ a, (k0_off43 v66) a + S1x512x1024.size a ≤ S32x512x1024.size a := fun v6 v59 v66 k0_hw8 k0_h2 k0_h3 => k0_hw8.2 k0_h2 k0_h3

def k0_off44 (v1 : BitVec 32) : Fin 4 → Nat :=
  let v22 : Index := Scalar.indexCast v1
  let c0_9 : Index := 0#32
  let c0_10 : Index := 0#32
  let c0_11 : Index := 0#32
  ![v22.toNat, 0, 0, 0]
def k0_cond4 (i : grid0.Coords) (v10 : BitVec 32) : BitVec 1 :=
  let arg0 : BitVec 32 := BitVec.ofNat 32 (i 0).val
  let v11 : BitVec 1 := Scalar.cmpi .slt arg0 v10
  let v12 : BitVec 32 := Scalar.extui v11
  let c0_i32_2 : BitVec 32 := 0#32
  let v13 : BitVec 1 := Scalar.cmpi .ne v12 c0_i32_2
  v13

def k0_off45 (v1 : BitVec 32) : Fin 4 → Nat :=
  let v36 : Index := Scalar.indexCast v1
  let c0_16 : Index := 0#32
  let c0_17 : Index := 0#32
  let c0_18 : Index := 0#32
  ![v36.toNat, 0, 0, 0]
def k0_off46 (v1 : BitVec 32) : Fin 4 → Nat :=
  let v43 : Index := Scalar.indexCast v1
  let c1 : Index := 1#32
  let c0_20 : Index := 0#32
  let c0_21 : Index := 0#32
  ![v43.toNat, 1, 0, 0]
def k0_off47 (v1 : BitVec 32) : Fin 4 → Nat :=
  let v57 : Index := Scalar.indexCast v1
  let c1_27 : Index := 1#32
  let c0_28 : Index := 0#32
  let c0_29 : Index := 0#32
  ![v57.toNat, 1, 0, 0]

def k0_chk9 (i : grid0.Coords) (v1 : BitVec 32) (v10 : BitVec 32) : Prop :=
  (∀ (k0_h4 : k0_cond4 i v10 = 1#1), ∀ a, (k0_off44 v1) a + S1x1x1024x512.size a ≤ S2x2x1024x512.size a) ∧
  (∀ (k0_h4 : k0_cond4 i v10 = 1#1), ∀ a, (k0_off45 v1) a + S1x1x512x1024.size a ≤ S2x2x512x1024.size a) ∧
  (∀ (k0_h4 : k0_cond4 i v10 = 1#1), ∀ a, (k0_off46 v1) a + S1x1x1024x512.size a ≤ S2x2x1024x512.size a) ∧
  (∀ (k0_h4 : k0_cond4 i v10 = 1#1), ∀ a, (k0_off47 v1) a + S1x1x512x1024.size a ≤ S2x2x512x1024.size a)
theorem k0_off44_inb : ∀ (i : grid0.Coords) (v1 : BitVec 32) (v10 : BitVec 32) (k0_hw9 : k0_chk9 i v1 v10), ∀ (k0_h4 : k0_cond4 i v10 = 1#1), ∀ a, (k0_off44 v1) a + S1x1x1024x512.size a ≤ S2x2x1024x512.size a := fun i v1 v10 k0_hw9 k0_h4 => k0_hw9.1 k0_h4
theorem k0_off45_inb : ∀ (i : grid0.Coords) (v1 : BitVec 32) (v10 : BitVec 32) (k0_hw9 : k0_chk9 i v1 v10), ∀ (k0_h4 : k0_cond4 i v10 = 1#1), ∀ a, (k0_off45 v1) a + S1x1x512x1024.size a ≤ S2x2x512x1024.size a := fun i v1 v10 k0_hw9 k0_h4 => k0_hw9.2.1 k0_h4
theorem k0_off46_inb : ∀ (i : grid0.Coords) (v1 : BitVec 32) (v10 : BitVec 32) (k0_hw9 : k0_chk9 i v1 v10), ∀ (k0_h4 : k0_cond4 i v10 = 1#1), ∀ a, (k0_off46 v1) a + S1x1x1024x512.size a ≤ S2x2x1024x512.size a := fun i v1 v10 k0_hw9 k0_h4 => k0_hw9.2.2.1 k0_h4
theorem k0_off47_inb : ∀ (i : grid0.Coords) (v1 : BitVec 32) (v10 : BitVec 32) (k0_hw9 : k0_chk9 i v1 v10), ∀ (k0_h4 : k0_cond4 i v10 = 1#1), ∀ a, (k0_off47 v1) a + S1x1x512x1024.size a ≤ S2x2x512x1024.size a := fun i v1 v10 k0_hw9 k0_h4 => k0_hw9.2.2.2 k0_h4

def k0_cond5 (i : grid0.Coords) (v14 : BitVec 32) : BitVec 1 :=
  let arg0 : BitVec 32 := BitVec.ofNat 32 (i 0).val
  let v15 : BitVec 1 := Scalar.cmpi .sge arg0 v14
  let v16 : BitVec 32 := Scalar.extui v15
  let c0_i32_4 : BitVec 32 := 0#32
  let v17 : BitVec 1 := Scalar.cmpi .ne v16 c0_i32_4
  v17

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S64 : Shape := ⟨1, ![64]⟩
abbrev S22784x1152 : Shape := ⟨2, ![22784, 1152]⟩
abbrev S2x16x1024x512 : Shape := ⟨4, ![2, 16, 1024, 512]⟩
abbrev S2x16x512x1024 : Shape := ⟨4, ![2, 16, 512, 1024]⟩
abbrev S64x2 : Shape := ⟨2, ![64, 2]⟩
abbrev S22784x1024 : Shape := ⟨2, ![22784, 1024]⟩
abbrev S22784x2 : Shape := ⟨2, ![22784, 2]⟩
abbrev S_ : Shape := ⟨0, ![]⟩
abbrev S1x64 : Shape := ⟨2, ![1, 64]⟩
abbrev S22784 : Shape := ⟨1, ![22784]⟩
abbrev S22784x1 : Shape := ⟨2, ![22784, 1]⟩
abbrev S22784x64 : Shape := ⟨2, ![22784, 64]⟩
abbrev S22784x2x1 : Shape := ⟨3, ![22784, 2, 1]⟩
abbrev S1x1x16 : Shape := ⟨3, ![1, 1, 16]⟩
abbrev S22784x2x16 : Shape := ⟨3, ![22784, 2, 16]⟩
abbrev S22784x16 : Shape := ⟨2, ![22784, 16]⟩
abbrev S1x16x1024x512 : Shape := ⟨4, ![1, 16, 1024, 512]⟩
abbrev S16x1024x512 : Shape := ⟨3, ![16, 1024, 512]⟩
abbrev S1x16x512x1024 : Shape := ⟨4, ![1, 16, 512, 1024]⟩
abbrev S16x512x1024 : Shape := ⟨3, ![16, 512, 1024]⟩
abbrev S16x512x22784 : Shape := ⟨3, ![16, 512, 22784]⟩
abbrev S16x22784x512 : Shape := ⟨3, ![16, 22784, 512]⟩
abbrev S16x22784x1024 : Shape := ⟨3, ![16, 22784, 1024]⟩

abbrev nBuf : Space → Nat
  | .hbm => 98
  | .vmem => 0
  | .smem => 0
  | _ => 0

abbrev bufTy : (tb : Table) → Fin (tcTables nBuf tb) → BufTy
  | .hbm, ⟨0, _⟩ => ⟨S64, .i32⟩
  | .hbm, ⟨1, _⟩ => ⟨S22784x1152, .f32⟩
  | .hbm, ⟨2, _⟩ => ⟨S2x16x1024x512, .f32⟩
  | .hbm, ⟨3, _⟩ => ⟨S2x16x1024x512, .f32⟩
  | .hbm, ⟨4, _⟩ => ⟨S2x16x512x1024, .f32⟩
  | .hbm, ⟨5, _⟩ => ⟨S64x2, .i32⟩
  | .hbm, ⟨6, _⟩ => ⟨S22784x1024, .f32⟩
  | .hbm, ⟨7, _⟩ => ⟨S22784x2, .f32⟩
  | .hbm, ⟨8, _⟩ => ⟨S_, .i32⟩
  | .hbm, ⟨9, _⟩ => ⟨S64, .i32⟩
  | .hbm, ⟨10, _⟩ => ⟨S64, .i32⟩
  | .hbm, ⟨11, _⟩ => ⟨S_, .i32⟩
  | .hbm, ⟨12, _⟩ => ⟨S_, .i32⟩
  | .hbm, ⟨13, _⟩ => ⟨S64, .i32⟩
  | .hbm, ⟨14, _⟩ => ⟨S64, .i32⟩
  | .hbm, ⟨15, _⟩ => ⟨S64, .i32⟩
  | .hbm, ⟨16, _⟩ => ⟨S_, .i32⟩
  | .hbm, ⟨17, _⟩ => ⟨S64, .i32⟩
  | .hbm, ⟨18, _⟩ => ⟨S64, .i1⟩
  | .hbm, ⟨19, _⟩ => ⟨S64, .i32⟩
  | .hbm, ⟨20, _⟩ => ⟨S64, .i32⟩
  | .hbm, ⟨21, _⟩ => ⟨S_, .i32⟩
  | .hbm, ⟨22, _⟩ => ⟨S64, .i32⟩
  | .hbm, ⟨23, _⟩ => ⟨S64, .i1⟩
  | .hbm, ⟨24, _⟩ => ⟨S64, .i1⟩
  | .hbm, ⟨25, _⟩ => ⟨S_, .i32⟩
  | .hbm, ⟨26, _⟩ => ⟨S64, .i32⟩
  | .hbm, ⟨27, _⟩ => ⟨S64, .i32⟩
  | .hbm, ⟨28, _⟩ => ⟨S64, .i32⟩
  | .hbm, ⟨29, _⟩ => ⟨S_, .i32⟩
  | .hbm, ⟨30, _⟩ => ⟨S64, .i32⟩
  | .hbm, ⟨31, _⟩ => ⟨S64, .i32⟩
  | .hbm, ⟨32, _⟩ => ⟨S_, .i32⟩
  | .hbm, ⟨33, _⟩ => ⟨S_, .i32⟩
  | .hbm, ⟨34, _⟩ => ⟨S64, .i32⟩
  | .hbm, ⟨35, _⟩ => ⟨S1x64, .i32⟩
  | .hbm, ⟨36, _⟩ => ⟨S22784, .i32⟩
  | .hbm, ⟨37, _⟩ => ⟨S22784x1, .i32⟩
  | .hbm, ⟨38, _⟩ => ⟨S22784x64, .i32⟩
  | .hbm, ⟨39, _⟩ => ⟨S22784x64, .i32⟩
  | .hbm, ⟨40, _⟩ => ⟨S22784x64, .i1⟩
  | .hbm, ⟨41, _⟩ => ⟨S22784x64, .i32⟩
  | .hbm, ⟨42, _⟩ => ⟨S_, .i32⟩
  | .hbm, ⟨43, _⟩ => ⟨S22784, .i32⟩
  | .hbm, ⟨44, _⟩ => ⟨S_, .i32⟩
  | .hbm, ⟨45, _⟩ => ⟨S22784, .i32⟩
  | .hbm, ⟨46, _⟩ => ⟨S22784, .i32⟩
  | .hbm, ⟨47, _⟩ => ⟨S_, .i32⟩
  | .hbm, ⟨48, _⟩ => ⟨S22784, .i32⟩
  | .hbm, ⟨49, _⟩ => ⟨S22784, .i1⟩
  | .hbm, ⟨50, _⟩ => ⟨S_, .i32⟩
  | .hbm, ⟨51, _⟩ => ⟨S22784, .i32⟩
  | .hbm, ⟨52, _⟩ => ⟨S22784, .i32⟩
  | .hbm, ⟨53, _⟩ => ⟨S22784, .i32⟩
  | .hbm, ⟨54, _⟩ => ⟨S22784x1, .i32⟩
  | .hbm, ⟨55, _⟩ => ⟨S22784x2, .i32⟩
  | .hbm, ⟨56, _⟩ => ⟨S_, .i32⟩
  | .hbm, ⟨57, _⟩ => ⟨S22784, .i32⟩
  | .hbm, ⟨58, _⟩ => ⟨S22784, .i1⟩
  | .hbm, ⟨59, _⟩ => ⟨S22784x2x1, .i32⟩
  | .hbm, ⟨60, _⟩ => ⟨S1x1x16, .i32⟩
  | .hbm, ⟨61, _⟩ => ⟨S22784x2x16, .i32⟩
  | .hbm, ⟨62, _⟩ => ⟨S22784x2x16, .i32⟩
  | .hbm, ⟨63, _⟩ => ⟨S22784x2x16, .i1⟩
  | .hbm, ⟨64, _⟩ => ⟨S22784x2x16, .f32⟩
  | .hbm, ⟨65, _⟩ => ⟨S22784x2x1, .f32⟩
  | .hbm, ⟨66, _⟩ => ⟨S22784x2x16, .f32⟩
  | .hbm, ⟨67, _⟩ => ⟨S22784x2x16, .f32⟩
  | .hbm, ⟨68, _⟩ => ⟨S_, .f32⟩
  | .hbm, ⟨69, _⟩ => ⟨S22784x16, .f32⟩
  | .hbm, ⟨70, _⟩ => ⟨S22784x1, .i1⟩
  | .hbm, ⟨71, _⟩ => ⟨S_, .f32⟩
  | .hbm, ⟨72, _⟩ => ⟨S_, .f32⟩
  | .hbm, ⟨73, _⟩ => ⟨S22784x16, .i1⟩
  | .hbm, ⟨74, _⟩ => ⟨S22784x16, .f32⟩
  | .hbm, ⟨75, _⟩ => ⟨S22784x16, .f32⟩
  | .hbm, ⟨76, _⟩ => ⟨S1x16x1024x512, .f32⟩
  | .hbm, ⟨77, _⟩ => ⟨S16x1024x512, .f32⟩
  | .hbm, ⟨78, _⟩ => ⟨S1x16x1024x512, .f32⟩
  | .hbm, ⟨79, _⟩ => ⟨S16x1024x512, .f32⟩
  | .hbm, ⟨80, _⟩ => ⟨S1x16x512x1024, .f32⟩
  | .hbm, ⟨81, _⟩ => ⟨S16x512x1024, .f32⟩
  | .hbm, ⟨82, _⟩ => ⟨S16x512x22784, .f32⟩
  | .hbm, ⟨83, _⟩ => ⟨S16x22784x512, .f32⟩
  | .hbm, ⟨84, _⟩ => ⟨S16x22784x512, .f32⟩
  | .hbm, ⟨85, _⟩ => ⟨S16x22784x512, .f32⟩
  | .hbm, ⟨86, _⟩ => ⟨S_, .f32⟩
  | .hbm, ⟨87, _⟩ => ⟨S16x22784x512, .f32⟩
  | .hbm, ⟨88, _⟩ => ⟨S16x22784x512, .f32⟩
  | .hbm, ⟨89, _⟩ => ⟨S_, .f32⟩
  | .hbm, ⟨90, _⟩ => ⟨S16x22784x512, .f32⟩
  | .hbm, ⟨91, _⟩ => ⟨S16x22784x512, .f32⟩
  | .hbm, ⟨92, _⟩ => ⟨S16x22784x512, .f32⟩
  | .hbm, ⟨93, _⟩ => ⟨S16x512x22784, .f32⟩
  | .hbm, ⟨94, _⟩ => ⟨S16x22784x512, .f32⟩
  | .hbm, ⟨95, _⟩ => ⟨S16x22784x512, .f32⟩
  | .hbm, ⟨96, _⟩ => ⟨S16x22784x1024, .f32⟩
  | .hbm, ⟨97, _⟩ => ⟨S22784x1024, .f32⟩
  | _, _ => ⟨S64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_c_2 : Ref sig .tc := ⟨.hbm, 29, rfl⟩
abbrev main_v5 : Ref sig .tc := ⟨.hbm, 30, rfl⟩
abbrev main_v6 : Ref sig .tc := ⟨.hbm, 31, rfl⟩
abbrev main_call1_call0_c : Ref sig .tc := ⟨.hbm, 32, rfl⟩
abbrev main_call1_call0_v0 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_c_3 : Ref sig .tc := ⟨.hbm, 42, rfl⟩
abbrev main_v15 : Ref sig .tc := ⟨.hbm, 43, rfl⟩
abbrev main_c_4 : Ref sig .tc := ⟨.hbm, 44, rfl⟩
abbrev main_v16 : Ref sig .tc := ⟨.hbm, 45, rfl⟩
abbrev main_v17 : Ref sig .tc := ⟨.hbm, 46, rfl⟩
abbrev main_c_5 : Ref sig .tc := ⟨.hbm, 47, rfl⟩
abbrev main_v18 : Ref sig .tc := ⟨.hbm, 48, rfl⟩
abbrev main_v19 : Ref sig .tc := ⟨.hbm, 49, rfl⟩
abbrev main_c_6 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_c_7 : Ref sig .tc := ⟨.hbm, 56, rfl⟩
abbrev main_v25 : Ref sig .tc := ⟨.hbm, 57, rfl⟩
abbrev main_v26 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_cst : Ref sig .tc := ⟨.hbm, 68, rfl⟩
abbrev main_v31 : Ref sig .tc := ⟨.hbm, 69, rfl⟩
abbrev main_v32 : Ref sig .tc := ⟨.hbm, 70, rfl⟩
abbrev main_cst_8 : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_call4_v0 : Ref sig .tc := ⟨.hbm, 84, rfl⟩
abbrev main_call4_v1 : Ref sig .tc := ⟨.hbm, 85, rfl⟩
abbrev main_call4_cst : Ref sig .tc := ⟨.hbm, 86, rfl⟩
abbrev main_call4_v2 : Ref sig .tc := ⟨.hbm, 87, rfl⟩
abbrev main_call4_v3 : Ref sig .tc := ⟨.hbm, 88, rfl⟩
abbrev main_call4_cst_0 : Ref sig .tc := ⟨.hbm, 89, rfl⟩
abbrev main_call4_v4 : Ref sig .tc := ⟨.hbm, 90, rfl⟩
abbrev main_call4_v5 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩

abbrev nD : Nat := 1
abbrev τ : Topo := Topo.v7x

variable {F : FTy → Type} [FloatOps F]
-- ==== Kernel2.lean ====
abbrev S2x4 : Shape := ⟨2, ![2, 4]⟩
abbrev S16640x1024 : Shape := ⟨2, ![16640, 1024]⟩
abbrev S16640x2048 : Shape := ⟨2, ![16640, 2048]⟩
abbrev S256x1024 : Shape := ⟨2, ![256, 1024]⟩
abbrev S256x2048 : Shape := ⟨2, ![256, 2048]⟩
abbrev S8x256x512 : Shape := ⟨3, ![8, 256, 512]⟩
abbrev S8x256x256 : Shape := ⟨3, ![8, 256, 256]⟩
abbrev S8x8x512 : Shape := ⟨3, ![8, 8, 512]⟩
abbrev S256x256 : Shape := ⟨2, ![256, 256]⟩
abbrev S1x1 : Shape := ⟨2, ![1, 1]⟩
abbrev S1x256x256 : Shape := ⟨3, ![1, 256, 256]⟩
abbrev S8x128 : Shape := ⟨2, ![8, 128]⟩
abbrev S1x8x128 : Shape := ⟨3, ![1, 8, 128]⟩
abbrev S256x512 : Shape := ⟨2, ![256, 512]⟩
abbrev S1x256x512 : Shape := ⟨3, ![1, 256, 512]⟩
abbrev S1x1x512 : Shape := ⟨3, ![1, 1, 512]⟩
abbrev S1x512 : Shape := ⟨2, ![1, 512]⟩

abbrev nBuf : Space → Nat
  | .hbm => 6
  | .vmem => 21
  | .smem => 1
  | _ => 0

abbrev bufTy : (tb : Table) → Fin (tcTables nBuf tb) → BufTy
  | .hbm, ⟨0, _⟩ => ⟨S2x4, .f32⟩
  | .hbm, ⟨1, _⟩ => ⟨S16640x1024, .bf16⟩
  | .hbm, ⟨2, _⟩ => ⟨S16640x1024, .bf16⟩
  | .hbm, ⟨3, _⟩ => ⟨S16640x2048, .bf16⟩
  | .hbm, ⟨4, _⟩ => ⟨S16640x2048, .bf16⟩
  | .hbm, ⟨5, _⟩ => ⟨S16640x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .bf16⟩
  | .local _ .vmem, ⟨5, _⟩ => ⟨S256x2048, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S8x256x512, .f32⟩
  | .local _ .vmem, ⟨17, _⟩ => ⟨S8x256x256, .f32⟩
  | .local _ .vmem, ⟨18, _⟩ => ⟨S8x256x512, .f32⟩
  | .local _ .vmem, ⟨19, _⟩ => ⟨S8x256x256, .f32⟩
  | .local _ .vmem, ⟨20, _⟩ => ⟨S8x8x512, .f32⟩
  | .local _ .smem, ⟨0, _⟩ => ⟨S2x4, .f32⟩
  | _, _ => ⟨S2x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c1_i32 : BitVec 32 := 1#32
  let v0 : BitVec 1 := Scalar.cmpi .slt arg0 c1_i32
  let c64_i32 : BitVec 32 := 64#32
  let v1 : BitVec 32 := Scalar.addi c64_i32 arg0
  let c1_i32_0 : BitVec 32 := 1#32
  let v2 : BitVec 32 := Scalar.subi arg0 c1_i32_0
  let v3 : BitVec 32 := Scalar.select v0 v1 v2
  let c0_i32 : BitVec 32 := 0#32
  let c0_i32_1 : BitVec 32 := 0#32
  ![v3.toNat, c0_i32.toNat]

def cc0_transform_2 (i : grid0.Coords) : Fin 2 → Nat :=
  let arg0 : BitVec 32 := BitVec.ofNat 32 (i 0).val
  let c1_i32 : BitVec 32 := 1#32
  let v0 : BitVec 1 := Scalar.cmpi .slt arg0 c1_i32
  let c64_i32 : BitVec 32 := 64#32
  let v1 : BitVec 32 := Scalar.addi c64_i32 arg0
  let c1_i32_0 : BitVec 32 := 1#32
  let v2 : BitVec 32 := Scalar.subi arg0 c1_i32_0
  let v3 : BitVec 32 := Scalar.select v0 v1 v2
  let c0_i32 : BitVec 32 := 0#32
  let c0_i32_1 : BitVec 32 := 0#32
  ![v3.toNat, c0_i32.toNat]

def cc0_transform_3 (i : grid0.Coords) : Fin 2 → Nat :=
  let arg0 : BitVec 32 := BitVec.ofNat 32 (i 0).val
  let c1_i32 : BitVec 32 := 1#32
  let v0 : BitVec 1 := Scalar.cmpi .slt arg0 c1_i32
  let c64_i32 : BitVec 32 := 64#32
  let v1 : BitVec 32 := Scalar.addi c64_i32 arg0
  let c1_i32_0 : BitVec 32 := 1#32
  let v2 : BitVec 32 := Scalar.subi arg0 c1_i32_0
  let v3 : BitVec 32 := Scalar.select v0 v1 v2
  let c0_i32 : BitVec 32 := 0#32
  let c0_i32_1 : BitVec 32 := 0#32
  ![v3.toNat, c0_i32.toNat]

def cc0_transform_4 (i : grid0.Coords) : Fin 2 → Nat :=
  let arg0 : BitVec 32 := BitVec.ofNat 32 (i 0).val
  let c64_i32 : BitVec 32 := 64#32
  let v0 : BitVec 32 := Scalar.subi c64_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c64_i32 : BitVec 32 := 64#32
  let v0 : BitVec 32 := Scalar.subi c64_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c64_i32 : BitVec 32 := 64#32
  let v0 : BitVec 32 := Scalar.subi c64_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c1_i32 : BitVec 32 := 1#32
  let v0 : BitVec 1 := Scalar.cmpi .slt arg0 c1_i32
  let c64_i32 : BitVec 32 := 64#32
  let v1 : BitVec 32 := Scalar.addi c64_i32 arg0
  let c1_i32_0 : BitVec 32 := 1#32
  let v2 : BitVec 32 := Scalar.subi arg0 c1_i32_0
  let v3 : BitVec 32 := Scalar.select v0 v1 v2
  let c0_i32 : BitVec 32 := 0#32
  let c0_i32_1 : BitVec 32 := 0#32
  ![v3.toNat, c0_i32.toNat]

def cc0_transform_8 (i : grid0.Coords) : Fin 2 → Nat :=
  let arg0 : BitVec 32 := BitVec.ofNat 32 (i 0).val
  let c64_i32 : BitVec 32 := 64#32
  let v0 : BitVec 32 := Scalar.subi c64_i32 arg0
  let c0_i32 : BitVec 32 := 0#32
  let c0_i32_0 : BitVec 32 := 0#32
  ![v0.toNat, c0_i32.toNat]

abbrev stage0_0 : Fin 1 → Memref sig .tc .smem S2x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S2x4 : Shape := ⟨2, ![2, 4]⟩
abbrev S16640x1024 : Shape := ⟨2, ![16640, 1024]⟩
abbrev S16640x2048 : Shape := ⟨2, ![16640, 2048]⟩
abbrev S256x1024 : Shape := ⟨2, ![256, 1024]⟩
abbrev S16384x1024 : Shape := ⟨2, ![16384, 1024]⟩
abbrev S16640x4x256 : Shape := ⟨3, ![16640, 4, 256]⟩
abbrev S4x16640x256 : Shape := ⟨3, ![4, 16640, 256]⟩
abbrev S4x256x256 : Shape := ⟨3, ![4, 256, 256]⟩
abbrev S4x16384x256 : Shape := ⟨3, ![4, 16384, 256]⟩
abbrev S8x16640x256 : Shape := ⟨3, ![8, 16640, 256]⟩
abbrev S256x2048 : Shape := ⟨2, ![256, 2048]⟩
abbrev S16384x2048 : Shape := ⟨2, ![16384, 2048]⟩
abbrev S16640x4x512 : Shape := ⟨3, ![16640, 4, 512]⟩
abbrev S4x16640x512 : Shape := ⟨3, ![4, 16640, 512]⟩
abbrev S4x256x512 : Shape := ⟨3, ![4, 256, 512]⟩
abbrev S4x16384x512 : Shape := ⟨3, ![4, 16384, 512]⟩
abbrev S8x16640x512 : Shape := ⟨3, ![8, 16640, 512]⟩
abbrev S8 : Shape := ⟨1, ![8]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S1x128x128 : Shape := ⟨3, ![1, 128, 128]⟩
abbrev S8x1x1 : Shape := ⟨3, ![8, 1, 1]⟩
abbrev S8x128x128 : Shape := ⟨3, ![8, 128, 128]⟩
abbrev S8x1 : Shape := ⟨2, ![8, 1]⟩
abbrev S8x128 : Shape := ⟨2, ![8, 128]⟩
abbrev S8x128x1 : Shape := ⟨3, ![8, 128, 1]⟩
abbrev S8x256x512 : Shape := ⟨3, ![8, 256, 512]⟩
abbrev S8x130x128x256 : Shape := ⟨4, ![8, 130, 128, 256]⟩
abbrev S130x8x128x256 : Shape := ⟨4, ![130, 8, 128, 256]⟩
abbrev S8x130x128x512 : Shape := ⟨4, ![8, 130, 128, 512]⟩
abbrev S130x8x128x512 : Shape := ⟨4, ![130, 8, 128, 512]⟩
abbrev S1x8x128x256 : Shape := ⟨4, ![1, 8, 128, 256]⟩
abbrev S8x128x256 : Shape := ⟨3, ![8, 128, 256]⟩
abbrev S1x8x128x512 : Shape := ⟨4, ![1, 8, 128, 512]⟩
abbrev S8x128x512 : Shape := ⟨3, ![8, 128, 512]⟩

abbrev nBuf : Space → Nat
  | .hbm => 172
  | .vmem => 0
  | .smem => 0
  | _ => 0

abbrev hbmTy0_0 (i : Nat) : BufTy := match i % 128 with
  | 0 => ⟨S2x4, .f32⟩
  | 1 => ⟨S16640x1024, .bf16⟩
  | 2 => ⟨S16640x1024, .bf16⟩
  | 3 => ⟨S16640x2048, .bf16⟩
  | 4 => ⟨S2x4, .f32⟩
  | 5 => ⟨S2x4, .f32⟩
  | 6 => ⟨S2x4, .f32⟩
  | 7 => ⟨S16640x1024, .f32⟩
  | 8 => ⟨S256x1024, .f32⟩
  | 9 => ⟨S16384x1024, .f32⟩
  | 10 => ⟨S16640x1024, .f32⟩
  | 11 => ⟨S16640x4x256, .f32⟩
  | 12 => ⟨S4x16640x256, .f32⟩
  | 13 => ⟨S4x256x256, .f32⟩
  | 14 => ⟨S4x256x256, .f32⟩
  | 15 => ⟨S4x16384x256, .f32⟩
  | 16 => ⟨S4x16384x256, .f32⟩
  | 17 => ⟨S4x16640x256, .f32⟩
  | 18 => ⟨S8x16640x256, .f32⟩
  | 19 => ⟨S16640x1024, .f32⟩
  | 20 => ⟨S256x1024, .f32⟩
  | 21 => ⟨S16384x1024, .f32⟩
  | 22 => ⟨S16640x1024, .f32⟩
  | 23 => ⟨S16640x4x256, .f32⟩
  | 24 => ⟨S4x16640x256, .f32⟩
  | 25 => ⟨S4x256x256, .f32⟩
  | 26 => ⟨S4x256x256, .f32⟩
  | 27 => ⟨S4x16384x256, .f32⟩
  | 28 => ⟨S4x16384x256, .f32⟩
  | 29 => ⟨S4x16640x256, .f32⟩
  | 30 => ⟨S8x16640x256, .f32⟩
  | 31 => ⟨S16640x2048, .f32⟩
  | 32 => ⟨S256x2048, .f32⟩
  | 33 => ⟨S16384x2048, .f32⟩
  | 34 => ⟨S16640x2048, .f32⟩
  | 35 => ⟨S16640x4x512, .f32⟩
  | 36 => ⟨S4x16640x512, .f32⟩
  | 37 => ⟨S4x256x512, .f32⟩
  | 38 => ⟨S4x256x512, .f32⟩
  | 39 => ⟨S4x16384x512, .f32⟩
  | 40 => ⟨S4x16384x512, .f32⟩
  | 41 => ⟨S4x16640x512, .f32⟩
  | 42 => ⟨S8x16640x512, .f32⟩
  | 43 => ⟨S8, .f32⟩
  | 44 => ⟨S128, .f32⟩
  | 45 => ⟨S128x1, .f32⟩
  | 46 => ⟨S1x128, .f32⟩
  | 47 => ⟨S128x128, .f32⟩
  | 48 => ⟨S128x128, .f32⟩
  | 49 => ⟨S128x128, .f32⟩
  | 50 => ⟨S_, .f32⟩
  | 51 => ⟨S128x128, .f32⟩
  | 52 => ⟨S128x128, .i1⟩
  | 53 => ⟨S_, .f32⟩
  | 54 => ⟨S_, .f32⟩
  | 55 => ⟨S128x128, .f32⟩
  | 56 => ⟨S128x128, .f32⟩
  | 57 => ⟨S1x128x128, .f32⟩
  | 58 => ⟨S8x1x1, .f32⟩
  | 59 => ⟨S8x128x128, .f32⟩
  | 60 => ⟨S8x128x128, .f32⟩
  | 61 => ⟨S8x128x128, .f32⟩
  | 62 => ⟨S8x128x128, .f32⟩
  | 63 => ⟨S_, .f32⟩
  | 64 => ⟨S_, .f32⟩
  | 65 => ⟨S8x128x128, .i1⟩
  | 66 => ⟨S8x128x128, .f32⟩
  | 67 => ⟨S8x128x128, .f32⟩
  | 68 => ⟨S_, .f32⟩
  | 69 => ⟨S128, .f32⟩
  | 70 => ⟨S128, .f32⟩
  | 71 => ⟨S1x128, .f32⟩
  | 72 => ⟨S8x1, .f32⟩
  | 73 => ⟨S8x128, .f32⟩
  | 74 => ⟨S8x128, .f32⟩
  | 75 => ⟨S8x128, .f32⟩
  | 76 => ⟨S8x128, .f32⟩
  | 77 => ⟨S8x128x1, .f32⟩
  | 78 => ⟨S_, .f32⟩
  | 79 => ⟨S128, .f32⟩
  | 80 => ⟨S128, .f32⟩
  | 81 => ⟨S1x128, .f32⟩
  | 82 => ⟨S8x1, .f32⟩
  | 83 => ⟨S8x128, .f32⟩
  | 84 => ⟨S8x128, .f32⟩
  | 85 => ⟨S8x128, .f32⟩
  | 86 => ⟨S8x128, .f32⟩
  | 87 => ⟨S8x128x1, .f32⟩
  | 88 => ⟨S_, .f32⟩
  | 89 => ⟨S8, .f32⟩
  | 90 => ⟨S8, .f32⟩
  | 91 => ⟨S8, .f32⟩
  | 92 => ⟨S8x1x1, .f32⟩
  | 93 => ⟨S_, .f32⟩
  | 94 => ⟨S8x256x512, .f32⟩
  | 95 => ⟨S8x130x128x256, .f32⟩
  | 96 => ⟨S130x8x128x256, .f32⟩
  | 97 => ⟨S8x130x128x256, .f32⟩
  | 98 => ⟨S130x8x128x256, .f32⟩
  | 99 => ⟨S8x130x128x512, .f32⟩
  | 100 => ⟨S130x8x128x512, .f32⟩
  | 101 => ⟨S_, .f32⟩
  | 102 => ⟨S130x8x128x512, .f32⟩
  | 103 => ⟨S_, .i32⟩
  | 104 => ⟨S130x8x128x256, .f32⟩
  | 105 => ⟨S130x8x128x256, .f32⟩
  | 106 => ⟨S130x8x128x512, .f32⟩
  | 107 => ⟨S8x128x128, .f32⟩
  | 108 => ⟨S8x128x1, .f32⟩
  | 109 => ⟨S8x1x1, .f32⟩
  | 110 => ⟨S8x128x1, .f32⟩
  | 111 => ⟨S_, .i32⟩
  | 112 => ⟨S8x256x512, .f32⟩
  | 113 => ⟨S130x8x128x512, .f32⟩
  | 114 => ⟨S_, .i32⟩
  | 115 => ⟨S_, .i1⟩
  | 116 => ⟨S_, .i32⟩
  | 117 => ⟨S_, .i32⟩
  | 118 => ⟨S_, .i32⟩
  | 119 => ⟨S1x8x128x256, .f32⟩
  | 120 => ⟨S8x128x256, .f32⟩
  | 121 => ⟨S_, .i32⟩
  | 122 => ⟨S_, .i32⟩
  | 123 => ⟨S_, .i32⟩
  | 124 => ⟨S1x8x128x256, .f32⟩
  | 125 => ⟨S8x128x256, .f32⟩
  | 126 => ⟨S_, .i32⟩
  | 127 => ⟨S_, .i32⟩
  | _ => ⟨S2x4, .f32⟩

abbrev hbmTy0_1 (i : Nat) : BufTy := match i % 128 with
  | 0 => ⟨S_, .i32⟩
  | 1 => ⟨S1x8x128x512, .f32⟩
  | 2 => ⟨S8x128x512, .f32⟩
  | 3 => ⟨S8x128x128, .f32⟩
  | 4 => ⟨S8x128x128, .f32⟩
  | 5 => ⟨S8x128x512, .f32⟩
  | 6 => ⟨S8x128x256, .f32⟩
  | 7 => ⟨S8x128x256, .f32⟩
  | 8 => ⟨S8x128x512, .f32⟩
  | 9 => ⟨S8x128x512, .f32⟩
  | 10 => ⟨S8x256x512, .f32⟩
  | 11 => ⟨S8x256x512, .f32⟩
  | 12 => ⟨S8x128x256, .f32⟩
  | 13 => ⟨S8x128x256, .f32⟩
  | 14 => ⟨S8x256x512, .f32⟩
  | 15 => ⟨S8x256x512, .f32⟩
  | 16 => ⟨S1x8x128x512, .f32⟩
  | 17 => ⟨S_, .i32⟩
  | 18 => ⟨S_, .i32⟩
  | 19 => ⟨S_, .i32⟩
  | 20 => ⟨S130x8x128x512, .f32⟩
  | 21 => ⟨S_, .i32⟩
  | 22 => ⟨S_, .i32⟩
  | 23 => ⟨S8x130x128x512, .f32⟩
  | 24 => ⟨S8x16640x512, .f32⟩
  | 25 => ⟨S4x16640x512, .f32⟩
  | 26 => ⟨S16640x4x512, .f32⟩
  | 27 => ⟨S16640x2048, .f32⟩
  | 28 => ⟨S16384x2048, .f32⟩
  | 29 => ⟨S256x2048, .f32⟩
  | 30 => ⟨S16640x2048, .f32⟩
  | 31 => ⟨S16640x2048, .bf16⟩
  | 32 => ⟨S4x16640x512, .f32⟩
  | 33 => ⟨S4x256x512, .f32⟩
  | 34 => ⟨S4x256x512, .f32⟩
  | 35 => ⟨S4x16384x512, .f32⟩
  | 36 => ⟨S4x16384x512, .f32⟩
  | 37 => ⟨S4x16640x512, .f32⟩
  | 38 => ⟨S16640x4x512, .f32⟩
  | 39 => ⟨S16640x2048, .f32⟩
  | 40 => ⟨S16384x2048, .f32⟩
  | 41 => ⟨S256x2048, .f32⟩
  | 42 => ⟨S16640x2048, .f32⟩
  | 43 => ⟨S16640x2048, .bf16⟩
  | _ => ⟨S2x4, .f32⟩

abbrev hbmTy (i : Nat) : BufTy := match i / 128 with
  | 0 => hbmTy0_0 i
  | 1 => hbmTy0_1 i
  | _ => ⟨S2x4, .f32⟩

abbrev bufTy : (tb : Table) → Fin (tcTables nBuf tb) → BufTy
  | .hbm, ⟨i, _⟩ => hbmTy i
  | _, _ => ⟨S2x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_cst : Ref sig .tc := ⟨.hbm, 50, rfl⟩
abbrev main_v46 : Ref sig .tc := ⟨.hbm, 51, rfl⟩
abbrev main_v47 : Ref sig .tc := ⟨.hbm, 52, rfl⟩
abbrev main_cst_0 : Ref sig .tc := ⟨.hbm, 53, rfl⟩
abbrev main_call0_v0 : Ref sig .tc := ⟨.hbm, 54, rfl⟩
abbrev main_call0_v1 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_cst_1 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_v55 : Ref sig .tc := ⟨.hbm, 67, rfl⟩
abbrev main_cst_2 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_cst_3 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_cst_4 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_cst_5 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_cst_6 : Ref sig .tc := ⟨.hbm, 101, rfl⟩
abbrev main_v85 : Ref sig .tc := ⟨.hbm, 102, rfl⟩
abbrev main_c : Ref sig .tc := ⟨.hbm, 103, rfl⟩
abbrev main_v86_0 : Ref sig .tc := ⟨.hbm, 104, rfl⟩
abbrev main_v86_1 : Ref sig .tc := ⟨.hbm, 105, rfl⟩
abbrev main_v86_2 : Ref sig .tc := ⟨.hbm, 106, rfl⟩
abbrev main_v86_3 : Ref sig .tc := ⟨.hbm, 107, rfl⟩
abbrev main_v86_4 : Ref sig .tc := ⟨.hbm, 108, rfl⟩
abbrev main_v86_5 : Ref sig .tc := ⟨.hbm, 109, rfl⟩
abbrev main_v86_6 : Ref sig .tc := ⟨.hbm, 110, rfl⟩
abbrev main_v86_7 : Ref sig .tc := ⟨.hbm, 111, rfl⟩
abbrev main_v86_8 : Ref sig .tc := ⟨.hbm, 112, rfl⟩
abbrev main_v86_9 : Ref sig .tc := ⟨.hbm, 113, rfl⟩
abbrev main_while0c_c_16 : Ref sig .tc := ⟨.hbm, 114, rfl⟩
abbrev main_while0c_v108 : Ref sig .tc := ⟨.hbm, 115, rfl⟩
abbrev main_while0b_call2_c : Ref sig .tc := ⟨.hbm, 116, rfl⟩
abbrev main_while0b_call2_c_0 : Ref sig .tc := ⟨.hbm, 117, rfl⟩
abbrev main_while0b_call2_c_1 : Ref sig .tc := ⟨.hbm, 118, rfl⟩
abbrev main_while0b_call2_v0 : Ref sig .tc := ⟨.hbm, 119, rfl⟩
abbrev main_while0b_v108 : Ref sig .tc := ⟨.hbm, 120, rfl⟩
abbrev main_while0b_call3_c : Ref sig .tc := ⟨.hbm, 121, rfl⟩
abbrev main_while0b_call3_c_0 : Ref sig .tc := ⟨.hbm, 122, rfl⟩
abbrev main_while0b_call3_c_1 : Ref sig .tc := ⟨.hbm, 123, rfl⟩
abbrev main_while0b_call3_v0 : Ref sig .tc := ⟨.hbm, 124, rfl⟩
abbrev main_while0b_v109 : Ref sig .tc := ⟨.hbm, 125, rfl⟩
abbrev main_while0b_call4_c : Ref sig .tc := ⟨.hbm, 126, rfl⟩
abbrev main_while0b_call4_c_0 : Ref sig .tc := ⟨.hbm, 127, rfl⟩
abbrev main_while0b_call4_c_1 : Ref sig .tc := ⟨.hbm, 128, rfl⟩
abbrev main_while0b_call4_v0 : Ref sig .tc := ⟨.hbm, 129, rfl⟩
abbrev main_while0b_v110 : Ref sig .tc := ⟨.hbm, 130, rfl⟩
abbrev main_while0b_v111 : Ref sig .tc := ⟨.hbm, 131, rfl⟩
abbrev main_while0b_v112 : Ref sig .tc := ⟨.hbm, 132, rfl⟩
abbrev main_while0b_v113 : Ref sig .tc := ⟨.hbm, 133, rfl⟩
abbrev main_while0b_v114 : Ref sig .tc := ⟨.hbm, 134, rfl⟩
abbrev main_while0b_v115 : Ref sig .tc := ⟨.hbm, 135, rfl⟩
abbrev main_while0b_v116 : Ref sig .tc := ⟨.hbm, 136, rfl⟩
abbrev main_while0b_v117 : Ref sig .tc := ⟨.hbm, 137, rfl⟩
abbrev main_while0b_v118 : Ref sig .tc := ⟨.hbm, 138, rfl⟩
abbrev main_while0b_v119 : Ref sig .tc := ⟨.hbm, 139, rfl⟩
abbrev main_while0b_v120 : Ref sig .tc := ⟨.hbm, 140, rfl⟩
abbrev main_while0b_v121 : Ref sig .tc := ⟨.hbm, 141, rfl⟩
abbrev main_while0b_v122 : Ref sig .tc := ⟨.hbm, 142, rfl⟩
abbrev main_while0b_v123 : Ref sig .tc := ⟨.hbm, 143, rfl⟩
abbrev main_while0b_call5_v0 : Ref sig .tc := ⟨.hbm, 144, rfl⟩
abbrev main_while0b_call5_c : Ref sig .tc := ⟨.hbm, 145, rfl⟩
abbrev main_while0b_call5_c_0 : Ref sig .tc := ⟨.hbm, 146, rfl⟩
abbrev main_while0b_call5_c_1 : Ref sig .tc := ⟨.hbm, 147, rfl⟩
abbrev main_while0b_v124 : Ref sig .tc := ⟨.hbm, 148, rfl⟩
abbrev main_while0b_c_16 : Ref sig .tc := ⟨.hbm, 149, rfl⟩
abbrev main_while0b_v125 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩

abbrev nD : Nat := 1
abbrev τ : Topo := Topo.v7x

variable {F : FTy → Type} [FloatOps F]

abbrev main_while0_count : Scf.Loop 32 := ⟨0#32, 130#32, 1#32⟩
-- ==== Kernel3.lean ====
abbrev S64 : Shape := ⟨1, ![64]⟩
abbrev S22528x1152 : Shape := ⟨2, ![22528, 1152]⟩
abbrev S2x16x1024x512 : Shape := ⟨4, ![2, 16, 1024, 512]⟩
abbrev S2x16x512x1024 : Shape := ⟨4, ![2, 16, 512, 1024]⟩
abbrev S32x1024x512 : Shape := ⟨3, ![32, 1024, 512]⟩
abbrev S32x512x1024 : Shape := ⟨3, ![32, 512, 1024]⟩
abbrev S_ : Shape := ⟨0, ![]⟩
abbrev S1 : Shape := ⟨1, ![1]⟩
abbrev S88 : Shape := ⟨1, ![88]⟩
abbrev S1x64 : Shape := ⟨2, ![1, 64]⟩
abbrev S88x1 : Shape := ⟨2, ![88, 1]⟩
abbrev S88x64 : Shape := ⟨2, ![88, 64]⟩
abbrev S87 : Shape := ⟨1, ![87]⟩
abbrev S1x88 : Shape := ⟨2, ![1, 88]⟩
abbrev S6x88 : Shape := ⟨2, ![6, 88]⟩
abbrev S22528x1024 : Shape := ⟨2, ![22528, 1024]⟩
abbrev S256x1152 : Shape := ⟨2, ![256, 1152]⟩
abbrev S256x1024 : Shape := ⟨2, ![256, 1024]⟩
abbrev S2x2x1024x512 : Shape := ⟨4, ![2, 2, 1024, 512]⟩
abbrev S2x2x512x1024 : Shape := ⟨4, ![2, 2, 512, 1024]⟩
abbrev S2x6 : Shape := ⟨2, ![2, 6]⟩
abbrev S1x1 : Shape := ⟨2, ![1, 1]⟩
abbrev S1x1x1024x512 : Shape := ⟨4, ![1, 1, 1024, 512]⟩
abbrev S1024x512 : Shape := ⟨2, ![1024, 512]⟩
abbrev S1x1024x512 : Shape := ⟨3, ![1, 1024, 512]⟩
abbrev S1x1x512x1024 : Shape := ⟨4, ![1, 1, 512, 1024]⟩
abbrev S512x1024 : Shape := ⟨2, ![512, 1024]⟩
abbrev S1x512x1024 : Shape := ⟨3, ![1, 512, 1024]⟩
abbrev S256x1 : Shape := ⟨2, ![256, 1]⟩
abbrev S256x512 : Shape := ⟨2, ![256, 512]⟩

abbrev nBuf : Space → Nat
  | .hbm => 171
  | .vmem => 7
  | .smem => 2
  | _ => 0

abbrev hbmTy0_0 (i : Nat) : BufTy := match i % 128 with
  | 0 => ⟨S64, .i32⟩
  | 1 => ⟨S22528x1152, .f32⟩
  | 2 => ⟨S2x16x1024x512, .f32⟩
  | 3 => ⟨S2x16x1024x512, .f32⟩
  | 4 => ⟨S2x16x512x1024, .f32⟩
  | 5 => ⟨S64, .i32⟩
  | 6 => ⟨S64, .i32⟩
  | 7 => ⟨S32x1024x512, .f32⟩
  | 8 => ⟨S32x1024x512, .f32⟩
  | 9 => ⟨S32x512x1024, .f32⟩
  | 10 => ⟨S_, .i32⟩
  | 11 => ⟨S64, .i32⟩
  | 12 => ⟨S64, .i32⟩
  | 13 => ⟨S_, .i32⟩
  | 14 => ⟨S64, .i32⟩
  | 15 => ⟨S64, .i32⟩
  | 16 => ⟨S_, .i32⟩
  | 17 => ⟨S_, .i32⟩
  | 18 => ⟨S64, .i32⟩
  | 19 => ⟨S64, .i32⟩
  | 20 => ⟨S64, .i32⟩
  | 21 => ⟨S_, .i32⟩
  | 22 => ⟨S64, .i32⟩
  | 23 => ⟨S64, .i1⟩
  | 24 => ⟨S64, .i32⟩
  | 25 => ⟨S64, .i32⟩
  | 26 => ⟨S_, .i32⟩
  | 27 => ⟨S64, .i32⟩
  | 28 => ⟨S64, .i1⟩
  | 29 => ⟨S64, .i1⟩
  | 30 => ⟨S_, .i32⟩
  | 31 => ⟨S64, .i32⟩
  | 32 => ⟨S64, .i32⟩
  | 33 => ⟨S64, .i32⟩
  | 34 => ⟨S_, .i32⟩
  | 35 => ⟨S_, .i32⟩
  | 36 => ⟨S64, .i32⟩
  | 37 => ⟨S1, .i32⟩
  | 38 => ⟨S_, .i32⟩
  | 39 => ⟨S88, .i32⟩
  | 40 => ⟨S_, .i32⟩
  | 41 => ⟨S_, .i32⟩
  | 42 => ⟨S88, .i32⟩
  | 43 => ⟨S88, .i32⟩
  | 44 => ⟨S1x64, .i32⟩
  | 45 => ⟨S88x1, .i32⟩
  | 46 => ⟨S88x64, .i32⟩
  | 47 => ⟨S88x64, .i32⟩
  | 48 => ⟨S88x64, .i1⟩
  | 49 => ⟨S88x64, .i32⟩
  | 50 => ⟨S_, .i32⟩
  | 51 => ⟨S88, .i32⟩
  | 52 => ⟨S_, .i32⟩
  | 53 => ⟨S64, .i32⟩
  | 54 => ⟨S64, .i32⟩
  | 55 => ⟨S_, .i32⟩
  | 56 => ⟨S64, .i32⟩
  | 57 => ⟨S64, .i32⟩
  | 58 => ⟨S88, .i32⟩
  | 59 => ⟨S_, .i32⟩
  | 60 => ⟨S1, .i32⟩
  | 61 => ⟨S87, .i32⟩
  | 62 => ⟨S88, .i32⟩
  | 63 => ⟨S88, .i1⟩
  | 64 => ⟨S88, .i32⟩
  | 65 => ⟨S88, .i1⟩
  | 66 => ⟨S88, .i1⟩
  | 67 => ⟨S88, .i32⟩
  | 68 => ⟨S_, .i32⟩
  | 69 => ⟨S_, .i32⟩
  | 70 => ⟨S88, .i32⟩
  | 71 => ⟨S_, .i32⟩
  | 72 => ⟨S88, .i32⟩
  | 73 => ⟨S88, .i32⟩
  | 74 => ⟨S_, .i32⟩
  | 75 => ⟨S_, .i32⟩
  | 76 => ⟨S_, .i32⟩
  | 77 => ⟨S_, .i1⟩
  | 78 => ⟨S_, .i32⟩
  | 79 => ⟨S_, .i32⟩
  | 80 => ⟨S88, .i32⟩
  | 81 => ⟨S88, .i32⟩
  | 82 => ⟨S_, .i32⟩
  | 83 => ⟨S88, .i32⟩
  | 84 => ⟨S88, .i1⟩
  | 85 => ⟨S_, .i32⟩
  | 86 => ⟨S88, .i32⟩
  | 87 => ⟨S88, .i1⟩
  | 88 => ⟨S_, .i32⟩
  | 89 => ⟨S_, .i1⟩
  | 90 => ⟨S88, .i1⟩
  | 91 => ⟨S88, .i1⟩
  | 92 => ⟨S88, .i1⟩
  | 93 => ⟨S88, .i32⟩
  | 94 => ⟨S88, .i32⟩
  | 95 => ⟨S88, .i32⟩
  | 96 => ⟨S_, .i32⟩
  | 97 => ⟨S88, .i32⟩
  | 98 => ⟨S88, .i1⟩
  | 99 => ⟨S_, .i32⟩
  | 100 => ⟨S88, .i32⟩
  | 101 => ⟨S88, .i32⟩
  | 102 => ⟨S88, .i32⟩
  | 103 => ⟨S88x1, .i32⟩
  | 104 => ⟨S88, .i32⟩
  | 105 => ⟨S88, .i32⟩
  | 106 => ⟨S88, .i1⟩
  | 107 => ⟨S_, .i32⟩
  | 108 => ⟨S88, .i32⟩
  | 109 => ⟨S88, .i32⟩
  | 110 => ⟨S_, .i32⟩
  | 111 => ⟨S88, .i32⟩
  | 112 => ⟨S88, .i1⟩
  | 113 => ⟨S_, .i32⟩
  | 114 => ⟨S88, .i32⟩
  | 115 => ⟨S88, .i32⟩
  | 116 => ⟨S88, .i32⟩
  | 117 => ⟨S88x1, .i32⟩
  | 118 => ⟨S88, .i32⟩
  | 119 => ⟨S_, .i32⟩
  | 120 => ⟨S88, .i32⟩
  | 121 => ⟨S88, .i1⟩
  | 122 => ⟨S_, .i32⟩
  | 123 => ⟨S88, .i32⟩
  | 124 => ⟨S88, .i32⟩
  | 125 => ⟨S88, .i32⟩
  | 126 => ⟨S88x1, .i32⟩
  | 127 => ⟨S88, .i32⟩
  | _ => ⟨S64, .i32⟩

abbrev hbmTy0_1 (i : Nat) : BufTy := match i % 128 with
  | 0 => ⟨S_, .i32⟩
  | 1 => ⟨S88, .i32⟩
  | 2 => ⟨S88, .i1⟩
  | 3 => ⟨S_, .i32⟩
  | 4 => ⟨S88, .i32⟩
  | 5 => ⟨S88, .i32⟩
  | 6 => ⟨S88, .i32⟩
  | 7 => ⟨S88x1, .i32⟩
  | 8 => ⟨S88, .i32⟩
  | 9 => ⟨S88, .i32⟩
  | 10 => ⟨S_, .i32⟩
  | 11 => ⟨S88, .i32⟩
  | 12 => ⟨S88, .i1⟩
  | 13 => ⟨S_, .i32⟩
  | 14 => ⟨S88, .i32⟩
  | 15 => ⟨S88, .i32⟩
  | 16 => ⟨S88, .i32⟩
  | 17 => ⟨S88x1, .i32⟩
  | 18 => ⟨S88, .i32⟩
  | 19 => ⟨S_, .i32⟩
  | 20 => ⟨S_, .i32⟩
  | 21 => ⟨S88, .i32⟩
  | 22 => ⟨S88, .i32⟩
  | 23 => ⟨S_, .i32⟩
  | 24 => ⟨S88, .i32⟩
  | 25 => ⟨S88, .i1⟩
  | 26 => ⟨S_, .i32⟩
  | 27 => ⟨S88, .i32⟩
  | 28 => ⟨S88, .i32⟩
  | 29 => ⟨S88, .i32⟩
  | 30 => ⟨S88x1, .i32⟩
  | 31 => ⟨S88, .i32⟩
  | 32 => ⟨S_, .i32⟩
  | 33 => ⟨S_, .i32⟩
  | 34 => ⟨S88, .i32⟩
  | 35 => ⟨S88, .i32⟩
  | 36 => ⟨S1x88, .i32⟩
  | 37 => ⟨S1x88, .i32⟩
  | 38 => ⟨S1x88, .i32⟩
  | 39 => ⟨S1x88, .i32⟩
  | 40 => ⟨S1x88, .i32⟩
  | 41 => ⟨S1x88, .i32⟩
  | 42 => ⟨S22528x1024, .f32⟩
  | _ => ⟨S64, .i32⟩

abbrev hbmTy (i : Nat) : BufTy := match i / 128 with
  | 0 => hbmTy0_0 i
  | 1 => hbmTy0_1 i
  | _ => ⟨S64, .i32⟩

abbrev bufTy : (tb : Table) → Fin (tcTables nBuf tb) → BufTy
  | .hbm, ⟨i, _⟩ => hbmTy i
  | .local _ .vmem, ⟨0, _⟩ => ⟨S256x1152, .f32⟩
  | .local _ .vmem, ⟨1, _⟩ => ⟨S256x1152, .f32⟩
  | .local _ .vmem, ⟨2, _⟩ => ⟨S256x1024, .f32⟩
  | .local _ .vmem, ⟨3, _⟩ => ⟨S256x1024, .f32⟩
  | .local _ .vmem, ⟨4, _⟩ => ⟨S2x2x1024x512, .f32⟩
  | .local _ .vmem, ⟨5, _⟩ => ⟨S2x2x1024x512, .f32⟩
  | .local _ .vmem, ⟨6, _⟩ => ⟨S2x2x512x1024, .f32⟩
  | .local _ .smem, ⟨0, _⟩ => ⟨S6x88, .i32⟩
  | .local _ .smem, ⟨1, _⟩ => ⟨S1, .i32⟩
  | _, _ => ⟨S64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_1 : Ref sig .tc := ⟨.hbm, 10, rfl⟩
abbrev main_v3 : Ref sig .tc := ⟨.hbm, 11, rfl⟩
abbrev main_v4 : Ref sig .tc := ⟨.hbm, 12, rfl⟩
abbrev main_c_2 : Ref sig .tc := ⟨.hbm, 13, rfl⟩
abbrev main_v5 : Ref sig .tc := ⟨.hbm, 14, rfl⟩
abbrev main_v6 : Ref sig .tc := ⟨.hbm, 15, rfl⟩
abbrev main_c_3 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v7 : Ref sig .tc := ⟨.hbm, 33, rfl⟩
abbrev main_call1_call0_c : Ref sig .tc := ⟨.hbm, 34, rfl⟩
abbrev main_call1_call0_v0 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_c_4 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_c_5 : Ref sig .tc := ⟨.hbm, 50, rfl⟩
abbrev main_v21 : Ref sig .tc := ⟨.hbm, 51, rfl⟩
abbrev main_c_6 : Ref sig .tc := ⟨.hbm, 52, rfl⟩
abbrev main_v22 : Ref sig .tc := ⟨.hbm, 53, rfl⟩
abbrev main_v23 : Ref sig .tc := ⟨.hbm, 54, rfl⟩
abbrev main_c_7 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_c_8 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_call2_call0_c : Ref sig .tc := ⟨.hbm, 68, rfl⟩
abbrev main_call2_call0_v0 : Ref sig .tc := ⟨.hbm, 69, rfl⟩
abbrev main_v35 : Ref sig .tc := ⟨.hbm, 70, rfl⟩
abbrev main_c_9 : Ref sig .tc := ⟨.hbm, 71, rfl⟩
abbrev main_v36 : Ref sig .tc := ⟨.hbm, 72, rfl⟩
abbrev main_v37 : Ref sig .tc := ⟨.hbm, 73, rfl⟩
abbrev main_c_10 : Ref sig .tc := ⟨.hbm, 74, rfl⟩
abbrev main_call3_v0 : Ref sig .tc := ⟨.hbm, 75, rfl⟩
abbrev main_call3_c : Ref sig .tc := ⟨.hbm, 76, rfl⟩
abbrev main_call3_v1 : Ref sig .tc := ⟨.hbm, 77, rfl⟩
abbrev main_call3_c_0 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_call3_c_1 : Ref sig .tc := ⟨.hbm, 82, rfl⟩
abbrev main_call3_v5 : Ref sig .tc := ⟨.hbm, 83, rfl⟩
abbrev main_call3_v6 : Ref sig .tc := ⟨.hbm, 84, rfl⟩
abbrev main_call3_c_2 : Ref sig .tc := ⟨.hbm, 85, rfl⟩
abbrev main_call3_v7 : Ref sig .tc := ⟨.hbm, 86, rfl⟩
abbrev main_call3_v8 : Ref sig .tc := ⟨.hbm, 87, rfl⟩
abbrev main_call3_c_3 : Ref sig .tc := ⟨.hbm, 88, rfl⟩
abbrev main_call3_v9 : Ref sig .tc := ⟨.hbm, 89, rfl⟩
abbrev main_call3_v10 : Ref sig .tc := ⟨.hbm, 90, rfl⟩
abbrev main_call3_v11 : Ref sig .tc := ⟨.hbm, 91, rfl⟩
abbrev main_call3_v12 : Ref sig .tc := ⟨.hbm, 92, rfl⟩
abbrev main_call3_v13 : Ref sig .tc := ⟨.hbm, 93, rfl⟩
abbrev main_call3_v14 : Ref sig .tc := ⟨.hbm, 94, rfl⟩
abbrev main_v38 : Ref sig .tc := ⟨.hbm, 95, rfl⟩
abbrev main_c_11 : Ref sig .tc := ⟨.hbm, 96, rfl⟩
abbrev main_v39 : Ref sig .tc := ⟨.hbm, 97, rfl⟩
abbrev main_v40 : Ref sig .tc := ⟨.hbm, 98, rfl⟩
abbrev main_c_12 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_c_13 : Ref sig .tc := ⟨.hbm, 107, rfl⟩
abbrev main_v48 : Ref sig .tc := ⟨.hbm, 108, rfl⟩
abbrev main_v49 : Ref sig .tc := ⟨.hbm, 109, rfl⟩
abbrev main_c_14 : Ref sig .tc := ⟨.hbm, 110, rfl⟩
abbrev main_v50 : Ref sig .tc := ⟨.hbm, 111, rfl⟩
abbrev main_v51 : Ref sig .tc := ⟨.hbm, 112, rfl⟩
abbrev main_c_15 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_c_16 : Ref sig .tc := ⟨.hbm, 119, rfl⟩
abbrev main_v57 : Ref sig .tc := ⟨.hbm, 120, rfl⟩
abbrev main_v58 : Ref sig .tc := ⟨.hbm, 121, rfl⟩
abbrev main_c_17 : Ref sig .tc := ⟨.hbm, 122, rfl⟩
abbrev main_v59 : Ref sig .tc := ⟨.hbm, 123, rfl⟩
abbrev main_v60 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_c_18 : Ref sig .tc := ⟨.hbm, 128, rfl⟩
abbrev main_v64 : Ref sig .tc := ⟨.hbm, 129, rfl⟩
abbrev main_v65 : Ref sig .tc := ⟨.hbm, 130, rfl⟩
abbrev main_c_19 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_c_20 : Ref sig .tc := ⟨.hbm, 138, rfl⟩
abbrev main_v72 : Ref sig .tc := ⟨.hbm, 139, rfl⟩
abbrev main_v73 : Ref sig .tc := ⟨.hbm, 140, rfl⟩
abbrev main_c_21 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_v78 : Ref sig .tc := ⟨.hbm, 146, rfl⟩
abbrev main_c_22 : Ref sig .tc := ⟨.hbm, 147, rfl⟩
abbrev main_call4_v0 : Ref sig .tc := ⟨.hbm, 148, rfl⟩
abbrev main_call4_v1 : Ref sig .tc := ⟨.hbm, 149, rfl⟩
abbrev main_v79 : Ref sig .tc := ⟨.hbm, 150, rfl⟩
abbrev main_c_23 : Ref sig .tc := ⟨.hbm, 151, rfl⟩
abbrev main_v80 : Ref sig .tc := ⟨.hbm, 152, rfl⟩
abbrev main_v81 : Ref sig .tc := ⟨.hbm, 153, rfl⟩
abbrev main_c_24 : Ref sig .tc := ⟨.hbm, 154, rfl⟩
abbrev main_v82 : Ref sig .tc := ⟨.hbm, 155, rfl⟩
abbrev main_v83 : Ref sig .tc := ⟨.hbm, 156, rfl⟩
abbrev main_v84 : Ref sig .tc := ⟨.hbm, 157, rfl⟩
abbrev main_v85 : Ref sig .tc := ⟨.hbm, 158, rfl⟩
abbrev main_v86 : Ref sig .tc := ⟨.hbm, 159, rfl⟩
abbrev main_c_25 : Ref sig .tc := ⟨.hbm, 160, rfl⟩
abbrev main_call5_v0 : Ref sig .tc := ⟨.hbm, 161, rfl⟩
abbrev main_call5_v1 : Ref sig .tc := ⟨.hbm, 162, rfl⟩
abbrev main_v87 : Ref sig .tc := ⟨.hbm, 163, rfl⟩
abbrev main_v88 : Ref sig .tc := ⟨.hbm, 164, rfl⟩
abbrev main_v89 : Ref sig .tc := ⟨.hbm, 165, rfl⟩
abbrev main_v90 : Ref sig .tc := ⟨.hbm, 166, rfl⟩
abbrev main_v91 : Ref sig .tc := ⟨.hbm, 167, rfl⟩
abbrev main_v92 : Ref sig .tc := ⟨.hbm, 168, rfl⟩
abbrev main_v93 : Ref sig .tc := ⟨.hbm, 169, rfl⟩
abbrev main_v96 : Ref sig .tc := ⟨.hbm, 170, rfl⟩
abbrev main_v94 : Ref sig .tc := ⟨.smem, 0, rfl⟩
abbrev main_v95 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![88], ![false]⟩

abbrev pre0 : Pipeline.Prefetch sig := ⟨2, ![main_v94.idx, main_v95.idx], fun | 0 => main_v94.names | 1 => main_v95.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 2 → Nat :=
  let c3 : Index := 3#32
  let arg0 : BitVec 32 := BitVec.ofNat 32 (i 0).val
  let v0 : Index := Scalar.indexCast arg0
  ![3, v0.toNat]
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off2 (v18 : BitVec 32) : Fin 3 → Nat :=
  let c0_i32_14 : BitVec 32 := 0#32
  let c0_i32_15 : BitVec 32 := 0#32
  ![v18.toNat, 0, 0]

def k0_off3 (v18 : BitVec 32) : Fin 3 → Nat :=
  let c0_i32_29 : BitVec 32 := 0#32
  let c0_i32_30 : BitVec 32 := 0#32
  ![v18.toNat, 0, 0]

def k0_chk1 (i : grid0.Coords) (v18 : BitVec 32) : Prop :=
  (∀ (k0_h1 : k0_cond1 i = 1#1), ∀ a, (k0_off2 v18) a + S1x1024x512.size a ≤ S32x1024x512.size a) ∧
  (∀ (k0_h1 : k0_cond1 i = 1#1), ∀ a, (k0_off3 v18) a + S1x512x1024.size a ≤ S32x512x1024.size a)
theorem k0_off2_inb : ∀ (i : grid0.Coords) (v18 : BitVec 32) (k0_hw1 : k0_chk1 i v18), ∀ (k0_h1 : k0_cond1 i = 1#1), ∀ a, (k0_off2 v18) a + S1x1024x512.size a ≤ S32x1024x512.size a := fun i v18 k0_hw1 k0_h1 => k0_hw1.1 k0_h1
theorem k0_off3_inb : ∀ (i : grid0.Coords) (v18 : BitVec 32) (k0_hw1 : k0_chk1 i v18), ∀ (k0_h1 : k0_cond1 i = 1#1), ∀ a, (k0_off3 v18) a + S1x512x1024.size a ≤ S32x512x1024.size a := fun i v18 k0_hw1 k0_h1 => k0_hw1.2 k0_h1

def k0_off4 (v19 : BitVec 32) : Fin 3 → Nat :=
  let c0_i32_36 : BitVec 32 := 0#32
  let c0_i32_37 : BitVec 32 := 0#32
  ![v19.toNat, 0, 0]

def k0_off5 (v19 : BitVec 32) : Fin 3 → Nat :=
  let c0_i32_50 : BitVec 32 := 0#32
  let c0_i32_51 : BitVec 32 := 0#32
  ![v19.toNat, 0, 0]

def k0_chk2 (i : grid0.Coords) (v19 : BitVec 32) : Prop :=
  (∀ (k0_h1 : k0_cond1 i = 1#1), ∀ a, (k0_off4 v19) a + S1x1024x512.size a ≤ S32x1024x512.size a) ∧
  (∀ (k0_h1 : k0_cond1 i = 1#1), ∀ a, (k0_off5 v19) a + S1x512x1024.size a ≤ S32x512x1024.size a)
theorem k0_off4_inb : ∀ (i : grid0.Coords) (v19 : BitVec 32) (k0_hw2 : k0_chk2 i v19), ∀ (k0_h1 : k0_cond1 i = 1#1), ∀ a, (k0_off4 v19) a + S1x1024x512.size a ≤ S32x1024x512.size a := fun i v19 k0_hw2 k0_h1 => k0_hw2.1 k0_h1
theorem k0_off5_inb : ∀ (i : grid0.Coords) (v19 : BitVec 32) (k0_hw2 : k0_chk2 i v19), ∀ (k0_h1 : k0_cond1 i = 1#1), ∀ a, (k0_off5 v19) a + S1x512x1024.size a ≤ S32x512x1024.size a := fun i v19 k0_hw2 k0_h1 => k0_hw2.2 k0_h1

def k0_off6 (i : grid0.Coords) : Fin 2 → Nat :=
  let c2 : Index := 2#32
  let arg0 : BitVec 32 := BitVec.ofNat 32 (i 0).val
  let v5 : Index := Scalar.indexCast arg0
  ![2, v5.toNat]
def k0_off7 (i : grid0.Coords) : Fin 2 → Nat :=
  let c0_5 : Index := 0#32
  let arg0 : BitVec 32 := BitVec.ofNat 32 (i 0).val
  let v18 : Index := Scalar.indexCast arg0
  ![0, v18.toNat]
def k0_off8 (i : grid0.Coords) : Fin 2 → Nat :=
  let c1 : Index := 1#32
  let arg0 : BitVec 32 := BitVec.ofNat 32 (i 0).val
  let v20 : Index := Scalar.indexCast arg0
  ![1, v20.toNat]
def k0_off9 (v1 : BitVec 32) : Fin 2 → Nat :=
  let c0_i32_7 : BitVec 32 := 0#32
  ![v1.toNat, 0]
def k0_cond2 (v6 : BitVec 32) : BitVec 1 :=
  let c1_i32 : BitVec 32 := 1#32
  let v7 : BitVec 1 := Scalar.cmpi .eq v6 c1_i32
  let v8 : BitVec 32 := Scalar.extui v7
  let c0_i32_1 : BitVec 32 := 0#32
  let v9 : BitVec 1 := Scalar.cmpi .ne v8 c0_i32_1
  v9

def k0_off10 (v1 : BitVec 32) : Fin 4 → Nat :=
  let c0_i32_6 : BitVec 32 := 0#32
  let c0_i32_8 : BitVec 32 := 0#32
  let c0_i32_9 : BitVec 32 := 0#32
  ![v1.toNat, 0, 0, 0]
def k0_off11 (v19 : BitVec 32) : Fin 3 → Nat :=
  let c0_i32_10 : BitVec 32 := 0#32
  let c0_i32_11 : BitVec 32 := 0#32
  ![v19.toNat, 0, 0]

def k0_off12 (v1 : BitVec 32) : Fin 2 → Nat :=
  let c1_i32_13 : BitVec 32 := 1#32
  ![v1.toNat, 1]
def k0_off13 (v1 : BitVec 32) : Fin 4 → Nat :=
  let c0_i32_12 : BitVec 32 := 0#32
  let c0_i32_14 : BitVec 32 := 0#32
  let c0_i32_15 : BitVec 32 := 0#32
  ![v1.toNat, 0, 0, 0]
def k0_off14 (v1 : BitVec 32) : Fin 2 → Nat :=
  let c2_i32 : BitVec 32 := 2#32
  ![v1.toNat, 2]
def k0_off15 (v1 : BitVec 32) : Fin 4 → Nat :=
  let c0_i32_18 : BitVec 32 := 0#32
  let c0_i32_19 : BitVec 32 := 0#32
  let c0_i32_20 : BitVec 32 := 0#32
  ![v1.toNat, 0, 0, 0]
def k0_off16 (v19 : BitVec 32) : Fin 3 → Nat :=
  let c0_i32_21 : BitVec 32 := 0#32
  let c0_i32_22 : BitVec 32 := 0#32
  ![v19.toNat, 0, 0]

def k0_chk4 (v6 : BitVec 32) (v19 : BitVec 32) : Prop :=
  (∀ (k0_h2 : k0_cond2 v6 = 1#1), ∀ a, (k0_off11 v19) a + S1x1024x512.size a ≤ S32x1024x512.size a) ∧
  (∀ (k0_h2 : k0_cond2 v6 = 1#1), ∀ a, (k0_off16 v19) a + S1x512x1024.size a ≤ S32x512x1024.size a)
theorem k0_off11_inb : ∀ (v6 : BitVec 32) (v19 : BitVec 32) (k0_hw4 : k0_chk4 v6 v19), ∀ (k0_h2 : k0_cond2 v6 = 1#1), ∀ a, (k0_off11 v19) a + S1x1024x512.size a ≤ S32x1024x512.size a := fun v6 v19 k0_hw4 k0_h2 => k0_hw4.1 k0_h2
theorem k0_off16_inb : ∀ (v6 : BitVec 32) (v19 : BitVec 32) (k0_hw4 : k0_chk4 v6 v19), ∀ (k0_h2 : k0_cond2 v6 = 1#1), ∀ a, (k0_off16 v19) a + S1x512x1024.size a ≤ S32x512x1024.size a := fun v6 v19 k0_hw4 k0_h2 => k0_hw4.2 k0_h2

def k0_off17 (v1 : BitVec 32) : Fin 2 → Nat :=
  let c3_i32 : BitVec 32 := 3#32
  ![v1.toNat, 3]
def k0_off18 (v1 : BitVec 32) : Fin 4 → Nat :=
  let c1_i32_23 : BitVec 32 := 1#32
  let c0_i32_24 : BitVec 32 := 0#32
  let c0_i32_25 : BitVec 32 := 0#32
  ![v1.toNat, 1, 0, 0]
def k0_off19 (v21 : BitVec 32) : Fin 3 → Nat :=
  let c0_i32_26 : BitVec 32 := 0#32
  let c0_i32_27 : BitVec 32 := 0#32
  ![v21.toNat, 0, 0]

def k0_off20 (v1 : BitVec 32) : Fin 2 → Nat :=
  let c4_i32 : BitVec 32 := 4#32
  ![v1.toNat, 4]
def k0_off21 (v1 : BitVec 32) : Fin 4 → Nat :=
  let c1_i32_28 : BitVec 32 := 1#32
  let c0_i32_29 : BitVec 32 := 0#32
  let c0_i32_30 : BitVec 32 := 0#32
  ![v1.toNat, 1, 0, 0]
def k0_off22 (v1 : BitVec 32) : Fin 2 → Nat :=
  let c5_i32 : BitVec 32 := 5#32
  ![v1.toNat, 5]
def k0_off23 (v1 : BitVec 32) : Fin 4 → Nat :=
  let c1_i32_33 : BitVec 32 := 1#32
  let c0_i32_34 : BitVec 32 := 0#32
  let c0_i32_35 : BitVec 32 := 0#32
  ![v1.toNat, 1, 0, 0]

def k0_chk3 (v1 : BitVec 32) (v6 : BitVec 32) : Prop :=
  (∀ (k0_h2 : k0_cond2 v6 = 1#1), ∀ a, (k0_off9 v1) a + S1x1.size a ≤ S2x6.size a) ∧
  (∀ (k0_h2 : k0_cond2 v6 = 1#1), ∀ a, (k0_off10 v1) a + S1x1x1024x512.size a ≤ S2x2x1024x512.size a) ∧
  (∀ (k0_h2 : k0_cond2 v6 = 1#1), ∀ a, (k0_off12 v1) a + S1x1.size a ≤ S2x6.size a) ∧
  (∀ (k0_h2 : k0_cond2 v6 = 1#1), ∀ a, (k0_off13 v1) a + S1x1x1024x512.size a ≤ S2x2x1024x512.size a) ∧
  (∀ (k0_h2 : k0_cond2 v6 = 1#1), ∀ a, (k0_off14 v1) a + S1x1.size a ≤ S2x6.size a) ∧
  (∀ (k0_h2 : k0_cond2 v6 = 1#1), ∀ a, (k0_off15 v1) a + S1x1x512x1024.size a ≤ S2x2x512x1024.size a) ∧
  (∀ (k0_h2 : k0_cond2 v6 = 1#1), ∀ a, (k0_off17 v1) a + S1x1.size a ≤ S2x6.size a) ∧
  (∀ (k0_h2 : k0_cond2 v6 = 1#1), ∀ a, (k0_off18 v1) a + S1x1x1024x512.size a ≤ S2x2x1024x512.size a) ∧
  (∀ (k0_h2 : k0_cond2 v6 = 1#1), ∀ a, (k0_off20 v1) a + S1x1.size a ≤ S2x6.size a) ∧
  (∀ (k0_h2 : k0_cond2 v6 = 1#1), ∀ a, (k0_off21 v1) a + S1x1x1024x512.size a ≤ S2x2x1024x512.size a) ∧
  (∀ (k0_h2 : k0_cond2 v6 = 1#1), ∀ a, (k0_off22 v1) a + S1x1.size a ≤ S2x6.size a) ∧
  (∀ (k0_h2 : k0_cond2 v6 = 1#1), ∀ a, (k0_off23 v1) a + S1x1x512x1024.size a ≤ S2x2x512x1024.size a)
theorem k0_off9_inb : ∀ (v1 : BitVec 32) (v6 : BitVec 32) (k0_hw3 : k0_chk3 v1 v6), ∀ (k0_h2 : k0_cond2 v6 = 1#1), ∀ a, (k0_off9 v1) a + S1x1.size a ≤ S2x6.size a := fun v1 v6 k0_hw3 k0_h2 => k0_hw3.1 k0_h2
theorem k0_off10_inb : ∀ (v1 : BitVec 32) (v6 : BitVec 32) (k0_hw3 : k0_chk3 v1 v6), ∀ (k0_h2 : k0_cond2 v6 = 1#1), ∀ a, (k0_off10 v1) a + S1x1x1024x512.size a ≤ S2x2x1024x512.size a := fun v1 v6 k0_hw3 k0_h2 => k0_hw3.2.1 k0_h2
theorem k0_off12_inb : ∀ (v1 : BitVec 32) (v6 : BitVec 32) (k0_hw3 : k0_chk3 v1 v6), ∀ (k0_h2 : k0_cond2 v6 = 1#1), ∀ a, (k0_off12 v1) a + S1x1.size a ≤ S2x6.size a := fun v1 v6 k0_hw3 k0_h2 => k0_hw3.2.2.1 k0_h2
theorem k0_off13_inb : ∀ (v1 : BitVec 32) (v6 : BitVec 32) (k0_hw3 : k0_chk3 v1 v6), ∀ (k0_h2 : k0_cond2 v6 = 1#1), ∀ a, (k0_off13 v1) a + S1x1x1024x512.size a ≤ S2x2x1024x512.size a := fun v1 v6 k0_hw3 k0_h2 => k0_hw3.2.2.2.1 k0_h2
theorem k0_off14_inb : ∀ (v1 : BitVec 32) (v6 : BitVec 32) (k0_hw3 : k0_chk3 v1 v6), ∀ (k0_h2 : k0_cond2 v6 = 1#1), ∀ a, (k0_off14 v1) a + S1x1.size a ≤ S2x6.size a := fun v1 v6 k0_hw3 k0_h2 => k0_hw3.2.2.2.2.1 k0_h2
theorem k0_off15_inb : ∀ (v1 : BitVec 32) (v6 : BitVec 32) (k0_hw3 : k0_chk3 v1 v6), ∀ (k0_h2 : k0_cond2 v6 = 1#1), ∀ a, (k0_off15 v1) a + S1x1x512x1024.size a ≤ S2x2x512x1024.size a := fun v1 v6 k0_hw3 k0_h2 => k0_hw3.2.2.2.2.2.1 k0_h2
theorem k0_off17_inb : ∀ (v1 : BitVec 32) (v6 : BitVec 32) (k0_hw3 : k0_chk3 v1 v6), ∀ (k0_h2 : k0_cond2 v6 = 1#1), ∀ a, (k0_off17 v1) a + S1x1.size a ≤ S2x6.size a := fun v1 v6 k0_hw3 k0_h2 => k0_hw3.2.2.2.2.2.2.1 k0_h2
theorem k0_off18_inb : ∀ (v1 : BitVec 32) (v6 : BitVec 32) (k0_hw3 : k0_chk3 v1 v6), ∀ (k0_h2 : k0_cond2 v6 = 1#1), ∀ a, (k0_off18 v1) a + S1x1x1024x512.size a ≤ S2x2x1024x512.size a := fun v1 v6 k0_hw3 k0_h2 => k0_hw3.2.2.2.2.2.2.2.1 k0_h2
theorem k0_off20_inb : ∀ (v1 : BitVec 32) (v6 : BitVec 32) (k0_hw3 : k0_chk3 v1 v6), ∀ (k0_h2 : k0_cond2 v6 = 1#1), ∀ a, (k0_off20 v1) a + S1x1.size a ≤ S2x6.size a := fun v1 v6 k0_hw3 k0_h2 => k0_hw3.2.2.2.2.2.2.2.2.1 k0_h2
theorem k0_off21_inb : ∀ (v1 : BitVec 32) (v6 : BitVec 32) (k0_hw3 : k0_chk3 v1 v6), ∀ (k0_h2 : k0_cond2 v6 = 1#1), ∀ a, (k0_off21 v1) a + S1x1x1024x512.size a ≤ S2x2x1024x512.size a := fun v1 v6 k0_hw3 k0_h2 => k0_hw3.2.2.2.2.2.2.2.2.2.1 k0_h2
theorem k0_off22_inb : ∀ (v1 : BitVec 32) (v6 : BitVec 32) (k0_hw3 : k0_chk3 v1 v6), ∀ (k0_h2 : k0_cond2 v6 = 1#1), ∀ a, (k0_off22 v1) a + S1x1.size a ≤ S2x6.size a := fun v1 v6 k0_hw3 k0_h2 => k0_hw3.2.2.2.2.2.2.2.2.2.2.1 k0_h2
theorem k0_off23_inb : ∀ (v1 : BitVec 32) (v6 : BitVec 32) (k0_hw3 : k0_chk3 v1 v6), ∀ (k0_h2 : k0_cond2 v6 = 1#1), ∀ a, (k0_off23 v1) a + S1x1x512x1024.size a ≤ S2x2x512x1024.size a := fun v1 v6 k0_hw3 k0_h2 => k0_hw3.2.2.2.2.2.2.2.2.2.2.2 k0_h2

def k0_off24 (v21 : BitVec 32) : Fin 3 → Nat :=
  let c0_i32_36 : BitVec 32 := 0#32
  let c0_i32_37 : BitVec 32 := 0#32
  ![v21.toNat, 0, 0]

def k0_chk5 (v6 : BitVec 32) (v21 : BitVec 32) : Prop :=
  (∀ (k0_h2 : k0_cond2 v6 = 1#1), ∀ a, (k0_off19 v21) a + S1x1024x512.size a ≤ S32x1024x512.size a) ∧
  (∀ (k0_h2 : k0_cond2 v6 = 1#1), ∀ a, (k0_off24 v21) a + S1x512x1024.size a ≤ S32x512x1024.size a)
theorem k0_off19_inb : ∀ (v6 : BitVec 32) (v21 : BitVec 32) (k0_hw5 : k0_chk5 v6 v21), ∀ (k0_h2 : k0_cond2 v6 = 1#1), ∀ a, (k0_off19 v21) a + S1x1024x512.size a ≤ S32x1024x512.size a := fun v6 v21 k0_hw5 k0_h2 => k0_hw5.1 k0_h2
theorem k0_off24_inb : ∀ (v6 : BitVec 32) (v21 : BitVec 32) (k0_hw5 : k0_chk5 v6 v21), ∀ (k0_h2 : k0_cond2 v6 = 1#1), ∀ a, (k0_off24 v21) a + S1x512x1024.size a ≤ S32x512x1024.size a := fun v6 v21 k0_hw5 k0_h2 => k0_hw5.2 k0_h2

def k0_off25 (i : grid0.Coords) : Fin 2 → Nat :=
  let c4 : Index := 4#32
  let arg0 : BitVec 32 := BitVec.ofNat 32 (i 0).val
  let v58 : Index := Scalar.indexCast arg0
  ![4, v58.toNat]
def k0_off26 (i : grid0.Coords) : Fin 2 → Nat :=
  let c4_40 : Index := 4#32
  let arg0 : BitVec 32 := BitVec.ofNat 32 (i 0).val
  let v63 : Index := Scalar.indexCast arg0
  ![4, v63.toNat]
def k0_off27 (i : grid0.Coords) : Fin 2 → Nat :=
  let c5 : Index := 5#32
  let arg0 : BitVec 32 := BitVec.ofNat 32 (i 0).val
  let v65 : Index := Scalar.indexCast arg0
  ![5, v65.toNat]
def k0_off28 (v1 : BitVec 32) : Fin 2 → Nat :=
  let c1_i32_41 : BitVec 32 := 1#32
  let v67 : BitVec 32 := Scalar.subi c1_i32_41 v1
  let c0_i32_43 : BitVec 32 := 0#32
  ![v67.toNat, 0]
def k0_cond3 (v59 : BitVec 32) : BitVec 1 :=
  let c0_i32_38 : BitVec 32 := 0#32
  let v60 : BitVec 1 := Scalar.cmpi .sge v59 c0_i32_38
  let v61 : BitVec 32 := Scalar.extui v60
  let c0_i32_39 : BitVec 32 := 0#32
  let v62 : BitVec 1 := Scalar.cmpi .ne v61 c0_i32_39
  v62

def k0_off29 (v1 : BitVec 32) : Fin 4 → Nat :=
  let c1_i32_41 : BitVec 32 := 1#32
  let v67 : BitVec 32 := Scalar.subi c1_i32_41 v1
  let c0_i32_42 : BitVec 32 := 0#32
  let c0_i32_44 : BitVec 32 := 0#32
  let c0_i32_45 : BitVec 32 := 0#32
  ![v67.toNat, 0, 0, 0]
def k0_off30 (v64 : BitVec 32) : Fin 3 → Nat :=
  let c0_i32_46 : BitVec 32 := 0#32
  let c0_i32_47 : BitVec 32 := 0#32
  ![v64.toNat, 0, 0]

def k0_off31 (v1 : BitVec 32) : Fin 2 → Nat :=
  let c1_i32_41 : BitVec 32 := 1#32
  let v67 : BitVec 32 := Scalar.subi c1_i32_41 v1
  let c1_i32_49 : BitVec 32 := 1#32
  ![v67.toNat, 1]
def k0_off32 (v1 : BitVec 32) : Fin 4 → Nat :=
  let c1_i32_41 : BitVec 32 := 1#32
  let v67 : BitVec 32 := Scalar.subi c1_i32_41 v1
  let c0_i32_48 : BitVec 32 := 0#32
  let c0_i32_50 : BitVec 32 := 0#32
  let c0_i32_51 : BitVec 32 := 0#32
  ![v67.toNat, 0, 0, 0]
def k0_off33 (v1 : BitVec 32) : Fin 2 → Nat :=
  let c1_i32_41 : BitVec 32 := 1#32
  let v67 : BitVec 32 := Scalar.subi c1_i32_41 v1
  let c2_i32_55 : BitVec 32 := 2#32
  ![v67.toNat, 2]
def k0_off34 (v1 : BitVec 32) : Fin 4 → Nat :=
  let c1_i32_41 : BitVec 32 := 1#32
  let v67 : BitVec 32 := Scalar.subi c1_i32_41 v1
  let c0_i32_54 : BitVec 32 := 0#32
  let c0_i32_56 : BitVec 32 := 0#32
  let c0_i32_57 : BitVec 32 := 0#32
  ![v67.toNat, 0, 0, 0]
def k0_off35 (v64 : BitVec 32) : Fin 3 → Nat :=
  let c0_i32_58 : BitVec 32 := 0#32
  let c0_i32_59 : BitVec 32 := 0#32
  ![v64.toNat, 0, 0]

def k0_chk7 (v6 : BitVec 32) (v59 : BitVec 32) (v64 : BitVec 32) : Prop :=
  (∀ (k0_h2 : k0_cond2 v6 = 1#1), ∀ (k0_h3 : k0_cond3 v59 = 1#1), ∀ a, (k0_off30 v64) a + S1x1024x512.size a ≤ S32x1024x512.size a) ∧
  (∀ (k0_h2 : k0_cond2 v6 = 1#1), ∀ (k0_h3 : k0_cond3 v59 = 1#1), ∀ a, (k0_off35 v64) a + S1x512x1024.size a ≤ S32x512x1024.size a)
theorem k0_off30_inb : ∀ (v6 : BitVec 32) (v59 : BitVec 32) (v64 : BitVec 32) (k0_hw7 : k0_chk7 v6 v59 v64), ∀ (k0_h2 : k0_cond2 v6 = 1#1), ∀ (k0_h3 : k0_cond3 v59 = 1#1), ∀ a, (k0_off30 v64) a + S1x1024x512.size a ≤ S32x1024x512.size a := fun v6 v59 v64 k0_hw7 k0_h2 k0_h3 => k0_hw7.1 k0_h2 k0_h3
theorem k0_off35_inb : ∀ (v6 : BitVec 32) (v59 : BitVec 32) (v64 : BitVec 32) (k0_hw7 : k0_chk7 v6 v59 v64), ∀ (k0_h2 : k0_cond2 v6 = 1#1), ∀ (k0_h3 : k0_cond3 v59 = 1#1), ∀ a, (k0_off35 v64) a + S1x512x1024.size a ≤ S32x512x1024.size a := fun v6 v59 v64 k0_hw7 k0_h2 k0_h3 => k0_hw7.2 k0_h2 k0_h3

def k0_off36 (v1 : BitVec 32) : Fin 2 → Nat :=
  let c1_i32_41 : BitVec 32 := 1#32
  let v67 : BitVec 32 := Scalar.subi c1_i32_41 v1
  let c3_i32_61 : BitVec 32 := 3#32
  ![v67.toNat, 3]
def k0_off37 (v1 : BitVec 32) : Fin 4 → Nat :=
  let c1_i32_41 : BitVec 32 := 1#32
  let v67 : BitVec 32 := Scalar.subi c1_i32_41 v1
  let c1_i32_60 : BitVec 32 := 1#32
  let c0_i32_62 : BitVec 32 := 0#32
  let c0_i32_63 : BitVec 32 := 0#32
  ![v67.toNat, 1, 0, 0]
def k0_off38 (v66 : BitVec 32) : Fin 3 → Nat :=
  let c0_i32_64 : BitVec 32 := 0#32
  let c0_i32_65 : BitVec 32 := 0#32
  ![v66.toNat, 0, 0]

def k0_off39 (v1 : BitVec 32) : Fin 2 → Nat :=
  let c1_i32_41 : BitVec 32 := 1#32
  let v67 : BitVec 32 := Scalar.subi c1_i32_41 v1
  let c4_i32_67 : BitVec 32 := 4#32
  ![v67.toNat, 4]
def k0_off40 (v1 : BitVec 32) : Fin 4 → Nat :=
  let c1_i32_41 : BitVec 32 := 1#32
  let v67 : BitVec 32 := Scalar.subi c1_i32_41 v1
  let c1_i32_66 : BitVec 32 := 1#32
  let c0_i32_68 : BitVec 32 := 0#32
  let c0_i32_69 : BitVec 32 := 0#32
  ![v67.toNat, 1, 0, 0]
def k0_off41 (v1 : BitVec 32) : Fin 2 → Nat :=
  let c1_i32_41 : BitVec 32 := 1#32
  let v67 : BitVec 32 := Scalar.subi c1_i32_41 v1
  let c5_i32_73 : BitVec 32 := 5#32
  ![v67.toNat, 5]
def k0_off42 (v1 : BitVec 32) : Fin 4 → Nat :=
  let c1_i32_41 : BitVec 32 := 1#32
  let v67 : BitVec 32 := Scalar.subi c1_i32_41 v1
  let c1_i32_72 : BitVec 32 := 1#32
  let c0_i32_74 : BitVec 32 := 0#32
  let c0_i32_75 : BitVec 32 := 0#32
  ![v67.toNat, 1, 0, 0]

def k0_chk6 (v1 : BitVec 32) (v6 : BitVec 32) (v59 : BitVec 32) : Prop :=
  (∀ (k0_h2 : k0_cond2 v6 = 1#1), ∀ (k0_h3 : k0_cond3 v59 = 1#1), ∀ a, (k0_off28 v1) a + S1x1.size a ≤ S2x6.size a) ∧
  (∀ (k0_h2 : k0_cond2 v6 = 1#1), ∀ (k0_h3 : k0_cond3 v59 = 1#1), ∀ a, (k0_off29 v1) a + S1x1x1024x512.size a ≤ S2x2x1024x512.size a) ∧
  (∀ (k0_h2 : k0_cond2 v6 = 1#1), ∀ (k0_h3 : k0_cond3 v59 = 1#1), ∀ a, (k0_off31 v1) a + S1x1.size a ≤ S2x6.size a) ∧
  (∀ (k0_h2 : k0_cond2 v6 = 1#1), ∀ (k0_h3 : k0_cond3 v59 = 1#1), ∀ a, (k0_off32 v1) a + S1x1x1024x512.size a ≤ S2x2x1024x512.size a) ∧
  (∀ (k0_h2 : k0_cond2 v6 = 1#1), ∀ (k0_h3 : k0_cond3 v59 = 1#1), ∀ a, (k0_off33 v1) a + S1x1.size a ≤ S2x6.size a) ∧
  (∀ (k0_h2 : k0_cond2 v6 = 1#1), ∀ (k0_h3 : k0_cond3 v59 = 1#1), ∀ a, (k0_off34 v1) a + S1x1x512x1024.size a ≤ S2x2x512x1024.size a) ∧
  (∀ (k0_h2 : k0_cond2 v6 = 1#1), ∀ (k0_h3 : k0_cond3 v59 = 1#1), ∀ a, (k0_off36 v1) a + S1x1.size a ≤ S2x6.size a) ∧
  (∀ (k0_h2 : k0_cond2 v6 = 1#1), ∀ (k0_h3 : k0_cond3 v59 = 1#1), ∀ a, (k0_off37 v1) a + S1x1x1024x512.size a ≤ S2x2x1024x512.size a) ∧
  (∀ (k0_h2 : k0_cond2 v6 = 1#1), ∀ (k0_h3 : k0_cond3 v59 = 1#1), ∀ a, (k0_off39 v1) a + S1x1.size a ≤ S2x6.size a) ∧
  (∀ (k0_h2 : k0_cond2 v6 = 1#1), ∀ (k0_h3 : k0_cond3 v59 = 1#1), ∀ a, (k0_off40 v1) a + S1x1x1024x512.size a ≤ S2x2x1024x512.size a) ∧
  (∀ (k0_h2 : k0_cond2 v6 = 1#1), ∀ (k0_h3 : k0_cond3 v59 = 1#1), ∀ a, (k0_off41 v1) a + S1x1.size a ≤ S2x6.size a) ∧
  (∀ (k0_h2 : k0_cond2 v6 = 1#1), ∀ (k0_h3 : k0_cond3 v59 = 1#1), ∀ a, (k0_off42 v1) a + S1x1x512x1024.size a ≤ S2x2x512x1024.size a)
theorem k0_off28_inb : ∀ (v1 : BitVec 32) (v6 : BitVec 32) (v59 : BitVec 32) (k0_hw6 : k0_chk6 v1 v6 v59), ∀ (k0_h2 : k0_cond2 v6 = 1#1), ∀ (k0_h3 : k0_cond3 v59 = 1#1), ∀ a, (k0_off28 v1) a + S1x1.size a ≤ S2x6.size a := fun v1 v6 v59 k0_hw6 k0_h2 k0_h3 => k0_hw6.1 k0_h2 k0_h3
theorem k0_off29_inb : ∀ (v1 : BitVec 32) (v6 : BitVec 32) (v59 : BitVec 32) (k0_hw6 : k0_chk6 v1 v6 v59), ∀ (k0_h2 : k0_cond2 v6 = 1#1), ∀ (k0_h3 : k0_cond3 v59 = 1#1), ∀ a, (k0_off29 v1) a + S1x1x1024x512.size a ≤ S2x2x1024x512.size a := fun v1 v6 v59 k0_hw6 k0_h2 k0_h3 => k0_hw6.2.1 k0_h2 k0_h3
theorem k0_off31_inb : ∀ (v1 : BitVec 32) (v6 : BitVec 32) (v59 : BitVec 32) (k0_hw6 : k0_chk6 v1 v6 v59), ∀ (k0_h2 : k0_cond2 v6 = 1#1), ∀ (k0_h3 : k0_cond3 v59 = 1#1), ∀ a, (k0_off31 v1) a + S1x1.size a ≤ S2x6.size a := fun v1 v6 v59 k0_hw6 k0_h2 k0_h3 => k0_hw6.2.2.1 k0_h2 k0_h3
theorem k0_off32_inb : ∀ (v1 : BitVec 32) (v6 : BitVec 32) (v59 : BitVec 32) (k0_hw6 : k0_chk6 v1 v6 v59), ∀ (k0_h2 : k0_cond2 v6 = 1#1), ∀ (k0_h3 : k0_cond3 v59 = 1#1), ∀ a, (k0_off32 v1) a + S1x1x1024x512.size a ≤ S2x2x1024x512.size a := fun v1 v6 v59 k0_hw6 k0_h2 k0_h3 => k0_hw6.2.2.2.1 k0_h2 k0_h3
theorem k0_off33_inb : ∀ (v1 : BitVec 32) (v6 : BitVec 32) (v59 : BitVec 32) (k0_hw6 : k0_chk6 v1 v6 v59), ∀ (k0_h2 : k0_cond2 v6 = 1#1), ∀ (k0_h3 : k0_cond3 v59 = 1#1), ∀ a, (k0_off33 v1) a + S1x1.size a ≤ S2x6.size a := fun v1 v6 v59 k0_hw6 k0_h2 k0_h3 => k0_hw6.2.2.2.2.1 k0_h2 k0_h3
theorem k0_off34_inb : ∀ (v1 : BitVec 32) (v6 : BitVec 32) (v59 : BitVec 32) (k0_hw6 : k0_chk6 v1 v6 v59), ∀ (k0_h2 : k0_cond2 v6 = 1#1), ∀ (k0_h3 : k0_cond3 v59 = 1#1), ∀ a, (k0_off34 v1) a + S1x1x512x1024.size a ≤ S2x2x512x1024.size a := fun v1 v6 v59 k0_hw6 k0_h2 k0_h3 => k0_hw6.2.2.2.2.2.1 k0_h2 k0_h3
theorem k0_off36_inb : ∀ (v1 : BitVec 32) (v6 : BitVec 32) (v59 : BitVec 32) (k0_hw6 : k0_chk6 v1 v6 v59), ∀ (k0_h2 : k0_cond2 v6 = 1#1), ∀ (k0_h3 : k0_cond3 v59 = 1#1), ∀ a, (k0_off36 v1) a + S1x1.size a ≤ S2x6.size a := fun v1 v6 v59 k0_hw6 k0_h2 k0_h3 => k0_hw6.2.2.2.2.2.2.1 k0_h2 k0_h3
theorem k0_off37_inb : ∀ (v1 : BitVec 32) (v6 : BitVec 32) (v59 : BitVec 32) (k0_hw6 : k0_chk6 v1 v6 v59), ∀ (k0_h2 : k0_cond2 v6 = 1#1), ∀ (k0_h3 : k0_cond3 v59 = 1#1), ∀ a, (k0_off37 v1) a + S1x1x1024x512.size a ≤ S2x2x1024x512.size a := fun v1 v6 v59 k0_hw6 k0_h2 k0_h3 => k0_hw6.2.2.2.2.2.2.2.1 k0_h2 k0_h3
theorem k0_off39_inb : ∀ (v1 : BitVec 32) (v6 : BitVec 32) (v59 : BitVec 32) (k0_hw6 : k0_chk6 v1 v6 v59), ∀ (k0_h2 : k0_cond2 v6 = 1#1), ∀ (k0_h3 : k0_cond3 v59 = 1#1), ∀ a, (k0_off39 v1) a + S1x1.size a ≤ S2x6.size a := fun v1 v6 v59 k0_hw6 k0_h2 k0_h3 => k0_hw6.2.2.2.2.2.2.2.2.1 k0_h2 k0_h3
theorem k0_off40_inb : ∀ (v1 : BitVec 32) (v6 : BitVec 32) (v59 : BitVec 32) (k0_hw6 : k0_chk6 v1 v6 v59), ∀ (k0_h2 : k0_cond2 v6 = 1#1), ∀ (k0_h3 : k0_cond3 v59 = 1#1), ∀ a, (k0_off40 v1) a + S1x1x1024x512.size a ≤ S2x2x1024x512.size a := fun v1 v6 v59 k0_hw6 k0_h2 k0_h3 => k0_hw6.2.2.2.2.2.2.2.2.2.1 k0_h2 k0_h3
theorem k0_off41_inb : ∀ (v1 : BitVec 32) (v6 : BitVec 32) (v59 : BitVec 32) (k0_hw6 : k0_chk6 v1 v6 v59), ∀ (k0_h2 : k0_cond2 v6 = 1#1), ∀ (k0_h3 : k0_cond3 v59 = 1#1), ∀ a, (k0_off41 v1) a + S1x1.size a ≤ S2x6.size a := fun v1 v6 v59 k0_hw6 k0_h2 k0_h3 => k0_hw6.2.2.2.2.2.2.2.2.2.2.1 k0_h2 k0_h3
theorem k0_off42_inb : ∀ (v1 : BitVec 32) (v6 : BitVec 32) (v59 : BitVec 32) (k0_hw6 : k0_chk6 v1 v6 v59), ∀ (k0_h2 : k0_cond2 v6 = 1#1), ∀ (k0_h3 : k0_cond3 v59 = 1#1), ∀ a, (k0_off42 v1) a + S1x1x512x1024.size a ≤ S2x2x512x1024.size a := fun v1 v6 v59 k0_hw6 k0_h2 k0_h3 => k0_hw6.2.2.2.2.2.2.2.2.2.2.2 k0_h2 k0_h3

def k0_off43 (v66 : BitVec 32) : Fin 3 → Nat :=
  let c0_i32_76 : BitVec 32 := 0#32
  let c0_i32_77 : BitVec 32 := 0#32
  ![v66.toNat, 0, 0]

def k0_chk8 (v6 : BitVec 32) (v59 : BitVec 32) (v66 : BitVec 32) : Prop :=
  (∀ (k0_h2 : k0_cond2 v6 = 1#1), ∀ (k0_h3 : k0_cond3 v59 = 1#1), ∀ a, (k0_off38 v66) a + S1x1024x512.size a ≤ S32x1024x512.size a) ∧
  (∀ (k0_h2 : k0_cond2 v6 = 1#1), ∀ (k0_h3 : k0_cond3 v59 = 1#1), ∀ a, (k0_off43 v66) a + S1x512x1024.size a ≤ S32x512x1024.size a)
theorem k0_off38_inb : ∀ (v6 : BitVec 32) (v59 : BitVec 32) (v66 : BitVec 32) (k0_hw8 : k0_chk8 v6 v59 v66), ∀ (k0_h2 : k0_cond2 v6 = 1#1), ∀ (k0_h3 : k0_cond3 v59 = 1#1), ∀ a, (k0_off38 v66) a + S1x1024x512.size a ≤ S32x1024x512.size a := fun v6 v59 v66 k0_hw8 k0_h2 k0_h3 => k0_hw8.1 k0_h2 k0_h3
theorem k0_off43_inb : ∀ (v6 : BitVec 32) (v59 : BitVec 32) (v66 : BitVec 32) (k0_hw8 : k0_chk8 v6 v59 v66), ∀ (k0_h2 : k0_cond2 v6 = 1#1), ∀ (k0_h3 : k0_cond3 v59 = 1#1), ∀ a, (k0_off43 v66) a + S1x512x1024.size a ≤ S32x512x1024.size a := fun v6 v59 v66 k0_hw8 k0_h2 k0_h3 => k0_hw8.2 k0_h2 k0_h3

def k0_off44 (v1 : BitVec 32) : Fin 4 → Nat :=
  let v22 : Index := Scalar.indexCast v1
  let c0_9 : Index := 0#32
  let c0_10 : Index := 0#32
  let c0_11 : Index := 0#32
  ![v22.toNat, 0, 0, 0]
def k0_cond4 (i : grid0.Coords) (v10 : BitVec 32) : BitVec 1 :=
  let arg0 : BitVec 32 := BitVec.ofNat 32 (i 0).val
  let v11 : BitVec 1 := Scalar.cmpi .slt arg0 v10
  let v12 : BitVec 32 := Scalar.extui v11
  let c0_i32_2 : BitVec 32 := 0#32
  let v13 : BitVec 1 := Scalar.cmpi .ne v12 c0_i32_2
  v13

def k0_off45 (v1 : BitVec 32) : Fin 4 → Nat :=
  let v36 : Index := Scalar.indexCast v1
  let c0_16 : Index := 0#32
  let c0_17 : Index := 0#32
  let c0_18 : Index := 0#32
  ![v36.toNat, 0, 0, 0]
def k0_off46 (v1 : BitVec 32) : Fin 4 → Nat :=
  let v43 : Index := Scalar.indexCast v1
  let c1 : Index := 1#32
  let c0_20 : Index := 0#32
  let c0_21 : Index := 0#32
  ![v43.toNat, 1, 0, 0]
def k0_off47 (v1 : BitVec 32) : Fin 4 → Nat :=
  let v57 : Index := Scalar.indexCast v1
  let c1_27 : Index := 1#32
  let c0_28 : Index := 0#32
  let c0_29 : Index := 0#32
  ![v57.toNat, 1, 0, 0]

def k0_chk9 (i : grid0.Coords) (v1 : BitVec 32) (v10 : BitVec 32) : Prop :=
  (∀ (k0_h4 : k0_cond4 i v10 = 1#1), ∀ a, (k0_off44 v1) a + S1x1x1024x512.size a ≤ S2x2x1024x512.size a) ∧
  (∀ (k0_h4 : k0_cond4 i v10 = 1#1), ∀ a, (k0_off45 v1) a + S1x1x512x1024.size a ≤ S2x2x512x1024.size a) ∧
  (∀ (k0_h4 : k0_cond4 i v10 = 1#1), ∀ a, (k0_off46 v1) a + S1x1x1024x512.size a ≤ S2x2x1024x512.size a) ∧
  (∀ (k0_h4 : k0_cond4 i v10 = 1#1), ∀ a, (k0_off47 v1) a + S1x1x512x1024.size a ≤ S2x2x512x1024.size a)
theorem k0_off44_inb : ∀ (i : grid0.Coords) (v1 : BitVec 32) (v10 : BitVec 32) (k0_hw9 : k0_chk9 i v1 v10), ∀ (k0_h4 : k0_cond4 i v10 = 1#1), ∀ a, (k0_off44 v1) a + S1x1x1024x512.size a ≤ S2x2x1024x512.size a := fun i v1 v10 k0_hw9 k0_h4 => k0_hw9.1 k0_h4
theorem k0_off45_inb : ∀ (i : grid0.Coords) (v1 : BitVec 32) (v10 : BitVec 32) (k0_hw9 : k0_chk9 i v1 v10), ∀ (k0_h4 : k0_cond4 i v10 = 1#1), ∀ a, (k0_off45 v1) a + S1x1x512x1024.size a ≤ S2x2x512x1024.size a := fun i v1 v10 k0_hw9 k0_h4 => k0_hw9.2.1 k0_h4
theorem k0_off46_inb : ∀ (i : grid0.Coords) (v1 : BitVec 32) (v10 : BitVec 32) (k0_hw9 : k0_chk9 i v1 v10), ∀ (k0_h4 : k0_cond4 i v10 = 1#1), ∀ a, (k0_off46 v1) a + S1x1x1024x512.size a ≤ S2x2x1024x512.size a := fun i v1 v10 k0_hw9 k0_h4 => k0_hw9.2.2.1 k0_h4
theorem k0_off47_inb : ∀ (i : grid0.Coords) (v1 : BitVec 32) (v10 : BitVec 32) (k0_hw9 : k0_chk9 i v1 v10), ∀ (k0_h4 : k0_cond4 i v10 = 1#1), ∀ a, (k0_off47 v1) a + S1x1x512x1024.size a ≤ S2x2x512x1024.size a := fun i v1 v10 k0_hw9 k0_h4 => k0_hw9.2.2.2 k0_h4

def k0_cond5 (i : grid0.Coords) (v14 : BitVec 32) : BitVec 1 :=
  let arg0 : BitVec 32 := BitVec.ofNat 32 (i 0).val
  let v15 : BitVec 1 := Scalar.cmpi .sge arg0 v14
  let v16 : BitVec 32 := Scalar.extui v15
  let c0_i32_4 : BitVec 32 := 0#32
  let v17 : BitVec 1 := Scalar.cmpi .ne v16 c0_i32_4
  v17

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference3Ideal.lean ====
abbrev S64 : Shape := ⟨1, ![64]⟩
abbrev S22528x1152 : Shape := ⟨2, ![22528, 1152]⟩
abbrev S2x16x1024x512 : Shape := ⟨4, ![2, 16, 1024, 512]⟩
abbrev S2x16x512x1024 : Shape := ⟨4, ![2, 16, 512, 1024]⟩
abbrev S64x2 : Shape := ⟨2, ![64, 2]⟩
abbrev S22528x1024 : Shape := ⟨2, ![22528, 1024]⟩
abbrev S22528x2 : Shape := ⟨2, ![22528, 2]⟩
abbrev S_ : Shape := ⟨0, ![]⟩
abbrev S1x64 : Shape := ⟨2, ![1, 64]⟩
abbrev S22528 : Shape := ⟨1, ![22528]⟩
abbrev S22528x1 : Shape := ⟨2, ![22528, 1]⟩
abbrev S22528x64 : Shape := ⟨2, ![22528, 64]⟩
abbrev S22528x2x1 : Shape := ⟨3, ![22528, 2, 1]⟩
abbrev S1x1x16 : Shape := ⟨3, ![1, 1, 16]⟩
abbrev S22528x2x16 : Shape := ⟨3, ![22528, 2, 16]⟩
abbrev S22528x16 : Shape := ⟨2, ![22528, 16]⟩
abbrev S1x16x1024x512 : Shape := ⟨4, ![1, 16, 1024, 512]⟩
abbrev S16x1024x512 : Shape := ⟨3, ![16, 1024, 512]⟩
abbrev S1x16x512x1024 : Shape := ⟨4, ![1, 16, 512, 1024]⟩
abbrev S16x512x1024 : Shape := ⟨3, ![16, 512, 1024]⟩
abbrev S16x512x22528 : Shape := ⟨3, ![16, 512, 22528]⟩
abbrev S16x22528x512 : Shape := ⟨3, ![16, 22528, 512]⟩
abbrev S16x22528x1024 : Shape := ⟨3, ![16, 22528, 1024]⟩

abbrev nBuf : Space → Nat
  | .hbm => 98
  | .vmem => 0
  | .smem => 0
  | _ => 0

abbrev bufTy : (tb : Table) → Fin (tcTables nBuf tb) → BufTy
  | .hbm, ⟨0, _⟩ => ⟨S64, .i32⟩
  | .hbm, ⟨1, _⟩ => ⟨S22528x1152, .f32⟩
  | .hbm, ⟨2, _⟩ => ⟨S2x16x1024x512, .f32⟩
  | .hbm, ⟨3, _⟩ => ⟨S2x16x1024x512, .f32⟩
  | .hbm, ⟨4, _⟩ => ⟨S2x16x512x1024, .f32⟩
  | .hbm, ⟨5, _⟩ => ⟨S64x2, .i32⟩
  | .hbm, ⟨6, _⟩ => ⟨S22528x1024, .f32⟩
  | .hbm, ⟨7, _⟩ => ⟨S22528x2, .f32⟩
  | .hbm, ⟨8, _⟩ => ⟨S_, .i32⟩
  | .hbm, ⟨9, _⟩ => ⟨S64, .i32⟩
  | .hbm, ⟨10, _⟩ => ⟨S64, .i32⟩
  | .hbm, ⟨11, _⟩ => ⟨S_, .i32⟩
  | .hbm, ⟨12, _⟩ => ⟨S_, .i32⟩
  | .hbm, ⟨13, _⟩ => ⟨S64, .i32⟩
  | .hbm, ⟨14, _⟩ => ⟨S64, .i32⟩
  | .hbm, ⟨15, _⟩ => ⟨S64, .i32⟩
  | .hbm, ⟨16, _⟩ => ⟨S_, .i32⟩
  | .hbm, ⟨17, _⟩ => ⟨S64, .i32⟩
  | .hbm, ⟨18, _⟩ => ⟨S64, .i1⟩
  | .hbm, ⟨19, _⟩ => ⟨S64, .i32⟩
  | .hbm, ⟨20, _⟩ => ⟨S64, .i32⟩
  | .hbm, ⟨21, _⟩ => ⟨S_, .i32⟩
  | .hbm, ⟨22, _⟩ => ⟨S64, .i32⟩
  | .hbm, ⟨23, _⟩ => ⟨S64, .i1⟩
  | .hbm, ⟨24, _⟩ => ⟨S64, .i1⟩
  | .hbm, ⟨25, _⟩ => ⟨S_, .i32⟩
  | .hbm, ⟨26, _⟩ => ⟨S64, .i32⟩
  | .hbm, ⟨27, _⟩ => ⟨S64, .i32⟩
  | .hbm, ⟨28, _⟩ => ⟨S64, .i32⟩
  | .hbm, ⟨29, _⟩ => ⟨S_, .i32⟩
  | .hbm, ⟨30, _⟩ => ⟨S64, .i32⟩
  | .hbm, ⟨31, _⟩ => ⟨S64, .i32⟩
  | .hbm, ⟨32, _⟩ => ⟨S_, .i32⟩
  | .hbm, ⟨33, _⟩ => ⟨S_, .i32⟩
  | .hbm, ⟨34, _⟩ => ⟨S64, .i32⟩
  | .hbm, ⟨35, _⟩ => ⟨S1x64, .i32⟩
  | .hbm, ⟨36, _⟩ => ⟨S22528, .i32⟩
  | .hbm, ⟨37, _⟩ => ⟨S22528x1, .i32⟩
  | .hbm, ⟨38, _⟩ => ⟨S22528x64, .i32⟩
  | .hbm, ⟨39, _⟩ => ⟨S22528x64, .i32⟩
  | .hbm, ⟨40, _⟩ => ⟨S22528x64, .i1⟩
  | .hbm, ⟨41, _⟩ => ⟨S22528x64, .i32⟩
  | .hbm, ⟨42, _⟩ => ⟨S_, .i32⟩
  | .hbm, ⟨43, _⟩ => ⟨S22528, .i32⟩
  | .hbm, ⟨44, _⟩ => ⟨S_, .i32⟩
  | .hbm, ⟨45, _⟩ => ⟨S22528, .i32⟩
  | .hbm, ⟨46, _⟩ => ⟨S22528, .i32⟩
  | .hbm, ⟨47, _⟩ => ⟨S_, .i32⟩
  | .hbm, ⟨48, _⟩ => ⟨S22528, .i32⟩
  | .hbm, ⟨49, _⟩ => ⟨S22528, .i1⟩
  | .hbm, ⟨50, _⟩ => ⟨S_, .i32⟩
  | .hbm, ⟨51, _⟩ => ⟨S22528, .i32⟩
  | .hbm, ⟨52, _⟩ => ⟨S22528, .i32⟩
  | .hbm, ⟨53, _⟩ => ⟨S22528, .i32⟩
  | .hbm, ⟨54, _⟩ => ⟨S22528x1, .i32⟩
  | .hbm, ⟨55, _⟩ => ⟨S22528x2, .i32⟩
  | .hbm, ⟨56, _⟩ => ⟨S_, .i32⟩
  | .hbm, ⟨57, _⟩ => ⟨S22528, .i32⟩
  | .hbm, ⟨58, _⟩ => ⟨S22528, .i1⟩
  | .hbm, ⟨59, _⟩ => ⟨S22528x2x1, .i32⟩
  | .hbm, ⟨60, _⟩ => ⟨S1x1x16, .i32⟩
  | .hbm, ⟨61, _⟩ => ⟨S22528x2x16, .i32⟩
  | .hbm, ⟨62, _⟩ => ⟨S22528x2x16, .i32⟩
  | .hbm, ⟨63, _⟩ => ⟨S22528x2x16, .i1⟩
  | .hbm, ⟨64, _⟩ => ⟨S22528x2x16, .f32⟩
  | .hbm, ⟨65, _⟩ => ⟨S22528x2x1, .f32⟩
  | .hbm, ⟨66, _⟩ => ⟨S22528x2x16, .f32⟩
  | .hbm, ⟨67, _⟩ => ⟨S22528x2x16, .f32⟩
  | .hbm, ⟨68, _⟩ => ⟨S_, .f32⟩
  | .hbm, ⟨69, _⟩ => ⟨S22528x16, .f32⟩
  | .hbm, ⟨70, _⟩ => ⟨S22528x1, .i1⟩
  | .hbm, ⟨71, _⟩ => ⟨S_, .f32⟩
  | .hbm, ⟨72, _⟩ => ⟨S_, .f32⟩
  | .hbm, ⟨73, _⟩ => ⟨S22528x16, .i1⟩
  | .hbm, ⟨74, _⟩ => ⟨S22528x16, .f32⟩
  | .hbm, ⟨75, _⟩ => ⟨S22528x16, .f32⟩
  | .hbm, ⟨76, _⟩ => ⟨S1x16x1024x512, .f32⟩
  | .hbm, ⟨77, _⟩ => ⟨S16x1024x512, .f32⟩
  | .hbm, ⟨78, _⟩ => ⟨S1x16x1024x512, .f32⟩
  | .hbm, ⟨79, _⟩ => ⟨S16x1024x512, .f32⟩
  | .hbm, ⟨80, _⟩ => ⟨S1x16x512x1024, .f32⟩
  | .hbm, ⟨81, _⟩ => ⟨S16x512x1024, .f32⟩
  | .hbm, ⟨82, _⟩ => ⟨S16x512x22528, .f32⟩
  | .hbm, ⟨83, _⟩ => ⟨S16x22528x512, .f32⟩
  | .hbm, ⟨84, _⟩ => ⟨S16x22528x512, .f32⟩
  | .hbm, ⟨85, _⟩ => ⟨S16x22528x512, .f32⟩
  | .hbm, ⟨86, _⟩ => ⟨S_, .f32⟩
  | .hbm, ⟨87, _⟩ => ⟨S16x22528x512, .f32⟩
  | .hbm, ⟨88, _⟩ => ⟨S16x22528x512, .f32⟩
  | .hbm, ⟨89, _⟩ => ⟨S_, .f32⟩
  | .hbm, ⟨90, _⟩ => ⟨S16x22528x512, .f32⟩
  | .hbm, ⟨91, _⟩ => ⟨S16x22528x512, .f32⟩
  | .hbm, ⟨92, _⟩ => ⟨S16x22528x512, .f32⟩
  | .hbm, ⟨93, _⟩ => ⟨S16x512x22528, .f32⟩
  | .hbm, ⟨94, _⟩ => ⟨S16x22528x512, .f32⟩
  | .hbm, ⟨95, _⟩ => ⟨S16x22528x512, .f32⟩
  | .hbm, ⟨96, _⟩ => ⟨S16x22528x1024, .f32⟩
  | .hbm, ⟨97, _⟩ => ⟨S22528x1024, .f32⟩
  | _, _ => ⟨S64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_c_2 : Ref sig .tc := ⟨.hbm, 29, rfl⟩
abbrev main_v5 : Ref sig .tc := ⟨.hbm, 30, rfl⟩
abbrev main_v6 : Ref sig .tc := ⟨.hbm, 31, rfl⟩
abbrev main_call1_call0_c : Ref sig .tc := ⟨.hbm, 32, rfl⟩
abbrev main_call1_call0_v0 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_c_3 : Ref sig .tc := ⟨.hbm, 42, rfl⟩
abbrev main_v15 : Ref sig .tc := ⟨.hbm, 43, rfl⟩
abbrev main_c_4 : Ref sig .tc := ⟨.hbm, 44, rfl⟩
abbrev main_v16 : Ref sig .tc := ⟨.hbm, 45, rfl⟩
abbrev main_v17 : Ref sig .tc := ⟨.hbm, 46, rfl⟩
abbrev main_c_5 : Ref sig .tc := ⟨.hbm, 47, rfl⟩
abbrev main_v18 : Ref sig .tc := ⟨.hbm, 48, rfl⟩
abbrev main_v19 : Ref sig .tc := ⟨.hbm, 49, rfl⟩
abbrev main_c_6 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_c_7 : Ref sig .tc := ⟨.hbm, 56, rfl⟩
abbrev main_v25 : Ref sig .tc := ⟨.hbm, 57, rfl⟩
abbrev main_v26 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_cst : Ref sig .tc := ⟨.hbm, 68, rfl⟩
abbrev main_v31 : Ref sig .tc := ⟨.hbm, 69, rfl⟩
abbrev main_v32 : Ref sig .tc := ⟨.hbm, 70, rfl⟩
abbrev main_cst_8 : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_call4_v0 : Ref sig .tc := ⟨.hbm, 84, rfl⟩
abbrev main_call4_v1 : Ref sig .tc := ⟨.hbm, 85, rfl⟩
abbrev main_call4_cst : Ref sig .tc := ⟨.hbm, 86, rfl⟩
abbrev main_call4_v2 : Ref sig .tc := ⟨.hbm, 87, rfl⟩
abbrev main_call4_v3 : Ref sig .tc := ⟨.hbm, 88, rfl⟩
abbrev main_call4_cst_0 : Ref sig .tc := ⟨.hbm, 89, rfl⟩
abbrev main_call4_v4 : Ref sig .tc := ⟨.hbm, 90, rfl⟩
abbrev main_call4_v5 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩

abbrev nD : Nat := 1
abbrev τ : Topo := Topo.v7x

variable {F : FTy → Type} [FloatOps F]
-- ==== Proof.Lane.lean ====
/- One lane of the weight buffers: a slot's block of one weight buffer, the slab of the weights it is
   filled from, and the semaphore of the copy between them. A lane is free (its block at any contents),
   in flight (a copy of one expert's slab is under way) or full (its block reads as that slab). -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Transfers
public import Idealize.ShloMosaic.Lib.Tactic

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
abbrev EC : UEmb Counters 𝕄 := countersEmb (U := Pipeline.UD sig nD τ)

/-! ## One lane, of any two views of one shape -/

section Lane

variable (c : Dev nD) {s : Shape} {e : EltTy} {sp sp' : Space}

/-- The block at any contents. -/
def blockAny (dst : Memref sig .tc sp' s e) : sProp 𝕄 :=
  iprop(∃ f, dst.view.loc (c : Thread nD τ) ↦[dst.view.set]{fullShare} f)

/-- The block reading as `w`. -/
def blockIs (dst : Memref sig .tc sp' s e) (w : s.Idx → Elt F e) : sProp 𝕄 :=
  iprop(∃ f, (dst.view.loc (c : Thread nD τ) ↦[dst.view.set]{fullShare} f) ∗ ⌜dst.view.read (Elt F) f = w⌝)

/-- A copy of the slab `src` into the block is under way, and the share of the weights it reads. -/
def flying (dst : Memref sig .tc sp' s e) (src : Memref sig .tc sp s e) (q : PosShare TreeShare)
    (V : Buf (Elt F) (src.view.loc (c : Thread nD τ))) (sm : DmaSem sig) : sProp 𝕄 :=
  iprop(Transfers.Flight EC (c : Thread nD τ) (.dma sm) () dst.view.dmaCredit
      iprop(blockIs c dst (src.view.read (Elt F) V) ∗ (src.view.loc (c : Thread nD τ) ↦[src.view.set]{q} V))
    ∗ (src.view.loc (c : Thread nD τ) ↦[Finset.univ \ src.view.set]{q} V))

theorem blockIs_any (dst : Memref sig .tc sp' s e) (w : s.Idx → Elt F e) :
    (blockIs (F := F) c dst w) ⊢ blockAny c dst := by
  unfold blockIs blockAny
  iintro ⟨%f, H, -⟩
  iexists f; iexact H

variable {Q : PUnit → sProp 𝕄}

/-- Starting a copy into a free lane. -/
theorem lane_start (dst : Memref sig .tc sp' s e) (src : Memref sig .tc sp s e) (q : PosShare TreeShare)
    (V : Buf (Elt F) (src.view.loc (c : Thread nD τ))) (sm : DmaSem sig) (hpos : 0 < dst.view.dmaCredit)
    {hsrc : src.view.WordExact} {hdst : dst.view.WordExact} {hsem : DmaTarget.Typed (nD := nD) (τ := τ) (p := .tc) sp (.dma sm) (.here dst)}
    {α : Type} {k : PUnit → Prog (TpuEff nD τ sig (Elt F) Λ₀ .tc) α} {Q : α → sProp 𝕄} :
    iprop(blockAny c dst ∗ (src.view.loc (c : Thread nD τ) ↦{q} V) ∗ semVal ((c : Thread nD τ), .dma sm) 0)
      ⊢ iprop((flying c dst src q V sm -∗ wp frame (wpE (defs₀ (F := F)) Variants.none c none) Set.univ (k ⟨⟩) Q)
          -∗ wp frame (wpE (defs₀ (F := F)) Variants.none c none) Set.univ
              (.op (.enqueueDmaAs src (.here dst) .same (.dma sm) hsrc hdst hsem) k) Q) := by
  unfold blockAny
  iintro ⟨⟨%f, Hd⟩, Hs, Hv⟩ Hk
  ihave Hs' := (pointsTo_split_subset (Finset.subset_univ src.view.set)).1 $$ Hs
  icases Hs' with ⟨Hs, Hrest⟩
  iapply (Transfers.wp_dmaLocal EC Variants.none (c : Thread nD τ) none () dst.view.dmaCredit rfl hpos subset_rfl) $$ [Hs Hd Hv]
  · isplitl [Hs]; · iexact Hs
    isplitl [Hd] <;> iassumption
  iintro Hf
  iapply Hk
  unfold flying
  isplitl [Hf]
  · iapply (Transfers.Flight_mono EC (c : Thread nD τ) ?mono) $$ Hf
    case mono =>
      unfold blockIs
      iintro ⟨Hd, Hs⟩
      isplitl [Hd]
      · iexists _; isplitl [Hd]; · iexact Hd
        ipureintro
        funext x
        exact View.read_write_of_mem (v := dst.view) _ _ (Finset.mem_univ x)
      iexact Hs
  iexact Hrest

/-- Waiting for the copy: the lane is full. -/
theorem lane_wait (dst : Memref sig .tc sp' s e) (src : Memref sig .tc sp s e) (q : PosShare TreeShare)
    (V : Buf (Elt F) (src.view.loc (c : Thread nD τ))) (sm : DmaSem sig) {s' : Shape} {e' : EltTy} {sp₀ : Space}
    {srcw : Memref sig (c : Thread nD τ).2.kind sp₀ s' e'} {hsrc : srcw.view.WordExact} {hdst : dst.view.WordExact}
    {α : Type} {k : PUnit → Prog (TpuEff nD τ sig (Elt F) Λ₀ .tc) α} {Q : α → sProp 𝕄} {W : Waits sig Unit} :
    iprop(flying c dst src q V sm ∗ owes (c : Thread nD τ) 0 W)
      ⊢ iprop((iprop(blockIs c dst (src.view.read (Elt F) V) ∗ (src.view.loc (c : Thread nD τ) ↦{q} V)
              ∗ semVal ((c : Thread nD τ), .dma sm) 0 ∗ ∃ W', owes (c : Thread nD τ) 0 W')
            -∗ wp frame (wpE (defs₀ (F := F)) Variants.none c none) Set.univ (k ⟨⟩) Q)
          -∗ wp frame (wpE (defs₀ (F := F)) Variants.none c none) Set.univ
              (.op (.waitDma2 sm srcw dst hsrc hdst) k) Q) := by
  unfold flying
  iintro ⟨⟨Hf, Hrest⟩, HW⟩ Hk
  iapply (Transfers.wp_waitLocal EC Variants.none (c : Thread nD τ) none () rfl) $$ [Hf HW]
  · isplitl [Hf] <;> iassumption
  iintro ⟨⟨Hd, Hs⟩, Hv, HW⟩
  iapply Hk
  isplitl [Hd]; · iexact Hd
  isplitl [Hs Hrest]
  · iapply (pointsTo_split_subset (Finset.subset_univ src.view.set)).2
    isplitl [Hs]; · iexact Hs
    iexact Hrest
  isplitl [Hv]; · iexact Hv
  iexists _; iexact HW

end Lane

/-! ## The kernel's own buffers -/

/-- The weight buffers of the two slots: the gate and up projections and the down projection. -/
abbrev wb1 : Memref sig .tc .vmem S2x2x1024x512 .f32 := Memref.whole cc0_scratch0
abbrev wb3 : Memref sig .tc .vmem S2x2x1024x512 .f32 := Memref.whole cc0_scratch1
abbrev wb2 : Memref sig .tc .vmem S2x2x512x1024 .f32 := Memref.whole cc0_scratch2
/-- The experts' weights, both layers' experts along the leading axis. -/
abbrev hw1 : Memref sig .tc .hbm S32x1024x512 .f32 := Memref.whole main_v0
abbrev hw3 : Memref sig .tc .hbm S32x1024x512 .f32 := Memref.whole main_v1
abbrev hw2 : Memref sig .tc .hbm S32x512x1024 .f32 := Memref.whole main_v2

/-- Expert `k` of slot `s`: its block of a weight buffer. -/
abbrev offD (s k : Fin 2) : Fin 4 → ℕ := ![s.val, k.val, 0, 0]
/-- The weights of expert `e`. -/
abbrev offS (e : Fin 32) : Fin 3 → ℕ := ![e.val, 0, 0]
/-- The semaphore of copy `j` for expert `k` of slot `s`. -/
abbrev offC (s k : Fin 2) (j : Fin 3) : Fin 2 → ℕ := ![s.val, 3 * k.val + j.val]

abbrev dA (M : Memref sig .tc .vmem S2x2x1024x512 .f32) (o : Fin 4 → ℕ) (h : ∀ a, o a + S1x1x1024x512.size a ≤ S2x2x1024x512.size a) :
    Memref sig .tc .vmem S1024x512 .f32 :=
  (M.slice (Rect.unit (s := S2x2x1024x512) o S1x1x1024x512.size h) (fun _ => rfl)).squeeze S1024x512 squeezes_S1x1x1024x512_S1024x512
abbrev dB (M : Memref sig .tc .vmem S2x2x512x1024 .f32) (o : Fin 4 → ℕ) (h : ∀ a, o a + S1x1x512x1024.size a ≤ S2x2x512x1024.size a) :
    Memref sig .tc .vmem S512x1024 .f32 :=
  (M.slice (Rect.unit (s := S2x2x512x1024) o S1x1x512x1024.size h) (fun _ => rfl)).squeeze S512x1024 squeezes_S1x1x512x1024_S512x1024
abbrev sA (M : Memref sig .tc .hbm S32x1024x512 .f32) (o : Fin 3 → ℕ) (h : ∀ a, o a + S1x1024x512.size a ≤ S32x1024x512.size a) :
    Memref sig .tc .hbm S1024x512 .f32 :=
  (M.slice (Rect.unit (s := S32x1024x512) o S1x1024x512.size h) (fun _ => rfl)).squeeze S1024x512 squeezes_S1x1024x512_S1024x512
abbrev sB (M : Memref sig .tc .hbm S32x512x1024 .f32) (o : Fin 3 → ℕ) (h : ∀ a, o a + S1x512x1024.size a ≤ S32x512x1024.size a) :
    Memref sig .tc .hbm S512x1024 .f32 :=
  (M.slice (Rect.unit (s := S32x512x1024) o S1x512x1024.size h) (fun _ => rfl)).squeeze S512x1024 squeezes_S1x512x1024_S512x1024
abbrev cellAt (o : Fin 2 → ℕ) (h : ∀ a, o a + S1x1.size a ≤ S2x6.size a) : DmaSem sig :=
  SemArray.sem (SemArray.squeeze (SemArray.slice cc0_scratch3 (Rect.unit (s := S2x6) o S1x1.size h)) S_ squeezes_S1x1_S_)

theorem inbDA (s k : Fin 2) : ∀ a, offD s k a + S1x1x1024x512.size a ≤ S2x2x1024x512.size a := by
  revert s k; decide
theorem inbDB (s k : Fin 2) : ∀ a, offD s k a + S1x1x512x1024.size a ≤ S2x2x512x1024.size a := by
  revert s k; decide
theorem inbSA (e : Fin 32) : ∀ a, offS e a + S1x1024x512.size a ≤ S32x1024x512.size a := by
  revert e; decide
theorem inbSB (e : Fin 32) : ∀ a, offS e a + S1x512x1024.size a ≤ S32x512x1024.size a := by
  revert e; decide
theorem inbC (s k : Fin 2) (j : Fin 3) : ∀ a, offC s k j a + S1x1.size a ≤ S2x6.size a := by
  revert s k j; decide

/-- The share of the weights that the copies for expert `k` of slot `s` read by: a quarter. -/
def qr : Fin 2 → Fin 2 → PosShare TreeShare
  | 0, 0 => fullShare.left.left
  | 0, 1 => fullShare.left.right
  | 1, 0 => fullShare.right.left
  | 1, 1 => fullShare.right.right

section Slots

variable (c : Dev nD) (V : (b : Ref sig .tc) → Buf (Elt F) ((c : Thread nD τ).loc b))

/-- A lane of each kind, free, in flight and full. -/
def freeA (M : Memref sig .tc .vmem S2x2x1024x512 .f32) (hb : Memref sig .tc .hbm S32x1024x512 .f32) (v : Buf (Elt F) (hb.view.loc (c : Thread nD τ)))
    (j : Fin 3) (s k : Fin 2) : sProp 𝕄 :=
  iprop(blockAny c (dA M (offD s k) (inbDA s k)) ∗ (hb.view.loc (c : Thread nD τ) ↦{qr s k} v)
    ∗ semVal ((c : Thread nD τ), .dma (cellAt (offC s k j) (inbC s k j))) 0)
def freeB (M : Memref sig .tc .vmem S2x2x512x1024 .f32) (hb : Memref sig .tc .hbm S32x512x1024 .f32) (v : Buf (Elt F) (hb.view.loc (c : Thread nD τ)))
    (j : Fin 3) (s k : Fin 2) : sProp 𝕄 :=
  iprop(blockAny c (dB M (offD s k) (inbDB s k)) ∗ (hb.view.loc (c : Thread nD τ) ↦{qr s k} v)
    ∗ semVal ((c : Thread nD τ), .dma (cellAt (offC s k j) (inbC s k j))) 0)
def flyA (M : Memref sig .tc .vmem S2x2x1024x512 .f32) (hb : Memref sig .tc .hbm S32x1024x512 .f32) (v : Buf (Elt F) (hb.view.loc (c : Thread nD τ)))
    (j : Fin 3) (s k : Fin 2) (e : Fin 32) : sProp 𝕄 :=
  flying c (dA M (offD s k) (inbDA s k)) (sA hb (offS e) (inbSA e)) (qr s k) v (cellAt (offC s k j) (inbC s k j))
def flyB (M : Memref sig .tc .vmem S2x2x512x1024 .f32) (hb : Memref sig .tc .hbm S32x512x1024 .f32) (v : Buf (Elt F) (hb.view.loc (c : Thread nD τ)))
    (j : Fin 3) (s k : Fin 2) (e : Fin 32) : sProp 𝕄 :=
  flying c (dB M (offD s k) (inbDB s k)) (sB hb (offS e) (inbSB e)) (qr s k) v (cellAt (offC s k j) (inbC s k j))
def fullA (M : Memref sig .tc .vmem S2x2x1024x512 .f32) (hb : Memref sig .tc .hbm S32x1024x512 .f32) (v : Buf (Elt F) (hb.view.loc (c : Thread nD τ)))
    (j : Fin 3) (s k : Fin 2) (e : Fin 32) : sProp 𝕄 :=
  iprop(blockIs c (dA M (offD s k) (inbDA s k)) ((sA hb (offS e) (inbSA e)).view.read (Elt F) v) ∗ (hb.view.loc (c : Thread nD τ) ↦{qr s k} v)
    ∗ semVal ((c : Thread nD τ), .dma (cellAt (offC s k j) (inbC s k j))) 0)
def fullB (M : Memref sig .tc .vmem S2x2x512x1024 .f32) (hb : Memref sig .tc .hbm S32x512x1024 .f32) (v : Buf (Elt F) (hb.view.loc (c : Thread nD τ)))
    (j : Fin 3) (s k : Fin 2) (e : Fin 32) : sProp 𝕄 :=
  iprop(blockIs c (dB M (offD s k) (inbDB s k)) ((sB hb (offS e) (inbSB e)).view.read (Elt F) v) ∗ (hb.view.loc (c : Thread nD τ) ↦{qr s k} v)
    ∗ semVal ((c : Thread nD τ), .dma (cellAt (offC s k j) (inbC s k j))) 0)

theorem fullA_free (M : Memref sig .tc .vmem S2x2x1024x512 .f32) (hb : Memref sig .tc .hbm S32x1024x512 .f32) (v : Buf (Elt F) (hb.view.loc (c : Thread nD τ)))
    (j : Fin 3) (s k : Fin 2) (e : Fin 32) : fullA c M hb v j s k e ⊢ freeA c M hb v j s k := by
  unfold fullA freeA
  iintro ⟨H, Hr⟩
  isplitl [H]; · iapply (blockIs_any c _ _) $$ H
  iexact Hr
theorem fullB_free (M : Memref sig .tc .vmem S2x2x512x1024 .f32) (hb : Memref sig .tc .hbm S32x512x1024 .f32) (v : Buf (Elt F) (hb.view.loc (c : Thread nD τ)))
    (j : Fin 3) (s k : Fin 2) (e : Fin 32) : fullB c M hb v j s k e ⊢ freeB c M hb v j s k := by
  unfold fullB freeB
  iintro ⟨H, Hr⟩
  isplitl [H]; · iapply (blockIs_any c _ _) $$ H
  iexact Hr

/-- The three lanes of expert `k` of slot `s`. -/
def kFree (s k : Fin 2) : sProp 𝕄 :=
  iprop(freeA c wb1 hw1 (V main_v0) 0 s k ∗ freeA c wb3 hw3 (V main_v1) 1 s k ∗ freeB c wb2 hw2 (V main_v2) 2 s k)
def kFly (s k : Fin 2) (e : Fin 32) : sProp 𝕄 :=
  iprop(flyA c wb1 hw1 (V main_v0) 0 s k e ∗ flyA c wb3 hw3 (V main_v1) 1 s k e ∗ flyB c wb2 hw2 (V main_v2) 2 s k e)
def kFull (s k : Fin 2) (e : Fin 32) : sProp 𝕄 :=
  iprop(fullA c wb1 hw1 (V main_v0) 0 s k e ∗ fullA c wb3 hw3 (V main_v1) 1 s k e ∗ fullB c wb2 hw2 (V main_v2) 2 s k e)

/-- A slot's six lanes: free, in flight or full, of the experts `e₀` and `e₁`. -/
def sFree (s : Fin 2) : sProp 𝕄 := iprop(kFree c V s 0 ∗ kFree c V s 1)
def sFly (s : Fin 2) (e₀ e₁ : Fin 32) : sProp 𝕄 := iprop(kFly c V s 0 e₀ ∗ kFly c V s 1 e₁)
def sFull (s : Fin 2) (e₀ e₁ : Fin 32) : sProp 𝕄 := iprop(kFull c V s 0 e₀ ∗ kFull c V s 1 e₁)

theorem kFull_free (s k : Fin 2) (e : Fin 32) : kFull c V s k e ⊢ kFree c V s k := by
  unfold kFull kFree
  iintro ⟨H1, H3, H2⟩
  isplitl [H1]; · iapply (fullA_free c _ _ _ _ _ _ _) $$ H1
  isplitl [H3]; · iapply (fullA_free c _ _ _ _ _ _ _) $$ H3
  iapply (fullB_free c _ _ _ _ _ _ _) $$ H2

theorem sFull_free (s : Fin 2) (e₀ e₁ : Fin 32) : sFull c V s e₀ e₁ ⊢ sFree c V s := by
  unfold sFull sFree
  iintro ⟨H0, H1⟩
  isplitl [H0]; · iapply (kFull_free c V _ _ _) $$ H0
  iapply (kFull_free c V _ _ _) $$ H1

/-! ## The copies as the program states them: at offsets equal to a lane's -/

theorem posA : 0 < S1024x512.numel := by decide
theorem posB : 0 < S512x1024.numel := by decide

theorem startA {α : Type} {k' : PUnit → Prog (TpuEff nD τ sig (Elt F) Λ₀ .tc) α} {Q : α → sProp 𝕄} (M : Memref sig .tc .vmem S2x2x1024x512 .f32) (hb : Memref sig .tc .hbm S32x1024x512 .f32) (v : Buf (Elt F) (hb.view.loc (c : Thread nD τ)))
    (j : Fin 3) (s k : Fin 2) (e : Fin 32) {o : Fin 4 → ℕ} {ho : ∀ a, o a + S1x1x1024x512.size a ≤ S2x2x1024x512.size a} {os : Fin 3 → ℕ} {hos : ∀ a, os a + S1x1024x512.size a ≤ S32x1024x512.size a} {oc : Fin 2 → ℕ} {hoc : ∀ a, oc a + S1x1.size a ≤ S2x6.size a} {hsrc : (sA hb os hos).view.WordExact} {hdst : (dA M o ho).view.WordExact}
    {hsem : DmaTarget.Typed (nD := nD) (τ := τ) (p := .tc) .hbm (.dma (cellAt oc hoc)) (.here (dA M o ho))}
    (h1 : o = offD s k) (h2 : os = offS e) (h3 : oc = offC s k j) :
    freeA c M hb v j s k
      ⊢ iprop((flyA c M hb v j s k e -∗ wp frame (wpE (defs₀ (F := F)) Variants.none c none) Set.univ (k' ⟨⟩) Q)
          -∗ wp frame (wpE (defs₀ (F := F)) Variants.none c none) Set.univ
              (.op (.enqueueDmaAs (sA hb os hos) (.here (dA M o ho)) .same (.dma (cellAt oc hoc)) hsrc hdst hsem) k') Q) := by
  subst h1 h2 h3
  unfold freeA flyA
  exact lane_start c (dA M (offD s k) ho) (sA hb (offS e) hos) (qr s k) v (cellAt (offC s k j) hoc) (View.amount_pos _ (.dma (cellAt (offC s k j) hoc)) posA)

theorem startB {α : Type} {k' : PUnit → Prog (TpuEff nD τ sig (Elt F) Λ₀ .tc) α} {Q : α → sProp 𝕄} (M : Memref sig .tc .vmem S2x2x512x1024 .f32) (hb : Memref sig .tc .hbm S32x512x1024 .f32) (v : Buf (Elt F) (hb.view.loc (c : Thread nD τ)))
    (j : Fin 3) (s k : Fin 2) (e : Fin 32) {o : Fin 4 → ℕ} {ho : ∀ a, o a + S1x1x512x1024.size a ≤ S2x2x512x1024.size a} {os : Fin 3 → ℕ} {hos : ∀ a, os a + S1x512x1024.size a ≤ S32x512x1024.size a} {oc : Fin 2 → ℕ} {hoc : ∀ a, oc a + S1x1.size a ≤ S2x6.size a} {hsrc : (sB hb os hos).view.WordExact} {hdst : (dB M o ho).view.WordExact}
    {hsem : DmaTarget.Typed (nD := nD) (τ := τ) (p := .tc) .hbm (.dma (cellAt oc hoc)) (.here (dB M o ho))}
    (h1 : o = offD s k) (h2 : os = offS e) (h3 : oc = offC s k j) :
    freeB c M hb v j s k
      ⊢ iprop((flyB c M hb v j s k e -∗ wp frame (wpE (defs₀ (F := F)) Variants.none c none) Set.univ (k' ⟨⟩) Q)
          -∗ wp frame (wpE (defs₀ (F := F)) Variants.none c none) Set.univ
              (.op (.enqueueDmaAs (sB hb os hos) (.here (dB M o ho)) .same (.dma (cellAt oc hoc)) hsrc hdst hsem) k') Q) := by
  subst h1 h2 h3
  unfold freeB flyB
  exact lane_start c (dB M (offD s k) ho) (sB hb (offS e) hos) (qr s k) v (cellAt (offC s k j) hoc) (View.amount_pos _ (.dma (cellAt (offC s k j) hoc)) posB)

theorem waitA {α : Type} {k' : PUnit → Prog (TpuEff nD τ sig (Elt F) Λ₀ .tc) α} {Q : α → sProp 𝕄} (M : Memref sig .tc .vmem S2x2x1024x512 .f32) (hb : Memref sig .tc .hbm S32x1024x512 .f32) (v : Buf (Elt F) (hb.view.loc (c : Thread nD τ)))
    (j : Fin 3) (s k : Fin 2) (e : Fin 32) {o : Fin 4 → ℕ} {ho : ∀ a, o a + S1x1x1024x512.size a ≤ S2x2x1024x512.size a} {oc : Fin 2 → ℕ} {hoc : ∀ a, oc a + S1x1.size a ≤ S2x6.size a} {s' : Shape} {e' : EltTy} {sp₀ : Space}
    {srcw : Memref sig .tc sp₀ s' e'} {hsrc : srcw.view.WordExact} {hdst : (dA M o ho).view.WordExact}
    (h1 : o = offD s k) (h3 : oc = offC s k j) :
    iprop(flyA c M hb v j s k e ∗ ∃ W, owes (c : Thread nD τ) 0 W)
      ⊢ iprop((iprop(fullA c M hb v j s k e ∗ ∃ W, owes (c : Thread nD τ) 0 W) -∗ wp frame (wpE (defs₀ (F := F)) Variants.none c none) Set.univ (k' ⟨⟩) Q)
          -∗ wp frame (wpE (defs₀ (F := F)) Variants.none c none) Set.univ
              (.op (.waitDma2 (cellAt oc hoc) srcw (dA M o ho) hsrc hdst) k') Q) := by
  subst h1 h3
  unfold flyA fullA
  iintro ⟨Hf, ⟨%W, HW⟩⟩ Hk
  iapply (lane_wait c (dA M (offD s k) ho) (sA hb (offS e) (inbSA e)) (qr s k) v (cellAt (offC s k j) hoc)) $$ [Hf HW]
  · isplitl [Hf]; · iexact Hf
    iexact HW
  iintro ⟨H1, H2, H3, H4⟩
  iapply Hk
  isplitl [H1 H2 H3]
  · isplitl [H1]; · iexact H1
    isplitl [H2]; · iexact H2
    iexact H3
  iexact H4

theorem waitB {α : Type} {k' : PUnit → Prog (TpuEff nD τ sig (Elt F) Λ₀ .tc) α} {Q : α → sProp 𝕄} (M : Memref sig .tc .vmem S2x2x512x1024 .f32) (hb : Memref sig .tc .hbm S32x512x1024 .f32) (v : Buf (Elt F) (hb.view.loc (c : Thread nD τ)))
    (j : Fin 3) (s k : Fin 2) (e : Fin 32) {o : Fin 4 → ℕ} {ho : ∀ a, o a + S1x1x512x1024.size a ≤ S2x2x512x1024.size a} {oc : Fin 2 → ℕ} {hoc : ∀ a, oc a + S1x1.size a ≤ S2x6.size a} {s' : Shape} {e' : EltTy} {sp₀ : Space}
    {srcw : Memref sig .tc sp₀ s' e'} {hsrc : srcw.view.WordExact} {hdst : (dB M o ho).view.WordExact}
    (h1 : o = offD s k) (h3 : oc = offC s k j) :
    iprop(flyB c M hb v j s k e ∗ ∃ W, owes (c : Thread nD τ) 0 W)
      ⊢ iprop((iprop(fullB c M hb v j s k e ∗ ∃ W, owes (c : Thread nD τ) 0 W) -∗ wp frame (wpE (defs₀ (F := F)) Variants.none c none) Set.univ (k' ⟨⟩) Q)
          -∗ wp frame (wpE (defs₀ (F := F)) Variants.none c none) Set.univ
              (.op (.waitDma2 (cellAt oc hoc) srcw (dB M o ho) hsrc hdst) k') Q) := by
  subst h1 h3
  unfold flyB fullB
  iintro ⟨Hf, ⟨%W, HW⟩⟩ Hk
  iapply (lane_wait c (dB M (offD s k) ho) (sB hb (offS e) (inbSB e)) (qr s k) v (cellAt (offC s k j) hoc)) $$ [Hf HW]
  · isplitl [Hf]; · iexact Hf
    iexact HW
  iintro ⟨H1, H2, H3, H4⟩
  iapply Hk
  isplitl [H1 H2 H3]
  · isplitl [H1]; · iexact H1
    isplitl [H2]; · iexact H2
    iexact H3
  iexact H4

/-! ## Reading a full lane's block -/

/-- What a load of a block brings: the expert's slab, at the block's shape. -/
def slabA (hb : Memref sig .tc .hbm S32x1024x512 .f32) (v : Buf (Elt F) (hb.view.loc (c : Thread nD τ))) (e : Fin 32) : Vec F S1x1x1024x512 .f32 :=
  fun x => (sA hb (offS e) (inbSA e)).view.read (Elt F) v ((Shape.reshapeEquiv squeezes_S1x1x1024x512_S1024x512.numel_eq).symm x)
def slabB (hb : Memref sig .tc .hbm S32x512x1024 .f32) (v : Buf (Elt F) (hb.view.loc (c : Thread nD τ))) (e : Fin 32) : Vec F S1x1x512x1024 .f32 :=
  fun x => (sB hb (offS e) (inbSB e)).view.read (Elt F) v ((Shape.reshapeEquiv squeezes_S1x1x512x1024_S512x1024.numel_eq).symm x)

theorem loadA {α : Type} {Q : α → sProp 𝕄} (M : Memref sig .tc .vmem S2x2x1024x512 .f32) (hb : Memref sig .tc .hbm S32x1024x512 .f32) (v : Buf (Elt F) (hb.view.loc (c : Thread nD τ)))
    (j : Fin 3) (s k : Fin 2) (e : Fin 32) {o : Fin 4 → ℕ} {ho : ∀ a, o a + S1x1x1024x512.size a ≤ S2x2x1024x512.size a} {hl}
    {k' : (S1x1x1024x512.Idx → Elt F .f32) → Prog (TpuEff nD τ sig (Elt F) Λ₀ .tc) α}
    (h1 : o = offD s k) :
    fullA c M hb v j s k e
      ⊢ iprop((fullA c M hb v j s k e -∗ wp frame (wpE (defs₀ (F := F)) Variants.none c none) Set.univ (k' (slabA c hb v e)) Q)
          -∗ wp frame (wpE (defs₀ (F := F)) Variants.none c none) Set.univ
              (.op (.load M (Rect.unit (s := S2x2x1024x512) o S1x1x1024x512.size ho).toLoadRect hl) k') Q) := by
  subst h1
  unfold fullA blockIs
  iintro ⟨⟨%f, Hd, %hf⟩, Hr⟩ Hk
  iapply (wp_load_rect Variants.none (c : Thread nD τ) none Set.univ
    (m := M) (r := Rect.unit (s := S2x2x1024x512) (offD s k) S1x1x1024x512.size ho) (S := (dA M (offD s k) ho).view.set)
    (View.set_reshape (M.access (Rect.unit (s := S2x2x1024x512) (offD s k) S1x1x1024x512.size ho)) squeezes_S1x1x1024x512_S1024x512.numel_eq).ge) $$ [Hd]
  · iexact Hd
  iintro Hd
  rw [show (M.access (Rect.unit (s := S2x2x1024x512) (offD s k) S1x1x1024x512.size ho)).read (Elt F) f = slabA c hb v e from by
    funext x
    unfold slabA
    rw [← hf, View.read_apply, View.read_apply]
    show _ = cast _ (f (M.view.emb ((Rect.unit (s := S2x2x1024x512) (offD s k) S1x1x1024x512.size ho).emb (Shape.reshapeEquiv squeezes_S1x1x1024x512_S1024x512.numel_eq ((Shape.reshapeEquiv squeezes_S1x1x1024x512_S1024x512.numel_eq).symm x)))))
    rw [Equiv.apply_symm_apply]
    rfl]
  iapply Hk
  isplitl [Hd]
  · iexists f; isplitl [Hd]; · iexact Hd
    ipureintro; exact hf
  iexact Hr

theorem loadB {α : Type} {Q : α → sProp 𝕄} (M : Memref sig .tc .vmem S2x2x512x1024 .f32) (hb : Memref sig .tc .hbm S32x512x1024 .f32) (v : Buf (Elt F) (hb.view.loc (c : Thread nD τ)))
    (j : Fin 3) (s k : Fin 2) (e : Fin 32) {o : Fin 4 → ℕ} {ho : ∀ a, o a + S1x1x512x1024.size a ≤ S2x2x512x1024.size a} {hl}
    {k' : (S1x1x512x1024.Idx → Elt F .f32) → Prog (TpuEff nD τ sig (Elt F) Λ₀ .tc) α}
    (h1 : o = offD s k) :
    fullB c M hb v j s k e
      ⊢ iprop((fullB c M hb v j s k e -∗ wp frame (wpE (defs₀ (F := F)) Variants.none c none) Set.univ (k' (slabB c hb v e)) Q)
          -∗ wp frame (wpE (defs₀ (F := F)) Variants.none c none) Set.univ
              (.op (.load M (Rect.unit (s := S2x2x512x1024) o S1x1x512x1024.size ho).toLoadRect hl) k') Q) := by
  subst h1
  unfold fullB blockIs
  iintro ⟨⟨%f, Hd, %hf⟩, Hr⟩ Hk
  iapply (wp_load_rect Variants.none (c : Thread nD τ) none Set.univ
    (m := M) (r := Rect.unit (s := S2x2x512x1024) (offD s k) S1x1x512x1024.size ho) (S := (dB M (offD s k) ho).view.set)
    (View.set_reshape (M.access (Rect.unit (s := S2x2x512x1024) (offD s k) S1x1x512x1024.size ho)) squeezes_S1x1x512x1024_S512x1024.numel_eq).ge) $$ [Hd]
  · iexact Hd
  iintro Hd
  rw [show (M.access (Rect.unit (s := S2x2x512x1024) (offD s k) S1x1x512x1024.size ho)).read (Elt F) f = slabB c hb v e from by
    funext x
    unfold slabB
    rw [← hf, View.read_apply, View.read_apply]
    show _ = cast _ (f (M.view.emb ((Rect.unit (s := S2x2x512x1024) (offD s k) S1x1x512x1024.size ho).emb (Shape.reshapeEquiv squeezes_S1x1x512x1024_S512x1024.numel_eq ((Shape.reshapeEquiv squeezes_S1x1x512x1024_S512x1024.numel_eq).symm x)))))
    rw [Equiv.apply_symm_apply]
    rfl]
  iapply Hk
  isplitl [Hd]
  · iexists f; isplitl [Hd]; · iexact Hd
    ipureintro; exact hf
  iexact Hr

end Slots

end Cert.KernelIdeal.Moe
end
-- ==== Proof.Words.lean ====
/- The plan's words as the body reads them, and the body's first statements: the copies started for slot 0. -/
module

public import proofs.«01_k».proof.Proof.Lane
public import Idealize.ShloMosaic.Lib.Pointwise.Index

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Offsets at words -/

theorem vec3 {v : BitVec 32} {e : Fin 32} (h : v.toNat = e.val) : (![v.toNat, 0, 0] : Fin 3 → ℕ) = offS e := by rw [h]
theorem vec4 {v : BitVec 32} {s k : Fin 2} {n : ℕ} (h : v.toNat = s.val) (hk : n = k.val) :
    (![v.toNat, n, 0, 0] : Fin 4 → ℕ) = offD s k := by rw [h, hk]
theorem vec2 {v : BitVec 32} {s k : Fin 2} {j : Fin 3} {n : ℕ} (h : v.toNat = s.val) (hk : n = 3 * k.val + j.val) :
    (![v.toNat, n] : Fin 2 → ℕ) = offC s k j := by rw [h, hk]

/-! ## The tables -/

abbrev plM : Memref sig .tc .smem S6x89 .i32 := Memref.whole main_v94
abbrev nuM : Memref sig .tc .smem S1 .i32 := Memref.whole main_v95

/-- Row `r` of the plan at tile `j`, as a word. -/
def word (c : Dev nD) (pv : Buf (Elt F) (plM.view.loc (c : Thread nD τ))) (r : Fin 6) (j : Fin 89) : BitVec 32 :=
  (pv : S6x89.Idx → BitVec 32) (ix2 r j)

/-- The number of tiles in use, as a word. -/
def nuWord (c : Dev nD) (nv : Buf (Elt F) (nuM.view.loc (c : Thread nD τ))) : BitVec 32 :=
  (nv : S1.Idx → BitVec 32) (ix1 0)

section Rules

variable (c : Dev nD) (V : (b : Ref sig .tc) → Buf (Elt F) ((c : Thread nD τ).loc b))
  (pv : Buf (Elt F) (plM.view.loc (c : Thread nD τ))) (nv : Buf (Elt F) (nuM.view.loc (c : Thread nD τ)))

/-- The tables, held at the share the launch lends. -/
def tabs : sProp 𝕄 :=
  iprop((plM.view.loc (c : Thread nD τ) ↦{fullShare.right} pv) ∗ (nuM.view.loc (c : Thread nD τ) ↦{fullShare.right} nv))

theorem load_word {α : Type} {k : BitVec 32 → Prog (TpuEff nD τ sig (Elt F) Λ₀ .tc) α} {Q : α → sProp 𝕄}
    {o : Fin 2 → ℕ} {ho : ∀ a, o a + S1x1.size a ≤ S6x89.size a} (r : Fin 6) (j : Fin 89) (h : o = ![r.val, j.val]) :
    tabs c pv nv ⊢ iprop((tabs c pv nv -∗ wp frame (wpE (defs₀ (F := F)) Variants.none c none) Set.univ (k (word c pv r j)) Q)
      -∗ wp frame (wpE (defs₀ (F := F)) Variants.none c none) Set.univ
          (smemLoad plM (Rect.unit (s := S6x89) o S1x1.size ho) numel1_S1x1 rfl >>= k) Q) := by
  subst h
  change _ ⊢ iprop(_ -∗ wp frame (wpE (defs₀ (F := F)) Variants.none c none) Set.univ
    (smemLoadElt plM (Rect.unit (s := S6x89) ![r.val, j.val] S1x1.size ho) (View.loads_smem_one rfl numel1_S1x1)
      (Shape.Idx.first (numel1_S1x1.symm ▸ Nat.one_pos)) k) Q)
  unfold tabs
  iintro ⟨Hp, Hn⟩ Hk
  iapply (wp_smemLoadElt_named Variants.none (c : Thread nD τ) none Set.univ) $$ Hp
  iintro Hp %w %hw
  rw [show w = word c pv r j from by
    rw [hw, View.read_apply]
    show _ = (pv : S6x89.Idx → BitVec 32) (ix2 r j)
    refine (congrArg (pv : S6x89.Idx → BitVec 32) (?_ : _ = ix2 r j))
    funext a
    match a with
    | ⟨0, _⟩ => exact Fin.ext rfl
    | ⟨1, _⟩ => exact Fin.ext rfl]
  iapply Hk
  isplitl [Hp] <;> iassumption

theorem load_nu {α : Type} {k : BitVec 32 → Prog (TpuEff nD τ sig (Elt F) Λ₀ .tc) α} {Q : α → sProp 𝕄}
    {o : Fin 1 → ℕ} {ho : ∀ a, o a + S1.size a ≤ S1.size a} (h : o = ![0]) :
    tabs c pv nv ⊢ iprop((tabs c pv nv -∗ wp frame (wpE (defs₀ (F := F)) Variants.none c none) Set.univ (k (nuWord c nv)) Q)
      -∗ wp frame (wpE (defs₀ (F := F)) Variants.none c none) Set.univ
          (smemLoad nuM (Rect.unit (s := S1) o S1.size ho) numel1_S1 rfl >>= k) Q) := by
  subst h
  change _ ⊢ iprop(_ -∗ wp frame (wpE (defs₀ (F := F)) Variants.none c none) Set.univ
    (smemLoadElt nuM (Rect.unit (s := S1) ![0] S1.size ho) (View.loads_smem_one rfl numel1_S1)
      (Shape.Idx.first (numel1_S1.symm ▸ Nat.one_pos)) k) Q)
  unfold tabs
  iintro ⟨Hp, Hn⟩ Hk
  iapply (wp_smemLoadElt_named Variants.none (c : Thread nD τ) none Set.univ) $$ Hn
  iintro Hn %w %hw
  rw [show w = nuWord c nv from by
    rw [hw, View.read_apply]
    show _ = (nv : S1.Idx → BitVec 32) (ix1 0)
    refine (congrArg (nv : S1.Idx → BitVec 32) (?_ : _ = ix1 0))
    funext a
    match a with
    | ⟨0, _⟩ => exact Fin.ext rfl]
  iapply Hk
  isplitl [Hp] <;> iassumption

/-- A check that holds is passed. -/
theorem pass {P : Prop} {d : Decidable P} {α : Type} {k : PLift P → Prog (TpuEff nD τ sig (Elt F) Λ₀ .tc) α} {Q : α → sProp 𝕄} (h : P) :
    wp frame (wpE (defs₀ (F := F)) Variants.none c none) Set.univ (k ⟨h⟩) Q
      ⊢ wp frame (wpE (defs₀ (F := F)) Variants.none c none) Set.univ (Prog.lift (TpuEff.assume P d) >>= k) Q :=
  wp_assume (defs := defs₀ (F := F)) Variants.none (c : Thread nD τ) none Set.univ h

/-! ## The four copies' rounds -/

abbrev call1 (i : grid0.Coords) (xb : Memref sig .tc .vmem S256x1152 .f32) (hx : xb.IsWhole) (yb : Memref sig .tc .vmem S256x1024 .f32) (hy : yb.IsWhole)
    (h : k0_cond1 i = 1#1) :=
  k0_part1 (F := F) i plM (Memref.isWhole_whole _) nuM (Memref.isWhole_whole _) xb hx hw1 (Memref.isWhole_whole _) hw3 (Memref.isWhole_whole _)
    hw2 (Memref.isWhole_whole _) yb hy wb1 (Memref.isWhole_whole _) wb3 (Memref.isWhole_whole _) wb2 (Memref.isWhole_whole _) cc0_scratch3 h

/-- The start of slot 0's first expert, after the words of the first tile's experts are read. -/
theorem part1_spec {i : grid0.Coords} {xb : Memref sig .tc .vmem S256x1152 .f32} {hx : xb.IsWhole} {yb : Memref sig .tc .vmem S256x1024 .f32} {hy : yb.IsWhole}
    {h : k0_cond1 i = 1#1} {e₀ e₁ : Fin 32} (h₀ : (word c pv 0 0).toNat = e₀.val) (h₁ : (word c pv 1 0).toNat = e₁.val)
    (hc2 : k0_chk2 i (word c pv 1 0)) {Q : (Σ' (v19 : Elt F .i32), k0_chk2 i v19) → sProp 𝕄} :
    iprop(tabs c pv nv ∗ kFree c V 0 0)
      ⊢ iprop((iprop(tabs c pv nv ∗ kFly c V 0 0 e₀) -∗ Q ⟨word c pv 1 0, hc2⟩)
        -∗ wp frame (wpE (defs₀ (F := F)) Variants.none c none) Set.univ (call1 i xb hx yb hy h) Q) := by
  unfold call1 kFree
  rw [k0_part1_eq_skeleton]
  unfold k0_part1_skel
  iintro ⟨HT, H1, H3, H2⟩ Hk
  iapply (load_word c pv nv 0 0 rfl) $$ HT
  iintro HT
  have hc : k0_chk1 i (word c pv 0 0) :=
    ⟨fun _ => by rw [show k0_off2 (word c pv 0 0) = offS e₀ from vec3 h₀]; exact inbSA e₀,
     fun _ => by rw [show k0_off3 (word c pv 0 0) = offS e₀ from vec3 h₀]; exact inbSB e₀⟩
  iapply (pass c hc)
  iapply (load_word c pv nv 1 0 rfl) $$ HT
  iintro HT
  iapply (pass c hc2)
  iapply (startA c wb1 hw1 (V main_v0) 0 0 0 e₀ rfl (vec3 h₀) rfl) $$ H1
  iintro H1
  iapply (startA c wb3 hw3 (V main_v1) 1 0 0 e₀ rfl (vec3 h₀) rfl) $$ H3
  iintro H3
  iapply (startB c wb2 hw2 (V main_v2) 2 0 0 e₀ rfl (vec3 h₀) rfl) $$ H2
  iintro H2
  iapply (le_wp_ret _ _ _ _ _)
  iapply Hk
  unfold kFly
  isplitl [HT]; · iexact HT
  isplitl [H1]; · iexact H1
  isplitl [H3] <;> iassumption

/-! ### Checks, of words in range -/

theorem chk2_ok (i : grid0.Coords) {v : BitVec 32} {e : Fin 32} (h : v.toNat = e.val) : k0_chk2 i v :=
  ⟨fun _ => by rw [show k0_off4 v = offS e from vec3 h]; exact inbSA e,
   fun _ => by rw [show k0_off5 v = offS e from vec3 h]; exact inbSB e⟩
theorem chk4_ok (w : BitVec 32) {v : BitVec 32} {e : Fin 32} (h : v.toNat = e.val) : k0_chk4 w v :=
  ⟨fun _ => by rw [show k0_off11 v = offS e from vec3 h]; exact inbSA e,
   fun _ => by rw [show k0_off16 v = offS e from vec3 h]; exact inbSB e⟩
theorem chk5_ok (w : BitVec 32) {v : BitVec 32} {e : Fin 32} (h : v.toNat = e.val) : k0_chk5 w v :=
  ⟨fun _ => by rw [show k0_off19 v = offS e from vec3 h]; exact inbSA e,
   fun _ => by rw [show k0_off24 v = offS e from vec3 h]; exact inbSB e⟩
theorem chk7_ok (w w' : BitVec 32) {v : BitVec 32} {e : Fin 32} (h : v.toNat = e.val) : k0_chk7 w w' v :=
  ⟨fun _ _ => by rw [show k0_off30 v = offS e from vec3 h]; exact inbSA e,
   fun _ _ => by rw [show k0_off35 v = offS e from vec3 h]; exact inbSB e⟩
theorem chk8_ok (w w' : BitVec 32) {v : BitVec 32} {e : Fin 32} (h : v.toNat = e.val) : k0_chk8 w w' v :=
  ⟨fun _ _ => by rw [show k0_off38 v = offS e from vec3 h]; exact inbSA e,
   fun _ _ => by rw [show k0_off43 v = offS e from vec3 h]; exact inbSB e⟩

theorem atC {o : Fin 2 → ℕ} (s k : Fin 2) (j : Fin 3) (h : o = offC s k j) : ∀ a, o a + S1x1.size a ≤ S2x6.size a := by
  subst h; exact inbC s k j
theorem atDA {o : Fin 4 → ℕ} (s k : Fin 2) (h : o = offD s k) : ∀ a, o a + S1x1x1024x512.size a ≤ S2x2x1024x512.size a := by
  subst h; exact inbDA s k
theorem atDB {o : Fin 4 → ℕ} (s k : Fin 2) (h : o = offD s k) : ∀ a, o a + S1x1x512x1024.size a ≤ S2x2x512x1024.size a := by
  subst h; exact inbDB s k

theorem chk3_ok (w : BitVec 32) {v : BitVec 32} {s : Fin 2} (h : v.toNat = s.val) : k0_chk3 v w :=
  ⟨fun _ => atC s 0 0 (vec2 h rfl), fun _ => atDA s 0 (vec4 h rfl), fun _ => atC s 0 1 (vec2 h rfl), fun _ => atDA s 0 (vec4 h rfl),
   fun _ => atC s 0 2 (vec2 h rfl), fun _ => atDB s 0 (vec4 h rfl), fun _ => atC s 1 0 (vec2 h rfl), fun _ => atDA s 1 (vec4 h rfl),
   fun _ => atC s 1 1 (vec2 h rfl), fun _ => atDA s 1 (vec4 h rfl), fun _ => atC s 1 2 (vec2 h rfl), fun _ => atDB s 1 (vec4 h rfl)⟩
theorem chk6_ok (w w' : BitVec 32) {v : BitVec 32} {t : Fin 2} (h : (Scalar.subi 1#32 v).toNat = t.val) : k0_chk6 v w w' :=
  ⟨fun _ _ => atC t 0 0 (vec2 h rfl), fun _ _ => atDA t 0 (vec4 h rfl), fun _ _ => atC t 0 1 (vec2 h rfl), fun _ _ => atDA t 0 (vec4 h rfl),
   fun _ _ => atC t 0 2 (vec2 h rfl), fun _ _ => atDB t 0 (vec4 h rfl), fun _ _ => atC t 1 0 (vec2 h rfl), fun _ _ => atDA t 1 (vec4 h rfl),
   fun _ _ => atC t 1 1 (vec2 h rfl), fun _ _ => atDA t 1 (vec4 h rfl), fun _ _ => atC t 1 2 (vec2 h rfl), fun _ _ => atDB t 1 (vec4 h rfl)⟩
theorem chk9_ok (i : grid0.Coords) (w : BitVec 32) {v : BitVec 32} {s : Fin 2} (h : v.toNat = s.val) : k0_chk9 i v w :=
  have h' : (Scalar.indexCast v).toNat = s.val := h
  ⟨fun _ => atDA s 0 (vec4 h' rfl), fun _ => atDB s 0 (vec4 h' rfl), fun _ => atDA s 1 (vec4 h' rfl), fun _ => atDB s 1 (vec4 h' rfl)⟩

abbrev call3 (i : grid0.Coords) (xb : Memref sig .tc .vmem S256x1152 .f32) (hx : xb.IsWhole) (yb : Memref sig .tc .vmem S256x1024 .f32) (hy : yb.IsWhole)
    (a v1 v6 : BitVec 32) (hc : k0_chk3 v1 v6) (h : k0_cond2 v6 = 1#1) :=
  k0_part3 (F := F) i plM (Memref.isWhole_whole _) nuM (Memref.isWhole_whole _) xb hx hw1 (Memref.isWhole_whole _) hw3 (Memref.isWhole_whole _)
    hw2 (Memref.isWhole_whole _) yb hy wb1 (Memref.isWhole_whole _) wb3 (Memref.isWhole_whole _) wb2 (Memref.isWhole_whole _) cc0_scratch3 a v1 v6 hc h

/-- The offsets of the table loads at tile `j`. -/
theorem atTile {i : grid0.Coords} {j : Fin 89} (hj : i 0 = j) (n : ℕ) : (![n, (Scalar.indexCast (BitVec.ofNat 32 (i 0).val)).toNat] : Fin 2 → ℕ) = ![n, j.val] := by
  subst hj
  have h : (Scalar.indexCast (BitVec.ofNat 32 (i 0).val)).toNat = (i 0).val := by
    show (BitVec.ofNat 32 (i 0).val).toNat = _
    rw [BitVec.toNat_ofNat]
    exact Nat.mod_eq_of_lt (lt_trans (i 0).isLt (by decide))
  rw [h]

/-- The waits for the first expert of a slot and for the first copy of its second. -/
theorem part3_spec {i : grid0.Coords} {j : Fin 89} (hj : i 0 = j) {xb : Memref sig .tc .vmem S256x1152 .f32} {hx : xb.IsWhole} {yb : Memref sig .tc .vmem S256x1024 .f32} {hy : yb.IsWhole}
    {a v1 v6 : BitVec 32} {hc : k0_chk3 v1 v6} {h : k0_cond2 v6 = 1#1} {s : Fin 2} {e₀ e₁ : Fin 32} (hs : v1.toNat = s.val)
    (h₀ : (word c pv 0 j).toNat = e₀.val) (hc5 : k0_chk5 v6 (word c pv 1 j))
    {Q : (Σ' (v21 : Elt F .i32), k0_chk5 v6 v21) → sProp 𝕄} :
    iprop(tabs c pv nv ∗ kFly c V s 0 e₀ ∗ flyA c wb1 hw1 (V main_v0) 0 s 1 e₁ ∗ ∃ W, owes (c : Thread nD τ) 0 W)
      ⊢ iprop((iprop(tabs c pv nv ∗ kFull c V s 0 e₀ ∗ fullA c wb1 hw1 (V main_v0) 0 s 1 e₁ ∗ ∃ W, owes (c : Thread nD τ) 0 W) -∗ Q ⟨word c pv 1 j, hc5⟩)
        -∗ wp frame (wpE (defs₀ (F := F)) Variants.none c none) Set.univ (call3 i xb hx yb hy a v1 v6 hc h) Q) := by
  unfold call3 kFly
  rw [k0_part3_eq_skeleton]
  unfold k0_part3_skel
  iintro ⟨HT, ⟨H1, H3, H2⟩, H1', HW⟩ Hk
  iapply (load_word c pv nv 0 j (atTile hj 0)) $$ HT
  iintro HT
  iapply (pass c (chk4_ok v6 h₀))
  iapply (load_word c pv nv 1 j (atTile hj 1)) $$ HT
  iintro HT
  iapply (pass c hc5)
  iapply (waitA c wb1 hw1 (V main_v0) 0 s 0 e₀ (vec4 hs rfl) (vec2 hs rfl)) $$ [H1 HW]
  · isplitl [H1] <;> iassumption
  iintro ⟨H1, HW⟩
  iapply (waitA c wb3 hw3 (V main_v1) 1 s 0 e₀ (vec4 hs rfl) (vec2 hs rfl)) $$ [H3 HW]
  · isplitl [H3] <;> iassumption
  iintro ⟨H3, HW⟩
  iapply (waitB c wb2 hw2 (V main_v2) 2 s 0 e₀ (vec4 hs rfl) (vec2 hs rfl)) $$ [H2 HW]
  · isplitl [H2] <;> iassumption
  iintro ⟨H2, HW⟩
  iapply (waitA c wb1 hw1 (V main_v0) 0 s 1 e₁ (vec4 hs rfl) (vec2 hs rfl)) $$ [H1' HW]
  · isplitl [H1'] <;> iassumption
  iintro ⟨H1', HW⟩
  iapply (le_wp_ret _ _ _ _ _)
  iapply Hk
  unfold kFull
  isplitl [HT]; · iexact HT
  isplitl [H1 H3 H2]
  · isplitl [H1]; · iexact H1
    isplitl [H3] <;> iassumption
  isplitl [H1'] <;> iassumption

abbrev call2 (i : grid0.Coords) (xb : Memref sig .tc .vmem S256x1152 .f32) (hx : xb.IsWhole) (yb : Memref sig .tc .vmem S256x1024 .f32) (hy : yb.IsWhole)
    (a v1 v6 : BitVec 32) (h : k0_cond2 v6 = 1#1) (v59 : BitVec 32) (hc : k0_chk6 v1 v6 v59) (h' : k0_cond3 v59 = 1#1) :=
  k0_part2 (F := F) i plM (Memref.isWhole_whole _) nuM (Memref.isWhole_whole _) xb hx hw1 (Memref.isWhole_whole _) hw3 (Memref.isWhole_whole _)
    hw2 (Memref.isWhole_whole _) yb hy wb1 (Memref.isWhole_whole _) wb3 (Memref.isWhole_whole _) wb2 (Memref.isWhole_whole _) cc0_scratch3 a v1 v6 h v59 hc h'

/-- The start of the other slot's first expert, after the words of the next experts are read. -/
theorem part2_spec {i : grid0.Coords} {j : Fin 89} (hj : i 0 = j) {xb : Memref sig .tc .vmem S256x1152 .f32} {hx : xb.IsWhole} {yb : Memref sig .tc .vmem S256x1024 .f32} {hy : yb.IsWhole}
    {a v1 v6 v59 : BitVec 32} {h : k0_cond2 v6 = 1#1} {hc : k0_chk6 v1 v6 v59} {h' : k0_cond3 v59 = 1#1} {t : Fin 2} {e₀ : Fin 32}
    (ht : (Scalar.subi 1#32 v1).toNat = t.val)
    (h₀ : (word c pv 4 j).toNat = e₀.val) (hc8 : k0_chk8 v6 v59 (word c pv 5 j))
    {Q : (Σ' (v66 : Elt F .i32), k0_chk8 v6 v59 v66) → sProp 𝕄} :
    iprop(tabs c pv nv ∗ kFree c V t 0)
      ⊢ iprop((iprop(tabs c pv nv ∗ kFly c V t 0 e₀) -∗ Q ⟨word c pv 5 j, hc8⟩)
        -∗ wp frame (wpE (defs₀ (F := F)) Variants.none c none) Set.univ (call2 i xb hx yb hy a v1 v6 h v59 hc h') Q) := by
  unfold call2 kFree
  rw [k0_part2_eq_skeleton]
  unfold k0_part2_skel
  iintro ⟨HT, H1, H3, H2⟩ Hk
  iapply (load_word c pv nv 4 j (atTile hj 4)) $$ HT
  iintro HT
  iapply (pass c (chk7_ok v6 v59 h₀))
  iapply (load_word c pv nv 5 j (atTile hj 5)) $$ HT
  iintro HT
  iapply (pass c hc8)
  iapply (startA c wb1 hw1 (V main_v0) 0 t 0 e₀ (vec4 ht rfl) (vec3 h₀) (vec2 ht rfl)) $$ H1
  iintro H1
  iapply (startA c wb3 hw3 (V main_v1) 1 t 0 e₀ (vec4 ht rfl) (vec3 h₀) (vec2 ht rfl)) $$ H3
  iintro H3
  iapply (startB c wb2 hw2 (V main_v2) 2 t 0 e₀ (vec4 ht rfl) (vec3 h₀) (vec2 ht rfl)) $$ H2
  iintro H2
  iapply (le_wp_ret _ _ _ _ _)
  iapply Hk
  unfold kFly
  isplitl [HT]; · iexact HT
  isplitl [H1]; · iexact H1
  isplitl [H3] <;> iassumption

end Rules

end Cert.KernelIdeal.Moe
end
-- ==== Proof.Body.lean ====
/- The body at one tile: from the lanes' state before the tile to the state after it, leaving the tile's block of the output. -/
module

public import proofs.«01_k».proof.Proof.Words

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Staged blocks -/

theorem load_owned {α : Type} {Q : α → sProp 𝕄} (c : Dev nD) (M : Memref sig .tc .vmem S256x1152 .f32) (q : PosShare TreeShare)
    (X : S256x1152.Idx → Elt F .f32) (r : Rect S256x1152) {hl} {k : (r.shape.Idx → Elt F .f32) → Prog (TpuEff nD τ sig (Elt F) Λ₀ .tc) α} :
    owns (c : Thread nD τ) M q X
      ⊢ iprop((owns (c : Thread nD τ) M q X -∗ wp frame (wpE (defs₀ (F := F)) Variants.none c none) Set.univ (k (fun x => X (r.emb x))) Q)
          -∗ wp frame (wpE (defs₀ (F := F)) Variants.none c none) Set.univ (.op (.load M r.toLoadRect hl) k) Q) := by
  unfold owns
  iintro ⟨%f, %hf, H⟩ Hk
  iapply (wp_load_rect Variants.none (c : Thread nD τ) none Set.univ (m := M) (r := r) (S := M.view.set) (View.set_slice_subset _ _)) $$ H
  iintro H
  rw [show (M.access r).read (Elt F) f = fun x => X (r.emb x) from by rw [← hf]; rfl]
  iapply Hk
  iexists f
  isplitr; · ipureintro; exact hf
  iexact H

/-- A store of a whole block. -/
theorem store_owned {α : Type} {Q : α → sProp 𝕄} (c : Dev nD) (M : Memref sig .tc .vmem S256x1024 .f32)
    (X w : S256x1024.Idx → Elt F .f32) {h : ∀ a, (![0, 0] : Fin 2 → ℕ) a + S256x1024.size a ≤ S256x1024.size a} {hx} {hm}
    {k : PUnit → Prog (TpuEff nD τ sig (Elt F) Λ₀ .tc) α} :
    owns (c : Thread nD τ) M fullShare X
      ⊢ iprop((owns (c : Thread nD τ) M fullShare w -∗ wp frame (wpE (defs₀ (F := F)) Variants.none c none) Set.univ (k ⟨⟩) Q)
          -∗ wp frame (wpE (defs₀ (F := F)) Variants.none c none) Set.univ
            (.op (.store M (Rect.unit (s := S256x1024) ![0, 0] S256x1024.size h) w Finset.univ hx hm) k) Q) := by
  unfold owns
  iintro ⟨%f, %hf, H⟩ Hk
  iapply (wp_store Variants.none (c : Thread nD τ) none Set.univ (m := M) (r := Rect.unit (s := S256x1024) ![0, 0] S256x1024.size h) (S := M.view.set)
    (by rw [View.setOn_univ]; exact View.set_slice_subset _ _)) $$ H
  iintro H
  iapply Hk
  iexists _
  isplitr
  swap; · iexact H
  ipureintro
  funext x
  have e : (Rect.unit (s := S256x1024) ![0, 0] S256x1024.size h).emb x = x := by
    funext a
    match a with
    | ⟨0, h0⟩ => exact Fin.ext (by show 0 + 1 * (x ⟨0, h0⟩).val = (x ⟨0, h0⟩).val; omega)
    | ⟨1, h1⟩ => exact Fin.ext (by show 0 + 1 * (x ⟨1, h1⟩).val = (x ⟨1, h1⟩).val; omega)
  have h1 := View.read_write_of_mem (v := M.access (Rect.unit (s := S256x1024) ![0, 0] S256x1024.size h)) f w (Finset.mem_univ x)
  rw [← h1]
  show _ = M.view.read (Elt F) _ ((Rect.unit (s := S256x1024) ![0, 0] S256x1024.size h).emb x)
  rw [e]

/-- The parts of a block of rows: the rows and the two gates. -/
def xRow (X : S256x1152.Idx → Elt F .f32) : Vec F S256x1024 .f32 :=
  fun x => X ((Rect.unit (s := S256x1152) ![0, 0] S256x1024.size inb_S256x1152_S256x1024_0_0).emb x)
def xLo (X : S256x1152.Idx → Elt F .f32) : Vec F S256x1 .f32 :=
  fun x => X ((Rect.unit (s := S256x1152) ![0, 1024] S256x1.size inb_S256x1152_S256x1_0_1024).emb x)
def xHi (X : S256x1152.Idx → Elt F .f32) : Vec F S256x1 .f32 :=
  fun x => X ((Rect.unit (s := S256x1152) ![0, 1025] S256x1.size inb_S256x1152_S256x1_0_1025).emb x)

section Body

variable (c : Dev nD) (V : (b : Ref sig .tc) → Buf (Elt F) ((c : Thread nD τ).loc b))
  (pv : Buf (Elt F) (plM.view.loc (c : Thread nD τ))) (nv : Buf (Elt F) (nuM.view.loc (c : Thread nD τ)))

/-- What the body stores at a tile in use: the gated sum of two experts at the block's rows. -/
def mix (X : S256x1152.Idx → Elt F .f32) (e₀ e₁ : Fin 32) : S256x1024.Idx → Elt F .f32 :=
  k0_pay1 (k0_pay3 (xRow X)) (xHi X)
    (k0_pay4 (xRow X) (xLo X) (slabA c hw1 (V main_v0) e₀) (slabA c hw3 (V main_v1) e₀) (slabB c hw2 (V main_v2) e₀))
    (k0_pay5 (xRow X) (slabA c hw1 (V main_v0) e₁)) (k0_pay6 (slabA c hw3 (V main_v1) e₁)) (slabB c hw2 (V main_v2) e₁)

abbrev call4 (i : grid0.Coords) (xb : Memref sig .tc .vmem S256x1152 .f32) (hx : xb.IsWhole) (yb : Memref sig .tc .vmem S256x1024 .f32) (hy : yb.IsWhole)
    (v1 v10 : BitVec 32) (hc : k0_chk9 i v1 v10) (h : k0_cond4 i v10 = 1#1) :=
  k0_part4 (F := F) i plM (Memref.isWhole_whole _) nuM (Memref.isWhole_whole _) xb hx hw1 (Memref.isWhole_whole _) hw3 (Memref.isWhole_whole _)
    hw2 (Memref.isWhole_whole _) yb hy wb1 (Memref.isWhole_whole _) wb3 (Memref.isWhole_whole _) wb2 (Memref.isWhole_whole _) cc0_scratch3 v1 v10 hc h

/-- A continuation met at a value equal to the one it is stated at. -/
theorem iapply_at {α : Type} {R : sProp 𝕄} (Q : α → sProp 𝕄) {a b : α} (e : a = b) : iprop(R -∗ Q a) ⊢ iprop(R -∗ Q b) := by
  rw [e]

/-- The loads of the block and of five of the slot's six weight blocks. -/
theorem part4_spec {i : grid0.Coords} {xb : Memref sig .tc .vmem S256x1152 .f32} {hx : xb.IsWhole} {yb : Memref sig .tc .vmem S256x1024 .f32} {hy : yb.IsWhole}
    {v1 v10 : BitVec 32} {hc : k0_chk9 i v1 v10} {h : k0_cond4 i v10 = 1#1} {s : Fin 2} {e₀ e₁ : Fin 32} (hs : v1.toNat = s.val)
    (X : S256x1152.Idx → Elt F .f32)
    {Q : (Σ' (v19 : FVec F S256x1024 .bf16) (v21 : Vec F S256x1 .f32) (v42 : FVec F S256x1024 .f32) (v49 : FVec F S256x512 .f32), FVec F S1024x512 .f32) → sProp 𝕄} :
    iprop(owns (c : Thread nD τ) xb fullShare X ∗ sFull c V s e₀ e₁)
      ⊢ iprop((iprop(owns (c : Thread nD τ) xb fullShare X ∗ sFull c V s e₀ e₁) -∗
          Q ⟨k0_pay3 (xRow X), xHi X,
            k0_pay4 (xRow X) (xLo X) (slabA c hw1 (V main_v0) e₀) (slabA c hw3 (V main_v1) e₀) (slabB c hw2 (V main_v2) e₀),
            k0_pay5 (xRow X) (slabA c hw1 (V main_v0) e₁), k0_pay6 (slabA c hw3 (V main_v1) e₁)⟩)
        -∗ wp frame (wpE (defs₀ (F := F)) Variants.none c none) Set.univ (call4 i xb hx yb hy v1 v10 hc h) Q) := by
  have h' : (Scalar.indexCast v1).toNat = s.val := hs
  unfold call4 sFull kFull
  rw [k0_part4_eq_skeleton]
  unfold k0_part4_skel
  iintro ⟨HX, ⟨H1, H3, H2⟩, H1', H3', H2'⟩ Hk
  iapply (load_owned c xb fullShare X _) $$ HX
  iintro HX
  iapply (load_owned c xb fullShare X _) $$ HX
  iintro HX
  iapply (load_owned c xb fullShare X _) $$ HX
  iintro HX
  iapply (loadA c wb1 hw1 (V main_v0) 0 s 0 e₀ (vec4 h' rfl)) $$ H1
  iintro H1
  iapply (loadA c wb3 hw3 (V main_v1) 1 s 0 e₀ (vec4 h' rfl)) $$ H3
  iintro H3
  iapply (loadB c wb2 hw2 (V main_v2) 2 s 0 e₀ (vec4 h' rfl)) $$ H2
  iintro H2
  iapply (loadA c wb1 hw1 (V main_v0) 0 s 1 e₁ (vec4 h' rfl)) $$ H1'
  iintro H1'
  iapply (loadA c wb3 hw3 (V main_v1) 1 s 1 e₁ (vec4 h' rfl)) $$ H3'
  iintro H3'
  iapply (le_wp_ret _ _ _ _ _)
  iapply (iapply_at Q ?e) $$ Hk
  case e => rfl
  isplitl [HX]; · iexact HX
  isplitl [H1 H3 H2]
  · isplitl [H1]; · iexact H1
    isplitl [H3] <;> iassumption
  isplitl [H1']; · iexact H1'
  isplitl [H3'] <;> iassumption

/-! ## The plan, and the lanes' state between tiles -/

/-- What the plan's words say, tile by tile: the slot, the two experts, and the next run's experts if there is a next run. -/
structure PlanOK (W : Fin 6 → Fin 89 → BitVec 32) where
  sl : Fin 89 → Fin 2
  lo : Fin 89 → Fin 32
  hi : Fin 89 → Fin 32
  nx : Fin 89 → Option (Fin 32 × Fin 32)
  sl_eq : ∀ j, (W 3 j).toNat = (sl j).val
  lo_eq : ∀ j, (W 0 j).toNat = (lo j).val
  hi_eq : ∀ j, (W 1 j).toNat = (hi j).val
  nx_some : ∀ j a b, nx j = some (a, b) → k0_cond3 (W 4 j) = 1#1 ∧ (W 4 j).toNat = a.val ∧ (W 5 j).toNat = b.val
  nx_none : ∀ j, nx j = none → ¬ k0_cond3 (W 4 j) = 1#1
  first0 : k0_cond2 (W 2 0) = 1#1
  sl0 : sl 0 = 0
  step : ∀ j j' : Fin 89, j'.val = j.val + 1 → k0_cond2 (W 2 j') = 1#1 → nx j = some (lo j', hi j') ∧ sl j' = 1 - sl j
  stay : ∀ j j' : Fin 89, j'.val = j.val + 1 → ¬ k0_cond2 (W 2 j') = 1#1 → sl j' = sl j ∧ lo j' = lo j ∧ hi j' = hi j ∧ nx j' = nx j
  last : nx 88 = none

/-- The lanes of the slot to be used next: in flight if there is a next run, free otherwise. -/
def ahead (t : Fin 2) : Option (Fin 32 × Fin 32) → sProp 𝕄
  | some (a, b) => sFly c V t a b
  | none => sFree c V t

variable (P : PlanOK (word c pv))

/-- The lanes after `p` tiles. -/
def lanes : (p : ℕ) → sProp 𝕄
  | 0 => iprop(sFree c V 0 ∗ sFree c V 1)
  | p + 1 => if h : p < 89 then iprop(sFull c V (P.sl ⟨p, h⟩) (P.lo ⟨p, h⟩) (P.hi ⟨p, h⟩) ∗ ahead c V (1 - P.sl ⟨p, h⟩) (P.nx ⟨p, h⟩))
      else iprop(emp)

/-- The lanes at tile `j` once the first run's copies are started: a first tile of a run finds its slot in flight. -/
def midway (j : Fin 89) : sProp 𝕄 :=
  if k0_cond2 (word c pv 2 j) = 1#1 then iprop(sFly c V (P.sl j) (P.lo j) (P.hi j) ∗ sFree c V (1 - P.sl j))
  else iprop(sFull c V (P.sl j) (P.lo j) (P.hi j) ∗ ahead c V (1 - P.sl j) (P.nx j))

theorem lanes_succ (p : ℕ) (h : p < 89) :
    lanes c V pv P (p + 1) = iprop(sFull c V (P.sl ⟨p, h⟩) (P.lo ⟨p, h⟩) (P.hi ⟨p, h⟩) ∗ ahead c V (1 - P.sl ⟨p, h⟩) (P.nx ⟨p, h⟩)) :=
  dif_pos h

theorem fin2_back (s : Fin 2) : 1 - (1 - s) = s := by revert s; decide

theorem lanes_midway (j : Fin 89) (hj : j.val ≠ 0) : lanes c V pv P j.val ⊢ midway c V pv P j := by
  obtain ⟨p, hp⟩ := j
  obtain _ | p := p
  · exact absurd rfl hj
  have hp' : p < 89 := by omega
  unfold midway
  show lanes c V pv P (p + 1) ⊢ _
  rw [lanes_succ c V pv P p hp']
  split
  next h =>
    obtain ⟨h1, h2⟩ := P.step ⟨p, hp'⟩ ⟨p + 1, hp⟩ rfl h
    rw [h1, h2, fin2_back]
    unfold ahead
    iintro ⟨Hf, Ha⟩
    isplitl [Ha]; · iexact Ha
    iapply (sFull_free c V _ _ _) $$ Hf
  next h =>
    obtain ⟨h1, h2, h3, h4⟩ := P.stay ⟨p, hp'⟩ ⟨p + 1, hp⟩ rfl h
    rw [h1, h2, h3, h4]

theorem lanes_last : lanes c V pv P 89 ⊢ iprop(sFree c V 0 ∗ sFree c V 1) := by
  rw [show 89 = 88 + 1 from rfl, lanes_succ c V pv P 88 (by decide), show P.nx ⟨88, by decide⟩ = none from P.last]
  unfold ahead
  generalize P.sl ⟨88, by decide⟩ = s
  match s with
  | 0 =>
    iintro ⟨Hf, Ha⟩
    isplitl [Hf]; · iapply (sFull_free c V _ _ _) $$ Hf
    iexact Ha
  | 1 =>
    iintro ⟨Hf, Ha⟩
    isplitl [Ha]; · iexact Ha
    iapply (sFull_free c V _ _ _) $$ Hf

/-- What the tile's block of the output is left at. -/
def tileOut (j : Fin 89) (i : grid0.Coords) (X : S256x1152.Idx → Elt F .f32) : S256x1024.Idx → Elt F .f32 :=
  if k0_cond4 i (nuWord c nv) = 1#1 then mix c V X (P.lo j) (P.hi j) else k0_pay2

abbrev callB (i : grid0.Coords) (xb : Memref sig .tc .vmem S256x1152 .f32) (hx : xb.IsWhole) (yb : Memref sig .tc .vmem S256x1024 .f32) (hy : yb.IsWhole) :=
  cc0_moe_experts (F := F) i plM (Memref.isWhole_whole _) nuM (Memref.isWhole_whole _) xb hx hw1 (Memref.isWhole_whole _) hw3 (Memref.isWhole_whole _)
    hw2 (Memref.isWhole_whole _) yb hy wb1 (Memref.isWhole_whole _) wb3 (Memref.isWhole_whole _) wb2 (Memref.isWhole_whole _) cc0_scratch3

/-! ### Rules that hand the whole state on -/

theorem step_word {α : Type} {k : BitVec 32 → Prog (TpuEff nD τ sig (Elt F) Λ₀ .tc) α} {Q : α → sProp 𝕄} {R : sProp 𝕄}
    {o : Fin 2 → ℕ} {ho : ∀ a, o a + S1x1.size a ≤ S6x89.size a} (r : Fin 6) (j : Fin 89) (h : o = ![r.val, j.val])
    (hk : iprop(tabs c pv nv ∗ R) ⊢ wp frame (wpE (defs₀ (F := F)) Variants.none c none) Set.univ (k (word c pv r j)) Q) :
    iprop(tabs c pv nv ∗ R) ⊢ wp frame (wpE (defs₀ (F := F)) Variants.none c none) Set.univ
          (smemLoad plM (Rect.unit (s := S6x89) o S1x1.size ho) numel1_S1x1 rfl >>= k) Q := by
  iintro ⟨HT, HR⟩
  iapply (load_word c pv nv r j h) $$ HT
  iintro HT
  iapply hk
  isplitl [HT] <;> iassumption

theorem step_nu {α : Type} {k : BitVec 32 → Prog (TpuEff nD τ sig (Elt F) Λ₀ .tc) α} {Q : α → sProp 𝕄} {R : sProp 𝕄}
    {o : Fin 1 → ℕ} {ho : ∀ a, o a + S1.size a ≤ S1.size a} (h : o = ![0])
    (hk : iprop(tabs c pv nv ∗ R) ⊢ wp frame (wpE (defs₀ (F := F)) Variants.none c none) Set.univ (k (nuWord c nv)) Q) :
    iprop(tabs c pv nv ∗ R) ⊢ wp frame (wpE (defs₀ (F := F)) Variants.none c none) Set.univ
          (smemLoad nuM (Rect.unit (s := S1) o S1.size ho) numel1_S1 rfl >>= k) Q := by
  iintro ⟨HT, HR⟩
  iapply (load_nu c pv nv h) $$ HT
  iintro HT
  iapply hk
  isplitl [HT] <;> iassumption

theorem step_pass {P : Prop} {d : Decidable P} {α : Type} {k : PLift P → Prog (TpuEff nD τ sig (Elt F) Λ₀ .tc) α} {Q : α → sProp 𝕄} {R : sProp 𝕄} (h : P)
    (hk : R ⊢ wp frame (wpE (defs₀ (F := F)) Variants.none c none) Set.univ (k ⟨h⟩) Q) :
    R ⊢ wp frame (wpE (defs₀ (F := F)) Variants.none c none) Set.univ (Prog.lift (TpuEff.assume P d) >>= k) Q :=
  hk.trans (pass c h)

/-- A guarded region and what follows it: the region brings `R` to `R'`, from which what follows is proved once. -/
theorem step_region {α : Type} {Q : α → sProp 𝕄} {R : sProp 𝕄} (R' : sProp 𝕄)
    {J : Unit → Prog (TpuEff nD τ sig (Elt F) Λ₀ .tc) α} {B : (Unit → Prog (TpuEff nD τ sig (Elt F) Λ₀ .tc) α) → Prog (TpuEff nD τ sig (Elt F) Λ₀ .tc) α}
    (hJ : R' ⊢ wp frame (wpE (defs₀ (F := F)) Variants.none c none) Set.univ (J ⟨⟩) Q)
    (hB : ∀ J', (R' ⊢ wp frame (wpE (defs₀ (F := F)) Variants.none c none) Set.univ (J' ⟨⟩) Q) →
      R ⊢ wp frame (wpE (defs₀ (F := F)) Variants.none c none) Set.univ (B J') Q) :
    R ⊢ wp frame (wpE (defs₀ (F := F)) Variants.none c none) Set.univ (have jp := J; B jp) Q := hB J hJ

theorem step_if {α : Type} {Q : α → sProp 𝕄} {R : sProp 𝕄} {p : Prop} {d : Decidable p}
    {A : p → Prog (TpuEff nD τ sig (Elt F) Λ₀ .tc) α} {B : ¬ p → Prog (TpuEff nD τ sig (Elt F) Λ₀ .tc) α}
    (hA : ∀ h, R ⊢ wp frame (wpE (defs₀ (F := F)) Variants.none c none) Set.univ (A h) Q)
    (hB : ∀ h, R ⊢ wp frame (wpE (defs₀ (F := F)) Variants.none c none) Set.univ (B h) Q) :
    R ⊢ wp frame (wpE (defs₀ (F := F)) Variants.none c none) Set.univ (dite p A B) Q := by
  split
  · exact hA _
  · exact hB _

/-- A load of the whole output block. -/
theorem load_out {α : Type} {Q : α → sProp 𝕄} (M : Memref sig .tc .vmem S256x1024 .f32) (q : PosShare TreeShare)
    (X : S256x1024.Idx → Elt F .f32) (r : Rect S256x1024) {hl} {k : (r.shape.Idx → Elt F .f32) → Prog (TpuEff nD τ sig (Elt F) Λ₀ .tc) α} :
    owns (c : Thread nD τ) M q X
      ⊢ iprop((owns (c : Thread nD τ) M q X -∗ wp frame (wpE (defs₀ (F := F)) Variants.none c none) Set.univ (k (fun x => X (r.emb x))) Q)
          -∗ wp frame (wpE (defs₀ (F := F)) Variants.none c none) Set.univ (.op (.load M r.toLoadRect hl) k) Q) := by
  unfold owns
  iintro ⟨%f, %hf, H⟩ Hk
  iapply (wp_load_rect Variants.none (c : Thread nD τ) none Set.univ (m := M) (r := r) (S := M.view.set) (View.set_slice_subset _ _)) $$ H
  iintro H
  rw [show (M.access r).read (Elt F) f = fun x => X (r.emb x) from by rw [← hf]; rfl]
  iapply Hk
  iexists f
  isplitr; · ipureintro; exact hf
  iexact H

/-- A conditional whose condition is known. -/
theorem take {α : Type} {Q : α → sProp 𝕄} {p : Prop} {d : Decidable p}
    {A : p → Prog (TpuEff nD τ sig (Elt F) Λ₀ .tc) α} {B : ¬ p → Prog (TpuEff nD τ sig (Elt F) Λ₀ .tc) α} (h : p) :
    wp frame (wpE (defs₀ (F := F)) Variants.none c none) Set.univ (A h) Q
      ⊢ wp frame (wpE (defs₀ (F := F)) Variants.none c none) Set.univ (dite p A B) Q := by
  rw [dif_pos h]
theorem skip {α : Type} {Q : α → sProp 𝕄} {p : Prop} {d : Decidable p}
    {A : p → Prog (TpuEff nD τ sig (Elt F) Λ₀ .tc) α} {B : ¬ p → Prog (TpuEff nD τ sig (Elt F) Λ₀ .tc) α} (h : ¬ p) :
    wp frame (wpE (defs₀ (F := F)) Variants.none c none) Set.univ (B h) Q
      ⊢ wp frame (wpE (defs₀ (F := F)) Variants.none c none) Set.univ (dite p A B) Q := by
  rw [dif_neg h]

theorem cond1_iff {i : grid0.Coords} {j : Fin 89} (hj : i 0 = j) : k0_cond1 i = 1#1 ↔ j.val = 0 := by
  have h : ∀ j : Fin 89, (Scalar.cmpi .ne (Scalar.extui (Scalar.cmpi .eq (BitVec.ofNat 32 j.val) 0#32)) 0#32 = 1#1 ↔ j.val = 0) := by
    decide +kernel
  subst hj
  exact h (i 0)
theorem cond5_iff (i : grid0.Coords) (w : BitVec 32) : k0_cond5 i w = 1#1 ↔ ¬ k0_cond4 i w = 1#1 := by
  unfold k0_cond5 k0_cond4
  generalize BitVec.ofNat 32 (i 0).val = a
  simp only [Scalar.cmpi, Scalar.extui, IntOp.cmpi, BitVec.sle_eq_not_slt]
  cases BitVec.slt a w <;> decide
theorem other_slot {v : BitVec 32} {s : Fin 2} (h : v.toNat = s.val) : (Scalar.subi 1#32 v).toNat = (1 - s : Fin 2).val := by
  obtain rfl : v = BitVec.ofNat 32 s.val := by
    apply BitVec.eq_of_toNat_eq
    rw [h, BitVec.toNat_ofNat]
    exact (Nat.mod_eq_of_lt (lt_trans s.isLt (by decide))).symm
  revert s
  decide

theorem body_spec {i : grid0.Coords} {j : Fin 89} (hj : i 0 = j) {xb : Memref sig .tc .vmem S256x1152 .f32} {hx : xb.IsWhole} {yb : Memref sig .tc .vmem S256x1024 .f32} {hy : yb.IsWhole}
    (X : S256x1152.Idx → Elt F .f32) (Y : S256x1024.Idx → Elt F .f32) :
    iprop(tabs c pv nv ∗ lanes c V pv P j.val ∗ (∃ W, owes (c : Thread nD τ) 0 W) ∗ owns (c : Thread nD τ) xb fullShare X ∗ owns (c : Thread nD τ) yb fullShare Y)
      ⊢ wp frame (wpE (defs₀ (F := F)) Variants.none c none) Set.univ (callB i xb hx yb hy) fun _ =>
        iprop(tabs c pv nv ∗ lanes c V pv P (j.val + 1) ∗ (∃ W, owes (c : Thread nD τ) 0 W) ∗ owns (c : Thread nD τ) xb fullShare X
          ∗ owns (c : Thread nD τ) yb fullShare (tileOut c V pv nv P j i X)) := by
  unfold callB
  rw [cc0_moe_experts_eq_skeleton]
  unfold cc0_moe_experts_skel
  refine step_word c pv nv 3 j (atTile hj 3) ?_
  lift_lets
  extract_lets a0 a1 a2 a3 jp
  set Q : PUnit → sProp 𝕄 := fun _ =>
        iprop(tabs c pv nv ∗ lanes c V pv P (j.val + 1) ∗ (∃ W, owes (c : Thread nD τ) 0 W) ∗ owns (c : Thread nD τ) xb fullShare X
          ∗ owns (c : Thread nD τ) yb fullShare (tileOut c V pv nv P j i X)) with hQ
  have hEnd : (Q ⟨⟩) ⊢ wp frame (wpE (defs₀ (F := F)) Variants.none c none) Set.univ (a0 ⟨⟩) Q := le_wp_ret _ _ _ _ _
  clear_value a0
  have hTail : iprop(tabs c pv nv ∗ lanes c V pv P (j.val + 1) ∗ (∃ W, owes (c : Thread nD τ) 0 W) ∗ owns (c : Thread nD τ) xb fullShare X
      ∗ owns (c : Thread nD τ) yb fullShare (if k0_cond4 i (nuWord c nv) = 1#1 then tileOut c V pv nv P j i X else Y))
      ⊢ wp frame (wpE (defs₀ (F := F)) Variants.none c none) Set.univ (a1 ⟨⟩) Q := by
    refine step_nu c pv nv rfl ?_
    refine step_if c (fun h => ?_) (fun h => ?_)
    · have h4 := (cond5_iff i _).1 h
      rw [if_neg h4]
      iintro ⟨HT, HL, HW, HX, HY⟩
      iapply (load_out c yb fullShare Y _) $$ HY
      iintro HY
      iapply (store_owned c yb Y k0_pay2) $$ HY
      iintro HY
      iapply hEnd
      rw [hQ, tileOut, if_neg h4]
      isplitl [HT]; · iexact HT
      isplitl [HL]; · iexact HL
      isplitl [HW]; · iexact HW
      isplitl [HX] <;> iassumption
    · have h4 : k0_cond4 i (nuWord c nv) = 1#1 := not_not.1 fun h' => h ((cond5_iff i _).2 h')
      rw [if_pos h4]
      exact hEnd
  clear_value a1
  have hUsed : iprop(tabs c pv nv ∗ lanes c V pv P (j.val + 1) ∗ (∃ W, owes (c : Thread nD τ) 0 W) ∗ owns (c : Thread nD τ) xb fullShare X
      ∗ owns (c : Thread nD τ) yb fullShare Y)
      ⊢ wp frame (wpE (defs₀ (F := F)) Variants.none c none) Set.univ (a2 ⟨⟩) Q := by
    refine step_nu c pv nv rfl ?_
    refine step_pass c (chk9_ok i _ (P.sl_eq j)) ?_
    refine step_if c (fun h => ?_) (fun h => ?_)
    · rw [if_pos h] at hTail
      rw [lanes_succ c V pv P j.val j.isLt] at hTail ⊢
      iintro ⟨HT, ⟨HF, HA⟩, HW, HX, HY⟩
      rw [wp_bind]
      iapply (part4_spec c V (P.sl_eq j) X) $$ [HX HF]
      · isplitl [HX]; · iexact HX
        iexact HF
      iintro ⟨HX, HF⟩
      unfold sFull kFull
      icases HF with ⟨⟨H1, H3, H2⟩, H1', H3', H2'⟩
      iapply (loadB c wb2 hw2 (V main_v2) 2 (P.sl j) 1 (P.hi j) (vec4 (P.sl_eq j) rfl)) $$ H2'
      iintro H2'
      iapply (load_out c yb fullShare Y _) $$ HY
      iintro HY
      iapply (store_owned c yb Y (mix c V X (P.lo j) (P.hi j))) $$ HY
      iintro HY
      iapply hTail
      rw [tileOut, if_pos h]
      unfold sFull kFull
      isplitl [HT]; · iexact HT
      isplitl [H1 H3 H2 H1' H3' H2' HA]
      · isplitr [HA]
        · isplitl [H1 H3 H2]
          · isplitl [H1]; · iexact H1
            isplitl [H3] <;> iassumption
          isplitl [H1']; · iexact H1'
          isplitl [H3'] <;> iassumption
        iexact HA
      isplitl [HW]; · iexact HW
      isplitl [HX] <;> iassumption
    · rw [if_neg h] at hTail
      exact hTail
  clear_value a2
  have hJ : iprop(tabs c pv nv ∗ midway c V pv P j ∗ (∃ W, owes (c : Thread nD τ) 0 W) ∗ owns (c : Thread nD τ) xb fullShare X ∗ owns (c : Thread nD τ) yb fullShare Y)
      ⊢ wp frame (wpE (defs₀ (F := F)) Variants.none c none) Set.univ (jp ⟨⟩) Q := by
    refine step_word c pv nv 2 j (atTile hj 2) ?_
    refine step_pass c (chk3_ok _ (P.sl_eq j)) ?_
    rw [lanes_succ c V pv P j.val j.isLt] at hUsed
    refine step_if c (fun h => ?_) (fun h => ?_)
    · unfold midway
      rw [if_pos h]
      unfold sFly
      iintro ⟨HT, ⟨⟨HF, HF'⟩, HA⟩, HW, HX, HY⟩
      unfold kFly
      icases HF' with ⟨H1, H3, H2⟩
      rw [wp_bind]
      iapply (part3_spec c V pv nv hj (P.sl_eq j) (P.lo_eq j) (chk5_ok _ (P.hi_eq j))) $$ [HT HF H1 HW]
      · isplitl [HT]; · iexact HT
        isplitl [HF]; · unfold kFly; iexact HF
        isplitl [H1]; · iexact H1
        iexact HW
      iintro ⟨HT, HF, H1, HW⟩
      iapply (waitA c wb3 hw3 (V main_v1) 1 (P.sl j) 1 (P.hi j) (vec4 (P.sl_eq j) rfl) (vec2 (P.sl_eq j) rfl)) $$ [H3 HW]
      · isplitl [H3] <;> iassumption
      iintro ⟨H3, HW⟩
      iapply (waitB c wb2 hw2 (V main_v2) 2 (P.sl j) 1 (P.hi j) (vec4 (P.sl_eq j) rfl) (vec2 (P.sl_eq j) rfl)) $$ [H2 HW]
      · isplitl [H2] <;> iassumption
      iintro ⟨H2, HW⟩
      iapply (load_word c pv nv 4 j (atTile hj 4)) $$ HT
      iintro HT
      have ht := other_slot (P.sl_eq j)
      iapply (pass c (chk6_ok _ _ ht))
      match hn : P.nx j with
      | none =>
        rw [hn] at hUsed
        iapply (skip c (P.nx_none j hn))
        iapply hUsed
        unfold sFull
        isplitl [HT]; · iexact HT
        isplitl [HF H1 H3 H2 HA]
        · isplitr [HA]
          · isplitl [HF]; · iexact HF
            unfold kFull
            isplitl [H1]; · iexact H1
            isplitl [H3] <;> iassumption
          unfold ahead
          iexact HA
        isplitl [HW]; · iexact HW
        isplitl [HX] <;> iassumption
      | some (a, b) =>
        obtain ⟨h3, ha, hb⟩ := P.nx_some j a b hn
        rw [hn] at hUsed
        iapply (take c h3)
        unfold sFree
        icases HA with ⟨HA, HA'⟩
        rw [wp_bind]
        iapply (part2_spec c V pv nv hj ht ha (chk8_ok _ _ hb)) $$ [HT HA]
        · isplitl [HT] <;> iassumption
        iintro ⟨HT, HA⟩
        unfold kFree
        icases HA' with ⟨G1, G3, G2⟩
        iapply (startA c wb1 hw1 (V main_v0) 0 (1 - P.sl j) 1 b (vec4 ht rfl) (vec3 hb) (vec2 ht rfl)) $$ G1
        iintro G1
        iapply (startA c wb3 hw3 (V main_v1) 1 (1 - P.sl j) 1 b (vec4 ht rfl) (vec3 hb) (vec2 ht rfl)) $$ G3
        iintro G3
        iapply (startB c wb2 hw2 (V main_v2) 2 (1 - P.sl j) 1 b (vec4 ht rfl) (vec3 hb) (vec2 ht rfl)) $$ G2
        iintro G2
        iapply hUsed
        unfold sFull ahead sFly
        isplitl [HT]; · iexact HT
        isplitl [HF H1 H3 H2 HA G1 G3 G2]
        · isplitr [HA G1 G3 G2]
          · isplitl [HF]; · iexact HF
            unfold kFull
            isplitl [H1]; · iexact H1
            isplitl [H3] <;> iassumption
          isplitl [HA]; · iexact HA
          unfold kFly
          isplitl [G1]; · iexact G1
          isplitl [G3] <;> iassumption
        isplitl [HW]; · iexact HW
        isplitl [HX] <;> iassumption
    · unfold midway
      rw [if_neg h]
      exact hUsed
  clear_value jp
  refine step_if c (fun h => ?_) (fun h => ?_)
  · have h0 : j.val = 0 := (cond1_iff hj).1 h
    obtain rfl : j = 0 := Fin.ext h0
    show iprop(tabs c pv nv ∗ lanes c V pv P 0 ∗ _) ⊢ _
    unfold lanes sFree
    iintro ⟨HT, ⟨⟨H0, H1⟩, HO⟩, HW, HX, HY⟩
    rw [wp_bind]
    iapply (part1_spec c V pv nv (P.lo_eq 0) (P.hi_eq 0) (chk2_ok i (P.hi_eq 0))) $$ [HT H0]
    · isplitl [HT] <;> iassumption
    iintro ⟨HT, H0⟩
    unfold kFree
    icases H1 with ⟨H1, H3, H2⟩
    iapply (startA c wb1 hw1 (V main_v0) 0 0 1 (P.hi 0) rfl (vec3 (P.hi_eq 0)) rfl) $$ H1
    iintro H1
    iapply (startA c wb3 hw3 (V main_v1) 1 0 1 (P.hi 0) rfl (vec3 (P.hi_eq 0)) rfl) $$ H3
    iintro H3
    iapply (startB c wb2 hw2 (V main_v2) 2 0 1 (P.hi 0) rfl (vec3 (P.hi_eq 0)) rfl) $$ H2
    iintro H2
    iapply hJ
    unfold midway
    rw [if_pos P.first0, P.sl0]
    isplitl [HT]; · iexact HT
    isplitl [H0 H1 H2 H3 HO]
    · isplitr [HO]
      · unfold sFly
        isplitl [H0]; · iexact H0
        unfold kFly
        isplitl [H1]; · iexact H1
        isplitl [H3] <;> iassumption
      unfold sFree
      iexact HO
    isplitl [HW]; · iexact HW
    isplitl [HX] <;> iassumption
  · refine BIBase.Entails.trans ?_ hJ
    iintro ⟨HT, HL, Hr⟩
    isplitl [HT]; · iexact HT
    isplitl [HL]
    · iapply (lanes_midway c V pv P j (fun h0 => h ((cond1_iff hj).2 h0))) $$ HL
    iexact Hr

end Body

end Cert.KernelIdeal.Moe
end
-- ==== Proof.Split.lean ====
/- The scratch buffers, the weights and the semaphores of the call, cut into the twelve lanes and joined back. -/
module

public import proofs.«01_k».proof.Proof.Body

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## A buffer in four blocks -/

/-- Four element sets that tile a buffer. -/
structure Tile4 {I : Type} [DecidableEq I] [Fintype I] (A B C D : Finset I) : Prop where
  ab : Disjoint A B
  abc : Disjoint (A ∪ B) C
  abcd : Disjoint (A ∪ B ∪ C) D
  all : A ∪ B ∪ C ∪ D = Finset.univ

theorem tile4_split {ℓ : Loc nD τ sig} {A B C D : Finset (Idx ℓ)} (h : Tile4 A B C D) (f : Buf (Elt F) ℓ) :
    (ℓ ↦{fullShare} f : sProp 𝕄) ⊢ iprop((∃ f, ℓ ↦[A]{fullShare} f) ∗ (∃ f, ℓ ↦[B]{fullShare} f) ∗ (∃ f, ℓ ↦[C]{fullShare} f) ∗ ∃ f, ℓ ↦[D]{fullShare} f) := by
  rw [← h.all]
  iintro H
  ihave H1 := (pointsTo_union h.abcd).1 $$ H
  icases H1 with ⟨H1, HD⟩
  ihave H2 := (pointsTo_union h.abc).1 $$ H1
  icases H2 with ⟨H2, HC⟩
  ihave H3 := (pointsTo_union h.ab).1 $$ H2
  icases H3 with ⟨HA, HB⟩
  isplitl [HA]; · iexists f; iexact HA
  isplitl [HB]; · iexists f; iexact HB
  isplitl [HC]; · iexists f; iexact HC
  iexists f; iexact HD

theorem tile4_join {ℓ : Loc nD τ sig} {A B C D : Finset (Idx ℓ)} (h : Tile4 A B C D) :
    iprop((∃ f, ℓ ↦[A]{fullShare} f) ∗ (∃ f, ℓ ↦[B]{fullShare} f) ∗ (∃ f, ℓ ↦[C]{fullShare} f) ∗ ∃ f, ℓ ↦[D]{fullShare} f)
      ⊢ (iprop(∃ f : Buf (Elt F) ℓ, ℓ ↦{fullShare} f) : sProp 𝕄) := by
  iintro ⟨⟨%a, HA⟩, ⟨%b, HB⟩, ⟨%c, HC⟩, ⟨%d, HD⟩⟩
  ihave H1 := (pointsTo_join h.ab) $$ [HA HB]
  · isplitl [HA] <;> iassumption
  ihave H2 := (pointsTo_join h.abc) $$ [H1 HC]
  · isplitl [H1] <;> iassumption
  ihave H3 := (pointsTo_join h.abcd) $$ [H2 HD]
  · isplitl [H2] <;> iassumption
  rw [h.all]
  iexists _; iexact H3

/-- A tiling from the lane a position lies in. -/
theorem tile4_of {I : Type} [DecidableEq I] [Fintype I] (K : Fin 2 → Fin 2 → Finset I) (a b : I → ℕ) (ha : ∀ x, a x < 2) (hb : ∀ x, b x < 2)
    (h : ∀ s k x, x ∈ K s k ↔ (a x = s.val ∧ b x = k.val)) : Tile4 (K 0 0) (K 0 1) (K 1 0) (K 1 1) where
  ab := by
    rw [Finset.disjoint_left]; intro x hx hy
    have h1 := (h 0 0 x).1 hx; have h2 := (h 0 1 x).1 hy
    have := h1.2.symm.trans h2.2; exact absurd this (by decide)
  abc := by
    rw [Finset.disjoint_left]; intro x hx hy
    have h2 := (h 1 0 x).1 hy
    rcases Finset.mem_union.1 hx with hx | hx
    · have := ((h 0 0 x).1 hx).1.symm.trans h2.1; exact absurd this (by decide)
    · have := ((h 0 1 x).1 hx).1.symm.trans h2.1; exact absurd this (by decide)
  abcd := by
    rw [Finset.disjoint_left]; intro x hx hy
    have h2 := (h 1 1 x).1 hy
    rcases Finset.mem_union.1 hx with hx | hx
    · rcases Finset.mem_union.1 hx with hx | hx
      · have := ((h 0 0 x).1 hx).1.symm.trans h2.1; exact absurd this (by decide)
      · have := ((h 0 1 x).1 hx).1.symm.trans h2.1; exact absurd this (by decide)
    · have := ((h 1 0 x).1 hx).2.symm.trans h2.2; exact absurd this (by decide)
  all := by
    ext x
    simp only [Finset.mem_union, Finset.mem_univ, iff_true]
    have h1 := ha x; have h2 := hb x
    rcases Nat.lt_or_ge (a x) 1 with h3 | h3 <;> rcases Nat.lt_or_ge (b x) 1 with h4 | h4
    · exact .inl (.inl (.inl ((h 0 0 x).2 ⟨by show a x = 0; omega, by show b x = 0; omega⟩)))
    · exact .inl (.inl (.inr ((h 0 1 x).2 ⟨by show a x = 0; omega, by show b x = 1; omega⟩)))
    · exact .inl (.inr ((h 1 0 x).2 ⟨by show a x = 1; omega, by show b x = 0; omega⟩))
    · exact .inr ((h 1 1 x).2 ⟨by show a x = 1; omega, by show b x = 1; omega⟩)

theorem mem_unitA (s k : Fin 2) (x : S2x2x1024x512.Idx) :
    x ∈ (Rect.unit (s := S2x2x1024x512) (offD s k) S1x1x1024x512.size (inbDA s k)).set ↔ ((x 0).val = s.val ∧ (x 1).val = k.val) := by
  rw [Rect.mem_set_unit]
  constructor
  · intro h
    have h0 := h 0; have h1 := h 1
    change s.val ≤ (x 0).val ∧ (x 0).val < s.val + 1 at h0
    change k.val ≤ (x 1).val ∧ (x 1).val < k.val + 1 at h1
    omega
  · intro h a
    have h2 : (x 2).val < 1024 := (x 2).isLt
    have h3 : (x 3).val < 512 := (x 3).isLt
    fin_cases a
    · show s.val ≤ (x 0).val ∧ (x 0).val < s.val + 1; omega
    · show k.val ≤ (x 1).val ∧ (x 1).val < k.val + 1; omega
    · show 0 ≤ (x 2).val ∧ (x 2).val < 0 + 1024; omega
    · show 0 ≤ (x 3).val ∧ (x 3).val < 0 + 512; omega

theorem mem_unitB (s k : Fin 2) (x : S2x2x512x1024.Idx) :
    x ∈ (Rect.unit (s := S2x2x512x1024) (offD s k) S1x1x512x1024.size (inbDB s k)).set ↔ ((x 0).val = s.val ∧ (x 1).val = k.val) := by
  rw [Rect.mem_set_unit]
  constructor
  · intro h
    have h0 := h 0; have h1 := h 1
    change s.val ≤ (x 0).val ∧ (x 0).val < s.val + 1 at h0
    change k.val ≤ (x 1).val ∧ (x 1).val < k.val + 1 at h1
    omega
  · intro h a
    have h2 : (x 2).val < 512 := (x 2).isLt
    have h3 : (x 3).val < 1024 := (x 3).isLt
    fin_cases a
    · show s.val ≤ (x 0).val ∧ (x 0).val < s.val + 1; omega
    · show k.val ≤ (x 1).val ∧ (x 1).val < k.val + 1; omega
    · show 0 ≤ (x 2).val ∧ (x 2).val < 0 + 512; omega
    · show 0 ≤ (x 3).val ∧ (x 3).val < 0 + 1024; omega

theorem tiles0 : Tile4 (dA wb1 (offD 0 0) (inbDA 0 0)).view.set (dA wb1 (offD 0 1) (inbDA 0 1)).view.set (dA wb1 (offD 1 0) (inbDA 1 0)).view.set (dA wb1 (offD 1 1) (inbDA 1 1)).view.set :=
  tile4_of (fun s k => (dA wb1 (offD s k) (inbDA s k)).view.set) (fun x : S2x2x1024x512.Idx => (x 0).val) (fun x => (x 1).val)
    (fun x => (x 0).isLt) (fun x => (x 1).isLt) (fun s k x => by
      rw [← mem_unitA s k x]
      exact Eq.to_iff (congrArg (x ∈ ·) ((View.set_reshape _ _).trans (View.set_slice_whole _ _))))
theorem tiles1 : Tile4 (dA wb3 (offD 0 0) (inbDA 0 0)).view.set (dA wb3 (offD 0 1) (inbDA 0 1)).view.set (dA wb3 (offD 1 0) (inbDA 1 0)).view.set (dA wb3 (offD 1 1) (inbDA 1 1)).view.set :=
  tile4_of (fun s k => (dA wb3 (offD s k) (inbDA s k)).view.set) (fun x : S2x2x1024x512.Idx => (x 0).val) (fun x => (x 1).val)
    (fun x => (x 0).isLt) (fun x => (x 1).isLt) (fun s k x => by
      rw [← mem_unitA s k x]
      exact Eq.to_iff (congrArg (x ∈ ·) ((View.set_reshape _ _).trans (View.set_slice_whole _ _))))
theorem tiles2 : Tile4 (dB wb2 (offD 0 0) (inbDB 0 0)).view.set (dB wb2 (offD 0 1) (inbDB 0 1)).view.set (dB wb2 (offD 1 0) (inbDB 1 0)).view.set (dB wb2 (offD 1 1) (inbDB 1 1)).view.set :=
  tile4_of (fun s k => (dB wb2 (offD s k) (inbDB s k)).view.set) (fun x : S2x2x512x1024.Idx => (x 0).val) (fun x => (x 1).val)
    (fun x => (x 0).isLt) (fun x => (x 1).isLt) (fun s k x => by
      rw [← mem_unitB s k x]
      exact Eq.to_iff (congrArg (x ∈ ·) ((View.set_reshape _ _).trans (View.set_slice_whole _ _))))

/-! ## The weights in quarter shares -/

theorem quarters {ℓ : Loc nD τ sig} (f : Buf (Elt F) ℓ) :
    (ℓ ↦{fullShare} f : sProp 𝕄) ⊣⊢ iprop((ℓ ↦{qr 0 0} f) ∗ (ℓ ↦{qr 0 1} f) ∗ (ℓ ↦{qr 1 0} f) ∗ ℓ ↦{qr 1 1} f) := by
  constructor
  · iintro H
    ihave H1 := (pointsTo_share (PosShare.mem_left_op_right fullShare)).1 $$ H
    icases H1 with ⟨HL, HR⟩
    ihave HL' := (pointsTo_share (PosShare.mem_left_op_right fullShare.left)).1 $$ HL
    icases HL' with ⟨H00, H01⟩
    ihave HR' := (pointsTo_share (PosShare.mem_left_op_right fullShare.right)).1 $$ HR
    icases HR' with ⟨H10, H11⟩
    isplitl [H00]; · iexact H00
    isplitl [H01]; · iexact H01
    isplitl [H10]; · iexact H10
    iexact H11
  · iintro ⟨H00, H01, H10, H11⟩
    iapply (pointsTo_share (PosShare.mem_left_op_right fullShare)).2
    isplitl [H00 H01]
    · iapply (pointsTo_share (PosShare.mem_left_op_right fullShare.left)).2
      isplitl [H00]; · iexact H00
      iexact H01
    · iapply (pointsTo_share (PosShare.mem_left_op_right fullShare.right)).2
      isplitl [H10]; · iexact H10
      iexact H11

/-! ## The semaphores -/

abbrev osem0 : Fin 12 → SemLoc sig := fun j =>
  (![SemLoc.dma 4, SemLoc.dma 5, SemLoc.dma 6, SemLoc.dma 7, SemLoc.dma 8, SemLoc.dma 9,
    SemLoc.dma 10, SemLoc.dma 11, SemLoc.dma 12, SemLoc.dma 13, SemLoc.dma 14, SemLoc.dma 15] : Fin 12 → SemLoc sig) j
theorem ownSemFacts0 : Pipeline.OwnSemFacts spec0 osem0 := by decide

theorem cell_eq (s k : Fin 2) (j : Fin 3) :
    SemLoc.dma (cellAt (offC s k j) (inbC s k j)) = osem0 ⟨6 * s.val + 3 * k.val + j.val, by omega⟩ := by
  revert s k j; decide

/-- The cell of a lane at zero. -/
abbrev cellZ (c : Dev nD) (s k : Fin 2) (j : Fin 3) : sProp 𝕄 := semVal ((c : Thread nD τ), .dma (cellAt (offC s k j) (inbC s k j))) 0

theorem cellZ_eq (c : Dev nD) (s k : Fin 2) (j : Fin 3) :
    (cellZ c s k j : sProp 𝕄) = semVal ((c : Thread nD τ), osem0 ⟨6 * s.val + 3 * k.val + j.val, by omega⟩) 0 :=
  congrArg (fun l => (semVal ((c : Thread nD τ), l) 0 : sProp 𝕄)) (cell_eq s k j)

theorem ownSems00_eq (c : Dev nD) :
    (Pipeline.ownSems0 (Ix := Unit) (Name := ℕ) (U := Pipeline.UD sig nD τ) (Lvl := ℕ) (Val := Elt F) (τ := τ) osem0 c : sProp 𝕄)
      = iprop(cellZ c 0 0 0 ∗ cellZ c 0 0 1 ∗ cellZ c 0 0 2 ∗ cellZ c 0 1 0 ∗ cellZ c 0 1 1 ∗ cellZ c 0 1 2
          ∗ cellZ c 1 0 0 ∗ cellZ c 1 0 1 ∗ cellZ c 1 0 2 ∗ cellZ c 1 1 0 ∗ cellZ c 1 1 1 ∗ cellZ c 1 1 2) := by
  rw [cellZ_eq c 0 0 0, cellZ_eq c 0 0 1, cellZ_eq c 0 0 2, cellZ_eq c 0 1 0, cellZ_eq c 0 1 1, cellZ_eq c 0 1 2,
    cellZ_eq c 1 0 0, cellZ_eq c 1 0 1, cellZ_eq c 1 0 2, cellZ_eq c 1 1 0, cellZ_eq c 1 1 1, cellZ_eq c 1 1 2]
  rw [Pipeline.ownSems0_eq_of_list c osem0 [0, 1, 2, 3, 4, 5, 6, 7, 8, 9, 10, 11] (by decide) (by decide)]; rfl

/-! ## The operands left in the main memory -/

def H0 : Finset (Ref sig .tc) := {main_v0, main_v1, main_v2}
theorem H0_sub : H0 ⊆ Pipeline.restRefsP sig pre0 spec0 := by decide

theorem hbmPts0_eq (c : Dev nD) (V : (b : Ref sig .tc) → Buf (Elt F) ((c : Thread nD τ).loc b)) :
    (bigSep H0 (fun b => ((c : Thread nD τ).loc b) ↦{fullShare} V b) : sProp 𝕄)
      = iprop((((c : Thread nD τ).loc main_v0) ↦{fullShare} V main_v0) ∗ (((c : Thread nD τ).loc main_v1) ↦{fullShare} V main_v1)
          ∗ (((c : Thread nD τ).loc main_v2) ↦{fullShare} V main_v2)) := by
  rw [BI.bigSep_eq_bigSepL_of_eq [main_v0, main_v1, main_v2] (by decide) (by decide)]; rfl

/-! ## Into the lanes and back -/

section Joins

variable (c : Dev nD) (V : (b : Ref sig .tc) → Buf (Elt F) ((c : Thread nD τ).loc b))

/-- The three scratch buffers at any contents. -/
abbrev scratch : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

theorem into_lanes :
    iprop(scratch c ∗ Pipeline.ownSems0 (Ix := Unit) (Name := ℕ) (U := Pipeline.UD sig nD τ) (Lvl := ℕ) (Val := Elt F) (τ := τ) osem0 c
        ∗ bigSep H0 (fun b => ((c : Thread nD τ).loc b) ↦{fullShare} V b))
      ⊢ (iprop(sFree c V 0 ∗ sFree c V 1) : sProp 𝕄) := by
  rw [ownSems00_eq, hbmPts0_eq]
  unfold sFree kFree freeA freeB blockAny
  iintro ⟨⟨⟨%f0, HS0⟩, ⟨%f1, HS1⟩, ⟨%f2, HS2⟩⟩, ⟨Z0, Z1, Z2, Z3, Z4, Z5, Z6, Z7, Z8, Z9, Z10, Z11⟩, ⟨W0, W1, W2⟩⟩
  ihave HS0 := (tile4_split tiles0 f0) $$ HS0
  icases HS0 with ⟨A00, A01, A10, A11⟩
  ihave HS1 := (tile4_split tiles1 f1) $$ HS1
  icases HS1 with ⟨B00, B01, B10, B11⟩
  ihave HS2 := (tile4_split tiles2 f2) $$ HS2
  icases HS2 with ⟨C00, C01, C10, C11⟩
  ihave W0 := (quarters _).1 $$ W0
  icases W0 with ⟨P00, P01, P10, P11⟩
  ihave W1 := (quarters _).1 $$ W1
  icases W1 with ⟨Q00, Q01, Q10, Q11⟩
  ihave W2 := (quarters _).1 $$ W2
  icases W2 with ⟨R00, R01, R10, R11⟩
  isplitl [A00 A01 B00 B01 C00 C01 P00 P01 Q00 Q01 R00 R01 Z0 Z1 Z2 Z3 Z4 Z5]
  · isplitl [A00 B00 C00 P00 Q00 R00 Z0 Z1 Z2]
    · isplitl [A00 P00 Z0]
      · isplitl [A00]; · iexact A00
        isplitl [P00]; · iexact P00
        iexact Z0
      isplitl [B00 Q00 Z1]
      · isplitl [B00]; · iexact B00
        isplitl [Q00]; · iexact Q00
        iexact Z1
      isplitl [C00]; · iexact C00
      isplitl [R00]; · iexact R00
      iexact Z2
    · isplitl [A01 P01 Z3]
      · isplitl [A01]; · iexact A01
        isplitl [P01]; · iexact P01
        iexact Z3
      isplitl [B01 Q01 Z4]
      · isplitl [B01]; · iexact B01
        isplitl [Q01]; · iexact Q01
        iexact Z4
      isplitl [C01]; · iexact C01
      isplitl [R01]; · iexact R01
      iexact Z5
  · isplitl [A10 B10 C10 P10 Q10 R10 Z6 Z7 Z8]
    · isplitl [A10 P10 Z6]
      · isplitl [A10]; · iexact A10
        isplitl [P10]; · iexact P10
        iexact Z6
      isplitl [B10 Q10 Z7]
      · isplitl [B10]; · iexact B10
        isplitl [Q10]; · iexact Q10
        iexact Z7
      isplitl [C10]; · iexact C10
      isplitl [R10]; · iexact R10
      iexact Z8
    · isplitl [A11 P11 Z9]
      · isplitl [A11]; · iexact A11
        isplitl [P11]; · iexact P11
        iexact Z9
      isplitl [B11 Q11 Z10]
      · isplitl [B11]; · iexact B11
        isplitl [Q11]; · iexact Q11
        iexact Z10
      isplitl [C11]; · iexact C11
      isplitl [R11]; · iexact R11
      iexact Z11

theorem from_lanes :
    (iprop(sFree c V 0 ∗ sFree c V 1) : sProp 𝕄)
      ⊢ iprop(scratch c ∗ Pipeline.ownSems0 (Ix := Unit) (Name := ℕ) (U := Pipeline.UD sig nD τ) (Lvl := ℕ) (Val := Elt F) (τ := τ) osem0 c
        ∗ bigSep H0 (fun b => ((c : Thread nD τ).loc b) ↦{fullShare} V b)) := by
  rw [ownSems00_eq, hbmPts0_eq]
  unfold sFree kFree freeA freeB blockAny
  iintro ⟨⟨⟨⟨A00, P00, Z0⟩, ⟨B00, Q00, Z1⟩, ⟨C00, R00, Z2⟩⟩, ⟨⟨A01, P01, Z3⟩, ⟨B01, Q01, Z4⟩, ⟨C01, R01, Z5⟩⟩⟩,
    ⟨⟨⟨A10, P10, Z6⟩, ⟨B10, Q10, Z7⟩, ⟨C10, R10, Z8⟩⟩, ⟨⟨A11, P11, Z9⟩, ⟨B11, Q11, Z10⟩, ⟨C11, R11, Z11⟩⟩⟩⟩
  isplitl [A00 A01 A10 A11 B00 B01 B10 B11 C00 C01 C10 C11]
  · isplitl [A00 A01 A10 A11]
    · iapply (tile4_join tiles0)
      isplitl [A00]; · iexact A00
      isplitl [A01]; · iexact A01
      isplitl [A10]; · iexact A10
      iexact A11
    isplitl [B00 B01 B10 B11]
    · iapply (tile4_join tiles1)
      isplitl [B00]; · iexact B00
      isplitl [B01]; · iexact B01
      isplitl [B10]; · iexact B10
      iexact B11
    iapply (tile4_join tiles2)
    isplitl [C00]; · iexact C00
    isplitl [C01]; · iexact C01
    isplitl [C10]; · iexact C10
    iexact C11
  isplitl [Z0 Z1 Z2 Z3 Z4 Z5 Z6 Z7 Z8 Z9 Z10 Z11]
  · isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    isplitl [Z7]; · iexact Z7
    isplitl [Z8]; · iexact Z8
    isplitl [Z9]; · iexact Z9
    isplitl [Z10]; · iexact Z10
    iexact Z11
  isplitl [P00 P01 P10 P11]
  · iapply (quarters _).2
    isplitl [P00]; · iexact P00
    isplitl [P01]; · iexact P01
    isplitl [P10]; · iexact P10
    iexact P11
  isplitl [Q00 Q01 Q10 Q11]
  · iapply (quarters _).2
    isplitl [Q00]; · iexact Q00
    isplitl [Q01]; · iexact Q01
    isplitl [Q10]; · iexact Q10
    iexact Q11
  iapply (quarters _).2
  isplitl [R00]; · iexact R00
  isplitl [R01]; · iexact R01
  isplitl [R10]; · iexact R10
  iexact R11

end Joins

end Cert.KernelIdeal.Moe

end
-- ==== Proof.Run.lean ====
/- The run of the program: the host operations, then the call over its 89 tiles; every array it writes at its final contents. -/
module

public import proofs.«01_k».proof.Proof.Split

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The host operations -/

/-- The host operations before the call, stretch by stretch. -/
abbrev hostOps : List (List (HloOp τ sig (Elt F))) :=
  [hostOps0, hostOps0_1, hostOps0_2, hostOps0_3, hostOps0_4, hostOps0_5, hostOps0_6, hostOps0_7, hostOps0_8, hostOps0_9, hostOps0_10, hostOps0_11]

/-- What the buffers hold when the call is reached. -/
@[irreducible] def V (c : Dev nD) (b : Ref sig .tc) : Buf (Elt F) ((c : Thread nD τ).loc b) :=
  StableHlo.after (hostOps (F := F)).flatten (fun b => m (c, b)) b

theorem hostOps_sub : (hostOps (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub,
    hostOps0_9_sub, hostOps0_10_sub, hostOps0_11_sub⟩

theorem hostOps_fresh : (hostOps (F := F)).Forall fun ops => ops.Forall fun op => op.fresh = ∅ := by
  refine ⟨?_, ?_, ?_, ?_, ?_, ?_, ?_, ?_, ?_, ?_, ?_, ?_⟩ <;> (simp only [List.Forall]; repeat' constructor)

theorem hmain : Pipeline.HMainP (Ix := Unit) (Name := ℕ) (U := Pipeline.UD sig nD τ) (Lvl := ℕ) pcfgs 0 defs₀ Variants.none m (main (F := F)) (V m) := by
  rw [show V m = fun (c : Dev nD) (b : Ref sig .tc) => StableHlo.after (hostOps (F := F)).flatten (fun b => m (c, b)) b from by funext c b; unfold V; rfl]
  exact Pipeline.hmainP_prefixes pcfgs 0 defs₀ Variants.none m main hostOps hostOps_sub hostOps_fresh (fun c => main_chain c)

/-! ## The tables -/

/-- What the two tables hold when the call is reached (one device). -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
theorem ok_tbl : ok0 (F := F) (tbl m) := trivial
abbrev adm (_ : Fin 1) : (pcfg0 (F := F)).Adm := ⟨tbl m, ok_tbl m⟩
abbrev cfgs (p : Fin 1) : Cfg sig Λ₀ := Pipeline.pin pcfgs (adm m) p
abbrev cfgM : Cfg sig Λ₀ := cfg0 (adm m 0)

theorem PhiT0_eq (c : Dev nD) : (Pipeline.ΦT pre0 (tbl m) c : sProp 𝕄) = tabs c (tbl m 0) (tbl m 1) := by
  unfold Pipeline.ΦT Pipeline.prefHeld
  rw [show (Finset.univ : Finset (Fin 2)) = insert (0 : Fin 2) {(1 : Fin 2)} from by decide, bigSep_insert (by decide), bigSep_singleton]
  rfl

/-! ## The proof data -/

/-- The words of the plan the host computes. -/
abbrev plan (c : Dev nD) : Fin 6 → Fin 89 → BitVec 32 := word (F := F) c (tbl m 0)

variable (P : ∀ c, PlanOK (plan m c))

abbrev ms0_0 (t : Fin (cfgM m).N) : Memref sig .tc .vmem S256x1152 .f32 := (win0 (adm m 0) 0).stage ((cfgM m).slots t 0)
abbrev ms0_1 (t : Fin (cfgM m).N) : Memref sig .tc .vmem S256x1024 .f32 := (win0 (adm m 0) 1).stage ((cfgM m).slots t 1)

/-- The tile of a grid point. -/
abbrev tileOf (i : grid0.Coords) : Fin 89 := i 0

/-- The block of rows a tile reads. -/
def rowsAt (c : Dev nD) (t : Fin (cfgM m).N) : S256x1152.Idx → Elt F .f32 :=
  ((win0 (adm m 0) 0).blk t).view.read (Elt F) (V m c main_arg1)

/-- The block of results a tile leaves. -/
def outAt (c : Dev nD) (t : Fin (cfgM m).N) : S256x1024.Idx → Elt F .f32 :=
  tileOut c (V m c) (tbl m 0) (tbl m 1) (P c) (tileOf (grid0.coords t)) (grid0.coords t) (rowsAt m c t)

def dats (p : Fin 1) (c : Dev nD) : Dat τ (Elt F) Unit ℕ (Pipeline.UD sig nD τ) ℕ (cfgs m p) c where
  A w := V m c (Pipeline.arrRef spec0 w)
  after w t := match w with
    | ⟨0, _⟩ => rowsAt m c t
    | ⟨1, _⟩ => outAt m P c t
  Φ t := iprop(tabs c (tbl m 0) (tbl m 1) ∗ (∃ r, prngReg c r) ∗ lanes c (V m c) (tbl m 0) (P c) t.val)
  q _ := fullShare
  owed _ := 0

theorem A_eq (c : Dev nD) (w : Fin 2) : (dats m P 0 c).A w = V m c (Pipeline.arrRef spec0 w) := by dsimp only [dats]
theorem after0_0 (c : Dev nD) (t : Fin (cfgM m).N) : (dats m P 0 c).after 0 t = rowsAt m c t := by dsimp only [dats]; rfl
theorem after0_1 (c : Dev nD) (t : Fin (cfgM m).N) : (dats m P 0 c).after 1 t = outAt m P c t := by dsimp only [dats]; rfl

theorem before0_0 (c : Dev nD) (t : Fin (cfgM m).N) (d) : (dats m P 0 c).before 0 t d = rowsAt m c t :=
  ((dats m P 0 c).before_in_eq_fetched 0 rfl (fun _ => rfl) (fun _ _ _ => rfl) (fun _ => rfl) t d).trans rfl

/-- A tile always leaves a block. -/
theorem live (i : grid0.Coords) : idle0 (F := F) (tbl m) 1 i = false := by
  show (!(k0_cond4 i ((tbl m).atD 1 ![0]) == 1#1) && !(k0_cond5 i ((tbl m).atD 1 ![0]) == 1#1)) = false
  by_cases h : k0_cond4 i ((tbl m).atD 1 ![0]) = 1#1
  · rw [h]; rfl
  · rw [(cond5_iff i _).2 h]; simp

theorem at_coords (t : Fin (cfgM m).N) : (grid0.coords t 0).val = t.val := by
  have h : t.val < 89 := Nat.lt_of_lt_of_eq t.isLt N_0
  rw [Pipeline.Grid.coords_val (G := grid0) t 0 (S := 1) (B := 89) (by decide) rfl]
  omega

def bodyPre (c : Dev nD) (t : Fin (cfgM m).N) : sProp 𝕄 :=
  iprop((dats m P 0 c).Φ t.castSucc ∗ (dats m P 0 c).owesAt () t.castSucc
    ∗ (∃ d, owns (c : Thread nD τ) (ms0_0 m t) fullShare ((dats m P 0 c).before 0 t d))
    ∗ (∃ d, owns (c : Thread nD τ) (ms0_1 m t) fullShare ((dats m P 0 c).before 1 t d)))
def bodyPost (c : Dev nD) (t : Fin (cfgM m).N) : sProp 𝕄 :=
  iprop((dats m P 0 c).Φ t.succ ∗ (dats m P 0 c).owesAt () t.succ
    ∗ owns (c : Thread nD τ) (ms0_0 m t) fullShare ((dats m P 0 c).after 0 t)
    ∗ owns (c : Thread nD τ) (ms0_1 m t) fullShare ((dats m P 0 c).after 1 t))

abbrev bodyAt0 (t : Fin (cfgM m).N) : Prog (TpuEff nD τ sig (Elt F) Λ₀ .tc) PUnit :=
  callB (F := F) (grid0.coords t) (ms0_0 m t) (hstage0_0 (((cfgM m).slots t 0).cast nbuf0_0)) (ms0_1 m t) (hstage0_1 (((cfgM m).slots t 1).cast nbuf0_1))

theorem sound_body (c : Dev nD) (t : Fin (cfgM m).N) :
    bodyPre m P c t ⊢ wp frame (wpE (defs₀ (F := F)) Variants.none c none) Set.univ (bodyAt0 m t) (fun _ => bodyPost m P c t) := by
  unfold bodyPre bodyPost bodyAt0
  rw [after0_0, after0_1]
  simp only [before0_0]
  rw [show (dats m P 0 c).Φ t.castSucc = iprop(tabs c (tbl m 0) (tbl m 1) ∗ (∃ r, prngReg c r) ∗ lanes c (V m c) (tbl m 0) (P c) t.val) from rfl,
    show (dats m P 0 c).Φ t.succ = iprop(tabs c (tbl m 0) (tbl m 1) ∗ (∃ r, prngReg c r) ∗ lanes c (V m c) (tbl m 0) (P c) (t.val + 1)) from rfl]
  unfold Dat.owesAt Pipeline.owesWithin
  rw [show (dats m P 0 c).owed t.castSucc = 0 from rfl, show (dats m P 0 c).owed t.succ = 0 from rfl]
  iintro ⟨⟨HT, HR, HL⟩, ⟨%W, -, HW⟩, ⟨%d0, HX⟩, ⟨%d1, HY⟩⟩
  iapply (wp_wand frame (wpE (defs₀ (F := F)) Variants.none (c : Thread nD τ) none) Set.univ) $$ [HT HL HW HX HY]
  · iapply (body_spec c (V m c) (tbl m 0) (tbl m 1) (P c) (i := grid0.coords t) (j := tileOf (grid0.coords t)) rfl (rowsAt m c t) ((dats m P 0 c).before 1 t d1))
    rw [at_coords m t]
    isplitl [HT]; · iexact HT
    isplitl [HL]; · iexact HL
    isplitl [HW]; · iexists W; iexact HW
    isplitl [HX]; · iexact HX
    iexact HY
  iintro %_ ⟨HT, HL, ⟨%W', HW'⟩, HX, HY⟩
  rw [at_coords m t]
  isplitl [HT HR HL]
  · isplitl [HT]; · iexact HT
    isplitl [HR]; · iexact HR
    iexact HL
  isplitl [HW']
  · iexists W'; isplitr; · ipureintro; exact fun _ _ => Or.inl trivial
    iexact HW'
  isplitl [HX]; · iexact HX
  unfold outAt
  iexact HY

theorem defs₀_row (t : Fin (cfgM m).N) :
    defs₀ (F := F) .tc (cfgM m).body ((cfgM m).bodyArgs t ((cfgM m).slots t)) = bodyAt0 m t := by
  unfold defs₀; rw [Defs.onTc_tc]

theorem body_obligation (c : Dev nD) : BodyObligation (dats m P 0 c) (defs₀ (F := F)) Variants.none () Set.univ := fun t => by
  rw [bigSep_W0, bigSep_W0, defs₀_row]
  refine triple_restated (sound_body m P c t) rfl .rfl fun _ => ?_
  unfold bodyPost
  refine BI.sep_mono_r (BI.sep_mono_r (BI.sep_mono_r ?_))
  dsimp only
  rw [show idle0 (F := F) (tbl m) 1 (((pcfgs (F := F) 0).gridAt (tbl m)).coords t) = false from live m _]
  exact Idealize.SL.BI.Entails.refl _

/-! ## Into the call and out of it -/

theorem enter (c : Dev nD) :
    iprop(iprop(scratch c ∗ (∃ r, prngReg c r)
        ∗ Pipeline.ownSems0 (Ix := Unit) (Name := ℕ) (U := Pipeline.UD sig nD τ) (Lvl := ℕ) (Val := Elt F) (τ := τ) osem0 c
        ∗ bigSep H0 (fun b => ((c : Thread nD τ).loc b) ↦{fullShare} V m c b)) ∗ Pipeline.ΦT pre0 (tbl m) c)
      ⊢ (iprop(tabs c (tbl m 0) (tbl m 1) ∗ (∃ r, prngReg c r) ∗ lanes c (V m c) (tbl m 0) (P c) 0) : sProp 𝕄) := by
  rw [PhiT0_eq]
  unfold lanes
  iintro ⟨⟨HS, HR, HZ, HH⟩, HT⟩
  isplitl [HT]; · iexact HT
  isplitl [HR]; · iexact HR
  iapply (into_lanes c (V m c))
  isplitl [HS]; · iexact HS
  isplitl [HZ]; · iexact HZ
  iexact HH

theorem leave (c : Dev nD) :
    (iprop(tabs c (tbl m 0) (tbl m 1) ∗ (∃ r, prngReg c r) ∗ lanes c (V m c) (tbl m 0) (P c) 89) : sProp 𝕄)
      ⊢ iprop(scratch c ∗ (∃ r, prngReg c r)
        ∗ Pipeline.ownSems0 (Ix := Unit) (Name := ℕ) (U := Pipeline.UD sig nD τ) (Lvl := ℕ) (Val := Elt F) (τ := τ) osem0 c
        ∗ bigSep H0 (fun b => ((c : Thread nD τ).loc b) ↦{fullShare} V m c b)) := by
  iintro ⟨-, HR, HL⟩
  ihave HL := (lanes_last c (V m c) (tbl m 0) (P c)) $$ HL
  ihave HL := (from_lanes c (V m c)) $$ HL
  icases HL with ⟨HS, HZ, HH⟩
  isplitl [HS]; · iexact HS
  isplitl [HR]; · iexact HR
  isplitl [HZ]; · iexact HZ
  iexact HH

set_option backward.isDefEq.respectTransparency.types false in
theorem run_main : θ_run defs (onTc (τ := τ) (main (F := F))) (s₀ m ρ) (fun r => Pipeline.FramePost (cfgs m) (dats m P) 0 (V m) r ∧ r.2.sem = fun _ => 0) :=
  Pipeline.θ_run_frameP_dma (Q' := _) pcfgs (adm m) (dats m P) (0 : Fin 1) launch0 osem0 defs₀ Variants.none ownSemFacts0 H0 H0_sub m ρ main
    (hbody := fun c => (body_obligation m P c).loose) (hshare := fun c => (dats m P 0 c).share_full fun _ => rfl)
    (howed := fun _ _ => rfl) (V := V m) (hmain := hmain m) (hA := A_eq m P) (hpf := V_pre m)
    (hin := fun c => by
      rw [Pipeline.ΦD_eq, scopedRest0_eq]
      exact enter m P c)
    (hout := fun c => by
      rw [Pipeline.ΦD_eq, scopedRest0_eq]
      exact leave m P c)

end Cert.KernelIdeal.Moe

end
-- ==== Proof.Plan.lean ====
/- The plan of the tiles as natural numbers: buckets, their ends, the tiles' buckets, and what a next tile's bucket is. -/
module

public import Idealize.ShloMosaic.Lib.Routing.Count

@[expose] public section

namespace Cert.Moe

open Idealize.ShloMosaic.Routing

variable (n : ℕ) (cn : ℕ → ℕ)

/-- Tiles of a bucket. -/
def tl (b : ℕ) : ℕ := (cn b + 255) / 256
/-- Tiles of the buckets up to and with `b`: the first tile behind bucket `b`. -/
def en (b : ℕ) : ℕ := ((List.range (b + 1)).map (tl cn)).sum
/-- The tiles in use. -/
def nn : ℕ := en cn 63
/-- A tile, or the last one in use. -/
def jc (j : ℕ) : ℕ := min j (nn cn - 1)
/-- The bucket of a tile. -/
def bk (j : ℕ) : ℕ := Nat.count (fun b => en cn b ≤ jc cn j) 64
/-- A tile that is the first of its bucket. -/
def fs (j : ℕ) : Prop := (j = 0 ∨ bk cn j ≠ bk cn (j - 1)) ∧ j < nn cn
instance (j : ℕ) : Decidable (fs cn j) := by unfold fs; infer_instance
/-- Buckets met up to and with a tile. -/
def ns (j : ℕ) : ℕ := ((List.range (j + 1)).map fun i => if fs cn i then 1 else 0).sum
/-- The tile at which the next bucket begins, or the last tile. -/
def qn (j : ℕ) : ℕ := min (en cn (bk cn j)) (n - 1)

/-- Between one and `n` tiles are in use, and every count is a small number. -/
structure Bnd : Prop where
  one : 1 ≤ nn cn
  top : nn cn ≤ n
  small : ∀ b, cn b < 2 ^ 30

theorem en_succ (b : ℕ) : en cn (b + 1) = en cn b + tl cn (b + 1) := by
  unfold en; rw [List.range_succ, List.map_append, List.sum_append]; simp
theorem en_mono {a b : ℕ} (h : a ≤ b) : en cn a ≤ en cn b := by
  induction h with
  | refl => exact le_refl _
  | step _ ih => rw [en_succ]; omega

variable {n} {cn} (H : Bnd n cn)
include H

theorem en_le {b : ℕ} (h : b < 64) : en cn b ≤ n := (en_mono cn (show b ≤ 63 by omega)).trans H.top

/-- The buckets before a tile's own end at or before the tile, the others after it. -/
theorem lt_bk {b : ℕ} (h : b < 64) (j : ℕ) : b < bk cn j ↔ en cn b ≤ jc cn j :=
  (lt_count_iff (N := 64) (Q := fun b => en cn b ≤ jc cn j) (fun a c hac _ hc => (en_mono cn hac).trans hc) h).symm

theorem bk_lt (j : ℕ) : bk cn j < 64 := by
  have h1 := H.one
  have := (lt_bk H (b := 63) (by omega) j).not.mpr (by show ¬ nn cn ≤ jc cn j; unfold jc; omega)
  omega

theorem jc_lt_en (j : ℕ) : jc cn j < en cn (bk cn j) := by
  have := (lt_bk H (bk_lt H j) j).not.mp (by omega)
  omega

theorem bk_mono {i j : ℕ} (h : i ≤ j) : bk cn i ≤ bk cn j := by
  rcases Nat.lt_or_ge (bk cn j) (bk cn i) with hlt | hge
  · have h1 := (lt_bk H (bk_lt H j) i).mp hlt
    have h2 := jc_lt_en H j
    unfold jc at h1 h2; omega
  · exact hge

/-- A tile that begins a bucket begins at the end of the bucket before. -/
theorem en_of_fs {j : ℕ} (h : fs cn (j + 1)) : en cn (bk cn j) = j + 1 := by
  obtain ⟨h0, h1⟩ := h
  have hne : bk cn (j + 1) ≠ bk cn j := by rcases h0 with h | h; · omega
                                           · simpa using h
  have hm := bk_mono H (show j ≤ j + 1 by omega)
  have hb := (lt_bk H (bk_lt H j) (j + 1)).mp (by omega)
  have hc := jc_lt_en H j
  unfold jc at hb hc
  omega

theorem bk_eq_of_not_fs {j : ℕ} (h : ¬ fs cn (j + 1)) : bk cn (j + 1) = bk cn j := by
  by_contra hne
  refine h ⟨.inr (by simpa using hne), ?_⟩
  by_contra hge
  refine hne ?_
  unfold bk jc
  rw [show min (j + 1) (nn cn - 1) = min j (nn cn - 1) by omega]

theorem fs_zero : fs cn 0 := ⟨.inl rfl, H.one⟩

omit H in
theorem ns_succ (j : ℕ) : ns cn (j + 1) = ns cn j + if fs cn (j + 1) then 1 else 0 := by
  unfold ns; rw [List.range_succ (n := j + 1), List.map_append, List.sum_append]; simp

theorem ns_zero : ns cn 0 = 1 := by
  unfold ns; rw [List.range_one]; simp [fs_zero H]

theorem one_le_ns (j : ℕ) : 1 ≤ ns cn j := by
  induction j with
  | zero => rw [ns_zero H]
  | succ j ih => rw [ns_succ]; omega

omit H in
theorem ns_le (j : ℕ) : ns cn j ≤ j + 1 := by
  induction j with
  | zero => unfold ns; rw [List.range_one]; simp; split <;> omega
  | succ j ih => rw [ns_succ]; split <;> omega

/-- Behind the last tile no bucket begins. -/
theorem en_bk_last : ¬ en cn (bk cn (n - 1)) < nn cn := by
  have h := jc_lt_en H (n - 1)
  have := H.top
  unfold jc at h
  omega

/-- The buckets that end at or before a row. -/
def cb (cn : ℕ → ℕ) (R : ℕ) : ℕ := Nat.count (fun b => 256 * en cn b ≤ R) 64

omit H in
theorem cb_le (R : ℕ) : cb cn R ≤ 64 := Nat.count_le _

omit H in
theorem lt_cb {b : ℕ} (h : b < 64) (R : ℕ) : b < cb cn R ↔ 256 * en cn b ≤ R :=
  (lt_count_iff (N := 64) (Q := fun b => 256 * en cn b ≤ R)
    (fun a c hac _ hc => (Nat.mul_le_mul_left 256 (en_mono cn hac)).trans hc) h).symm

theorem cb_used {R : ℕ} (h : R / 256 < nn cn) : cb cn R = bk cn (R / 256) := by
  have hk := bk_lt H (R / 256)
  have h1 := lt_cb (cn := cn) hk R
  have h2 := jc_lt_en H (R / 256)
  have hj : jc cn (R / 256) = R / 256 := by unfold jc; omega
  rw [hj] at h2
  rcases Nat.eq_zero_or_pos (bk cn (R / 256)) with h0 | h0
  · rw [h0] at h1 h2 ⊢; omega
  · have h3 := lt_cb (cn := cn) (b := bk cn (R / 256) - 1) (by omega) R
    have h4 := (lt_bk H (b := bk cn (R / 256) - 1) (by omega) (R / 256)).mp (by omega)
    rw [hj] at h4
    omega

omit H in
theorem cb_unused {R : ℕ} (h : nn cn ≤ R / 256) : cb cn R = 64 := by
  have h1 := lt_cb (cn := cn) (b := 63) (by omega) R
  have h2 := cb_le (cn := cn) R
  have h3 : en cn 63 = nn cn := rfl
  omega

omit H in
theorem sum_mul (f : ℕ → ℕ) (l : List ℕ) : (l.map fun b => f b * 256).sum = 256 * (l.map f).sum := by
  induction l with
  | nil => rfl
  | cons a l ih => simp only [List.map_cons, List.sum_cons, ih]; omega

/-- A tile in use lies in a bucket that holds rows. -/
theorem cn_ne {j : ℕ} (hj : j < nn cn) : cn (bk cn j) ≠ 0 := by
  intro h0
  have hk := bk_lt H j
  have h1 := jc_lt_en H j
  have ht : tl cn (bk cn j) = 0 := by unfold tl; omega
  rcases hb : bk cn j with _ | b
  · rw [hb] at h1 ht
    have : en cn 0 = tl cn 0 := by unfold en; simp
    omega
  · rw [hb] at h1 ht hk
    have h2 := (lt_bk H (b := b) (by omega) j).mp (by omega)
    rw [en_succ] at h1
    omega

end Cert.Moe
-- ==== Proof.Host.lean ====
/- What the host operations before the call leave in the buffers the call reads, stretch by stretch, each word as a natural number. -/
module

public import proofs.«01_k».proof.Proof.Run
public import proofs.«01_k».proof.Proof.Plan
public import Idealize.ShloMosaic.Lib.StableHlo.RunRead
public import Idealize.ShloMosaic.Lib.Routing.OpsSearch
public import Idealize.ShloMosaic.Lib.Routing.Words
public import Idealize.ShloMosaic.Lib.PlanTiles.Rows
public import Idealize.ShloMosaic.Lib.Pointwise
public import Idealize.ShloMosaic.Lib.Pipeline.ValueKit.Tiles

@[expose] public section

set_option maxRecDepth 16384

noncomputable section

namespace Cert.KernelIdeal.Moe

open Cert.Moe
open Cert.KernelIdeal Cert.KernelIdeal.Gen
open Idealize.ShloMosaic.ValueIdx
open Idealize.ShloMosaic hiding ix0 ix1 ix2 ix3 eq_ix1 eq_ix2
open Idealize.ShloMosaic.TcCoe Idealize.ShloMosaic.StableHlo Idealize.ShloMosaic.WordCmp
open Idealize.ShloMosaic.Routing

variable {F : FTy → Type} [FloatOps F] (W : Valuation τ sig (Elt F))

/-- A word moved up by the table's length where it is negative: at a small natural it stays. -/
theorem wrap_ap (x : IVec (shape1 89) 32) (p : Fin 89) {k : ℕ} (hx : x (ix1 p) = BitVec.ofNat 32 k) (hk : k < 2 ^ 31) (c : BitVec 32)
    (hb : shape0.BroadcastsInDim (shape1 89) (![] : Fin 0 → Fin (shape1 89).rank))
    (hc : (shape1 89).BroadcastsInDim (shape2 89 1) (![0] : Fin 1 → Fin (shape2 89 1).rank)) :
    broadcastInDim (shape2 89 1) ![0] hc (select (cmpi .slt x (broadcastInDim (shape1 89) ![] hb (constantI shape0 32 0#32)))
      (addi x (broadcastInDim (shape1 89) ![] hb (constantI shape0 32 c))) x) (ix2 p (0 : Fin 1)) = BitVec.ofNat 32 k := by
  rw [bcCol, select_at, cmpi_at, bc0, constantI_at, hx, show (0#32 : BitVec 32) = BitVec.ofNat 32 0 from rfl, cmpi_slt_ofNat (w := 32) hk (by decide)]
  simp only [Nat.not_lt_zero, decide_false]
  rfl

theorem s0_v6 : after hostOps0 W main_v6 = (subi (addi (W main_arg0) (broadcastInDim S64 ![] bcast_S_S64 (constantI S_ 32 256#32))) (broadcastInDim S64 ![] bcast_S_S64 (constantI S_ 32 1#32)) : IVec S64 32) := by
  after_reads_simp
theorem s1_v7 : after hostOps0_1 W main_v7 = (pyDiv bcast_S_S64 (W main_v6 : IVec S64 32) (W main_c_3 : IVec S_ 32) : IVec S64 32) := by
  after_reads_simp
  simp only [TRef.toBuf, TRef.ofBuf, cast_eq, id]
  rfl
theorem s6_v38 : after hostOps0_6 W main_v38 = (pyRem bcast_S_S89 (W main_v37 : IVec S89 32) (W main_c_10 : IVec S_ 32) : IVec S89 32) := by
  after_reads_simp
  simp only [TRef.toBuf, TRef.ofBuf, cast_eq, id]
  rfl

theorem s2_v8 (f : ℕ → ℕ) (h7 : ∀ b : Fin 64, (W main_v7 : IVec S64 32) (ix1 b) = BitVec.ofNat 32 (f b.val)) (b : Fin 64) :
    (after hostOps0_2 W main_v8 : IVec S64 32) (ix1 b) = BitVec.ofNat 32 ((List.range (b.val + 1)).map f).sum := by
  after_reads_simp
  simp only [TRef.toBuf, TRef.ofBuf, cast_eq, id]
  exact cumsum1 (by rfl) _ f h7 _ (by rw [bc0]; rfl) _ _ b

theorem s4_v35 (f : ℕ → ℕ) (h34 : ∀ b : Fin 89, (W main_v34 : IVec S89 32) (ix1 b) = BitVec.ofNat 32 (f b.val)) (b : Fin 89) :
    (after hostOps0_4 W main_v35 : IVec S89 32) (ix1 b) = BitVec.ofNat 32 ((List.range (b.val + 1)).map f).sum := by
  after_reads_simp
  simp only [TRef.toBuf, TRef.ofBuf, cast_eq, id]
  exact cumsum1 (by rfl) _ f h34 _ (by rw [bc0]; rfl) _ _ b

/-- The number of tiles in use: the last bucket's end. -/
def nUsed (x : IVec S64 32) : IVec S_ 32 := fun i => shapeCast S_ (extractStridedSlice S1 ![63] x slices_S64_S1_63) shapeCasts_S1_S_ i
/-- The tiles' buckets: how many buckets end at or before the tile. -/
def tileB (x : IVec S64 32) : IVec S89 32 :=
  Host.reduce IntOp.addi
    (extui 32
      (cmpi .sle (broadcastInDim S89x64 ![0, 1] bcast_S1x64_S89x64_0_1 (broadcastInDim S1x64 ![1] bcast_S64_S1x64_1 x))
        (broadcastInDim S89x64 ![0, 1] bcast_S89x1_S89x64_0_1 (broadcastInDim S89x1 ![0] bcast_S89_S89x1_0
          (minsi (iotaInDim S89 32 0) (broadcastInDim S89 ![] bcast_S_S89 (subi (nUsed x) (constantI S_ 32 1#32)))))))
      natLt_1_32)
    (constantI S_ 32 0#32) reducesTo_S89x64_S89_d1 h_S_
/-- The buckets one tile later, `-1` in front. -/
def prevB (x : IVec S89 32) : IVec S89 32 :=
  concatenate S89 0 [⟨S1, (broadcastInDim S1 ![] bcast_S_S1 (constantI S_ 32 4294967295#32) : IVec S1 32)⟩, ⟨S88, extractStridedSlice S88 ![0] x slices_S89_S88_0⟩]
    concatenates_S1_S88_S89_d0
/-- The tiles that begin a bucket. -/
def firstB (x : IVec S64 32) : IVec S89 1 :=
  andi (cmpi .ne (tileB x) (prevB (tileB x))) (cmpi .slt (iotaInDim S89 32 0) (broadcastInDim S89 ![] bcast_S_S89 (nUsed x)))

theorem s3_v10 : after hostOps0_3 W main_v10 = (nUsed (W main_v8) : IVec S_ 32) := by
  after_reads_simp <;> rfl
theorem s3_v21 : after hostOps0_3 W main_v21 = (tileB (W main_v8) : IVec S89 32) := by
  after_reads_simp
  rfl
theorem s3_v27 : upto hostOps0_3 W 25 main_v27 = (broadcastInDim S1 ![] bcast_S_S1 (constantI S_ 32 4294967295#32) : IVec S1 32) := by
  after_reads_simp
theorem s3_v28 : upto hostOps0_3 W 25 main_v28 = (extractStridedSlice S88 ![0] (tileB (W main_v8)) slices_S89_S88_0 : IVec S88 32) := by
  after_reads_simp
  rfl
theorem s3_v33 : after hostOps0_3 W main_v33 = (firstB (W main_v8) : IVec S89 1) := by
  after_reads_simp
  rw [s3_v27, s3_v28]
  rfl
theorem s3_v34 : after hostOps0_3 W main_v34 = (extui 32 (firstB (W main_v8)) natLt_1_32 : IVec S89 32) := by
  after_reads_simp
  rw [s3_v27, s3_v28]
  rfl
theorem s3_v23 : after hostOps0_3 W main_v23 = (addi (W main_c) (broadcastInDim S64 ![] bcast_S_S64 (constantI S_ 32 0#32)) : IVec S64 32) := by
  after_reads_simp
theorem s3_v25 : after hostOps0_3 W main_v25 = (addi (W main_c_0) (broadcastInDim S64 ![] bcast_S_S64 (constantI S_ 32 0#32)) : IVec S64 32) := by
  after_reads_simp
theorem s5_v37 : after hostOps0_5 W main_v37 = (subi (W main_v35) (broadcastInDim S89 ![] bcast_S_S89 (constantI S_ 32 1#32)) : IVec S89 32) := by
  after_reads_simp
theorem s5_c_10 : after hostOps0_5 W main_c_10 = (constantI S_ 32 2#32 : IVec S_ 32) := by
  after_reads_simp

section S3
variable {cn : ℕ → ℕ} (H : Bnd 89 cn) (x : IVec S64 32) (h8 : ∀ b : Fin 64, x (ix1 b) = BitVec.ofNat 32 (en cn b.val))
include H h8

theorem nUsed_ap (i : S_.Idx) : nUsed x i = BitVec.ofNat 32 (nn cn) := by
  unfold nUsed
  rw [shapeCast_apply _ _ i (ix1 (0 : Fin 1)) (by rw [Shape.rowMajor_val_one]; rfl)]
  rw [slice1 63 x _ (0 : Fin 1) (by decide), h8]
  rfl

theorem tileB_ap (j : Fin 89) : tileB x (ix1 j) = BitVec.ofNat 32 (bk cn j.val) := by
  have h1 := H.one
  have h2 := H.top
  refine reduce_count (by decide) _ _ _ _ j (fun b => en cn b ≤ jc cn j.val) (fun q => ?_)
  have hq := en_le H q.isLt
  have hj := j.isLt
  rw [cmpi_at, bcCols, bcRows, h8]
  rw [show ∀ y : IVec S89 32, minsi (iotaInDim S89 32 0) y (ix1 j) = IntOp.minsi (BitVec.ofNat 32 j.val) (y (ix1 j)) from fun _ => rfl]
  rw [bc0, subi_ap, nUsed_ap H x h8, constantI_at, show (1#32 : BitVec 32) = BitVec.ofNat 32 1 from rfl, ofNat32_sub h1, PlanTiles.minsi_word (by omega) (by omega), Nat.min_comm]
  rw [cmpi_sle_ofNat (w := 32) (by omega) (by omega), ofBool_decide_eq_one_iff]
  rfl

theorem prevB_zero : prevB (tileB x) (ix1 (0 : Fin 89)) = -1#32 := by
  unfold prevB
  rw [concatenate_pair_apply]
  rfl
theorem prevB_succ (j : Fin 89) (i : ℕ) (h : j.val = i + 1) : prevB (tileB x) (ix1 j) = BitVec.ofNat 32 (bk cn i) := by
  unfold prevB
  rw [concatenate_pair_apply]
  have hj := j.isLt
  rw [dif_neg (by show ¬ j.val < 1; omega)]
  refine (congrArg (extractStridedSlice S88 ![0] (tileB x) slices_S89_S88_0) (show _ = ix1 (⟨i, by omega⟩ : Fin 88) from ?_)).trans ?_
  · funext d
    match d with
    | ⟨0, _⟩ => exact Fin.ext (by show j.val - 1 = i; omega)
  · rw [slice1 0 _ _ _ (by show 0 + i < 89; omega), tileB_ap H x h8]
    simp

theorem firstB_ap (j : Fin 89) : firstB x (ix1 j) = BitVec.ofBool (decide (fs cn j.val)) := by
  have h2 := H.top
  have hj := j.isLt
  unfold firstB fs
  rw [andi_at, cmpi_at, cmpi_at, bc0, nUsed_ap H x h8, tileB_ap H x h8]
  rw [show iotaInDim S89 32 0 (ix1 j) = BitVec.ofNat 32 j.val from rfl, cmpi_slt_ofNat (w := 32) (by omega) (by omega)]
  rcases h : j.val with _ | i
  · obtain rfl : j = 0 := Fin.ext h
    rw [prevB_zero H x h8, cmpi_ne_eq, andi_ofBool, decide_eq_true (p := _ ≠ _)]
    · simp
    · intro e
      have := congrArg BitVec.toNat e
      have hb := bk_lt H 0
      rw [toNat_ofNat_of_lt (by show bk cn 0 < _; omega)] at this
      rw [show (-1#32 : BitVec 32).toNat = 4294967295 from rfl] at this
      omega
  · have hb := bk_lt H (i + 1)
    have hb' := bk_lt H i
    rw [prevB_succ H x h8 j i h, cmpi_ne_ofNat (by omega) (by omega), andi_ofBool]
    simp
end S3

section S7
variable {cn : ℕ → ℕ} (H : Bnd 89 cn) (h8 : ∀ b : Fin 64, (W main_v8 : IVec S64 32) (ix1 b) = BitVec.ofNat 32 (en cn b.val))
  (h10 : ∀ i, (W main_v10 : IVec S_ 32) i = BitVec.ofNat 32 (nn cn))
  (h21 : ∀ j : Fin 89, (W main_v21 : IVec S89 32) (ix1 j) = BitVec.ofNat 32 (bk cn j.val))
include H h8 h10 h21

theorem s7_v45 (j : Fin 89) : (after hostOps0_7 W main_v45 : IVec S89 32) (ix1 j) = BitVec.ofNat 32 (en cn (bk cn j.val)) := by
  have hk := bk_lt H j.val
  after_reads_simp
  exact (take_ap _ rfl rfl rfl rfl _ _ j hk (by omega) (wrap_ap _ j (h21 j) (by omega) _ _ _)).trans (h8 _)

theorem s7_v47 (j : Fin 89) : (after hostOps0_7 W main_v47 : IVec S89 1) (ix1 j) = BitVec.ofBool (decide (en cn (bk cn j.val) < nn cn)) := by
  have hk := bk_lt H j.val
  have he := en_le H hk
  have h2 := H.top
  have e : after hostOps0_7 W main_v47 = (cmpi .slt (after hostOps0_7 W main_v45 : IVec S89 32) (broadcastInDim S89 ![] bcast_S_S89 (W main_v10 : IVec S_ 32)) : IVec S89 1) := by
    after_reads_simp
  rw [e, cmpi_at, s7_v45 W H h8 h10 h21, bc0, h10]
  exact cmpi_slt_ofNat (w := 32) (by omega) (by omega)

theorem s7_v56 (j : Fin 89) : (after hostOps0_7 W main_v56 : IVec S89 32) (ix1 j) = BitVec.ofNat 32 (bk cn (qn 89 cn j.val)) := by
  have hk := bk_lt H j.val
  have he := en_le H hk
  have hq : qn 89 cn j.val < 89 := by unfold qn; omega
  after_reads_simp
  refine (take_ap _ rfl rfl rfl rfl _ _ j hq (by omega) (wrap_ap _ j ?_ (by omega) _ _ _)).trans (h21 _)
  rw [show ∀ y z : IVec S89 32, minsi y z (ix1 j) = IntOp.minsi (y (ix1 j)) (z (ix1 j)) from fun _ _ => rfl, bc0, constantI_at]
  rw [(take_ap _ rfl rfl rfl rfl _ _ j hk (by omega) (wrap_ap _ j (h21 j) (by omega) _ _ _)).trans (h8 _)]
  rw [show (88#32 : BitVec 32) = BitVec.ofNat 32 88 from rfl, PlanTiles.minsi_word (by show en cn (bk cn j.val) < _; omega) (by omega), Nat.min_comm]
  rfl

theorem s7_v63 (j : Fin 89) : (after hostOps0_7 W main_v63 : IVec S89 32) (ix1 j) = (W main_v23 : IVec S64 32) (ix1 ⟨bk cn j.val, bk_lt H _⟩) := by
  have hk := bk_lt H j.val
  after_reads_simp
  exact take_ap _ rfl rfl rfl rfl _ _ j hk (by omega) (wrap_ap _ j (h21 j) (by omega) _ _ _)

theorem s7_v70 (j : Fin 89) : (after hostOps0_7 W main_v70 : IVec S89 32) (ix1 j) = (W main_v25 : IVec S64 32) (ix1 ⟨bk cn j.val, bk_lt H _⟩) := by
  have hk := bk_lt H j.val
  after_reads_simp
  exact take_ap _ rfl rfl rfl rfl _ _ j hk (by omega) (wrap_ap _ j (h21 j) (by omega) _ _ _)

theorem s7_v78 (j : Fin 89) : (after hostOps0_7 W main_v78 : IVec S89 32) (ix1 j) = (W main_v23 : IVec S64 32) (ix1 ⟨bk cn (qn 89 cn j.val), bk_lt H _⟩) := by
  have hk := bk_lt H (qn 89 cn j.val)
  have h56 := s7_v56 W H h8 h10 h21 j
  have e : after hostOps0_7 W main_v56 = upto hostOps0_7 W 23 main_v56 := by after_reads_simp
  rw [e] at h56
  rw [show after hostOps0_7 W main_v78 = Host.gather gather_S64_S89x1_S89_n_0_n_n_0_1_1 (W main_v23 : IVec S64 32)
    (broadcastInDim S89x1 ![0] bcast_S89_S89x1_0 (select (cmpi .slt (upto hostOps0_7 W 23 main_v56 : IVec S89 32) (broadcastInDim S89 ![] bcast_S_S89 (constantI S_ 32 0#32)))
      (addi (upto hostOps0_7 W 23 main_v56 : IVec S89 32) (broadcastInDim S89 ![] bcast_S_S89 (constantI S_ 32 64#32))) (upto hostOps0_7 W 23 main_v56 : IVec S89 32))) from by after_reads_simp]
  exact take_ap _ rfl rfl rfl rfl _ _ j hk (by omega) (wrap_ap _ j h56 (by omega) _ _ _)
end S7

theorem s7_v71 : after hostOps0_7 W main_v71 = (extui 32 (W main_v33 : IVec S89 1) natLt_1_32 : IVec S89 32) := by
  after_reads_simp
theorem s7_c_22 : after hostOps0_7 W main_c_22 = (constantI S_ 32 4294967295#32 : IVec S_ 32) := by
  after_reads_simp
theorem s8_v79 : after hostOps0_8 W main_v79 = (select (W main_v47 : IVec S89 1) (W main_v78 : IVec S89 32) (broadcastInDim S89 ![] bcast_S_S89 (W main_c_22 : IVec S_ 32)) : IVec S89 32) := by
  after_reads_simp
  simp only [TRef.toBuf, TRef.ofBuf, cast_eq, id]
theorem s9_v86 (j : Fin 89) {k : ℕ} (hk : k < 64) (h56 : (W main_v56 : IVec S89 32) (ix1 j) = BitVec.ofNat 32 k) :
    (after hostOps0_9 W main_v86 : IVec S89 32) (ix1 j) = (W main_v25 : IVec S64 32) (ix1 ⟨k, hk⟩) := by
  after_reads_simp
  exact take_ap _ rfl rfl rfl rfl _ _ j hk (by omega) (wrap_ap _ j h56 (by omega) _ _ _)
theorem s9_c_25 : after hostOps0_9 W main_c_25 = (constantI S_ 32 4294967295#32 : IVec S_ 32) := by
  after_reads_simp
theorem s10_v87 : after hostOps0_10 W main_v87 = (select (W main_v47 : IVec S89 1) (W main_v86 : IVec S89 32) (broadcastInDim S89 ![] bcast_S_S89 (W main_c_25 : IVec S_ 32)) : IVec S89 32) := by
  after_reads_simp
  simp only [TRef.toBuf, TRef.ofBuf, cast_eq, id]
theorem s11_v95 (i : S1.Idx) : (after hostOps0_11 W main_v95 : IVec S1 32) i = (W main_v10 : IVec S_ 32) ValueIdx.ix0 := by
  after_reads_simp
  refine shapeCast_apply _ _ i _ ?_
  obtain rfl : i = ix1 0 := by
    funext d
    match d with
    | ⟨0, _⟩ => exact Subsingleton.elim (α := Fin 1) _ _
  rw [Shape.rowMajor_val_one]
  rfl
theorem s11_v88 : upto hostOps0_11 W 6 main_v88 = (broadcastInDim S1x89 ![1] bcast_S89_S1x89_1 (W main_v63 : IVec S89 32) : IVec S1x89 32) := by
  after_reads_simp
theorem s11_v89 : upto hostOps0_11 W 6 main_v89 = (broadcastInDim S1x89 ![1] bcast_S89_S1x89_1 (W main_v70 : IVec S89 32) : IVec S1x89 32) := by
  after_reads_simp
theorem s11_v90 : upto hostOps0_11 W 6 main_v90 = (broadcastInDim S1x89 ![1] bcast_S89_S1x89_1 (W main_v71 : IVec S89 32) : IVec S1x89 32) := by
  after_reads_simp
theorem s11_v91 : upto hostOps0_11 W 6 main_v91 = (broadcastInDim S1x89 ![1] bcast_S89_S1x89_1 (W main_v38 : IVec S89 32) : IVec S1x89 32) := by
  after_reads_simp
theorem s11_v92 : upto hostOps0_11 W 6 main_v92 = (broadcastInDim S1x89 ![1] bcast_S89_S1x89_1 (W main_v79 : IVec S89 32) : IVec S1x89 32) := by
  after_reads_simp
theorem s11_v93 : upto hostOps0_11 W 6 main_v93 = (broadcastInDim S1x89 ![1] bcast_S89_S1x89_1 (W main_v87 : IVec S89 32) : IVec S1x89 32) := by
  after_reads_simp
theorem row_ap (x : IVec S89 32) (i : S1x89.Idx) (j : Fin 89) (h : (i 1).val = j.val) : broadcastInDim S1x89 ![1] bcast_S89_S1x89_1 x i = x (ix1 j) :=
  broadcastInDim_apply _ _ _ _ _ fun a => by
    match a with
    | ⟨0, _⟩ => exact h.symm
theorem s11_v94 (r : Fin 6) (j : Fin 89) : (after hostOps0_11 W main_v94 : IVec S6x89 32) (ix2 r j)
    = (![(W main_v63 : IVec S89 32), W main_v70, W main_v71, W main_v38, W main_v79, W main_v87] r : IVec S89 32) (ix1 j) := by
  rw [after_last_write (ops := hostOps0_11) (i := 6) [main_v95] rfl rfl (by decide) W, nary_result]
  refine concatenate_ofFn_unit_eq (t := S6x89) (s₁ := S1x89) (N := 6) 0 (fun n => ![upto hostOps0_11 W 6 main_v88, upto hostOps0_11 W 6 main_v89, upto hostOps0_11 W 6 main_v90, upto hostOps0_11 W 6 main_v91, upto hostOps0_11 W 6 main_v92, upto hostOps0_11 W 6 main_v93] n) _ _ _ rfl rfl ?_
  intro n i hn _ hb
  obtain rfl : n = r := Fin.ext hn.symm
  have hj : (i 1).val = j.val := hb 1 (by decide)
  rw [s11_v88, s11_v89, s11_v90, s11_v91, s11_v92, s11_v93]
  match n with
  | 0 => exact row_ap _ i j hj
  | 1 => exact row_ap _ i j hj
  | 2 => exact row_ap _ i j hj
  | 3 => exact row_ap _ i j hj
  | 4 => exact row_ap _ i j hj
  | 5 => exact row_ap _ i j hj

end Cert.KernelIdeal.Moe
-- ==== Proof.Tables.lean ====
/- The two tables the call reads, word by word, from the counts; and that they make a plan the body can follow. -/
module

public import proofs.«01_k».proof.Proof.Host

@[expose] public section

set_option maxRecDepth 16384

noncomputable section

namespace Cert.KernelIdeal.Moe

open Cert.Moe
open Cert.KernelIdeal Cert.KernelIdeal.Gen
open Idealize.ShloMosaic.ValueIdx
open Idealize.ShloMosaic hiding ix0 ix1 ix2 ix3 eq_ix1 eq_ix2
open Idealize.ShloMosaic.TcCoe Idealize.ShloMosaic.StableHlo Idealize.ShloMosaic.WordCmp
open Idealize.ShloMosaic.Routing

variable {F : FTy → Type} [FloatOps F] (m : (ℓ : Loc nD τ sig) → Buf (Elt F) ℓ) (c : Dev nD)

/-- The contents after the first stretches of host operations. -/
@[irreducible] def u0 : Valuation τ sig (Elt F) := fun b => m (c, b)
@[irreducible] def u1 : Valuation τ sig (Elt F) := after hostOps0 (u0 m c)
@[irreducible] def u2 : Valuation τ sig (Elt F) := after hostOps0_1 (u1 m c)
@[irreducible] def u3 : Valuation τ sig (Elt F) := after hostOps0_2 (u2 m c)
@[irreducible] def u4 : Valuation τ sig (Elt F) := after hostOps0_3 (u3 m c)
@[irreducible] def u5 : Valuation τ sig (Elt F) := after hostOps0_4 (u4 m c)
@[irreducible] def u6 : Valuation τ sig (Elt F) := after hostOps0_5 (u5 m c)
@[irreducible] def u7 : Valuation τ sig (Elt F) := after hostOps0_6 (u6 m c)
@[irreducible] def u8 : Valuation τ sig (Elt F) := after hostOps0_7 (u7 m c)
@[irreducible] def u9 : Valuation τ sig (Elt F) := after hostOps0_8 (u8 m c)
@[irreducible] def u10 : Valuation τ sig (Elt F) := after hostOps0_9 (u9 m c)
@[irreducible] def u11 : Valuation τ sig (Elt F) := after hostOps0_10 (u10 m c)
@[irreducible] def u12 : Valuation τ sig (Elt F) := after hostOps0_11 (u11 m c)

theorem V_eq (b : Ref sig .tc) : V m c b = u12 m c b := by
  unfold V u12 u11 u10 u9 u8 u7 u6 u5 u4 u3 u2 u1 u0
  simp only [hostOps, List.flatten_cons, List.flatten_nil, List.append_nil, after_append]

/-! ## Buffers a stretch leaves alone -/

theorem keep_v8_7 : u7 m c main_v8 = u3 m c main_v8 := by
  unfold u7 u6 u5 u4; after_reads_simp
theorem keep_v10_7 : u7 m c main_v10 = u4 m c main_v10 := by
  unfold u7 u6 u5; after_reads_simp
theorem keep_v10_11 : u11 m c main_v10 = u4 m c main_v10 := by
  unfold u11 u10 u9 u8 u7 u6 u5; after_reads_simp
theorem keep_v21_7 : u7 m c main_v21 = u4 m c main_v21 := by
  unfold u7 u6 u5; after_reads_simp
theorem keep_v23_7 : u7 m c main_v23 = u4 m c main_v23 := by
  unfold u7 u6 u5; after_reads_simp
theorem keep_v25_7 : u7 m c main_v25 = u4 m c main_v25 := by
  unfold u7 u6 u5; after_reads_simp
theorem keep_v25_9 : u9 m c main_v25 = u4 m c main_v25 := by
  unfold u9 u8 u7 u6 u5; after_reads_simp
theorem keep_v33_7 : u7 m c main_v33 = u4 m c main_v33 := by
  unfold u7 u6 u5; after_reads_simp
theorem keep_v38_11 : u11 m c main_v38 = u7 m c main_v38 := by
  unfold u11 u10 u9 u8; after_reads_simp
theorem keep_v47_10 : u10 m c main_v47 = u8 m c main_v47 := by
  unfold u10 u9; after_reads_simp
theorem keep_v56_9 : u9 m c main_v56 = u8 m c main_v56 := by
  unfold u9; after_reads_simp
theorem keep_v63_11 : u11 m c main_v63 = u8 m c main_v63 := by
  unfold u11 u10 u9; after_reads_simp
theorem keep_v70_11 : u11 m c main_v70 = u8 m c main_v70 := by
  unfold u11 u10 u9; after_reads_simp
theorem keep_v71_11 : u11 m c main_v71 = u8 m c main_v71 := by
  unfold u11 u10 u9; after_reads_simp
theorem keep_v79_11 : u11 m c main_v79 = u9 m c main_v79 := by
  unfold u11 u10; after_reads_simp
theorem keep_c_3 : u3 m c main_c = u1 m c main_c := by
  unfold u3 u2; after_reads_simp
theorem keep_c_0_3 : u3 m c main_c_0 = u1 m c main_c_0 := by
  unfold u3 u2; after_reads_simp
theorem keep_v0_12 : u12 m c main_v0 = u1 m c main_v0 := by
  unfold u12 u11 u10 u9 u8 u7 u6 u5 u4 u3 u2; after_reads_simp
theorem keep_v1_12 : u12 m c main_v1 = u1 m c main_v1 := by
  unfold u12 u11 u10 u9 u8 u7 u6 u5 u4 u3 u2; after_reads_simp
theorem keep_v2_12 : u12 m c main_v2 = u1 m c main_v2 := by
  unfold u12 u11 u10 u9 u8 u7 u6 u5 u4 u3 u2; after_reads_simp
theorem keep_arg0_12 : u12 m c main_arg0 = u0 m c main_arg0 := by
  unfold u12 u11 u10 u9 u8 u7 u6 u5 u4 u3 u2 u1; after_reads_simp
theorem keep_arg1_12 : u12 m c main_arg1 = u0 m c main_arg1 := by
  unfold u12 u11 u10 u9 u8 u7 u6 u5 u4 u3 u2 u1; after_reads_simp
theorem keep_arg2_12 : u12 m c main_arg2 = u0 m c main_arg2 := by
  unfold u12 u11 u10 u9 u8 u7 u6 u5 u4 u3 u2 u1; after_reads_simp
theorem keep_arg3_12 : u12 m c main_arg3 = u0 m c main_arg3 := by
  unfold u12 u11 u10 u9 u8 u7 u6 u5 u4 u3 u2 u1; after_reads_simp
theorem keep_arg4_12 : u12 m c main_arg4 = u0 m c main_arg4 := by
  unfold u12 u11 u10 u9 u8 u7 u6 u5 u4 u3 u2 u1; after_reads_simp

/-! ## What the host leaves -/

theorem u1_v0 : u1 m c main_v0 = (shapeCast S32x1024x512 (u0 m c main_arg2 : FVec F S2x16x1024x512 .f32) shapeCasts_S2x16x1024x512_S32x1024x512 : FVec F S32x1024x512 .f32) := by
  unfold u1; after_reads_simp <;> rfl
theorem u1_v1 : u1 m c main_v1 = (shapeCast S32x1024x512 (u0 m c main_arg3 : FVec F S2x16x1024x512 .f32) shapeCasts_S2x16x1024x512_S32x1024x512 : FVec F S32x1024x512 .f32) := by
  unfold u1; after_reads_simp <;> rfl
theorem u1_v2 : u1 m c main_v2 = (shapeCast S32x512x1024 (u0 m c main_arg4 : FVec F S2x16x512x1024 .f32) shapeCasts_S2x16x512x1024_S32x512x1024 : FVec F S32x512x1024 .f32) := by
  unfold u1; after_reads_simp <;> rfl
theorem u1_c : u1 m c main_c = (fun i => lit0 (S64.rowMajor i) : IVec S64 32) := by
  unfold u1; after_reads_simp; rfl
theorem u1_c_0 : u1 m c main_c_0 = (fun i => lit1 (S64.rowMajor i) : IVec S64 32) := by
  unfold u1; after_reads_simp; rfl
theorem u1_c_3 : u1 m c main_c_3 = (constantI S_ 32 256#32 : IVec S_ 32) := by
  unfold u1; after_reads_simp

theorem V_arg0 : V m c main_arg0 = m (c, main_arg0) := (V_eq m c _).trans ((keep_arg0_12 m c).trans (by unfold u0; rfl))
theorem V_arg1 : V m c main_arg1 = m (c, main_arg1) := (V_eq m c _).trans ((keep_arg1_12 m c).trans (by unfold u0; rfl))
theorem V_arg2 : V m c main_arg2 = m (c, main_arg2) := (V_eq m c _).trans ((keep_arg2_12 m c).trans (by unfold u0; rfl))
theorem V_arg3 : V m c main_arg3 = m (c, main_arg3) := (V_eq m c _).trans ((keep_arg3_12 m c).trans (by unfold u0; rfl))
theorem V_arg4 : V m c main_arg4 = m (c, main_arg4) := (V_eq m c _).trans ((keep_arg4_12 m c).trans (by unfold u0; rfl))
theorem V_v0 : V m c main_v0 = (shapeCast S32x1024x512 (m (c, main_arg2) : FVec F S2x16x1024x512 .f32) shapeCasts_S2x16x1024x512_S32x1024x512 : FVec F S32x1024x512 .f32) :=
  (V_eq m c _).trans ((keep_v0_12 m c).trans ((u1_v0 m c).trans (by unfold u0; rfl)))
theorem V_v1 : V m c main_v1 = (shapeCast S32x1024x512 (m (c, main_arg3) : FVec F S2x16x1024x512 .f32) shapeCasts_S2x16x1024x512_S32x1024x512 : FVec F S32x1024x512 .f32) :=
  (V_eq m c _).trans ((keep_v1_12 m c).trans ((u1_v1 m c).trans (by unfold u0; rfl)))
theorem V_v2 : V m c main_v2 = (shapeCast S32x512x1024 (m (c, main_arg4) : FVec F S2x16x512x1024 .f32) shapeCasts_S2x16x512x1024_S32x512x1024 : FVec F S32x512x1024 .f32) :=
  (V_eq m c _).trans ((keep_v2_12 m c).trans ((u1_v2 m c).trans (by unfold u0; rfl)))

section Facts
variable {cn : ℕ → ℕ} (H : Bnd 89 cn) (hc : ∀ b : Fin 64, (m (c, main_arg0) : IVec S64 32) (ix1 b) = BitVec.ofNat 32 (cn b.val))
include H hc

theorem u3_v8 (b : Fin 64) : (u3 m c main_v8 : IVec S64 32) (ix1 b) = BitVec.ofNat 32 (en cn b.val) := by
  unfold u3
  refine s2_v8 _ (tl cn) (fun b => ?_) b
  unfold u2
  rw [s1_v7]
  have hs := H.small b.val
  refine pyDiv_ap _ _ _ _ (a := cn b.val + 255) (b := 256) ?_ (by rw [u1_c_3]; rfl) (by omega) (by decide) (by decide)
  unfold u1
  rw [s0_v6, subi_ap, addi_ap, bc0, bc0, constantI_at, constantI_at]
  rw [show (u0 m c main_arg0 : IVec S64 32) (ix1 b) = BitVec.ofNat 32 (cn b.val) from (by unfold u0; exact hc b)]
  rw [show (256#32 : BitVec 32) = BitVec.ofNat 32 256 from rfl, BitVec.ofNat_add_ofNat, show (1#32 : BitVec 32) = BitVec.ofNat 32 1 from rfl, ofNat32_sub (by omega)]
  rfl
theorem u4_v10 (i : S_.Idx) : (u4 m c main_v10 : IVec S_ 32) i = BitVec.ofNat 32 (nn cn) := by
  unfold u4; rw [s3_v10]; exact nUsed_ap H _ (u3_v8 m c H hc) i
theorem u4_v21 (j : Fin 89) : (u4 m c main_v21 : IVec S89 32) (ix1 j) = BitVec.ofNat 32 (bk cn j.val) := by
  unfold u4; rw [s3_v21]; exact tileB_ap H _ (u3_v8 m c H hc) j
theorem u4_v33 (j : Fin 89) : (u4 m c main_v33 : IVec S89 1) (ix1 j) = BitVec.ofBool (decide (fs cn j.val)) := by
  unfold u4; rw [s3_v33]; exact firstB_ap H _ (u3_v8 m c H hc) j
theorem u4_v34 (j : Fin 89) : (u4 m c main_v34 : IVec S89 32) (ix1 j) = BitVec.ofNat 32 (if fs cn j.val then 1 else 0) := by
  unfold u4; rw [s3_v34, extui_at, firstB_ap H _ (u3_v8 m c H hc) j]; exact setWidth_ofBool _
theorem u7_v38 (j : Fin 89) : (u7 m c main_v38 : IVec S89 32) (ix1 j) = BitVec.ofNat 32 ((ns cn j.val - 1) % 2) := by
  have h1 := one_le_ns H j.val
  have h2 := ns_le (cn := cn) j.val
  have hj := j.isLt
  unfold u7
  rw [s6_v38]
  refine pyRem_ap _ _ _ _ (a := ns cn j.val - 1) (b := 2) ?_ ?_ (by omega) (by decide) (by decide)
  · unfold u6
    rw [s5_v37, subi_ap, bc0, constantI_at]
    unfold u5
    rw [s4_v35 _ (fun i => if fs cn i then 1 else 0) (u4_v34 m c H hc), show (1#32 : BitVec 32) = BitVec.ofNat 32 1 from rfl]
    exact ofNat32_sub h1
  · unfold u6; rw [s5_c_10]; rfl

omit H hc in
theorem u4_v23 (b : Fin 64) : (u4 m c main_v23 : IVec S64 32) (ix1 b) = lit0 b := by
  unfold u4
  rw [s3_v23, addi_ap, keep_c_3, u1_c, bc0, constantI_at, BitVec.add_zero]
  exact congrArg lit0 (Fin.ext (by rw [Shape.rowMajor_val_one]))
omit H hc in
theorem u4_v25 (b : Fin 64) : (u4 m c main_v25 : IVec S64 32) (ix1 b) = lit1 b := by
  unfold u4
  rw [s3_v25, addi_ap, keep_c_0_3, u1_c_0, bc0, constantI_at, BitVec.add_zero]
  exact congrArg lit1 (Fin.ext (by rw [Shape.rowMajor_val_one]))

theorem u7_v8 (b : Fin 64) : (u7 m c main_v8 : IVec S64 32) (ix1 b) = BitVec.ofNat 32 (en cn b.val) := by
  rw [keep_v8_7]; exact u3_v8 m c H hc b
theorem u7_v10 (i : S_.Idx) : (u7 m c main_v10 : IVec S_ 32) i = BitVec.ofNat 32 (nn cn) := by
  rw [keep_v10_7]; exact u4_v10 m c H hc i
theorem u7_v21 (j : Fin 89) : (u7 m c main_v21 : IVec S89 32) (ix1 j) = BitVec.ofNat 32 (bk cn j.val) := by
  rw [keep_v21_7]; exact u4_v21 m c H hc j

theorem u8_v47 (j : Fin 89) : (u8 m c main_v47 : IVec S89 1) (ix1 j) = BitVec.ofBool (decide (en cn (bk cn j.val) < nn cn)) := by
  unfold u8; exact s7_v47 _ H (u7_v8 m c H hc) (u7_v10 m c H hc) (u7_v21 m c H hc) j
theorem u11_v63 (j : Fin 89) : (u11 m c main_v63 : IVec S89 32) (ix1 j) = lit0 ⟨bk cn j.val, bk_lt H _⟩ := by
  rw [keep_v63_11]; unfold u8
  rw [s7_v63 _ H (u7_v8 m c H hc) (u7_v10 m c H hc) (u7_v21 m c H hc) j, keep_v23_7, u4_v23]
theorem u11_v70 (j : Fin 89) : (u11 m c main_v70 : IVec S89 32) (ix1 j) = lit1 ⟨bk cn j.val, bk_lt H _⟩ := by
  rw [keep_v70_11]; unfold u8
  rw [s7_v70 _ H (u7_v8 m c H hc) (u7_v10 m c H hc) (u7_v21 m c H hc) j, keep_v25_7, u4_v25]
theorem u11_v71 (j : Fin 89) : (u11 m c main_v71 : IVec S89 32) (ix1 j) = BitVec.ofNat 32 (if fs cn j.val then 1 else 0) := by
  rw [keep_v71_11]; unfold u8
  rw [s7_v71, extui_at, keep_v33_7, u4_v33 m c H hc]; exact setWidth_ofBool _
theorem u11_v79 (j : Fin 89) : (u11 m c main_v79 : IVec S89 32) (ix1 j) = if en cn (bk cn j.val) < nn cn then lit0 ⟨bk cn (qn 89 cn j.val), bk_lt H _⟩ else -1#32 := by
  rw [keep_v79_11]; unfold u9
  rw [s8_v79, select_at, u8_v47 m c H hc, select_decide, bc0]
  unfold u8
  rw [s7_v78 _ H (u7_v8 m c H hc) (u7_v10 m c H hc) (u7_v21 m c H hc) j, s7_c_22, keep_v23_7, u4_v23]
  rfl
theorem u11_v38 (j : Fin 89) : (u11 m c main_v38 : IVec S89 32) (ix1 j) = BitVec.ofNat 32 ((ns cn j.val - 1) % 2) := by
  rw [keep_v38_11]; exact u7_v38 m c H hc j
theorem u9_v56 (j : Fin 89) : (u9 m c main_v56 : IVec S89 32) (ix1 j) = BitVec.ofNat 32 (bk cn (qn 89 cn j.val)) := by
  rw [keep_v56_9]; unfold u8; exact s7_v56 _ H (u7_v8 m c H hc) (u7_v10 m c H hc) (u7_v21 m c H hc) j
theorem u10_v86 (j : Fin 89) : (u10 m c main_v86 : IVec S89 32) (ix1 j) = lit1 ⟨bk cn (qn 89 cn j.val), bk_lt H _⟩ := by
  unfold u10
  refine (s9_v86 _ j (bk_lt H (qn 89 cn j.val)) (u9_v56 m c H hc j)).trans ?_
  rw [keep_v25_9]; exact u4_v25 m c _
omit H hc in
theorem u10_c_25 : (u10 m c main_c_25 : IVec S_ 32) = constantI S_ 32 4294967295#32 := by
  unfold u10; exact s9_c_25 _
theorem u11_v87 (j : Fin 89) : (u11 m c main_v87 : IVec S89 32) (ix1 j) = if en cn (bk cn j.val) < nn cn then lit1 ⟨bk cn (qn 89 cn j.val), bk_lt H _⟩ else -1#32 := by
  unfold u11
  rw [s10_v87, select_at, keep_v47_10, u8_v47 m c H hc, select_decide, bc0, u10_v86 m c H hc, u10_c_25]
  rfl

/-- The number of tiles in use, as the call's second table holds it. -/
theorem V_v95 (i : S1.Idx) : (V m c main_v95 : IVec S1 32) i = BitVec.ofNat 32 (nn cn) := by
  rw [V_eq]; unfold u12; rw [s11_v95, keep_v10_11]; exact u4_v10 m c H hc _

/-! The plan's words, row by row. -/

theorem V_row0 (j : Fin 89) : (V m c main_v94 : IVec S6x89 32) (ix2 (0 : Fin 6) j) = lit0 ⟨bk cn j.val, bk_lt H _⟩ := by
  rw [V_eq, show u12 m c main_v94 = after hostOps0_11 (u11 m c) main_v94 by unfold u12; rfl]
  exact (s11_v94 _ _ _).trans (u11_v63 m c H hc j)
theorem V_row1 (j : Fin 89) : (V m c main_v94 : IVec S6x89 32) (ix2 (1 : Fin 6) j) = lit1 ⟨bk cn j.val, bk_lt H _⟩ := by
  rw [V_eq, show u12 m c main_v94 = after hostOps0_11 (u11 m c) main_v94 by unfold u12; rfl]
  exact (s11_v94 _ _ _).trans (u11_v70 m c H hc j)
theorem V_row2 (j : Fin 89) : (V m c main_v94 : IVec S6x89 32) (ix2 (2 : Fin 6) j) = BitVec.ofNat 32 (if fs cn j.val then 1 else 0) := by
  rw [V_eq, show u12 m c main_v94 = after hostOps0_11 (u11 m c) main_v94 by unfold u12; rfl]
  exact (s11_v94 _ _ _).trans (u11_v71 m c H hc j)
theorem V_row3 (j : Fin 89) : (V m c main_v94 : IVec S6x89 32) (ix2 (3 : Fin 6) j) = BitVec.ofNat 32 ((ns cn j.val - 1) % 2) := by
  rw [V_eq, show u12 m c main_v94 = after hostOps0_11 (u11 m c) main_v94 by unfold u12; rfl]
  exact (s11_v94 _ _ _).trans (u11_v38 m c H hc j)
theorem V_row4 (j : Fin 89) : (V m c main_v94 : IVec S6x89 32) (ix2 (4 : Fin 6) j) = if en cn (bk cn j.val) < nn cn then lit0 ⟨bk cn (qn 89 cn j.val), bk_lt H _⟩ else -1#32 := by
  rw [V_eq, show u12 m c main_v94 = after hostOps0_11 (u11 m c) main_v94 by unfold u12; rfl]
  exact (s11_v94 _ _ _).trans (u11_v79 m c H hc j)
theorem V_row5 (j : Fin 89) : (V m c main_v94 : IVec S6x89 32) (ix2 (5 : Fin 6) j) = if en cn (bk cn j.val) < nn cn then lit1 ⟨bk cn (qn 89 cn j.val), bk_lt H _⟩ else -1#32 := by
  rw [V_eq, show u12 m c main_v94 = after hostOps0_11 (u11 m c) main_v94 by unfold u12; rfl]
  exact (s11_v94 _ _ _).trans (u11_v87 m c H hc j)

end Facts

end Cert.KernelIdeal.Moe
-- ==== Proof.Pick.lean ====
/- Facts of words, of gates and of indices that the two layers' modules share. -/
module

public import Idealize.ShloMosaic.Lib.Pointwise
public import Idealize.ShloMosaic.Lib.Routing.OpsSearch
public import Idealize.ShloMosaic.Lib.Routing.Words
public import Idealize.ShloMosaic.Lib.PlanTiles.Rows

@[expose] public section

noncomputable section

namespace Cert.Moe

open Idealize.ShloMosaic

/-- One where two words are equal, else zero. -/
theorem oneHot (a b : BitVec 32) : (FloatOps.uitofp (F := Ideal) FTy.f32 (IntOp.cmpi CmpIPredicate.eq a b) : EReal) = if a = b then 1 else 0 := by
  show (((IntOp.cmpi CmpIPredicate.eq a b).toNat : ℝ) : EReal) = _
  unfold IntOp.cmpi
  by_cases h : a = b
  · simp [h]
  · simp [h]

/-- Two gates on different experts pick those two experts' products. -/
theorem pick (P : Fin 16 → EReal) (a b : EReal) {e₀ e₁ : Fin 16} (h : e₀ ≠ e₁) :
    ∑ e, ((if e₀ = e then 1 else 0) * a + (if e₁ = e then 1 else 0) * b) * P e = a * P e₀ + b * P e₁ := by
  have hs : ∀ e : Fin 16, ((if e₀ = e then 1 else 0) * a + (if e₁ = e then 1 else 0) * b) * P e
      = (if e₀ = e then a * P e else 0) + (if e₁ = e then b * P e else 0) := by
    intro e
    by_cases h0 : e₀ = e
    · have h1 : e₁ ≠ e := fun h1 => h (h0.trans h1.symm)
      simp [h0, h1]
    · by_cases h1 : e₁ = e
      · simp [h0, h1]
      · simp [h0, h1]
  rw [Finset.sum_congr rfl fun e _ => hs e, Finset.sum_add_distrib, Finset.sum_ite_eq, Finset.sum_ite_eq]
  simp

theorem hot_iff (v : BitVec 32) (hv : v.toNat < 16) (e : Fin 16) : v = BitVec.ofNat 32 e.val ↔ (⟨v.toNat, hv⟩ : Fin 16) = e := by
  have he := e.isLt
  constructor
  · intro h; refine Fin.ext ?_; show v.toNat = e.val; rw [h, BitVec.toNat_ofNat]; omega
  · intro h; refine BitVec.eq_of_toNat_eq ?_; rw [← h, BitVec.toNat_ofNat]; show v.toNat = v.toNat % _; omega

theorem ix1_eq {n : ℕ} (i : Fin n) : (ValueIdx.ix1 i : (⟨1, ![n]⟩ : Shape).Idx) = Idealize.ShloMosaic.ix1 i := by
  funext d; match d with | ⟨0, _⟩ => rfl
theorem ix2_eq {n k : ℕ} (i : Fin n) (j : Fin k) : (ValueIdx.ix2 i j : (⟨2, ![n, k]⟩ : Shape).Idx) = Idealize.ShloMosaic.ix2 i j := by
  funext d; match d with | ⟨0, _⟩ => rfl | ⟨1, _⟩ => rfl

end Cert.Moe
-- ==== Proof.Rows.lean ====
/- From the words of the plan to the facts the tiles' run needs of them. -/
module

public import proofs.«01_k».proof.Proof.Tables
public import proofs.«01_k».proof.Proof.Body
public import proofs.«01_k».proof.Proof.Plan
public import proofs.«01_k».proof.Proof.Pick

@[expose] public section

noncomputable section

namespace Cert.KernelIdeal.Moe

open Cert.Moe
open Idealize.ShloMosaic Idealize.ShloMosaic.TcCoe Idealize.ShloMosaic.StableHlo Cert.KernelIdeal

theorem lit0_lt : ∀ b : Fin 64, (lit0 b).toNat < 16 := by decide +kernel
theorem lit1_lt : ∀ b : Fin 64, (lit1 b).toNat < 16 := by decide +kernel
theorem cond3_lit0 : ∀ b : Fin 64, k0_cond3 (lit0 b) = 1#1 := by decide +kernel
theorem cond3_neg : ¬ k0_cond3 (-1#32) = 1#1 := by decide +kernel
theorem cond2_flag (p : Prop) [Decidable p] : k0_cond2 (BitVec.ofNat 32 (if p then 1 else 0)) = 1#1 ↔ p := by
  by_cases h : p
  · rw [if_pos h]; exact ⟨fun _ => h, fun _ => by decide +kernel⟩
  · rw [if_neg h]; exact ⟨fun e => absurd e (by decide +kernel), fun e => absurd e h⟩

variable {cn : ℕ → ℕ} (H : Bnd 89 cn)

/-- The expert below, of bucket `b`. -/
def loE (b : Fin 64) : Fin 32 := ⟨(lit0 b).toNat, by have := lit0_lt b; omega⟩
/-- The expert above, of bucket `b`. -/
def hiE (b : Fin 64) : Fin 32 := ⟨(lit1 b).toNat, by have := lit1_lt b; omega⟩

/-- A table whose rows are the ones the host computes is a good plan. -/
def planOf {W : Fin 6 → Fin 89 → BitVec 32}
    (h0 : ∀ j : Fin 89, W 0 j = lit0 ⟨bk cn j.val, bk_lt H _⟩)
    (h1 : ∀ j : Fin 89, W 1 j = lit1 ⟨bk cn j.val, bk_lt H _⟩)
    (h2 : ∀ j : Fin 89, W 2 j = BitVec.ofNat 32 (if fs cn j.val then 1 else 0))
    (h3 : ∀ j : Fin 89, W 3 j = BitVec.ofNat 32 ((ns cn j.val - 1) % 2))
    (h4 : ∀ j : Fin 89, W 4 j = if en cn (bk cn j.val) < nn cn then lit0 ⟨bk cn (qn 89 cn j.val), bk_lt H _⟩ else -1#32)
    (h5 : ∀ j : Fin 89, W 5 j = if en cn (bk cn j.val) < nn cn then lit1 ⟨bk cn (qn 89 cn j.val), bk_lt H _⟩ else -1#32) : PlanOK W where
  sl j := ⟨(ns cn j.val - 1) % 2, Nat.mod_lt _ (by decide)⟩
  lo j := loE ⟨bk cn j.val, bk_lt H _⟩
  hi j := hiE ⟨bk cn j.val, bk_lt H _⟩
  nx j := if en cn (bk cn j.val) < nn cn then some (loE ⟨bk cn (qn 89 cn j.val), bk_lt H _⟩, hiE ⟨bk cn (qn 89 cn j.val), bk_lt H _⟩) else none
  sl_eq j := by
    rw [h3, BitVec.toNat_ofNat]
    exact Nat.mod_eq_of_lt ((Nat.mod_lt _ (by decide : 0 < 2)).trans (by decide))
  lo_eq j := by rw [h0]; rfl
  hi_eq j := by rw [h1]; rfl
  nx_some j a b e := by
    by_cases hb : en cn (bk cn j.val) < nn cn
    · rw [if_pos hb] at e
      obtain ⟨rfl, rfl⟩ := Prod.mk.inj (Option.some.inj e)
      rw [h4, h5, if_pos hb, if_pos hb]
      exact ⟨cond3_lit0 _, rfl, rfl⟩
    · rw [if_neg hb] at e; exact absurd e (by simp)
  nx_none j e := by
    by_cases hb : en cn (bk cn j.val) < nn cn
    · rw [if_pos hb] at e; exact absurd e (by simp)
    · rw [h4, if_neg hb]; exact cond3_neg
  first0 := by rw [h2]; exact (cond2_flag _).2 (fs_zero H)
  sl0 := Fin.ext (by show (ns cn 0 - 1) % 2 = 0; rw [ns_zero H])
  step j j' hj e := by
    rw [h2] at e
    have hf := (cond2_flag _).1 e
    have hf' : fs cn (j.val + 1) := hj ▸ hf
    have he := en_of_fs H hf'
    have hlt : j.val + 1 < nn cn := hf'.2
    have hq : qn 89 cn j.val = j'.val := by
      unfold qn; rw [he, hj]; have := j'.isLt; omega
    refine ⟨?_, ?_⟩
    · rw [if_pos (by rw [he]; exact hlt)]; simp only [hq]
    · have h1 := one_le_ns H j.val
      have h2 : ns cn j'.val = ns cn j.val + 1 := by rw [hj, ns_succ, if_pos hf']
      apply Fin.ext
      simp only [h2, Fin.sub_def]
      have : (1 : Fin 2).val = 1 := rfl
      omega
  stay j j' hj e := by
    rw [h2] at e
    have hf' : ¬ fs cn (j.val + 1) := fun h => e ((cond2_flag _).2 (hj ▸ h))
    have hb : bk cn j'.val = bk cn j.val := by rw [hj]; exact bk_eq_of_not_fs H hf'
    have h2 : ns cn j'.val = ns cn j.val := by rw [hj, ns_succ, if_neg hf', Nat.add_zero]
    have hq : qn 89 cn j'.val = qn 89 cn j.val := by unfold qn; rw [hb]
    refine ⟨by simp only [h2], by simp only [hb], by simp only [hb], by simp only [hb, hq]⟩
  last := if_neg (en_bk_last H)

variable {F : FTy → Type} [FloatOps F] (m : (ℓ : Loc nD τ sig) → Buf (Elt F) ℓ)

variable (hc : ∀ b : Fin 64, (m (0, main_arg0) : IVec S64 32) (ValueIdx.ix1 b) = BitVec.ofNat 32 (cn b.val))

/-- The plan the host computes from counts as stated is a good one. -/
def planM (c : Dev nD) : PlanOK (plan m c) :=
  planOf H (fun j => (congrArg (V m 0 main_v94 : IVec S6x89 32) (ix2_eq _ _).symm).trans (V_row0 m 0 H hc j))
    (fun j => (congrArg (V m 0 main_v94 : IVec S6x89 32) (ix2_eq _ _).symm).trans (V_row1 m 0 H hc j))
    (fun j => (congrArg (V m 0 main_v94 : IVec S6x89 32) (ix2_eq _ _).symm).trans (V_row2 m 0 H hc j))
    (fun j => (congrArg (V m 0 main_v94 : IVec S6x89 32) (ix2_eq _ _).symm).trans (V_row3 m 0 H hc j))
    (fun j => (congrArg (V m 0 main_v94 : IVec S6x89 32) (ix2_eq _ _).symm).trans (V_row4 m 0 H hc j))
    (fun j => (congrArg (V m 0 main_v94 : IVec S6x89 32) (ix2_eq _ _).symm).trans (V_row5 m 0 H hc j))

end Cert.KernelIdeal.Moe
-- ==== Proof.CountWords.lean ====
/- The counts as numbers, and how their words compare. -/
module

public import proofs.«01_k».proof.Proof.Plan
public import Idealize.ShloMosaic.Lib.Routing.OpsSearch
public import Idealize.ShloMosaic.Lib.Routing.Words
public import Idealize.ShloMosaic.Lib.PlanTiles.Rows
public import Idealize.ShloMosaic.Lib.Pointwise
public import Idealize.ShloMosaic.Lib.ReduceAll
public import Idealize.ShloMosaic.Lib.StableHlo.Predicate

@[expose] public section

noncomputable section

namespace Cert.Moe

open Idealize.ShloMosaic.ValueIdx
open Idealize.ShloMosaic hiding ix0 ix1 ix2 ix3 eq_ix1 eq_ix2
open Idealize.ShloMosaic.StableHlo Idealize.ShloMosaic.WordCmp
open Idealize.ShloMosaic.Routing

/-- The counts as numbers. -/
def cntOf (x : IVec (⟨1, ![64]⟩ : Shape) 32) (b : ℕ) : ℕ := if h : b < 64 then (x (ix1 ⟨b, h⟩)).toNat else 0

theorem cntOf_word (x : IVec (⟨1, ![64]⟩ : Shape) 32) (b : Fin 64) : x (ix1 b) = BitVec.ofNat 32 (cntOf x b.val) := by
  unfold cntOf; rw [dif_pos b.isLt, BitVec.ofNat_toNat, BitVec.setWidth_eq]

theorem range_of_signed (w : BitVec 32) (h0 : IntOp.cmpi .sge w 0#32 = 1#1) (h1 : IntOp.cmpi .sle w 16640#32 = 1#1) : w.toNat ≤ 16640 := by
  have hw : w.toNat < 2 ^ 31 := by
    by_contra hc
    have hm : w.msb = true := by rw [BitVec.msb_eq_decide]; simpa using by omega
    have := (Predicate.ofBool_eq_one_iff _).1 h0
    change (0#32).sle w = true at this
    rw [BitVec.sle, decide_eq_true_eq, BitVec.toInt_eq_msb_cond w, hm] at this
    have := w.isLt
    simp at *; omega
  exact (Predicate.sle_iff_toNat hw (by decide)).1 h1

theorem and_one {a b : BitVec 1} (h : IntOp.andi a b = 1#1) : a = 1#1 ∧ b = 1#1 := by
  revert a b; decide
theorem or_one {a b : BitVec 1} (h : IntOp.ori a b = 1#1) : a = 1#1 ∨ b = 1#1 := by
  revert a b; decide

end Cert.Moe
-- ==== Proof.Counts.lean ====
/- What the precondition says of the counts. -/
module

public import proofs.«01_k».proof.Pre_sorted_counts
public import proofs.«01_k».proof.Proof.Gen.Pre_sorted_counts
public import proofs.«01_k».proof.Proof.CountWords
public import Idealize.ShloMosaic.Lib.Routing.OpsSearch
public import Idealize.ShloMosaic.Lib.Routing.Words
public import Idealize.ShloMosaic.Lib.PlanTiles.Rows
public import Idealize.ShloMosaic.Lib.Pointwise
public import Idealize.ShloMosaic.Lib.ReduceAll
public import Idealize.ShloMosaic.Lib.StableHlo.Predicate

@[expose] public section

noncomputable section

namespace Cert.KernelIdeal.Moe

open Cert.Moe
open Idealize.ShloMosaic.ValueIdx
open Idealize.ShloMosaic hiding ix0 ix1 ix2 ix3 eq_ix1 eq_ix2
open Idealize.ShloMosaic.StableHlo Idealize.ShloMosaic.WordCmp
open Idealize.ShloMosaic.Routing

section
open Cert.Pre_sorted_counts Cert.Pre_sorted_counts.Gen
variable {F : FTy → Type} [FloatOps F]

theorem pre_read (x : IVec S64 32) (a1 : FVec F S22784x1152 .f32) (a2 : FVec F S2x16x1024x512 .f32) (a3 : FVec F S2x16x1024x512 .f32) (a4 : FVec F S2x16x512x1024 .f32)
    (h : Cert.Pre_sorted_counts.fn (F := F) x a1 a2 a3 a4 = fun _ => 1#1) :
    (∀ b : Fin 64, cntOf x b.val ≤ 16640) ∧ (∀ b : Fin 64, cntOf x b.val ≠ 0 → Cert.Pre_sorted_counts.lit0 b = 1#1) ∧ 1 ≤ nn (cntOf x) ∧ nn (cntOf x) ≤ 89 := by
  have e := congrFun h ValueIdx.ix0
  simp only [Cert.Pre_sorted_counts.fn, Cert.Pre_sorted_counts.fn_part1, andi_at] at e
  obtain ⟨e1, e3⟩ := and_one e
  obtain ⟨e1, e2⟩ := and_one e1
  have hall : ∀ b : Fin 64, (x (ix1 b)).toNat ≤ 16640 ∧ (Cert.Pre_sorted_counts.lit0 b = 1#1 ∨ x (ix1 b) = 0#32) := fun b => by
    have hb := Host.reduce_andi_all _ _ _ _ _ e1 (ix1 b)
    rw [andi_at, andi_at, cmpi_at, cmpi_at, bc0, bc0, constantI_at, constantI_at] at hb
    obtain ⟨hr, hz⟩ := and_one hb
    obtain ⟨hr0, hr1⟩ := and_one hr
    refine ⟨range_of_signed _ hr0 hr1, ?_⟩
    rcases or_one hz with hz | hz
    · left; rw [← hz]; exact congrArg Cert.Pre_sorted_counts.lit0 (Fin.ext (by rw [Shape.rowMajor_val_one]))
    · right; rw [cmpi_at, bc0, constantI_at] at hz; exact Predicate.cmpi_eq_iff.1 hz
  have hcn : ∀ b : Fin 64, cntOf x b.val ≤ 16640 := fun b => by
    have := (hall b).1; unfold cntOf; rw [dif_pos b.isLt]; exact this
  have hdiv : ∀ b : Fin 64, fn_floor_divide (F := F) (addi x (broadcastInDim S64 ![] Facts.bcast_S_S64 (constantI S_ 32 255#32))) (constantI S_ 32 256#32) (ix1 b) = BitVec.ofNat 32 (tl (cntOf x) b.val) := fun b => by
    have hs := hcn b
    refine (show _ = pyDiv Facts.bcast_S_S64 (addi x (broadcastInDim S64 ![] Facts.bcast_S_S64 (constantI S_ 32 255#32))) (constantI S_ 32 256#32) (ix1 b) from rfl).trans ?_
    refine pyDiv_ap _ _ _ _ (a := cntOf x b.val + 255) (b := 256) ?_ rfl (by omega) (by decide) (by decide)
    rw [addi_ap, bc0, constantI_at, cntOf_word x b, show (255#32 : BitVec 32) = BitVec.ofNat 32 255 from rfl, BitVec.ofNat_add_ofNat]
  have hsum := by
    have := reduce_sum _ (tl (cntOf x)) hdiv Facts.reducesTo_S64_S_d0 Facts.h_S_
    rw [show ((List.range 64).map (tl (cntOf x))).sum = nn (cntOf x) from rfl] at this; exact this
  have hnn : nn (cntOf x) ≤ 64 * 66 := by
    unfold nn en
    refine (List.sum_le_card_nsmul _ 66 fun t ht => ?_).trans (by simp)
    obtain ⟨b, hb, rfl⟩ := List.mem_map.1 ht
    have := hcn ⟨b, List.mem_range.1 hb⟩
    simp only at this
    unfold tl; omega
  refine ⟨hcn, fun b hb => ?_, ?_, ?_⟩
  · rcases (hall b).2 with hz | hz
    · exact hz
    · exact absurd (by unfold cntOf; rw [dif_pos b.isLt, hz]; rfl) hb
  · rw [cmpi_at, hsum, constantI_at] at e2
    exact (Predicate.sge_iff_toNat (by rw [BitVec.toNat_ofNat]; omega) (by decide)).1 e2 |>.trans (by rw [BitVec.toNat_ofNat]; exact Nat.mod_le _ _)
  · rw [cmpi_at, hsum, constantI_at] at e3
    have := (Predicate.sle_iff_toNat (by rw [BitVec.toNat_ofNat]; exact (Nat.mod_le _ _).trans_lt (by omega)) (by decide)).1 e3
    rw [BitVec.toNat_ofNat, Nat.mod_eq_of_lt (by omega)] at this
    exact this
end

end Cert.KernelIdeal.Moe
-- ==== Proof.Frame.lean ====
/- The whole run, from counts as stated: the results are what the tiles leave, the arguments stay, every counter ends at zero. -/
module

public import proofs.«01_k».proof.Proof.Rows
public import proofs.«01_k».proof.Proof.Run
public import proofs.«01_k».proof.Proof.Counts
public import Idealize.ShloMosaic.Lib.Pipeline.ValueKit.Geometry

@[expose] public section

noncomputable section

namespace Cert.KernelIdeal.Moe

open Cert.Moe
open Idealize.ShloMosaic Idealize.ShloMosaic.TcCoe Idealize.ShloMosaic.StableHlo Cert.KernelIdeal Cert.KernelIdeal.Gen Idealize.SL.Sem

variable {F : FTy → Type} [FloatOps F] (m : (ℓ : Loc nD τ sig) → Buf (Elt F) ℓ) (ρ : Dev nD → PrngReg)

/-- The counts of a memory, as numbers. -/
def cnM : ℕ → ℕ := cntOf (m (0, main_arg0) : IVec S64 32)

theorem cnM_word (b : Fin 64) : (m (0, main_arg0) : IVec S64 32) (ValueIdx.ix1 b) = BitVec.ofNat 32 (cnM m b.val) := cntOf_word _ b

/-- What the precondition says, of a memory. -/
structure Good : Prop where
  small : ∀ b : Fin 64, cnM m b.val ≤ 16640
  real : ∀ b : Fin 64, cnM m b.val ≠ 0 → Cert.Pre_sorted_counts.lit0 b = 1#1
  one : 1 ≤ nn (cnM m)
  top : nn (cnM m) ≤ 89

theorem Good.bnd {m : (ℓ : Loc nD τ sig) → Buf (Elt F) ℓ} (h : Good m) : Bnd 89 (cnM m) where
  one := h.one
  top := h.top
  small b := by
    by_cases hb : b < 64
    · exact (h.small ⟨b, hb⟩).trans_lt (by decide)
    · unfold cnM cntOf; rw [dif_neg hb]; decide

variable (h : Good m)

/-- The plan of a memory. -/
def planG (c : Dev nD) : PlanOK (plan m c) := planM h.bnd m (cnM_word m) c

theorem run_out : θ_run defs (onTc (τ := τ) (main (F := F))) ⟨m, fun _ => 0, ρ⟩ (fun r => (∀ c : Dev nD,
    r.2.mem ((c.tc : Thread nD τ).loc main_v96) = (dats m (planG m h) 0 c).arrAt 1 (cfgM m).N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) ∧ r.2.sem = fun _ => 0) :=
  (θ_run defs _ _).mono (fun r hr => ⟨fun c => ⟨(hr.1 c).1 1,
      ((hr.1 c).2 main_arg0 (Pipeline.mem_restRefs_of (win := spec0) _ (by decide) (by decide))).trans (V_arg0 m c),
      (((hr.1 c).1 0).trans ((dats m (planG m h) 0 c).arrAt_in 0 rfl _)).trans ((A_eq m (planG m h) c 0).trans (V_arg1 m c)),
      ((hr.1 c).2 main_arg2 (Pipeline.mem_restRefs_of (win := spec0) _ (by decide) (by decide))).trans (V_arg2 m c),
      ((hr.1 c).2 main_arg3 (Pipeline.mem_restRefs_of (win := spec0) _ (by decide) (by decide))).trans (V_arg3 m c),
      ((hr.1 c).2 main_arg4 (Pipeline.mem_restRefs_of (win := spec0) _ (by decide) (by decide))).trans (V_arg4 m c)⟩, hr.2⟩) (run_main m ρ (planG m h))

end Cert.KernelIdeal.Moe
-- ==== Proof.Same.lean ====
/- The two printed programs have the same text: their bodies and their host operations are equal, so a run of one is a run of the other. -/
module

public import proofs.«01_k».proof.Proof.Gen.Kernel
public import proofs.«01_k».proof.Proof.Gen.Kernel.Launch
public import proofs.«01_k».proof.Proof.Gen.KernelIdeal
public import proofs.«01_k».proof.Proof.Gen.KernelIdeal.Launch

@[expose] public section

noncomputable section

namespace Cert.Proof

open Idealize.ShloMosaic Idealize.SL.Sem

variable {F : FTy → Type} [FloatOps F]

set_option maxHeartbeats 400000 in
/-- The same host operations, then the same call. -/
theorem main_same (c : Dev Cert.Kernel.nD) : Cert.Kernel.main (F := F) c = Cert.KernelIdeal.main (F := F) c :=
  (Cert.Kernel.Gen.main_chain c).trans ((rfl : _ = _).trans (Cert.KernelIdeal.Gen.main_chain c).symm)

/-- The same body under the one label. -/
theorem defs₀_same : Cert.Kernel.defs₀ (F := F) = Cert.KernelIdeal.defs₀ (F := F) := by
  funext p l a
  match p with
  | .tc => match l, a with
    | 0, (t, s) => rfl
    | ⟨_ + 1, h⟩, _ => exact absurd h (Nat.not_lt.2 (Nat.le_add_left _ _))
  | .scScalar _ => rfl
  | .scVector _ _ => rfl

theorem defs_same : Cert.Kernel.defs (F := F) = Cert.KernelIdeal.defs (F := F) :=
  congrArg (Pipeline.defs (Cert.Kernel.pcfgs (F := F))) (defs₀_same (F := F))

/-- A run under equal bodies and equal programs. -/
theorem run_same {nD : ℕ} {τ : Topo} {sig : RefSig} {Val : EltTy → Type} {Λ : Labels} {D D' : Defs nD τ sig Val Λ} {M M' : Dev nD → Prog (TpuEff nD τ sig Val Λ .tc) PUnit}
    (hD : D = D') (hM : M = M') {s : MemSt nD τ sig Val} {Q : PUnit × MemSt nD τ sig Val → Prop} (h : θ_run D' (onTc (τ := τ) M') s Q) : θ_run D (onTc (τ := τ) M) s Q := by
  subst hD hM; exact h

end Cert.Proof
-- ==== Proof.RefWords.lean ====
/- The reference's words: the bucket of every row, and the row's two experts. -/
module

public import proofs.«01_k».proof.Proof.Gen.ReferenceIdeal.Run
public import proofs.«01_k».proof.Proof.Plan
public import Idealize.ShloMosaic.Lib.Routing.OpsSearch
public import Idealize.ShloMosaic.Lib.Routing.Words
public import Idealize.ShloMosaic.Lib.PlanTiles.Rows

@[expose] public section

set_option maxRecDepth 16384

noncomputable section

namespace Cert.ReferenceIdeal.Moe

open Cert.Moe
open Cert.ReferenceIdeal Cert.ReferenceIdeal.Gen
open Idealize.ShloMosaic.ValueIdx
open Idealize.ShloMosaic
open Idealize.ShloMosaic.StableHlo Idealize.ShloMosaic.WordCmp
open Idealize.ShloMosaic.Routing

/-- The row behind each bucket's last. -/
def ends (x0 : IVec S64 32) : IVec S64 32 :=
  Host.reduceWindow IntOp.addi ![64] ![1] ![63] ![0] (muli (pyDiv bcast_S_S64 (addi x0 (broadcastInDim S64 ![] bcast_S_S64 (constantI S_ 32 255#32))) (constantI S_ 32 256#32)) (broadcastInDim S64 ![] bcast_S_S64 (constantI S_ 32 256#32))) (broadcastInDim S_ ![] bcast_S_S_ (constantI S_ 32 0#32)) reduceWindows_S64_S64_w64s1p63_0 h_S_
/-- The bucket of each row: how many buckets end at or before it. -/
def buckets (y : IVec S64 32) : IVec S22784 32 :=
  Host.reduce IntOp.addi (extui 32 (cmpi .sle (broadcastInDim S22784x64 ![0, 1] bcast_S1x64_S22784x64_0_1 (broadcastInDim S1x64 ![1] bcast_S64_S1x64_1 y)) (broadcastInDim S22784x64 ![0, 1] bcast_S22784x1_S22784x64_0_1 (broadcastInDim S22784x1 ![0] bcast_S22784_S22784x1_0 (iotaInDim S22784 32 0)))) natLt_1_32) (constantI S_ 32 0#32) reducesTo_S22784x64_S22784_d1 h_S_
/-- The two experts of each row's bucket. -/
def experts (w : IVec S22784 32) : IVec S22784x2 32 :=
  Host.gather gather_S64x2_S22784x1_S22784x2_1_0_n_n_0_1_12 ((fun i => lit0 (S64x2.rowMajor i))) (broadcastInDim S22784x1 ![0] bcast_S22784_S22784x1_0 (select (cmpi .slt (minsi w (broadcastInDim S22784 ![] bcast_S_S22784 (constantI S_ 32 63#32))) (broadcastInDim S22784 ![] bcast_S_S22784 (constantI S_ 32 0#32))) (addi (minsi w (broadcastInDim S22784 ![] bcast_S_S22784 (constantI S_ 32 63#32))) (broadcastInDim S22784 ![] bcast_S_S22784 (constantI S_ 32 64#32))) (minsi w (broadcastInDim S22784 ![] bcast_S_S22784 (constantI S_ 32 63#32)))))

variable {cn : ℕ → ℕ} (H : Bnd 89 cn)

include H in
theorem ends_ap (x0 : IVec S64 32) (hc : ∀ b : Fin 64, x0 (ix1 b) = BitVec.ofNat 32 (cn b.val)) (b : Fin 64) :
    ends x0 (ix1 b) = BitVec.ofNat 32 (256 * en cn b.val) := by
  unfold ends
  refine (cumsum1 (by rfl) _ (fun b => tl cn b * 256) (fun b => ?_) _ (by rw [bc0]; rfl) _ _ b).trans ?_
  · have hs := H.small b.val
    have e := pyDiv_ap bcast_S_S64 (addi x0 (broadcastInDim S64 ![] bcast_S_S64 (constantI S_ 32 255#32))) (constantI S_ 32 256#32) (ix1 b) (a := cn b.val + 255) (b := 256)
      (by rw [addi_ap, bc0, constantI_at, hc, show (255#32 : BitVec 32) = BitVec.ofNat 32 255 from rfl, BitVec.ofNat_add_ofNat]) rfl (by omega) (by decide) (by decide)
    rw [show ∀ y z : IVec S64 32, muli y z (ix1 b) = y (ix1 b) * z (ix1 b) from fun _ _ => rfl, bc0, constantI_at]
    refine (congrArg (· * 256#32) e).trans ?_
    rw [show (256#32 : BitVec 32) = BitVec.ofNat 32 256 from rfl, BitVec.ofNat_mul_ofNat]
    rfl
  · rw [sum_mul]; rfl

include H in
theorem buckets_ap (y : IVec S64 32) (hy : ∀ b : Fin 64, y (ix1 b) = BitVec.ofNat 32 (256 * en cn b.val)) (R : Fin 22784) :
    buckets y (ix1 R) = BitVec.ofNat 32 (cb cn R.val) := by
  refine reduce_count (by decide) _ _ _ _ R (fun b => 256 * en cn b ≤ R.val) (fun q => ?_)
  have hq := Cert.Moe.en_le H q.isLt
  have hR := R.isLt
  rw [cmpi_at, bcCols, bcRows, hy]
  rw [show iotaInDim S22784 32 0 (ix1 R) = BitVec.ofNat 32 R.val from rfl]
  rw [cmpi_sle_ofNat (w := 32) (by omega) (by omega), ofBool_decide_eq_one_iff]

theorem experts_ap (w : IVec S22784 32) (R : Fin 22784) {b : ℕ} (hb : b ≤ 64) (hw : w (ix1 R) = BitVec.ofNat 32 b) (k : Fin 2) :
    experts w (ix2 R k) = lit0 ⟨2 * min b 63 + k.val, by omega⟩ := by
  unfold experts
  refine (gather_row _ rfl rfl rfl rfl rfl _ _ R k ⟨min b 63, by omega⟩ ?_ (by decide)).trans ?_
  · have hm : minsi w (broadcastInDim S22784 ![] bcast_S_S22784 (constantI S_ 32 63#32)) (ix1 R) = BitVec.ofNat 32 (min b 63) := by
      rw [show ∀ y z : IVec S22784 32, minsi y z (ix1 R) = IntOp.minsi (y (ix1 R)) (z (ix1 R)) from fun _ _ => rfl, bc0, constantI_at, hw,
        show (63#32 : BitVec 32) = BitVec.ofNat 32 63 from rfl, PlanTiles.minsi_word (by omega) (by omega), Nat.min_comm]
    rw [bcCol, select_at, cmpi_at, bc0, constantI_at]
    erw [hm]
    rw [show (0#32 : BitVec 32) = BitVec.ofNat 32 0 from rfl, cmpi_slt_ofNat (w := 32) (by omega) (by decide)]
    simp only [Nat.not_lt_zero, decide_false]
    rfl
  · exact congrArg lit0 (Fin.ext (by rw [Shape.rowMajor_val_two]; show min b 63 * 2 + k.val = _; simp only []; omega))

end Cert.ReferenceIdeal.Moe
-- ==== Proof.Experts.lean ====
/- The arithmetic of one expert at a row and a column, and the payloads of the body read there. -/
module

public import proofs.«01_k».proof.Proof.Frame
public import Idealize.ShloMosaic.Lib.Pointwise

@[expose] public section

set_option maxRecDepth 16384

noncomputable section

namespace Cert.KernelIdeal.Moe

open Cert.KernelIdeal Cert.KernelIdeal.Gen
open Idealize.ShloMosaic Idealize.ShloMosaic.TcCoe

/-- One column of one expert's product, from a row, the expert's two matrices in and its column out. -/
def expertAt (x : Fin 1024 → EReal) (A B : Fin 1024 → Fin 512 → EReal) (C : Fin 512 → EReal) : EReal :=
  ∑ f, ((∑ k, x k * A k f) * Ideal.logistic (∑ k, x k * A k f) * ∑ k, x k * B k f) * C f

theorem pay_at (x : Vec Ideal S256x1024 .f32) (g g' : Vec Ideal S256x1 .f32) (a b a' b' : Vec Ideal S1x1x1024x512 .f32) (d d' : Vec Ideal S1x1x512x1024 .f32) (r : Fin 256) (q : Fin 1024) :
    k0_pay1 (k0_pay3 x) g' (k0_pay4 x g a b d) (k0_pay5 x a') (k0_pay6 b') d' (ix2 r q)
      = g (ix2 r 0) * expertAt (fun k => x (ix2 r k)) (fun k f => a (ix4 0 0 k f)) (fun k f => b (ix4 0 0 k f)) (fun f => d (ix4 0 0 f q))
        + g' (ix2 r 0) * expertAt (fun k => x (ix2 r k)) (fun k f => a' (ix4 0 0 k f)) (fun k f => b' (ix4 0 0 k f)) (fun f => d' (ix4 0 0 f q)) := by
  unfold expertAt
  pointwise [k0_pay1, k0_pay3, k0_pay4, k0_pay5, k0_pay6]

theorem pay2_at (r : Fin 256) (q : Fin 1024) : (k0_pay2 (F := Ideal)) (ix2 r q) = 0 := by
  pointwise [k0_pay2]

theorem xRow_at (X : S256x1152.Idx → Elt Ideal .f32) (r : Fin 256) (k : Fin 1024) : xRow X (ix2 r k) = X (ix2 r ⟨k.val, by omega⟩) := by
  unfold xRow; congr 1; funext a
  match a with
  | ⟨0, _⟩ => exact Fin.ext (by show 0 + 1 * r.val = r.val; omega)
  | ⟨1, _⟩ => exact Fin.ext (by show 0 + 1 * k.val = k.val; omega)
theorem xLo_at (X : S256x1152.Idx → Elt Ideal .f32) (r : Fin 256) : xLo X (ix2 r 0) = X (ix2 r ⟨1024, by omega⟩) := by
  unfold xLo; congr 1; funext a
  match a with
  | ⟨0, _⟩ => exact Fin.ext (by show 0 + 1 * r.val = r.val; omega)
  | ⟨1, _⟩ => exact Fin.ext (by show 1024 + 1 * 0 = 1024; omega)
theorem xHi_at (X : S256x1152.Idx → Elt Ideal .f32) (r : Fin 256) : xHi X (ix2 r 0) = X (ix2 r ⟨1025, by omega⟩) := by
  unfold xHi; congr 1; funext a
  match a with
  | ⟨0, _⟩ => exact Fin.ext (by show 0 + 1 * r.val = r.val; omega)
  | ⟨1, _⟩ => exact Fin.ext (by show 1025 + 1 * 0 = 1025; omega)

variable (m : (ℓ : Loc nD τ sig) → Buf (Elt Ideal) ℓ) (c : Dev nD)

theorem slabA_at (v : (⟨S32x1024x512, .f32⟩ : BufTy).Contents (Elt Ideal)) (hb : Memref sig .tc .hbm S32x1024x512 .f32) (e : Fin 32) (k : Fin 1024) (f : Fin 512)
    (w : Buf (Elt Ideal) (hb.view.loc (c : Thread nD τ))) (hw : ∀ y, hb.view.read (Elt Ideal) w y = v y) :
    slabA (F := Ideal) c hb w e (ix4 0 0 k f) = v (ix3 e k f) := by
  have h1 : slabA (F := Ideal) c hb w e (ix4 0 0 k f)
      = hb.view.read (Elt Ideal) w ((Rect.unit (s := S32x1024x512) (offS e) S1x1024x512.size (inbSA e)).emb
        (Shape.reshapeEquiv squeezes_S1x1024x512_S1024x512.numel_eq (Shape.reshapeEquiv squeezes_S1x1x1024x512_S1024x512.numel_eq.symm (ix4 0 0 k f)))) := rfl
  rw [h1, hw]
  simp only [reshapeIdx]
  congr 1; funext a
  match a with
  | ⟨0, _⟩ => exact Fin.ext (by show e.val + 1 * 0 = e.val; omega)
  | ⟨1, _⟩ => exact Fin.ext (by show 0 + 1 * k.val = k.val; omega)
  | ⟨2, _⟩ => exact Fin.ext (by show 0 + 1 * f.val = f.val; omega)

theorem slabB_at (v : (⟨S32x512x1024, .f32⟩ : BufTy).Contents (Elt Ideal)) (hb : Memref sig .tc .hbm S32x512x1024 .f32) (e : Fin 32) (k : Fin 512) (f : Fin 1024)
    (w : Buf (Elt Ideal) (hb.view.loc (c : Thread nD τ))) (hw : ∀ y, hb.view.read (Elt Ideal) w y = v y) :
    slabB (F := Ideal) c hb w e (ix4 0 0 k f) = v (ix3 e k f) := by
  have h1 : slabB (F := Ideal) c hb w e (ix4 0 0 k f)
      = hb.view.read (Elt Ideal) w ((Rect.unit (s := S32x512x1024) (offS e) S1x512x1024.size (inbSB e)).emb
        (Shape.reshapeEquiv squeezes_S1x512x1024_S512x1024.numel_eq (Shape.reshapeEquiv squeezes_S1x1x512x1024_S512x1024.numel_eq.symm (ix4 0 0 k f)))) := rfl
  rw [h1, hw]
  simp only [reshapeIdx]
  congr 1; funext a
  match a with
  | ⟨0, _⟩ => exact Fin.ext (by show e.val + 1 * 0 = e.val; omega)
  | ⟨1, _⟩ => exact Fin.ext (by show 0 + 1 * k.val = k.val; omega)
  | ⟨2, _⟩ => exact Fin.ext (by show 0 + 1 * f.val = f.val; omega)

theorem stackA_at (y : (⟨S2x16x1024x512, .f32⟩ : BufTy).Contents (Elt Ideal)) (e : Fin 32) (he : e.val < 16) (k : Fin 1024) (f : Fin 512) :
    shapeCast S32x1024x512 y shapeCasts_S2x16x1024x512_S32x1024x512 (ix3 e k f) = y (ix4 0 ⟨e.val, he⟩ k f) := by
  pointwise
  exact congrArg y (by rw [show (⟨e.val / 16, _⟩ : Fin 2) = 0 from Fin.ext (by show e.val / 16 = 0; omega), show (⟨e.val % 16, _⟩ : Fin 16) = ⟨e.val, he⟩ from Fin.ext (by show e.val % 16 = e.val; omega)])
theorem stackB_at (y : (⟨S2x16x512x1024, .f32⟩ : BufTy).Contents (Elt Ideal)) (e : Fin 32) (he : e.val < 16) (k : Fin 512) (f : Fin 1024) :
    shapeCast S32x512x1024 y shapeCasts_S2x16x512x1024_S32x512x1024 (ix3 e k f) = y (ix4 0 ⟨e.val, he⟩ k f) := by
  pointwise
  exact congrArg y (by rw [show (⟨e.val / 16, _⟩ : Fin 2) = 0 from Fin.ext (by show e.val / 16 = 0; omega), show (⟨e.val % 16, _⟩ : Fin 16) = ⟨e.val, he⟩ from Fin.ext (by show e.val % 16 = e.val; omega)])

/-- The expert at a row of a block and a column, from the arrays the program is given. -/
def prod (x : Fin 1024 → EReal) (a b : (⟨S2x16x1024x512, .f32⟩ : BufTy).Contents (Elt Ideal)) (d : (⟨S2x16x512x1024, .f32⟩ : BufTy).Contents (Elt Ideal)) (e : Fin 16) (q : Fin 1024) : EReal :=
  expertAt x (fun k f => a (ix4 0 e k f)) (fun k f => b (ix4 0 e k f)) (fun f => d (ix4 0 e f q))

theorem mix_at (X : S256x1152.Idx → Elt Ideal .f32) (e₀ e₁ : Fin 32) (h₀ : e₀.val < 16) (h₁ : e₁.val < 16) (r : Fin 256) (q : Fin 1024) :
    mix c (V m c) X e₀ e₁ (ix2 r q)
      = X (ix2 r ⟨1024, by omega⟩) * prod (fun k => X (ix2 r ⟨k.val, by omega⟩)) (m (c, main_arg2)) (m (c, main_arg3)) (m (c, main_arg4)) ⟨e₀.val, h₀⟩ q
        + X (ix2 r ⟨1025, by omega⟩) * prod (fun k => X (ix2 r ⟨k.val, by omega⟩)) (m (c, main_arg2)) (m (c, main_arg3)) (m (c, main_arg4)) ⟨e₁.val, h₁⟩ q := by
  unfold mix prod
  rw [pay_at, xLo_at, xHi_at]
  have hx : (fun k => xRow X (ix2 r k)) = fun k : Fin 1024 => X (ix2 r ⟨k.val, by omega⟩) := funext fun k => xRow_at X r k
  have hA : ∀ (e : Fin 32) (he : e.val < 16), (fun (k : Fin 1024) (f : Fin 512) => slabA c hw1 (V m c main_v0) e (ix4 0 0 k f)) = fun k f => m (c, main_arg2) (ix4 0 ⟨e.val, he⟩ k f) :=
    fun e he => funext fun k => funext fun f => (slabA_at c (V m c main_v0) hw1 e k f _ fun y => rfl).trans ((congrFun (V_v0 m c) _).trans (stackA_at _ e he k f))
  have hB : ∀ (e : Fin 32) (he : e.val < 16), (fun (k : Fin 1024) (f : Fin 512) => slabA c hw3 (V m c main_v1) e (ix4 0 0 k f)) = fun k f => m (c, main_arg3) (ix4 0 ⟨e.val, he⟩ k f) :=
    fun e he => funext fun k => funext fun f => (slabA_at c (V m c main_v1) hw3 e k f _ fun y => rfl).trans ((congrFun (V_v1 m c) _).trans (stackA_at _ e he k f))
  have hC : ∀ (e : Fin 32) (he : e.val < 16), (fun (f : Fin 512) => slabB c hw2 (V m c main_v2) e (ix4 0 0 f q)) = fun f => m (c, main_arg4) (ix4 0 ⟨e.val, he⟩ f q) :=
    fun e he => funext fun f => (slabB_at c (V m c main_v2) hw2 e f q _ fun y => rfl).trans ((congrFun (V_v2 m c) _).trans (stackB_at _ e he f q))
  rw [hx, hA e₀ h₀, hA e₁ h₁, hB e₀ h₀, hB e₁ h₁, hC e₀ h₀, hC e₁ h₁]

end Cert.KernelIdeal.Moe
-- ==== Proof.Value.lean ====
/- The array the run leaves, element by element. -/
module

public import proofs.«01_k».proof.Proof.Experts

@[expose] public section

set_option maxRecDepth 16384

noncomputable section

namespace Cert.KernelIdeal.Moe

open Cert.Moe
open Cert.KernelIdeal Cert.KernelIdeal.Gen
open Idealize.ShloMosaic Idealize.ShloMosaic.TcCoe
open Idealize.ShloMosaic.Pipeline (Dat Cfg Window BodyObligation cellOf)

theorem map_0 (i : grid0.Coords) : cc0_transform_0 i = ![(i 0).val, 0] := by
  have h : (i 0).val < 89 := (i 0).isLt
  have e : (BitVec.ofNat 32 (i 0).val).toNat = (i 0).val := by rw [BitVec.toNat_ofNat]; exact Nat.mod_eq_of_lt (by omega)
  show ![(BitVec.ofNat 32 (i 0).val).toNat, (0#32).toNat] = _
  rw [e]; rfl
theorem map_1 (i : grid0.Coords) : cc0_transform_4 i = ![(i 0).val, 0] := map_0 i

section
variable {F : FTy → Type} [FloatOps F] (m : (ℓ : Loc nD τ sig) → Buf (Elt F) ℓ)

theorem index_0 (t : Fin (cfgM m).N) : (win0 (adm m 0) 0).index t = ![t.val, 0] :=
  (map_0 _).trans (by rw [at_coords])
theorem index_1 (t : Fin (cfgM m).N) : (win0 (adm m 0) 1).index t = ![t.val, 0] :=
  (map_1 _).trans (by rw [at_coords])

theorem lt_rows (t : Fin (cfgM m).N) (r : Fin 256) : 256 * t.val + r.val < 22784 := by
  have h : t.val < 89 := Nat.lt_of_lt_of_eq t.isLt N_0
  omega

theorem rowsAt_at (c : Dev nD) (t : Fin (cfgM m).N) (r : Fin 256) (k : Fin 1152) :
    rowsAt m c t (ix2 r k) = m (c, main_arg1) (ix2 ⟨256 * t.val + r.val, lt_rows m t r⟩ k) := by
  unfold rowsAt
  show V m c main_arg1 (((win0 (adm m 0) 0).blk t).view.emb (ix2 r k)) = _
  rw [V_arg1]
  congr 1; funext a
  match a with
  | ⟨0, _⟩ =>
    refine Fin.ext ?_
    show (win0 (adm m 0) 0).index t 0 * 256 + 1 * r.val = 256 * t.val + r.val
    rw [index_0]; show t.val * 256 + 1 * r.val = _; omega
  | ⟨1, _⟩ =>
    refine Fin.ext ?_
    show (win0 (adm m 0) 0).index t 1 * 1152 + 1 * k.val = k.val
    rw [index_0]; show 0 * 1152 + 1 * k.val = _; omega

theorem flush_1 (t : Fin (cfgM m).N) : (win0 (adm m 0) 1).flush t = true := by
  unfold Window.flush
  refine Bool.and_eq_true_iff.2 ⟨rfl, Bool.or_eq_true_iff.2 ?_⟩
  by_cases h : t.val + 1 = grid0.N
  · exact .inl (decide_eq_true h)
  · refine .inr (decide_eq_true ⟨by have : t.val < grid0.N := t.isLt; omega, fun e => ?_⟩)
    rw [index_1, index_1] at e
    have := congrFun e 0
    exact absurd this (by show ¬ t.val + 1 = t.val; omega)

theorem covers_1 : (win0 (adm m 0) 1).Covers := by
  refine ⟨fun a => ?_, fun β => ?_⟩
  · match a with
    | ⟨0, _⟩ => show 0 < 256; decide
    | ⟨1, _⟩ => show 0 < 1024; decide
  · have h0 : (β 0).val < (22784 + 256 - 1) / 256 := (β 0).isLt
    have h1 : (β 1).val < (1024 + 1024 - 1) / 1024 := (β 1).isLt
    refine ⟨⟨(β 0).val, Nat.lt_of_lt_of_eq (show (β 0).val < 89 by omega) N_0.symm⟩, flush_1 m _, fun a => ⟨?_, ?_⟩⟩
    · rw [index_1]
      match a with
      | ⟨0, _⟩ => rfl
      | ⟨1, _⟩ => show 0 = (β 1).val; omega
    · exact .inl rfl
end

variable (m : (ℓ : Loc nD τ sig) → Buf (Elt Ideal) ℓ) (h : Good m) (c : Dev nD)

include h in
theorem nuWord_eq : nuWord c (tbl m 1) = BitVec.ofNat 32 (nn (cnM m)) := V_v95 m 0 h.bnd (cnM_word m) _

theorem cond4_iff (i : grid0.Coords) {n : ℕ} (hn : n ≤ 89) : k0_cond4 i (BitVec.ofNat 32 n) = 1#1 ↔ (i 0).val < n := by
  have hi : (i 0).val < 89 := (i 0).isLt
  show IntOp.cmpi .ne ((IntOp.cmpi .slt (BitVec.ofNat 32 (i 0).val) (BitVec.ofNat 32 n)).setWidth 32) 0#32 = 1#1 ↔ _
  rw [WordCmp.cmpi_slt_ofNat (w := 32) (by omega) (by omega)]
  by_cases e : (i 0).val < n
  · rw [decide_eq_true e]; exact ⟨fun _ => e, fun _ => by decide⟩
  · rw [decide_eq_false e]; exact ⟨fun h => absurd h (by decide), fun h => absurd h e⟩

/-- A row's tile. -/
abbrev tileRow (R : Fin 22784) : Fin 89 := ⟨R.val / 256, by omega⟩
/-- The bucket of a row's tile. -/
abbrev bkRow (R : Fin 22784) : Fin 64 := ⟨bk (cnM m) (R.val / 256), bk_lt h.bnd _⟩
def loR (R : Fin 22784) : Fin 16 := ⟨(lit0 (bkRow m h R)).toNat, lit0_lt _⟩
def hiR (R : Fin 22784) : Fin 16 := ⟨(lit1 (bkRow m h R)).toNat, lit1_lt _⟩

/-- The gated sum of two experts at a row and a column. -/
def gated (x : (⟨S22784x1152, .f32⟩ : BufTy).Contents (Elt Ideal)) (a b : (⟨S2x16x1024x512, .f32⟩ : BufTy).Contents (Elt Ideal)) (d : (⟨S2x16x512x1024, .f32⟩ : BufTy).Contents (Elt Ideal))
    (e₀ e₁ : Fin 16) (R : Fin 22784) (q : Fin 1024) : EReal :=
  (x (ix2 R ⟨1024, by omega⟩) : EReal) * prod (fun k => x (ix2 R ⟨k.val, by omega⟩)) a b d e₀ q
    + (x (ix2 R ⟨1025, by omega⟩) : EReal) * prod (fun k => x (ix2 R ⟨k.val, by omega⟩)) a b d e₁ q

/-- An element of the result: the gated sum of the row's two experts, or nothing behind the last tile in use. -/
def resAt (R : Fin 22784) (q : Fin 1024) : EReal :=
  if R.val / 256 < nn (cnM m) then gated (m (c, main_arg1)) (m (c, main_arg2)) (m (c, main_arg3)) (m (c, main_arg4)) (loR m h R) (hiR m h R) R q else 0

theorem outAt_at (t : Fin (cfgM m).N) (r : Fin 256) (q : Fin 1024) :
    outAt m (planG m h) c t (ix2 r q) = resAt m h c ⟨256 * t.val + r.val, lt_rows m t r⟩ q := by
  have hj : (256 * t.val + r.val) / 256 = t.val := by omega
  unfold outAt tileOut resAt
  rw [nuWord_eq m h c]
  by_cases hc : t.val < nn (cnM m)
  · rw [if_pos ((cond4_iff _ h.top).2 (by rw [at_coords]; exact hc)), if_pos (by show (256 * t.val + r.val) / 256 < _; rw [hj]; exact hc)]
    have hb : bkRow m h ⟨256 * t.val + r.val, lt_rows m t r⟩ = ⟨bk (cnM m) (grid0.coords t 0).val, bk_lt h.bnd _⟩ :=
      Fin.ext (by show bk _ ((256 * t.val + r.val) / 256) = bk _ _; rw [hj, at_coords])
    have h0 : ((planG m h c).lo (tileOf (grid0.coords t))).val = (loR m h ⟨256 * t.val + r.val, lt_rows m t r⟩).val := by
      show (lit0 ⟨bk (cnM m) (grid0.coords t 0).val, bk_lt h.bnd _⟩).toNat = (lit0 (bkRow m h _)).toNat
      rw [hb]
    have h1 : ((planG m h c).hi (tileOf (grid0.coords t))).val = (hiR m h ⟨256 * t.val + r.val, lt_rows m t r⟩).val := by
      show (lit1 ⟨bk (cnM m) (grid0.coords t 0).val, bk_lt h.bnd _⟩).toNat = (lit1 (bkRow m h _)).toNat
      rw [hb]
    rw [mix_at m c _ _ _ (h0 ▸ (loR m h _).isLt) (h1 ▸ (hiR m h _).isLt)]
    simp only [rowsAt_at]
    unfold gated
    rw [show (⟨((planG m h c).lo (tileOf (grid0.coords t))).val, h0 ▸ (loR m h _).isLt⟩ : Fin 16) = loR m h ⟨256 * t.val + r.val, lt_rows m t r⟩ from Fin.ext h0,
      show (⟨((planG m h c).hi (tileOf (grid0.coords t))).val, h1 ▸ (hiR m h _).isLt⟩ : Fin 16) = hiR m h ⟨256 * t.val + r.val, lt_rows m t r⟩ from Fin.ext h1]
  · rw [if_neg (fun e => hc (by have := (cond4_iff _ h.top).1 e; rwa [at_coords] at this)), if_neg (by show ¬ (256 * t.val + r.val) / 256 < _; rw [hj]; exact hc)]
    exact pay2_at r q

theorem final_at : (dats m (planG m h) 0 c).arrAt 1 (cfgM m).N = (fun i => resAt m h c (i 0) (i 1) : (⟨S22784x1024, .f32⟩ : BufTy).Contents (Elt Ideal)) := by
  refine (dats m (planG m h) 0 c).arrAt_eq_of_covers 1 _ (covers_1 m) (fun t hf y => ?_)
  have hy : ∃ (r : Fin 256) (q : Fin 1024), (y : S256x1024.Idx) = ix2 r q := ⟨(show S256x1024.Idx from y) 0, (show S256x1024.Idx from y) 1, eq_ix2 (show S256x1024.Idx from y)⟩
  obtain ⟨r, q, hy⟩ := hy
  refine Eq.trans (b := outAt m (planG m h) c t y) ?_ ?_
  · exact congrFun (after0_1 m (planG m h) c t) y
  · subst hy
    refine (outAt_at m h c t r q).trans ?_
    have e0 : (((win0 (adm m 0) 1).blk t).view.emb (ix2 r q) : S22784x1024.Idx) 0 = ⟨256 * t.val + r.val, lt_rows m t r⟩ := by
      refine Fin.ext ?_
      show (win0 (adm m 0) 1).index t 0 * 256 + 1 * r.val = 256 * t.val + r.val
      rw [index_1]; show t.val * 256 + 1 * r.val = _; omega
    have e1 : (((win0 (adm m 0) 1).blk t).view.emb (ix2 r q) : S22784x1024.Idx) 1 = q := by
      refine Fin.ext ?_
      show (win0 (adm m 0) 1).index t 1 * 1024 + 1 * q.val = q.val
      rw [index_1]; show 0 * 1024 + 1 * q.val = _; omega
    exact (congrArg₂ (resAt m h c) e0 e1).symm

end Cert.KernelIdeal.Moe
-- ==== Proof.RefValue.lean ====
/- The reference's result at a row and a column. -/
module

public import proofs.«01_k».proof.Proof.Pick
public import proofs.«01_k».proof.Proof.RefWords
public import proofs.«01_k».proof.Proof.Value
public import Idealize.ShloMosaic.Lib.Pointwise

@[expose] public section

set_option maxRecDepth 16384

noncomputable section

namespace Cert.ReferenceIdeal.Moe

open Cert.Moe
open Cert.ReferenceIdeal Cert.ReferenceIdeal.Gen
open Idealize.ShloMosaic Idealize.ShloMosaic.TcCoe

/-- The gate of every row and expert. -/
def gates (w : IVec S22784 32) (g : IVec S22784x2 32) (x1 : FVec Ideal S22784x1152 .f32) : FVec Ideal S22784x16 .f32 :=
  select (broadcastInDim S22784x16 ![0, 1] bcast_S22784x1_S22784x16_0_1 (broadcastInDim S22784x1 ![0] bcast_S22784_S22784x1_0 (cmpi .slt w (broadcastInDim S22784 ![] bcast_S_S22784 (constantI S_ 32 64#32))))) (Host.reduceAdd (mulf (uitofp .f32 (cmpi .eq (broadcastInDim S22784x2x16 ![0, 1, 2] bcast_S22784x2x1_S22784x2x16_0_1_2 (broadcastInDim S22784x2x1 ![0, 1] bcast_S22784x2_S22784x2x1_0_1 g)) (broadcastInDim S22784x2x16 ![0, 1, 2] bcast_S1x1x16_S22784x2x16_0_1_2 (iotaInDim S1x1x16 32 2)))) (broadcastInDim S22784x2x16 ![0, 1, 2] bcast_S22784x2x1_S22784x2x16_0_1_2 (broadcastInDim S22784x2x1 ![0, 1] bcast_S22784x2_S22784x2x1_0_1 (extractStridedSlice S22784x2 ![0, 1024] x1 slices_S22784x1152_S22784x2_0_1024)))) (constant S_ .f32 0x00000000#32) reducesTo_S22784x2x16_S22784x16_d1 h_S_) (broadcastInDim S22784x16 ![] bcast_S_S22784x16 (id (constant S_ .f32 0x00000000#32)))
/-- Every expert's product at every row. -/
def products (x1 : FVec Ideal S22784x1152 .f32) (x2 x3 : FVec Ideal S2x16x1024x512 .f32) (x4 : FVec Ideal S2x16x512x1024 .f32) : FVec Ideal S16x22784x1024 .f32 :=
  Host.dotGeneral dot_S16x22784x512_S16x512x1024_S16x22784x1024_2_1_1_2_0_0 none (mulf (mulf (transpose S16x22784x512 [0, 2, 1] (Host.dotGeneral dot_S16x1024x512_S22784x1024_S16x512x22784_1_1_02_0_n_n none (shapeCast _ (extractStridedSlice S1x16x1024x512 ![0, 0, 0, 0] x2 slices_S2x16x1024x512_S1x16x1024x512_0_0_0_0) shapeCasts_S1x16x1024x512_S16x1024x512) (extractStridedSlice S22784x1024 ![0, 0] x1 slices_S22784x1152_S22784x1024_0_0)) transposes_S16x512x22784_S16x22784x512_0_2_1) (Host.divf (broadcastInDim S16x22784x512 ![] bcast_S_S16x22784x512 (constant S_ .f32 0x3F800000#32)) (addf (broadcastInDim S16x22784x512 ![] bcast_S_S16x22784x512 (constant S_ .f32 0x3F800000#32)) (Host.exp (Host.negf (transpose S16x22784x512 [0, 2, 1] (Host.dotGeneral dot_S16x1024x512_S22784x1024_S16x512x22784_1_1_02_0_n_n none (shapeCast _ (extractStridedSlice S1x16x1024x512 ![0, 0, 0, 0] x2 slices_S2x16x1024x512_S1x16x1024x512_0_0_0_0) shapeCasts_S1x16x1024x512_S16x1024x512) (extractStridedSlice S22784x1024 ![0, 0] x1 slices_S22784x1152_S22784x1024_0_0)) transposes_S16x512x22784_S16x22784x512_0_2_1)))))) (transpose S16x22784x512 [0, 2, 1] (Host.dotGeneral dot_S16x1024x512_S22784x1024_S16x512x22784_1_1_02_0_n_n none (shapeCast _ (extractStridedSlice S1x16x1024x512 ![0, 0, 0, 0] x3 slices_S2x16x1024x512_S1x16x1024x512_0_0_0_0) shapeCasts_S1x16x1024x512_S16x1024x512) (extractStridedSlice S22784x1024 ![0, 0] x1 slices_S22784x1152_S22784x1024_0_0)) transposes_S16x512x22784_S16x22784x512_0_2_1)) (shapeCast _ (extractStridedSlice S1x16x512x1024 ![0, 0, 0, 0] x4 slices_S2x16x512x1024_S1x16x512x1024_0_0_0_0) shapeCasts_S1x16x512x1024_S16x512x1024)

theorem res_eq (m : (ℓ : Loc nD τ sig) → Buf (Elt Ideal) ℓ) (c : Dev nD) :
    Value.res_main_v47 m c = Host.dotGeneral dot_S22784x16_S16x22784x1024_S22784x1024_1_0_n_2_0_1 none
      (gates (buckets (ends (m ((c.tc : Thread nD τ).loc main_arg0)))) (experts (buckets (ends (m ((c.tc : Thread nD τ).loc main_arg0))))) (m ((c.tc : Thread nD τ).loc main_arg1)))
      (products (m ((c.tc : Thread nD τ).loc main_arg1)) (m ((c.tc : Thread nD τ).loc main_arg2)) (m ((c.tc : Thread nD τ).loc main_arg3)) (m ((c.tc : Thread nD τ).loc main_arg4))) := rfl

theorem gates_at (w : IVec S22784 32) (g : IVec S22784x2 32) (x1 : FVec Ideal S22784x1152 .f32) (R : Fin 22784) (e : Fin 16) :
    gates w g x1 (ix2 R e) = Scalar.select (IntOp.cmpi CmpIPredicate.slt (w (ix1 R)) 64#32)
      ((if g (ix2 R 0) = BitVec.ofNat 32 e.val then 1 else 0) * (x1 (ix2 R ⟨1024, by omega⟩) : EReal)
        + (if g (ix2 R 1) = BitVec.ofNat 32 e.val then 1 else 0) * (x1 (ix2 R ⟨1025, by omega⟩) : EReal)) 0 := by
  pointwise [gates]
  rw [Fin.sum_univ_two, oneHot, oneHot]
  congr 1
  show Ideal.ofBits .f32 0#32 = 0
  simp

open Cert.KernelIdeal.Moe (prod expertAt) in
theorem products_at (x1 : FVec Ideal S22784x1152 .f32) (x2 x3 : FVec Ideal S2x16x1024x512 .f32) (x4 : FVec Ideal S2x16x512x1024 .f32) (e : Fin 16) (R : Fin 22784) (q : Fin 1024) :
    products x1 x2 x3 x4 (ix3 e R q) = prod (fun k => x1 (ix2 R ⟨k.val, by omega⟩)) x2 x3 x4 e q := by
  pointwise [products]
  have h : ∀ (y : FVec Ideal S2x16x1024x512 .f32) (f : Fin 512), ∑ k : Fin 1024, (y (ix4 0 e k f) : EReal) * x1 (ix2 R ⟨k.val, by omega⟩)
      = ∑ k : Fin 1024, (x1 (ix2 R ⟨k.val, by omega⟩) : EReal) * y (ix4 0 e k f) := fun y f => Finset.sum_congr rfl fun k _ => mul_comm _ _
  simp only [h]
  rfl

theorem sum_at (g : FVec Ideal S22784x16 .f32) (p : FVec Ideal S16x22784x1024 .f32) (R : Fin 22784) (q : Fin 1024) :
    Host.dotGeneral dot_S22784x16_S16x22784x1024_S22784x1024_1_0_n_2_0_1 none g p (ix2 R q) = ∑ e, (g (ix2 R e) : EReal) * p (ix3 e R q) := by
  pointwise

/-- The table of pairs holds each bucket's two experts. -/
theorem lo_eq : ∀ b : Fin 64, lit0 ⟨2 * b.val, by omega⟩ = Cert.KernelIdeal.lit0 b := by decide +kernel
theorem hi_eq : ∀ b : Fin 64, lit0 ⟨2 * b.val + 1, by omega⟩ = Cert.KernelIdeal.lit1 b := by decide +kernel
/-- The two experts of a bucket that may hold rows differ. -/
theorem lo_ne_hi : ∀ b : Fin 64, Cert.Pre_sorted_counts.lit0 b = 1#1 → (Cert.KernelIdeal.lit0 b).toNat ≠ (Cert.KernelIdeal.lit1 b).toNat := by decide +kernel

open Cert.KernelIdeal.Moe

variable (m : (ℓ : Loc Cert.KernelIdeal.nD Cert.KernelIdeal.τ Cert.KernelIdeal.sig) → Buf (Elt Ideal) ℓ) (h : Good m) (c : Dev Cert.KernelIdeal.nD)

/-- The reference's sum over all experts is the gated sum of the row's two, or nothing behind the last tile in use. -/
theorem all_at (y : IVec S64 32) (hy : ∀ b : Fin 64, y (ValueIdx.ix1 b) = BitVec.ofNat 32 (cnM m b.val)) (R : Fin 22784) (q : Fin 1024) :
    Host.dotGeneral (F := Ideal) dot_S22784x16_S16x22784x1024_S22784x1024_1_0_n_2_0_1 none
      (gates (buckets (ends y)) (experts (buckets (ends y))) (m (c, Cert.KernelIdeal.main_arg1)))
      (products (m (c, Cert.KernelIdeal.main_arg1)) (m (c, Cert.KernelIdeal.main_arg2)) (m (c, Cert.KernelIdeal.main_arg3)) (m (c, Cert.KernelIdeal.main_arg4))) (ix2 R q)
      = resAt m h c R q := by
  have hw : buckets (ends y) (ValueIdx.ix1 R) = BitVec.ofNat 32 (cb (cnM m) R.val) :=
    buckets_ap h.bnd _ (ends_ap h.bnd y hy) R
  have hb := cb_le (cn := cnM m) R.val
  have hg := experts_ap _ R hb hw
  have hn : (buckets (ends y)) (ix1 R) = BitVec.ofNat 32 (cb (cnM m) R.val) := by rw [← ix1_eq]; exact hw
  rw [sum_at]
  simp only [gates_at, products_at]
  rw [hn, show (64#32 : BitVec 32) = BitVec.ofNat 32 64 from rfl, WordCmp.cmpi_slt_ofNat (w := 32) (by omega) (by decide)]
  unfold resAt
  by_cases hu : R.val / 256 < nn (cnM m)
  · have hc := cb_used h.bnd hu
    have hk := bk_lt h.bnd (R.val / 256)
    rw [if_pos hu, hc]
    simp only [hk, decide_true]
    have h0 : experts (buckets (ends y)) (ix2 R 0) = Cert.KernelIdeal.lit0 (bkRow m h R) := by
      rw [← ix2_eq, hg 0, ← lo_eq]
      exact congrArg lit0 (Fin.ext (by show 2 * min (cb (cnM m) R.val) 63 + 0 = 2 * bk (cnM m) (R.val / 256); omega))
    have h1 : experts (buckets (ends y)) (ix2 R 1) = Cert.KernelIdeal.lit1 (bkRow m h R) := by
      rw [← ix2_eq, hg 1, ← hi_eq]
      exact congrArg lit0 (Fin.ext (by show 2 * min (cb (cnM m) R.val) 63 + 1 = 2 * bk (cnM m) (R.val / 256) + 1; omega))
    rw [h0, h1]
    simp only [hot_iff _ (lit0_lt (bkRow m h R)), hot_iff _ (lit1_lt (bkRow m h R))]
    refine pick _ _ _ (e₀ := loR m h R) (e₁ := hiR m h R) fun he => ?_
    exact lo_ne_hi (bkRow m h R) (h.real _ (cn_ne h.bnd hu)) (congrArg (fun z : Fin 16 => z.val) he)
  · have hc := cb_unused (cn := cnM m) (R := R.val) (by omega)
    rw [if_neg hu, hc]
    refine Finset.sum_eq_zero fun e _ => ?_
    exact zero_mul _

/-- The reference's result, from the kernel's arguments. -/
theorem res_at (m' : (ℓ : Loc nD τ sig) → Buf (Elt Ideal) ℓ)
    (e0 : m' ((c.tc : Thread nD τ).loc main_arg0) = m ((c.tc : Thread Cert.KernelIdeal.nD Cert.KernelIdeal.τ).loc Cert.KernelIdeal.main_arg0))
    (e1 : m' ((c.tc : Thread nD τ).loc main_arg1) = m ((c.tc : Thread Cert.KernelIdeal.nD Cert.KernelIdeal.τ).loc Cert.KernelIdeal.main_arg1))
    (e2 : m' ((c.tc : Thread nD τ).loc main_arg2) = m ((c.tc : Thread Cert.KernelIdeal.nD Cert.KernelIdeal.τ).loc Cert.KernelIdeal.main_arg2))
    (e3 : m' ((c.tc : Thread nD τ).loc main_arg3) = m ((c.tc : Thread Cert.KernelIdeal.nD Cert.KernelIdeal.τ).loc Cert.KernelIdeal.main_arg3))
    (e4 : m' ((c.tc : Thread nD τ).loc main_arg4) = m ((c.tc : Thread Cert.KernelIdeal.nD Cert.KernelIdeal.τ).loc Cert.KernelIdeal.main_arg4)) :
    Value.res_main_v47 m' c = (fun i => resAt m h c (i 0) (i 1)) := by
  rw [res_eq, e0, e1, e2, e3, e4]
  funext i
  have hi : ∃ (R : Fin 22784) (q : Fin 1024), (i : S22784x1024.Idx) = ix2 R q := ⟨(show S22784x1024.Idx from i) 0, (show S22784x1024.Idx from i) 1, eq_ix2 (show S22784x1024.Idx from i)⟩
  obtain ⟨R, q, rfl⟩ := hi
  obtain rfl : c = 0 := Subsingleton.elim c 0
  exact all_at m h 0 _ (cnM_word m) R q

end Cert.ReferenceIdeal.Moe
-- ==== Proof.LastSame.lean ====
/- The two printed programs have the same text: their bodies and their host operations are equal, so a run of one is a run of the other. -/
module

public import proofs.«01_k».proof.Proof.Gen.Kernel3
public import proofs.«01_k».proof.Proof.Gen.Kernel3.Launch
public import proofs.«01_k».proof.Proof.Gen.Kernel3Ideal
public import proofs.«01_k».proof.Proof.Gen.Kernel3Ideal.Launch

@[expose] public section

noncomputable section

namespace Cert.Proof.Last

open Idealize.ShloMosaic Idealize.SL.Sem

variable {F : FTy → Type} [FloatOps F]

set_option maxHeartbeats 400000 in
/-- The same host operations, then the same call. -/
theorem main_same (c : Dev Cert.Kernel3.nD) : Cert.Kernel3.main (F := F) c = Cert.Kernel3Ideal.main (F := F) c :=
  (Cert.Kernel3.Gen.main_chain c).trans ((rfl : _ = _).trans (Cert.Kernel3Ideal.Gen.main_chain c).symm)

/-- The same body under the one label. -/
theorem defs₀_same : Cert.Kernel3.defs₀ (F := F) = Cert.Kernel3Ideal.defs₀ (F := F) := by
  funext p l a
  match p with
  | .tc => match l, a with
    | 0, (t, s) => rfl
    | ⟨_ + 1, h⟩, _ => exact absurd h (Nat.not_lt.2 (Nat.le_add_left _ _))
  | .scScalar _ => rfl
  | .scVector _ _ => rfl

theorem defs_same : Cert.Kernel3.defs (F := F) = Cert.Kernel3Ideal.defs (F := F) :=
  congrArg (Pipeline.defs (Cert.Kernel3.pcfgs (F := F))) (defs₀_same (F := F))

end Cert.Proof.Last
-- ==== Proof.LastRefWords.lean ====
/- The reference's words: the bucket of every row, and the row's two experts. -/
module

public import proofs.«01_k».proof.Proof.Gen.Reference3Ideal.Run
public import proofs.«01_k».proof.Proof.Plan
public import Idealize.ShloMosaic.Lib.Routing.OpsSearch
public import Idealize.ShloMosaic.Lib.Routing.Words
public import Idealize.ShloMosaic.Lib.PlanTiles.Rows

@[expose] public section

set_option maxRecDepth 16384

noncomputable section

namespace Cert.Reference3Ideal.Moe

open Cert.Moe
open Cert.Reference3Ideal Cert.Reference3Ideal.Gen
open Idealize.ShloMosaic.ValueIdx
open Idealize.ShloMosaic
open Idealize.ShloMosaic.StableHlo Idealize.ShloMosaic.WordCmp
open Idealize.ShloMosaic.Routing

/-- The row behind each bucket's last. -/
def ends (x0 : IVec S64 32) : IVec S64 32 :=
  Host.reduceWindow IntOp.addi ![64] ![1] ![63] ![0] (muli (pyDiv bcast_S_S64 (addi x0 (broadcastInDim S64 ![] bcast_S_S64 (constantI S_ 32 255#32))) (constantI S_ 32 256#32)) (broadcastInDim S64 ![] bcast_S_S64 (constantI S_ 32 256#32))) (broadcastInDim S_ ![] bcast_S_S_ (constantI S_ 32 0#32)) reduceWindows_S64_S64_w64s1p63_0 h_S_
/-- The bucket of each row: how many buckets end at or before it. -/
def buckets (y : IVec S64 32) : IVec S22528 32 :=
  Host.reduce IntOp.addi (extui 32 (cmpi .sle (broadcastInDim S22528x64 ![0, 1] bcast_S1x64_S22528x64_0_1 (broadcastInDim S1x64 ![1] bcast_S64_S1x64_1 y)) (broadcastInDim S22528x64 ![0, 1] bcast_S22528x1_S22528x64_0_1 (broadcastInDim S22528x1 ![0] bcast_S22528_S22528x1_0 (iotaInDim S22528 32 0)))) natLt_1_32) (constantI S_ 32 0#32) reducesTo_S22528x64_S22528_d1 h_S_
/-- The two experts of each row's bucket. -/
def experts (w : IVec S22528 32) : IVec S22528x2 32 :=
  Host.gather gather_S64x2_S22528x1_S22528x2_1_0_n_n_0_1_12 ((fun i => lit0 (S64x2.rowMajor i))) (broadcastInDim S22528x1 ![0] bcast_S22528_S22528x1_0 (select (cmpi .slt (minsi w (broadcastInDim S22528 ![] bcast_S_S22528 (constantI S_ 32 63#32))) (broadcastInDim S22528 ![] bcast_S_S22528 (constantI S_ 32 0#32))) (addi (minsi w (broadcastInDim S22528 ![] bcast_S_S22528 (constantI S_ 32 63#32))) (broadcastInDim S22528 ![] bcast_S_S22528 (constantI S_ 32 64#32))) (minsi w (broadcastInDim S22528 ![] bcast_S_S22528 (constantI S_ 32 63#32)))))

variable {cn : ℕ → ℕ} (H : Bnd 88 cn)

include H in
theorem ends_ap (x0 : IVec S64 32) (hc : ∀ b : Fin 64, x0 (ix1 b) = BitVec.ofNat 32 (cn b.val)) (b : Fin 64) :
    ends x0 (ix1 b) = BitVec.ofNat 32 (256 * en cn b.val) := by
  unfold ends
  refine (cumsum1 (by rfl) _ (fun b => tl cn b * 256) (fun b => ?_) _ (by rw [bc0]; rfl) _ _ b).trans ?_
  · have hs := H.small b.val
    have e := pyDiv_ap bcast_S_S64 (addi x0 (broadcastInDim S64 ![] bcast_S_S64 (constantI S_ 32 255#32))) (constantI S_ 32 256#32) (ix1 b) (a := cn b.val + 255) (b := 256)
      (by rw [addi_ap, bc0, constantI_at, hc, show (255#32 : BitVec 32) = BitVec.ofNat 32 255 from rfl, BitVec.ofNat_add_ofNat]) rfl (by omega) (by decide) (by decide)
    rw [show ∀ y z : IVec S64 32, muli y z (ix1 b) = y (ix1 b) * z (ix1 b) from fun _ _ => rfl, bc0, constantI_at]
    refine (congrArg (· * 256#32) e).trans ?_
    rw [show (256#32 : BitVec 32) = BitVec.ofNat 32 256 from rfl, BitVec.ofNat_mul_ofNat]
    rfl
  · rw [sum_mul]; rfl

include H in
theorem buckets_ap (y : IVec S64 32) (hy : ∀ b : Fin 64, y (ix1 b) = BitVec.ofNat 32 (256 * en cn b.val)) (R : Fin 22528) :
    buckets y (ix1 R) = BitVec.ofNat 32 (cb cn R.val) := by
  refine reduce_count (by decide) _ _ _ _ R (fun b => 256 * en cn b ≤ R.val) (fun q => ?_)
  have hq := Cert.Moe.en_le H q.isLt
  have hR := R.isLt
  rw [cmpi_at, bcCols, bcRows, hy]
  rw [show iotaInDim S22528 32 0 (ix1 R) = BitVec.ofNat 32 R.val from rfl]
  rw [cmpi_sle_ofNat (w := 32) (by omega) (by omega), ofBool_decide_eq_one_iff]

theorem experts_ap (w : IVec S22528 32) (R : Fin 22528) {b : ℕ} (hb : b ≤ 64) (hw : w (ix1 R) = BitVec.ofNat 32 b) (k : Fin 2) :
    experts w (ix2 R k) = lit0 ⟨2 * min b 63 + k.val, by omega⟩ := by
  unfold experts
  refine (gather_row _ rfl rfl rfl rfl rfl _ _ R k ⟨min b 63, by omega⟩ ?_ (by decide)).trans ?_
  · have hm : minsi w (broadcastInDim S22528 ![] bcast_S_S22528 (constantI S_ 32 63#32)) (ix1 R) = BitVec.ofNat 32 (min b 63) := by
      rw [show ∀ y z : IVec S22528 32, minsi y z (ix1 R) = IntOp.minsi (y (ix1 R)) (z (ix1 R)) from fun _ _ => rfl, bc0, constantI_at, hw,
        show (63#32 : BitVec 32) = BitVec.ofNat 32 63 from rfl, PlanTiles.minsi_word (by omega) (by omega), Nat.min_comm]
    rw [bcCol, select_at, cmpi_at, bc0, constantI_at]
    erw [hm]
    rw [show (0#32 : BitVec 32) = BitVec.ofNat 32 0 from rfl, cmpi_slt_ofNat (w := 32) (by omega) (by decide)]
    simp only [Nat.not_lt_zero, decide_false]
    rfl
  · exact congrArg lit0 (Fin.ext (by rw [Shape.rowMajor_val_two]; show min b 63 * 2 + k.val = _; simp only []; omega))

end Cert.Reference3Ideal.Moe
-- ==== Proof.LastLane.lean ====
/- One lane of the weight buffers: a slot's block of one weight buffer, the slab of the weights it is
   filled from, and the semaphore of the copy between them. A lane is free (its block at any contents),
   in flight (a copy of one expert's slab is under way) or full (its block reads as that slab). -/
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Transfers
public import Idealize.ShloMosaic.Lib.Tactic

@[expose] public section

set_option maxRecDepth 16384

noncomputable section

namespace Cert.Kernel3Ideal.Moe

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
abbrev EC : UEmb Counters 𝕄 := countersEmb (U := Pipeline.UD sig nD τ)

/-! ## One lane, of any two views of one shape -/

section Lane

variable (c : Dev nD) {s : Shape} {e : EltTy} {sp sp' : Space}

/-- The block at any contents. -/
def blockAny (dst : Memref sig .tc sp' s e) : sProp 𝕄 :=
  iprop(∃ f, dst.view.loc (c : Thread nD τ) ↦[dst.view.set]{fullShare} f)

/-- The block reading as `w`. -/
def blockIs (dst : Memref sig .tc sp' s e) (w : s.Idx → Elt F e) : sProp 𝕄 :=
  iprop(∃ f, (dst.view.loc (c : Thread nD τ) ↦[dst.view.set]{fullShare} f) ∗ ⌜dst.view.read (Elt F) f = w⌝)

/-- A copy of the slab `src` into the block is under way, and the share of the weights it reads. -/
def flying (dst : Memref sig .tc sp' s e) (src : Memref sig .tc sp s e) (q : PosShare TreeShare)
    (V : Buf (Elt F) (src.view.loc (c : Thread nD τ))) (sm : DmaSem sig) : sProp 𝕄 :=
  iprop(Transfers.Flight EC (c : Thread nD τ) (.dma sm) () dst.view.dmaCredit
      iprop(blockIs c dst (src.view.read (Elt F) V) ∗ (src.view.loc (c : Thread nD τ) ↦[src.view.set]{q} V))
    ∗ (src.view.loc (c : Thread nD τ) ↦[Finset.univ \ src.view.set]{q} V))

theorem blockIs_any (dst : Memref sig .tc sp' s e) (w : s.Idx → Elt F e) :
    (blockIs (F := F) c dst w) ⊢ blockAny c dst := by
  unfold blockIs blockAny
  iintro ⟨%f, H, -⟩
  iexists f; iexact H

variable {Q : PUnit → sProp 𝕄}

/-- Starting a copy into a free lane. -/
theorem lane_start (dst : Memref sig .tc sp' s e) (src : Memref sig .tc sp s e) (q : PosShare TreeShare)
    (V : Buf (Elt F) (src.view.loc (c : Thread nD τ))) (sm : DmaSem sig) (hpos : 0 < dst.view.dmaCredit)
    {hsrc : src.view.WordExact} {hdst : dst.view.WordExact} {hsem : DmaTarget.Typed (nD := nD) (τ := τ) (p := .tc) sp (.dma sm) (.here dst)}
    {α : Type} {k : PUnit → Prog (TpuEff nD τ sig (Elt F) Λ₀ .tc) α} {Q : α → sProp 𝕄} :
    iprop(blockAny c dst ∗ (src.view.loc (c : Thread nD τ) ↦{q} V) ∗ semVal ((c : Thread nD τ), .dma sm) 0)
      ⊢ iprop((flying c dst src q V sm -∗ wp frame (wpE (defs₀ (F := F)) Variants.none c none) Set.univ (k ⟨⟩) Q)
          -∗ wp frame (wpE (defs₀ (F := F)) Variants.none c none) Set.univ
              (.op (.enqueueDmaAs src (.here dst) .same (.dma sm) hsrc hdst hsem) k) Q) := by
  unfold blockAny
  iintro ⟨⟨%f, Hd⟩, Hs, Hv⟩ Hk
  ihave Hs' := (pointsTo_split_subset (Finset.subset_univ src.view.set)).1 $$ Hs
  icases Hs' with ⟨Hs, Hrest⟩
  iapply (Transfers.wp_dmaLocal EC Variants.none (c : Thread nD τ) none () dst.view.dmaCredit rfl hpos subset_rfl) $$ [Hs Hd Hv]
  · isplitl [Hs]; · iexact Hs
    isplitl [Hd] <;> iassumption
  iintro Hf
  iapply Hk
  unfold flying
  isplitl [Hf]
  · iapply (Transfers.Flight_mono EC (c : Thread nD τ) ?mono) $$ Hf
    case mono =>
      unfold blockIs
      iintro ⟨Hd, Hs⟩
      isplitl [Hd]
      · iexists _; isplitl [Hd]; · iexact Hd
        ipureintro
        funext x
        exact View.read_write_of_mem (v := dst.view) _ _ (Finset.mem_univ x)
      iexact Hs
  iexact Hrest

/-- Waiting for the copy: the lane is full. -/
theorem lane_wait (dst : Memref sig .tc sp' s e) (src : Memref sig .tc sp s e) (q : PosShare TreeShare)
    (V : Buf (Elt F) (src.view.loc (c : Thread nD τ))) (sm : DmaSem sig) {s' : Shape} {e' : EltTy} {sp₀ : Space}
    {srcw : Memref sig (c : Thread nD τ).2.kind sp₀ s' e'} {hsrc : srcw.view.WordExact} {hdst : dst.view.WordExact}
    {α : Type} {k : PUnit → Prog (TpuEff nD τ sig (Elt F) Λ₀ .tc) α} {Q : α → sProp 𝕄} {W : Waits sig Unit} :
    iprop(flying c dst src q V sm ∗ owes (c : Thread nD τ) 0 W)
      ⊢ iprop((iprop(blockIs c dst (src.view.read (Elt F) V) ∗ (src.view.loc (c : Thread nD τ) ↦{q} V)
              ∗ semVal ((c : Thread nD τ), .dma sm) 0 ∗ ∃ W', owes (c : Thread nD τ) 0 W')
            -∗ wp frame (wpE (defs₀ (F := F)) Variants.none c none) Set.univ (k ⟨⟩) Q)
          -∗ wp frame (wpE (defs₀ (F := F)) Variants.none c none) Set.univ
              (.op (.waitDma2 sm srcw dst hsrc hdst) k) Q) := by
  unfold flying
  iintro ⟨⟨Hf, Hrest⟩, HW⟩ Hk
  iapply (Transfers.wp_waitLocal EC Variants.none (c : Thread nD τ) none () rfl) $$ [Hf HW]
  · isplitl [Hf] <;> iassumption
  iintro ⟨⟨Hd, Hs⟩, Hv, HW⟩
  iapply Hk
  isplitl [Hd]; · iexact Hd
  isplitl [Hs Hrest]
  · iapply (pointsTo_split_subset (Finset.subset_univ src.view.set)).2
    isplitl [Hs]; · iexact Hs
    iexact Hrest
  isplitl [Hv]; · iexact Hv
  iexists _; iexact HW

end Lane

/-! ## The kernel's own buffers -/

/-- The weight buffers of the two slots: the gate and up projections and the down projection. -/
abbrev wb1 : Memref sig .tc .vmem S2x2x1024x512 .f32 := Memref.whole cc0_scratch0
abbrev wb3 : Memref sig .tc .vmem S2x2x1024x512 .f32 := Memref.whole cc0_scratch1
abbrev wb2 : Memref sig .tc .vmem S2x2x512x1024 .f32 := Memref.whole cc0_scratch2
/-- The experts' weights, both layers' experts along the leading axis. -/
abbrev hw1 : Memref sig .tc .hbm S32x1024x512 .f32 := Memref.whole main_v0
abbrev hw3 : Memref sig .tc .hbm S32x1024x512 .f32 := Memref.whole main_v1
abbrev hw2 : Memref sig .tc .hbm S32x512x1024 .f32 := Memref.whole main_v2

/-- Expert `k` of slot `s`: its block of a weight buffer. -/
abbrev offD (s k : Fin 2) : Fin 4 → ℕ := ![s.val, k.val, 0, 0]
/-- The weights of expert `e`. -/
abbrev offS (e : Fin 32) : Fin 3 → ℕ := ![e.val, 0, 0]
/-- The semaphore of copy `j` for expert `k` of slot `s`. -/
abbrev offC (s k : Fin 2) (j : Fin 3) : Fin 2 → ℕ := ![s.val, 3 * k.val + j.val]

abbrev dA (M : Memref sig .tc .vmem S2x2x1024x512 .f32) (o : Fin 4 → ℕ) (h : ∀ a, o a + S1x1x1024x512.size a ≤ S2x2x1024x512.size a) :
    Memref sig .tc .vmem S1024x512 .f32 :=
  (M.slice (Rect.unit (s := S2x2x1024x512) o S1x1x1024x512.size h) (fun _ => rfl)).squeeze S1024x512 squeezes_S1x1x1024x512_S1024x512
abbrev dB (M : Memref sig .tc .vmem S2x2x512x1024 .f32) (o : Fin 4 → ℕ) (h : ∀ a, o a + S1x1x512x1024.size a ≤ S2x2x512x1024.size a) :
    Memref sig .tc .vmem S512x1024 .f32 :=
  (M.slice (Rect.unit (s := S2x2x512x1024) o S1x1x512x1024.size h) (fun _ => rfl)).squeeze S512x1024 squeezes_S1x1x512x1024_S512x1024
abbrev sA (M : Memref sig .tc .hbm S32x1024x512 .f32) (o : Fin 3 → ℕ) (h : ∀ a, o a + S1x1024x512.size a ≤ S32x1024x512.size a) :
    Memref sig .tc .hbm S1024x512 .f32 :=
  (M.slice (Rect.unit (s := S32x1024x512) o S1x1024x512.size h) (fun _ => rfl)).squeeze S1024x512 squeezes_S1x1024x512_S1024x512
abbrev sB (M : Memref sig .tc .hbm S32x512x1024 .f32) (o : Fin 3 → ℕ) (h : ∀ a, o a + S1x512x1024.size a ≤ S32x512x1024.size a) :
    Memref sig .tc .hbm S512x1024 .f32 :=
  (M.slice (Rect.unit (s := S32x512x1024) o S1x512x1024.size h) (fun _ => rfl)).squeeze S512x1024 squeezes_S1x512x1024_S512x1024
abbrev cellAt (o : Fin 2 → ℕ) (h : ∀ a, o a + S1x1.size a ≤ S2x6.size a) : DmaSem sig :=
  SemArray.sem (SemArray.squeeze (SemArray.slice cc0_scratch3 (Rect.unit (s := S2x6) o S1x1.size h)) S_ squeezes_S1x1_S_)

theorem inbDA (s k : Fin 2) : ∀ a, offD s k a + S1x1x1024x512.size a ≤ S2x2x1024x512.size a := by
  revert s k; decide
theorem inbDB (s k : Fin 2) : ∀ a, offD s k a + S1x1x512x1024.size a ≤ S2x2x512x1024.size a := by
  revert s k; decide
theorem inbSA (e : Fin 32) : ∀ a, offS e a + S1x1024x512.size a ≤ S32x1024x512.size a := by
  revert e; decide
theorem inbSB (e : Fin 32) : ∀ a, offS e a + S1x512x1024.size a ≤ S32x512x1024.size a := by
  revert e; decide
theorem inbC (s k : Fin 2) (j : Fin 3) : ∀ a, offC s k j a + S1x1.size a ≤ S2x6.size a := by
  revert s k j; decide

/-- The share of the weights that the copies for expert `k` of slot `s` read by: a quarter. -/
def qr : Fin 2 → Fin 2 → PosShare TreeShare
  | 0, 0 => fullShare.left.left
  | 0, 1 => fullShare.left.right
  | 1, 0 => fullShare.right.left
  | 1, 1 => fullShare.right.right

section Slots

variable (c : Dev nD) (V : (b : Ref sig .tc) → Buf (Elt F) ((c : Thread nD τ).loc b))

/-- A lane of each kind, free, in flight and full. -/
def freeA (M : Memref sig .tc .vmem S2x2x1024x512 .f32) (hb : Memref sig .tc .hbm S32x1024x512 .f32) (v : Buf (Elt F) (hb.view.loc (c : Thread nD τ)))
    (j : Fin 3) (s k : Fin 2) : sProp 𝕄 :=
  iprop(blockAny c (dA M (offD s k) (inbDA s k)) ∗ (hb.view.loc (c : Thread nD τ) ↦{qr s k} v)
    ∗ semVal ((c : Thread nD τ), .dma (cellAt (offC s k j) (inbC s k j))) 0)
def freeB (M : Memref sig .tc .vmem S2x2x512x1024 .f32) (hb : Memref sig .tc .hbm S32x512x1024 .f32) (v : Buf (Elt F) (hb.view.loc (c : Thread nD τ)))
    (j : Fin 3) (s k : Fin 2) : sProp 𝕄 :=
  iprop(blockAny c (dB M (offD s k) (inbDB s k)) ∗ (hb.view.loc (c : Thread nD τ) ↦{qr s k} v)
    ∗ semVal ((c : Thread nD τ), .dma (cellAt (offC s k j) (inbC s k j))) 0)
def flyA (M : Memref sig .tc .vmem S2x2x1024x512 .f32) (hb : Memref sig .tc .hbm S32x1024x512 .f32) (v : Buf (Elt F) (hb.view.loc (c : Thread nD τ)))
    (j : Fin 3) (s k : Fin 2) (e : Fin 32) : sProp 𝕄 :=
  flying c (dA M (offD s k) (inbDA s k)) (sA hb (offS e) (inbSA e)) (qr s k) v (cellAt (offC s k j) (inbC s k j))
def flyB (M : Memref sig .tc .vmem S2x2x512x1024 .f32) (hb : Memref sig .tc .hbm S32x512x1024 .f32) (v : Buf (Elt F) (hb.view.loc (c : Thread nD τ)))
    (j : Fin 3) (s k : Fin 2) (e : Fin 32) : sProp 𝕄 :=
  flying c (dB M (offD s k) (inbDB s k)) (sB hb (offS e) (inbSB e)) (qr s k) v (cellAt (offC s k j) (inbC s k j))
def fullA (M : Memref sig .tc .vmem S2x2x1024x512 .f32) (hb : Memref sig .tc .hbm S32x1024x512 .f32) (v : Buf (Elt F) (hb.view.loc (c : Thread nD τ)))
    (j : Fin 3) (s k : Fin 2) (e : Fin 32) : sProp 𝕄 :=
  iprop(blockIs c (dA M (offD s k) (inbDA s k)) ((sA hb (offS e) (inbSA e)).view.read (Elt F) v) ∗ (hb.view.loc (c : Thread nD τ) ↦{qr s k} v)
    ∗ semVal ((c : Thread nD τ), .dma (cellAt (offC s k j) (inbC s k j))) 0)
def fullB (M : Memref sig .tc .vmem S2x2x512x1024 .f32) (hb : Memref sig .tc .hbm S32x512x1024 .f32) (v : Buf (Elt F) (hb.view.loc (c : Thread nD τ)))
    (j : Fin 3) (s k : Fin 2) (e : Fin 32) : sProp 𝕄 :=
  iprop(blockIs c (dB M (offD s k) (inbDB s k)) ((sB hb (offS e) (inbSB e)).view.read (Elt F) v) ∗ (hb.view.loc (c : Thread nD τ) ↦{qr s k} v)
    ∗ semVal ((c : Thread nD τ), .dma (cellAt (offC s k j) (inbC s k j))) 0)

theorem fullA_free (M : Memref sig .tc .vmem S2x2x1024x512 .f32) (hb : Memref sig .tc .hbm S32x1024x512 .f32) (v : Buf (Elt F) (hb.view.loc (c : Thread nD τ)))
    (j : Fin 3) (s k : Fin 2) (e : Fin 32) : fullA c M hb v j s k e ⊢ freeA c M hb v j s k := by
  unfold fullA freeA
  iintro ⟨H, Hr⟩
  isplitl [H]; · iapply (blockIs_any c _ _) $$ H
  iexact Hr
theorem fullB_free (M : Memref sig .tc .vmem S2x2x512x1024 .f32) (hb : Memref sig .tc .hbm S32x512x1024 .f32) (v : Buf (Elt F) (hb.view.loc (c : Thread nD τ)))
    (j : Fin 3) (s k : Fin 2) (e : Fin 32) : fullB c M hb v j s k e ⊢ freeB c M hb v j s k := by
  unfold fullB freeB
  iintro ⟨H, Hr⟩
  isplitl [H]; · iapply (blockIs_any c _ _) $$ H
  iexact Hr

/-- The three lanes of expert `k` of slot `s`. -/
def kFree (s k : Fin 2) : sProp 𝕄 :=
  iprop(freeA c wb1 hw1 (V main_v0) 0 s k ∗ freeA c wb3 hw3 (V main_v1) 1 s k ∗ freeB c wb2 hw2 (V main_v2) 2 s k)
def kFly (s k : Fin 2) (e : Fin 32) : sProp 𝕄 :=
  iprop(flyA c wb1 hw1 (V main_v0) 0 s k e ∗ flyA c wb3 hw3 (V main_v1) 1 s k e ∗ flyB c wb2 hw2 (V main_v2) 2 s k e)
def kFull (s k : Fin 2) (e : Fin 32) : sProp 𝕄 :=
  iprop(fullA c wb1 hw1 (V main_v0) 0 s k e ∗ fullA c wb3 hw3 (V main_v1) 1 s k e ∗ fullB c wb2 hw2 (V main_v2) 2 s k e)

/-- A slot's six lanes: free, in flight or full, of the experts `e₀` and `e₁`. -/
def sFree (s : Fin 2) : sProp 𝕄 := iprop(kFree c V s 0 ∗ kFree c V s 1)
def sFly (s : Fin 2) (e₀ e₁ : Fin 32) : sProp 𝕄 := iprop(kFly c V s 0 e₀ ∗ kFly c V s 1 e₁)
def sFull (s : Fin 2) (e₀ e₁ : Fin 32) : sProp 𝕄 := iprop(kFull c V s 0 e₀ ∗ kFull c V s 1 e₁)

theorem kFull_free (s k : Fin 2) (e : Fin 32) : kFull c V s k e ⊢ kFree c V s k := by
  unfold kFull kFree
  iintro ⟨H1, H3, H2⟩
  isplitl [H1]; · iapply (fullA_free c _ _ _ _ _ _ _) $$ H1
  isplitl [H3]; · iapply (fullA_free c _ _ _ _ _ _ _) $$ H3
  iapply (fullB_free c _ _ _ _ _ _ _) $$ H2

theorem sFull_free (s : Fin 2) (e₀ e₁ : Fin 32) : sFull c V s e₀ e₁ ⊢ sFree c V s := by
  unfold sFull sFree
  iintro ⟨H0, H1⟩
  isplitl [H0]; · iapply (kFull_free c V _ _ _) $$ H0
  iapply (kFull_free c V _ _ _) $$ H1

/-! ## The copies as the program states them: at offsets equal to a lane's -/

theorem posA : 0 < S1024x512.numel := by decide
theorem posB : 0 < S512x1024.numel := by decide

theorem startA {α : Type} {k' : PUnit → Prog (TpuEff nD τ sig (Elt F) Λ₀ .tc) α} {Q : α → sProp 𝕄} (M : Memref sig .tc .vmem S2x2x1024x512 .f32) (hb : Memref sig .tc .hbm S32x1024x512 .f32) (v : Buf (Elt F) (hb.view.loc (c : Thread nD τ)))
    (j : Fin 3) (s k : Fin 2) (e : Fin 32) {o : Fin 4 → ℕ} {ho : ∀ a, o a + S1x1x1024x512.size a ≤ S2x2x1024x512.size a} {os : Fin 3 → ℕ} {hos : ∀ a, os a + S1x1024x512.size a ≤ S32x1024x512.size a} {oc : Fin 2 → ℕ} {hoc : ∀ a, oc a + S1x1.size a ≤ S2x6.size a} {hsrc : (sA hb os hos).view.WordExact} {hdst : (dA M o ho).view.WordExact}
    {hsem : DmaTarget.Typed (nD := nD) (τ := τ) (p := .tc) .hbm (.dma (cellAt oc hoc)) (.here (dA M o ho))}
    (h1 : o = offD s k) (h2 : os = offS e) (h3 : oc = offC s k j) :
    freeA c M hb v j s k
      ⊢ iprop((flyA c M hb v j s k e -∗ wp frame (wpE (defs₀ (F := F)) Variants.none c none) Set.univ (k' ⟨⟩) Q)
          -∗ wp frame (wpE (defs₀ (F := F)) Variants.none c none) Set.univ
              (.op (.enqueueDmaAs (sA hb os hos) (.here (dA M o ho)) .same (.dma (cellAt oc hoc)) hsrc hdst hsem) k') Q) := by
  subst h1 h2 h3
  unfold freeA flyA
  exact lane_start c (dA M (offD s k) ho) (sA hb (offS e) hos) (qr s k) v (cellAt (offC s k j) hoc) (View.amount_pos _ (.dma (cellAt (offC s k j) hoc)) posA)

theorem startB {α : Type} {k' : PUnit → Prog (TpuEff nD τ sig (Elt F) Λ₀ .tc) α} {Q : α → sProp 𝕄} (M : Memref sig .tc .vmem S2x2x512x1024 .f32) (hb : Memref sig .tc .hbm S32x512x1024 .f32) (v : Buf (Elt F) (hb.view.loc (c : Thread nD τ)))
    (j : Fin 3) (s k : Fin 2) (e : Fin 32) {o : Fin 4 → ℕ} {ho : ∀ a, o a + S1x1x512x1024.size a ≤ S2x2x512x1024.size a} {os : Fin 3 → ℕ} {hos : ∀ a, os a + S1x512x1024.size a ≤ S32x512x1024.size a} {oc : Fin 2 → ℕ} {hoc : ∀ a, oc a + S1x1.size a ≤ S2x6.size a} {hsrc : (sB hb os hos).view.WordExact} {hdst : (dB M o ho).view.WordExact}
    {hsem : DmaTarget.Typed (nD := nD) (τ := τ) (p := .tc) .hbm (.dma (cellAt oc hoc)) (.here (dB M o ho))}
    (h1 : o = offD s k) (h2 : os = offS e) (h3 : oc = offC s k j) :
    freeB c M hb v j s k
      ⊢ iprop((flyB c M hb v j s k e -∗ wp frame (wpE (defs₀ (F := F)) Variants.none c none) Set.univ (k' ⟨⟩) Q)
          -∗ wp frame (wpE (defs₀ (F := F)) Variants.none c none) Set.univ
              (.op (.enqueueDmaAs (sB hb os hos) (.here (dB M o ho)) .same (.dma (cellAt oc hoc)) hsrc hdst hsem) k') Q) := by
  subst h1 h2 h3
  unfold freeB flyB
  exact lane_start c (dB M (offD s k) ho) (sB hb (offS e) hos) (qr s k) v (cellAt (offC s k j) hoc) (View.amount_pos _ (.dma (cellAt (offC s k j) hoc)) posB)

theorem waitA {α : Type} {k' : PUnit → Prog (TpuEff nD τ sig (Elt F) Λ₀ .tc) α} {Q : α → sProp 𝕄} (M : Memref sig .tc .vmem S2x2x1024x512 .f32) (hb : Memref sig .tc .hbm S32x1024x512 .f32) (v : Buf (Elt F) (hb.view.loc (c : Thread nD τ)))
    (j : Fin 3) (s k : Fin 2) (e : Fin 32) {o : Fin 4 → ℕ} {ho : ∀ a, o a + S1x1x1024x512.size a ≤ S2x2x1024x512.size a} {oc : Fin 2 → ℕ} {hoc : ∀ a, oc a + S1x1.size a ≤ S2x6.size a} {s' : Shape} {e' : EltTy} {sp₀ : Space}
    {srcw : Memref sig .tc sp₀ s' e'} {hsrc : srcw.view.WordExact} {hdst : (dA M o ho).view.WordExact}
    (h1 : o = offD s k) (h3 : oc = offC s k j) :
    iprop(flyA c M hb v j s k e ∗ ∃ W, owes (c : Thread nD τ) 0 W)
      ⊢ iprop((iprop(fullA c M hb v j s k e ∗ ∃ W, owes (c : Thread nD τ) 0 W) -∗ wp frame (wpE (defs₀ (F := F)) Variants.none c none) Set.univ (k' ⟨⟩) Q)
          -∗ wp frame (wpE (defs₀ (F := F)) Variants.none c none) Set.univ
              (.op (.waitDma2 (cellAt oc hoc) srcw (dA M o ho) hsrc hdst) k') Q) := by
  subst h1 h3
  unfold flyA fullA
  iintro ⟨Hf, ⟨%W, HW⟩⟩ Hk
  iapply (lane_wait c (dA M (offD s k) ho) (sA hb (offS e) (inbSA e)) (qr s k) v (cellAt (offC s k j) hoc)) $$ [Hf HW]
  · isplitl [Hf]; · iexact Hf
    iexact HW
  iintro ⟨H1, H2, H3, H4⟩
  iapply Hk
  isplitl [H1 H2 H3]
  · isplitl [H1]; · iexact H1
    isplitl [H2]; · iexact H2
    iexact H3
  iexact H4

theorem waitB {α : Type} {k' : PUnit → Prog (TpuEff nD τ sig (Elt F) Λ₀ .tc) α} {Q : α → sProp 𝕄} (M : Memref sig .tc .vmem S2x2x512x1024 .f32) (hb : Memref sig .tc .hbm S32x512x1024 .f32) (v : Buf (Elt F) (hb.view.loc (c : Thread nD τ)))
    (j : Fin 3) (s k : Fin 2) (e : Fin 32) {o : Fin 4 → ℕ} {ho : ∀ a, o a + S1x1x512x1024.size a ≤ S2x2x512x1024.size a} {oc : Fin 2 → ℕ} {hoc : ∀ a, oc a + S1x1.size a ≤ S2x6.size a} {s' : Shape} {e' : EltTy} {sp₀ : Space}
    {srcw : Memref sig .tc sp₀ s' e'} {hsrc : srcw.view.WordExact} {hdst : (dB M o ho).view.WordExact}
    (h1 : o = offD s k) (h3 : oc = offC s k j) :
    iprop(flyB c M hb v j s k e ∗ ∃ W, owes (c : Thread nD τ) 0 W)
      ⊢ iprop((iprop(fullB c M hb v j s k e ∗ ∃ W, owes (c : Thread nD τ) 0 W) -∗ wp frame (wpE (defs₀ (F := F)) Variants.none c none) Set.univ (k' ⟨⟩) Q)
          -∗ wp frame (wpE (defs₀ (F := F)) Variants.none c none) Set.univ
              (.op (.waitDma2 (cellAt oc hoc) srcw (dB M o ho) hsrc hdst) k') Q) := by
  subst h1 h3
  unfold flyB fullB
  iintro ⟨Hf, ⟨%W, HW⟩⟩ Hk
  iapply (lane_wait c (dB M (offD s k) ho) (sB hb (offS e) (inbSB e)) (qr s k) v (cellAt (offC s k j) hoc)) $$ [Hf HW]
  · isplitl [Hf]; · iexact Hf
    iexact HW
  iintro ⟨H1, H2, H3, H4⟩
  iapply Hk
  isplitl [H1 H2 H3]
  · isplitl [H1]; · iexact H1
    isplitl [H2]; · iexact H2
    iexact H3
  iexact H4

/-! ## Reading a full lane's block -/

/-- What a load of a block brings: the expert's slab, at the block's shape. -/
def slabA (hb : Memref sig .tc .hbm S32x1024x512 .f32) (v : Buf (Elt F) (hb.view.loc (c : Thread nD τ))) (e : Fin 32) : Vec F S1x1x1024x512 .f32 :=
  fun x => (sA hb (offS e) (inbSA e)).view.read (Elt F) v ((Shape.reshapeEquiv squeezes_S1x1x1024x512_S1024x512.numel_eq).symm x)
def slabB (hb : Memref sig .tc .hbm S32x512x1024 .f32) (v : Buf (Elt F) (hb.view.loc (c : Thread nD τ))) (e : Fin 32) : Vec F S1x1x512x1024 .f32 :=
  fun x => (sB hb (offS e) (inbSB e)).view.read (Elt F) v ((Shape.reshapeEquiv squeezes_S1x1x512x1024_S512x1024.numel_eq).symm x)

theorem loadA {α : Type} {Q : α → sProp 𝕄} (M : Memref sig .tc .vmem S2x2x1024x512 .f32) (hb : Memref sig .tc .hbm S32x1024x512 .f32) (v : Buf (Elt F) (hb.view.loc (c : Thread nD τ)))
    (j : Fin 3) (s k : Fin 2) (e : Fin 32) {o : Fin 4 → ℕ} {ho : ∀ a, o a + S1x1x1024x512.size a ≤ S2x2x1024x512.size a} {hl}
    {k' : (S1x1x1024x512.Idx → Elt F .f32) → Prog (TpuEff nD τ sig (Elt F) Λ₀ .tc) α}
    (h1 : o = offD s k) :
    fullA c M hb v j s k e
      ⊢ iprop((fullA c M hb v j s k e -∗ wp frame (wpE (defs₀ (F := F)) Variants.none c none) Set.univ (k' (slabA c hb v e)) Q)
          -∗ wp frame (wpE (defs₀ (F := F)) Variants.none c none) Set.univ
              (.op (.load M (Rect.unit (s := S2x2x1024x512) o S1x1x1024x512.size ho).toLoadRect hl) k') Q) := by
  subst h1
  unfold fullA blockIs
  iintro ⟨⟨%f, Hd, %hf⟩, Hr⟩ Hk
  iapply (wp_load_rect Variants.none (c : Thread nD τ) none Set.univ
    (m := M) (r := Rect.unit (s := S2x2x1024x512) (offD s k) S1x1x1024x512.size ho) (S := (dA M (offD s k) ho).view.set)
    (View.set_reshape (M.access (Rect.unit (s := S2x2x1024x512) (offD s k) S1x1x1024x512.size ho)) squeezes_S1x1x1024x512_S1024x512.numel_eq).ge) $$ [Hd]
  · iexact Hd
  iintro Hd
  rw [show (M.access (Rect.unit (s := S2x2x1024x512) (offD s k) S1x1x1024x512.size ho)).read (Elt F) f = slabA c hb v e from by
    funext x
    unfold slabA
    rw [← hf, View.read_apply, View.read_apply]
    show _ = cast _ (f (M.view.emb ((Rect.unit (s := S2x2x1024x512) (offD s k) S1x1x1024x512.size ho).emb (Shape.reshapeEquiv squeezes_S1x1x1024x512_S1024x512.numel_eq ((Shape.reshapeEquiv squeezes_S1x1x1024x512_S1024x512.numel_eq).symm x)))))
    rw [Equiv.apply_symm_apply]
    rfl]
  iapply Hk
  isplitl [Hd]
  · iexists f; isplitl [Hd]; · iexact Hd
    ipureintro; exact hf
  iexact Hr

theorem loadB {α : Type} {Q : α → sProp 𝕄} (M : Memref sig .tc .vmem S2x2x512x1024 .f32) (hb : Memref sig .tc .hbm S32x512x1024 .f32) (v : Buf (Elt F) (hb.view.loc (c : Thread nD τ)))
    (j : Fin 3) (s k : Fin 2) (e : Fin 32) {o : Fin 4 → ℕ} {ho : ∀ a, o a + S1x1x512x1024.size a ≤ S2x2x512x1024.size a} {hl}
    {k' : (S1x1x512x1024.Idx → Elt F .f32) → Prog (TpuEff nD τ sig (Elt F) Λ₀ .tc) α}
    (h1 : o = offD s k) :
    fullB c M hb v j s k e
      ⊢ iprop((fullB c M hb v j s k e -∗ wp frame (wpE (defs₀ (F := F)) Variants.none c none) Set.univ (k' (slabB c hb v e)) Q)
          -∗ wp frame (wpE (defs₀ (F := F)) Variants.none c none) Set.univ
              (.op (.load M (Rect.unit (s := S2x2x512x1024) o S1x1x512x1024.size ho).toLoadRect hl) k') Q) := by
  subst h1
  unfold fullB blockIs
  iintro ⟨⟨%f, Hd, %hf⟩, Hr⟩ Hk
  iapply (wp_load_rect Variants.none (c : Thread nD τ) none Set.univ
    (m := M) (r := Rect.unit (s := S2x2x512x1024) (offD s k) S1x1x512x1024.size ho) (S := (dB M (offD s k) ho).view.set)
    (View.set_reshape (M.access (Rect.unit (s := S2x2x512x1024) (offD s k) S1x1x512x1024.size ho)) squeezes_S1x1x512x1024_S512x1024.numel_eq).ge) $$ [Hd]
  · iexact Hd
  iintro Hd
  rw [show (M.access (Rect.unit (s := S2x2x512x1024) (offD s k) S1x1x512x1024.size ho)).read (Elt F) f = slabB c hb v e from by
    funext x
    unfold slabB
    rw [← hf, View.read_apply, View.read_apply]
    show _ = cast _ (f (M.view.emb ((Rect.unit (s := S2x2x512x1024) (offD s k) S1x1x512x1024.size ho).emb (Shape.reshapeEquiv squeezes_S1x1x512x1024_S512x1024.numel_eq ((Shape.reshapeEquiv squeezes_S1x1x512x1024_S512x1024.numel_eq).symm x)))))
    rw [Equiv.apply_symm_apply]
    rfl]
  iapply Hk
  isplitl [Hd]
  · iexists f; isplitl [Hd]; · iexact Hd
    ipureintro; exact hf
  iexact Hr

end Slots

end Cert.Kernel3Ideal.Moe
end
-- ==== Proof.LastWords.lean ====
/- The plan's words as the body reads them, and the body's first statements: the copies started for slot 0. -/
module

public import proofs.«01_k».proof.Proof.LastLane
public import Idealize.ShloMosaic.Lib.Pointwise.Index

@[expose] public section

set_option maxRecDepth 16384

noncomputable section

namespace Cert.Kernel3Ideal.Moe

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Offsets at words -/

theorem vec3 {v : BitVec 32} {e : Fin 32} (h : v.toNat = e.val) : (![v.toNat, 0, 0] : Fin 3 → ℕ) = offS e := by rw [h]
theorem vec4 {v : BitVec 32} {s k : Fin 2} {n : ℕ} (h : v.toNat = s.val) (hk : n = k.val) :
    (![v.toNat, n, 0, 0] : Fin 4 → ℕ) = offD s k := by rw [h, hk]
theorem vec2 {v : BitVec 32} {s k : Fin 2} {j : Fin 3} {n : ℕ} (h : v.toNat = s.val) (hk : n = 3 * k.val + j.val) :
    (![v.toNat, n] : Fin 2 → ℕ) = offC s k j := by rw [h, hk]

/-! ## The tables -/

abbrev plM : Memref sig .tc .smem S6x88 .i32 := Memref.whole main_v94
abbrev nuM : Memref sig .tc .smem S1 .i32 := Memref.whole main_v95

/-- Row `r` of the plan at tile `j`, as a word. -/
def word (c : Dev nD) (pv : Buf (Elt F) (plM.view.loc (c : Thread nD τ))) (r : Fin 6) (j : Fin 88) : BitVec 32 :=
  (pv : S6x88.Idx → BitVec 32) (ix2 r j)

/-- The number of tiles in use, as a word. -/
def nuWord (c : Dev nD) (nv : Buf (Elt F) (nuM.view.loc (c : Thread nD τ))) : BitVec 32 :=
  (nv : S1.Idx → BitVec 32) (ix1 0)

section Rules

variable (c : Dev nD) (V : (b : Ref sig .tc) → Buf (Elt F) ((c : Thread nD τ).loc b))
  (pv : Buf (Elt F) (plM.view.loc (c : Thread nD τ))) (nv : Buf (Elt F) (nuM.view.loc (c : Thread nD τ)))

/-- The tables, held at the share the launch lends. -/
def tabs : sProp 𝕄 :=
  iprop((plM.view.loc (c : Thread nD τ) ↦{fullShare.right} pv) ∗ (nuM.view.loc (c : Thread nD τ) ↦{fullShare.right} nv))

theorem load_word {α : Type} {k : BitVec 32 → Prog (TpuEff nD τ sig (Elt F) Λ₀ .tc) α} {Q : α → sProp 𝕄}
    {o : Fin 2 → ℕ} {ho : ∀ a, o a + S1x1.size a ≤ S6x88.size a} (r : Fin 6) (j : Fin 88) (h : o = ![r.val, j.val]) :
    tabs c pv nv ⊢ iprop((tabs c pv nv -∗ wp frame (wpE (defs₀ (F := F)) Variants.none c none) Set.univ (k (word c pv r j)) Q)
      -∗ wp frame (wpE (defs₀ (F := F)) Variants.none c none) Set.univ
          (smemLoad plM (Rect.unit (s := S6x88) o S1x1.size ho) numel1_S1x1 rfl >>= k) Q) := by
  subst h
  change _ ⊢ iprop(_ -∗ wp frame (wpE (defs₀ (F := F)) Variants.none c none) Set.univ
    (smemLoadElt plM (Rect.unit (s := S6x88) ![r.val, j.val] S1x1.size ho) (View.loads_smem_one rfl numel1_S1x1)
      (Shape.Idx.first (numel1_S1x1.symm ▸ Nat.one_pos)) k) Q)
  unfold tabs
  iintro ⟨Hp, Hn⟩ Hk
  iapply (wp_smemLoadElt_named Variants.none (c : Thread nD τ) none Set.univ) $$ Hp
  iintro Hp %w %hw
  rw [show w = word c pv r j from by
    rw [hw, View.read_apply]
    show _ = (pv : S6x88.Idx → BitVec 32) (ix2 r j)
    refine (congrArg (pv : S6x88.Idx → BitVec 32) (?_ : _ = ix2 r j))
    funext a
    match a with
    | ⟨0, _⟩ => exact Fin.ext rfl
    | ⟨1, _⟩ => exact Fin.ext rfl]
  iapply Hk
  isplitl [Hp] <;> iassumption

theorem load_nu {α : Type} {k : BitVec 32 → Prog (TpuEff nD τ sig (Elt F) Λ₀ .tc) α} {Q : α → sProp 𝕄}
    {o : Fin 1 → ℕ} {ho : ∀ a, o a + S1.size a ≤ S1.size a} (h : o = ![0]) :
    tabs c pv nv ⊢ iprop((tabs c pv nv -∗ wp frame (wpE (defs₀ (F := F)) Variants.none c none) Set.univ (k (nuWord c nv)) Q)
      -∗ wp frame (wpE (defs₀ (F := F)) Variants.none c none) Set.univ
          (smemLoad nuM (Rect.unit (s := S1) o S1.size ho) numel1_S1 rfl >>= k) Q) := by
  subst h
  change _ ⊢ iprop(_ -∗ wp frame (wpE (defs₀ (F := F)) Variants.none c none) Set.univ
    (smemLoadElt nuM (Rect.unit (s := S1) ![0] S1.size ho) (View.loads_smem_one rfl numel1_S1)
      (Shape.Idx.first (numel1_S1.symm ▸ Nat.one_pos)) k) Q)
  unfold tabs
  iintro ⟨Hp, Hn⟩ Hk
  iapply (wp_smemLoadElt_named Variants.none (c : Thread nD τ) none Set.univ) $$ Hn
  iintro Hn %w %hw
  rw [show w = nuWord c nv from by
    rw [hw, View.read_apply]
    show _ = (nv : S1.Idx → BitVec 32) (ix1 0)
    refine (congrArg (nv : S1.Idx → BitVec 32) (?_ : _ = ix1 0))
    funext a
    match a with
    | ⟨0, _⟩ => exact Fin.ext rfl]
  iapply Hk
  isplitl [Hp] <;> iassumption

/-- A check that holds is passed. -/
theorem pass {P : Prop} {d : Decidable P} {α : Type} {k : PLift P → Prog (TpuEff nD τ sig (Elt F) Λ₀ .tc) α} {Q : α → sProp 𝕄} (h : P) :
    wp frame (wpE (defs₀ (F := F)) Variants.none c none) Set.univ (k ⟨h⟩) Q
      ⊢ wp frame (wpE (defs₀ (F := F)) Variants.none c none) Set.univ (Prog.lift (TpuEff.assume P d) >>= k) Q :=
  wp_assume (defs := defs₀ (F := F)) Variants.none (c : Thread nD τ) none Set.univ h

/-! ## The four copies' rounds -/

abbrev call1 (i : grid0.Coords) (xb : Memref sig .tc .vmem S256x1152 .f32) (hx : xb.IsWhole) (yb : Memref sig .tc .vmem S256x1024 .f32) (hy : yb.IsWhole)
    (h : k0_cond1 i = 1#1) :=
  k0_part1 (F := F) i plM (Memref.isWhole_whole _) nuM (Memref.isWhole_whole _) xb hx hw1 (Memref.isWhole_whole _) hw3 (Memref.isWhole_whole _)
    hw2 (Memref.isWhole_whole _) yb hy wb1 (Memref.isWhole_whole _) wb3 (Memref.isWhole_whole _) wb2 (Memref.isWhole_whole _) cc0_scratch3 h

/-- The start of slot 0's first expert, after the words of the first tile's experts are read. -/
theorem part1_spec {i : grid0.Coords} {xb : Memref sig .tc .vmem S256x1152 .f32} {hx : xb.IsWhole} {yb : Memref sig .tc .vmem S256x1024 .f32} {hy : yb.IsWhole}
    {h : k0_cond1 i = 1#1} {e₀ e₁ : Fin 32} (h₀ : (word c pv 0 0).toNat = e₀.val) (h₁ : (word c pv 1 0).toNat = e₁.val)
    (hc2 : k0_chk2 i (word c pv 1 0)) {Q : (Σ' (v19 : Elt F .i32), k0_chk2 i v19) → sProp 𝕄} :
    iprop(tabs c pv nv ∗ kFree c V 0 0)
      ⊢ iprop((iprop(tabs c pv nv ∗ kFly c V 0 0 e₀) -∗ Q ⟨word c pv 1 0, hc2⟩)
        -∗ wp frame (wpE (defs₀ (F := F)) Variants.none c none) Set.univ (call1 i xb hx yb hy h) Q) := by
  unfold call1 kFree
  rw [k0_part1_eq_skeleton]
  unfold k0_part1_skel
  iintro ⟨HT, H1, H3, H2⟩ Hk
  iapply (load_word c pv nv 0 0 rfl) $$ HT
  iintro HT
  have hc : k0_chk1 i (word c pv 0 0) :=
    ⟨fun _ => by rw [show k0_off2 (word c pv 0 0) = offS e₀ from vec3 h₀]; exact inbSA e₀,
     fun _ => by rw [show k0_off3 (word c pv 0 0) = offS e₀ from vec3 h₀]; exact inbSB e₀⟩
  iapply (pass c hc)
  iapply (load_word c pv nv 1 0 rfl) $$ HT
  iintro HT
  iapply (pass c hc2)
  iapply (startA c wb1 hw1 (V main_v0) 0 0 0 e₀ rfl (vec3 h₀) rfl) $$ H1
  iintro H1
  iapply (startA c wb3 hw3 (V main_v1) 1 0 0 e₀ rfl (vec3 h₀) rfl) $$ H3
  iintro H3
  iapply (startB c wb2 hw2 (V main_v2) 2 0 0 e₀ rfl (vec3 h₀) rfl) $$ H2
  iintro H2
  iapply (le_wp_ret _ _ _ _ _)
  iapply Hk
  unfold kFly
  isplitl [HT]; · iexact HT
  isplitl [H1]; · iexact H1
  isplitl [H3] <;> iassumption

/-! ### Checks, of words in range -/

theorem chk2_ok (i : grid0.Coords) {v : BitVec 32} {e : Fin 32} (h : v.toNat = e.val) : k0_chk2 i v :=
  ⟨fun _ => by rw [show k0_off4 v = offS e from vec3 h]; exact inbSA e,
   fun _ => by rw [show k0_off5 v = offS e from vec3 h]; exact inbSB e⟩
theorem chk4_ok (w : BitVec 32) {v : BitVec 32} {e : Fin 32} (h : v.toNat = e.val) : k0_chk4 w v :=
  ⟨fun _ => by rw [show k0_off11 v = offS e from vec3 h]; exact inbSA e,
   fun _ => by rw [show k0_off16 v = offS e from vec3 h]; exact inbSB e⟩
theorem chk5_ok (w : BitVec 32) {v : BitVec 32} {e : Fin 32} (h : v.toNat = e.val) : k0_chk5 w v :=
  ⟨fun _ => by rw [show k0_off19 v = offS e from vec3 h]; exact inbSA e,
   fun _ => by rw [show k0_off24 v = offS e from vec3 h]; exact inbSB e⟩
theorem chk7_ok (w w' : BitVec 32) {v : BitVec 32} {e : Fin 32} (h : v.toNat = e.val) : k0_chk7 w w' v :=
  ⟨fun _ _ => by rw [show k0_off30 v = offS e from vec3 h]; exact inbSA e,
   fun _ _ => by rw [show k0_off35 v = offS e from vec3 h]; exact inbSB e⟩
theorem chk8_ok (w w' : BitVec 32) {v : BitVec 32} {e : Fin 32} (h : v.toNat = e.val) : k0_chk8 w w' v :=
  ⟨fun _ _ => by rw [show k0_off38 v = offS e from vec3 h]; exact inbSA e,
   fun _ _ => by rw [show k0_off43 v = offS e from vec3 h]; exact inbSB e⟩

theorem atC {o : Fin 2 → ℕ} (s k : Fin 2) (j : Fin 3) (h : o = offC s k j) : ∀ a, o a + S1x1.size a ≤ S2x6.size a := by
  subst h; exact inbC s k j
theorem atDA {o : Fin 4 → ℕ} (s k : Fin 2) (h : o = offD s k) : ∀ a, o a + S1x1x1024x512.size a ≤ S2x2x1024x512.size a := by
  subst h; exact inbDA s k
theorem atDB {o : Fin 4 → ℕ} (s k : Fin 2) (h : o = offD s k) : ∀ a, o a + S1x1x512x1024.size a ≤ S2x2x512x1024.size a := by
  subst h; exact inbDB s k

theorem chk3_ok (w : BitVec 32) {v : BitVec 32} {s : Fin 2} (h : v.toNat = s.val) : k0_chk3 v w :=
  ⟨fun _ => atC s 0 0 (vec2 h rfl), fun _ => atDA s 0 (vec4 h rfl), fun _ => atC s 0 1 (vec2 h rfl), fun _ => atDA s 0 (vec4 h rfl),
   fun _ => atC s 0 2 (vec2 h rfl), fun _ => atDB s 0 (vec4 h rfl), fun _ => atC s 1 0 (vec2 h rfl), fun _ => atDA s 1 (vec4 h rfl),
   fun _ => atC s 1 1 (vec2 h rfl), fun _ => atDA s 1 (vec4 h rfl), fun _ => atC s 1 2 (vec2 h rfl), fun _ => atDB s 1 (vec4 h rfl)⟩
theorem chk6_ok (w w' : BitVec 32) {v : BitVec 32} {t : Fin 2} (h : (Scalar.subi 1#32 v).toNat = t.val) : k0_chk6 v w w' :=
  ⟨fun _ _ => atC t 0 0 (vec2 h rfl), fun _ _ => atDA t 0 (vec4 h rfl), fun _ _ => atC t 0 1 (vec2 h rfl), fun _ _ => atDA t 0 (vec4 h rfl),
   fun _ _ => atC t 0 2 (vec2 h rfl), fun _ _ => atDB t 0 (vec4 h rfl), fun _ _ => atC t 1 0 (vec2 h rfl), fun _ _ => atDA t 1 (vec4 h rfl),
   fun _ _ => atC t 1 1 (vec2 h rfl), fun _ _ => atDA t 1 (vec4 h rfl), fun _ _ => atC t 1 2 (vec2 h rfl), fun _ _ => atDB t 1 (vec4 h rfl)⟩
theorem chk9_ok (i : grid0.Coords) (w : BitVec 32) {v : BitVec 32} {s : Fin 2} (h : v.toNat = s.val) : k0_chk9 i v w :=
  have h' : (Scalar.indexCast v).toNat = s.val := h
  ⟨fun _ => atDA s 0 (vec4 h' rfl), fun _ => atDB s 0 (vec4 h' rfl), fun _ => atDA s 1 (vec4 h' rfl), fun _ => atDB s 1 (vec4 h' rfl)⟩

abbrev call3 (i : grid0.Coords) (xb : Memref sig .tc .vmem S256x1152 .f32) (hx : xb.IsWhole) (yb : Memref sig .tc .vmem S256x1024 .f32) (hy : yb.IsWhole)
    (a v1 v6 : BitVec 32) (hc : k0_chk3 v1 v6) (h : k0_cond2 v6 = 1#1) :=
  k0_part3 (F := F) i plM (Memref.isWhole_whole _) nuM (Memref.isWhole_whole _) xb hx hw1 (Memref.isWhole_whole _) hw3 (Memref.isWhole_whole _)
    hw2 (Memref.isWhole_whole _) yb hy wb1 (Memref.isWhole_whole _) wb3 (Memref.isWhole_whole _) wb2 (Memref.isWhole_whole _) cc0_scratch3 a v1 v6 hc h

/-- The offsets of the table loads at tile `j`. -/
theorem atTile {i : grid0.Coords} {j : Fin 88} (hj : i 0 = j) (n : ℕ) : (![n, (Scalar.indexCast (BitVec.ofNat 32 (i 0).val)).toNat] : Fin 2 → ℕ) = ![n, j.val] := by
  subst hj
  have h : (Scalar.indexCast (BitVec.ofNat 32 (i 0).val)).toNat = (i 0).val := by
    show (BitVec.ofNat 32 (i 0).val).toNat = _
    rw [BitVec.toNat_ofNat]
    exact Nat.mod_eq_of_lt (lt_trans (i 0).isLt (by decide))
  rw [h]

/-- The waits for the first expert of a slot and for the first copy of its second. -/
theorem part3_spec {i : grid0.Coords} {j : Fin 88} (hj : i 0 = j) {xb : Memref sig .tc .vmem S256x1152 .f32} {hx : xb.IsWhole} {yb : Memref sig .tc .vmem S256x1024 .f32} {hy : yb.IsWhole}
    {a v1 v6 : BitVec 32} {hc : k0_chk3 v1 v6} {h : k0_cond2 v6 = 1#1} {s : Fin 2} {e₀ e₁ : Fin 32} (hs : v1.toNat = s.val)
    (h₀ : (word c pv 0 j).toNat = e₀.val) (hc5 : k0_chk5 v6 (word c pv 1 j))
    {Q : (Σ' (v21 : Elt F .i32), k0_chk5 v6 v21) → sProp 𝕄} :
    iprop(tabs c pv nv ∗ kFly c V s 0 e₀ ∗ flyA c wb1 hw1 (V main_v0) 0 s 1 e₁ ∗ ∃ W, owes (c : Thread nD τ) 0 W)
      ⊢ iprop((iprop(tabs c pv nv ∗ kFull c V s 0 e₀ ∗ fullA c wb1 hw1 (V main_v0) 0 s 1 e₁ ∗ ∃ W, owes (c : Thread nD τ) 0 W) -∗ Q ⟨word c pv 1 j, hc5⟩)
        -∗ wp frame (wpE (defs₀ (F := F)) Variants.none c none) Set.univ (call3 i xb hx yb hy a v1 v6 hc h) Q) := by
  unfold call3 kFly
  rw [k0_part3_eq_skeleton]
  unfold k0_part3_skel
  iintro ⟨HT, ⟨H1, H3, H2⟩, H1', HW⟩ Hk
  iapply (load_word c pv nv 0 j (atTile hj 0)) $$ HT
  iintro HT
  iapply (pass c (chk4_ok v6 h₀))
  iapply (load_word c pv nv 1 j (atTile hj 1)) $$ HT
  iintro HT
  iapply (pass c hc5)
  iapply (waitA c wb1 hw1 (V main_v0) 0 s 0 e₀ (vec4 hs rfl) (vec2 hs rfl)) $$ [H1 HW]
  · isplitl [H1] <;> iassumption
  iintro ⟨H1, HW⟩
  iapply (waitA c wb3 hw3 (V main_v1) 1 s 0 e₀ (vec4 hs rfl) (vec2 hs rfl)) $$ [H3 HW]
  · isplitl [H3] <;> iassumption
  iintro ⟨H3, HW⟩
  iapply (waitB c wb2 hw2 (V main_v2) 2 s 0 e₀ (vec4 hs rfl) (vec2 hs rfl)) $$ [H2 HW]
  · isplitl [H2] <;> iassumption
  iintro ⟨H2, HW⟩
  iapply (waitA c wb1 hw1 (V main_v0) 0 s 1 e₁ (vec4 hs rfl) (vec2 hs rfl)) $$ [H1' HW]
  · isplitl [H1'] <;> iassumption
  iintro ⟨H1', HW⟩
  iapply (le_wp_ret _ _ _ _ _)
  iapply Hk
  unfold kFull
  isplitl [HT]; · iexact HT
  isplitl [H1 H3 H2]
  · isplitl [H1]; · iexact H1
    isplitl [H3] <;> iassumption
  isplitl [H1'] <;> iassumption

abbrev call2 (i : grid0.Coords) (xb : Memref sig .tc .vmem S256x1152 .f32) (hx : xb.IsWhole) (yb : Memref sig .tc .vmem S256x1024 .f32) (hy : yb.IsWhole)
    (a v1 v6 : BitVec 32) (h : k0_cond2 v6 = 1#1) (v59 : BitVec 32) (hc : k0_chk6 v1 v6 v59) (h' : k0_cond3 v59 = 1#1) :=
  k0_part2 (F := F) i plM (Memref.isWhole_whole _) nuM (Memref.isWhole_whole _) xb hx hw1 (Memref.isWhole_whole _) hw3 (Memref.isWhole_whole _)
    hw2 (Memref.isWhole_whole _) yb hy wb1 (Memref.isWhole_whole _) wb3 (Memref.isWhole_whole _) wb2 (Memref.isWhole_whole _) cc0_scratch3 a v1 v6 h v59 hc h'

/-- The start of the other slot's first expert, after the words of the next experts are read. -/
theorem part2_spec {i : grid0.Coords} {j : Fin 88} (hj : i 0 = j) {xb : Memref sig .tc .vmem S256x1152 .f32} {hx : xb.IsWhole} {yb : Memref sig .tc .vmem S256x1024 .f32} {hy : yb.IsWhole}
    {a v1 v6 v59 : BitVec 32} {h : k0_cond2 v6 = 1#1} {hc : k0_chk6 v1 v6 v59} {h' : k0_cond3 v59 = 1#1} {t : Fin 2} {e₀ : Fin 32}
    (ht : (Scalar.subi 1#32 v1).toNat = t.val)
    (h₀ : (word c pv 4 j).toNat = e₀.val) (hc8 : k0_chk8 v6 v59 (word c pv 5 j))
    {Q : (Σ' (v66 : Elt F .i32), k0_chk8 v6 v59 v66) → sProp 𝕄} :
    iprop(tabs c pv nv ∗ kFree c V t 0)
      ⊢ iprop((iprop(tabs c pv nv ∗ kFly c V t 0 e₀) -∗ Q ⟨word c pv 5 j, hc8⟩)
        -∗ wp frame (wpE (defs₀ (F := F)) Variants.none c none) Set.univ (call2 i xb hx yb hy a v1 v6 h v59 hc h') Q) := by
  unfold call2 kFree
  rw [k0_part2_eq_skeleton]
  unfold k0_part2_skel
  iintro ⟨HT, H1, H3, H2⟩ Hk
  iapply (load_word c pv nv 4 j (atTile hj 4)) $$ HT
  iintro HT
  iapply (pass c (chk7_ok v6 v59 h₀))
  iapply (load_word c pv nv 5 j (atTile hj 5)) $$ HT
  iintro HT
  iapply (pass c hc8)
  iapply (startA c wb1 hw1 (V main_v0) 0 t 0 e₀ (vec4 ht rfl) (vec3 h₀) (vec2 ht rfl)) $$ H1
  iintro H1
  iapply (startA c wb3 hw3 (V main_v1) 1 t 0 e₀ (vec4 ht rfl) (vec3 h₀) (vec2 ht rfl)) $$ H3
  iintro H3
  iapply (startB c wb2 hw2 (V main_v2) 2 t 0 e₀ (vec4 ht rfl) (vec3 h₀) (vec2 ht rfl)) $$ H2
  iintro H2
  iapply (le_wp_ret _ _ _ _ _)
  iapply Hk
  unfold kFly
  isplitl [HT]; · iexact HT
  isplitl [H1]; · iexact H1
  isplitl [H3] <;> iassumption

end Rules

end Cert.Kernel3Ideal.Moe
end
-- ==== Proof.LastBody.lean ====
/- The body at one tile: from the lanes' state before the tile to the state after it, leaving the tile's block of the output. -/
module

public import proofs.«01_k».proof.Proof.LastWords

@[expose] public section

set_option maxRecDepth 16384

noncomputable section

namespace Cert.Kernel3Ideal.Moe

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Staged blocks -/

theorem load_owned {α : Type} {Q : α → sProp 𝕄} (c : Dev nD) (M : Memref sig .tc .vmem S256x1152 .f32) (q : PosShare TreeShare)
    (X : S256x1152.Idx → Elt F .f32) (r : Rect S256x1152) {hl} {k : (r.shape.Idx → Elt F .f32) → Prog (TpuEff nD τ sig (Elt F) Λ₀ .tc) α} :
    owns (c : Thread nD τ) M q X
      ⊢ iprop((owns (c : Thread nD τ) M q X -∗ wp frame (wpE (defs₀ (F := F)) Variants.none c none) Set.univ (k (fun x => X (r.emb x))) Q)
          -∗ wp frame (wpE (defs₀ (F := F)) Variants.none c none) Set.univ (.op (.load M r.toLoadRect hl) k) Q) := by
  unfold owns
  iintro ⟨%f, %hf, H⟩ Hk
  iapply (wp_load_rect Variants.none (c : Thread nD τ) none Set.univ (m := M) (r := r) (S := M.view.set) (View.set_slice_subset _ _)) $$ H
  iintro H
  rw [show (M.access r).read (Elt F) f = fun x => X (r.emb x) from by rw [← hf]; rfl]
  iapply Hk
  iexists f
  isplitr; · ipureintro; exact hf
  iexact H

/-- A store of a whole block. -/
theorem store_owned {α : Type} {Q : α → sProp 𝕄} (c : Dev nD) (M : Memref sig .tc .vmem S256x1024 .f32)
    (X w : S256x1024.Idx → Elt F .f32) {h : ∀ a, (![0, 0] : Fin 2 → ℕ) a + S256x1024.size a ≤ S256x1024.size a} {hx} {hm}
    {k : PUnit → Prog (TpuEff nD τ sig (Elt F) Λ₀ .tc) α} :
    owns (c : Thread nD τ) M fullShare X
      ⊢ iprop((owns (c : Thread nD τ) M fullShare w -∗ wp frame (wpE (defs₀ (F := F)) Variants.none c none) Set.univ (k ⟨⟩) Q)
          -∗ wp frame (wpE (defs₀ (F := F)) Variants.none c none) Set.univ
            (.op (.store M (Rect.unit (s := S256x1024) ![0, 0] S256x1024.size h) w Finset.univ hx hm) k) Q) := by
  unfold owns
  iintro ⟨%f, %hf, H⟩ Hk
  iapply (wp_store Variants.none (c : Thread nD τ) none Set.univ (m := M) (r := Rect.unit (s := S256x1024) ![0, 0] S256x1024.size h) (S := M.view.set)
    (by rw [View.setOn_univ]; exact View.set_slice_subset _ _)) $$ H
  iintro H
  iapply Hk
  iexists _
  isplitr
  swap; · iexact H
  ipureintro
  funext x
  have e : (Rect.unit (s := S256x1024) ![0, 0] S256x1024.size h).emb x = x := by
    funext a
    match a with
    | ⟨0, h0⟩ => exact Fin.ext (by show 0 + 1 * (x ⟨0, h0⟩).val = (x ⟨0, h0⟩).val; omega)
    | ⟨1, h1⟩ => exact Fin.ext (by show 0 + 1 * (x ⟨1, h1⟩).val = (x ⟨1, h1⟩).val; omega)
  have h1 := View.read_write_of_mem (v := M.access (Rect.unit (s := S256x1024) ![0, 0] S256x1024.size h)) f w (Finset.mem_univ x)
  rw [← h1]
  show _ = M.view.read (Elt F) _ ((Rect.unit (s := S256x1024) ![0, 0] S256x1024.size h).emb x)
  rw [e]

/-- The parts of a block of rows: the rows and the two gates. -/
def xRow (X : S256x1152.Idx → Elt F .f32) : Vec F S256x1024 .f32 :=
  fun x => X ((Rect.unit (s := S256x1152) ![0, 0] S256x1024.size inb_S256x1152_S256x1024_0_0).emb x)
def xLo (X : S256x1152.Idx → Elt F .f32) : Vec F S256x1 .f32 :=
  fun x => X ((Rect.unit (s := S256x1152) ![0, 1024] S256x1.size inb_S256x1152_S256x1_0_1024).emb x)
def xHi (X : S256x1152.Idx → Elt F .f32) : Vec F S256x1 .f32 :=
  fun x => X ((Rect.unit (s := S256x1152) ![0, 1025] S256x1.size inb_S256x1152_S256x1_0_1025).emb x)

section Body

variable (c : Dev nD) (V : (b : Ref sig .tc) → Buf (Elt F) ((c : Thread nD τ).loc b))
  (pv : Buf (Elt F) (plM.view.loc (c : Thread nD τ))) (nv : Buf (Elt F) (nuM.view.loc (c : Thread nD τ)))

/-- What the body stores at a tile in use: the gated sum of two experts at the block's rows. -/
def mix (X : S256x1152.Idx → Elt F .f32) (e₀ e₁ : Fin 32) : S256x1024.Idx → Elt F .f32 :=
  k0_pay1 (k0_pay3 (xRow X)) (xHi X)
    (k0_pay4 (xRow X) (xLo X) (slabA c hw1 (V main_v0) e₀) (slabA c hw3 (V main_v1) e₀) (slabB c hw2 (V main_v2) e₀))
    (k0_pay5 (xRow X) (slabA c hw1 (V main_v0) e₁)) (k0_pay6 (slabA c hw3 (V main_v1) e₁)) (slabB c hw2 (V main_v2) e₁)

abbrev call4 (i : grid0.Coords) (xb : Memref sig .tc .vmem S256x1152 .f32) (hx : xb.IsWhole) (yb : Memref sig .tc .vmem S256x1024 .f32) (hy : yb.IsWhole)
    (v1 v10 : BitVec 32) (hc : k0_chk9 i v1 v10) (h : k0_cond4 i v10 = 1#1) :=
  k0_part4 (F := F) i plM (Memref.isWhole_whole _) nuM (Memref.isWhole_whole _) xb hx hw1 (Memref.isWhole_whole _) hw3 (Memref.isWhole_whole _)
    hw2 (Memref.isWhole_whole _) yb hy wb1 (Memref.isWhole_whole _) wb3 (Memref.isWhole_whole _) wb2 (Memref.isWhole_whole _) cc0_scratch3 v1 v10 hc h

/-- A continuation met at a value equal to the one it is stated at. -/
theorem iapply_at {α : Type} {R : sProp 𝕄} (Q : α → sProp 𝕄) {a b : α} (e : a = b) : iprop(R -∗ Q a) ⊢ iprop(R -∗ Q b) := by
  rw [e]

/-- The loads of the block and of five of the slot's six weight blocks. -/
theorem part4_spec {i : grid0.Coords} {xb : Memref sig .tc .vmem S256x1152 .f32} {hx : xb.IsWhole} {yb : Memref sig .tc .vmem S256x1024 .f32} {hy : yb.IsWhole}
    {v1 v10 : BitVec 32} {hc : k0_chk9 i v1 v10} {h : k0_cond4 i v10 = 1#1} {s : Fin 2} {e₀ e₁ : Fin 32} (hs : v1.toNat = s.val)
    (X : S256x1152.Idx → Elt F .f32)
    {Q : (Σ' (v19 : FVec F S256x1024 .bf16) (v21 : Vec F S256x1 .f32) (v42 : FVec F S256x1024 .f32) (v49 : FVec F S256x512 .f32), FVec F S1024x512 .f32) → sProp 𝕄} :
    iprop(owns (c : Thread nD τ) xb fullShare X ∗ sFull c V s e₀ e₁)
      ⊢ iprop((iprop(owns (c : Thread nD τ) xb fullShare X ∗ sFull c V s e₀ e₁) -∗
          Q ⟨k0_pay3 (xRow X), xHi X,
            k0_pay4 (xRow X) (xLo X) (slabA c hw1 (V main_v0) e₀) (slabA c hw3 (V main_v1) e₀) (slabB c hw2 (V main_v2) e₀),
            k0_pay5 (xRow X) (slabA c hw1 (V main_v0) e₁), k0_pay6 (slabA c hw3 (V main_v1) e₁)⟩)
        -∗ wp frame (wpE (defs₀ (F := F)) Variants.none c none) Set.univ (call4 i xb hx yb hy v1 v10 hc h) Q) := by
  have h' : (Scalar.indexCast v1).toNat = s.val := hs
  unfold call4 sFull kFull
  rw [k0_part4_eq_skeleton]
  unfold k0_part4_skel
  iintro ⟨HX, ⟨H1, H3, H2⟩, H1', H3', H2'⟩ Hk
  iapply (load_owned c xb fullShare X _) $$ HX
  iintro HX
  iapply (load_owned c xb fullShare X _) $$ HX
  iintro HX
  iapply (load_owned c xb fullShare X _) $$ HX
  iintro HX
  iapply (loadA c wb1 hw1 (V main_v0) 0 s 0 e₀ (vec4 h' rfl)) $$ H1
  iintro H1
  iapply (loadA c wb3 hw3 (V main_v1) 1 s 0 e₀ (vec4 h' rfl)) $$ H3
  iintro H3
  iapply (loadB c wb2 hw2 (V main_v2) 2 s 0 e₀ (vec4 h' rfl)) $$ H2
  iintro H2
  iapply (loadA c wb1 hw1 (V main_v0) 0 s 1 e₁ (vec4 h' rfl)) $$ H1'
  iintro H1'
  iapply (loadA c wb3 hw3 (V main_v1) 1 s 1 e₁ (vec4 h' rfl)) $$ H3'
  iintro H3'
  iapply (le_wp_ret _ _ _ _ _)
  iapply (iapply_at Q ?e) $$ Hk
  case e => rfl
  isplitl [HX]; · iexact HX
  isplitl [H1 H3 H2]
  · isplitl [H1]; · iexact H1
    isplitl [H3] <;> iassumption
  isplitl [H1']; · iexact H1'
  isplitl [H3'] <;> iassumption

/-! ## The plan, and the lanes' state between tiles -/

/-- What the plan's words say, tile by tile: the slot, the two experts, and the next run's experts if there is a next run. -/
structure PlanOK (W : Fin 6 → Fin 88 → BitVec 32) where
  sl : Fin 88 → Fin 2
  lo : Fin 88 → Fin 32
  hi : Fin 88 → Fin 32
  nx : Fin 88 → Option (Fin 32 × Fin 32)
  sl_eq : ∀ j, (W 3 j).toNat = (sl j).val
  lo_eq : ∀ j, (W 0 j).toNat = (lo j).val
  hi_eq : ∀ j, (W 1 j).toNat = (hi j).val
  nx_some : ∀ j a b, nx j = some (a, b) → k0_cond3 (W 4 j) = 1#1 ∧ (W 4 j).toNat = a.val ∧ (W 5 j).toNat = b.val
  nx_none : ∀ j, nx j = none → ¬ k0_cond3 (W 4 j) = 1#1
  first0 : k0_cond2 (W 2 0) = 1#1
  sl0 : sl 0 = 0
  step : ∀ j j' : Fin 88, j'.val = j.val + 1 → k0_cond2 (W 2 j') = 1#1 → nx j = some (lo j', hi j') ∧ sl j' = 1 - sl j
  stay : ∀ j j' : Fin 88, j'.val = j.val + 1 → ¬ k0_cond2 (W 2 j') = 1#1 → sl j' = sl j ∧ lo j' = lo j ∧ hi j' = hi j ∧ nx j' = nx j
  last : nx 87 = none

/-- The lanes of the slot to be used next: in flight if there is a next run, free otherwise. -/
def ahead (t : Fin 2) : Option (Fin 32 × Fin 32) → sProp 𝕄
  | some (a, b) => sFly c V t a b
  | none => sFree c V t

variable (P : PlanOK (word c pv))

/-- The lanes after `p` tiles. -/
def lanes : (p : ℕ) → sProp 𝕄
  | 0 => iprop(sFree c V 0 ∗ sFree c V 1)
  | p + 1 => if h : p < 88 then iprop(sFull c V (P.sl ⟨p, h⟩) (P.lo ⟨p, h⟩) (P.hi ⟨p, h⟩) ∗ ahead c V (1 - P.sl ⟨p, h⟩) (P.nx ⟨p, h⟩))
      else iprop(emp)

/-- The lanes at tile `j` once the first run's copies are started: a first tile of a run finds its slot in flight. -/
def midway (j : Fin 88) : sProp 𝕄 :=
  if k0_cond2 (word c pv 2 j) = 1#1 then iprop(sFly c V (P.sl j) (P.lo j) (P.hi j) ∗ sFree c V (1 - P.sl j))
  else iprop(sFull c V (P.sl j) (P.lo j) (P.hi j) ∗ ahead c V (1 - P.sl j) (P.nx j))

theorem lanes_succ (p : ℕ) (h : p < 88) :
    lanes c V pv P (p + 1) = iprop(sFull c V (P.sl ⟨p, h⟩) (P.lo ⟨p, h⟩) (P.hi ⟨p, h⟩) ∗ ahead c V (1 - P.sl ⟨p, h⟩) (P.nx ⟨p, h⟩)) :=
  dif_pos h

theorem fin2_back (s : Fin 2) : 1 - (1 - s) = s := by revert s; decide

theorem lanes_midway (j : Fin 88) (hj : j.val ≠ 0) : lanes c V pv P j.val ⊢ midway c V pv P j := by
  obtain ⟨p, hp⟩ := j
  obtain _ | p := p
  · exact absurd rfl hj
  have hp' : p < 88 := by omega
  unfold midway
  show lanes c V pv P (p + 1) ⊢ _
  rw [lanes_succ c V pv P p hp']
  split
  next h =>
    obtain ⟨h1, h2⟩ := P.step ⟨p, hp'⟩ ⟨p + 1, hp⟩ rfl h
    rw [h1, h2, fin2_back]
    unfold ahead
    iintro ⟨Hf, Ha⟩
    isplitl [Ha]; · iexact Ha
    iapply (sFull_free c V _ _ _) $$ Hf
  next h =>
    obtain ⟨h1, h2, h3, h4⟩ := P.stay ⟨p, hp'⟩ ⟨p + 1, hp⟩ rfl h
    rw [h1, h2, h3, h4]

theorem lanes_last : lanes c V pv P 88 ⊢ iprop(sFree c V 0 ∗ sFree c V 1) := by
  rw [show 88 = 87 + 1 from rfl, lanes_succ c V pv P 87 (by decide), show P.nx ⟨87, by decide⟩ = none from P.last]
  unfold ahead
  generalize P.sl ⟨87, by decide⟩ = s
  match s with
  | 0 =>
    iintro ⟨Hf, Ha⟩
    isplitl [Hf]; · iapply (sFull_free c V _ _ _) $$ Hf
    iexact Ha
  | 1 =>
    iintro ⟨Hf, Ha⟩
    isplitl [Ha]; · iexact Ha
    iapply (sFull_free c V _ _ _) $$ Hf

/-- What the tile's block of the output is left at. -/
def tileOut (j : Fin 88) (i : grid0.Coords) (X : S256x1152.Idx → Elt F .f32) : S256x1024.Idx → Elt F .f32 :=
  if k0_cond4 i (nuWord c nv) = 1#1 then mix c V X (P.lo j) (P.hi j) else k0_pay2

abbrev callB (i : grid0.Coords) (xb : Memref sig .tc .vmem S256x1152 .f32) (hx : xb.IsWhole) (yb : Memref sig .tc .vmem S256x1024 .f32) (hy : yb.IsWhole) :=
  cc0_moe_experts (F := F) i plM (Memref.isWhole_whole _) nuM (Memref.isWhole_whole _) xb hx hw1 (Memref.isWhole_whole _) hw3 (Memref.isWhole_whole _)
    hw2 (Memref.isWhole_whole _) yb hy wb1 (Memref.isWhole_whole _) wb3 (Memref.isWhole_whole _) wb2 (Memref.isWhole_whole _) cc0_scratch3

/-! ### Rules that hand the whole state on -/

theorem step_word {α : Type} {k : BitVec 32 → Prog (TpuEff nD τ sig (Elt F) Λ₀ .tc) α} {Q : α → sProp 𝕄} {R : sProp 𝕄}
    {o : Fin 2 → ℕ} {ho : ∀ a, o a + S1x1.size a ≤ S6x88.size a} (r : Fin 6) (j : Fin 88) (h : o = ![r.val, j.val])
    (hk : iprop(tabs c pv nv ∗ R) ⊢ wp frame (wpE (defs₀ (F := F)) Variants.none c none) Set.univ (k (word c pv r j)) Q) :
    iprop(tabs c pv nv ∗ R) ⊢ wp frame (wpE (defs₀ (F := F)) Variants.none c none) Set.univ
          (smemLoad plM (Rect.unit (s := S6x88) o S1x1.size ho) numel1_S1x1 rfl >>= k) Q := by
  iintro ⟨HT, HR⟩
  iapply (load_word c pv nv r j h) $$ HT
  iintro HT
  iapply hk
  isplitl [HT] <;> iassumption

theorem step_nu {α : Type} {k : BitVec 32 → Prog (TpuEff nD τ sig (Elt F) Λ₀ .tc) α} {Q : α → sProp 𝕄} {R : sProp 𝕄}
    {o : Fin 1 → ℕ} {ho : ∀ a, o a + S1.size a ≤ S1.size a} (h : o = ![0])
    (hk : iprop(tabs c pv nv ∗ R) ⊢ wp frame (wpE (defs₀ (F := F)) Variants.none c none) Set.univ (k (nuWord c nv)) Q) :
    iprop(tabs c pv nv ∗ R) ⊢ wp frame (wpE (defs₀ (F := F)) Variants.none c none) Set.univ
          (smemLoad nuM (Rect.unit (s := S1) o S1.size ho) numel1_S1 rfl >>= k) Q := by
  iintro ⟨HT, HR⟩
  iapply (load_nu c pv nv h) $$ HT
  iintro HT
  iapply hk
  isplitl [HT] <;> iassumption

theorem step_pass {P : Prop} {d : Decidable P} {α : Type} {k : PLift P → Prog (TpuEff nD τ sig (Elt F) Λ₀ .tc) α} {Q : α → sProp 𝕄} {R : sProp 𝕄} (h : P)
    (hk : R ⊢ wp frame (wpE (defs₀ (F := F)) Variants.none c none) Set.univ (k ⟨h⟩) Q) :
    R ⊢ wp frame (wpE (defs₀ (F := F)) Variants.none c none) Set.univ (Prog.lift (TpuEff.assume P d) >>= k) Q :=
  hk.trans (pass c h)

/-- A guarded region and what follows it: the region brings `R` to `R'`, from which what follows is proved once. -/
theorem step_region {α : Type} {Q : α → sProp 𝕄} {R : sProp 𝕄} (R' : sProp 𝕄)
    {J : Unit → Prog (TpuEff nD τ sig (Elt F) Λ₀ .tc) α} {B : (Unit → Prog (TpuEff nD τ sig (Elt F) Λ₀ .tc) α) → Prog (TpuEff nD τ sig (Elt F) Λ₀ .tc) α}
    (hJ : R' ⊢ wp frame (wpE (defs₀ (F := F)) Variants.none c none) Set.univ (J ⟨⟩) Q)
    (hB : ∀ J', (R' ⊢ wp frame (wpE (defs₀ (F := F)) Variants.none c none) Set.univ (J' ⟨⟩) Q) →
      R ⊢ wp frame (wpE (defs₀ (F := F)) Variants.none c none) Set.univ (B J') Q) :
    R ⊢ wp frame (wpE (defs₀ (F := F)) Variants.none c none) Set.univ (have jp := J; B jp) Q := hB J hJ

theorem step_if {α : Type} {Q : α → sProp 𝕄} {R : sProp 𝕄} {p : Prop} {d : Decidable p}
    {A : p → Prog (TpuEff nD τ sig (Elt F) Λ₀ .tc) α} {B : ¬ p → Prog (TpuEff nD τ sig (Elt F) Λ₀ .tc) α}
    (hA : ∀ h, R ⊢ wp frame (wpE (defs₀ (F := F)) Variants.none c none) Set.univ (A h) Q)
    (hB : ∀ h, R ⊢ wp frame (wpE (defs₀ (F := F)) Variants.none c none) Set.univ (B h) Q) :
    R ⊢ wp frame (wpE (defs₀ (F := F)) Variants.none c none) Set.univ (dite p A B) Q := by
  split
  · exact hA _
  · exact hB _

/-- A load of the whole output block. -/
theorem load_out {α : Type} {Q : α → sProp 𝕄} (M : Memref sig .tc .vmem S256x1024 .f32) (q : PosShare TreeShare)
    (X : S256x1024.Idx → Elt F .f32) (r : Rect S256x1024) {hl} {k : (r.shape.Idx → Elt F .f32) → Prog (TpuEff nD τ sig (Elt F) Λ₀ .tc) α} :
    owns (c : Thread nD τ) M q X
      ⊢ iprop((owns (c : Thread nD τ) M q X -∗ wp frame (wpE (defs₀ (F := F)) Variants.none c none) Set.univ (k (fun x => X (r.emb x))) Q)
          -∗ wp frame (wpE (defs₀ (F := F)) Variants.none c none) Set.univ (.op (.load M r.toLoadRect hl) k) Q) := by
  unfold owns
  iintro ⟨%f, %hf, H⟩ Hk
  iapply (wp_load_rect Variants.none (c : Thread nD τ) none Set.univ (m := M) (r := r) (S := M.view.set) (View.set_slice_subset _ _)) $$ H
  iintro H
  rw [show (M.access r).read (Elt F) f = fun x => X (r.emb x) from by rw [← hf]; rfl]
  iapply Hk
  iexists f
  isplitr; · ipureintro; exact hf
  iexact H

/-- A conditional whose condition is known. -/
theorem take {α : Type} {Q : α → sProp 𝕄} {p : Prop} {d : Decidable p}
    {A : p → Prog (TpuEff nD τ sig (Elt F) Λ₀ .tc) α} {B : ¬ p → Prog (TpuEff nD τ sig (Elt F) Λ₀ .tc) α} (h : p) :
    wp frame (wpE (defs₀ (F := F)) Variants.none c none) Set.univ (A h) Q
      ⊢ wp frame (wpE (defs₀ (F := F)) Variants.none c none) Set.univ (dite p A B) Q := by
  rw [dif_pos h]
theorem skip {α : Type} {Q : α → sProp 𝕄} {p : Prop} {d : Decidable p}
    {A : p → Prog (TpuEff nD τ sig (Elt F) Λ₀ .tc) α} {B : ¬ p → Prog (TpuEff nD τ sig (Elt F) Λ₀ .tc) α} (h : ¬ p) :
    wp frame (wpE (defs₀ (F := F)) Variants.none c none) Set.univ (B h) Q
      ⊢ wp frame (wpE (defs₀ (F := F)) Variants.none c none) Set.univ (dite p A B) Q := by
  rw [dif_neg h]

theorem cond1_iff {i : grid0.Coords} {j : Fin 88} (hj : i 0 = j) : k0_cond1 i = 1#1 ↔ j.val = 0 := by
  have h : ∀ j : Fin 88, (Scalar.cmpi .ne (Scalar.extui (Scalar.cmpi .eq (BitVec.ofNat 32 j.val) 0#32)) 0#32 = 1#1 ↔ j.val = 0) := by
    decide +kernel
  subst hj
  exact h (i 0)
theorem cond5_iff (i : grid0.Coords) (w : BitVec 32) : k0_cond5 i w = 1#1 ↔ ¬ k0_cond4 i w = 1#1 := by
  unfold k0_cond5 k0_cond4
  generalize BitVec.ofNat 32 (i 0).val = a
  simp only [Scalar.cmpi, Scalar.extui, IntOp.cmpi, BitVec.sle_eq_not_slt]
  cases BitVec.slt a w <;> decide
theorem other_slot {v : BitVec 32} {s : Fin 2} (h : v.toNat = s.val) : (Scalar.subi 1#32 v).toNat = (1 - s : Fin 2).val := by
  obtain rfl : v = BitVec.ofNat 32 s.val := by
    apply BitVec.eq_of_toNat_eq
    rw [h, BitVec.toNat_ofNat]
    exact (Nat.mod_eq_of_lt (lt_trans s.isLt (by decide))).symm
  revert s
  decide

theorem body_spec {i : grid0.Coords} {j : Fin 88} (hj : i 0 = j) {xb : Memref sig .tc .vmem S256x1152 .f32} {hx : xb.IsWhole} {yb : Memref sig .tc .vmem S256x1024 .f32} {hy : yb.IsWhole}
    (X : S256x1152.Idx → Elt F .f32) (Y : S256x1024.Idx → Elt F .f32) :
    iprop(tabs c pv nv ∗ lanes c V pv P j.val ∗ (∃ W, owes (c : Thread nD τ) 0 W) ∗ owns (c : Thread nD τ) xb fullShare X ∗ owns (c : Thread nD τ) yb fullShare Y)
      ⊢ wp frame (wpE (defs₀ (F := F)) Variants.none c none) Set.univ (callB i xb hx yb hy) fun _ =>
        iprop(tabs c pv nv ∗ lanes c V pv P (j.val + 1) ∗ (∃ W, owes (c : Thread nD τ) 0 W) ∗ owns (c : Thread nD τ) xb fullShare X
          ∗ owns (c : Thread nD τ) yb fullShare (tileOut c V pv nv P j i X)) := by
  unfold callB
  rw [cc0_moe_experts_eq_skeleton]
  unfold cc0_moe_experts_skel
  refine step_word c pv nv 3 j (atTile hj 3) ?_
  lift_lets
  extract_lets a0 a1 a2 a3 jp
  set Q : PUnit → sProp 𝕄 := fun _ =>
        iprop(tabs c pv nv ∗ lanes c V pv P (j.val + 1) ∗ (∃ W, owes (c : Thread nD τ) 0 W) ∗ owns (c : Thread nD τ) xb fullShare X
          ∗ owns (c : Thread nD τ) yb fullShare (tileOut c V pv nv P j i X)) with hQ
  have hEnd : (Q ⟨⟩) ⊢ wp frame (wpE (defs₀ (F := F)) Variants.none c none) Set.univ (a0 ⟨⟩) Q := le_wp_ret _ _ _ _ _
  clear_value a0
  have hTail : iprop(tabs c pv nv ∗ lanes c V pv P (j.val + 1) ∗ (∃ W, owes (c : Thread nD τ) 0 W) ∗ owns (c : Thread nD τ) xb fullShare X
      ∗ owns (c : Thread nD τ) yb fullShare (if k0_cond4 i (nuWord c nv) = 1#1 then tileOut c V pv nv P j i X else Y))
      ⊢ wp frame (wpE (defs₀ (F := F)) Variants.none c none) Set.univ (a1 ⟨⟩) Q := by
    refine step_nu c pv nv rfl ?_
    refine step_if c (fun h => ?_) (fun h => ?_)
    · have h4 := (cond5_iff i _).1 h
      rw [if_neg h4]
      iintro ⟨HT, HL, HW, HX, HY⟩
      iapply (load_out c yb fullShare Y _) $$ HY
      iintro HY
      iapply (store_owned c yb Y k0_pay2) $$ HY
      iintro HY
      iapply hEnd
      rw [hQ, tileOut, if_neg h4]
      isplitl [HT]; · iexact HT
      isplitl [HL]; · iexact HL
      isplitl [HW]; · iexact HW
      isplitl [HX] <;> iassumption
    · have h4 : k0_cond4 i (nuWord c nv) = 1#1 := not_not.1 fun h' => h ((cond5_iff i _).2 h')
      rw [if_pos h4]
      exact hEnd
  clear_value a1
  have hUsed : iprop(tabs c pv nv ∗ lanes c V pv P (j.val + 1) ∗ (∃ W, owes (c : Thread nD τ) 0 W) ∗ owns (c : Thread nD τ) xb fullShare X
      ∗ owns (c : Thread nD τ) yb fullShare Y)
      ⊢ wp frame (wpE (defs₀ (F := F)) Variants.none c none) Set.univ (a2 ⟨⟩) Q := by
    refine step_nu c pv nv rfl ?_
    refine step_pass c (chk9_ok i _ (P.sl_eq j)) ?_
    refine step_if c (fun h => ?_) (fun h => ?_)
    · rw [if_pos h] at hTail
      rw [lanes_succ c V pv P j.val j.isLt] at hTail ⊢
      iintro ⟨HT, ⟨HF, HA⟩, HW, HX, HY⟩
      rw [wp_bind]
      iapply (part4_spec c V (P.sl_eq j) X) $$ [HX HF]
      · isplitl [HX]; · iexact HX
        iexact HF
      iintro ⟨HX, HF⟩
      unfold sFull kFull
      icases HF with ⟨⟨H1, H3, H2⟩, H1', H3', H2'⟩
      iapply (loadB c wb2 hw2 (V main_v2) 2 (P.sl j) 1 (P.hi j) (vec4 (P.sl_eq j) rfl)) $$ H2'
      iintro H2'
      iapply (load_out c yb fullShare Y _) $$ HY
      iintro HY
      iapply (store_owned c yb Y (mix c V X (P.lo j) (P.hi j))) $$ HY
      iintro HY
      iapply hTail
      rw [tileOut, if_pos h]
      unfold sFull kFull
      isplitl [HT]; · iexact HT
      isplitl [H1 H3 H2 H1' H3' H2' HA]
      · isplitr [HA]
        · isplitl [H1 H3 H2]
          · isplitl [H1]; · iexact H1
            isplitl [H3] <;> iassumption
          isplitl [H1']; · iexact H1'
          isplitl [H3'] <;> iassumption
        iexact HA
      isplitl [HW]; · iexact HW
      isplitl [HX] <;> iassumption
    · rw [if_neg h] at hTail
      exact hTail
  clear_value a2
  have hJ : iprop(tabs c pv nv ∗ midway c V pv P j ∗ (∃ W, owes (c : Thread nD τ) 0 W) ∗ owns (c : Thread nD τ) xb fullShare X ∗ owns (c : Thread nD τ) yb fullShare Y)
      ⊢ wp frame (wpE (defs₀ (F := F)) Variants.none c none) Set.univ (jp ⟨⟩) Q := by
    refine step_word c pv nv 2 j (atTile hj 2) ?_
    refine step_pass c (chk3_ok _ (P.sl_eq j)) ?_
    rw [lanes_succ c V pv P j.val j.isLt] at hUsed
    refine step_if c (fun h => ?_) (fun h => ?_)
    · unfold midway
      rw [if_pos h]
      unfold sFly
      iintro ⟨HT, ⟨⟨HF, HF'⟩, HA⟩, HW, HX, HY⟩
      unfold kFly
      icases HF' with ⟨H1, H3, H2⟩
      rw [wp_bind]
      iapply (part3_spec c V pv nv hj (P.sl_eq j) (P.lo_eq j) (chk5_ok _ (P.hi_eq j))) $$ [HT HF H1 HW]
      · isplitl [HT]; · iexact HT
        isplitl [HF]; · unfold kFly; iexact HF
        isplitl [H1]; · iexact H1
        iexact HW
      iintro ⟨HT, HF, H1, HW⟩
      iapply (waitA c wb3 hw3 (V main_v1) 1 (P.sl j) 1 (P.hi j) (vec4 (P.sl_eq j) rfl) (vec2 (P.sl_eq j) rfl)) $$ [H3 HW]
      · isplitl [H3] <;> iassumption
      iintro ⟨H3, HW⟩
      iapply (waitB c wb2 hw2 (V main_v2) 2 (P.sl j) 1 (P.hi j) (vec4 (P.sl_eq j) rfl) (vec2 (P.sl_eq j) rfl)) $$ [H2 HW]
      · isplitl [H2] <;> iassumption
      iintro ⟨H2, HW⟩
      iapply (load_word c pv nv 4 j (atTile hj 4)) $$ HT
      iintro HT
      have ht := other_slot (P.sl_eq j)
      iapply (pass c (chk6_ok _ _ ht))
      match hn : P.nx j with
      | none =>
        rw [hn] at hUsed
        iapply (skip c (P.nx_none j hn))
        iapply hUsed
        unfold sFull
        isplitl [HT]; · iexact HT
        isplitl [HF H1 H3 H2 HA]
        · isplitr [HA]
          · isplitl [HF]; · iexact HF
            unfold kFull
            isplitl [H1]; · iexact H1
            isplitl [H3] <;> iassumption
          unfold ahead
          iexact HA
        isplitl [HW]; · iexact HW
        isplitl [HX] <;> iassumption
      | some (a, b) =>
        obtain ⟨h3, ha, hb⟩ := P.nx_some j a b hn
        rw [hn] at hUsed
        iapply (take c h3)
        unfold sFree
        icases HA with ⟨HA, HA'⟩
        rw [wp_bind]
        iapply (part2_spec c V pv nv hj ht ha (chk8_ok _ _ hb)) $$ [HT HA]
        · isplitl [HT] <;> iassumption
        iintro ⟨HT, HA⟩
        unfold kFree
        icases HA' with ⟨G1, G3, G2⟩
        iapply (startA c wb1 hw1 (V main_v0) 0 (1 - P.sl j) 1 b (vec4 ht rfl) (vec3 hb) (vec2 ht rfl)) $$ G1
        iintro G1
        iapply (startA c wb3 hw3 (V main_v1) 1 (1 - P.sl j) 1 b (vec4 ht rfl) (vec3 hb) (vec2 ht rfl)) $$ G3
        iintro G3
        iapply (startB c wb2 hw2 (V main_v2) 2 (1 - P.sl j) 1 b (vec4 ht rfl) (vec3 hb) (vec2 ht rfl)) $$ G2
        iintro G2
        iapply hUsed
        unfold sFull ahead sFly
        isplitl [HT]; · iexact HT
        isplitl [HF H1 H3 H2 HA G1 G3 G2]
        · isplitr [HA G1 G3 G2]
          · isplitl [HF]; · iexact HF
            unfold kFull
            isplitl [H1]; · iexact H1
            isplitl [H3] <;> iassumption
          isplitl [HA]; · iexact HA
          unfold kFly
          isplitl [G1]; · iexact G1
          isplitl [G3] <;> iassumption
        isplitl [HW]; · iexact HW
        isplitl [HX] <;> iassumption
    · unfold midway
      rw [if_neg h]
      exact hUsed
  clear_value jp
  refine step_if c (fun h => ?_) (fun h => ?_)
  · have h0 : j.val = 0 := (cond1_iff hj).1 h
    obtain rfl : j = 0 := Fin.ext h0
    show iprop(tabs c pv nv ∗ lanes c V pv P 0 ∗ _) ⊢ _
    unfold lanes sFree
    iintro ⟨HT, ⟨⟨H0, H1⟩, HO⟩, HW, HX, HY⟩
    rw [wp_bind]
    iapply (part1_spec c V pv nv (P.lo_eq 0) (P.hi_eq 0) (chk2_ok i (P.hi_eq 0))) $$ [HT H0]
    · isplitl [HT] <;> iassumption
    iintro ⟨HT, H0⟩
    unfold kFree
    icases H1 with ⟨H1, H3, H2⟩
    iapply (startA c wb1 hw1 (V main_v0) 0 0 1 (P.hi 0) rfl (vec3 (P.hi_eq 0)) rfl) $$ H1
    iintro H1
    iapply (startA c wb3 hw3 (V main_v1) 1 0 1 (P.hi 0) rfl (vec3 (P.hi_eq 0)) rfl) $$ H3
    iintro H3
    iapply (startB c wb2 hw2 (V main_v2) 2 0 1 (P.hi 0) rfl (vec3 (P.hi_eq 0)) rfl) $$ H2
    iintro H2
    iapply hJ
    unfold midway
    rw [if_pos P.first0, P.sl0]
    isplitl [HT]; · iexact HT
    isplitl [H0 H1 H2 H3 HO]
    · isplitr [HO]
      · unfold sFly
        isplitl [H0]; · iexact H0
        unfold kFly
        isplitl [H1]; · iexact H1
        isplitl [H3] <;> iassumption
      unfold sFree
      iexact HO
    isplitl [HW]; · iexact HW
    isplitl [HX] <;> iassumption
  · refine BIBase.Entails.trans ?_ hJ
    iintro ⟨HT, HL, Hr⟩
    isplitl [HT]; · iexact HT
    isplitl [HL]
    · iapply (lanes_midway c V pv P j (fun h0 => h ((cond1_iff hj).2 h0))) $$ HL
    iexact Hr

end Body

end Cert.Kernel3Ideal.Moe
end
-- ==== Proof.LastSplit.lean ====
/- The scratch buffers, the weights and the semaphores of the call, cut into the twelve lanes and joined back. -/
module

public import proofs.«01_k».proof.Proof.LastBody

@[expose] public section

set_option maxRecDepth 16384

noncomputable section

namespace Cert.Kernel3Ideal.Moe

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## A buffer in four blocks -/

/-- Four element sets that tile a buffer. -/
structure Tile4 {I : Type} [DecidableEq I] [Fintype I] (A B C D : Finset I) : Prop where
  ab : Disjoint A B
  abc : Disjoint (A ∪ B) C
  abcd : Disjoint (A ∪ B ∪ C) D
  all : A ∪ B ∪ C ∪ D = Finset.univ

theorem tile4_split {ℓ : Loc nD τ sig} {A B C D : Finset (Idx ℓ)} (h : Tile4 A B C D) (f : Buf (Elt F) ℓ) :
    (ℓ ↦{fullShare} f : sProp 𝕄) ⊢ iprop((∃ f, ℓ ↦[A]{fullShare} f) ∗ (∃ f, ℓ ↦[B]{fullShare} f) ∗ (∃ f, ℓ ↦[C]{fullShare} f) ∗ ∃ f, ℓ ↦[D]{fullShare} f) := by
  rw [← h.all]
  iintro H
  ihave H1 := (pointsTo_union h.abcd).1 $$ H
  icases H1 with ⟨H1, HD⟩
  ihave H2 := (pointsTo_union h.abc).1 $$ H1
  icases H2 with ⟨H2, HC⟩
  ihave H3 := (pointsTo_union h.ab).1 $$ H2
  icases H3 with ⟨HA, HB⟩
  isplitl [HA]; · iexists f; iexact HA
  isplitl [HB]; · iexists f; iexact HB
  isplitl [HC]; · iexists f; iexact HC
  iexists f; iexact HD

theorem tile4_join {ℓ : Loc nD τ sig} {A B C D : Finset (Idx ℓ)} (h : Tile4 A B C D) :
    iprop((∃ f, ℓ ↦[A]{fullShare} f) ∗ (∃ f, ℓ ↦[B]{fullShare} f) ∗ (∃ f, ℓ ↦[C]{fullShare} f) ∗ ∃ f, ℓ ↦[D]{fullShare} f)
      ⊢ (iprop(∃ f : Buf (Elt F) ℓ, ℓ ↦{fullShare} f) : sProp 𝕄) := by
  iintro ⟨⟨%a, HA⟩, ⟨%b, HB⟩, ⟨%c, HC⟩, ⟨%d, HD⟩⟩
  ihave H1 := (pointsTo_join h.ab) $$ [HA HB]
  · isplitl [HA] <;> iassumption
  ihave H2 := (pointsTo_join h.abc) $$ [H1 HC]
  · isplitl [H1] <;> iassumption
  ihave H3 := (pointsTo_join h.abcd) $$ [H2 HD]
  · isplitl [H2] <;> iassumption
  rw [h.all]
  iexists _; iexact H3

/-- A tiling from the lane a position lies in. -/
theorem tile4_of {I : Type} [DecidableEq I] [Fintype I] (K : Fin 2 → Fin 2 → Finset I) (a b : I → ℕ) (ha : ∀ x, a x < 2) (hb : ∀ x, b x < 2)
    (h : ∀ s k x, x ∈ K s k ↔ (a x = s.val ∧ b x = k.val)) : Tile4 (K 0 0) (K 0 1) (K 1 0) (K 1 1) where
  ab := by
    rw [Finset.disjoint_left]; intro x hx hy
    have h1 := (h 0 0 x).1 hx; have h2 := (h 0 1 x).1 hy
    have := h1.2.symm.trans h2.2; exact absurd this (by decide)
  abc := by
    rw [Finset.disjoint_left]; intro x hx hy
    have h2 := (h 1 0 x).1 hy
    rcases Finset.mem_union.1 hx with hx | hx
    · have := ((h 0 0 x).1 hx).1.symm.trans h2.1; exact absurd this (by decide)
    · have := ((h 0 1 x).1 hx).1.symm.trans h2.1; exact absurd this (by decide)
  abcd := by
    rw [Finset.disjoint_left]; intro x hx hy
    have h2 := (h 1 1 x).1 hy
    rcases Finset.mem_union.1 hx with hx | hx
    · rcases Finset.mem_union.1 hx with hx | hx
      · have := ((h 0 0 x).1 hx).1.symm.trans h2.1; exact absurd this (by decide)
      · have := ((h 0 1 x).1 hx).1.symm.trans h2.1; exact absurd this (by decide)
    · have := ((h 1 0 x).1 hx).2.symm.trans h2.2; exact absurd this (by decide)
  all := by
    ext x
    simp only [Finset.mem_union, Finset.mem_univ, iff_true]
    have h1 := ha x; have h2 := hb x
    rcases Nat.lt_or_ge (a x) 1 with h3 | h3 <;> rcases Nat.lt_or_ge (b x) 1 with h4 | h4
    · exact .inl (.inl (.inl ((h 0 0 x).2 ⟨by show a x = 0; omega, by show b x = 0; omega⟩)))
    · exact .inl (.inl (.inr ((h 0 1 x).2 ⟨by show a x = 0; omega, by show b x = 1; omega⟩)))
    · exact .inl (.inr ((h 1 0 x).2 ⟨by show a x = 1; omega, by show b x = 0; omega⟩))
    · exact .inr ((h 1 1 x).2 ⟨by show a x = 1; omega, by show b x = 1; omega⟩)

theorem mem_unitA (s k : Fin 2) (x : S2x2x1024x512.Idx) :
    x ∈ (Rect.unit (s := S2x2x1024x512) (offD s k) S1x1x1024x512.size (inbDA s k)).set ↔ ((x 0).val = s.val ∧ (x 1).val = k.val) := by
  rw [Rect.mem_set_unit]
  constructor
  · intro h
    have h0 := h 0; have h1 := h 1
    change s.val ≤ (x 0).val ∧ (x 0).val < s.val + 1 at h0
    change k.val ≤ (x 1).val ∧ (x 1).val < k.val + 1 at h1
    omega
  · intro h a
    have h2 : (x 2).val < 1024 := (x 2).isLt
    have h3 : (x 3).val < 512 := (x 3).isLt
    fin_cases a
    · show s.val ≤ (x 0).val ∧ (x 0).val < s.val + 1; omega
    · show k.val ≤ (x 1).val ∧ (x 1).val < k.val + 1; omega
    · show 0 ≤ (x 2).val ∧ (x 2).val < 0 + 1024; omega
    · show 0 ≤ (x 3).val ∧ (x 3).val < 0 + 512; omega

theorem mem_unitB (s k : Fin 2) (x : S2x2x512x1024.Idx) :
    x ∈ (Rect.unit (s := S2x2x512x1024) (offD s k) S1x1x512x1024.size (inbDB s k)).set ↔ ((x 0).val = s.val ∧ (x 1).val = k.val) := by
  rw [Rect.mem_set_unit]
  constructor
  · intro h
    have h0 := h 0; have h1 := h 1
    change s.val ≤ (x 0).val ∧ (x 0).val < s.val + 1 at h0
    change k.val ≤ (x 1).val ∧ (x 1).val < k.val + 1 at h1
    omega
  · intro h a
    have h2 : (x 2).val < 512 := (x 2).isLt
    have h3 : (x 3).val < 1024 := (x 3).isLt
    fin_cases a
    · show s.val ≤ (x 0).val ∧ (x 0).val < s.val + 1; omega
    · show k.val ≤ (x 1).val ∧ (x 1).val < k.val + 1; omega
    · show 0 ≤ (x 2).val ∧ (x 2).val < 0 + 512; omega
    · show 0 ≤ (x 3).val ∧ (x 3).val < 0 + 1024; omega

theorem tiles0 : Tile4 (dA wb1 (offD 0 0) (inbDA 0 0)).view.set (dA wb1 (offD 0 1) (inbDA 0 1)).view.set (dA wb1 (offD 1 0) (inbDA 1 0)).view.set (dA wb1 (offD 1 1) (inbDA 1 1)).view.set :=
  tile4_of (fun s k => (dA wb1 (offD s k) (inbDA s k)).view.set) (fun x : S2x2x1024x512.Idx => (x 0).val) (fun x => (x 1).val)
    (fun x => (x 0).isLt) (fun x => (x 1).isLt) (fun s k x => by
      rw [← mem_unitA s k x]
      exact Eq.to_iff (congrArg (x ∈ ·) ((View.set_reshape _ _).trans (View.set_slice_whole _ _))))
theorem tiles1 : Tile4 (dA wb3 (offD 0 0) (inbDA 0 0)).view.set (dA wb3 (offD 0 1) (inbDA 0 1)).view.set (dA wb3 (offD 1 0) (inbDA 1 0)).view.set (dA wb3 (offD 1 1) (inbDA 1 1)).view.set :=
  tile4_of (fun s k => (dA wb3 (offD s k) (inbDA s k)).view.set) (fun x : S2x2x1024x512.Idx => (x 0).val) (fun x => (x 1).val)
    (fun x => (x 0).isLt) (fun x => (x 1).isLt) (fun s k x => by
      rw [← mem_unitA s k x]
      exact Eq.to_iff (congrArg (x ∈ ·) ((View.set_reshape _ _).trans (View.set_slice_whole _ _))))
theorem tiles2 : Tile4 (dB wb2 (offD 0 0) (inbDB 0 0)).view.set (dB wb2 (offD 0 1) (inbDB 0 1)).view.set (dB wb2 (offD 1 0) (inbDB 1 0)).view.set (dB wb2 (offD 1 1) (inbDB 1 1)).view.set :=
  tile4_of (fun s k => (dB wb2 (offD s k) (inbDB s k)).view.set) (fun x : S2x2x512x1024.Idx => (x 0).val) (fun x => (x 1).val)
    (fun x => (x 0).isLt) (fun x => (x 1).isLt) (fun s k x => by
      rw [← mem_unitB s k x]
      exact Eq.to_iff (congrArg (x ∈ ·) ((View.set_reshape _ _).trans (View.set_slice_whole _ _))))

/-! ## The weights in quarter shares -/

theorem quarters {ℓ : Loc nD τ sig} (f : Buf (Elt F) ℓ) :
    (ℓ ↦{fullShare} f : sProp 𝕄) ⊣⊢ iprop((ℓ ↦{qr 0 0} f) ∗ (ℓ ↦{qr 0 1} f) ∗ (ℓ ↦{qr 1 0} f) ∗ ℓ ↦{qr 1 1} f) := by
  constructor
  · iintro H
    ihave H1 := (pointsTo_share (PosShare.mem_left_op_right fullShare)).1 $$ H
    icases H1 with ⟨HL, HR⟩
    ihave HL' := (pointsTo_share (PosShare.mem_left_op_right fullShare.left)).1 $$ HL
    icases HL' with ⟨H00, H01⟩
    ihave HR' := (pointsTo_share (PosShare.mem_left_op_right fullShare.right)).1 $$ HR
    icases HR' with ⟨H10, H11⟩
    isplitl [H00]; · iexact H00
    isplitl [H01]; · iexact H01
    isplitl [H10]; · iexact H10
    iexact H11
  · iintro ⟨H00, H01, H10, H11⟩
    iapply (pointsTo_share (PosShare.mem_left_op_right fullShare)).2
    isplitl [H00 H01]
    · iapply (pointsTo_share (PosShare.mem_left_op_right fullShare.left)).2
      isplitl [H00]; · iexact H00
      iexact H01
    · iapply (pointsTo_share (PosShare.mem_left_op_right fullShare.right)).2
      isplitl [H10]; · iexact H10
      iexact H11

/-! ## The semaphores -/

abbrev osem0 : Fin 12 → SemLoc sig := fun j =>
  (![SemLoc.dma 4, SemLoc.dma 5, SemLoc.dma 6, SemLoc.dma 7, SemLoc.dma 8, SemLoc.dma 9,
    SemLoc.dma 10, SemLoc.dma 11, SemLoc.dma 12, SemLoc.dma 13, SemLoc.dma 14, SemLoc.dma 15] : Fin 12 → SemLoc sig) j
theorem ownSemFacts0 : Pipeline.OwnSemFacts spec0 osem0 := by decide

theorem cell_eq (s k : Fin 2) (j : Fin 3) :
    SemLoc.dma (cellAt (offC s k j) (inbC s k j)) = osem0 ⟨6 * s.val + 3 * k.val + j.val, by omega⟩ := by
  revert s k j; decide

/-- The cell of a lane at zero. -/
abbrev cellZ (c : Dev nD) (s k : Fin 2) (j : Fin 3) : sProp 𝕄 := semVal ((c : Thread nD τ), .dma (cellAt (offC s k j) (inbC s k j))) 0

theorem cellZ_eq (c : Dev nD) (s k : Fin 2) (j : Fin 3) :
    (cellZ c s k j : sProp 𝕄) = semVal ((c : Thread nD τ), osem0 ⟨6 * s.val + 3 * k.val + j.val, by omega⟩) 0 :=
  congrArg (fun l => (semVal ((c : Thread nD τ), l) 0 : sProp 𝕄)) (cell_eq s k j)

theorem ownSems00_eq (c : Dev nD) :
    (Pipeline.ownSems0 (Ix := Unit) (Name := ℕ) (U := Pipeline.UD sig nD τ) (Lvl := ℕ) (Val := Elt F) (τ := τ) osem0 c : sProp 𝕄)
      = iprop(cellZ c 0 0 0 ∗ cellZ c 0 0 1 ∗ cellZ c 0 0 2 ∗ cellZ c 0 1 0 ∗ cellZ c 0 1 1 ∗ cellZ c 0 1 2
          ∗ cellZ c 1 0 0 ∗ cellZ c 1 0 1 ∗ cellZ c 1 0 2 ∗ cellZ c 1 1 0 ∗ cellZ c 1 1 1 ∗ cellZ c 1 1 2) := by
  rw [cellZ_eq c 0 0 0, cellZ_eq c 0 0 1, cellZ_eq c 0 0 2, cellZ_eq c 0 1 0, cellZ_eq c 0 1 1, cellZ_eq c 0 1 2,
    cellZ_eq c 1 0 0, cellZ_eq c 1 0 1, cellZ_eq c 1 0 2, cellZ_eq c 1 1 0, cellZ_eq c 1 1 1, cellZ_eq c 1 1 2]
  rw [Pipeline.ownSems0_eq_of_list c osem0 [0, 1, 2, 3, 4, 5, 6, 7, 8, 9, 10, 11] (by decide) (by decide)]; rfl

/-! ## The operands left in the main memory -/

def H0 : Finset (Ref sig .tc) := {main_v0, main_v1, main_v2}
theorem H0_sub : H0 ⊆ Pipeline.restRefsP sig pre0 spec0 := by decide

theorem hbmPts0_eq (c : Dev nD) (V : (b : Ref sig .tc) → Buf (Elt F) ((c : Thread nD τ).loc b)) :
    (bigSep H0 (fun b => ((c : Thread nD τ).loc b) ↦{fullShare} V b) : sProp 𝕄)
      = iprop((((c : Thread nD τ).loc main_v0) ↦{fullShare} V main_v0) ∗ (((c : Thread nD τ).loc main_v1) ↦{fullShare} V main_v1)
          ∗ (((c : Thread nD τ).loc main_v2) ↦{fullShare} V main_v2)) := by
  rw [BI.bigSep_eq_bigSepL_of_eq [main_v0, main_v1, main_v2] (by decide) (by decide)]; rfl

/-! ## Into the lanes and back -/

section Joins

variable (c : Dev nD) (V : (b : Ref sig .tc) → Buf (Elt F) ((c : Thread nD τ).loc b))

/-- The three scratch buffers at any contents. -/
abbrev scratch : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

theorem into_lanes :
    iprop(scratch c ∗ Pipeline.ownSems0 (Ix := Unit) (Name := ℕ) (U := Pipeline.UD sig nD τ) (Lvl := ℕ) (Val := Elt F) (τ := τ) osem0 c
        ∗ bigSep H0 (fun b => ((c : Thread nD τ).loc b) ↦{fullShare} V b))
      ⊢ (iprop(sFree c V 0 ∗ sFree c V 1) : sProp 𝕄) := by
  rw [ownSems00_eq, hbmPts0_eq]
  unfold sFree kFree freeA freeB blockAny
  iintro ⟨⟨⟨%f0, HS0⟩, ⟨%f1, HS1⟩, ⟨%f2, HS2⟩⟩, ⟨Z0, Z1, Z2, Z3, Z4, Z5, Z6, Z7, Z8, Z9, Z10, Z11⟩, ⟨W0, W1, W2⟩⟩
  ihave HS0 := (tile4_split tiles0 f0) $$ HS0
  icases HS0 with ⟨A00, A01, A10, A11⟩
  ihave HS1 := (tile4_split tiles1 f1) $$ HS1
  icases HS1 with ⟨B00, B01, B10, B11⟩
  ihave HS2 := (tile4_split tiles2 f2) $$ HS2
  icases HS2 with ⟨C00, C01, C10, C11⟩
  ihave W0 := (quarters _).1 $$ W0
  icases W0 with ⟨P00, P01, P10, P11⟩
  ihave W1 := (quarters _).1 $$ W1
  icases W1 with ⟨Q00, Q01, Q10, Q11⟩
  ihave W2 := (quarters _).1 $$ W2
  icases W2 with ⟨R00, R01, R10, R11⟩
  isplitl [A00 A01 B00 B01 C00 C01 P00 P01 Q00 Q01 R00 R01 Z0 Z1 Z2 Z3 Z4 Z5]
  · isplitl [A00 B00 C00 P00 Q00 R00 Z0 Z1 Z2]
    · isplitl [A00 P00 Z0]
      · isplitl [A00]; · iexact A00
        isplitl [P00]; · iexact P00
        iexact Z0
      isplitl [B00 Q00 Z1]
      · isplitl [B00]; · iexact B00
        isplitl [Q00]; · iexact Q00
        iexact Z1
      isplitl [C00]; · iexact C00
      isplitl [R00]; · iexact R00
      iexact Z2
    · isplitl [A01 P01 Z3]
      · isplitl [A01]; · iexact A01
        isplitl [P01]; · iexact P01
        iexact Z3
      isplitl [B01 Q01 Z4]
      · isplitl [B01]; · iexact B01
        isplitl [Q01]; · iexact Q01
        iexact Z4
      isplitl [C01]; · iexact C01
      isplitl [R01]; · iexact R01
      iexact Z5
  · isplitl [A10 B10 C10 P10 Q10 R10 Z6 Z7 Z8]
    · isplitl [A10 P10 Z6]
      · isplitl [A10]; · iexact A10
        isplitl [P10]; · iexact P10
        iexact Z6
      isplitl [B10 Q10 Z7]
      · isplitl [B10]; · iexact B10
        isplitl [Q10]; · iexact Q10
        iexact Z7
      isplitl [C10]; · iexact C10
      isplitl [R10]; · iexact R10
      iexact Z8
    · isplitl [A11 P11 Z9]
      · isplitl [A11]; · iexact A11
        isplitl [P11]; · iexact P11
        iexact Z9
      isplitl [B11 Q11 Z10]
      · isplitl [B11]; · iexact B11
        isplitl [Q11]; · iexact Q11
        iexact Z10
      isplitl [C11]; · iexact C11
      isplitl [R11]; · iexact R11
      iexact Z11

theorem from_lanes :
    (iprop(sFree c V 0 ∗ sFree c V 1) : sProp 𝕄)
      ⊢ iprop(scratch c ∗ Pipeline.ownSems0 (Ix := Unit) (Name := ℕ) (U := Pipeline.UD sig nD τ) (Lvl := ℕ) (Val := Elt F) (τ := τ) osem0 c
        ∗ bigSep H0 (fun b => ((c : Thread nD τ).loc b) ↦{fullShare} V b)) := by
  rw [ownSems00_eq, hbmPts0_eq]
  unfold sFree kFree freeA freeB blockAny
  iintro ⟨⟨⟨⟨A00, P00, Z0⟩, ⟨B00, Q00, Z1⟩, ⟨C00, R00, Z2⟩⟩, ⟨⟨A01, P01, Z3⟩, ⟨B01, Q01, Z4⟩, ⟨C01, R01, Z5⟩⟩⟩,
    ⟨⟨⟨A10, P10, Z6⟩, ⟨B10, Q10, Z7⟩, ⟨C10, R10, Z8⟩⟩, ⟨⟨A11, P11, Z9⟩, ⟨B11, Q11, Z10⟩, ⟨C11, R11, Z11⟩⟩⟩⟩
  isplitl [A00 A01 A10 A11 B00 B01 B10 B11 C00 C01 C10 C11]
  · isplitl [A00 A01 A10 A11]
    · iapply (tile4_join tiles0)
      isplitl [A00]; · iexact A00
      isplitl [A01]; · iexact A01
      isplitl [A10]; · iexact A10
      iexact A11
    isplitl [B00 B01 B10 B11]
    · iapply (tile4_join tiles1)
      isplitl [B00]; · iexact B00
      isplitl [B01]; · iexact B01
      isplitl [B10]; · iexact B10
      iexact B11
    iapply (tile4_join tiles2)
    isplitl [C00]; · iexact C00
    isplitl [C01]; · iexact C01
    isplitl [C10]; · iexact C10
    iexact C11
  isplitl [Z0 Z1 Z2 Z3 Z4 Z5 Z6 Z7 Z8 Z9 Z10 Z11]
  · isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    isplitl [Z7]; · iexact Z7
    isplitl [Z8]; · iexact Z8
    isplitl [Z9]; · iexact Z9
    isplitl [Z10]; · iexact Z10
    iexact Z11
  isplitl [P00 P01 P10 P11]
  · iapply (quarters _).2
    isplitl [P00]; · iexact P00
    isplitl [P01]; · iexact P01
    isplitl [P10]; · iexact P10
    iexact P11
  isplitl [Q00 Q01 Q10 Q11]
  · iapply (quarters _).2
    isplitl [Q00]; · iexact Q00
    isplitl [Q01]; · iexact Q01
    isplitl [Q10]; · iexact Q10
    iexact Q11
  iapply (quarters _).2
  isplitl [R00]; · iexact R00
  isplitl [R01]; · iexact R01
  isplitl [R10]; · iexact R10
  iexact R11

end Joins

end Cert.Kernel3Ideal.Moe

end
-- ==== Proof.LastRun.lean ====
/- The run of the program: the host operations, then the call over its 88 tiles; every array it writes at its final contents. -/
module

public import proofs.«01_k».proof.Proof.LastSplit

@[expose] public section

set_option maxRecDepth 16384

noncomputable section

namespace Cert.Kernel3Ideal.Moe

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The host operations -/

/-- The host operations before the call, stretch by stretch. -/
abbrev hostOps : List (List (HloOp τ sig (Elt F))) :=
  [hostOps0, hostOps0_1, hostOps0_2, hostOps0_3, hostOps0_4, hostOps0_5, hostOps0_6, hostOps0_7, hostOps0_8, hostOps0_9, hostOps0_10, hostOps0_11]

/-- What the buffers hold when the call is reached. -/
@[irreducible] def V (c : Dev nD) (b : Ref sig .tc) : Buf (Elt F) ((c : Thread nD τ).loc b) :=
  StableHlo.after (hostOps (F := F)).flatten (fun b => m (c, b)) b

theorem hostOps_sub : (hostOps (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub,
    hostOps0_9_sub, hostOps0_10_sub, hostOps0_11_sub⟩

theorem hostOps_fresh : (hostOps (F := F)).Forall fun ops => ops.Forall fun op => op.fresh = ∅ := by
  refine ⟨?_, ?_, ?_, ?_, ?_, ?_, ?_, ?_, ?_, ?_, ?_, ?_⟩ <;> (simp only [List.Forall]; repeat' constructor)

theorem hmain : Pipeline.HMainP (Ix := Unit) (Name := ℕ) (U := Pipeline.UD sig nD τ) (Lvl := ℕ) pcfgs 0 defs₀ Variants.none m (main (F := F)) (V m) := by
  rw [show V m = fun (c : Dev nD) (b : Ref sig .tc) => StableHlo.after (hostOps (F := F)).flatten (fun b => m (c, b)) b from by funext c b; unfold V; rfl]
  exact Pipeline.hmainP_prefixes pcfgs 0 defs₀ Variants.none m main hostOps hostOps_sub hostOps_fresh (fun c => main_chain c)

/-! ## The tables -/

/-- What the two tables hold when the call is reached (one device). -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
theorem ok_tbl : ok0 (F := F) (tbl m) := trivial
abbrev adm (_ : Fin 1) : (pcfg0 (F := F)).Adm := ⟨tbl m, ok_tbl m⟩
abbrev cfgs (p : Fin 1) : Cfg sig Λ₀ := Pipeline.pin pcfgs (adm m) p
abbrev cfgM : Cfg sig Λ₀ := cfg0 (adm m 0)

theorem PhiT0_eq (c : Dev nD) : (Pipeline.ΦT pre0 (tbl m) c : sProp 𝕄) = tabs c (tbl m 0) (tbl m 1) := by
  unfold Pipeline.ΦT Pipeline.prefHeld
  rw [show (Finset.univ : Finset (Fin 2)) = insert (0 : Fin 2) {(1 : Fin 2)} from by decide, bigSep_insert (by decide), bigSep_singleton]
  rfl

/-! ## The proof data -/

/-- The words of the plan the host computes. -/
abbrev plan (c : Dev nD) : Fin 6 → Fin 88 → BitVec 32 := word (F := F) c (tbl m 0)

variable (P : ∀ c, PlanOK (plan m c))

abbrev ms0_0 (t : Fin (cfgM m).N) : Memref sig .tc .vmem S256x1152 .f32 := (win0 (adm m 0) 0).stage ((cfgM m).slots t 0)
abbrev ms0_1 (t : Fin (cfgM m).N) : Memref sig .tc .vmem S256x1024 .f32 := (win0 (adm m 0) 1).stage ((cfgM m).slots t 1)

/-- The tile of a grid point. -/
abbrev tileOf (i : grid0.Coords) : Fin 88 := i 0

/-- The block of rows a tile reads. -/
def rowsAt (c : Dev nD) (t : Fin (cfgM m).N) : S256x1152.Idx → Elt F .f32 :=
  ((win0 (adm m 0) 0).blk t).view.read (Elt F) (V m c main_arg1)

/-- The block of results a tile leaves. -/
def outAt (c : Dev nD) (t : Fin (cfgM m).N) : S256x1024.Idx → Elt F .f32 :=
  tileOut c (V m c) (tbl m 0) (tbl m 1) (P c) (tileOf (grid0.coords t)) (grid0.coords t) (rowsAt m c t)

def dats (p : Fin 1) (c : Dev nD) : Dat τ (Elt F) Unit ℕ (Pipeline.UD sig nD τ) ℕ (cfgs m p) c where
  A w := V m c (Pipeline.arrRef spec0 w)
  after w t := match w with
    | ⟨0, _⟩ => rowsAt m c t
    | ⟨1, _⟩ => outAt m P c t
  Φ t := iprop(tabs c (tbl m 0) (tbl m 1) ∗ (∃ r, prngReg c r) ∗ lanes c (V m c) (tbl m 0) (P c) t.val)
  q _ := fullShare
  owed _ := 0

theorem A_eq (c : Dev nD) (w : Fin 2) : (dats m P 0 c).A w = V m c (Pipeline.arrRef spec0 w) := by dsimp only [dats]
theorem after0_0 (c : Dev nD) (t : Fin (cfgM m).N) : (dats m P 0 c).after 0 t = rowsAt m c t := by dsimp only [dats]; rfl
theorem after0_1 (c : Dev nD) (t : Fin (cfgM m).N) : (dats m P 0 c).after 1 t = outAt m P c t := by dsimp only [dats]; rfl

theorem before0_0 (c : Dev nD) (t : Fin (cfgM m).N) (d) : (dats m P 0 c).before 0 t d = rowsAt m c t :=
  ((dats m P 0 c).before_in_eq_fetched 0 rfl (fun _ => rfl) (fun _ _ _ => rfl) (fun _ => rfl) t d).trans rfl

/-- A tile always leaves a block. -/
theorem live (i : grid0.Coords) : idle0 (F := F) (tbl m) 1 i = false := by
  show (!(k0_cond4 i ((tbl m).atD 1 ![0]) == 1#1) && !(k0_cond5 i ((tbl m).atD 1 ![0]) == 1#1)) = false
  by_cases h : k0_cond4 i ((tbl m).atD 1 ![0]) = 1#1
  · rw [h]; rfl
  · rw [(cond5_iff i _).2 h]; simp

theorem at_coords (t : Fin (cfgM m).N) : (grid0.coords t 0).val = t.val := by
  have h : t.val < 88 := Nat.lt_of_lt_of_eq t.isLt N_0
  rw [Pipeline.Grid.coords_val (G := grid0) t 0 (S := 1) (B := 88) (by decide) rfl]
  omega

def bodyPre (c : Dev nD) (t : Fin (cfgM m).N) : sProp 𝕄 :=
  iprop((dats m P 0 c).Φ t.castSucc ∗ (dats m P 0 c).owesAt () t.castSucc
    ∗ (∃ d, owns (c : Thread nD τ) (ms0_0 m t) fullShare ((dats m P 0 c).before 0 t d))
    ∗ (∃ d, owns (c : Thread nD τ) (ms0_1 m t) fullShare ((dats m P 0 c).before 1 t d)))
def bodyPost (c : Dev nD) (t : Fin (cfgM m).N) : sProp 𝕄 :=
  iprop((dats m P 0 c).Φ t.succ ∗ (dats m P 0 c).owesAt () t.succ
    ∗ owns (c : Thread nD τ) (ms0_0 m t) fullShare ((dats m P 0 c).after 0 t)
    ∗ owns (c : Thread nD τ) (ms0_1 m t) fullShare ((dats m P 0 c).after 1 t))

abbrev bodyAt0 (t : Fin (cfgM m).N) : Prog (TpuEff nD τ sig (Elt F) Λ₀ .tc) PUnit :=
  callB (F := F) (grid0.coords t) (ms0_0 m t) (hstage0_0 (((cfgM m).slots t 0).cast nbuf0_0)) (ms0_1 m t) (hstage0_1 (((cfgM m).slots t 1).cast nbuf0_1))

theorem sound_body (c : Dev nD) (t : Fin (cfgM m).N) :
    bodyPre m P c t ⊢ wp frame (wpE (defs₀ (F := F)) Variants.none c none) Set.univ (bodyAt0 m t) (fun _ => bodyPost m P c t) := by
  unfold bodyPre bodyPost bodyAt0
  rw [after0_0, after0_1]
  simp only [before0_0]
  rw [show (dats m P 0 c).Φ t.castSucc = iprop(tabs c (tbl m 0) (tbl m 1) ∗ (∃ r, prngReg c r) ∗ lanes c (V m c) (tbl m 0) (P c) t.val) from rfl,
    show (dats m P 0 c).Φ t.succ = iprop(tabs c (tbl m 0) (tbl m 1) ∗ (∃ r, prngReg c r) ∗ lanes c (V m c) (tbl m 0) (P c) (t.val + 1)) from rfl]
  unfold Dat.owesAt Pipeline.owesWithin
  rw [show (dats m P 0 c).owed t.castSucc = 0 from rfl, show (dats m P 0 c).owed t.succ = 0 from rfl]
  iintro ⟨⟨HT, HR, HL⟩, ⟨%W, -, HW⟩, ⟨%d0, HX⟩, ⟨%d1, HY⟩⟩
  iapply (wp_wand frame (wpE (defs₀ (F := F)) Variants.none (c : Thread nD τ) none) Set.univ) $$ [HT HL HW HX HY]
  · iapply (body_spec c (V m c) (tbl m 0) (tbl m 1) (P c) (i := grid0.coords t) (j := tileOf (grid0.coords t)) rfl (rowsAt m c t) ((dats m P 0 c).before 1 t d1))
    rw [at_coords m t]
    isplitl [HT]; · iexact HT
    isplitl [HL]; · iexact HL
    isplitl [HW]; · iexists W; iexact HW
    isplitl [HX]; · iexact HX
    iexact HY
  iintro %_ ⟨HT, HL, ⟨%W', HW'⟩, HX, HY⟩
  rw [at_coords m t]
  isplitl [HT HR HL]
  · isplitl [HT]; · iexact HT
    isplitl [HR]; · iexact HR
    iexact HL
  isplitl [HW']
  · iexists W'; isplitr; · ipureintro; exact fun _ _ => Or.inl trivial
    iexact HW'
  isplitl [HX]; · iexact HX
  unfold outAt
  iexact HY

theorem defs₀_row (t : Fin (cfgM m).N) :
    defs₀ (F := F) .tc (cfgM m).body ((cfgM m).bodyArgs t ((cfgM m).slots t)) = bodyAt0 m t := by
  unfold defs₀; rw [Defs.onTc_tc]

theorem body_obligation (c : Dev nD) : BodyObligation (dats m P 0 c) (defs₀ (F := F)) Variants.none () Set.univ := fun t => by
  rw [bigSep_W0, bigSep_W0, defs₀_row]
  refine triple_restated (sound_body m P c t) rfl .rfl fun _ => ?_
  unfold bodyPost
  refine BI.sep_mono_r (BI.sep_mono_r (BI.sep_mono_r ?_))
  dsimp only
  rw [show idle0 (F := F) (tbl m) 1 (((pcfgs (F := F) 0).gridAt (tbl m)).coords t) = false from live m _]
  exact Idealize.SL.BI.Entails.refl _

/-! ## Into the call and out of it -/

theorem enter (c : Dev nD) :
    iprop(iprop(scratch c ∗ (∃ r, prngReg c r)
        ∗ Pipeline.ownSems0 (Ix := Unit) (Name := ℕ) (U := Pipeline.UD sig nD τ) (Lvl := ℕ) (Val := Elt F) (τ := τ) osem0 c
        ∗ bigSep H0 (fun b => ((c : Thread nD τ).loc b) ↦{fullShare} V m c b)) ∗ Pipeline.ΦT pre0 (tbl m) c)
      ⊢ (iprop(tabs c (tbl m 0) (tbl m 1) ∗ (∃ r, prngReg c r) ∗ lanes c (V m c) (tbl m 0) (P c) 0) : sProp 𝕄) := by
  rw [PhiT0_eq]
  unfold lanes
  iintro ⟨⟨HS, HR, HZ, HH⟩, HT⟩
  isplitl [HT]; · iexact HT
  isplitl [HR]; · iexact HR
  iapply (into_lanes c (V m c))
  isplitl [HS]; · iexact HS
  isplitl [HZ]; · iexact HZ
  iexact HH

theorem leave (c : Dev nD) :
    (iprop(tabs c (tbl m 0) (tbl m 1) ∗ (∃ r, prngReg c r) ∗ lanes c (V m c) (tbl m 0) (P c) 88) : sProp 𝕄)
      ⊢ iprop(scratch c ∗ (∃ r, prngReg c r)
        ∗ Pipeline.ownSems0 (Ix := Unit) (Name := ℕ) (U := Pipeline.UD sig nD τ) (Lvl := ℕ) (Val := Elt F) (τ := τ) osem0 c
        ∗ bigSep H0 (fun b => ((c : Thread nD τ).loc b) ↦{fullShare} V m c b)) := by
  iintro ⟨-, HR, HL⟩
  ihave HL := (lanes_last c (V m c) (tbl m 0) (P c)) $$ HL
  ihave HL := (from_lanes c (V m c)) $$ HL
  icases HL with ⟨HS, HZ, HH⟩
  isplitl [HS]; · iexact HS
  isplitl [HR]; · iexact HR
  isplitl [HZ]; · iexact HZ
  iexact HH

set_option backward.isDefEq.respectTransparency.types false in
theorem run_main : θ_run defs (onTc (τ := τ) (main (F := F))) (s₀ m ρ) (fun r => Pipeline.FramePost (cfgs m) (dats m P) 0 (V m) r ∧ r.2.sem = fun _ => 0) :=
  Pipeline.θ_run_frameP_dma (Q' := _) pcfgs (adm m) (dats m P) (0 : Fin 1) launch0 osem0 defs₀ Variants.none ownSemFacts0 H0 H0_sub m ρ main
    (hbody := fun c => (body_obligation m P c).loose) (hshare := fun c => (dats m P 0 c).share_full fun _ => rfl)
    (howed := fun _ _ => rfl) (V := V m) (hmain := hmain m) (hA := A_eq m P) (hpf := V_pre m)
    (hin := fun c => by
      rw [Pipeline.ΦD_eq, scopedRest0_eq]
      exact enter m P c)
    (hout := fun c => by
      rw [Pipeline.ΦD_eq, scopedRest0_eq]
      exact leave m P c)

end Cert.Kernel3Ideal.Moe

end
-- ==== Proof.LastHost.lean ====
/- What the host operations before the call leave in the buffers the call reads, stretch by stretch, each word as a natural number. -/
module

public import proofs.«01_k».proof.Proof.LastRun
public import proofs.«01_k».proof.Proof.Plan
public import Idealize.ShloMosaic.Lib.StableHlo.RunRead
public import Idealize.ShloMosaic.Lib.Routing.OpsSearch
public import Idealize.ShloMosaic.Lib.Routing.Words
public import Idealize.ShloMosaic.Lib.PlanTiles.Rows
public import Idealize.ShloMosaic.Lib.Pointwise
public import Idealize.ShloMosaic.Lib.Pipeline.ValueKit.Tiles

@[expose] public section

set_option maxRecDepth 16384

noncomputable section

namespace Cert.Kernel3Ideal.Moe

open Cert.Moe
open Cert.Kernel3Ideal Cert.Kernel3Ideal.Gen
open Idealize.ShloMosaic.ValueIdx
open Idealize.ShloMosaic hiding ix0 ix1 ix2 ix3 eq_ix1 eq_ix2
open Idealize.ShloMosaic.TcCoe Idealize.ShloMosaic.StableHlo Idealize.ShloMosaic.WordCmp
open Idealize.ShloMosaic.Routing

variable {F : FTy → Type} [FloatOps F] (W : Valuation τ sig (Elt F))

/-- A word moved up by the table's length where it is negative: at a small natural it stays. -/
theorem wrap_ap (x : IVec (shape1 88) 32) (p : Fin 88) {k : ℕ} (hx : x (ix1 p) = BitVec.ofNat 32 k) (hk : k < 2 ^ 31) (c : BitVec 32)
    (hb : shape0.BroadcastsInDim (shape1 88) (![] : Fin 0 → Fin (shape1 88).rank))
    (hc : (shape1 88).BroadcastsInDim (shape2 88 1) (![0] : Fin 1 → Fin (shape2 88 1).rank)) :
    broadcastInDim (shape2 88 1) ![0] hc (select (cmpi .slt x (broadcastInDim (shape1 88) ![] hb (constantI shape0 32 0#32)))
      (addi x (broadcastInDim (shape1 88) ![] hb (constantI shape0 32 c))) x) (ix2 p (0 : Fin 1)) = BitVec.ofNat 32 k := by
  rw [bcCol, select_at, cmpi_at, bc0, constantI_at, hx, show (0#32 : BitVec 32) = BitVec.ofNat 32 0 from rfl, cmpi_slt_ofNat (w := 32) hk (by decide)]
  simp only [Nat.not_lt_zero, decide_false]
  rfl

theorem s0_v6 : after hostOps0 W main_v6 = (subi (addi (W main_arg0) (broadcastInDim S64 ![] bcast_S_S64 (constantI S_ 32 256#32))) (broadcastInDim S64 ![] bcast_S_S64 (constantI S_ 32 1#32)) : IVec S64 32) := by
  after_reads_simp
theorem s1_v7 : after hostOps0_1 W main_v7 = (pyDiv bcast_S_S64 (W main_v6 : IVec S64 32) (W main_c_3 : IVec S_ 32) : IVec S64 32) := by
  after_reads_simp
  simp only [TRef.toBuf, TRef.ofBuf, cast_eq, id]
  rfl
theorem s6_v38 : after hostOps0_6 W main_v38 = (pyRem bcast_S_S88 (W main_v37 : IVec S88 32) (W main_c_10 : IVec S_ 32) : IVec S88 32) := by
  after_reads_simp
  simp only [TRef.toBuf, TRef.ofBuf, cast_eq, id]
  rfl

theorem s2_v8 (f : ℕ → ℕ) (h7 : ∀ b : Fin 64, (W main_v7 : IVec S64 32) (ix1 b) = BitVec.ofNat 32 (f b.val)) (b : Fin 64) :
    (after hostOps0_2 W main_v8 : IVec S64 32) (ix1 b) = BitVec.ofNat 32 ((List.range (b.val + 1)).map f).sum := by
  after_reads_simp
  simp only [TRef.toBuf, TRef.ofBuf, cast_eq, id]
  exact cumsum1 (by rfl) _ f h7 _ (by rw [bc0]; rfl) _ _ b

theorem s4_v35 (f : ℕ → ℕ) (h34 : ∀ b : Fin 88, (W main_v34 : IVec S88 32) (ix1 b) = BitVec.ofNat 32 (f b.val)) (b : Fin 88) :
    (after hostOps0_4 W main_v35 : IVec S88 32) (ix1 b) = BitVec.ofNat 32 ((List.range (b.val + 1)).map f).sum := by
  after_reads_simp
  simp only [TRef.toBuf, TRef.ofBuf, cast_eq, id]
  exact cumsum1 (by rfl) _ f h34 _ (by rw [bc0]; rfl) _ _ b

/-- The number of tiles in use: the last bucket's end. -/
def nUsed (x : IVec S64 32) : IVec S_ 32 := fun i => shapeCast S_ (extractStridedSlice S1 ![63] x slices_S64_S1_63) shapeCasts_S1_S_ i
/-- The tiles' buckets: how many buckets end at or before the tile. -/
def tileB (x : IVec S64 32) : IVec S88 32 :=
  Host.reduce IntOp.addi
    (extui 32
      (cmpi .sle (broadcastInDim S88x64 ![0, 1] bcast_S1x64_S88x64_0_1 (broadcastInDim S1x64 ![1] bcast_S64_S1x64_1 x))
        (broadcastInDim S88x64 ![0, 1] bcast_S88x1_S88x64_0_1 (broadcastInDim S88x1 ![0] bcast_S88_S88x1_0
          (minsi (iotaInDim S88 32 0) (broadcastInDim S88 ![] bcast_S_S88 (subi (nUsed x) (constantI S_ 32 1#32)))))))
      natLt_1_32)
    (constantI S_ 32 0#32) reducesTo_S88x64_S88_d1 h_S_
/-- The buckets one tile later, `-1` in front. -/
def prevB (x : IVec S88 32) : IVec S88 32 :=
  concatenate S88 0 [⟨S1, (broadcastInDim S1 ![] bcast_S_S1 (constantI S_ 32 4294967295#32) : IVec S1 32)⟩, ⟨S87, extractStridedSlice S87 ![0] x slices_S88_S87_0⟩]
    concatenates_S1_S87_S88_d0
/-- The tiles that begin a bucket. -/
def firstB (x : IVec S64 32) : IVec S88 1 :=
  andi (cmpi .ne (tileB x) (prevB (tileB x))) (cmpi .slt (iotaInDim S88 32 0) (broadcastInDim S88 ![] bcast_S_S88 (nUsed x)))

theorem s3_v10 : after hostOps0_3 W main_v10 = (nUsed (W main_v8) : IVec S_ 32) := by
  after_reads_simp <;> rfl
theorem s3_v21 : after hostOps0_3 W main_v21 = (tileB (W main_v8) : IVec S88 32) := by
  after_reads_simp
  rfl
theorem s3_v27 : upto hostOps0_3 W 25 main_v27 = (broadcastInDim S1 ![] bcast_S_S1 (constantI S_ 32 4294967295#32) : IVec S1 32) := by
  after_reads_simp
theorem s3_v28 : upto hostOps0_3 W 25 main_v28 = (extractStridedSlice S87 ![0] (tileB (W main_v8)) slices_S88_S87_0 : IVec S87 32) := by
  after_reads_simp
  rfl
theorem s3_v33 : after hostOps0_3 W main_v33 = (firstB (W main_v8) : IVec S88 1) := by
  after_reads_simp
  rw [s3_v27, s3_v28]
  rfl
theorem s3_v34 : after hostOps0_3 W main_v34 = (extui 32 (firstB (W main_v8)) natLt_1_32 : IVec S88 32) := by
  after_reads_simp
  rw [s3_v27, s3_v28]
  rfl
theorem s3_v23 : after hostOps0_3 W main_v23 = (addi (W main_c) (broadcastInDim S64 ![] bcast_S_S64 (constantI S_ 32 16#32)) : IVec S64 32) := by
  after_reads_simp
theorem s3_v25 : after hostOps0_3 W main_v25 = (addi (W main_c_0) (broadcastInDim S64 ![] bcast_S_S64 (constantI S_ 32 16#32)) : IVec S64 32) := by
  after_reads_simp
theorem s5_v37 : after hostOps0_5 W main_v37 = (subi (W main_v35) (broadcastInDim S88 ![] bcast_S_S88 (constantI S_ 32 1#32)) : IVec S88 32) := by
  after_reads_simp
theorem s5_c_10 : after hostOps0_5 W main_c_10 = (constantI S_ 32 2#32 : IVec S_ 32) := by
  after_reads_simp

section S3
variable {cn : ℕ → ℕ} (H : Bnd 88 cn) (x : IVec S64 32) (h8 : ∀ b : Fin 64, x (ix1 b) = BitVec.ofNat 32 (en cn b.val))
include H h8

theorem nUsed_ap (i : S_.Idx) : nUsed x i = BitVec.ofNat 32 (nn cn) := by
  unfold nUsed
  rw [shapeCast_apply _ _ i (ix1 (0 : Fin 1)) (by rw [Shape.rowMajor_val_one]; rfl)]
  rw [slice1 63 x _ (0 : Fin 1) (by decide), h8]
  rfl

theorem tileB_ap (j : Fin 88) : tileB x (ix1 j) = BitVec.ofNat 32 (bk cn j.val) := by
  have h1 := H.one
  have h2 := H.top
  refine reduce_count (by decide) _ _ _ _ j (fun b => en cn b ≤ jc cn j.val) (fun q => ?_)
  have hq := en_le H q.isLt
  have hj := j.isLt
  rw [cmpi_at, bcCols, bcRows, h8]
  rw [show ∀ y : IVec S88 32, minsi (iotaInDim S88 32 0) y (ix1 j) = IntOp.minsi (BitVec.ofNat 32 j.val) (y (ix1 j)) from fun _ => rfl]
  rw [bc0, subi_ap, nUsed_ap H x h8, constantI_at, show (1#32 : BitVec 32) = BitVec.ofNat 32 1 from rfl, ofNat32_sub h1, PlanTiles.minsi_word (by omega) (by omega), Nat.min_comm]
  rw [cmpi_sle_ofNat (w := 32) (by omega) (by omega), ofBool_decide_eq_one_iff]
  rfl

theorem prevB_zero : prevB (tileB x) (ix1 (0 : Fin 88)) = -1#32 := by
  unfold prevB
  rw [concatenate_pair_apply]
  rfl
theorem prevB_succ (j : Fin 88) (i : ℕ) (h : j.val = i + 1) : prevB (tileB x) (ix1 j) = BitVec.ofNat 32 (bk cn i) := by
  unfold prevB
  rw [concatenate_pair_apply]
  have hj := j.isLt
  rw [dif_neg (by show ¬ j.val < 1; omega)]
  refine (congrArg (extractStridedSlice S87 ![0] (tileB x) slices_S88_S87_0) (show _ = ix1 (⟨i, by omega⟩ : Fin 87) from ?_)).trans ?_
  · funext d
    match d with
    | ⟨0, _⟩ => exact Fin.ext (by show j.val - 1 = i; omega)
  · rw [slice1 0 _ _ _ (by show 0 + i < 88; omega), tileB_ap H x h8]
    simp

theorem firstB_ap (j : Fin 88) : firstB x (ix1 j) = BitVec.ofBool (decide (fs cn j.val)) := by
  have h2 := H.top
  have hj := j.isLt
  unfold firstB fs
  rw [andi_at, cmpi_at, cmpi_at, bc0, nUsed_ap H x h8, tileB_ap H x h8]
  rw [show iotaInDim S88 32 0 (ix1 j) = BitVec.ofNat 32 j.val from rfl, cmpi_slt_ofNat (w := 32) (by omega) (by omega)]
  rcases h : j.val with _ | i
  · obtain rfl : j = 0 := Fin.ext h
    rw [prevB_zero H x h8, cmpi_ne_eq, andi_ofBool, decide_eq_true (p := _ ≠ _)]
    · simp
    · intro e
      have := congrArg BitVec.toNat e
      have hb := bk_lt H 0
      rw [toNat_ofNat_of_lt (by show bk cn 0 < _; omega)] at this
      rw [show (-1#32 : BitVec 32).toNat = 4294967295 from rfl] at this
      omega
  · have hb := bk_lt H (i + 1)
    have hb' := bk_lt H i
    rw [prevB_succ H x h8 j i h, cmpi_ne_ofNat (by omega) (by omega), andi_ofBool]
    simp
end S3

section S7
variable {cn : ℕ → ℕ} (H : Bnd 88 cn) (h8 : ∀ b : Fin 64, (W main_v8 : IVec S64 32) (ix1 b) = BitVec.ofNat 32 (en cn b.val))
  (h10 : ∀ i, (W main_v10 : IVec S_ 32) i = BitVec.ofNat 32 (nn cn))
  (h21 : ∀ j : Fin 88, (W main_v21 : IVec S88 32) (ix1 j) = BitVec.ofNat 32 (bk cn j.val))
include H h8 h10 h21

theorem s7_v45 (j : Fin 88) : (after hostOps0_7 W main_v45 : IVec S88 32) (ix1 j) = BitVec.ofNat 32 (en cn (bk cn j.val)) := by
  have hk := bk_lt H j.val
  after_reads_simp
  exact (take_ap _ rfl rfl rfl rfl _ _ j hk (by omega) (wrap_ap _ j (h21 j) (by omega) _ _ _)).trans (h8 _)

theorem s7_v47 (j : Fin 88) : (after hostOps0_7 W main_v47 : IVec S88 1) (ix1 j) = BitVec.ofBool (decide (en cn (bk cn j.val) < nn cn)) := by
  have hk := bk_lt H j.val
  have he := en_le H hk
  have h2 := H.top
  have e : after hostOps0_7 W main_v47 = (cmpi .slt (after hostOps0_7 W main_v45 : IVec S88 32) (broadcastInDim S88 ![] bcast_S_S88 (W main_v10 : IVec S_ 32)) : IVec S88 1) := by
    after_reads_simp
  rw [e, cmpi_at, s7_v45 W H h8 h10 h21, bc0, h10]
  exact cmpi_slt_ofNat (w := 32) (by omega) (by omega)

theorem s7_v56 (j : Fin 88) : (after hostOps0_7 W main_v56 : IVec S88 32) (ix1 j) = BitVec.ofNat 32 (bk cn (qn 88 cn j.val)) := by
  have hk := bk_lt H j.val
  have he := en_le H hk
  have hq : qn 88 cn j.val < 88 := by unfold qn; omega
  after_reads_simp
  refine (take_ap _ rfl rfl rfl rfl _ _ j hq (by omega) (wrap_ap _ j ?_ (by omega) _ _ _)).trans (h21 _)
  rw [show ∀ y z : IVec S88 32, minsi y z (ix1 j) = IntOp.minsi (y (ix1 j)) (z (ix1 j)) from fun _ _ => rfl, bc0, constantI_at]
  rw [(take_ap _ rfl rfl rfl rfl _ _ j hk (by omega) (wrap_ap _ j (h21 j) (by omega) _ _ _)).trans (h8 _)]
  rw [show (87#32 : BitVec 32) = BitVec.ofNat 32 87 from rfl, PlanTiles.minsi_word (by show en cn (bk cn j.val) < _; omega) (by omega), Nat.min_comm]
  rfl

theorem s7_v63 (j : Fin 88) : (after hostOps0_7 W main_v63 : IVec S88 32) (ix1 j) = (W main_v23 : IVec S64 32) (ix1 ⟨bk cn j.val, bk_lt H _⟩) := by
  have hk := bk_lt H j.val
  after_reads_simp
  exact take_ap _ rfl rfl rfl rfl _ _ j hk (by omega) (wrap_ap _ j (h21 j) (by omega) _ _ _)

theorem s7_v70 (j : Fin 88) : (after hostOps0_7 W main_v70 : IVec S88 32) (ix1 j) = (W main_v25 : IVec S64 32) (ix1 ⟨bk cn j.val, bk_lt H _⟩) := by
  have hk := bk_lt H j.val
  after_reads_simp
  exact take_ap _ rfl rfl rfl rfl _ _ j hk (by omega) (wrap_ap _ j (h21 j) (by omega) _ _ _)

theorem s7_v78 (j : Fin 88) : (after hostOps0_7 W main_v78 : IVec S88 32) (ix1 j) = (W main_v23 : IVec S64 32) (ix1 ⟨bk cn (qn 88 cn j.val), bk_lt H _⟩) := by
  have hk := bk_lt H (qn 88 cn j.val)
  have h56 := s7_v56 W H h8 h10 h21 j
  have e : after hostOps0_7 W main_v56 = upto hostOps0_7 W 23 main_v56 := by after_reads_simp
  rw [e] at h56
  rw [show after hostOps0_7 W main_v78 = Host.gather gather_S64_S88x1_S88_n_0_n_n_0_1_1 (W main_v23 : IVec S64 32)
    (broadcastInDim S88x1 ![0] bcast_S88_S88x1_0 (select (cmpi .slt (upto hostOps0_7 W 23 main_v56 : IVec S88 32) (broadcastInDim S88 ![] bcast_S_S88 (constantI S_ 32 0#32)))
      (addi (upto hostOps0_7 W 23 main_v56 : IVec S88 32) (broadcastInDim S88 ![] bcast_S_S88 (constantI S_ 32 64#32))) (upto hostOps0_7 W 23 main_v56 : IVec S88 32))) from by after_reads_simp]
  exact take_ap _ rfl rfl rfl rfl _ _ j hk (by omega) (wrap_ap _ j h56 (by omega) _ _ _)
end S7

theorem s7_v71 : after hostOps0_7 W main_v71 = (extui 32 (W main_v33 : IVec S88 1) natLt_1_32 : IVec S88 32) := by
  after_reads_simp
theorem s7_c_22 : after hostOps0_7 W main_c_22 = (constantI S_ 32 4294967295#32 : IVec S_ 32) := by
  after_reads_simp
theorem s8_v79 : after hostOps0_8 W main_v79 = (select (W main_v47 : IVec S88 1) (W main_v78 : IVec S88 32) (broadcastInDim S88 ![] bcast_S_S88 (W main_c_22 : IVec S_ 32)) : IVec S88 32) := by
  after_reads_simp
  simp only [TRef.toBuf, TRef.ofBuf, cast_eq, id]
theorem s9_v86 (j : Fin 88) {k : ℕ} (hk : k < 64) (h56 : (W main_v56 : IVec S88 32) (ix1 j) = BitVec.ofNat 32 k) :
    (after hostOps0_9 W main_v86 : IVec S88 32) (ix1 j) = (W main_v25 : IVec S64 32) (ix1 ⟨k, hk⟩) := by
  after_reads_simp
  exact take_ap _ rfl rfl rfl rfl _ _ j hk (by omega) (wrap_ap _ j h56 (by omega) _ _ _)
theorem s9_c_25 : after hostOps0_9 W main_c_25 = (constantI S_ 32 4294967295#32 : IVec S_ 32) := by
  after_reads_simp
theorem s10_v87 : after hostOps0_10 W main_v87 = (select (W main_v47 : IVec S88 1) (W main_v86 : IVec S88 32) (broadcastInDim S88 ![] bcast_S_S88 (W main_c_25 : IVec S_ 32)) : IVec S88 32) := by
  after_reads_simp
  simp only [TRef.toBuf, TRef.ofBuf, cast_eq, id]
theorem s11_v95 (i : S1.Idx) : (after hostOps0_11 W main_v95 : IVec S1 32) i = (W main_v10 : IVec S_ 32) ValueIdx.ix0 := by
  after_reads_simp
  refine shapeCast_apply _ _ i _ ?_
  obtain rfl : i = ix1 0 := by
    funext d
    match d with
    | ⟨0, _⟩ => exact Subsingleton.elim (α := Fin 1) _ _
  rw [Shape.rowMajor_val_one]
  rfl
theorem s11_v88 : upto hostOps0_11 W 6 main_v88 = (broadcastInDim S1x88 ![1] bcast_S88_S1x88_1 (W main_v63 : IVec S88 32) : IVec S1x88 32) := by
  after_reads_simp
theorem s11_v89 : upto hostOps0_11 W 6 main_v89 = (broadcastInDim S1x88 ![1] bcast_S88_S1x88_1 (W main_v70 : IVec S88 32) : IVec S1x88 32) := by
  after_reads_simp
theorem s11_v90 : upto hostOps0_11 W 6 main_v90 = (broadcastInDim S1x88 ![1] bcast_S88_S1x88_1 (W main_v71 : IVec S88 32) : IVec S1x88 32) := by
  after_reads_simp
theorem s11_v91 : upto hostOps0_11 W 6 main_v91 = (broadcastInDim S1x88 ![1] bcast_S88_S1x88_1 (W main_v38 : IVec S88 32) : IVec S1x88 32) := by
  after_reads_simp
theorem s11_v92 : upto hostOps0_11 W 6 main_v92 = (broadcastInDim S1x88 ![1] bcast_S88_S1x88_1 (W main_v79 : IVec S88 32) : IVec S1x88 32) := by
  after_reads_simp
theorem s11_v93 : upto hostOps0_11 W 6 main_v93 = (broadcastInDim S1x88 ![1] bcast_S88_S1x88_1 (W main_v87 : IVec S88 32) : IVec S1x88 32) := by
  after_reads_simp
theorem row_ap (x : IVec S88 32) (i : S1x88.Idx) (j : Fin 88) (h : (i 1).val = j.val) : broadcastInDim S1x88 ![1] bcast_S88_S1x88_1 x i = x (ix1 j) :=
  broadcastInDim_apply _ _ _ _ _ fun a => by
    match a with
    | ⟨0, _⟩ => exact h.symm
theorem s11_v94 (r : Fin 6) (j : Fin 88) : (after hostOps0_11 W main_v94 : IVec S6x88 32) (ix2 r j)
    = (![(W main_v63 : IVec S88 32), W main_v70, W main_v71, W main_v38, W main_v79, W main_v87] r : IVec S88 32) (ix1 j) := by
  rw [after_last_write (ops := hostOps0_11) (i := 6) [main_v95] rfl rfl (by decide) W, nary_result]
  refine concatenate_ofFn_unit_eq (t := S6x88) (s₁ := S1x88) (N := 6) 0 (fun n => ![upto hostOps0_11 W 6 main_v88, upto hostOps0_11 W 6 main_v89, upto hostOps0_11 W 6 main_v90, upto hostOps0_11 W 6 main_v91, upto hostOps0_11 W 6 main_v92, upto hostOps0_11 W 6 main_v93] n) _ _ _ rfl rfl ?_
  intro n i hn _ hb
  obtain rfl : n = r := Fin.ext hn.symm
  have hj : (i 1).val = j.val := hb 1 (by decide)
  rw [s11_v88, s11_v89, s11_v90, s11_v91, s11_v92, s11_v93]
  match n with
  | 0 => exact row_ap _ i j hj
  | 1 => exact row_ap _ i j hj
  | 2 => exact row_ap _ i j hj
  | 3 => exact row_ap _ i j hj
  | 4 => exact row_ap _ i j hj
  | 5 => exact row_ap _ i j hj

end Cert.Kernel3Ideal.Moe
-- ==== Proof.LastTables.lean ====
/- The two tables the call reads, word by word, from the counts; and that they make a plan the body can follow. -/
module

public import proofs.«01_k».proof.Proof.LastHost

@[expose] public section

set_option maxRecDepth 16384

noncomputable section

namespace Cert.Kernel3Ideal.Moe

open Cert.Moe
open Cert.Kernel3Ideal Cert.Kernel3Ideal.Gen
open Idealize.ShloMosaic.ValueIdx
open Idealize.ShloMosaic hiding ix0 ix1 ix2 ix3 eq_ix1 eq_ix2
open Idealize.ShloMosaic.TcCoe Idealize.ShloMosaic.StableHlo Idealize.ShloMosaic.WordCmp
open Idealize.ShloMosaic.Routing

variable {F : FTy → Type} [FloatOps F] (m : (ℓ : Loc nD τ sig) → Buf (Elt F) ℓ) (c : Dev nD)

/-- The contents after the first stretches of host operations. -/
@[irreducible] def u0 : Valuation τ sig (Elt F) := fun b => m (c, b)
@[irreducible] def u1 : Valuation τ sig (Elt F) := after hostOps0 (u0 m c)
@[irreducible] def u2 : Valuation τ sig (Elt F) := after hostOps0_1 (u1 m c)
@[irreducible] def u3 : Valuation τ sig (Elt F) := after hostOps0_2 (u2 m c)
@[irreducible] def u4 : Valuation τ sig (Elt F) := after hostOps0_3 (u3 m c)
@[irreducible] def u5 : Valuation τ sig (Elt F) := after hostOps0_4 (u4 m c)
@[irreducible] def u6 : Valuation τ sig (Elt F) := after hostOps0_5 (u5 m c)
@[irreducible] def u7 : Valuation τ sig (Elt F) := after hostOps0_6 (u6 m c)
@[irreducible] def u8 : Valuation τ sig (Elt F) := after hostOps0_7 (u7 m c)
@[irreducible] def u9 : Valuation τ sig (Elt F) := after hostOps0_8 (u8 m c)
@[irreducible] def u10 : Valuation τ sig (Elt F) := after hostOps0_9 (u9 m c)
@[irreducible] def u11 : Valuation τ sig (Elt F) := after hostOps0_10 (u10 m c)
@[irreducible] def u12 : Valuation τ sig (Elt F) := after hostOps0_11 (u11 m c)

theorem V_eq (b : Ref sig .tc) : V m c b = u12 m c b := by
  unfold V u12 u11 u10 u9 u8 u7 u6 u5 u4 u3 u2 u1 u0
  simp only [hostOps, List.flatten_cons, List.flatten_nil, List.append_nil, after_append]

/-! ## Buffers a stretch leaves alone -/

theorem keep_v8_7 : u7 m c main_v8 = u3 m c main_v8 := by
  unfold u7 u6 u5 u4; after_reads_simp
theorem keep_v10_7 : u7 m c main_v10 = u4 m c main_v10 := by
  unfold u7 u6 u5; after_reads_simp
theorem keep_v10_11 : u11 m c main_v10 = u4 m c main_v10 := by
  unfold u11 u10 u9 u8 u7 u6 u5; after_reads_simp
theorem keep_v21_7 : u7 m c main_v21 = u4 m c main_v21 := by
  unfold u7 u6 u5; after_reads_simp
theorem keep_v23_7 : u7 m c main_v23 = u4 m c main_v23 := by
  unfold u7 u6 u5; after_reads_simp
theorem keep_v25_7 : u7 m c main_v25 = u4 m c main_v25 := by
  unfold u7 u6 u5; after_reads_simp
theorem keep_v25_9 : u9 m c main_v25 = u4 m c main_v25 := by
  unfold u9 u8 u7 u6 u5; after_reads_simp
theorem keep_v33_7 : u7 m c main_v33 = u4 m c main_v33 := by
  unfold u7 u6 u5; after_reads_simp
theorem keep_v38_11 : u11 m c main_v38 = u7 m c main_v38 := by
  unfold u11 u10 u9 u8; after_reads_simp
theorem keep_v47_10 : u10 m c main_v47 = u8 m c main_v47 := by
  unfold u10 u9; after_reads_simp
theorem keep_v56_9 : u9 m c main_v56 = u8 m c main_v56 := by
  unfold u9; after_reads_simp
theorem keep_v63_11 : u11 m c main_v63 = u8 m c main_v63 := by
  unfold u11 u10 u9; after_reads_simp
theorem keep_v70_11 : u11 m c main_v70 = u8 m c main_v70 := by
  unfold u11 u10 u9; after_reads_simp
theorem keep_v71_11 : u11 m c main_v71 = u8 m c main_v71 := by
  unfold u11 u10 u9; after_reads_simp
theorem keep_v79_11 : u11 m c main_v79 = u9 m c main_v79 := by
  unfold u11 u10; after_reads_simp
theorem keep_c_3 : u3 m c main_c = u1 m c main_c := by
  unfold u3 u2; after_reads_simp
theorem keep_c_0_3 : u3 m c main_c_0 = u1 m c main_c_0 := by
  unfold u3 u2; after_reads_simp
theorem keep_v0_12 : u12 m c main_v0 = u1 m c main_v0 := by
  unfold u12 u11 u10 u9 u8 u7 u6 u5 u4 u3 u2; after_reads_simp
theorem keep_v1_12 : u12 m c main_v1 = u1 m c main_v1 := by
  unfold u12 u11 u10 u9 u8 u7 u6 u5 u4 u3 u2; after_reads_simp
theorem keep_v2_12 : u12 m c main_v2 = u1 m c main_v2 := by
  unfold u12 u11 u10 u9 u8 u7 u6 u5 u4 u3 u2; after_reads_simp
theorem keep_arg0_12 : u12 m c main_arg0 = u0 m c main_arg0 := by
  unfold u12 u11 u10 u9 u8 u7 u6 u5 u4 u3 u2 u1; after_reads_simp
theorem keep_arg1_12 : u12 m c main_arg1 = u0 m c main_arg1 := by
  unfold u12 u11 u10 u9 u8 u7 u6 u5 u4 u3 u2 u1; after_reads_simp
theorem keep_arg2_12 : u12 m c main_arg2 = u0 m c main_arg2 := by
  unfold u12 u11 u10 u9 u8 u7 u6 u5 u4 u3 u2 u1; after_reads_simp
theorem keep_arg3_12 : u12 m c main_arg3 = u0 m c main_arg3 := by
  unfold u12 u11 u10 u9 u8 u7 u6 u5 u4 u3 u2 u1; after_reads_simp
theorem keep_arg4_12 : u12 m c main_arg4 = u0 m c main_arg4 := by
  unfold u12 u11 u10 u9 u8 u7 u6 u5 u4 u3 u2 u1; after_reads_simp

/-! ## What the host leaves -/

theorem u1_v0 : u1 m c main_v0 = (shapeCast S32x1024x512 (u0 m c main_arg2 : FVec F S2x16x1024x512 .f32) shapeCasts_S2x16x1024x512_S32x1024x512 : FVec F S32x1024x512 .f32) := by
  unfold u1; after_reads_simp <;> rfl
theorem u1_v1 : u1 m c main_v1 = (shapeCast S32x1024x512 (u0 m c main_arg3 : FVec F S2x16x1024x512 .f32) shapeCasts_S2x16x1024x512_S32x1024x512 : FVec F S32x1024x512 .f32) := by
  unfold u1; after_reads_simp <;> rfl
theorem u1_v2 : u1 m c main_v2 = (shapeCast S32x512x1024 (u0 m c main_arg4 : FVec F S2x16x512x1024 .f32) shapeCasts_S2x16x512x1024_S32x512x1024 : FVec F S32x512x1024 .f32) := by
  unfold u1; after_reads_simp <;> rfl
theorem u1_c : u1 m c main_c = (fun i => lit0 (S64.rowMajor i) : IVec S64 32) := by
  unfold u1; after_reads_simp; rfl
theorem u1_c_0 : u1 m c main_c_0 = (fun i => lit1 (S64.rowMajor i) : IVec S64 32) := by
  unfold u1; after_reads_simp; rfl
theorem u1_c_3 : u1 m c main_c_3 = (constantI S_ 32 256#32 : IVec S_ 32) := by
  unfold u1; after_reads_simp

theorem V_arg0 : V m c main_arg0 = m (c, main_arg0) := (V_eq m c _).trans ((keep_arg0_12 m c).trans (by unfold u0; rfl))
theorem V_arg1 : V m c main_arg1 = m (c, main_arg1) := (V_eq m c _).trans ((keep_arg1_12 m c).trans (by unfold u0; rfl))
theorem V_arg2 : V m c main_arg2 = m (c, main_arg2) := (V_eq m c _).trans ((keep_arg2_12 m c).trans (by unfold u0; rfl))
theorem V_arg3 : V m c main_arg3 = m (c, main_arg3) := (V_eq m c _).trans ((keep_arg3_12 m c).trans (by unfold u0; rfl))
theorem V_arg4 : V m c main_arg4 = m (c, main_arg4) := (V_eq m c _).trans ((keep_arg4_12 m c).trans (by unfold u0; rfl))
theorem V_v0 : V m c main_v0 = (shapeCast S32x1024x512 (m (c, main_arg2) : FVec F S2x16x1024x512 .f32) shapeCasts_S2x16x1024x512_S32x1024x512 : FVec F S32x1024x512 .f32) :=
  (V_eq m c _).trans ((keep_v0_12 m c).trans ((u1_v0 m c).trans (by unfold u0; rfl)))
theorem V_v1 : V m c main_v1 = (shapeCast S32x1024x512 (m (c, main_arg3) : FVec F S2x16x1024x512 .f32) shapeCasts_S2x16x1024x512_S32x1024x512 : FVec F S32x1024x512 .f32) :=
  (V_eq m c _).trans ((keep_v1_12 m c).trans ((u1_v1 m c).trans (by unfold u0; rfl)))
theorem V_v2 : V m c main_v2 = (shapeCast S32x512x1024 (m (c, main_arg4) : FVec F S2x16x512x1024 .f32) shapeCasts_S2x16x512x1024_S32x512x1024 : FVec F S32x512x1024 .f32) :=
  (V_eq m c _).trans ((keep_v2_12 m c).trans ((u1_v2 m c).trans (by unfold u0; rfl)))

/-- The word of a bucket's lower expert among the experts of both layers, those of this layer being the last sixteen. -/
def loW (b : Fin 64) : BitVec 32 := lit0 b + 16#32
/-- The word of a bucket's upper expert. -/
def hiW (b : Fin 64) : BitVec 32 := lit1 b + 16#32

section Facts
variable {cn : ℕ → ℕ} (H : Bnd 88 cn) (hc : ∀ b : Fin 64, (m (c, main_arg0) : IVec S64 32) (ix1 b) = BitVec.ofNat 32 (cn b.val))
include H hc

theorem u3_v8 (b : Fin 64) : (u3 m c main_v8 : IVec S64 32) (ix1 b) = BitVec.ofNat 32 (en cn b.val) := by
  unfold u3
  refine s2_v8 _ (tl cn) (fun b => ?_) b
  unfold u2
  rw [s1_v7]
  have hs := H.small b.val
  refine pyDiv_ap _ _ _ _ (a := cn b.val + 255) (b := 256) ?_ (by rw [u1_c_3]; rfl) (by omega) (by decide) (by decide)
  unfold u1
  rw [s0_v6, subi_ap, addi_ap, bc0, bc0, constantI_at, constantI_at]
  rw [show (u0 m c main_arg0 : IVec S64 32) (ix1 b) = BitVec.ofNat 32 (cn b.val) from (by unfold u0; exact hc b)]
  rw [show (256#32 : BitVec 32) = BitVec.ofNat 32 256 from rfl, BitVec.ofNat_add_ofNat, show (1#32 : BitVec 32) = BitVec.ofNat 32 1 from rfl, ofNat32_sub (by omega)]
  rfl
theorem u4_v10 (i : S_.Idx) : (u4 m c main_v10 : IVec S_ 32) i = BitVec.ofNat 32 (nn cn) := by
  unfold u4; rw [s3_v10]; exact nUsed_ap H _ (u3_v8 m c H hc) i
theorem u4_v21 (j : Fin 88) : (u4 m c main_v21 : IVec S88 32) (ix1 j) = BitVec.ofNat 32 (bk cn j.val) := by
  unfold u4; rw [s3_v21]; exact tileB_ap H _ (u3_v8 m c H hc) j
theorem u4_v33 (j : Fin 88) : (u4 m c main_v33 : IVec S88 1) (ix1 j) = BitVec.ofBool (decide (fs cn j.val)) := by
  unfold u4; rw [s3_v33]; exact firstB_ap H _ (u3_v8 m c H hc) j
theorem u4_v34 (j : Fin 88) : (u4 m c main_v34 : IVec S88 32) (ix1 j) = BitVec.ofNat 32 (if fs cn j.val then 1 else 0) := by
  unfold u4; rw [s3_v34, extui_at, firstB_ap H _ (u3_v8 m c H hc) j]; exact setWidth_ofBool _
theorem u7_v38 (j : Fin 88) : (u7 m c main_v38 : IVec S88 32) (ix1 j) = BitVec.ofNat 32 ((ns cn j.val - 1) % 2) := by
  have h1 := one_le_ns H j.val
  have h2 := ns_le (cn := cn) j.val
  have hj := j.isLt
  unfold u7
  rw [s6_v38]
  refine pyRem_ap _ _ _ _ (a := ns cn j.val - 1) (b := 2) ?_ ?_ (by omega) (by decide) (by decide)
  · unfold u6
    rw [s5_v37, subi_ap, bc0, constantI_at]
    unfold u5
    rw [s4_v35 _ (fun i => if fs cn i then 1 else 0) (u4_v34 m c H hc), show (1#32 : BitVec 32) = BitVec.ofNat 32 1 from rfl]
    exact ofNat32_sub h1
  · unfold u6; rw [s5_c_10]; rfl

omit H hc in
theorem u4_v23 (b : Fin 64) : (u4 m c main_v23 : IVec S64 32) (ix1 b) = loW b := by
  unfold u4
  rw [s3_v23, addi_ap, keep_c_3, u1_c, bc0, constantI_at]
  exact congrArg (fun b => lit0 b + 16#32) (Fin.ext (by rw [Shape.rowMajor_val_one]))
omit H hc in
theorem u4_v25 (b : Fin 64) : (u4 m c main_v25 : IVec S64 32) (ix1 b) = hiW b := by
  unfold u4
  rw [s3_v25, addi_ap, keep_c_0_3, u1_c_0, bc0, constantI_at]
  exact congrArg (fun b => lit1 b + 16#32) (Fin.ext (by rw [Shape.rowMajor_val_one]))

theorem u7_v8 (b : Fin 64) : (u7 m c main_v8 : IVec S64 32) (ix1 b) = BitVec.ofNat 32 (en cn b.val) := by
  rw [keep_v8_7]; exact u3_v8 m c H hc b
theorem u7_v10 (i : S_.Idx) : (u7 m c main_v10 : IVec S_ 32) i = BitVec.ofNat 32 (nn cn) := by
  rw [keep_v10_7]; exact u4_v10 m c H hc i
theorem u7_v21 (j : Fin 88) : (u7 m c main_v21 : IVec S88 32) (ix1 j) = BitVec.ofNat 32 (bk cn j.val) := by
  rw [keep_v21_7]; exact u4_v21 m c H hc j

theorem u8_v47 (j : Fin 88) : (u8 m c main_v47 : IVec S88 1) (ix1 j) = BitVec.ofBool (decide (en cn (bk cn j.val) < nn cn)) := by
  unfold u8; exact s7_v47 _ H (u7_v8 m c H hc) (u7_v10 m c H hc) (u7_v21 m c H hc) j
theorem u11_v63 (j : Fin 88) : (u11 m c main_v63 : IVec S88 32) (ix1 j) = loW ⟨bk cn j.val, bk_lt H _⟩ := by
  rw [keep_v63_11]; unfold u8
  rw [s7_v63 _ H (u7_v8 m c H hc) (u7_v10 m c H hc) (u7_v21 m c H hc) j, keep_v23_7, u4_v23]
theorem u11_v70 (j : Fin 88) : (u11 m c main_v70 : IVec S88 32) (ix1 j) = hiW ⟨bk cn j.val, bk_lt H _⟩ := by
  rw [keep_v70_11]; unfold u8
  rw [s7_v70 _ H (u7_v8 m c H hc) (u7_v10 m c H hc) (u7_v21 m c H hc) j, keep_v25_7, u4_v25]
theorem u11_v71 (j : Fin 88) : (u11 m c main_v71 : IVec S88 32) (ix1 j) = BitVec.ofNat 32 (if fs cn j.val then 1 else 0) := by
  rw [keep_v71_11]; unfold u8
  rw [s7_v71, extui_at, keep_v33_7, u4_v33 m c H hc]; exact setWidth_ofBool _
theorem u11_v79 (j : Fin 88) : (u11 m c main_v79 : IVec S88 32) (ix1 j) = if en cn (bk cn j.val) < nn cn then loW ⟨bk cn (qn 88 cn j.val), bk_lt H _⟩ else -1#32 := by
  rw [keep_v79_11]; unfold u9
  rw [s8_v79, select_at, u8_v47 m c H hc, select_decide, bc0]
  unfold u8
  rw [s7_v78 _ H (u7_v8 m c H hc) (u7_v10 m c H hc) (u7_v21 m c H hc) j, s7_c_22, keep_v23_7, u4_v23]
  rfl
theorem u11_v38 (j : Fin 88) : (u11 m c main_v38 : IVec S88 32) (ix1 j) = BitVec.ofNat 32 ((ns cn j.val - 1) % 2) := by
  rw [keep_v38_11]; exact u7_v38 m c H hc j
theorem u9_v56 (j : Fin 88) : (u9 m c main_v56 : IVec S88 32) (ix1 j) = BitVec.ofNat 32 (bk cn (qn 88 cn j.val)) := by
  rw [keep_v56_9]; unfold u8; exact s7_v56 _ H (u7_v8 m c H hc) (u7_v10 m c H hc) (u7_v21 m c H hc) j
theorem u10_v86 (j : Fin 88) : (u10 m c main_v86 : IVec S88 32) (ix1 j) = hiW ⟨bk cn (qn 88 cn j.val), bk_lt H _⟩ := by
  unfold u10
  refine (s9_v86 _ j (bk_lt H (qn 88 cn j.val)) (u9_v56 m c H hc j)).trans ?_
  rw [keep_v25_9]; exact u4_v25 m c _
omit H hc in
theorem u10_c_25 : (u10 m c main_c_25 : IVec S_ 32) = constantI S_ 32 4294967295#32 := by
  unfold u10; exact s9_c_25 _
theorem u11_v87 (j : Fin 88) : (u11 m c main_v87 : IVec S88 32) (ix1 j) = if en cn (bk cn j.val) < nn cn then hiW ⟨bk cn (qn 88 cn j.val), bk_lt H _⟩ else -1#32 := by
  unfold u11
  rw [s10_v87, select_at, keep_v47_10, u8_v47 m c H hc, select_decide, bc0, u10_v86 m c H hc, u10_c_25]
  rfl

/-- The number of tiles in use, as the call's second table holds it. -/
theorem V_v95 (i : S1.Idx) : (V m c main_v95 : IVec S1 32) i = BitVec.ofNat 32 (nn cn) := by
  rw [V_eq]; unfold u12; rw [s11_v95, keep_v10_11]; exact u4_v10 m c H hc _

/-! The plan's words, row by row. -/

theorem V_row0 (j : Fin 88) : (V m c main_v94 : IVec S6x88 32) (ix2 (0 : Fin 6) j) = loW ⟨bk cn j.val, bk_lt H _⟩ := by
  rw [V_eq, show u12 m c main_v94 = after hostOps0_11 (u11 m c) main_v94 by unfold u12; rfl]
  exact (s11_v94 _ _ _).trans (u11_v63 m c H hc j)
theorem V_row1 (j : Fin 88) : (V m c main_v94 : IVec S6x88 32) (ix2 (1 : Fin 6) j) = hiW ⟨bk cn j.val, bk_lt H _⟩ := by
  rw [V_eq, show u12 m c main_v94 = after hostOps0_11 (u11 m c) main_v94 by unfold u12; rfl]
  exact (s11_v94 _ _ _).trans (u11_v70 m c H hc j)
theorem V_row2 (j : Fin 88) : (V m c main_v94 : IVec S6x88 32) (ix2 (2 : Fin 6) j) = BitVec.ofNat 32 (if fs cn j.val then 1 else 0) := by
  rw [V_eq, show u12 m c main_v94 = after hostOps0_11 (u11 m c) main_v94 by unfold u12; rfl]
  exact (s11_v94 _ _ _).trans (u11_v71 m c H hc j)
theorem V_row3 (j : Fin 88) : (V m c main_v94 : IVec S6x88 32) (ix2 (3 : Fin 6) j) = BitVec.ofNat 32 ((ns cn j.val - 1) % 2) := by
  rw [V_eq, show u12 m c main_v94 = after hostOps0_11 (u11 m c) main_v94 by unfold u12; rfl]
  exact (s11_v94 _ _ _).trans (u11_v38 m c H hc j)
theorem V_row4 (j : Fin 88) : (V m c main_v94 : IVec S6x88 32) (ix2 (4 : Fin 6) j) = if en cn (bk cn j.val) < nn cn then loW ⟨bk cn (qn 88 cn j.val), bk_lt H _⟩ else -1#32 := by
  rw [V_eq, show u12 m c main_v94 = after hostOps0_11 (u11 m c) main_v94 by unfold u12; rfl]
  exact (s11_v94 _ _ _).trans (u11_v79 m c H hc j)
theorem V_row5 (j : Fin 88) : (V m c main_v94 : IVec S6x88 32) (ix2 (5 : Fin 6) j) = if en cn (bk cn j.val) < nn cn then hiW ⟨bk cn (qn 88 cn j.val), bk_lt H _⟩ else -1#32 := by
  rw [V_eq, show u12 m c main_v94 = after hostOps0_11 (u11 m c) main_v94 by unfold u12; rfl]
  exact (s11_v94 _ _ _).trans (u11_v87 m c H hc j)

end Facts

end Cert.Kernel3Ideal.Moe
-- ==== Proof.LastRows.lean ====
/- From the words of the plan to the facts the tiles' run needs of them. -/
module

public import proofs.«01_k».proof.Proof.LastTables
public import proofs.«01_k».proof.Proof.LastBody
public import proofs.«01_k».proof.Proof.Plan
public import proofs.«01_k».proof.Proof.Pick

@[expose] public section

noncomputable section

namespace Cert.Kernel3Ideal.Moe

open Cert.Moe
open Idealize.ShloMosaic Idealize.ShloMosaic.TcCoe Idealize.ShloMosaic.StableHlo Cert.Kernel3Ideal

theorem lit0_lt : ∀ b : Fin 64, (lit0 b).toNat < 16 := by decide +kernel
theorem lit1_lt : ∀ b : Fin 64, (lit1 b).toNat < 16 := by decide +kernel
theorem loW_eq : ∀ b : Fin 64, (loW b).toNat = 16 + (lit0 b).toNat := by decide +kernel
theorem hiW_eq : ∀ b : Fin 64, (hiW b).toNat = 16 + (lit1 b).toNat := by decide +kernel
theorem cond3_loW : ∀ b : Fin 64, k0_cond3 (loW b) = 1#1 := by decide +kernel
theorem cond3_neg : ¬ k0_cond3 (-1#32) = 1#1 := by decide +kernel
theorem cond2_flag (p : Prop) [Decidable p] : k0_cond2 (BitVec.ofNat 32 (if p then 1 else 0)) = 1#1 ↔ p := by
  by_cases h : p
  · rw [if_pos h]; exact ⟨fun _ => h, fun _ => by decide +kernel⟩
  · rw [if_neg h]; exact ⟨fun e => absurd e (by decide +kernel), fun e => absurd e h⟩

variable {cn : ℕ → ℕ} (H : Bnd 88 cn)

/-- The expert below, of bucket `b`. -/
def loE (b : Fin 64) : Fin 32 := ⟨(loW b).toNat, by have := lit0_lt b; have := loW_eq b; omega⟩
/-- The expert above, of bucket `b`. -/
def hiE (b : Fin 64) : Fin 32 := ⟨(hiW b).toNat, by have := lit1_lt b; have := hiW_eq b; omega⟩

/-- A table whose rows are the ones the host computes is a good plan. -/
def planOf {W : Fin 6 → Fin 88 → BitVec 32}
    (h0 : ∀ j : Fin 88, W 0 j = loW ⟨bk cn j.val, bk_lt H _⟩)
    (h1 : ∀ j : Fin 88, W 1 j = hiW ⟨bk cn j.val, bk_lt H _⟩)
    (h2 : ∀ j : Fin 88, W 2 j = BitVec.ofNat 32 (if fs cn j.val then 1 else 0))
    (h3 : ∀ j : Fin 88, W 3 j = BitVec.ofNat 32 ((ns cn j.val - 1) % 2))
    (h4 : ∀ j : Fin 88, W 4 j = if en cn (bk cn j.val) < nn cn then loW ⟨bk cn (qn 88 cn j.val), bk_lt H _⟩ else -1#32)
    (h5 : ∀ j : Fin 88, W 5 j = if en cn (bk cn j.val) < nn cn then hiW ⟨bk cn (qn 88 cn j.val), bk_lt H _⟩ else -1#32) : PlanOK W where
  sl j := ⟨(ns cn j.val - 1) % 2, Nat.mod_lt _ (by decide)⟩
  lo j := loE ⟨bk cn j.val, bk_lt H _⟩
  hi j := hiE ⟨bk cn j.val, bk_lt H _⟩
  nx j := if en cn (bk cn j.val) < nn cn then some (loE ⟨bk cn (qn 88 cn j.val), bk_lt H _⟩, hiE ⟨bk cn (qn 88 cn j.val), bk_lt H _⟩) else none
  sl_eq j := by
    rw [h3, BitVec.toNat_ofNat]
    exact Nat.mod_eq_of_lt ((Nat.mod_lt _ (by decide : 0 < 2)).trans (by decide))
  lo_eq j := by rw [h0]; rfl
  hi_eq j := by rw [h1]; rfl
  nx_some j a b e := by
    by_cases hb : en cn (bk cn j.val) < nn cn
    · rw [if_pos hb] at e
      obtain ⟨rfl, rfl⟩ := Prod.mk.inj (Option.some.inj e)
      rw [h4, h5, if_pos hb, if_pos hb]
      exact ⟨cond3_loW _, rfl, rfl⟩
    · rw [if_neg hb] at e; exact absurd e (by simp)
  nx_none j e := by
    by_cases hb : en cn (bk cn j.val) < nn cn
    · rw [if_pos hb] at e; exact absurd e (by simp)
    · rw [h4, if_neg hb]; exact cond3_neg
  first0 := by rw [h2]; exact (cond2_flag _).2 (fs_zero H)
  sl0 := Fin.ext (by show (ns cn 0 - 1) % 2 = 0; rw [ns_zero H])
  step j j' hj e := by
    rw [h2] at e
    have hf := (cond2_flag _).1 e
    have hf' : fs cn (j.val + 1) := hj ▸ hf
    have he := en_of_fs H hf'
    have hlt : j.val + 1 < nn cn := hf'.2
    have hq : qn 88 cn j.val = j'.val := by
      unfold qn; rw [he, hj]; have := j'.isLt; omega
    refine ⟨?_, ?_⟩
    · rw [if_pos (by rw [he]; exact hlt)]; simp only [hq]
    · have h1 := one_le_ns H j.val
      have h2 : ns cn j'.val = ns cn j.val + 1 := by rw [hj, ns_succ, if_pos hf']
      apply Fin.ext
      simp only [h2, Fin.sub_def]
      have : (1 : Fin 2).val = 1 := rfl
      omega
  stay j j' hj e := by
    rw [h2] at e
    have hf' : ¬ fs cn (j.val + 1) := fun h => e ((cond2_flag _).2 (hj ▸ h))
    have hb : bk cn j'.val = bk cn j.val := by rw [hj]; exact bk_eq_of_not_fs H hf'
    have h2 : ns cn j'.val = ns cn j.val := by rw [hj, ns_succ, if_neg hf', Nat.add_zero]
    have hq : qn 88 cn j'.val = qn 88 cn j.val := by unfold qn; rw [hb]
    refine ⟨by simp only [h2], by simp only [hb], by simp only [hb], by simp only [hb, hq]⟩
  last := if_neg (en_bk_last H)

variable {F : FTy → Type} [FloatOps F] (m : (ℓ : Loc nD τ sig) → Buf (Elt F) ℓ)

variable (hc : ∀ b : Fin 64, (m (0, main_arg0) : IVec S64 32) (ValueIdx.ix1 b) = BitVec.ofNat 32 (cn b.val))

/-- The plan the host computes from counts as stated is a good one. -/
def planM (c : Dev nD) : PlanOK (plan m c) :=
  planOf H (fun j => (congrArg (V m 0 main_v94 : IVec S6x88 32) (ix2_eq _ _).symm).trans (V_row0 m 0 H hc j))
    (fun j => (congrArg (V m 0 main_v94 : IVec S6x88 32) (ix2_eq _ _).symm).trans (V_row1 m 0 H hc j))
    (fun j => (congrArg (V m 0 main_v94 : IVec S6x88 32) (ix2_eq _ _).symm).trans (V_row2 m 0 H hc j))
    (fun j => (congrArg (V m 0 main_v94 : IVec S6x88 32) (ix2_eq _ _).symm).trans (V_row3 m 0 H hc j))
    (fun j => (congrArg (V m 0 main_v94 : IVec S6x88 32) (ix2_eq _ _).symm).trans (V_row4 m 0 H hc j))
    (fun j => (congrArg (V m 0 main_v94 : IVec S6x88 32) (ix2_eq _ _).symm).trans (V_row5 m 0 H hc j))

end Cert.Kernel3Ideal.Moe
-- ==== Proof.LastCounts.lean ====
/- What the precondition says of the counts. -/
module

public import proofs.«01_k».proof.Pre_sorted_counts3
public import proofs.«01_k».proof.Proof.Gen.Pre_sorted_counts3
public import proofs.«01_k».proof.Proof.CountWords
public import Idealize.ShloMosaic.Lib.Routing.OpsSearch
public import Idealize.ShloMosaic.Lib.Routing.Words
public import Idealize.ShloMosaic.Lib.PlanTiles.Rows
public import Idealize.ShloMosaic.Lib.Pointwise
public import Idealize.ShloMosaic.Lib.ReduceAll
public import Idealize.ShloMosaic.Lib.StableHlo.Predicate

@[expose] public section

noncomputable section

namespace Cert.Kernel3Ideal.Moe

open Cert.Moe
open Idealize.ShloMosaic.ValueIdx
open Idealize.ShloMosaic hiding ix0 ix1 ix2 ix3 eq_ix1 eq_ix2
open Idealize.ShloMosaic.StableHlo Idealize.ShloMosaic.WordCmp
open Idealize.ShloMosaic.Routing

section
open Cert.Pre_sorted_counts3 Cert.Pre_sorted_counts3.Gen
variable {F : FTy → Type} [FloatOps F]

theorem pre_read (x : IVec S64 32) (a1 : FVec F S22528x1152 .f32) (a2 : FVec F S2x16x1024x512 .f32) (a3 : FVec F S2x16x1024x512 .f32) (a4 : FVec F S2x16x512x1024 .f32)
    (h : Cert.Pre_sorted_counts3.fn (F := F) x a1 a2 a3 a4 = fun _ => 1#1) :
    (∀ b : Fin 64, cntOf x b.val ≤ 16640) ∧ (∀ b : Fin 64, cntOf x b.val ≠ 0 → Cert.Pre_sorted_counts3.lit0 b = 1#1) ∧ 1 ≤ nn (cntOf x) ∧ nn (cntOf x) ≤ 88 := by
  have e := congrFun h ValueIdx.ix0
  simp only [Cert.Pre_sorted_counts3.fn, Cert.Pre_sorted_counts3.fn_part1, andi_at] at e
  obtain ⟨e1, e3⟩ := and_one e
  obtain ⟨e1, e2⟩ := and_one e1
  have hall : ∀ b : Fin 64, (x (ix1 b)).toNat ≤ 16640 ∧ (Cert.Pre_sorted_counts3.lit0 b = 1#1 ∨ x (ix1 b) = 0#32) := fun b => by
    have hb := Host.reduce_andi_all _ _ _ _ _ e1 (ix1 b)
    rw [andi_at, andi_at, cmpi_at, cmpi_at, bc0, bc0, constantI_at, constantI_at] at hb
    obtain ⟨hr, hz⟩ := and_one hb
    obtain ⟨hr0, hr1⟩ := and_one hr
    refine ⟨range_of_signed _ hr0 hr1, ?_⟩
    rcases or_one hz with hz | hz
    · left; rw [← hz]; exact congrArg Cert.Pre_sorted_counts3.lit0 (Fin.ext (by rw [Shape.rowMajor_val_one]))
    · right; rw [cmpi_at, bc0, constantI_at] at hz; exact Predicate.cmpi_eq_iff.1 hz
  have hcn : ∀ b : Fin 64, cntOf x b.val ≤ 16640 := fun b => by
    have := (hall b).1; unfold cntOf; rw [dif_pos b.isLt]; exact this
  have hdiv : ∀ b : Fin 64, fn_floor_divide (F := F) (addi x (broadcastInDim S64 ![] Facts.bcast_S_S64 (constantI S_ 32 255#32))) (constantI S_ 32 256#32) (ix1 b) = BitVec.ofNat 32 (tl (cntOf x) b.val) := fun b => by
    have hs := hcn b
    refine (show _ = pyDiv Facts.bcast_S_S64 (addi x (broadcastInDim S64 ![] Facts.bcast_S_S64 (constantI S_ 32 255#32))) (constantI S_ 32 256#32) (ix1 b) from rfl).trans ?_
    refine pyDiv_ap _ _ _ _ (a := cntOf x b.val + 255) (b := 256) ?_ rfl (by omega) (by decide) (by decide)
    rw [addi_ap, bc0, constantI_at, cntOf_word x b, show (255#32 : BitVec 32) = BitVec.ofNat 32 255 from rfl, BitVec.ofNat_add_ofNat]
  have hsum := by
    have := reduce_sum _ (tl (cntOf x)) hdiv Facts.reducesTo_S64_S_d0 Facts.h_S_
    rw [show ((List.range 64).map (tl (cntOf x))).sum = nn (cntOf x) from rfl] at this; exact this
  have hnn : nn (cntOf x) ≤ 64 * 66 := by
    unfold nn en
    refine (List.sum_le_card_nsmul _ 66 fun t ht => ?_).trans (by simp)
    obtain ⟨b, hb, rfl⟩ := List.mem_map.1 ht
    have := hcn ⟨b, List.mem_range.1 hb⟩
    simp only at this
    unfold tl; omega
  refine ⟨hcn, fun b hb => ?_, ?_, ?_⟩
  · rcases (hall b).2 with hz | hz
    · exact hz
    · exact absurd (by unfold cntOf; rw [dif_pos b.isLt, hz]; rfl) hb
  · rw [cmpi_at, hsum, constantI_at] at e2
    exact (Predicate.sge_iff_toNat (by rw [BitVec.toNat_ofNat]; omega) (by decide)).1 e2 |>.trans (by rw [BitVec.toNat_ofNat]; exact Nat.mod_le _ _)
  · rw [cmpi_at, hsum, constantI_at] at e3
    have := (Predicate.sle_iff_toNat (by rw [BitVec.toNat_ofNat]; exact (Nat.mod_le _ _).trans_lt (by omega)) (by decide)).1 e3
    rw [BitVec.toNat_ofNat, Nat.mod_eq_of_lt (by omega)] at this
    exact this
end

end Cert.Kernel3Ideal.Moe
-- ==== Proof.LastFrame.lean ====
/- The whole run, from counts as stated: the results are what the tiles leave, the arguments stay, every counter ends at zero. -/
module

public import proofs.«01_k».proof.Proof.LastRows
public import proofs.«01_k».proof.Proof.LastRun
public import proofs.«01_k».proof.Proof.LastCounts
public import Idealize.ShloMosaic.Lib.Pipeline.ValueKit.Geometry

@[expose] public section

noncomputable section

namespace Cert.Kernel3Ideal.Moe

open Cert.Moe
open Idealize.ShloMosaic Idealize.ShloMosaic.TcCoe Idealize.ShloMosaic.StableHlo Cert.Kernel3Ideal Cert.Kernel3Ideal.Gen Idealize.SL.Sem

variable {F : FTy → Type} [FloatOps F] (m : (ℓ : Loc nD τ sig) → Buf (Elt F) ℓ) (ρ : Dev nD → PrngReg)

/-- The counts of a memory, as numbers. -/
def cnM : ℕ → ℕ := cntOf (m (0, main_arg0) : IVec S64 32)

theorem cnM_word (b : Fin 64) : (m (0, main_arg0) : IVec S64 32) (ValueIdx.ix1 b) = BitVec.ofNat 32 (cnM m b.val) := cntOf_word _ b

/-- What the precondition says, of a memory. -/
structure Good : Prop where
  small : ∀ b : Fin 64, cnM m b.val ≤ 16640
  real : ∀ b : Fin 64, cnM m b.val ≠ 0 → Cert.Pre_sorted_counts3.lit0 b = 1#1
  one : 1 ≤ nn (cnM m)
  top : nn (cnM m) ≤ 88

theorem Good.bnd {m : (ℓ : Loc nD τ sig) → Buf (Elt F) ℓ} (h : Good m) : Bnd 88 (cnM m) where
  one := h.one
  top := h.top
  small b := by
    by_cases hb : b < 64
    · exact (h.small ⟨b, hb⟩).trans_lt (by decide)
    · unfold cnM cntOf; rw [dif_neg hb]; decide

variable (h : Good m)

/-- The plan of a memory. -/
def planG (c : Dev nD) : PlanOK (plan m c) := planM h.bnd m (cnM_word m) c

theorem run_out : θ_run defs (onTc (τ := τ) (main (F := F))) ⟨m, fun _ => 0, ρ⟩ (fun r => (∀ c : Dev nD,
    r.2.mem ((c.tc : Thread nD τ).loc main_v96) = (dats m (planG m h) 0 c).arrAt 1 (cfgM m).N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) ∧ r.2.sem = fun _ => 0) :=
  (θ_run defs _ _).mono (fun r hr => ⟨fun c => ⟨(hr.1 c).1 1,
      ((hr.1 c).2 main_arg0 (Pipeline.mem_restRefs_of (win := spec0) _ (by decide) (by decide))).trans (V_arg0 m c),
      (((hr.1 c).1 0).trans ((dats m (planG m h) 0 c).arrAt_in 0 rfl _)).trans ((A_eq m (planG m h) c 0).trans (V_arg1 m c)),
      ((hr.1 c).2 main_arg2 (Pipeline.mem_restRefs_of (win := spec0) _ (by decide) (by decide))).trans (V_arg2 m c),
      ((hr.1 c).2 main_arg3 (Pipeline.mem_restRefs_of (win := spec0) _ (by decide) (by decide))).trans (V_arg3 m c),
      ((hr.1 c).2 main_arg4 (Pipeline.mem_restRefs_of (win := spec0) _ (by decide) (by decide))).trans (V_arg4 m c)⟩, hr.2⟩) (run_main m ρ (planG m h))

end Cert.Kernel3Ideal.Moe
-- ==== Proof.LastExperts.lean ====
/- The arithmetic of one expert at a row and a column, and the payloads of the body read there. -/
module

public import proofs.«01_k».proof.Proof.LastFrame
public import Idealize.ShloMosaic.Lib.Pointwise

@[expose] public section

set_option maxRecDepth 16384

noncomputable section

namespace Cert.Kernel3Ideal.Moe

open Cert.Kernel3Ideal Cert.Kernel3Ideal.Gen
open Idealize.ShloMosaic Idealize.ShloMosaic.TcCoe

/-- One column of one expert's product, from a row, the expert's two matrices in and its column out. -/
def expertAt (x : Fin 1024 → EReal) (A B : Fin 1024 → Fin 512 → EReal) (C : Fin 512 → EReal) : EReal :=
  ∑ f, ((∑ k, x k * A k f) * Ideal.logistic (∑ k, x k * A k f) * ∑ k, x k * B k f) * C f

theorem pay_at (x : Vec Ideal S256x1024 .f32) (g g' : Vec Ideal S256x1 .f32) (a b a' b' : Vec Ideal S1x1x1024x512 .f32) (d d' : Vec Ideal S1x1x512x1024 .f32) (r : Fin 256) (q : Fin 1024) :
    k0_pay1 (k0_pay3 x) g' (k0_pay4 x g a b d) (k0_pay5 x a') (k0_pay6 b') d' (ix2 r q)
      = g (ix2 r 0) * expertAt (fun k => x (ix2 r k)) (fun k f => a (ix4 0 0 k f)) (fun k f => b (ix4 0 0 k f)) (fun f => d (ix4 0 0 f q))
        + g' (ix2 r 0) * expertAt (fun k => x (ix2 r k)) (fun k f => a' (ix4 0 0 k f)) (fun k f => b' (ix4 0 0 k f)) (fun f => d' (ix4 0 0 f q)) := by
  unfold expertAt
  pointwise [k0_pay1, k0_pay3, k0_pay4, k0_pay5, k0_pay6]

theorem pay2_at (r : Fin 256) (q : Fin 1024) : (k0_pay2 (F := Ideal)) (ix2 r q) = 0 := by
  pointwise [k0_pay2]

theorem xRow_at (X : S256x1152.Idx → Elt Ideal .f32) (r : Fin 256) (k : Fin 1024) : xRow X (ix2 r k) = X (ix2 r ⟨k.val, by omega⟩) := by
  unfold xRow; congr 1; funext a
  match a with
  | ⟨0, _⟩ => exact Fin.ext (by show 0 + 1 * r.val = r.val; omega)
  | ⟨1, _⟩ => exact Fin.ext (by show 0 + 1 * k.val = k.val; omega)
theorem xLo_at (X : S256x1152.Idx → Elt Ideal .f32) (r : Fin 256) : xLo X (ix2 r 0) = X (ix2 r ⟨1024, by omega⟩) := by
  unfold xLo; congr 1; funext a
  match a with
  | ⟨0, _⟩ => exact Fin.ext (by show 0 + 1 * r.val = r.val; omega)
  | ⟨1, _⟩ => exact Fin.ext (by show 1024 + 1 * 0 = 1024; omega)
theorem xHi_at (X : S256x1152.Idx → Elt Ideal .f32) (r : Fin 256) : xHi X (ix2 r 0) = X (ix2 r ⟨1025, by omega⟩) := by
  unfold xHi; congr 1; funext a
  match a with
  | ⟨0, _⟩ => exact Fin.ext (by show 0 + 1 * r.val = r.val; omega)
  | ⟨1, _⟩ => exact Fin.ext (by show 1025 + 1 * 0 = 1025; omega)

variable (m : (ℓ : Loc nD τ sig) → Buf (Elt Ideal) ℓ) (c : Dev nD)

theorem slabA_at (v : (⟨S32x1024x512, .f32⟩ : BufTy).Contents (Elt Ideal)) (hb : Memref sig .tc .hbm S32x1024x512 .f32) (e : Fin 32) (k : Fin 1024) (f : Fin 512)
    (w : Buf (Elt Ideal) (hb.view.loc (c : Thread nD τ))) (hw : ∀ y, hb.view.read (Elt Ideal) w y = v y) :
    slabA (F := Ideal) c hb w e (ix4 0 0 k f) = v (ix3 e k f) := by
  have h1 : slabA (F := Ideal) c hb w e (ix4 0 0 k f)
      = hb.view.read (Elt Ideal) w ((Rect.unit (s := S32x1024x512) (offS e) S1x1024x512.size (inbSA e)).emb
        (Shape.reshapeEquiv squeezes_S1x1024x512_S1024x512.numel_eq (Shape.reshapeEquiv squeezes_S1x1x1024x512_S1024x512.numel_eq.symm (ix4 0 0 k f)))) := rfl
  rw [h1, hw]
  simp only [reshapeIdx]
  congr 1; funext a
  match a with
  | ⟨0, _⟩ => exact Fin.ext (by show e.val + 1 * 0 = e.val; omega)
  | ⟨1, _⟩ => exact Fin.ext (by show 0 + 1 * k.val = k.val; omega)
  | ⟨2, _⟩ => exact Fin.ext (by show 0 + 1 * f.val = f.val; omega)

theorem slabB_at (v : (⟨S32x512x1024, .f32⟩ : BufTy).Contents (Elt Ideal)) (hb : Memref sig .tc .hbm S32x512x1024 .f32) (e : Fin 32) (k : Fin 512) (f : Fin 1024)
    (w : Buf (Elt Ideal) (hb.view.loc (c : Thread nD τ))) (hw : ∀ y, hb.view.read (Elt Ideal) w y = v y) :
    slabB (F := Ideal) c hb w e (ix4 0 0 k f) = v (ix3 e k f) := by
  have h1 : slabB (F := Ideal) c hb w e (ix4 0 0 k f)
      = hb.view.read (Elt Ideal) w ((Rect.unit (s := S32x512x1024) (offS e) S1x512x1024.size (inbSB e)).emb
        (Shape.reshapeEquiv squeezes_S1x512x1024_S512x1024.numel_eq (Shape.reshapeEquiv squeezes_S1x1x512x1024_S512x1024.numel_eq.symm (ix4 0 0 k f)))) := rfl
  rw [h1, hw]
  simp only [reshapeIdx]
  congr 1; funext a
  match a with
  | ⟨0, _⟩ => exact Fin.ext (by show e.val + 1 * 0 = e.val; omega)
  | ⟨1, _⟩ => exact Fin.ext (by show 0 + 1 * k.val = k.val; omega)
  | ⟨2, _⟩ => exact Fin.ext (by show 0 + 1 * f.val = f.val; omega)

theorem stackA_at (y : (⟨S2x16x1024x512, .f32⟩ : BufTy).Contents (Elt Ideal)) (e : Fin 32) (he : 16 ≤ e.val) (k : Fin 1024) (f : Fin 512) :
    shapeCast S32x1024x512 y shapeCasts_S2x16x1024x512_S32x1024x512 (ix3 e k f) = y (ix4 1 ⟨e.val - 16, by omega⟩ k f) := by
  pointwise
  exact congrArg y (by rw [show (⟨e.val / 16, _⟩ : Fin 2) = 1 from Fin.ext (by show e.val / 16 = 1; omega), show (⟨e.val % 16, _⟩ : Fin 16) = ⟨e.val - 16, by omega⟩ from Fin.ext (by show e.val % 16 = e.val - 16; omega)])
theorem stackB_at (y : (⟨S2x16x512x1024, .f32⟩ : BufTy).Contents (Elt Ideal)) (e : Fin 32) (he : 16 ≤ e.val) (k : Fin 512) (f : Fin 1024) :
    shapeCast S32x512x1024 y shapeCasts_S2x16x512x1024_S32x512x1024 (ix3 e k f) = y (ix4 1 ⟨e.val - 16, by omega⟩ k f) := by
  pointwise
  exact congrArg y (by rw [show (⟨e.val / 16, _⟩ : Fin 2) = 1 from Fin.ext (by show e.val / 16 = 1; omega), show (⟨e.val % 16, _⟩ : Fin 16) = ⟨e.val - 16, by omega⟩ from Fin.ext (by show e.val % 16 = e.val - 16; omega)])

/-- The expert at a row of a block and a column, from the arrays the program is given. -/
def prod (x : Fin 1024 → EReal) (a b : (⟨S2x16x1024x512, .f32⟩ : BufTy).Contents (Elt Ideal)) (d : (⟨S2x16x512x1024, .f32⟩ : BufTy).Contents (Elt Ideal)) (e : Fin 16) (q : Fin 1024) : EReal :=
  expertAt x (fun k f => a (ix4 1 e k f)) (fun k f => b (ix4 1 e k f)) (fun f => d (ix4 1 e f q))

theorem mix_at (X : S256x1152.Idx → Elt Ideal .f32) (e₀ e₁ : Fin 32) (h₀ : 16 ≤ e₀.val) (h₁ : 16 ≤ e₁.val) (r : Fin 256) (q : Fin 1024) :
    mix c (V m c) X e₀ e₁ (ix2 r q)
      = X (ix2 r ⟨1024, by omega⟩) * prod (fun k => X (ix2 r ⟨k.val, by omega⟩)) (m (c, main_arg2)) (m (c, main_arg3)) (m (c, main_arg4)) ⟨e₀.val - 16, by omega⟩ q
        + X (ix2 r ⟨1025, by omega⟩) * prod (fun k => X (ix2 r ⟨k.val, by omega⟩)) (m (c, main_arg2)) (m (c, main_arg3)) (m (c, main_arg4)) ⟨e₁.val - 16, by omega⟩ q := by
  unfold mix prod
  rw [pay_at, xLo_at, xHi_at]
  have hx : (fun k => xRow X (ix2 r k)) = fun k : Fin 1024 => X (ix2 r ⟨k.val, by omega⟩) := funext fun k => xRow_at X r k
  have hA : ∀ (e : Fin 32) (he : 16 ≤ e.val), (fun (k : Fin 1024) (f : Fin 512) => slabA c hw1 (V m c main_v0) e (ix4 0 0 k f)) = fun k f => m (c, main_arg2) (ix4 1 ⟨e.val - 16, by omega⟩ k f) :=
    fun e he => funext fun k => funext fun f => (slabA_at c (V m c main_v0) hw1 e k f _ fun y => rfl).trans ((congrFun (V_v0 m c) _).trans (stackA_at _ e he k f))
  have hB : ∀ (e : Fin 32) (he : 16 ≤ e.val), (fun (k : Fin 1024) (f : Fin 512) => slabA c hw3 (V m c main_v1) e (ix4 0 0 k f)) = fun k f => m (c, main_arg3) (ix4 1 ⟨e.val - 16, by omega⟩ k f) :=
    fun e he => funext fun k => funext fun f => (slabA_at c (V m c main_v1) hw3 e k f _ fun y => rfl).trans ((congrFun (V_v1 m c) _).trans (stackA_at _ e he k f))
  have hC : ∀ (e : Fin 32) (he : 16 ≤ e.val), (fun (f : Fin 512) => slabB c hw2 (V m c main_v2) e (ix4 0 0 f q)) = fun f => m (c, main_arg4) (ix4 1 ⟨e.val - 16, by omega⟩ f q) :=
    fun e he => funext fun f => (slabB_at c (V m c main_v2) hw2 e f q _ fun y => rfl).trans ((congrFun (V_v2 m c) _).trans (stackB_at _ e he f q))
  rw [hx, hA e₀ h₀, hA e₁ h₁, hB e₀ h₀, hB e₁ h₁, hC e₀ h₀, hC e₁ h₁]

end Cert.Kernel3Ideal.Moe
-- ==== Proof.LastValue.lean ====
/- The array the run leaves, element by element. -/
module

public import proofs.«01_k».proof.Proof.LastExperts

@[expose] public section

set_option maxRecDepth 16384

noncomputable section

namespace Cert.Kernel3Ideal.Moe

open Cert.Moe
open Cert.Kernel3Ideal Cert.Kernel3Ideal.Gen
open Idealize.ShloMosaic Idealize.ShloMosaic.TcCoe
open Idealize.ShloMosaic.Pipeline (Dat Cfg Window BodyObligation cellOf)

theorem map_0 (i : grid0.Coords) : cc0_transform_0 i = ![(i 0).val, 0] := by
  have h : (i 0).val < 88 := (i 0).isLt
  have e : (BitVec.ofNat 32 (i 0).val).toNat = (i 0).val := by rw [BitVec.toNat_ofNat]; exact Nat.mod_eq_of_lt (by omega)
  show ![(BitVec.ofNat 32 (i 0).val).toNat, (0#32).toNat] = _
  rw [e]; rfl
theorem map_1 (i : grid0.Coords) : cc0_transform_4 i = ![(i 0).val, 0] := map_0 i

section
variable {F : FTy → Type} [FloatOps F] (m : (ℓ : Loc nD τ sig) → Buf (Elt F) ℓ)

theorem index_0 (t : Fin (cfgM m).N) : (win0 (adm m 0) 0).index t = ![t.val, 0] :=
  (map_0 _).trans (by rw [at_coords])
theorem index_1 (t : Fin (cfgM m).N) : (win0 (adm m 0) 1).index t = ![t.val, 0] :=
  (map_1 _).trans (by rw [at_coords])

theorem lt_rows (t : Fin (cfgM m).N) (r : Fin 256) : 256 * t.val + r.val < 22528 := by
  have h : t.val < 88 := Nat.lt_of_lt_of_eq t.isLt N_0
  omega

theorem rowsAt_at (c : Dev nD) (t : Fin (cfgM m).N) (r : Fin 256) (k : Fin 1152) :
    rowsAt m c t (ix2 r k) = m (c, main_arg1) (ix2 ⟨256 * t.val + r.val, lt_rows m t r⟩ k) := by
  unfold rowsAt
  show V m c main_arg1 (((win0 (adm m 0) 0).blk t).view.emb (ix2 r k)) = _
  rw [V_arg1]
  congr 1; funext a
  match a with
  | ⟨0, _⟩ =>
    refine Fin.ext ?_
    show (win0 (adm m 0) 0).index t 0 * 256 + 1 * r.val = 256 * t.val + r.val
    rw [index_0]; show t.val * 256 + 1 * r.val = _; omega
  | ⟨1, _⟩ =>
    refine Fin.ext ?_
    show (win0 (adm m 0) 0).index t 1 * 1152 + 1 * k.val = k.val
    rw [index_0]; show 0 * 1152 + 1 * k.val = _; omega

theorem flush_1 (t : Fin (cfgM m).N) : (win0 (adm m 0) 1).flush t = true := by
  unfold Window.flush
  refine Bool.and_eq_true_iff.2 ⟨rfl, Bool.or_eq_true_iff.2 ?_⟩
  by_cases h : t.val + 1 = grid0.N
  · exact .inl (decide_eq_true h)
  · refine .inr (decide_eq_true ⟨by have : t.val < grid0.N := t.isLt; omega, fun e => ?_⟩)
    rw [index_1, index_1] at e
    have := congrFun e 0
    exact absurd this (by show ¬ t.val + 1 = t.val; omega)

theorem covers_1 : (win0 (adm m 0) 1).Covers := by
  refine ⟨fun a => ?_, fun β => ?_⟩
  · match a with
    | ⟨0, _⟩ => show 0 < 256; decide
    | ⟨1, _⟩ => show 0 < 1024; decide
  · have h0 : (β 0).val < (22528 + 256 - 1) / 256 := (β 0).isLt
    have h1 : (β 1).val < (1024 + 1024 - 1) / 1024 := (β 1).isLt
    refine ⟨⟨(β 0).val, Nat.lt_of_lt_of_eq (show (β 0).val < 88 by omega) N_0.symm⟩, flush_1 m _, fun a => ⟨?_, ?_⟩⟩
    · rw [index_1]
      match a with
      | ⟨0, _⟩ => rfl
      | ⟨1, _⟩ => show 0 = (β 1).val; omega
    · exact .inl rfl
end

variable (m : (ℓ : Loc nD τ sig) → Buf (Elt Ideal) ℓ) (h : Good m) (c : Dev nD)

include h in
theorem nuWord_eq : nuWord c (tbl m 1) = BitVec.ofNat 32 (nn (cnM m)) := V_v95 m 0 h.bnd (cnM_word m) _

theorem cond4_iff (i : grid0.Coords) {n : ℕ} (hn : n ≤ 88) : k0_cond4 i (BitVec.ofNat 32 n) = 1#1 ↔ (i 0).val < n := by
  have hi : (i 0).val < 88 := (i 0).isLt
  show IntOp.cmpi .ne ((IntOp.cmpi .slt (BitVec.ofNat 32 (i 0).val) (BitVec.ofNat 32 n)).setWidth 32) 0#32 = 1#1 ↔ _
  rw [WordCmp.cmpi_slt_ofNat (w := 32) (by omega) (by omega)]
  by_cases e : (i 0).val < n
  · rw [decide_eq_true e]; exact ⟨fun _ => e, fun _ => by decide⟩
  · rw [decide_eq_false e]; exact ⟨fun h => absurd h (by decide), fun h => absurd h e⟩

/-- A row's tile. -/
abbrev tileRow (R : Fin 22528) : Fin 88 := ⟨R.val / 256, by omega⟩
/-- The bucket of a row's tile. -/
abbrev bkRow (R : Fin 22528) : Fin 64 := ⟨bk (cnM m) (R.val / 256), bk_lt h.bnd _⟩
def loR (R : Fin 22528) : Fin 16 := ⟨(lit0 (bkRow m h R)).toNat, lit0_lt _⟩
def hiR (R : Fin 22528) : Fin 16 := ⟨(lit1 (bkRow m h R)).toNat, lit1_lt _⟩

/-- The gated sum of two experts at a row and a column. -/
def gated (x : (⟨S22528x1152, .f32⟩ : BufTy).Contents (Elt Ideal)) (a b : (⟨S2x16x1024x512, .f32⟩ : BufTy).Contents (Elt Ideal)) (d : (⟨S2x16x512x1024, .f32⟩ : BufTy).Contents (Elt Ideal))
    (e₀ e₁ : Fin 16) (R : Fin 22528) (q : Fin 1024) : EReal :=
  (x (ix2 R ⟨1024, by omega⟩) : EReal) * prod (fun k => x (ix2 R ⟨k.val, by omega⟩)) a b d e₀ q
    + (x (ix2 R ⟨1025, by omega⟩) : EReal) * prod (fun k => x (ix2 R ⟨k.val, by omega⟩)) a b d e₁ q

/-- An element of the result: the gated sum of the row's two experts, or nothing behind the last tile in use. -/
def resAt (R : Fin 22528) (q : Fin 1024) : EReal :=
  if R.val / 256 < nn (cnM m) then gated (m (c, main_arg1)) (m (c, main_arg2)) (m (c, main_arg3)) (m (c, main_arg4)) (loR m h R) (hiR m h R) R q else 0

theorem outAt_at (t : Fin (cfgM m).N) (r : Fin 256) (q : Fin 1024) :
    outAt m (planG m h) c t (ix2 r q) = resAt m h c ⟨256 * t.val + r.val, lt_rows m t r⟩ q := by
  have hj : (256 * t.val + r.val) / 256 = t.val := by omega
  unfold outAt tileOut resAt
  rw [nuWord_eq m h c]
  by_cases hc : t.val < nn (cnM m)
  · rw [if_pos ((cond4_iff _ h.top).2 (by rw [at_coords]; exact hc)), if_pos (by show (256 * t.val + r.val) / 256 < _; rw [hj]; exact hc)]
    have hb : bkRow m h ⟨256 * t.val + r.val, lt_rows m t r⟩ = ⟨bk (cnM m) (grid0.coords t 0).val, bk_lt h.bnd _⟩ :=
      Fin.ext (by show bk _ ((256 * t.val + r.val) / 256) = bk _ _; rw [hj, at_coords])
    have h0 : ((planG m h c).lo (tileOf (grid0.coords t))).val = 16 + (loR m h ⟨256 * t.val + r.val, lt_rows m t r⟩).val := by
      show (loW ⟨bk (cnM m) (grid0.coords t 0).val, bk_lt h.bnd _⟩).toNat = 16 + (lit0 (bkRow m h _)).toNat
      rw [hb]; exact loW_eq _
    have h1 : ((planG m h c).hi (tileOf (grid0.coords t))).val = 16 + (hiR m h ⟨256 * t.val + r.val, lt_rows m t r⟩).val := by
      show (hiW ⟨bk (cnM m) (grid0.coords t 0).val, bk_lt h.bnd _⟩).toNat = 16 + (lit1 (bkRow m h _)).toNat
      rw [hb]; exact hiW_eq _
    rw [mix_at m c _ _ _ (h0 ▸ Nat.le_add_right 16 _) (h1 ▸ Nat.le_add_right 16 _)]
    simp only [rowsAt_at]
    unfold gated
    rw [show (⟨((planG m h c).lo (tileOf (grid0.coords t))).val - 16, by omega⟩ : Fin 16) = loR m h ⟨256 * t.val + r.val, lt_rows m t r⟩ from Fin.ext (Nat.sub_eq_of_eq_add (h0.trans (Nat.add_comm 16 _))),
      show (⟨((planG m h c).hi (tileOf (grid0.coords t))).val - 16, by omega⟩ : Fin 16) = hiR m h ⟨256 * t.val + r.val, lt_rows m t r⟩ from Fin.ext (Nat.sub_eq_of_eq_add (h1.trans (Nat.add_comm 16 _)))]
  · rw [if_neg (fun e => hc (by have := (cond4_iff _ h.top).1 e; rwa [at_coords] at this)), if_neg (by show ¬ (256 * t.val + r.val) / 256 < _; rw [hj]; exact hc)]
    exact pay2_at r q

theorem final_at : (dats m (planG m h) 0 c).arrAt 1 (cfgM m).N = (fun i => resAt m h c (i 0) (i 1) : (⟨S22528x1024, .f32⟩ : BufTy).Contents (Elt Ideal)) := by
  refine (dats m (planG m h) 0 c).arrAt_eq_of_covers 1 _ (covers_1 m) (fun t hf y => ?_)
  have hy : ∃ (r : Fin 256) (q : Fin 1024), (y : S256x1024.Idx) = ix2 r q := ⟨(show S256x1024.Idx from y) 0, (show S256x1024.Idx from y) 1, eq_ix2 (show S256x1024.Idx from y)⟩
  obtain ⟨r, q, hy⟩ := hy
  refine Eq.trans (b := outAt m (planG m h) c t y) ?_ ?_
  · exact congrFun (after0_1 m (planG m h) c t) y
  · subst hy
    refine (outAt_at m h c t r q).trans ?_
    have e0 : (((win0 (adm m 0) 1).blk t).view.emb (ix2 r q) : S22528x1024.Idx) 0 = ⟨256 * t.val + r.val, lt_rows m t r⟩ := by
      refine Fin.ext ?_
      show (win0 (adm m 0) 1).index t 0 * 256 + 1 * r.val = 256 * t.val + r.val
      rw [index_1]; show t.val * 256 + 1 * r.val = _; omega
    have e1 : (((win0 (adm m 0) 1).blk t).view.emb (ix2 r q) : S22528x1024.Idx) 1 = q := by
      refine Fin.ext ?_
      show (win0 (adm m 0) 1).index t 1 * 1024 + 1 * q.val = q.val
      rw [index_1]; show 0 * 1024 + 1 * q.val = _; omega
    exact (congrArg₂ (resAt m h c) e0 e1).symm

end Cert.Kernel3Ideal.Moe
-- ==== Proof.LastRefValue.lean ====
/- The reference's result at a row and a column. -/
module

public import proofs.«01_k».proof.Proof.Pick
public import proofs.«01_k».proof.Proof.LastRefWords
public import proofs.«01_k».proof.Proof.LastValue
public import Idealize.ShloMosaic.Lib.Pointwise

@[expose] public section

set_option maxRecDepth 16384

noncomputable section

namespace Cert.Reference3Ideal.Moe

open Cert.Moe
open Cert.Reference3Ideal Cert.Reference3Ideal.Gen
open Idealize.ShloMosaic Idealize.ShloMosaic.TcCoe

/-- The gate of every row and expert. -/
def gates (w : IVec S22528 32) (g : IVec S22528x2 32) (x1 : FVec Ideal S22528x1152 .f32) : FVec Ideal S22528x16 .f32 :=
  select (broadcastInDim S22528x16 ![0, 1] bcast_S22528x1_S22528x16_0_1 (broadcastInDim S22528x1 ![0] bcast_S22528_S22528x1_0 (cmpi .slt w (broadcastInDim S22528 ![] bcast_S_S22528 (constantI S_ 32 64#32))))) (Host.reduceAdd (mulf (uitofp .f32 (cmpi .eq (broadcastInDim S22528x2x16 ![0, 1, 2] bcast_S22528x2x1_S22528x2x16_0_1_2 (broadcastInDim S22528x2x1 ![0, 1] bcast_S22528x2_S22528x2x1_0_1 g)) (broadcastInDim S22528x2x16 ![0, 1, 2] bcast_S1x1x16_S22528x2x16_0_1_2 (iotaInDim S1x1x16 32 2)))) (broadcastInDim S22528x2x16 ![0, 1, 2] bcast_S22528x2x1_S22528x2x16_0_1_2 (broadcastInDim S22528x2x1 ![0, 1] bcast_S22528x2_S22528x2x1_0_1 (extractStridedSlice S22528x2 ![0, 1024] x1 slices_S22528x1152_S22528x2_0_1024)))) (constant S_ .f32 0x00000000#32) reducesTo_S22528x2x16_S22528x16_d1 h_S_) (broadcastInDim S22528x16 ![] bcast_S_S22528x16 (id (constant S_ .f32 0x00000000#32)))
/-- Every expert's product at every row. -/
def products (x1 : FVec Ideal S22528x1152 .f32) (x2 x3 : FVec Ideal S2x16x1024x512 .f32) (x4 : FVec Ideal S2x16x512x1024 .f32) : FVec Ideal S16x22528x1024 .f32 :=
  Host.dotGeneral dot_S16x22528x512_S16x512x1024_S16x22528x1024_2_1_1_2_0_0 none (mulf (mulf (transpose S16x22528x512 [0, 2, 1] (Host.dotGeneral dot_S16x1024x512_S22528x1024_S16x512x22528_1_1_02_0_n_n none (shapeCast _ (extractStridedSlice S1x16x1024x512 ![1, 0, 0, 0] x2 slices_S2x16x1024x512_S1x16x1024x512_1_0_0_0) shapeCasts_S1x16x1024x512_S16x1024x512) (extractStridedSlice S22528x1024 ![0, 0] x1 slices_S22528x1152_S22528x1024_0_0)) transposes_S16x512x22528_S16x22528x512_0_2_1) (Host.divf (broadcastInDim S16x22528x512 ![] bcast_S_S16x22528x512 (constant S_ .f32 0x3F800000#32)) (addf (broadcastInDim S16x22528x512 ![] bcast_S_S16x22528x512 (constant S_ .f32 0x3F800000#32)) (Host.exp (Host.negf (transpose S16x22528x512 [0, 2, 1] (Host.dotGeneral dot_S16x1024x512_S22528x1024_S16x512x22528_1_1_02_0_n_n none (shapeCast _ (extractStridedSlice S1x16x1024x512 ![1, 0, 0, 0] x2 slices_S2x16x1024x512_S1x16x1024x512_1_0_0_0) shapeCasts_S1x16x1024x512_S16x1024x512) (extractStridedSlice S22528x1024 ![0, 0] x1 slices_S22528x1152_S22528x1024_0_0)) transposes_S16x512x22528_S16x22528x512_0_2_1)))))) (transpose S16x22528x512 [0, 2, 1] (Host.dotGeneral dot_S16x1024x512_S22528x1024_S16x512x22528_1_1_02_0_n_n none (shapeCast _ (extractStridedSlice S1x16x1024x512 ![1, 0, 0, 0] x3 slices_S2x16x1024x512_S1x16x1024x512_1_0_0_0) shapeCasts_S1x16x1024x512_S16x1024x512) (extractStridedSlice S22528x1024 ![0, 0] x1 slices_S22528x1152_S22528x1024_0_0)) transposes_S16x512x22528_S16x22528x512_0_2_1)) (shapeCast _ (extractStridedSlice S1x16x512x1024 ![1, 0, 0, 0] x4 slices_S2x16x512x1024_S1x16x512x1024_1_0_0_0) shapeCasts_S1x16x512x1024_S16x512x1024)

theorem res_eq (m : (ℓ : Loc nD τ sig) → Buf (Elt Ideal) ℓ) (c : Dev nD) :
    Value.res_main_v47 m c = Host.dotGeneral dot_S22528x16_S16x22528x1024_S22528x1024_1_0_n_2_0_1 none
      (gates (buckets (ends (m ((c.tc : Thread nD τ).loc main_arg0)))) (experts (buckets (ends (m ((c.tc : Thread nD τ).loc main_arg0))))) (m ((c.tc : Thread nD τ).loc main_arg1)))
      (products (m ((c.tc : Thread nD τ).loc main_arg1)) (m ((c.tc : Thread nD τ).loc main_arg2)) (m ((c.tc : Thread nD τ).loc main_arg3)) (m ((c.tc : Thread nD τ).loc main_arg4))) := rfl

theorem gates_at (w : IVec S22528 32) (g : IVec S22528x2 32) (x1 : FVec Ideal S22528x1152 .f32) (R : Fin 22528) (e : Fin 16) :
    gates w g x1 (ix2 R e) = Scalar.select (IntOp.cmpi CmpIPredicate.slt (w (ix1 R)) 64#32)
      ((if g (ix2 R 0) = BitVec.ofNat 32 e.val then 1 else 0) * (x1 (ix2 R ⟨1024, by omega⟩) : EReal)
        + (if g (ix2 R 1) = BitVec.ofNat 32 e.val then 1 else 0) * (x1 (ix2 R ⟨1025, by omega⟩) : EReal)) 0 := by
  pointwise [gates]
  rw [Fin.sum_univ_two, oneHot, oneHot]
  congr 1
  show Ideal.ofBits .f32 0#32 = 0
  simp

open Cert.Kernel3Ideal.Moe (prod expertAt) in
theorem products_at (x1 : FVec Ideal S22528x1152 .f32) (x2 x3 : FVec Ideal S2x16x1024x512 .f32) (x4 : FVec Ideal S2x16x512x1024 .f32) (e : Fin 16) (R : Fin 22528) (q : Fin 1024) :
    products x1 x2 x3 x4 (ix3 e R q) = prod (fun k => x1 (ix2 R ⟨k.val, by omega⟩)) x2 x3 x4 e q := by
  pointwise [products]
  have h : ∀ (y : FVec Ideal S2x16x1024x512 .f32) (f : Fin 512), ∑ k : Fin 1024, (y (ix4 1 e k f) : EReal) * x1 (ix2 R ⟨k.val, by omega⟩)
      = ∑ k : Fin 1024, (x1 (ix2 R ⟨k.val, by omega⟩) : EReal) * y (ix4 1 e k f) := fun y f => Finset.sum_congr rfl fun k _ => mul_comm _ _
  simp only [h]
  rfl

theorem sum_at (g : FVec Ideal S22528x16 .f32) (p : FVec Ideal S16x22528x1024 .f32) (R : Fin 22528) (q : Fin 1024) :
    Host.dotGeneral dot_S22528x16_S16x22528x1024_S22528x1024_1_0_n_2_0_1 none g p (ix2 R q) = ∑ e, (g (ix2 R e) : EReal) * p (ix3 e R q) := by
  pointwise

/-- The table of pairs holds each bucket's two experts. -/
theorem lo_eq : ∀ b : Fin 64, lit0 ⟨2 * b.val, by omega⟩ = Cert.Kernel3Ideal.lit0 b := by decide +kernel
theorem hi_eq : ∀ b : Fin 64, lit0 ⟨2 * b.val + 1, by omega⟩ = Cert.Kernel3Ideal.lit1 b := by decide +kernel
/-- The two experts of a bucket that may hold rows differ. -/
theorem lo_ne_hi : ∀ b : Fin 64, Cert.Pre_sorted_counts3.lit0 b = 1#1 → (Cert.Kernel3Ideal.lit0 b).toNat ≠ (Cert.Kernel3Ideal.lit1 b).toNat := by decide +kernel

open Cert.Kernel3Ideal.Moe

variable (m : (ℓ : Loc Cert.Kernel3Ideal.nD Cert.Kernel3Ideal.τ Cert.Kernel3Ideal.sig) → Buf (Elt Ideal) ℓ) (h : Good m) (c : Dev Cert.Kernel3Ideal.nD)

/-- The reference's sum over all experts is the gated sum of the row's two, or nothing behind the last tile in use. -/
theorem all_at (y : IVec S64 32) (hy : ∀ b : Fin 64, y (ValueIdx.ix1 b) = BitVec.ofNat 32 (cnM m b.val)) (R : Fin 22528) (q : Fin 1024) :
    Host.dotGeneral (F := Ideal) dot_S22528x16_S16x22528x1024_S22528x1024_1_0_n_2_0_1 none
      (gates (buckets (ends y)) (experts (buckets (ends y))) (m (c, Cert.Kernel3Ideal.main_arg1)))
      (products (m (c, Cert.Kernel3Ideal.main_arg1)) (m (c, Cert.Kernel3Ideal.main_arg2)) (m (c, Cert.Kernel3Ideal.main_arg3)) (m (c, Cert.Kernel3Ideal.main_arg4))) (ix2 R q)
      = resAt m h c R q := by
  have hw : buckets (ends y) (ValueIdx.ix1 R) = BitVec.ofNat 32 (cb (cnM m) R.val) :=
    buckets_ap h.bnd _ (ends_ap h.bnd y hy) R
  have hb := cb_le (cn := cnM m) R.val
  have hg := experts_ap _ R hb hw
  have hn : (buckets (ends y)) (ix1 R) = BitVec.ofNat 32 (cb (cnM m) R.val) := by rw [← ix1_eq]; exact hw
  rw [sum_at]
  simp only [gates_at, products_at]
  rw [hn, show (64#32 : BitVec 32) = BitVec.ofNat 32 64 from rfl, WordCmp.cmpi_slt_ofNat (w := 32) (by omega) (by decide)]
  unfold resAt
  by_cases hu : R.val / 256 < nn (cnM m)
  · have hc := cb_used h.bnd hu
    have hk := bk_lt h.bnd (R.val / 256)
    rw [if_pos hu, hc]
    simp only [hk, decide_true]
    have h0 : experts (buckets (ends y)) (ix2 R 0) = Cert.Kernel3Ideal.lit0 (bkRow m h R) := by
      rw [← ix2_eq, hg 0, ← lo_eq]
      exact congrArg lit0 (Fin.ext (by show 2 * min (cb (cnM m) R.val) 63 + 0 = 2 * bk (cnM m) (R.val / 256); omega))
    have h1 : experts (buckets (ends y)) (ix2 R 1) = Cert.Kernel3Ideal.lit1 (bkRow m h R) := by
      rw [← ix2_eq, hg 1, ← hi_eq]
      exact congrArg lit0 (Fin.ext (by show 2 * min (cb (cnM m) R.val) 63 + 1 = 2 * bk (cnM m) (R.val / 256) + 1; omega))
    rw [h0, h1]
    simp only [hot_iff _ (lit0_lt (bkRow m h R)), hot_iff _ (lit1_lt (bkRow m h R))]
    refine pick _ _ _ (e₀ := loR m h R) (e₁ := hiR m h R) fun he => ?_
    exact lo_ne_hi (bkRow m h R) (h.real _ (cn_ne h.bnd hu)) (congrArg (fun z : Fin 16 => z.val) he)
  · have hc := cb_unused (cn := cnM m) (R := R.val) (by omega)
    rw [if_neg hu, hc]
    refine Finset.sum_eq_zero fun e _ => ?_
    exact zero_mul _

/-- The reference's result, from the kernel's arguments. -/
theorem res_at (m' : (ℓ : Loc nD τ sig) → Buf (Elt Ideal) ℓ)
    (e0 : m' ((c.tc : Thread nD τ).loc main_arg0) = m ((c.tc : Thread Cert.Kernel3Ideal.nD Cert.Kernel3Ideal.τ).loc Cert.Kernel3Ideal.main_arg0))
    (e1 : m' ((c.tc : Thread nD τ).loc main_arg1) = m ((c.tc : Thread Cert.Kernel3Ideal.nD Cert.Kernel3Ideal.τ).loc Cert.Kernel3Ideal.main_arg1))
    (e2 : m' ((c.tc : Thread nD τ).loc main_arg2) = m ((c.tc : Thread Cert.Kernel3Ideal.nD Cert.Kernel3Ideal.τ).loc Cert.Kernel3Ideal.main_arg2))
    (e3 : m' ((c.tc : Thread nD τ).loc main_arg3) = m ((c.tc : Thread Cert.Kernel3Ideal.nD Cert.Kernel3Ideal.τ).loc Cert.Kernel3Ideal.main_arg3))
    (e4 : m' ((c.tc : Thread nD τ).loc main_arg4) = m ((c.tc : Thread Cert.Kernel3Ideal.nD Cert.Kernel3Ideal.τ).loc Cert.Kernel3Ideal.main_arg4)) :
    Value.res_main_v47 m' c = (fun i => resAt m h c (i 0) (i 1)) := by
  rw [res_eq, e0, e1, e2, e3, e4]
  funext i
  have hi : ∃ (R : Fin 22528) (q : Fin 1024), (i : S22528x1024.Idx) = ix2 R q := ⟨(show S22528x1024.Idx from i) 0, (show S22528x1024.Idx from i) 1, eq_ix2 (show S22528x1024.Idx from i)⟩
  obtain ⟨R, q, rfl⟩ := hi
  obtain rfl : c = 0 := Subsingleton.elim c 0
  exact all_at m h 0 _ (cnM_word m) R q

end Cert.Reference3Ideal.Moe
-- ==== Proof.LastClaims.lean ====
/- The claims about the experts' call in the last layer: its frames, and that it leaves what the reference computes. -/
module

public import proofs.«01_k».proof.Defs
public import proofs.«01_k».proof.Proof.Same
public import proofs.«01_k».proof.Proof.LastSame
public import proofs.«01_k».proof.Proof.LastRefValue
public import Idealize.ShloMosaic.Lib.Quiescent
public import Idealize.ShloMosaic.Lib.Claim
public import Idealize.ShloMosaic.Adequacy
public import Idealize.ShloMosaic.Init

@[expose] public section

noncomputable section

namespace Cert.Proof.Last

open Idealize.ShloMosaic Idealize.SL.Sem

open Cert.Kernel3Ideal.Moe in
/-- The precondition, read of a memory of the kernel at any scalar semantics. -/
theorem good_of {F : FTy → Type} [FloatOps F] (m : (ℓ : Loc Cert.Kernel3Ideal.nD Cert.Kernel3Ideal.τ Cert.Kernel3Ideal.sig) → Buf (Elt F) ℓ)
    (h : ∀ c : Dev Cert.Kernel3Ideal.nD,
    (Cert.Pre_sorted_counts3.fn (F := F) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)) : Good m :=
  have e := pre_read _ _ _ _ _ (h 0)
  ⟨e.1, e.2.1, e.2.2.1, e.2.2.2⟩

open Cert.Kernel3Ideal.Moe in
theorem frame_ideal : Cert.quiescent_Kernel3Ideal := fun m ρ h =>
  (θ_run Cert.Kernel3Ideal.defs _ _).mono (fun _ hr => ⟨fun c => (hr.1 c).2, hr.2⟩) (run_out (F := Ideal) m ρ (good_of m h))

open Cert.Kernel3Ideal.Moe in
theorem good_kernel (m : (ℓ : Loc Cert.Kernel3.nD Cert.Kernel3.τ Cert.Kernel3.sig) → Buf (Elt Bits) ℓ) (h : Cert.Pre_Kernel3 m) : Good (F := Bits) m :=
  good_of (F := Bits) m h

open Cert.Kernel3Ideal.Moe in
theorem run_kernel (m : (ℓ : Loc Cert.Kernel3Ideal.nD Cert.Kernel3Ideal.τ Cert.Kernel3Ideal.sig) → Buf (Elt Bits) ℓ) (ρ : Dev Cert.Kernel3Ideal.nD → PrngReg) (h : Good m) :
    θ_run (Cert.Kernel3Ideal.defs (F := Bits)) (onTc (τ := Cert.Kernel3Ideal.τ) (Cert.Kernel3Ideal.main (F := Bits))) ⟨m, fun _ => 0, ρ⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0) :=
  (θ_run Cert.Kernel3Ideal.defs _ _).mono (fun _ hr => ⟨fun c => (hr.1 c).2, hr.2⟩) (run_out (F := Bits) m ρ h)

theorem frame_kernel : Cert.quiescent_Kernel3 := fun m ρ h =>
  Cert.Proof.run_same defs_same (funext main_same) (run_kernel m ρ (good_kernel m h))

theorem frame_reference : Cert.quiescent_Reference3Ideal := fun m ρ _ =>
  (θ_run Cert.Reference3Ideal.defs _ _).mono (fun r hr => ⟨fun c => (hr c).2, sem_eq_zero_of_no_sems rfl _⟩) (Cert.Reference3Ideal.Value.run (F := Ideal) m ρ)

theorem frame_reference_pre : Cert.quiescent_Reference3Ideal_pre_sorted_counts3 := fun m ρ _ => frame_reference m ρ trivial

open Cert.Kernel3Ideal.Moe in
theorem equal : Cert.algebraic_Kernel3Ideal_Reference3Ideal := fun m g m' g' hpre hargs =>
  ⟨fun c => (fun i => resAt m (good_of m hpre) c (i 0) (i 1)),
    (θ_run Cert.Kernel3Ideal.defs _ _).mono (fun _ hr c => ⟨((hr.1 c).1).trans (final_at m (good_of m hpre) c), (hr.1 c).2⟩) (run_out (F := Ideal) m g (good_of m hpre)),
    (θ_run Cert.Reference3Ideal.defs _ _).mono (fun _ hr c => ⟨((hr c).1).trans
      (Cert.Reference3Ideal.Moe.res_at m (good_of m hpre) c m' (hargs c).1 (hargs c).2.1 (hargs c).2.2.1 (hargs c).2.2.2.1 (hargs c).2.2.2.2), (hr c).2⟩)
      (Cert.Reference3Ideal.Value.run (F := Ideal) m' g')⟩

end Cert.Proof.Last
-- ==== Proof.RetPre.lean ====
/- What the retention's precondition says: its queries, keys and values are real numbers. -/
module

public import proofs.«01_k».proof.Pre_finite
public import Idealize.ShloMosaic.Lib.Pointwise
public import Idealize.ShloMosaic.Lib.ReduceAll

@[expose] public section

set_option maxRecDepth 16384

noncomputable section

namespace Cert.Retention

open Idealize.ShloMosaic Idealize.ShloMosaic.Pointwise

/-- The function's stated facts. -/
instance facts_finite : Cert.Pre_finite.Facts where
  bitsLt_bf16_f32 := by decide
  bcast_S_S16640x1024 := by decide
  reducesTo_S16640x1024_S_d0_1 := by decide
  h_S_ := by decide
  bcast_S_S16640x2048 := by decide
  reducesTo_S16640x2048_S_d0_1 := by decide

theorem both_one {a b : BitVec 1} (h : IntOp.andi a b = 1#1) : a = 1#1 ∧ b = 1#1 := by
  revert a b; decide

open Cert.Pre_finite

theorem real_of_test {x : EReal} (h : BitVec.ofBool (decide (max x (-x) < Ideal.ofBits .f32 0x7F800000#32)) = 1#1) : x = ((x.toReal : ℝ) : EReal) := by
  have htop : Ideal.ofBits .f32 0x7F800000#32 = ⊤ := by simp [Ideal.ofBits, Ideal.ieee]
  rw [htop] at h
  have hlt : max x (-x) < ⊤ := by
    by_contra hn
    rw [decide_eq_false hn] at h
    exact absurd h (by decide)
  rw [max_lt_iff] at hlt
  refine (EReal.coe_toReal hlt.1.ne fun hb => ?_).symm
  rw [hb] at hlt
  simp at hlt

/-- The test of the queries or keys, and of the values. -/
def inW (x : FVec Ideal S16640x1024 .bf16) : IVec S16640x1024 1 :=
  cmpf .olt (Host.absf (extf .f32 x Facts.bitsLt_bf16_f32)) (broadcastInDim S16640x1024 ![] Facts.bcast_S_S16640x1024 (constant S_ .f32 0x7F800000#32))
def inV (x : FVec Ideal S16640x2048 .bf16) : IVec S16640x2048 1 :=
  cmpf .olt (Host.absf (extf .f32 x Facts.bitsLt_bf16_f32)) (broadcastInDim S16640x2048 ![] Facts.bcast_S_S16640x2048 (constant S_ .f32 0x7F800000#32))

theorem inW_at (x : FVec Ideal S16640x1024 .bf16) (R : Fin 16640) (k : Fin 1024) (h : inW x (ix2 R k) = 1#1) : (x (ix2 R k) : EReal) = (((x (ix2 R k) : EReal).toReal : ℝ) : EReal) := by
  refine real_of_test (Eq.trans ?_ h)
  pointwise [inW]
  rfl
theorem inV_at (x : FVec Ideal S16640x2048 .bf16) (R : Fin 16640) (k : Fin 2048) (h : inV x (ix2 R k) = 1#1) : (x (ix2 R k) : EReal) = (((x (ix2 R k) : EReal).toReal : ℝ) : EReal) := by
  refine real_of_test (Eq.trans ?_ h)
  pointwise [inV]
  rfl

theorem finite_read (a0 : FVec Ideal S2x4 .f32) (a1 a2 : FVec Ideal S16640x1024 .bf16) (a3 : FVec Ideal S16640x2048 .bf16)
    (h : Cert.Pre_finite.fn (F := Ideal) a0 a1 a2 a3 = fun _ => 1#1) :
    (∀ R k, (a1 (ix2 R k) : EReal) = (((a1 (ix2 R k) : EReal).toReal : ℝ) : EReal)) ∧ (∀ R k, (a2 (ix2 R k) : EReal) = (((a2 (ix2 R k) : EReal).toReal : ℝ) : EReal))
      ∧ (∀ R k, (a3 (ix2 R k) : EReal) = (((a3 (ix2 R k) : EReal).toReal : ℝ) : EReal)) := by
  have : Subsingleton S_.Idx := ⟨fun a b => funext fun i => i.elim0⟩
  have e := congrFun h (Shape.Idx.first Facts.h_S_)
  obtain ⟨e12, e3⟩ := both_one (show IntOp.andi _ _ = 1#1 from e)
  obtain ⟨e1, e2⟩ := both_one (show IntOp.andi _ _ = 1#1 from e12)
  exact ⟨fun R k => inW_at a1 R k (Host.reduce_andi_all _ _ _ _ _ e1 (ix2 R k)), fun R k => inW_at a2 R k (Host.reduce_andi_all _ _ _ _ _ e2 (ix2 R k)),
    fun R k => inV_at a3 R k (Host.reduce_andi_all _ _ _ _ _ e3 (ix2 R k))⟩

end Cert.Retention
-- ==== Proof.Scan.lean ====
/- The retention's recurrence over the reals, and one chunk of it over the extended reals. -/
module

public import Idealize.ShloMosaic.PureOps.Ideal

@[expose] public section

noncomputable section

namespace Cert.Retention

open Idealize.ShloMosaic Finset

/-- The factor of a head: its decay's logarithm, exponentiated. -/
def rate (d : EReal) : ℝ := (Ideal.exp (Ideal.log1p (-Ideal.exp d))).toReal

theorem exp_nonneg (x : EReal) : 0 ≤ Ideal.exp x := by
  induction x with
  | bot => exact le_refl _
  | top => exact le_top
  | coe r => exact EReal.coe_nonneg.2 (Real.exp_pos r).le

/-- The logarithm of a head's factor is not above zero. -/
theorem log_rate_le (d : EReal) : Ideal.log1p (-Ideal.exp d) ≤ 0 := by
  have h : 1 + -Ideal.exp d ≤ 1 := by
    have h1 : -Ideal.exp d ≤ 0 := EReal.neg_le_zero.2 (exp_nonneg d)
    calc 1 + -Ideal.exp d ≤ 1 + 0 := add_le_add le_rfl h1
      _ = 1 := add_zero 1
  unfold Ideal.log1p
  generalize 1 + -Ideal.exp d = y at h
  induction y with
  | bot => exact bot_le
  | top => exact absurd h (not_le.2 (EReal.coe_lt_top 1))
  | coe r =>
    have hr : r ≤ 1 := by exact_mod_cast h
    show (if r ≤ 0 then (⊥ : EReal) else (Real.log r : EReal)) ≤ 0
    split
    · exact bot_le
    · rename_i h0
      exact EReal.coe_nonpos.2 (Real.log_nonpos (not_le.1 h0).le hr)

theorem exp_mul {l : EReal} (h : l ≤ 0) (n : ℕ) : Ideal.exp (((n : ℝ) : EReal) * l) = (((Ideal.exp l).toReal ^ n : ℝ) : EReal) := by
  induction l with
  | top => exact absurd h (by simp)
  | coe r =>
    rw [← EReal.coe_mul]
    show ((Real.exp _ : ℝ) : EReal) = ((Real.exp r ^ n : ℝ) : EReal)
    rw [← Real.exp_nat_mul]
  | bot =>
    rcases n with _ | n
    · simp only [Nat.cast_zero, EReal.coe_zero, zero_mul, pow_zero]
      show Ideal.exp ((0 : ℝ) : EReal) = _
      show ((Real.exp 0 : ℝ) : EReal) = _
      rw [Real.exp_zero]
    · rw [EReal.coe_mul_bot_of_pos (by positivity)]
      show (0 : EReal) = (((0 : EReal).toReal ^ (n + 1) : ℝ) : EReal)
      simp

/-- The exponential of a multiple of the logarithm is a power of the factor. -/
theorem exp_pow (d : EReal) (n : ℕ) : Ideal.exp (((n : ℝ) : EReal) * Ideal.log1p (-Ideal.exp d)) = ((rate d ^ n : ℝ) : EReal) :=
  exp_mul (log_rate_le d) n

/-- The state's column after the first `n` positions: every key times its value, faded by its age. -/
def state (g : ℝ) (k v : ℕ → ℝ) (n : ℕ) : ℝ := ∑ m ∈ range n, g ^ (n - 1 - m) * k m * v m

/-- The retention at position `n`: the values up to there, by score and age. -/
def retain {D : ℕ} (g : ℝ) (q k : ℕ → Fin D → ℝ) (v : ℕ → ℝ) (n : ℕ) : ℝ :=
  ∑ m ∈ range (n + 1), g ^ (n - m) * (∑ d, q n d * k m d) * v m

theorem state_add (g : ℝ) (k v : ℕ → ℝ) (a C : ℕ) :
    state g k v (a + C) = state g k v a * g ^ C + ∑ j : Fin C, k (a + j) * g ^ (C - 1 - j.val) * v (a + j) := by
  unfold state
  rw [sum_range_add, sum_mul, ← Fin.sum_univ_eq_sum_range (fun x => g ^ (a + C - 1 - (a + x)) * k (a + x) * v (a + x)) C]
  congr 1
  · refine sum_congr rfl fun m hm => ?_
    have h := mem_range.1 hm
    rw [show a + C - 1 - m = (a - 1 - m) + C by omega, pow_add]; ring
  · refine sum_congr rfl fun j _ => ?_
    have h := j.isLt
    rw [show a + C - 1 - (a + j.val) = C - 1 - j.val by omega]; ring

theorem retain_add {D : ℕ} (g : ℝ) (q k : ℕ → Fin D → ℝ) (v : ℕ → ℝ) (a C : ℕ) (i : Fin C) :
    retain g q k v (a + i) = (∑ j : Fin C, (∑ d, q (a + i) d * k (a + j) d) * (if j.val ≤ i.val then g ^ (i.val - j.val) else 0) * v (a + j))
      + g ^ (i.val + 1) * ∑ d, q (a + i) d * state g (fun m => k m d) v a := by
  unfold retain state
  rw [show a + i.val + 1 = a + (i.val + 1) by omega, sum_range_add, add_comm]
  congr 1
  · have hC : ∑ j : Fin C, (∑ d, q (a + i) d * k (a + j) d) * (if j.val ≤ i.val then g ^ (i.val - j.val) else 0) * v (a + j)
        = ∑ x ∈ range C, (if x ≤ i.val then g ^ (i.val - x) * (∑ d, q (a + i) d * k (a + x) d) * v (a + x) else 0) := by
      rw [← Fin.sum_univ_eq_sum_range (fun x => if x ≤ i.val then g ^ (i.val - x) * (∑ d, q (a + i) d * k (a + x) d) * v (a + x) else 0) C]
      refine sum_congr rfl fun j _ => ?_
      by_cases h : j.val ≤ i.val
      · rw [if_pos h, if_pos h]; ring
      · rw [if_neg h, if_neg h]; ring
    rw [hC, ← sum_filter]
    have hf : (range C).filter (fun x => x ≤ i.val) = range (i.val + 1) := by
      ext x; have := i.isLt; simp only [mem_filter, mem_range]; omega
    rw [hf]
    refine sum_congr rfl fun x hx => ?_
    have h := mem_range.1 hx
    rw [show a + i.val - (a + x) = i.val - x by omega]
  · have : ∀ d, q (a + i) d * ∑ m ∈ range a, g ^ (a - 1 - m) * k m d * v m = ∑ m ∈ range a, q (a + i) d * (g ^ (a - 1 - m) * k m d * v m) :=
      fun d => mul_sum _ _ _
    simp only [this]
    rw [sum_comm, mul_sum]
    refine sum_congr rfl fun m hm => ?_
    have h := mem_range.1 hm
    rw [show a + i.val - m = (i.val + 1) + (a - 1 - m) by omega, pow_add, mul_sum, mul_sum, sum_mul]
    refine sum_congr rfl fun d _ => ?_
    ring

theorem coe_sum {ι : Type*} [Fintype ι] (f : ι → ℝ) : ((∑ j, f j : ℝ) : EReal) = ∑ j, (f j : EReal) := by
  classical
  have : ∀ s : Finset ι, ((∑ j ∈ s, f j : ℝ) : EReal) = ∑ j ∈ s, (f j : EReal) := by
    intro s
    induction s using Finset.induction_on with
    | empty => simp
    | insert a s ha ih => rw [sum_insert ha, sum_insert ha, EReal.coe_add, ih]
  exact this _

/-- One chunk's step of the state, whatever the order in which it lists its positions. -/
theorem step_state {C : ℕ} (p : Equiv.Perm (Fin C)) {g : ℝ} {k v : ℕ → ℝ} {a : ℕ} {st c : EReal} {kk e vv : Fin C → EReal}
    (hst : st = ((state g k v a : ℝ) : EReal)) (hc : c = ((g ^ C : ℝ) : EReal)) (hk : ∀ j, kk j = ((k (a + p j) : ℝ) : EReal))
    (he : ∀ j, e j = ((g ^ (C - 1 - (p j).val) : ℝ) : EReal)) (hv : ∀ j, vv j = ((v (a + p j) : ℝ) : EReal)) :
    st * c + ∑ j, kk j * e j * vv j = ((state g k v (a + C) : ℝ) : EReal) := by
  rw [state_add, hst, hc]
  simp only [hk, he, hv, ← EReal.coe_mul]
  rw [← coe_sum, ← EReal.coe_add, Equiv.sum_comp p (fun j : Fin C => k (a + j) * g ^ (C - 1 - j.val) * v (a + j))]

/-- One chunk's outputs, the state's part scaled after its sum. -/
theorem step_out {C D : ℕ} (p : Equiv.Perm (Fin C)) {g : ℝ} {q k : ℕ → Fin D → ℝ} {v : ℕ → ℝ} {a : ℕ} (i : Fin C) {qq st : Fin D → EReal} {kk : Fin C → Fin D → EReal}
    {vv w : Fin C → EReal} {c : EReal}
    (hq : ∀ d, qq d = ((q (a + p i) d : ℝ) : EReal)) (hk : ∀ j d, kk j d = ((k (a + p j) d : ℝ) : EReal)) (hv : ∀ j, vv j = ((v (a + p j) : ℝ) : EReal))
    (hw : ∀ j, w j = (((if (p j).val ≤ (p i).val then g ^ ((p i).val - (p j).val) else 0) : ℝ) : EReal))
    (hc : c = ((g ^ ((p i).val + 1) : ℝ) : EReal)) (hst : ∀ d, st d = ((state g (fun m => k m d) v a : ℝ) : EReal)) :
    (∑ j, (∑ d, qq d * kk j d) * w j * vv j) + c * ∑ d, qq d * st d = ((retain g q k v (a + p i) : ℝ) : EReal) := by
  rw [retain_add, hc]
  simp only [hq, hk, hv, hw, hst, ← EReal.coe_mul, ← coe_sum]
  rw [← EReal.coe_add, Equiv.sum_comp p (fun j : Fin C => (∑ d, q (a + p i) d * k (a + j) d) * (if j.val ≤ (p i).val then g ^ ((p i).val - j.val) else 0) * v (a + j))]

/-- The same, the state's part scaled before its sum. -/
theorem step_out' {C D : ℕ} (i : Fin C) {g : ℝ} {q k : ℕ → Fin D → ℝ} {v : ℕ → ℝ} {a : ℕ} {qq st : Fin D → EReal} {kk : Fin C → Fin D → EReal}
    {vv w : Fin C → EReal} {c : EReal}
    (hq : ∀ d, qq d = ((q (a + i) d : ℝ) : EReal)) (hk : ∀ j d, kk j d = ((k (a + j) d : ℝ) : EReal)) (hv : ∀ j, vv j = ((v (a + j) : ℝ) : EReal))
    (hw : ∀ j, w j = (((if j.val ≤ i.val then g ^ (i.val - j.val) else 0) : ℝ) : EReal))
    (hc : c = ((g ^ (i.val + 1) : ℝ) : EReal)) (hst : ∀ d, st d = ((state g (fun m => k m d) v a : ℝ) : EReal)) :
    (∑ j, (∑ d, qq d * kk j d) * w j * vv j) + ∑ d, qq d * c * st d = ((retain g q k v (a + i) : ℝ) : EReal) := by
  refine Eq.trans ?_ (step_out (Equiv.refl _) i hq hk hv hw hc hst)
  congr 1
  simp only [hq, hc, hst, ← EReal.coe_mul, ← coe_sum]
  rw [mul_sum]
  exact congrArg _ (sum_congr rfl fun d _ => by ring)

end Cert.Retention

end
-- ==== Proof.RetBlock.lean ====
/- One grid point of the retention's kernel, a head at a time: the words a point computes, at an index. -/
module

public import proofs.«01_k».proof.Proof.Gen.Kernel2Ideal.Value
public import proofs.«01_k».proof.Proof.Scan
public import Idealize.ShloMosaic.Lib.Pointwise

@[expose] public section

set_option maxRecDepth 16384

noncomputable section

namespace Cert.Kernel2Ideal.Ret

open Cert.Kernel2Ideal Cert.Kernel2Ideal.Gen Cert.Retention
open Idealize.ShloMosaic Idealize.ShloMosaic.TcCoe Idealize.ShloMosaic.Pointwise

/-- A head's new state. -/
def stepW (v : Vec Ideal S256x512 .bf16) (k : Vec Ideal S256x256 .bf16) (st : Vec Ideal S1x256x512 .f32) (kd : Vec Ideal S1x256x256 .f32)
    (cd : Vec Ideal S1x1x512 .f32) : FVec Ideal S1x256x512 .f32 :=
  shapeCast S1x256x512 (addf (mulf (shapeCast S256x512 st shapeCasts_S1x256x512_S256x512)
    (broadcastTo S256x512 (shapeCast S1x512 cd shapeCasts_S1x1x512_S1x512) broadcasts_S1x512_S256x512))
    (matmul (φ₁ := .bf16) (φ₂ := .bf16) dot_S256x256_S256x512_S256x512_1_0_0_1_n_n none
      (transpose S256x256 [1, 0] (truncf .bf16 (mulf (extf .f32 k bitsLt_bf16_f32) (shapeCast S256x256 kd shapeCasts_S1x256x256_S256x256))
        bitsLt_bf16_f32) transposes_S256x256_p1_0_S256x256) v (constant S256x512 .f32 0x00000000#32))) shapeCasts_S256x512_S1x256x512

/-- A head's outputs. -/
def outW (q k : Vec Ideal S256x256 .bf16) (v : Vec Ideal S256x512 .bf16) (st : Vec Ideal S1x256x512 .f32) (dm : Vec Ideal S1x256x256 .f32)
    (qd : Vec Ideal S1x256x512 .f32) : FVec Ideal S256x512 .bf16 :=
  truncf .bf16 (addf
    (matmul (φ₁ := .bf16) (φ₂ := .bf16) dot_S256x256_S256x512_S256x512_1_0_0_1_n_n none
      (truncf .bf16 (mulf (matmul (φ₁ := .bf16) (φ₂ := .bf16) dot_S256x256_S256x256_S256x256_1_1_0_0_n_n none q k (constant S256x256 .f32 0x00000000#32))
        (shapeCast S256x256 dm shapeCasts_S1x256x256_S256x256)) bitsLt_bf16_f32) v (constant S256x512 .f32 0x00000000#32))
    (mulf (shapeCast S256x512 qd shapeCasts_S1x256x512_S256x512)
      (matmul (φ₁ := .bf16) (φ₂ := .bf16) dot_S256x256_S256x512_S256x512_1_0_0_1_n_n none q
        (truncf .bf16 (shapeCast S256x512 st shapeCasts_S1x256x512_S256x512) bitsLt_bf16_f32) (constant S256x512 .f32 0x00000000#32))))
    bitsLt_bf16_f32

theorem stepW_at (v : Vec Ideal S256x512 .bf16) (k : Vec Ideal S256x256 .bf16) (st : Vec Ideal S1x256x512 .f32) (kd : Vec Ideal S1x256x256 .f32)
    (cd : Vec Ideal S1x1x512 .f32) (u : Fin 1) (d : Fin 256) (e : Fin 512) :
    stepW v k st kd cd (ix3 u d e) = (st (ix3 0 d e) : EReal) * cd (ix3 0 0 e) + ∑ r : Fin 256, ((k (ix2 r d) : EReal) * kd (ix3 0 r d)) * v (ix2 r e) := by
  pointwise [stepW]

theorem outW_at (q k : Vec Ideal S256x256 .bf16) (v : Vec Ideal S256x512 .bf16) (st : Vec Ideal S1x256x512 .f32) (dm : Vec Ideal S1x256x256 .f32)
    (qd : Vec Ideal S1x256x512 .f32) (r : Fin 256) (e : Fin 512) :
    outW q k v st dm qd (ix2 r e) = (∑ j : Fin 256, ((∑ d : Fin 256, (q (ix2 r d) : EReal) * k (ix2 j d)) * dm (ix3 0 r j)) * v (ix2 j e))
      + (qd (ix3 0 r e) : EReal) * ∑ d : Fin 256, (q (ix2 r d) : EReal) * st (ix3 0 d e) := by
  pointwise [outW]

/-- The order in which a block's rows are scanned: forward for the first four heads, backward for the others. -/
def perm (i : Fin 8) : Equiv.Perm (Fin 256) := if i.val < 4 then Equiv.refl _ else Fin.revPerm

section
variable (γ : Fin 8 → ℝ) (Q K : Fin 8 → ℕ → Fin 256 → ℝ) (W : Fin 8 → ℕ → Fin 512 → ℝ)

/-- The states after `n` positions. -/
def stG (n : ℕ) : Vec Ideal S8x256x512 .f32 :=
  fun y => ((state (γ (y 0)) (fun m => K (y 0) m (y 1)) (fun m => W (y 0) m (y 2)) n : ℝ) : EReal)
/-- The factors between the rows of a block. -/
def dmG : Vec Ideal S8x256x256 .f32 :=
  fun y => ((if (perm (y 0) (y 2)).val ≤ (perm (y 0) (y 1)).val then γ (y 0) ^ ((perm (y 0) (y 1)).val - (perm (y 0) (y 2)).val) else 0 : ℝ) : EReal)
/-- The factors of the state at the rows of a block. -/
def qdG : Vec Ideal S8x256x512 .f32 := fun y => ((γ (y 0) ^ ((perm (y 0) (y 1)).val + 1) : ℝ) : EReal)
/-- The factors of a block's keys. -/
def kdG : Vec Ideal S8x256x256 .f32 := fun y => ((γ (y 0) ^ (256 - 1 - (perm (y 0) (y 1)).val) : ℝ) : EReal)
/-- The factor of the state over a block. -/
def cdG : Vec Ideal S8x8x512 .f32 := fun y => ((γ (y 0) ^ 256 : ℝ) : EReal)

/-- The head of an output column in the direction that starts at head `b`. -/
def hd (b : ℕ) (hb : b ≤ 4) (e : Fin 2048) : Fin 8 := ⟨b + e.val / 512, by have := e.isLt; omega⟩
def lane (e : Fin 2048) : Fin 512 := ⟨e.val % 512, Nat.mod_lt _ (by decide)⟩

/-- The outputs of the block that starts at position `n`, in the direction that starts at head `b`. -/
def outG (b : ℕ) (hb : b ≤ 4) (n : ℕ) : Vec Ideal S256x2048 .bf16 :=
  fun y => ((retain (γ (hd b hb (y 1))) (Q (hd b hb (y 1))) (K (hd b hb (y 1))) (fun m => W (hd b hb (y 1)) m (lane (y 1))) (n + (perm (hd b hb (y 1)) (y 0)).val) : ℝ) : EReal)

theorem step_piece (i : Fin 8) (n : ℕ) (inb : _)
    {v : Vec Ideal S256x512 .bf16} {k : Vec Ideal S256x256 .bf16} {st : Vec Ideal S1x256x512 .f32} {kd : Vec Ideal S1x256x256 .f32} {cd : Vec Ideal S1x1x512 .f32}
    (hv : ∀ r e, v (ix2 r e) = ((W i (n + (perm i r).val) e : ℝ) : EReal))
    (hk : ∀ r d, k (ix2 r d) = ((K i (n + (perm i r).val) d : ℝ) : EReal))
    (hst : ∀ d e, st (ix3 0 d e) = stG γ K W n (ix3 i d e))
    (hkd : ∀ r d, kd (ix3 0 r d) = kdG γ (ix3 i r d))
    (hcd : ∀ e, cd (ix3 0 0 e) = cdG γ (ix3 i 0 e))
    (x : (Rect.unit (s := S8x256x512) ![i.val, 0, 0] ![1, 256, 512] inb).shape.Idx) :
    stepW v k st kd cd x = stG γ K W (n + 256) ((Rect.unit (s := S8x256x512) ![i.val, 0, 0] ![1, 256, 512] inb).emb x) := by
  obtain ⟨u, d, e, rfl⟩ : ∃ (u : Fin 1) (d : Fin 256) (e : Fin 512), x = ix3 u d e := ⟨x 0, x 1, x 2, eq_ix3 (n0 := 1) (n1 := 256) (n2 := 512) x⟩
  have he : (Rect.unit (s := S8x256x512) ![i.val, 0, 0] ![1, 256, 512] inb).emb (ix3 u d e) = ix3 (n0 := 8) (n1 := 256) (n2 := 512) i d e := by
    funext a
    match a with
    | ⟨0, _⟩ => exact Fin.ext (show i.val + 1 * u.val = i.val by have : u.val < 1 := u.isLt; omega)
    | ⟨1, _⟩ => exact Fin.ext (show 0 + 1 * d.val = d.val by omega)
    | ⟨2, _⟩ => exact Fin.ext (show 0 + 1 * e.val = e.val by omega)
  refine (stepW_at v k st kd cd u d e).trans (Eq.trans ?_ (congrArg (stG γ K W (n + 256)) he.symm))
  exact step_state (perm i) (hst _ _) (hcd _) (fun j => hk j _) (fun j => hkd j _) (fun j => hv j _)

theorem out_piece (b : ℕ) (hb : b ≤ 4) (h : Fin 4) (n : ℕ) (i : Fin 8) (hi : i.val = b + h.val) (inb : _)
    {q k : Vec Ideal S256x256 .bf16} {v : Vec Ideal S256x512 .bf16} {st : Vec Ideal S1x256x512 .f32} {dm : Vec Ideal S1x256x256 .f32} {qd : Vec Ideal S1x256x512 .f32}
    (hq : ∀ r d, q (ix2 r d) = ((Q i (n + (perm i r).val) d : ℝ) : EReal))
    (hk : ∀ r d, k (ix2 r d) = ((K i (n + (perm i r).val) d : ℝ) : EReal))
    (hv : ∀ r e, v (ix2 r e) = ((W i (n + (perm i r).val) e : ℝ) : EReal))
    (hst : ∀ d e, st (ix3 0 d e) = stG γ K W n (ix3 i d e))
    (hdm : ∀ r j, dm (ix3 0 r j) = dmG γ (ix3 i r j))
    (hqd : ∀ r e, qd (ix3 0 r e) = qdG γ (ix3 i r e))
    (x : (Rect.unit (s := S256x2048) ![0, 512 * h.val] ![256, 512] inb).shape.Idx) :
    outW q k v st dm qd x = outG γ Q K W b hb n ((Rect.unit (s := S256x2048) ![0, 512 * h.val] ![256, 512] inb).emb x) := by
  obtain ⟨r, e, rfl⟩ : ∃ (r : Fin 256) (e : Fin 512), x = ix2 r e := ⟨x 0, x 1, eq_ix2 (n0 := 256) (n1 := 512) x⟩
  have hlt : 512 * h.val + e.val < 2048 := by have := e.isLt; have := h.isLt; omega
  have he : (Rect.unit (s := S256x2048) ![0, 512 * h.val] ![256, 512] inb).emb (ix2 r e) = ix2 (n0 := 256) (n1 := 2048) r ⟨512 * h.val + e.val, hlt⟩ := by
    funext a
    match a with
    | ⟨0, _⟩ => exact Fin.ext (show 0 + 1 * r.val = r.val by omega)
    | ⟨1, _⟩ => exact Fin.ext (show 512 * h.val + 1 * e.val = 512 * h.val + e.val by omega)
  refine (outW_at q k v st dm qd r e).trans (Eq.trans ?_ (congrArg (outG γ Q K W b hb n) he.symm))
  have h1 : hd b hb ⟨512 * h.val + e.val, hlt⟩ = i := Fin.ext (show b + (512 * h.val + e.val) / 512 = i.val by have := e.isLt; omega)
  have h2 : lane ⟨512 * h.val + e.val, hlt⟩ = e := Fin.ext (show (512 * h.val + e.val) % 512 = e.val by have := e.isLt; omega)
  show _ = ((retain (γ (hd b hb ⟨512 * h.val + e.val, hlt⟩)) (Q (hd b hb ⟨512 * h.val + e.val, hlt⟩)) (K (hd b hb ⟨512 * h.val + e.val, hlt⟩)) (fun m => W (hd b hb ⟨512 * h.val + e.val, hlt⟩) m (lane ⟨512 * h.val + e.val, hlt⟩)) (n + (perm (hd b hb ⟨512 * h.val + e.val, hlt⟩) r).val) : ℝ) : EReal)
  rw [h1, h2]
  exact step_out (perm i) r (fun d => hq _ d) (fun j d => hk j d) (fun j => hv j _) (fun j => hdm _ j) (hqd _ _) (fun d => hst d _)

end

/-- A load of one head's part of a three-axis array. -/
theorem rd3 {n1 n2 m1 m2 : ℕ} {e : EltTy} {a : Memref sig .tc .vmem ⟨3, ![8, n1, n2]⟩ e} (ha : a.IsWhole) (x : Vec Ideal ⟨3, ![8, n1, n2]⟩ e) (i : Fin 8) (inb : _)
    (d : Fin m1) (c : Fin m2) (hd : d.val < n1) (hc : c.val < n2) :
    View.readAt (Elt Ideal) a.view (Rect.unit (s := ⟨3, ![8, n1, n2]⟩) ![i.val, 0, 0] ![1, m1, m2] inb).toLoadRect (ha.unread x) (ix3 0 d c) = x (ix3 i ⟨d.val, hd⟩ ⟨c.val, hc⟩) := by
  rw [View.readAt_apply, ha.read_unread]
  congr 1
  funext a
  match a with
  | ⟨0, _⟩ => exact Fin.ext (show i.val + 1 * 0 = i.val by omega)
  | ⟨1, _⟩ => exact Fin.ext (show 0 + 1 * d.val = d.val by omega)
  | ⟨2, _⟩ => exact Fin.ext (show 0 + 1 * c.val = c.val by omega)

/-- A load of some columns of a two-axis array. -/
theorem rd2 {n0 n1 m1 o : ℕ} {e : EltTy} {a : Memref sig .tc .vmem ⟨2, ![n0, n1]⟩ e} (ha : a.IsWhole) (x : Vec Ideal ⟨2, ![n0, n1]⟩ e) (inb : _)
    (r : Fin n0) (c : Fin m1) (hc : o + c.val < n1) :
    View.readAt (Elt Ideal) a.view (Rect.unit (s := ⟨2, ![n0, n1]⟩) ![0, o] ![n0, m1] inb).toLoadRect (ha.unread x) (ix2 r c) = x (ix2 r ⟨o + c.val, hc⟩) := by
  rw [View.readAt_apply, ha.read_unread]
  congr 1
  funext a
  match a with
  | ⟨0, _⟩ => exact Fin.ext (show 0 + 1 * r.val = r.val by omega)
  | ⟨1, _⟩ => exact Fin.ext (show o + 1 * c.val = o + c.val by omega)

end Cert.Kernel2Ideal.Ret
-- ==== Proof.RetStep.lean ====
/- One grid point of the retention's kernel: what it leaves of the state and of its output blocks. -/
module

public import proofs.«01_k».proof.Proof.RetBlock

@[expose] public section

set_option maxRecDepth 16384

noncomputable section

namespace Cert.Kernel2Ideal.Ret

open Cert.Kernel2Ideal Cert.Kernel2Ideal.Gen Cert.Retention
open Idealize.ShloMosaic Idealize.ShloMosaic.TcCoe Idealize.ShloMosaic.Pointwise

/-- A block of keys or queries holds the rows from position `n` on, in the direction that starts at head `b`. -/
def Holds (b n : ℕ) (K : Fin 8 → ℕ → Fin 256 → ℝ) (x : Vec Ideal S256x1024 .bf16) : Prop :=
  ∀ (i : Fin 8) (h : Fin 4) (_ : i.val = b + h.val) (r : Fin 256) (d : Fin 256) (hc : 256 * h.val + d.val < 1024),
    x (ix2 r ⟨256 * h.val + d.val, hc⟩) = ((K i (n + (perm i r).val) d : ℝ) : EReal)
/-- The same of a block of values. -/
def HoldsV (b n : ℕ) (W : Fin 8 → ℕ → Fin 512 → ℝ) (x : Vec Ideal S256x2048 .bf16) : Prop :=
  ∀ (i : Fin 8) (h : Fin 4) (_ : i.val = b + h.val) (r : Fin 256) (e : Fin 512) (hc : 512 * h.val + e.val < 2048),
    x (ix2 r ⟨512 * h.val + e.val, hc⟩) = ((W i (n + (perm i r).val) e : ℝ) : EReal)

section
variable (γ : Fin 8 → ℝ) (Q K : Fin 8 → ℕ → Fin 256 → ℝ) (W : Fin 8 → ℕ → Fin 512 → ℝ)
variable (c : Dev nD) (i : grid0.Coords)
  (arg1 : Memref sig .tc .smem S2x4 .f32) (harg1 : arg1.IsWhole)
  (arg2 : Memref sig .tc .vmem S256x1024 .bf16) (harg2 : arg2.IsWhole)
  (arg3 : Memref sig .tc .vmem S256x1024 .bf16) (harg3 : arg3.IsWhole)
  (arg4 : Memref sig .tc .vmem S256x2048 .bf16) (harg4 : arg4.IsWhole)
  (arg5 : Memref sig .tc .vmem S256x1024 .bf16) (harg5 : arg5.IsWhole)
  (arg6 : Memref sig .tc .vmem S256x1024 .bf16) (harg6 : arg6.IsWhole)
  (arg7 : Memref sig .tc .vmem S256x2048 .bf16) (harg7 : arg7.IsWhole)
  (arg8 : Memref sig .tc .vmem S256x2048 .bf16) (harg8 : arg8.IsWhole)
  (arg9 : Memref sig .tc .vmem S256x2048 .bf16) (harg9 : arg9.IsWhole)
  (arg10 : Memref sig .tc .vmem S8x256x512 .f32) (harg10 : arg10.IsWhole)
  (arg11 : Memref sig .tc .vmem S8x256x256 .f32) (harg11 : arg11.IsWhole)
  (arg12 : Memref sig .tc .vmem S8x256x512 .f32) (harg12 : arg12.IsWhole)
  (arg13 : Memref sig .tc .vmem S8x256x256 .f32) (harg13 : arg13.IsWhole)
  (arg14 : Memref sig .tc .vmem S8x8x512 .f32) (harg14 : arg14.IsWhole)

theorem inbK (h : Fin 4) (a : Fin 2) : (![0, 256 * h.val] : Fin 2 → ℕ) a + (![256, 256] : Fin 2 → ℕ) a ≤ S256x1024.size a := by
  have := h.isLt
  match a with
  | ⟨0, _⟩ => show 0 + 256 ≤ 256; omega
  | ⟨1, _⟩ => show 256 * h.val + 256 ≤ 1024; omega

theorem inbV (h : Fin 4) (a : Fin 2) : (![0, 512 * h.val] : Fin 2 → ℕ) a + (![256, 512] : Fin 2 → ℕ) a ≤ S256x2048.size a := by
  have := h.isLt
  match a with
  | ⟨0, _⟩ => show 0 + 256 ≤ 256; omega
  | ⟨1, _⟩ => show 512 * h.val + 512 ≤ 2048; omega

theorem inb3 {n1 n2 m1 m2 : ℕ} (i : Fin 8) (h1 : m1 ≤ n1) (h2 : m2 ≤ n2) (a : Fin 3) :
    (![i.val, 0, 0] : Fin 3 → ℕ) a + (![1, m1, m2] : Fin 3 → ℕ) a ≤ (⟨3, ![8, n1, n2]⟩ : Shape).size a := by
  have := i.isLt
  match a with
  | ⟨0, _⟩ => show i.val + 1 ≤ 8; omega
  | ⟨1, _⟩ => show 0 + m1 ≤ n1; omega
  | ⟨2, _⟩ => show 0 + m2 ≤ n2; omega

/-- A head's columns of a block of keys or queries. -/
abbrev ldK (a : Memref sig .tc .vmem S256x1024 .bf16) (ha : a.IsWhole) (x : Vec Ideal S256x1024 .bf16) (h : Fin 4) : Vec Ideal S256x256 .bf16 :=
  View.readAt (Elt Ideal) a.view (Rect.unit (s := S256x1024) ![0, 256 * h.val] ![256, 256] (inbK h)).toLoadRect (ha.unread x)
/-- A head's columns of a block of values. -/
abbrev ldV (a : Memref sig .tc .vmem S256x2048 .bf16) (ha : a.IsWhole) (x : Vec Ideal S256x2048 .bf16) (h : Fin 4) : Vec Ideal S256x512 .bf16 :=
  View.readAt (Elt Ideal) a.view (Rect.unit (s := S256x2048) ![0, 512 * h.val] ![256, 512] (inbV h)).toLoadRect (ha.unread x)
/-- A head's part of an array of the heads. -/
abbrev ldH {n1 n2 : ℕ} (m1 m2 : ℕ) (a : Memref sig .tc .vmem ⟨3, ![8, n1, n2]⟩ .f32) (ha : a.IsWhole) (x : Vec Ideal ⟨3, ![8, n1, n2]⟩ .f32) (i : Fin 8) (h1 : m1 ≤ n1) (h2 : m2 ≤ n2) :
    Vec Ideal ⟨3, ![1, m1, m2]⟩ .f32 :=
  View.readAt (Elt Ideal) a.view (Rect.unit (s := ⟨3, ![8, n1, n2]⟩) ![i.val, 0, 0] ![1, m1, m2] (inb3 i h1 h2)).toLoadRect (ha.unread x)

theorem ldK_at {b n : ℕ} {x : Vec Ideal S256x1024 .bf16} (H : Holds b n K x) {a : Memref sig .tc .vmem S256x1024 .bf16} (ha : a.IsWhole) {i : Fin 8} {h : Fin 4} (hi : i.val = b + h.val)
    (r d : Fin 256) : ldK a ha x h (ix2 r d) = ((K i (n + (perm i r).val) d : ℝ) : EReal) :=
  (rd2 ha x (inbK h) r d (by have := h.isLt; have := d.isLt; omega)).trans (H i h hi r d _)

theorem ldV_at {b n : ℕ} {x : Vec Ideal S256x2048 .bf16} (H : HoldsV b n W x) {a : Memref sig .tc .vmem S256x2048 .bf16} (ha : a.IsWhole) {i : Fin 8} {h : Fin 4} (hi : i.val = b + h.val)
    (r : Fin 256) (e : Fin 512) : ldV a ha x h (ix2 r e) = ((W i (n + (perm i r).val) e : ℝ) : EReal) :=
  (rd2 ha x (inbV h) r e (by have := h.isLt; have := e.isLt; omega)).trans (H i h hi r e _)

include c i
theorem state_B (hc0 : ¬cond0_0 i) (x0 : Vec Ideal S2x4 .f32) (x1 x2 : Vec Ideal S256x1024 .bf16) (x3 : Vec Ideal S256x2048 .bf16) (x4 x5 : Vec Ideal S256x1024 .bf16) (x6 : Vec Ideal S256x2048 .bf16) (xs0 : Vec Ideal S8x256x512 .f32) (xs1 : Vec Ideal S8x256x256 .f32) (xs2 : Vec Ideal S8x256x512 .f32) (xs3 : Vec Ideal S8x256x256 .f32) (xs4 : Vec Ideal S8x8x512 .f32) (n : ℕ)
    (h2 : Holds 0 n K x2) (h3 : HoldsV 0 n W x3) (h5 : Holds 4 n K x5) (h6 : HoldsV 4 n W x6)
    (hs0 : xs0 = stG γ K W n) (hs3 : xs3 = kdG γ) (hs4 : xs4 = cdG γ) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0 xs1 xs2 xs3 xs4 = stG γ K W (n + 256) := by
  funext y
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0 xs1 xs2 xs3 xs4)]
  have S (b : ℕ) (i : Fin 8) (h : Fin 4) (hi : i.val = b + h.val) (a x : _) (ha : _) (a' x' : _) (ha' : _) (hx : Holds b n K x) (hx' : HoldsV b n W x') :=
    step_piece γ K W i n (inb3 i (by decide) (by decide)) (ldV_at W hx' (a := a') ha' hi) (ldK_at K hx (a := a) ha hi)
      (st := ldH 256 512 arg10 harg10 xs0 i (by decide) (by decide)) (kd := ldH 256 256 arg13 harg13 xs3 i (by decide) (by decide)) (cd := ldH 1 512 arg14 harg14 xs4 i (by decide) (by decide))
      (fun d e => (rd3 harg10 xs0 i _ d e d.isLt e.isLt).trans (congrFun hs0 _))
      (fun d e => (rd3 harg13 xs3 i _ d e d.isLt e.isLt).trans (congrFun hs3 _))
      (fun e => (rd3 harg14 xs4 i _ (0 : Fin 1) e (by decide) e.isLt).trans (congrFun hs4 _))
  refine View.canon_apply_of_pieces (Val := Elt Ideal) (stG γ K W (n + 256)) _ ?_ y (scover0_B_0 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0 xs1 xs2 xs3 xs4 y)
  unfold kernelRun0_B
  dsimp only
  intro p hp
  simp only [List.mem_cons, List.not_mem_nil, or_false] at hp
  rcases hp with rfl | rfl | rfl | rfl | rfl | rfl | rfl | rfl
  · exact S 4 7 3 rfl _ _ harg6 _ _ harg7 h5 h6
  · exact S 4 6 2 rfl _ _ harg6 _ _ harg7 h5 h6
  · exact S 4 5 1 rfl _ _ harg6 _ _ harg7 h5 h6
  · exact S 4 4 0 rfl _ _ harg6 _ _ harg7 h5 h6
  · exact S 0 3 3 rfl _ _ harg3 _ _ harg4 h2 h3
  · exact S 0 2 2 rfl _ _ harg3 _ _ harg4 h2 h3
  · exact S 0 1 1 rfl _ _ harg3 _ _ harg4 h2 h3
  · exact S 0 0 0 rfl _ _ harg3 _ _ harg4 h2 h3

theorem out_B_7 (hc0 : ¬cond0_0 i) (x0 : Vec Ideal S2x4 .f32) (x1 x2 : Vec Ideal S256x1024 .bf16) (x3 : Vec Ideal S256x2048 .bf16) (x4 x5 : Vec Ideal S256x1024 .bf16) (x6 : Vec Ideal S256x2048 .bf16) (xs0 : Vec Ideal S8x256x512 .f32) (xs1 : Vec Ideal S8x256x256 .f32) (xs2 : Vec Ideal S8x256x512 .f32) (xs3 : Vec Ideal S8x256x256 .f32) (xs4 : Vec Ideal S8x8x512 .f32) (n : ℕ)
    (h1 : Holds 0 n Q x1) (h2 : Holds 0 n K x2) (h3 : HoldsV 0 n W x3)
    (hs0 : xs0 = stG γ K W n) (hs1 : xs1 = dmG γ) (hs2 : xs2 = qdG γ) :
    out0_B_7 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0 xs1 xs2 xs3 xs4 = outG γ Q K W 0 (by decide) n := by
  funext y
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0 xs1 xs2 xs3 xs4)]
  have S (i : Fin 8) (h : Fin 4) (hi : i.val = 0 + h.val) :=
    out_piece γ Q K W 0 (by decide) h n i hi (inbV h) (ldK_at Q h1 harg2 hi) (ldK_at K h2 harg3 hi) (ldV_at W h3 harg4 hi)
      (st := ldH 256 512 arg10 harg10 xs0 i (by decide) (by decide)) (dm := ldH 256 256 arg11 harg11 xs1 i (by decide) (by decide)) (qd := ldH 256 512 arg12 harg12 xs2 i (by decide) (by decide))
      (fun d e => (rd3 harg10 xs0 i _ d e d.isLt e.isLt).trans (congrFun hs0 _))
      (fun d e => (rd3 harg11 xs1 i _ d e d.isLt e.isLt).trans (congrFun hs1 _))
      (fun d e => (rd3 harg12 xs2 i _ d e d.isLt e.isLt).trans (congrFun hs2 _))
  refine View.canon_apply_of_pieces (Val := Elt Ideal) (outG γ Q K W 0 (by decide) n) _ ?_ y (cover0_B_7 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0 xs1 xs2 xs3 xs4 y)
  unfold kernelRun0_B
  dsimp only
  intro p hp
  simp only [List.mem_cons, List.not_mem_nil, or_false] at hp
  rcases hp with rfl | rfl | rfl | rfl
  · exact S 3 3 rfl
  · exact S 2 2 rfl
  · exact S 1 1 rfl
  · exact S 0 0 rfl

theorem out_B_8 (hc0 : ¬cond0_0 i) (x0 : Vec Ideal S2x4 .f32) (x1 x2 : Vec Ideal S256x1024 .bf16) (x3 : Vec Ideal S256x2048 .bf16) (x4 x5 : Vec Ideal S256x1024 .bf16) (x6 : Vec Ideal S256x2048 .bf16) (xs0 : Vec Ideal S8x256x512 .f32) (xs1 : Vec Ideal S8x256x256 .f32) (xs2 : Vec Ideal S8x256x512 .f32) (xs3 : Vec Ideal S8x256x256 .f32) (xs4 : Vec Ideal S8x8x512 .f32) (n : ℕ)
    (h4 : Holds 4 n Q x4) (h5 : Holds 4 n K x5) (h6 : HoldsV 4 n W x6)
    (hs0 : xs0 = stG γ K W n) (hs1 : xs1 = dmG γ) (hs2 : xs2 = qdG γ) :
    out0_B_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0 xs1 xs2 xs3 xs4 = outG γ Q K W 4 (by decide) n := by
  funext y
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0 xs1 xs2 xs3 xs4)]
  have S (i : Fin 8) (h : Fin 4) (hi : i.val = 4 + h.val) :=
    out_piece γ Q K W 4 (by decide) h n i hi (inbV h) (ldK_at Q h4 harg5 hi) (ldK_at K h5 harg6 hi) (ldV_at W h6 harg7 hi)
      (st := ldH 256 512 arg10 harg10 xs0 i (by decide) (by decide)) (dm := ldH 256 256 arg11 harg11 xs1 i (by decide) (by decide)) (qd := ldH 256 512 arg12 harg12 xs2 i (by decide) (by decide))
      (fun d e => (rd3 harg10 xs0 i _ d e d.isLt e.isLt).trans (congrFun hs0 _))
      (fun d e => (rd3 harg11 xs1 i _ d e d.isLt e.isLt).trans (congrFun hs1 _))
      (fun d e => (rd3 harg12 xs2 i _ d e d.isLt e.isLt).trans (congrFun hs2 _))
  refine View.canon_apply_of_pieces (Val := Elt Ideal) (outG γ Q K W 4 (by decide) n) _ ?_ y (cover0_B_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0 xs1 xs2 xs3 xs4 y)
  unfold kernelRun0_B
  dsimp only
  intro p hp
  simp only [List.mem_cons, List.not_mem_nil, or_false] at hp
  rcases hp with rfl | rfl | rfl | rfl
  · exact S 7 3 rfl
  · exact S 6 2 rfl
  · exact S 5 1 rfl
  · exact S 4 0 rfl

end

end Cert.Kernel2Ideal.Ret
-- ==== Proof.RetConst.lean ====
/- The factors the retention's kernel computes at its first grid point. -/
module

public import proofs.«01_k».proof.Proof.RetStep

@[expose] public section

set_option maxRecDepth 16384

noncomputable section

namespace Cert.Kernel2Ideal.Ret

open Cert.Kernel2Ideal Cert.Kernel2Ideal.Gen Cert.Retention
open Idealize.ShloMosaic Idealize.ShloMosaic.TcCoe Idealize.ShloMosaic.Pointwise

/-- The logarithm of a head's factor, in every place. -/
def lgW (x : Elt Ideal .f32) : FVec Ideal S256x256 .f32 :=
  log1p (subf (broadcast S256x256 (Scalar.ofBits .f32 0x00000000#32 : Ideal .f32)) (exp (broadcast S256x256 x)))
/-- The factor to the powers `f`. -/
def powW (f : FVec Ideal S256x256 .f32) (x : Elt Ideal .f32) : FVec Ideal S1x256x256 .f32 :=
  shapeCast S1x256x256 (exp (mulf f (lgW x))) shapeCasts_S256x256_S1x256x256
/-- The same where `f` is not below zero, and zero elsewhere. -/
def maskW (f : FVec Ideal S256x256 .f32) (x : Elt Ideal .f32) : FVec Ideal S1x256x256 .f32 :=
  shapeCast S1x256x256 (select (cmpf .oge f (broadcast S256x256 (Scalar.ofBits .f32 0x00000000#32 : Ideal .f32)))
    (exp (mulf (select (cmpf .oge f (broadcast S256x256 (Scalar.ofBits .f32 0x00000000#32 : Ideal .f32))) f (broadcast S256x256 (Scalar.ofBits .f32 0x00000000#32 : Ideal .f32))) (lgW x)))
    (broadcast S256x256 (Scalar.ofBits .f32 0x00000000#32 : Ideal .f32))) shapeCasts_S256x256_S1x256x256
/-- The factor over a whole block. -/
def cdW (x : Elt Ideal .f32) : FVec Ideal S1x8x128 .f32 :=
  shapeCast S1x8x128 (exp (mulf (broadcast S8x128 (Scalar.ofBits .f32 0x43800000#32 : Ideal .f32)) (extractStridedSlice S8x128 ![0, 0] (lgW x) slices_S256x256_o0_0_S8x128))) shapeCasts_S8x128_S1x8x128

theorem ofBits_255 : Ideal.ofBits .f32 0x437F0000#32 = ((255 : ℝ) : EReal) := by
  simp [Ideal.ofBits, Ideal.ieee, -EReal.coe_mul]; norm_num
theorem ofBits_256 : Ideal.ofBits .f32 0x43800000#32 = ((256 : ℝ) : EReal) := by
  simp [Ideal.ofBits, Ideal.ieee, -EReal.coe_mul]; norm_num

/-- A position in a block, as the kernel counts it. -/
theorem count_at (r : Fin 256) : (FloatOps.sitofp (F := Ideal) FTy.f32 (BitVec.ofNat 32 r.val) : EReal) = ((r.val : ℝ) : EReal) := by
  show (((BitVec.ofNat 32 r.val).toInt : ℝ) : EReal) = _
  have h : (BitVec.ofNat 32 r.val).toInt = (r.val : ℤ) := by
    have := r.isLt
    rw [BitVec.toInt_ofNat', Int.bmod_def]
    split <;> omega
  rw [h]; simp

theorem pay3_at (r j : Fin 256) : k0_pay3 (F := Ideal) (ix2 r j) = ((r.val : ℝ) : EReal) := by
  pointwise [k0_pay3]
  exact count_at r

theorem pay4_at (r j : Fin 256) : k0_pay4 (F := Ideal) (ix2 r j) = ((j.val : ℝ) : EReal) := by
  pointwise [k0_pay4]
  exact count_at j

theorem powW_at (f : FVec Ideal S256x256 .f32) (x : Elt Ideal .f32) (u : Fin 1) (r j : Fin 256) :
    powW f x (ix3 u r j) = Ideal.exp ((f (ix2 r j) : EReal) * Ideal.log1p (-Ideal.exp x)) := by
  pointwise [powW, lgW]
  rw [zero_sub]

theorem maskW_at (f : FVec Ideal S256x256 .f32) (x : Elt Ideal .f32) (u : Fin 1) (r j : Fin 256) :
    maskW f x (ix3 u r j) = if 0 ≤ (f (ix2 r j) : EReal) then Ideal.exp ((f (ix2 r j) : EReal) * Ideal.log1p (-Ideal.exp x)) else 0 := by
  pointwise [maskW, lgW]
  rw [zero_sub]
  split <;> rfl

theorem cdW_at (x : Elt Ideal .f32) (u : Fin 1) (r : Fin 8) (j : Fin 128) :
    cdW x (ix3 u r j) = Ideal.exp (((256 : ℝ) : EReal) * Ideal.log1p (-Ideal.exp x)) := by
  pointwise [cdW, lgW]
  rw [zero_sub, ofBits_256]

/-- The kernel's counts of the forward and the backward order. -/
def fwdOne : FVec Ideal S256x256 .f32 := addf k0_pay3 (broadcast S256x256 (Scalar.ofBits .f32 0x3F800000#32 : Ideal .f32))
def fwdRest : FVec Ideal S256x256 .f32 := subf (broadcast S256x256 (Scalar.ofBits .f32 0x437F0000#32 : Ideal .f32)) k0_pay3
def bwdOne : FVec Ideal S256x256 .f32 := subf (broadcast S256x256 (Scalar.ofBits .f32 0x43800000#32 : Ideal .f32)) k0_pay3

theorem perm_fwd {i : ℕ} (hi : i < 8) (h : i < 4) (r : Fin 256) : (perm ⟨i, hi⟩ r).val = r.val := by
  unfold perm; rw [if_pos h]; rfl
theorem perm_bwd {i : ℕ} (hi : i < 8) (h : 4 ≤ i) (r : Fin 256) : (perm ⟨i, hi⟩ r).val = 255 - r.val := by
  unfold perm; rw [if_neg (by simpa using h)]
  show 256 - (r.val + 1) = _
  omega

theorem fwdOne_at {i : ℕ} (hi : i < 8) (h : i < 4) (r j : Fin 256) : (fwdOne (ix2 r j) : EReal) = ((((perm ⟨i, hi⟩ r).val + 1 : ℕ) : ℝ) : EReal) := by
  rw [perm_fwd hi h]
  pointwise [fwdOne, pay3_at]
  push_cast; rfl
theorem fwdRest_at {i : ℕ} (hi : i < 8) (h : i < 4) (r j : Fin 256) : (fwdRest (ix2 r j) : EReal) = (((256 - 1 - (perm ⟨i, hi⟩ r).val : ℕ) : ℝ) : EReal) := by
  rw [perm_fwd hi h]
  pointwise [fwdRest, pay3_at]
  rw [ofBits_255, ← EReal.coe_sub, Nat.cast_sub (by have := r.isLt; omega)]
  norm_num
theorem bwdOne_at {i : ℕ} (hi : i < 8) (h : 4 ≤ i) (r j : Fin 256) : (bwdOne (ix2 r j) : EReal) = ((((perm ⟨i, hi⟩ r).val + 1 : ℕ) : ℝ) : EReal) := by
  rw [perm_bwd hi h, show 255 - r.val + 1 = 256 - r.val by have := r.isLt; omega]
  pointwise [bwdOne, pay3_at]
  rw [ofBits_256, ← EReal.coe_sub, Nat.cast_sub (by have := r.isLt; omega)]
  norm_num
theorem bwdRest_at {i : ℕ} (hi : i < 8) (h : 4 ≤ i) (r j : Fin 256) : (k0_pay3 (F := Ideal) (ix2 r j) : EReal) = (((256 - 1 - (perm ⟨i, hi⟩ r).val : ℕ) : ℝ) : EReal) := by
  rw [perm_bwd hi h, show 256 - 1 - (255 - r.val) = r.val by have := r.isLt; omega]
  exact pay3_at r j
theorem fwdDiff_at {i : ℕ} (hi : i < 8) (h : i < 4) (r j : Fin 256) :
    (subf (k0_pay3 (F := Ideal)) k0_pay4 (ix2 r j) : EReal) = ((((perm ⟨i, hi⟩ r).val : ℝ) - ((perm ⟨i, hi⟩ j).val : ℝ) : ℝ) : EReal) := by
  rw [perm_fwd hi h, perm_fwd hi h]
  pointwise [pay3_at, pay4_at]
  rw [EReal.coe_sub]
theorem bwdDiff_at {i : ℕ} (hi : i < 8) (h : 4 ≤ i) (r j : Fin 256) :
    (subf (k0_pay4 (F := Ideal)) k0_pay3 (ix2 r j) : EReal) = ((((perm ⟨i, hi⟩ r).val : ℝ) - ((perm ⟨i, hi⟩ j).val : ℝ) : ℝ) : EReal) := by
  rw [perm_bwd hi h, perm_bwd hi h, Nat.cast_sub (by have := r.isLt; omega), Nat.cast_sub (by have := j.isLt; omega)]
  pointwise [pay3_at, pay4_at]
  rw [← EReal.coe_sub]
  congr 1; ring

/-- The decays, a head at a time. -/
def decN (x0 : Vec Ideal S2x4 .f32) (i : ℕ) : EReal := x0 (ix2 (n0 := 2) (n1 := 4) ⟨i / 4 % 2, Nat.mod_lt _ (by decide)⟩ ⟨i % 4, Nat.mod_lt _ (by decide)⟩)
def decs (x0 : Vec Ideal S2x4 .f32) (i : Fin 8) : EReal := decN x0 i.val
/-- The factors, a head at a time. -/
def rates (x0 : Vec Ideal S2x4 .f32) (i : Fin 8) : ℝ := rate (decs x0 i)

theorem rd1 {a : Memref sig .tc .smem S2x4 .f32} (ha : a.IsWhole) (x : Vec Ideal S2x4 .f32) (p q : ℕ) (inb : _) (hf : _) :
    View.readAt (Elt Ideal) a.view (Rect.unit (s := S2x4) ![p, q] S1x1.size inb).toLoadRect (ha.unread x) (Shape.Idx.first hf)
      = x (ix2 (n0 := 2) (n1 := 4) ⟨p, Nat.lt_of_succ_le (inb 0)⟩ ⟨q, Nat.lt_of_succ_le (inb 1)⟩) := by
  rw [View.readAt_apply, ha.read_unread]
  congr 1
  funext a
  match a with
  | ⟨0, _⟩ => exact Fin.ext (show p + 1 * 0 = p by omega)
  | ⟨1, _⟩ => exact Fin.ext (show q + 1 * 0 = q by omega)

theorem emb3 {n1 n2 m1 m2 : ℕ} (i o : ℕ) (inb : _) (hi : i < 8) (u : Fin 1) (d : Fin m1) (e : Fin m2) (hd : d.val < n1) (he : o + e.val < n2) :
    (Rect.unit (s := ⟨3, ![8, n1, n2]⟩) ![i, 0, o] ![1, m1, m2] inb).emb (ix3 u d e) = ix3 (n0 := 8) (n1 := n1) (n2 := n2) ⟨i, hi⟩ ⟨d.val, hd⟩ ⟨o + e.val, he⟩ := by
  funext a
  match a with
  | ⟨0, _⟩ => exact Fin.ext (show i + 1 * u.val = i by have : u.val < 1 := u.isLt; omega)
  | ⟨1, _⟩ => exact Fin.ext (show 0 + 1 * d.val = d.val by omega)
  | ⟨2, _⟩ => exact Fin.ext (show o + 1 * e.val = o + e.val by omega)

theorem inbO {n1 n2 m1 m2 i o : ℕ} (hi : i < 8) (h1 : m1 ≤ n1) (h2 : o + m2 ≤ n2) (a : Fin 3) :
    (![i, 0, o] : Fin 3 → ℕ) a + (![1, m1, m2] : Fin 3 → ℕ) a ≤ (⟨3, ![8, n1, n2]⟩ : Shape).size a := by
  match a with
  | ⟨0, _⟩ => show i + 1 ≤ 8; omega
  | ⟨1, _⟩ => show 0 + m1 ≤ n1; omega
  | ⟨2, _⟩ => show o + m2 ≤ n2; omega

theorem pow_piece {n2 : ℕ} {x0 : Vec Ideal S2x4 .f32} (i o : ℕ) (hi : i < 8) (f : FVec Ideal S256x256 .f32) (x : Elt Ideal .f32) (n : Fin 256 → ℕ)
    (hf : ∀ r j, (f (ix2 r j) : EReal) = (((n r : ℕ) : ℝ) : EReal)) (ho : o + 256 ≤ n2) (hx : x = decN x0 i)
    (G : Vec Ideal ⟨3, ![8, 256, n2]⟩ .f32) (hG : ∀ r j, G (ix3 ⟨i, hi⟩ r j) = ((rates x0 ⟨i, hi⟩ ^ n r : ℝ) : EReal))
    (y : (Rect.unit (s := ⟨3, ![8, 256, n2]⟩) ![i, 0, o] ![1, 256, 256] (inbO hi le_rfl ho)).shape.Idx) :
    powW f x y = G ((Rect.unit (s := ⟨3, ![8, 256, n2]⟩) ![i, 0, o] ![1, 256, 256] (inbO hi le_rfl ho)).emb y) := by
  obtain ⟨u, d, e, rfl⟩ : ∃ (u : Fin 1) (d e : Fin 256), y = ix3 u d e := ⟨y 0, y 1, y 2, eq_ix3 (n0 := 1) (n1 := 256) (n2 := 256) y⟩
  refine (powW_at f x u d e).trans (Eq.trans ?_ (congrArg G (emb3 i o (inbO hi le_rfl ho) hi u d e d.isLt (by have := e.isLt; omega)).symm))
  refine Eq.trans ?_ (hG _ _).symm
  rw [hf, hx]
  exact exp_pow _ _

theorem mask_piece {x0 : Vec Ideal S2x4 .f32} (i : ℕ) (hi : i < 8) (f : FVec Ideal S256x256 .f32) (x : Elt Ideal .f32)
    (hf : ∀ r j, (f (ix2 r j) : EReal) = ((((perm ⟨i, hi⟩ r).val : ℝ) - ((perm ⟨i, hi⟩ j).val : ℝ) : ℝ) : EReal)) (hx : x = decN x0 i)
    (y : (Rect.unit (s := S8x256x256) ![i, 0, 0] ![1, 256, 256] (inbO hi le_rfl (by decide))).shape.Idx) :
    maskW f x y = dmG (rates x0) ((Rect.unit (s := S8x256x256) ![i, 0, 0] ![1, 256, 256] (inbO hi le_rfl (by decide))).emb y) := by
  obtain ⟨u, d, e, rfl⟩ : ∃ (u : Fin 1) (d e : Fin 256), y = ix3 u d e := ⟨y 0, y 1, y 2, eq_ix3 (n0 := 1) (n1 := 256) (n2 := 256) y⟩
  refine (maskW_at f x u d e).trans (Eq.trans ?_ (congrArg (dmG (rates x0)) (emb3 (n1 := 256) (n2 := 256) i 0 (inbO hi le_rfl (by decide)) hi u d e d.isLt (by have := e.isLt; omega)).symm))
  have he : (⟨0 + e.val, by have := e.isLt; omega⟩ : Fin 256) = e := Fin.ext (by simp)
  show _ = ((if (perm ⟨i, hi⟩ ⟨0 + e.val, _⟩).val ≤ (perm ⟨i, hi⟩ d).val then rates x0 ⟨i, hi⟩ ^ ((perm ⟨i, hi⟩ d).val - (perm ⟨i, hi⟩ ⟨0 + e.val, _⟩).val) else 0 : ℝ) : EReal)
  rw [he, hf]
  by_cases hle : (perm ⟨i, hi⟩ e).val ≤ (perm ⟨i, hi⟩ d).val
  · rw [if_pos hle, ← Nat.cast_sub hle, if_pos (EReal.coe_nonneg.2 (Nat.cast_nonneg _)), hx]
    exact exp_pow _ _
  · rw [if_neg hle, if_neg]
    · rfl
    · rw [not_le]
      have : ((perm ⟨i, hi⟩ d).val : ℝ) < ((perm ⟨i, hi⟩ e).val : ℝ) := by exact_mod_cast not_le.1 hle
      exact_mod_cast sub_neg.2 this

theorem cd_piece {x0 : Vec Ideal S2x4 .f32} (i o : ℕ) (hi : i < 8) (ho : o + 128 ≤ 512) (x : Elt Ideal .f32) (hx : x = decN x0 i)
    (y : (Rect.unit (s := S8x8x512) ![i, 0, o] ![1, 8, 128] (inbO hi le_rfl ho)).shape.Idx) :
    cdW x y = cdG (rates x0) ((Rect.unit (s := S8x8x512) ![i, 0, o] ![1, 8, 128] (inbO hi le_rfl ho)).emb y) := by
  obtain ⟨u, d, e, rfl⟩ : ∃ (u : Fin 1) (d : Fin 8) (e : Fin 128), y = ix3 u d e := ⟨y 0, y 1, y 2, eq_ix3 (n0 := 1) (n1 := 8) (n2 := 128) y⟩
  refine (cdW_at x u d e).trans (Eq.trans ?_ (congrArg (cdG (rates x0)) (emb3 (n1 := 8) (n2 := 512) i o (inbO hi le_rfl ho) hi u d e d.isLt (by have := e.isLt; omega)).symm))
  rw [hx]
  exact exp_pow _ 256

section
variable (c : Dev nD) (i : grid0.Coords)
  (arg1 : Memref sig .tc .smem S2x4 .f32) (harg1 : arg1.IsWhole)
  (arg2 : Memref sig .tc .vmem S256x1024 .bf16) (harg2 : arg2.IsWhole)
  (arg3 : Memref sig .tc .vmem S256x1024 .bf16) (harg3 : arg3.IsWhole)
  (arg4 : Memref sig .tc .vmem S256x2048 .bf16) (harg4 : arg4.IsWhole)
  (arg5 : Memref sig .tc .vmem S256x1024 .bf16) (harg5 : arg5.IsWhole)
  (arg6 : Memref sig .tc .vmem S256x1024 .bf16) (harg6 : arg6.IsWhole)
  (arg7 : Memref sig .tc .vmem S256x2048 .bf16) (harg7 : arg7.IsWhole)
  (arg8 : Memref sig .tc .vmem S256x2048 .bf16) (harg8 : arg8.IsWhole)
  (arg9 : Memref sig .tc .vmem S256x2048 .bf16) (harg9 : arg9.IsWhole)
  (arg10 : Memref sig .tc .vmem S8x256x512 .f32) (harg10 : arg10.IsWhole)
  (arg11 : Memref sig .tc .vmem S8x256x256 .f32) (harg11 : arg11.IsWhole)
  (arg12 : Memref sig .tc .vmem S8x256x512 .f32) (harg12 : arg12.IsWhole)
  (arg13 : Memref sig .tc .vmem S8x256x256 .f32) (harg13 : arg13.IsWhole)
  (arg14 : Memref sig .tc .vmem S8x8x512 .f32) (harg14 : arg14.IsWhole)
include c i arg1 harg1 arg2 harg2 arg3 harg3 arg4 harg4 arg5 harg5 arg6 harg6 arg7 harg7 arg8 harg8 arg9 harg9 arg10 harg10 arg11 harg11 arg12 harg12 arg13 harg13 arg14 harg14

theorem dm_A (hc0 : cond0_0 i) (x0 : Vec Ideal S2x4 .f32) (x1 x2 : Vec Ideal S256x1024 .bf16) (x3 : Vec Ideal S256x2048 .bf16) (x4 x5 : Vec Ideal S256x1024 .bf16) (x6 : Vec Ideal S256x2048 .bf16) : View.canon (kernelRun0_A.sl.HS1_8 c arg1 harg1 x0) = dmG (rates x0) := by
  funext y
  refine View.canon_apply_of_pieces (Val := Elt Ideal) (dmG (rates x0)) _ ?_ y (scover0_A_1 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 y)
  unfold kernelRun0_A.sl.HS1_8
  intro p hp
  simp only [List.mem_cons, List.not_mem_nil, or_false] at hp
  rcases hp with rfl | rfl | rfl | rfl | rfl | rfl | rfl | rfl
  iterate 4 exact mask_piece _ (by decide) (subf k0_pay4 k0_pay3) _ (bwdDiff_at _ (by decide)) (rd1 harg1 x0 _ _ _ _)
  iterate 4 exact mask_piece _ (by decide) (subf k0_pay3 k0_pay4) _ (fwdDiff_at _ (by decide)) (rd1 harg1 x0 _ _ _ _)

theorem kd_A (hc0 : cond0_0 i) (x0 : Vec Ideal S2x4 .f32) (x1 x2 : Vec Ideal S256x1024 .bf16) (x3 : Vec Ideal S256x2048 .bf16) (x4 x5 : Vec Ideal S256x1024 .bf16) (x6 : Vec Ideal S256x2048 .bf16) : View.canon (kernelRun0_A.sl.HS3_8 c arg1 harg1 x0) = kdG (rates x0) := by
  funext y
  refine View.canon_apply_of_pieces (Val := Elt Ideal) (kdG (rates x0)) _ ?_ y (scover0_A_3 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 y)
  unfold kernelRun0_A.sl.HS3_8
  intro p hp
  simp only [List.mem_cons, List.not_mem_nil, or_false] at hp
  rcases hp with rfl | rfl | rfl | rfl | rfl | rfl | rfl | rfl
  iterate 4 exact pow_piece _ 0 (by decide) k0_pay3 _ _ (bwdRest_at _ (by decide)) (by decide) (rd1 harg1 x0 _ _ _ _) (kdG (rates x0)) (fun _ _ => rfl)
  iterate 4 exact pow_piece _ 0 (by decide) fwdRest _ _ (fwdRest_at _ (by decide)) (by decide) (rd1 harg1 x0 _ _ _ _) (kdG (rates x0)) (fun _ _ => rfl)

theorem qd_A (hc0 : cond0_0 i) (x0 : Vec Ideal S2x4 .f32) (x1 x2 : Vec Ideal S256x1024 .bf16) (x3 : Vec Ideal S256x2048 .bf16) (x4 x5 : Vec Ideal S256x1024 .bf16) (x6 : Vec Ideal S256x2048 .bf16) : View.canon (kernelRun0_A.sl.HS2_16 c arg1 harg1 x0) = qdG (rates x0) := by
  funext y
  refine View.canon_apply_of_pieces (Val := Elt Ideal) (qdG (rates x0)) _ ?_ y (scover0_A_2 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 y)
  unfold kernelRun0_A.sl.HS2_16
  intro p hp
  simp only [List.mem_cons, List.not_mem_nil, or_false] at hp
  rcases hp with rfl | rfl | rfl | rfl | rfl | rfl | rfl | rfl | rfl | rfl | rfl | rfl | rfl | rfl | rfl | rfl
  iterate 8 exact pow_piece _ _ (by decide) bwdOne _ _ (bwdOne_at _ (by decide)) (by decide) (rd1 harg1 x0 _ _ _ _) (qdG (rates x0)) (fun _ _ => rfl)
  iterate 8 exact pow_piece _ _ (by decide) fwdOne _ _ (fwdOne_at _ (by decide)) (by decide) (rd1 harg1 x0 _ _ _ _) (qdG (rates x0)) (fun _ _ => rfl)

theorem cd_A (hc0 : cond0_0 i) (x0 : Vec Ideal S2x4 .f32) (x1 x2 : Vec Ideal S256x1024 .bf16) (x3 : Vec Ideal S256x2048 .bf16) (x4 x5 : Vec Ideal S256x1024 .bf16) (x6 : Vec Ideal S256x2048 .bf16) : View.canon (kernelRun0_A.sl.HS4_32 c arg1 harg1 x0) = cdG (rates x0) := by
  funext y
  refine View.canon_apply_of_pieces (Val := Elt Ideal) (cdG (rates x0)) _ ?_ y (scover0_A_4 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 y)
  unfold kernelRun0_A.sl.HS4_32
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals exact cd_piece _ _ (by decide) (by decide) _ (rd1 harg1 x0 _ _ _ _)

end

end Cert.Kernel2Ideal.Ret
-- ==== Proof.RetFirst.lean ====
/- The retention's first grid point: the factors it leaves, the states after it and its output blocks. -/
module

public import proofs.«01_k».proof.Proof.RetConst

@[expose] public section

set_option maxRecDepth 16384

noncomputable section

namespace Cert.Kernel2Ideal.Ret

open Cert.Kernel2Ideal Cert.Kernel2Ideal.Gen Cert.Retention
open Idealize.ShloMosaic Idealize.ShloMosaic.TcCoe Idealize.ShloMosaic.Pointwise

section
variable (γ : Fin 8 → ℝ) (K : Fin 8 → ℕ → Fin 256 → ℝ) (W : Fin 8 → ℕ → Fin 512 → ℝ)

/-- The states when the first `k` heads have been stepped over the first block. -/
def mixG (k : ℕ) : Vec Ideal S8x256x512 .f32 := fun y => if (y 0).val < k then stG γ K W 256 y else stG γ K W 0 y

theorem mix_cons (k : ℕ) (hk : k < 8) {L : List (View.Piece (Elt Ideal) S8x256x512 .f32)} (hL : View.canon L = mixG γ K W k)
    (w : (Rect.unit (s := S8x256x512) ![k, 0, 0] ![1, 256, 512] (inbO hk (by decide) (by decide))).shape.Idx → Elt Ideal .f32)
    (hw : ∀ x, w x = stG γ K W 256 ((Rect.unit (s := S8x256x512) ![k, 0, 0] ![1, 256, 512] (inbO hk (by decide) (by decide))).emb x)) :
    View.canon (⟨Rect.unit (s := S8x256x512) ![k, 0, 0] ![1, 256, 512] (inbO hk (by decide) (by decide)), w⟩ :: L) = mixG γ K W (k + 1) := by
  revert w
  generalize hR : Rect.unit (s := S8x256x512) ![k, 0, 0] ![1, 256, 512] (inbO hk (by decide) (by decide)) = R
  intro w hw
  funext y
  by_cases hy : y ∈ R.set
  · obtain ⟨x, rfl⟩ := R.exists_idx_of_mem hy
    rw [show R.idx x = R.emb x from rfl, View.canon_cons_emb, hw]
    subst hR
    refine (if_pos ?_).symm
    have : (x 0).val < 1 := (x 0).isLt
    show k + 1 * (x 0).val < k + 1
    omega
  · rw [View.canon_cons_of_not_mem ⟨R, w⟩ L hy, hL]
    have hne : (y 0).val ≠ k := by
      intro h
      apply hy
      subst hR
      have he : (Rect.unit (s := S8x256x512) ![k, 0, 0] ![1, 256, 512] (inbO hk (by decide) (by decide))).idx (ix3 (0 : Fin 1) (y 1 : Fin 256) (y 2 : Fin 512)) = y := by
        funext a
        match a with
        | ⟨0, _⟩ => exact Fin.ext (show k + 1 * 0 = (y 0).val by omega)
        | ⟨1, _⟩ => exact Fin.ext (show 0 + 1 * (y 1).val = (y 1).val by omega)
        | ⟨2, _⟩ => exact Fin.ext (show 0 + 1 * (y 2).val = (y 2).val by omega)
      rw [← he]
      exact (Rect.unit (s := S8x256x512) ![k, 0, 0] ![1, 256, 512] (inbO hk (by decide) (by decide))).idx_mem _
    show (if (y 0).val < k then _ else _) = (if (y 0).val < k + 1 then _ else _)
    by_cases h : (y 0).val < k
    · rw [if_pos h, if_pos (by omega)]
    · rw [if_neg h, if_neg (by omega)]

/-- A load of one head's part of what the stores before it leave. -/
theorem rc3 {n1 n2 m1 m2 : ℕ} {v : View sig .tc .vmem ⟨3, ![8, n1, n2]⟩ .f32} {L : List (View.Piece (Elt Ideal) ⟨3, ![8, n1, n2]⟩ .f32)} {G : Vec Ideal ⟨3, ![8, n1, n2]⟩ .f32}
    (hL : View.canon L = G) (i : Fin 8) (inb : _) (d : Fin m1) (e : Fin m2) (hd : d.val < n1) (he : e.val < n2) :
    View.readCov v L (Rect.unit (s := ⟨3, ![8, n1, n2]⟩) ![i.val, 0, 0] ![1, m1, m2] inb).toLoadRect (ix3 0 d e) = G (ix3 i ⟨d.val, hd⟩ ⟨e.val, he⟩) := by
  rw [View.readCov_eq_canon', hL]
  show G _ = _
  congr 1
  funext a
  match a with
  | ⟨0, _⟩ => exact Fin.ext (show i.val + 1 * 0 = i.val by omega)
  | ⟨1, _⟩ => exact Fin.ext (show 0 + 1 * d.val = d.val by omega)
  | ⟨2, _⟩ => exact Fin.ext (show 0 + 1 * e.val = e.val by omega)

theorem mixG_at (i : Fin 8) (d : Fin 256) (e : Fin 512) : mixG γ K W i.val (ix3 i d e) = stG γ K W 0 (ix3 i d e) := if_neg (lt_irrefl i.val)

/-- A head's part of what the stores before the load leave. -/
abbrev lc {n1 n2 : ℕ} (m1 m2 : ℕ) (v : View sig .tc .vmem ⟨3, ![8, n1, n2]⟩ .f32) (L : List (View.Piece (Elt Ideal) ⟨3, ![8, n1, n2]⟩ .f32)) (i : Fin 8) (h1 : m1 ≤ n1) (h2 : m2 ≤ n2) :
    Vec Ideal ⟨3, ![1, m1, m2]⟩ .f32 :=
  View.readCov v L (Rect.unit (s := ⟨3, ![8, n1, n2]⟩) ![i.val, 0, 0] ![1, m1, m2] (inb3 i h1 h2)).toLoadRect

end

section
variable (Q K : Fin 8 → ℕ → Fin 256 → ℝ) (W : Fin 8 → ℕ → Fin 512 → ℝ)
variable (c : Dev nD) (t : grid0.Coords)
  (arg1 : Memref sig .tc .smem S2x4 .f32) (harg1 : arg1.IsWhole)
  (arg2 : Memref sig .tc .vmem S256x1024 .bf16) (harg2 : arg2.IsWhole)
  (arg3 : Memref sig .tc .vmem S256x1024 .bf16) (harg3 : arg3.IsWhole)
  (arg4 : Memref sig .tc .vmem S256x2048 .bf16) (harg4 : arg4.IsWhole)
  (arg5 : Memref sig .tc .vmem S256x1024 .bf16) (harg5 : arg5.IsWhole)
  (arg6 : Memref sig .tc .vmem S256x1024 .bf16) (harg6 : arg6.IsWhole)
  (arg7 : Memref sig .tc .vmem S256x2048 .bf16) (harg7 : arg7.IsWhole)
  (arg8 : Memref sig .tc .vmem S256x2048 .bf16) (harg8 : arg8.IsWhole)
  (arg9 : Memref sig .tc .vmem S256x2048 .bf16) (harg9 : arg9.IsWhole)
  (arg10 : Memref sig .tc .vmem S8x256x512 .f32) (harg10 : arg10.IsWhole)
  (arg11 : Memref sig .tc .vmem S8x256x256 .f32) (harg11 : arg11.IsWhole)
  (arg12 : Memref sig .tc .vmem S8x256x512 .f32) (harg12 : arg12.IsWhole)
  (arg13 : Memref sig .tc .vmem S8x256x256 .f32) (harg13 : arg13.IsWhole)
  (arg14 : Memref sig .tc .vmem S8x8x512 .f32) (harg14 : arg14.IsWhole)
include c t arg1 harg1 arg2 harg2 arg3 harg3 arg4 harg4 arg5 harg5 arg6 harg6 arg7 harg7 arg8 harg8 arg9 harg9 arg10 harg10 arg11 harg11 arg12 harg12 arg13 harg13 arg14 harg14

theorem mix_A (hc0 : cond0_0 t) (x0 : Vec Ideal S2x4 .f32) (x1 x2 : Vec Ideal S256x1024 .bf16) (x3 : Vec Ideal S256x2048 .bf16) (x4 x5 : Vec Ideal S256x1024 .bf16) (x6 : Vec Ideal S256x2048 .bf16)
    (h2 : Holds 0 0 K x2) (h3 : HoldsV 0 0 W x3) (h5 : Holds 4 0 K x5) (h6 : HoldsV 4 0 W x6) :
    View.canon (kernelRun0_A.sl.HS0_1 (F := Ideal)) = mixG (rates x0) K W 0 ∧ View.canon (kernelRun0_A.sl.HS0_2 c arg1 harg1 arg3 harg3 arg4 harg4 arg10 arg13 arg14 x0 x2 x3) = mixG (rates x0) K W 1 ∧
    View.canon (kernelRun0_A.sl.HS0_3 c arg1 harg1 arg3 harg3 arg4 harg4 arg10 arg13 arg14 x0 x2 x3) = mixG (rates x0) K W 2 ∧ View.canon (kernelRun0_A.sl.HS0_4 c arg1 harg1 arg3 harg3 arg4 harg4 arg10 arg13 arg14 x0 x2 x3) = mixG (rates x0) K W 3 ∧
    View.canon (kernelRun0_A.sl.HS0_5 c arg1 harg1 arg3 harg3 arg4 harg4 arg10 arg13 arg14 x0 x2 x3) = mixG (rates x0) K W 4 ∧ View.canon (kernelRun0_A.sl.HS0_6 c arg1 harg1 arg3 harg3 arg4 harg4 arg6 harg6 arg7 harg7 arg10 arg13 arg14 x0 x2 x3 x5 x6) = mixG (rates x0) K W 5 ∧
    View.canon (kernelRun0_A.sl.HS0_7 c arg1 harg1 arg3 harg3 arg4 harg4 arg6 harg6 arg7 harg7 arg10 arg13 arg14 x0 x2 x3 x5 x6) = mixG (rates x0) K W 6 ∧ View.canon (kernelRun0_A.sl.HS0_8 c arg1 harg1 arg3 harg3 arg4 harg4 arg6 harg6 arg7 harg7 arg10 arg13 arg14 x0 x2 x3 x5 x6) = mixG (rates x0) K W 7 ∧
    sout0_A_0 c t arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = stG (rates x0) K W 256 := by
  have S (b : ℕ) (i : Fin 8) (h : Fin 4) (hi : i.val = b + h.val) (a x : _) (ha : _) (a' x' : _) (ha' : _) (hx : Holds b 0 K x) (hx' : HoldsV b 0 W x')
      (L : List (View.Piece (Elt Ideal) S8x256x512 .f32)) (hL : View.canon L = mixG (rates x0) K W i.val) :=
    step_piece (rates x0) K W i 0 (inb3 i (by decide) (by decide)) (ldV_at W hx' (a := a') ha' hi) (ldK_at K hx (a := a) ha hi)
      (st := lc 256 512 arg10.view L i (by decide) (by decide)) (kd := lc 256 256 arg13.view (kernelRun0_A.sl.HS3_8 c arg1 harg1 x0) i (by decide) (by decide))
      (cd := lc 1 512 arg14.view (kernelRun0_A.sl.HS4_32 c arg1 harg1 x0) i (by decide) (by decide))
      (fun d e => (rc3 hL i _ d e d.isLt e.isLt).trans (mixG_at _ _ _ i d e))
      (fun d e => rc3 (kd_A c t arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6) i _ d e d.isLt e.isLt)
      (fun e => rc3 (cd_A c t arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6) i _ (0 : Fin 1) e (by decide) e.isLt)
  have c0 : View.canon (kernelRun0_A.sl.HS0_1 (F := Ideal)) = mixG (rates x0) K W 0 := by
    funext y
    refine Eq.trans ?_ (if_neg (Nat.not_lt_zero _)).symm
    unfold kernelRun0_A.sl.HS0_1
    have h := View.canon_cons_emb (Val := Elt Ideal) (e := .f32) (Rect.unit (s := S8x256x512) ![0, 0, 0] S8x256x512.size inb_S8x256x512_S8x256x512_0_0_0) (k0_pay2 (F := Ideal)) [] y
    have he : (Rect.unit (s := S8x256x512) ![0, 0, 0] S8x256x512.size inb_S8x256x512_S8x256x512_0_0_0).emb y = y := by
      funext a
      match a with
      | ⟨0, _⟩ => exact Fin.ext (show 0 + 1 * (y 0).val = (y 0).val by omega)
      | ⟨1, _⟩ => exact Fin.ext (show 0 + 1 * (y 1).val = (y 1).val by omega)
      | ⟨2, _⟩ => exact Fin.ext (show 0 + 1 * (y 2).val = (y 2).val by omega)
    rw [he] at h
    refine h.trans ?_
    show k0_pay2 (F := Ideal) y = ((state _ _ _ 0 : ℝ) : EReal)
    rw [show state (rates x0 (y 0)) (fun m => K (y 0) m (y 1)) (fun m => W (y 0) m (y 2)) 0 = 0 from Finset.sum_range_zero _]
    pointwise [k0_pay2]
    rfl
  have c1 : View.canon (kernelRun0_A.sl.HS0_2 c arg1 harg1 arg3 harg3 arg4 harg4 arg10 arg13 arg14 x0 x2 x3) = mixG (rates x0) K W 1 :=
    mix_cons _ K W 0 (by decide) c0 _ (S 0 0 0 rfl _ _ harg3 _ _ harg4 h2 h3 _ c0)
  have c2 : View.canon (kernelRun0_A.sl.HS0_3 c arg1 harg1 arg3 harg3 arg4 harg4 arg10 arg13 arg14 x0 x2 x3) = mixG (rates x0) K W 2 :=
    mix_cons _ K W 1 (by decide) c1 _ (S 0 1 1 rfl _ _ harg3 _ _ harg4 h2 h3 _ c1)
  have c3 : View.canon (kernelRun0_A.sl.HS0_4 c arg1 harg1 arg3 harg3 arg4 harg4 arg10 arg13 arg14 x0 x2 x3) = mixG (rates x0) K W 3 :=
    mix_cons _ K W 2 (by decide) c2 _ (S 0 2 2 rfl _ _ harg3 _ _ harg4 h2 h3 _ c2)
  have c4 : View.canon (kernelRun0_A.sl.HS0_5 c arg1 harg1 arg3 harg3 arg4 harg4 arg10 arg13 arg14 x0 x2 x3) = mixG (rates x0) K W 4 :=
    mix_cons _ K W 3 (by decide) c3 _ (S 0 3 3 rfl _ _ harg3 _ _ harg4 h2 h3 _ c3)
  have c5 : View.canon (kernelRun0_A.sl.HS0_6 c arg1 harg1 arg3 harg3 arg4 harg4 arg6 harg6 arg7 harg7 arg10 arg13 arg14 x0 x2 x3 x5 x6) = mixG (rates x0) K W 5 :=
    mix_cons _ K W 4 (by decide) c4 _ (S 4 4 0 rfl _ _ harg6 _ _ harg7 h5 h6 _ c4)
  have c6 : View.canon (kernelRun0_A.sl.HS0_7 c arg1 harg1 arg3 harg3 arg4 harg4 arg6 harg6 arg7 harg7 arg10 arg13 arg14 x0 x2 x3 x5 x6) = mixG (rates x0) K W 6 :=
    mix_cons _ K W 5 (by decide) c5 _ (S 4 5 1 rfl _ _ harg6 _ _ harg7 h5 h6 _ c5)
  have c7 : View.canon (kernelRun0_A.sl.HS0_8 c arg1 harg1 arg3 harg3 arg4 harg4 arg6 harg6 arg7 harg7 arg10 arg13 arg14 x0 x2 x3 x5 x6) = mixG (rates x0) K W 7 :=
    mix_cons _ K W 6 (by decide) c6 _ (S 4 6 2 rfl _ _ harg6 _ _ harg7 h5 h6 _ c6)
  refine ⟨c0, c1, c2, c3, c4, c5, c6, c7, ?_⟩
  unfold sout0_A_0
  rw [View.read_writes_eq_canon _ _ _ (scover0_A_0 c t arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6)]
  refine (mix_cons _ K W 7 (by decide) c7 _ (S 4 7 3 rfl _ _ harg6 _ _ harg7 h5 h6 _ c7)).trans ?_
  funext y
  exact if_pos (y 0).isLt

theorem out_A_7 (hc0 : cond0_0 t) (x0 : Vec Ideal S2x4 .f32) (x1 x2 : Vec Ideal S256x1024 .bf16) (x3 : Vec Ideal S256x2048 .bf16) (x4 x5 : Vec Ideal S256x1024 .bf16) (x6 : Vec Ideal S256x2048 .bf16)
    (h1 : Holds 0 0 Q x1) (h2 : Holds 0 0 K x2) (h3 : HoldsV 0 0 W x3) (h5 : Holds 4 0 K x5) (h6 : HoldsV 4 0 W x6) :
    out0_A_7 c t arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = outG (rates x0) Q K W 0 (by decide) 0 := by
  obtain ⟨c0, c1, c2, c3, -⟩ := mix_A K W c t arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 h2 h3 h5 h6
  funext y
  unfold out0_A_7
  rw [View.read_writes_eq_canon _ _ _ (cover0_A_7 c t arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6)]
  have S (i : Fin 8) (h : Fin 4) (hi : i.val = 0 + h.val) (L : List (View.Piece (Elt Ideal) S8x256x512 .f32)) (hL : View.canon L = mixG (rates x0) K W i.val) :=
    out_piece (rates x0) Q K W 0 (by decide) h 0 i hi (inbV h) (ldK_at Q h1 harg2 hi) (ldK_at K h2 harg3 hi) (ldV_at W h3 harg4 hi)
      (st := lc 256 512 arg10.view L i (by decide) (by decide)) (dm := lc 256 256 arg11.view (kernelRun0_A.sl.HS1_8 c arg1 harg1 x0) i (by decide) (by decide))
      (qd := lc 256 512 arg12.view (kernelRun0_A.sl.HS2_16 c arg1 harg1 x0) i (by decide) (by decide))
      (fun d e => (rc3 hL i _ d e d.isLt e.isLt).trans (mixG_at _ _ _ i d e))
      (fun d e => rc3 (dm_A c t arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6) i _ d e d.isLt e.isLt)
      (fun d e => rc3 (qd_A c t arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6) i _ d e d.isLt e.isLt)
  refine View.canon_apply_of_pieces (Val := Elt Ideal) (outG (rates x0) Q K W 0 (by decide) 0) _ ?_ y (cover0_A_7 c t arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 y)
  unfold kernelRun0_A
  dsimp only
  intro p hp
  simp only [List.mem_cons, List.not_mem_nil, or_false] at hp
  rcases hp with rfl | rfl | rfl | rfl
  · exact S 3 3 rfl _ c3
  · exact S 2 2 rfl _ c2
  · exact S 1 1 rfl _ c1
  · exact S 0 0 rfl _ c0

theorem out_A_8 (hc0 : cond0_0 t) (x0 : Vec Ideal S2x4 .f32) (x1 x2 : Vec Ideal S256x1024 .bf16) (x3 : Vec Ideal S256x2048 .bf16) (x4 x5 : Vec Ideal S256x1024 .bf16) (x6 : Vec Ideal S256x2048 .bf16)
    (h2 : Holds 0 0 K x2) (h3 : HoldsV 0 0 W x3) (h4 : Holds 4 0 Q x4) (h5 : Holds 4 0 K x5) (h6 : HoldsV 4 0 W x6) :
    out0_A_8 c t arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = outG (rates x0) Q K W 4 (by decide) 0 := by
  obtain ⟨-, -, -, -, c4, c5, c6, c7, -⟩ := mix_A K W c t arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 h2 h3 h5 h6
  funext y
  unfold out0_A_8
  rw [View.read_writes_eq_canon _ _ _ (cover0_A_8 c t arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6)]
  have S (i : Fin 8) (h : Fin 4) (hi : i.val = 4 + h.val) (L : List (View.Piece (Elt Ideal) S8x256x512 .f32)) (hL : View.canon L = mixG (rates x0) K W i.val) :=
    out_piece (rates x0) Q K W 4 (by decide) h 0 i hi (inbV h) (ldK_at Q h4 harg5 hi) (ldK_at K h5 harg6 hi) (ldV_at W h6 harg7 hi)
      (st := lc 256 512 arg10.view L i (by decide) (by decide)) (dm := lc 256 256 arg11.view (kernelRun0_A.sl.HS1_8 c arg1 harg1 x0) i (by decide) (by decide))
      (qd := lc 256 512 arg12.view (kernelRun0_A.sl.HS2_16 c arg1 harg1 x0) i (by decide) (by decide))
      (fun d e => (rc3 hL i _ d e d.isLt e.isLt).trans (mixG_at _ _ _ i d e))
      (fun d e => rc3 (dm_A c t arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6) i _ d e d.isLt e.isLt)
      (fun d e => rc3 (qd_A c t arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6) i _ d e d.isLt e.isLt)
  refine View.canon_apply_of_pieces (Val := Elt Ideal) (outG (rates x0) Q K W 4 (by decide) 0) _ ?_ y (cover0_A_8 c t arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 y)
  unfold kernelRun0_A
  dsimp only
  intro p hp
  simp only [List.mem_cons, List.not_mem_nil, or_false] at hp
  rcases hp with rfl | rfl | rfl | rfl
  · exact S 7 3 rfl _ c7
  · exact S 6 2 rfl _ c6
  · exact S 5 1 rfl _ c5
  · exact S 4 0 rfl _ c4

theorem state_A (hc0 : cond0_0 t) (x0 : Vec Ideal S2x4 .f32) (x1 x2 : Vec Ideal S256x1024 .bf16) (x3 : Vec Ideal S256x2048 .bf16) (x4 x5 : Vec Ideal S256x1024 .bf16) (x6 : Vec Ideal S256x2048 .bf16)
    (h2 : Holds 0 0 K x2) (h3 : HoldsV 0 0 W x3) (h5 : Holds 4 0 K x5) (h6 : HoldsV 4 0 W x6) :
    sout0_A_0 c t arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = stG (rates x0) K W 256 :=
  (mix_A K W c t arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 h2 h3 h5 h6).2.2.2.2.2.2.2.2

theorem consts_A (hc0 : cond0_0 t) (x0 : Vec Ideal S2x4 .f32) (x1 x2 : Vec Ideal S256x1024 .bf16) (x3 : Vec Ideal S256x2048 .bf16) (x4 x5 : Vec Ideal S256x1024 .bf16) (x6 : Vec Ideal S256x2048 .bf16) :
    sout0_A_1 c t arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = dmG (rates x0) ∧ sout0_A_2 c t arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = qdG (rates x0) ∧ sout0_A_3 c t arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = kdG (rates x0) ∧ sout0_A_4 c t arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = cdG (rates x0) := by
  refine ⟨?_, ?_, ?_, ?_⟩
  · unfold sout0_A_1; rw [View.read_writes_eq_canon _ _ _ (scover0_A_1 c t arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6)]; exact dm_A c t arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6
  · unfold sout0_A_2; rw [View.read_writes_eq_canon _ _ _ (scover0_A_2 c t arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6)]; exact qd_A c t arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6
  · unfold sout0_A_3; rw [View.read_writes_eq_canon _ _ _ (scover0_A_3 c t arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6)]; exact kd_A c t arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6
  · unfold sout0_A_4; rw [View.read_writes_eq_canon _ _ _ (scover0_A_4 c t arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6)]; exact cd_A c t arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6

end

end Cert.Kernel2Ideal.Ret
-- ==== Proof.RetRows.lean ====
/- The retention over all rows: which row stands at a position of a direction's scan, and what it leaves there. -/
module

public import proofs.«01_k».proof.Proof.Scan

@[expose] public section

noncomputable section

namespace Cert.Retention

/-- The row at a position: the context's rows, then the latent's, for the first four heads; from the last row back for the others. -/
def row (i : Fin 8) (n : ℕ) : Fin 16640 :=
  ⟨(if i.val < 4 then (if n < 256 then 16384 + n else n - 256) else 16639 - n) % 16640, Nat.mod_lt _ (by decide)⟩

/-- The position of a row. -/
def pos (i : Fin 8) (R : Fin 16640) : ℕ :=
  if i.val < 4 then (if 16384 ≤ R.val then R.val - 16384 else R.val + 256) else 16639 - R.val

/-- A head's queries or keys by position. -/
def byPos (a : Fin 16640 → Fin 1024 → ℝ) (i : Fin 8) (n : ℕ) (d : Fin 256) : ℝ := a (row i n) ⟨256 * (i.val % 4) + d.val, by omega⟩
/-- A head's values by position. -/
def byPosV (a : Fin 16640 → Fin 2048 → ℝ) (i : Fin 8) (n : ℕ) (e : Fin 512) : ℝ := a (row i n) ⟨512 * (i.val % 4) + e.val, by omega⟩

/-- The head of an output column in the direction that starts at head `b`. -/
def headOf (b : ℕ) (hb : b ≤ 4) (e : Fin 2048) : Fin 8 := ⟨b + e.val / 512, by omega⟩

/-- What a direction's scan leaves at a row and a column. -/
def result (γ : Fin 8 → ℝ) (aq ak : Fin 16640 → Fin 1024 → ℝ) (av : Fin 16640 → Fin 2048 → ℝ) (b : ℕ) (hb : b ≤ 4) (R : Fin 16640) (e : Fin 2048) : ℝ :=
  retain (γ (headOf b hb e)) (byPos aq (headOf b hb e)) (byPos ak (headOf b hb e))
    (fun n => byPosV av (headOf b hb e) n ⟨e.val % 512, Nat.mod_lt _ (by decide)⟩) (pos (headOf b hb e) R)

end Cert.Retention
-- ==== Proof.RetValue.lean ====
/- The retention's kernel over the whole grid: the two arrays it leaves, element by element. -/
module

public import proofs.«01_k».proof.Proof.RetFirst
public import proofs.«01_k».proof.Proof.RetRows
public import Idealize.ShloMosaic.Lib.Pipeline.ValueKit.Geometry

@[expose] public section

set_option maxRecDepth 16384

noncomputable section

namespace Cert.Kernel2Ideal.Ret

open Cert.Kernel2Ideal Cert.Kernel2Ideal.Gen Cert.Retention
open Idealize.ShloMosaic Idealize.ShloMosaic.TcCoe Idealize.ShloMosaic.Pointwise

theorem pair_eq {α β : Type} {a a' : α} {b b' : β} (h : a = a') (h' : b = b') : (a, b) = (a', b') := by rw [h, h']

theorem fwd_1 : ∀ t : Fin cfg0.N, win0_1.index t = ![if t.val = 0 then 64 else t.val - 1, 0] :=
  (by decide +kernel : ∀ t : Fin grid0.N, win0_1.index t = ![if t.val = 0 then 64 else t.val - 1, 0])
theorem fwd_2 : ∀ t : Fin cfg0.N, win0_2.index t = ![if t.val = 0 then 64 else t.val - 1, 0] := fwd_1
theorem fwd_3 : ∀ t : Fin cfg0.N, win0_3.index t = ![if t.val = 0 then 64 else t.val - 1, 0] := fwd_1
theorem fwd_7 : ∀ t : Fin cfg0.N, win0_7.index t = ![if t.val = 0 then 64 else t.val - 1, 0] := fwd_1
theorem bwd_4 : ∀ t : Fin cfg0.N, win0_4.index t = ![64 - t.val, 0] :=
  (by decide +kernel : ∀ t : Fin grid0.N, win0_4.index t = ![64 - t.val, 0])
theorem bwd_5 : ∀ t : Fin cfg0.N, win0_5.index t = ![64 - t.val, 0] := bwd_4
theorem bwd_6 : ∀ t : Fin cfg0.N, win0_6.index t = ![64 - t.val, 0] := bwd_4
theorem bwd_8 : ∀ t : Fin cfg0.N, win0_8.index t = ![64 - t.val, 0] := bwd_4

theorem fwd_row (t : ℕ) (ht : t < 65) (i : Fin 8) (hi : i.val < 4) (r : Fin 256) :
    (row i (256 * t + (perm i r).val)).val = (if t = 0 then 64 else t - 1) * 256 + r.val := by
  have h : perm i = Equiv.refl _ := if_pos hi
  rw [h]
  show (if i.val < 4 then (if 256 * t + r.val < 256 then 16384 + (256 * t + r.val) else 256 * t + r.val - 256) else _) % 16640 = _
  rw [if_pos hi]
  have := r.isLt
  by_cases h0 : t = 0
  · subst h0; rw [if_pos (by omega), if_pos rfl]; omega
  · rw [if_neg (by omega), if_neg h0]; omega

theorem bwd_row (t : ℕ) (ht : t < 65) (i : Fin 8) (hi : ¬ i.val < 4) (r : Fin 256) :
    (row i (256 * t + (perm i r).val)).val = (64 - t) * 256 + r.val := by
  have h : perm i = Fin.revPerm := if_neg hi
  rw [h]
  show (if i.val < 4 then _ else 16639 - (256 * t + (256 - (r.val + 1)))) % 16640 = _
  rw [if_neg hi]
  have := r.isLt
  omega

theorem fwd_pos (t : ℕ) (ht : t < 65) (i : Fin 8) (hi : i.val < 4) (r : Fin 256) (R : Fin 16640) (hR : R.val = (if t = 0 then 64 else t - 1) * 256 + r.val) :
    pos i R = 256 * t + (perm i r).val := by
  have h : perm i = Equiv.refl _ := if_pos hi
  rw [h]
  show (if i.val < 4 then (if 16384 ≤ R.val then R.val - 16384 else R.val + 256) else _) = 256 * t + r.val
  have := r.isLt
  rw [if_pos hi]
  by_cases h0 : t = 0
  · subst h0; rw [if_pos rfl] at hR; rw [if_pos (by omega)]; omega
  · rw [if_neg h0] at hR; rw [if_neg (by omega)]; omega

theorem bwd_pos (t : ℕ) (ht : t < 65) (i : Fin 8) (hi : ¬ i.val < 4) (r : Fin 256) (R : Fin 16640) (hR : R.val = (64 - t) * 256 + r.val) :
    pos i R = 256 * t + (perm i r).val := by
  have h : perm i = Fin.revPerm := if_neg hi
  rw [h]
  show (if i.val < 4 then _ else 16639 - R.val) = 256 * t + (256 - (r.val + 1))
  have := r.isLt
  rw [if_neg hi]
  omega

section
variable (m : (ℓ : Loc nD τ sig) → Buf (Elt Ideal) ℓ) (c : Dev nD)

theorem dec_blk (t : Fin cfg0.N) : (iblk m c 0 t : Vec Ideal S2x4 .f32) = m (c, main_arg0) := by
  have hi : win0_0.index t = ![0, 0] := rfl
  funext j
  unfold iblk
  rw [View.read_apply]
  show V m c main_arg0 _ = m (c, main_arg0) _
  unfold V
  congr 1
  funext a
  match a with
  | ⟨0, _⟩ => exact Fin.ext (show 0 * 2 + 1 * (j 0).val = (j 0).val by omega)
  | ⟨1, _⟩ => exact Fin.ext (show 0 * 4 + 1 * (j 1).val = (j 1).val by omega)

variable (aq ak : Fin 16640 → Fin 1024 → ℝ) (av : Fin 16640 → Fin 2048 → ℝ)

theorem holds_1 (h : ∀ R k, m (c, main_arg1) (ix2 R k) = ((aq R k : ℝ) : EReal)) (t : Fin cfg0.N) : Holds 0 (256 * t.val) (byPos aq) (iblk m c 1 t) := by
  intro i h' hi r d hc
  have ht : t.val < 65 := Nat.lt_of_lt_of_eq t.isLt N_0
  refine Eq.trans ?_ (h (row i (256 * t.val + (perm i r).val)) ⟨256 * (i.val % 4) + d.val, by omega⟩)
  unfold iblk
  rw [View.read_apply]
  show V m c main_arg1 _ = m (c, main_arg1) _
  unfold V
  congr 1
  funext a
  match a with
  | ⟨0, _⟩ =>
    refine Fin.ext ?_
    show win0_1.index t 0 * 256 + 1 * r.val = (row i (256 * t.val + (perm i r).val)).val
    rw [fwd_1, fwd_row t.val ht i (by omega) r]
    show (if t.val = 0 then 64 else t.val - 1) * 256 + 1 * r.val = _
    omega
  | ⟨1, _⟩ =>
    refine Fin.ext ?_
    show win0_1.index t 1 * 1024 + 1 * (256 * h'.val + d.val) = 256 * (i.val % 4) + d.val
    rw [fwd_1]
    show 0 * 1024 + 1 * (256 * h'.val + d.val) = _
    omega

theorem holds_2 (h : ∀ R k, m (c, main_arg2) (ix2 R k) = ((ak R k : ℝ) : EReal)) (t : Fin cfg0.N) : Holds 0 (256 * t.val) (byPos ak) (iblk m c 2 t) := by
  intro i h' hi r d hc
  have ht : t.val < 65 := Nat.lt_of_lt_of_eq t.isLt N_0
  refine Eq.trans ?_ (h (row i (256 * t.val + (perm i r).val)) ⟨256 * (i.val % 4) + d.val, by omega⟩)
  unfold iblk
  rw [View.read_apply]
  show V m c main_arg2 _ = m (c, main_arg2) _
  unfold V
  congr 1
  funext a
  match a with
  | ⟨0, _⟩ =>
    refine Fin.ext ?_
    show win0_2.index t 0 * 256 + 1 * r.val = (row i (256 * t.val + (perm i r).val)).val
    rw [fwd_2, fwd_row t.val ht i (by omega) r]
    show (if t.val = 0 then 64 else t.val - 1) * 256 + 1 * r.val = _
    omega
  | ⟨1, _⟩ =>
    refine Fin.ext ?_
    show win0_2.index t 1 * 1024 + 1 * (256 * h'.val + d.val) = 256 * (i.val % 4) + d.val
    rw [fwd_2]
    show 0 * 1024 + 1 * (256 * h'.val + d.val) = _
    omega

theorem holds_3 (h : ∀ R k, m (c, main_arg3) (ix2 R k) = ((av R k : ℝ) : EReal)) (t : Fin cfg0.N) : HoldsV 0 (256 * t.val) (byPosV av) (iblk m c 3 t) := by
  intro i h' hi r d hc
  have ht : t.val < 65 := Nat.lt_of_lt_of_eq t.isLt N_0
  refine Eq.trans ?_ (h (row i (256 * t.val + (perm i r).val)) ⟨512 * (i.val % 4) + d.val, by omega⟩)
  unfold iblk
  rw [View.read_apply]
  show V m c main_arg3 _ = m (c, main_arg3) _
  unfold V
  congr 1
  funext a
  match a with
  | ⟨0, _⟩ =>
    refine Fin.ext ?_
    show win0_3.index t 0 * 256 + 1 * r.val = (row i (256 * t.val + (perm i r).val)).val
    rw [fwd_3, fwd_row t.val ht i (by omega) r]
    show (if t.val = 0 then 64 else t.val - 1) * 256 + 1 * r.val = _
    omega
  | ⟨1, _⟩ =>
    refine Fin.ext ?_
    show win0_3.index t 1 * 2048 + 1 * (512 * h'.val + d.val) = 512 * (i.val % 4) + d.val
    rw [fwd_3]
    show 0 * 2048 + 1 * (512 * h'.val + d.val) = _
    omega

theorem holds_4 (h : ∀ R k, m (c, main_arg1) (ix2 R k) = ((aq R k : ℝ) : EReal)) (t : Fin cfg0.N) : Holds 4 (256 * t.val) (byPos aq) (iblk m c 4 t) := by
  intro i h' hi r d hc
  have ht : t.val < 65 := Nat.lt_of_lt_of_eq t.isLt N_0
  refine Eq.trans ?_ (h (row i (256 * t.val + (perm i r).val)) ⟨256 * (i.val % 4) + d.val, by omega⟩)
  unfold iblk
  rw [View.read_apply]
  show V m c main_arg1 _ = m (c, main_arg1) _
  unfold V
  congr 1
  funext a
  match a with
  | ⟨0, _⟩ =>
    refine Fin.ext ?_
    show win0_4.index t 0 * 256 + 1 * r.val = (row i (256 * t.val + (perm i r).val)).val
    rw [bwd_4, bwd_row t.val ht i (by omega) r]
    show (64 - t.val) * 256 + 1 * r.val = _
    omega
  | ⟨1, _⟩ =>
    refine Fin.ext ?_
    show win0_4.index t 1 * 1024 + 1 * (256 * h'.val + d.val) = 256 * (i.val % 4) + d.val
    rw [bwd_4]
    show 0 * 1024 + 1 * (256 * h'.val + d.val) = _
    omega

theorem holds_5 (h : ∀ R k, m (c, main_arg2) (ix2 R k) = ((ak R k : ℝ) : EReal)) (t : Fin cfg0.N) : Holds 4 (256 * t.val) (byPos ak) (iblk m c 5 t) := by
  intro i h' hi r d hc
  have ht : t.val < 65 := Nat.lt_of_lt_of_eq t.isLt N_0
  refine Eq.trans ?_ (h (row i (256 * t.val + (perm i r).val)) ⟨256 * (i.val % 4) + d.val, by omega⟩)
  unfold iblk
  rw [View.read_apply]
  show V m c main_arg2 _ = m (c, main_arg2) _
  unfold V
  congr 1
  funext a
  match a with
  | ⟨0, _⟩ =>
    refine Fin.ext ?_
    show win0_5.index t 0 * 256 + 1 * r.val = (row i (256 * t.val + (perm i r).val)).val
    rw [bwd_5, bwd_row t.val ht i (by omega) r]
    show (64 - t.val) * 256 + 1 * r.val = _
    omega
  | ⟨1, _⟩ =>
    refine Fin.ext ?_
    show win0_5.index t 1 * 1024 + 1 * (256 * h'.val + d.val) = 256 * (i.val % 4) + d.val
    rw [bwd_5]
    show 0 * 1024 + 1 * (256 * h'.val + d.val) = _
    omega

theorem holds_6 (h : ∀ R k, m (c, main_arg3) (ix2 R k) = ((av R k : ℝ) : EReal)) (t : Fin cfg0.N) : HoldsV 4 (256 * t.val) (byPosV av) (iblk m c 6 t) := by
  intro i h' hi r d hc
  have ht : t.val < 65 := Nat.lt_of_lt_of_eq t.isLt N_0
  refine Eq.trans ?_ (h (row i (256 * t.val + (perm i r).val)) ⟨512 * (i.val % 4) + d.val, by omega⟩)
  unfold iblk
  rw [View.read_apply]
  show V m c main_arg3 _ = m (c, main_arg3) _
  unfold V
  congr 1
  funext a
  match a with
  | ⟨0, _⟩ =>
    refine Fin.ext ?_
    show win0_6.index t 0 * 256 + 1 * r.val = (row i (256 * t.val + (perm i r).val)).val
    rw [bwd_6, bwd_row t.val ht i (by omega) r]
    show (64 - t.val) * 256 + 1 * r.val = _
    omega
  | ⟨1, _⟩ =>
    refine Fin.ext ?_
    show win0_6.index t 1 * 2048 + 1 * (512 * h'.val + d.val) = 512 * (i.val % 4) + d.val
    rw [bwd_6]
    show 0 * 2048 + 1 * (512 * h'.val + d.val) = _
    omega

/-- The decays of the heads. -/
abbrev gam : Fin 8 → ℝ := rates (m (c, main_arg0) : Vec Ideal S2x4 .f32)

variable (hq : ∀ R k, m (c, main_arg1) (ix2 R k) = ((aq R k : ℝ) : EReal)) (hk : ∀ R k, m (c, main_arg2) (ix2 R k) = ((ak R k : ℝ) : EReal))
  (hv : ∀ R k, m (c, main_arg3) (ix2 R k) = ((av R k : ℝ) : EReal))

include hq hk hv in
theorem outs (n : ℕ) (h : n < cfg0.N) : outsAt0 m c n h =
    (outG (gam m c) (byPos aq) (byPos ak) (byPosV av) 0 (by decide) (256 * n), outG (gam m c) (byPos aq) (byPos ak) (byPosV av) 4 (by decide) (256 * n),
      stG (gam m c) (byPos ak) (byPosV av) (256 * n + 256), dmG (gam m c), qdG (gam m c), kdG (gam m c), cdG (gam m c)) := by
  induction n with
  | zero =>
    have hx : rates (iblk m c 0 ⟨0, h⟩ : Vec Ideal S2x4 .f32) = gam m c := congrArg rates (dec_blk m c _)
    refine (outsAt0_A m c ⟨0, h⟩ rfl).trans ?_
    rw [← hx, Nat.mul_zero, Nat.zero_add]
    have H1 := holds_1 m c aq hq ⟨0, h⟩
    have H2 := holds_2 m c ak hk ⟨0, h⟩
    have H3 := holds_3 m c av hv ⟨0, h⟩
    have H4 := holds_4 m c aq hq ⟨0, h⟩
    have H5 := holds_5 m c ak hk ⟨0, h⟩
    have H6 := holds_6 m c av hv ⟨0, h⟩
    refine pair_eq (out_A_7 (byPos aq) (byPos ak) (byPosV av) _ _ _ _ _ _ _ _ _ _ _ _ _ _ _ _ _ _ _ _ _ _ _ _ _ _ _ _ _ _ _ _ _ _ _ _ _ _ H1 H2 H3 H5 H6) (pair_eq (out_A_8 (byPos aq) (byPos ak) (byPosV av) _ _ _ _ _ _ _ _ _ _ _ _ _ _ _ _ _ _ _ _ _ _ _ _ _ _ _ _ _ _ _ _ _ _ _ _ _ _ H2 H3 H4 H5 H6)
      (pair_eq (state_A (byPos ak) (byPosV av) _ _ _ _ _ _ _ _ _ _ _ _ _ _ _ _ _ _ _ _ _ _ _ _ _ _ _ _ _ _ _ _ _ _ _ _ _ _ H2 H3 H5 H6) ?_))
    exact pair_eq (consts_A _ _ _ _ _ _ _ _ _ _ _ _ _ _ _ _ _ _ _ _ _ _ _ _ _ _ _ _ _ _ _ _ _ _ _ _ _ _).1 (pair_eq (consts_A _ _ _ _ _ _ _ _ _ _ _ _ _ _ _ _ _ _ _ _ _ _ _ _ _ _ _ _ _ _ _ _ _ _ _ _ _ _).2.1 (pair_eq (consts_A _ _ _ _ _ _ _ _ _ _ _ _ _ _ _ _ _ _ _ _ _ _ _ _ _ _ _ _ _ _ _ _ _ _ _ _ _ _).2.2.1 (consts_A _ _ _ _ _ _ _ _ _ _ _ _ _ _ _ _ _ _ _ _ _ _ _ _ _ _ _ _ _ _ _ _ _ _ _ _ _ _).2.2.2))
  | succ n ih =>
    have hN : cfg0.N = 65 := N_0
    refine (outsAt0_B m c ⟨n + 1, h⟩ (by dsimp only; omega)).trans ?_
    have I := ih (Nat.lt_of_succ_lt h)
    have H1 := holds_1 m c aq hq ⟨n + 1, h⟩
    have H2 := holds_2 m c ak hk ⟨n + 1, h⟩
    have H3 := holds_3 m c av hv ⟨n + 1, h⟩
    have H4 := holds_4 m c aq hq ⟨n + 1, h⟩
    have H5 := holds_5 m c ak hk ⟨n + 1, h⟩
    have H6 := holds_6 m c av hv ⟨n + 1, h⟩
    have I0 : (outsAt0 m c n (Nat.lt_of_succ_lt h)).2.2.1 = stG (gam m c) (byPos ak) (byPosV av) (256 * (n + 1)) := congrArg (fun p => p.2.2.1) I
    have I1 : (outsAt0 m c n (Nat.lt_of_succ_lt h)).2.2.2.1 = dmG (gam m c) := congrArg (fun p => p.2.2.2.1) I
    have I2 : (outsAt0 m c n (Nat.lt_of_succ_lt h)).2.2.2.2.1 = qdG (gam m c) := congrArg (fun p => p.2.2.2.2.1) I
    have I3 : (outsAt0 m c n (Nat.lt_of_succ_lt h)).2.2.2.2.2.1 = kdG (gam m c) := congrArg (fun p => p.2.2.2.2.2.1) I
    have I4 : (outsAt0 m c n (Nat.lt_of_succ_lt h)).2.2.2.2.2.2 = cdG (gam m c) := congrArg (fun p => p.2.2.2.2.2.2) I
    refine pair_eq (out_B_7 (gam m c) (byPos aq) (byPos ak) (byPosV av) _ _ _ _ _ _ _ _ _ _ _ _ _ _ _ _ _ _ _ _ _ _ _ _ _ _ _ _ _ _ _ _ _ _ _ _ _ _ _ _ _ _ _ _ H1 H2 H3 I0 I1 I2) (pair_eq (out_B_8 (gam m c) (byPos aq) (byPos ak) (byPosV av) _ _ _ _ _ _ _ _ _ _ _ _ _ _ _ _ _ _ _ _ _ _ _ _ _ _ _ _ _ _ _ _ _ _ _ _ _ _ _ _ _ _ _ _ H4 H5 H6 I0 I1 I2)
      (pair_eq (state_B (gam m c) (byPos ak) (byPosV av) _ _ _ _ _ _ _ _ _ _ _ _ _ _ _ _ _ _ _ _ _ _ _ _ _ _ _ _ _ _ _ _ _ _ _ _ _ _ _ _ _ _ _ _ H2 H3 H5 H6 I0 I3 I4) ?_))
    exact pair_eq I1 (pair_eq I2 (pair_eq I3 I4))

theorem covers_7 : (cfg0.win 7).Covers := (by decide +kernel : win0_7.Covers)

include hq hk hv in
theorem final_7 : (dats m 0 c).arrAt 7 cfg0.N = (fun y => ((result (gam m c) aq ak av 0 (by decide) (y 0) (y 1) : ℝ) : EReal) : (⟨S16640x2048, .bf16⟩ : BufTy).Contents (Elt Ideal)) := by
  refine (dats m 0 c).arrAt_eq_of_covers 7 _ covers_7 (fun t hf y => ?_)
  have ht : t.val < 65 := Nat.lt_of_lt_of_eq t.isLt N_0
  have hy : ∃ (r : Fin 256) (e : Fin 2048), (y : S256x2048.Idx) = ix2 r e := ⟨(show S256x2048.Idx from y) 0, (show S256x2048.Idx from y) 1, eq_ix2 (show S256x2048.Idx from y)⟩
  obtain ⟨r, e, hy⟩ := hy
  refine Eq.trans (b := outG (gam m c) (byPos aq) (byPos ak) (byPosV av) 0 (by decide) (256 * t.val) y) ?_ ?_
  · exact congrFun ((after0_7 m c t).trans (congrArg (fun p => p.1) (outs m c aq ak av hq hk hv t.val t.isLt))) y
  · subst hy
    have e0 : ((((cfg0.win 7).blk t).view.emb (ix2 r e) : S16640x2048.Idx) 0).val = (if t.val = 0 then 64 else t.val - 1) * 256 + r.val := by
      show win0_7.index t 0 * 256 + 1 * r.val = _
      rw [fwd_7]; show (if t.val = 0 then 64 else t.val - 1) * 256 + 1 * r.val = _; omega
    have e1 : (((cfg0.win 7).blk t).view.emb (ix2 r e) : S16640x2048.Idx) 1 = e := by
      refine Fin.ext ?_
      show win0_7.index t 1 * 2048 + 1 * e.val = e.val
      rw [fwd_7]; show 0 * 2048 + 1 * e.val = _; omega
    have hp := fwd_pos t.val ht (headOf 0 (by decide) e) (by show 0 + e.val / 512 < 4; omega) r _ e0
    show ((retain (gam m c (headOf 0 (by decide) e)) (byPos aq (headOf 0 (by decide) e)) (byPos ak (headOf 0 (by decide) e)) (fun n => byPosV av (headOf 0 (by decide) e) n (lane e)) (256 * t.val + (perm (headOf 0 (by decide) e) r).val) : ℝ) : EReal) = _
    rw [← hp]
    exact (congrArg (fun q => ((result (gam m c) aq ak av 0 (by decide) ((((cfg0.win 7).blk t).view.emb (ix2 r e) : S16640x2048.Idx) 0) q : ℝ) : EReal)) e1).symm

theorem covers_8 : (cfg0.win 8).Covers := (by decide +kernel : win0_8.Covers)

include hq hk hv in
theorem final_8 : (dats m 0 c).arrAt 8 cfg0.N = (fun y => ((result (gam m c) aq ak av 4 (by decide) (y 0) (y 1) : ℝ) : EReal) : (⟨S16640x2048, .bf16⟩ : BufTy).Contents (Elt Ideal)) := by
  refine (dats m 0 c).arrAt_eq_of_covers 8 _ covers_8 (fun t hf y => ?_)
  have ht : t.val < 65 := Nat.lt_of_lt_of_eq t.isLt N_0
  have hy : ∃ (r : Fin 256) (e : Fin 2048), (y : S256x2048.Idx) = ix2 r e := ⟨(show S256x2048.Idx from y) 0, (show S256x2048.Idx from y) 1, eq_ix2 (show S256x2048.Idx from y)⟩
  obtain ⟨r, e, hy⟩ := hy
  refine Eq.trans (b := outG (gam m c) (byPos aq) (byPos ak) (byPosV av) 4 (by decide) (256 * t.val) y) ?_ ?_
  · exact congrFun ((after0_8 m c t).trans (congrArg (fun p => p.2.1) (outs m c aq ak av hq hk hv t.val t.isLt))) y
  · subst hy
    have e0 : ((((cfg0.win 8).blk t).view.emb (ix2 r e) : S16640x2048.Idx) 0).val = (64 - t.val) * 256 + r.val := by
      show win0_8.index t 0 * 256 + 1 * r.val = _
      rw [bwd_8]; show (64 - t.val) * 256 + 1 * r.val = _; omega
    have e1 : (((cfg0.win 8).blk t).view.emb (ix2 r e) : S16640x2048.Idx) 1 = e := by
      refine Fin.ext ?_
      show win0_8.index t 1 * 2048 + 1 * e.val = e.val
      rw [bwd_8]; show 0 * 2048 + 1 * e.val = _; omega
    have hp := bwd_pos t.val ht (headOf 4 (by decide) e) (by show ¬ 4 + e.val / 512 < 4; omega) r _ e0
    show ((retain (gam m c (headOf 4 (by decide) e)) (byPos aq (headOf 4 (by decide) e)) (byPos ak (headOf 4 (by decide) e)) (fun n => byPosV av (headOf 4 (by decide) e) n (lane e)) (256 * t.val + (perm (headOf 4 (by decide) e) r).val) : ℝ) : EReal) = _
    rw [← hp]
    exact (congrArg (fun q => ((result (gam m c) aq ak av 4 (by decide) ((((cfg0.win 8).blk t).view.emb (ix2 r e) : S16640x2048.Idx) 0) q : ℝ) : EReal)) e1).symm

end

end Cert.Kernel2Ideal.Ret
-- ==== Proof.RetWords.lean ====
/- The retention's reference: its arrangement of the rows by direction and head, and its factors. -/
module

public import proofs.«01_k».proof.Proof.Gen.Reference2Ideal.Run
public import proofs.«01_k».proof.Proof.RetRows
public import Idealize.ShloMosaic.Lib.Pointwise

@[expose] public section

set_option maxRecDepth 16384

noncomputable section

namespace Cert.Reference2Ideal.Ret

open Cert.Reference2Ideal Cert.Reference2Ideal.Gen Cert.Retention
open Idealize.ShloMosaic Idealize.ShloMosaic.TcCoe Idealize.ShloMosaic.Pointwise

/-- The queries or keys by direction and head, in the order of the scan. -/
def hdsK (a : FVec Ideal S16640x1024 .bf16) : FVec Ideal S4x16640x256 .f32 :=
  transpose S4x16640x256 [1, 0, 2] (shapeCast S16640x4x256 (concatenate S16640x1024 0 [⟨S256x1024, extractStridedSlice S256x1024 ![16384, 0] (extf .f32 a bitsLt_bf16_f32) slices_S16640x1024_S256x1024_16384_0⟩,
    ⟨S16384x1024, extractStridedSlice S16384x1024 ![0, 0] (extf .f32 a bitsLt_bf16_f32) slices_S16640x1024_S16384x1024_0_0⟩] concatenates_S256x1024_S16384x1024_S16640x1024_d0) shapeCasts_S16640x1024_S16640x4x256) transposes_S16640x4x256_S4x16640x256_1_0_2

def bothK (x : FVec Ideal S4x16640x256 .f32) : FVec Ideal S8x16640x256 .f32 :=
  concatenate S8x16640x256 0 [⟨S4x16640x256, x⟩, ⟨S4x16640x256, concatenate S4x16640x256 1 [⟨S4x256x256, Host.reverse [1] (extractStridedSlice S4x256x256 ![0, 0, 0] x slices_S4x16640x256_S4x256x256_0_0_0)⟩,
    ⟨S4x16384x256, Host.reverse [1] (extractStridedSlice S4x16384x256 ![0, 256, 0] x slices_S4x16640x256_S4x16384x256_0_256_0)⟩] concatenates_S4x256x256_S4x16384x256_S4x16640x256_d1⟩] concatenates_S4x16640x256_S4x16640x256_S8x16640x256_d0

def chunksK (x : FVec Ideal S8x16640x256 .f32) : FVec Ideal S130x8x128x256 .f32 :=
  transpose S130x8x128x256 [1, 0, 2, 3] (shapeCast S8x130x128x256 x shapeCasts_S8x16640x256_S8x130x128x256) transposes_S8x130x128x256_S130x8x128x256_1_0_2_3

theorem hdsK_at (a : FVec Ideal S16640x1024 .bf16) (h : Fin 4) (n : Fin 16640) (d : Fin 256) :
    hdsK a (ix3 h n d) = if hn : n.val < 256 then a (ix2 (n0 := 16640) (n1 := 1024) ⟨16384 + n.val, by omega⟩ ⟨h.val * 256 + d.val, by omega⟩)
      else a (ix2 (n0 := 16640) (n1 := 1024) ⟨n.val - 256, by omega⟩ ⟨h.val * 256 + d.val, by omega⟩) := by
  pointwise [hdsK]

theorem bothK_at (x : FVec Ideal S4x16640x256 .f32) (h : Fin 8) (n : Fin 16640) (d : Fin 256) :
    bothK x (ix3 h n d) = if hh : h.val < 4 then x (ix3 (n0 := 4) (n1 := 16640) (n2 := 256) ⟨h.val, hh⟩ n d)
      else if hn : n.val < 256 then x (ix3 (n0 := 4) (n1 := 16640) (n2 := 256) ⟨h.val - 4, by omega⟩ ⟨256 - (n.val + 1), by omega⟩ d)
      else x (ix3 (n0 := 4) (n1 := 16640) (n2 := 256) ⟨h.val - 4, by omega⟩ ⟨256 + (16384 - (n.val - 256 + 1)), by omega⟩ d) := by
  pointwise [bothK]
  rfl

theorem chunksK_at (x : FVec Ideal S8x16640x256 .f32) (ch : Fin 130) (i : Fin 8) (r : Fin 128) (d : Fin 256) :
    chunksK x (ix4 ch i r d) = x (ix3 (n0 := 8) (n1 := 16640) (n2 := 256) i ⟨ch.val * 128 + r.val, by omega⟩ d) := by
  pointwise [chunksK]

/-- The queries or keys a block of the scan reads, of real numbers. -/
theorem arrK_at (x : FVec Ideal S16640x1024 .bf16) (a : Fin 16640 → Fin 1024 → ℝ) (hx : ∀ R k, x (ix2 R k) = ((a R k : ℝ) : EReal))
    (ch : Fin 130) (i : Fin 8) (r : Fin 128) (d : Fin 256) :
    chunksK (bothK (hdsK x)) (ix4 ch i r d) = ((byPos a i (128 * ch.val + r.val) d : ℝ) : EReal) := by
  have hi := i.isLt
  have hc := ch.isLt
  have hr := r.isLt
  rw [chunksK_at, bothK_at]
  simp only [hdsK_at, hx]
  unfold byPos row
  split_ifs with h1 h2 h3 h4 h5 <;> first
    | exact congrArg _ (congrArg₂ a (Fin.ext (by first | rfl | (simp only [*, if_true, if_false]; omega) )) (Fin.ext (by simp only []; omega)))
    | (exfalso; omega)

/-- The values by direction and head, in the order of the scan. -/
def hdsV (a : FVec Ideal S16640x2048 .bf16) : FVec Ideal S4x16640x512 .f32 :=
  transpose S4x16640x512 [1, 0, 2] (shapeCast S16640x4x512 (concatenate S16640x2048 0 [⟨S256x2048, extractStridedSlice S256x2048 ![16384, 0] (extf .f32 a bitsLt_bf16_f32) slices_S16640x2048_S256x2048_16384_0⟩,
    ⟨S16384x2048, extractStridedSlice S16384x2048 ![0, 0] (extf .f32 a bitsLt_bf16_f32) slices_S16640x2048_S16384x2048_0_0⟩] concatenates_S256x2048_S16384x2048_S16640x2048_d0) shapeCasts_S16640x2048_S16640x4x512) transposes_S16640x4x512_S4x16640x512_1_0_2

def bothV (x : FVec Ideal S4x16640x512 .f32) : FVec Ideal S8x16640x512 .f32 :=
  concatenate S8x16640x512 0 [⟨S4x16640x512, x⟩, ⟨S4x16640x512, concatenate S4x16640x512 1 [⟨S4x256x512, Host.reverse [1] (extractStridedSlice S4x256x512 ![0, 0, 0] x slices_S4x16640x512_S4x256x512_0_0_0)⟩,
    ⟨S4x16384x512, Host.reverse [1] (extractStridedSlice S4x16384x512 ![0, 256, 0] x slices_S4x16640x512_S4x16384x512_0_256_0)⟩] concatenates_S4x256x512_S4x16384x512_S4x16640x512_d1⟩] concatenates_S4x16640x512_S4x16640x512_S8x16640x512_d0

def chunksV (x : FVec Ideal S8x16640x512 .f32) : FVec Ideal S130x8x128x512 .f32 :=
  transpose S130x8x128x512 [1, 0, 2, 3] (shapeCast S8x130x128x512 x shapeCasts_S8x16640x512_S8x130x128x512) transposes_S8x130x128x512_S130x8x128x512_1_0_2_3

theorem hdsV_at (a : FVec Ideal S16640x2048 .bf16) (h : Fin 4) (n : Fin 16640) (d : Fin 512) :
    hdsV a (ix3 h n d) = if hn : n.val < 256 then a (ix2 (n0 := 16640) (n1 := 2048) ⟨16384 + n.val, by omega⟩ ⟨h.val * 512 + d.val, by omega⟩)
      else a (ix2 (n0 := 16640) (n1 := 2048) ⟨n.val - 256, by omega⟩ ⟨h.val * 512 + d.val, by omega⟩) := by
  pointwise [hdsV]

theorem bothV_at (x : FVec Ideal S4x16640x512 .f32) (h : Fin 8) (n : Fin 16640) (d : Fin 512) :
    bothV x (ix3 h n d) = if hh : h.val < 4 then x (ix3 (n0 := 4) (n1 := 16640) (n2 := 512) ⟨h.val, hh⟩ n d)
      else if hn : n.val < 256 then x (ix3 (n0 := 4) (n1 := 16640) (n2 := 512) ⟨h.val - 4, by omega⟩ ⟨256 - (n.val + 1), by omega⟩ d)
      else x (ix3 (n0 := 4) (n1 := 16640) (n2 := 512) ⟨h.val - 4, by omega⟩ ⟨256 + (16384 - (n.val - 256 + 1)), by omega⟩ d) := by
  pointwise [bothV]
  rfl

theorem chunksV_at (x : FVec Ideal S8x16640x512 .f32) (ch : Fin 130) (i : Fin 8) (r : Fin 128) (d : Fin 512) :
    chunksV x (ix4 ch i r d) = x (ix3 (n0 := 8) (n1 := 16640) (n2 := 512) i ⟨ch.val * 128 + r.val, by omega⟩ d) := by
  pointwise [chunksV]

/-- The values a block of the scan reads, of real numbers. -/
theorem arrV_at (x : FVec Ideal S16640x2048 .bf16) (a : Fin 16640 → Fin 2048 → ℝ) (hx : ∀ R k, x (ix2 R k) = ((a R k : ℝ) : EReal))
    (ch : Fin 130) (i : Fin 8) (r : Fin 128) (d : Fin 512) :
    chunksV (bothV (hdsV x)) (ix4 ch i r d) = ((byPosV a i (128 * ch.val + r.val) d : ℝ) : EReal) := by
  have hi := i.isLt
  have hc := ch.isLt
  have hr := r.isLt
  rw [chunksV_at, bothV_at]
  simp only [hdsV_at, hx]
  unfold byPosV row
  split_ifs with h1 h2 h3 h4 h5 <;> first
    | exact congrArg _ (congrArg₂ a (Fin.ext (by first | rfl | (simp only [*, if_true, if_false]; omega) )) (Fin.ext (by simp only []; omega)))
    | (exfalso; omega)

theorem ofBits_127 : Ideal.ofBits .f32 0x42FE0000#32 = ((127 : ℝ) : EReal) := by
  simp [Ideal.ofBits, Ideal.ieee, -EReal.coe_mul]; norm_num
theorem ofBits_128 : Ideal.ofBits .f32 0x43000000#32 = ((128 : ℝ) : EReal) := by
  simp [Ideal.ofBits, Ideal.ieee, -EReal.coe_mul]; norm_num

/-- The logarithms of the heads' factors. -/
def lgW (a0 : FVec Ideal S2x4 .f32) : FVec Ideal S8 .f32 := shapeCast S8 (Host.log1p (Host.negf (Host.exp a0))) shapeCasts_S2x4_S8
/-- The positions in a block. -/
def cntW : FVec Ideal S128 .f32 := sitofp .f32 (iotaInDim S128 32 0)
def diffW : FVec Ideal S128x128 .f32 :=
  subf (broadcastInDim S128x128 ![0, 1] bcast_S128x1_S128x128_0_1 (broadcastInDim S128x1 ![0] bcast_S128_S128x1_0 cntW)) (broadcastInDim S128x128 ![0, 1] bcast_S1x128_S128x128_0_1 (broadcastInDim S1x128 ![1] bcast_S128_S1x128_1 cntW))
def lowW : IVec S128x128 1 := cmpf .oge diffW (broadcastInDim S128x128 ![] bcast_S_S128x128 (constant S_ .f32 0x00000000#32))
def intraW (a0 : FVec Ideal S2x4 .f32) : FVec Ideal S8x128x128 .f32 :=
  select (broadcastInDim S8x128x128 ![1, 2] bcast_S128x128_S8x128x128_1_2 lowW)
    (Host.exp (mulf (broadcastInDim S8x128x128 ![0, 1, 2] bcast_S1x128x128_S8x128x128_0_1_2 (broadcastInDim S1x128x128 ![1, 2] bcast_S128x128_S1x128x128_1_2 (select lowW diffW (broadcastInDim S128x128 ![] bcast_S_S128x128 (constant S_ .f32 0x00000000#32)))))
      (broadcastInDim S8x128x128 ![0, 1, 2] bcast_S8x1x1_S8x128x128_0_1_2 (broadcastInDim S8x1x1 ![0] bcast_S8_S8x1x1_0 (lgW a0)))))
    (broadcastInDim S8x128x128 ![] bcast_S_S8x128x128 (constant S_ .f32 0x00000000#32))
/-- The factor to the powers `f`, a block's positions down. -/
def powsW (f : FVec Ideal S128 .f32) (a0 : FVec Ideal S2x4 .f32) : FVec Ideal S8x128x1 .f32 :=
  broadcastInDim S8x128x1 ![0, 1] bcast_S8x128_S8x128x1_0_1 (Host.exp (mulf (broadcastInDim S8x128 ![0, 1] bcast_S1x128_S8x128_0_1 (broadcastInDim S1x128 ![1] bcast_S128_S1x128_1 f))
    (broadcastInDim S8x128 ![0, 1] bcast_S8x1_S8x128_0_1 (broadcastInDim S8x1 ![0] bcast_S8_S8x1_0 (lgW a0)))))
def oneW : FVec Ideal S128 .f32 := addf cntW (broadcastInDim S128 ![] bcast_S_S128 (constant S_ .f32 0x3F800000#32))
def restW : FVec Ideal S128 .f32 := subf (broadcastInDim S128 ![] bcast_S_S128 (constant S_ .f32 0x42FE0000#32)) cntW
def wholeW (a0 : FVec Ideal S2x4 .f32) : FVec Ideal S8x1x1 .f32 :=
  broadcastInDim S8x1x1 ![0] bcast_S8_S8x1x1_0 (Host.exp (mulf (broadcastInDim S8 ![] bcast_S_S8 (constant S_ .f32 0x43000000#32)) (lgW a0)))

/-- The heads' factors. -/
def rates (a0 : FVec Ideal S2x4 .f32) (i : Fin 8) : ℝ := rate (a0 (ix2 (n0 := 2) (n1 := 4) ⟨i.val / 4 % 2, Nat.mod_lt _ (by decide)⟩ ⟨i.val % 4, Nat.mod_lt _ (by decide)⟩))

theorem lgW_at (a0 : FVec Ideal S2x4 .f32) (i : Fin 8) : lgW a0 (ix1 i) =
    Ideal.log1p (-Ideal.exp (a0 (ix2 (n0 := 2) (n1 := 4) ⟨i.val / 4 % 2, Nat.mod_lt _ (by decide)⟩ ⟨i.val % 4, Nat.mod_lt _ (by decide)⟩))) := by
  have h : i.val / 4 % 2 = i.val / 4 := Nat.mod_eq_of_lt (by omega)
  simp only [h]
  pointwise [lgW]

theorem cntW_at (r : Fin 128) : (cntW (ix1 r) : EReal) = ((r.val : ℝ) : EReal) := by
  pointwise [cntW]
  show (((BitVec.ofNat 32 r.val).toInt : ℝ) : EReal) = _
  have h : (BitVec.ofNat 32 r.val).toInt = (r.val : ℤ) := by
    have := r.isLt
    rw [BitVec.toInt_ofNat', Int.bmod_def]
    split <;> omega
  rw [h]; simp

theorem powsW_at (f : FVec Ideal S128 .f32) (a0 : FVec Ideal S2x4 .f32) (i : Fin 8) (r : Fin 128) (u : Fin 1) (n : ℕ)
    (hf : (f (ix1 r) : EReal) = ((n : ℝ) : EReal)) : powsW f a0 (ix3 i r u) = ((rates a0 i ^ n : ℝ) : EReal) := by
  pointwise [powsW, lgW_at]
  rw [hf, exp_pow]
  rfl
theorem oneW_at (r : Fin 128) : (oneW (ix1 r) : EReal) = (((r.val + 1 : ℕ) : ℝ) : EReal) := by
  pointwise [oneW, cntW_at]
  push_cast; rfl
theorem restW_at (r : Fin 128) : (restW (ix1 r) : EReal) = (((128 - 1 - r.val : ℕ) : ℝ) : EReal) := by
  pointwise [restW, cntW_at]
  rw [ofBits_127, ← EReal.coe_sub, Nat.cast_sub (by have := r.isLt; omega)]
  norm_num
theorem wholeW_at (a0 : FVec Ideal S2x4 .f32) (i : Fin 8) (u v : Fin 1) : wholeW a0 (ix3 i u v) = ((rates a0 i ^ 128 : ℝ) : EReal) := by
  pointwise [wholeW, lgW_at]
  rw [ofBits_128, show ((128 : ℝ) : EReal) = (((128 : ℕ) : ℝ) : EReal) by norm_num, exp_pow]
  rfl
theorem diffW_at (r j : Fin 128) : (diffW (ix2 r j) : EReal) = ((((r.val : ℝ) - (j.val : ℝ)) : ℝ) : EReal) := by
  pointwise [diffW, cntW_at]
  rw [← EReal.coe_sub]
theorem intraW_at (a0 : FVec Ideal S2x4 .f32) (i : Fin 8) (r j : Fin 128) :
    intraW a0 (ix3 i r j) = (((if j.val ≤ r.val then rates a0 i ^ (r.val - j.val) else 0 : ℝ)) : EReal) := by
  pointwise [intraW, lowW, diffW_at, lgW_at]
  by_cases h : j.val ≤ r.val
  · have h0 : (0 : EReal) ≤ (((r.val : ℝ) - (j.val : ℝ) : ℝ) : EReal) := by
      have : (j.val : ℝ) ≤ (r.val : ℝ) := by exact_mod_cast h
      exact_mod_cast sub_nonneg.mpr this
    simp only [if_pos h, if_pos h0]
    rw [← Nat.cast_sub h, exp_pow]
    rfl
  · have h0 : ¬ (0 : EReal) ≤ (((r.val : ℝ) - (j.val : ℝ) : ℝ) : EReal) := by
      have : (r.val : ℝ) < (j.val : ℝ) := by exact_mod_cast Nat.lt_of_not_le h
      intro h'
      have h'' : (0 : ℝ) ≤ (r.val : ℝ) - (j.val : ℝ) := by exact_mod_cast h'
      linarith
    simp only [if_neg h, if_neg h0]
    first | rfl | simp

end Cert.Reference2Ideal.Ret
-- ==== Proof.RetEntry.lean ====
/- What the retention's reference has when its loop starts. -/
module

public import proofs.«01_k».proof.Proof.RetWords

@[expose] public section

set_option maxRecDepth 16384

noncomputable section

namespace Cert.Reference2Ideal.Ret

open Cert.Reference2Ideal Cert.Reference2Ideal.Gen Cert.Reference2Ideal.Value Cert.Retention
open Idealize.ShloMosaic Idealize.ShloMosaic.TcCoe Idealize.ShloMosaic.Pointwise

open Idealize.ShloMosaic.StableHlo Idealize.ShloMosaic.Tactic

variable (m : (ℓ : Loc nD τ sig) → Buf (Elt Ideal) ℓ) (c : Dev nD)
set_option maxHeartbeats 2000000 in
theorem entry_0 : entryContents (F := Ideal) preI m c (Proc.devRef .tc main_v86_0) = chunksK (bothK (hdsK (m (c, main_arg1)))) := by
  unfold chunksK bothK hdsK
  simp only [entryContents, preI, afterL_cons, afterL_nil, hostOps0, hostOps0_1, hostOps0_2, hostOps0_3, hostOps0_4]
  after_results_entrywise []
set_option maxHeartbeats 2000000 in
theorem entry_1 : entryContents (F := Ideal) preI m c (Proc.devRef .tc main_v86_1) = chunksK (bothK (hdsK (m (c, main_arg2)))) := by
  unfold chunksK bothK hdsK
  simp only [entryContents, preI, afterL_cons, afterL_nil, hostOps0, hostOps0_1, hostOps0_2, hostOps0_3, hostOps0_4]
  after_results_entrywise []
set_option maxHeartbeats 2000000 in
theorem entry_2 : entryContents (F := Ideal) preI m c (Proc.devRef .tc main_v86_2) = chunksV (bothV (hdsV (m (c, main_arg3)))) := by
  unfold chunksV bothV hdsV
  simp only [entryContents, preI, afterL_cons, afterL_nil, hostOps0, hostOps0_1, hostOps0_2, hostOps0_3, hostOps0_4]
  after_results_entrywise []
set_option maxRecDepth 100000 in
theorem entry_3 : entryContents (F := Ideal) preI m c (Proc.devRef .tc main_v86_3) = intraW (m (c, main_arg0)) := by
  simp only [entryContents, afterL_cons, afterL_nil]
  after_reads_simp
  rfl
set_option maxRecDepth 100000 in
theorem entry_4 : entryContents (F := Ideal) preI m c (Proc.devRef .tc main_v86_4) = powsW oneW (m (c, main_arg0)) := by
  simp only [entryContents, afterL_cons, afterL_nil]
  after_reads_simp
  rfl
set_option maxRecDepth 100000 in
theorem entry_5 : entryContents (F := Ideal) preI m c (Proc.devRef .tc main_v86_5) = wholeW (m (c, main_arg0)) := by
  simp only [entryContents, afterL_cons, afterL_nil]
  after_reads_simp
  rfl
set_option maxRecDepth 100000 in
theorem entry_6 : entryContents (F := Ideal) preI m c (Proc.devRef .tc main_v86_6) = powsW restW (m (c, main_arg0)) := by
  simp only [entryContents, afterL_cons, afterL_nil]
  after_reads_simp
  rfl
set_option maxRecDepth 100000 in
theorem entry_8 : entryContents (F := Ideal) preI m c (Proc.devRef .tc main_v86_8) = broadcastInDim S8x256x512 ![] bcast_S_S8x256x512 (constant (F := Ideal) S_ .f32 0x00000000#32) := by
  simp only [entryContents, afterL_cons, afterL_nil]
  after_reads_simp
  rfl

end Cert.Reference2Ideal.Ret
-- ==== Proof.RetLoop.lean ====
/- The retention's reference: one trip of its loop over the blocks, and all of them. -/
module

public import proofs.«01_k».proof.Proof.RetEntry
public import Idealize.ShloMosaic.Lib.DynamicIndex

@[expose] public section

set_option maxRecDepth 16384

noncomputable section

namespace Cert.Reference2Ideal.Ret

open Cert.Reference2Ideal Cert.Reference2Ideal.Gen Cert.Reference2Ideal.Value Cert.Retention
open Idealize.ShloMosaic Idealize.ShloMosaic.TcCoe Idealize.ShloMosaic.Pointwise Idealize.ShloMosaic.StableHlo

/-- What a trip writes for its block. -/
def upd (q k : FVec Ideal S8x128x256 .f32) (v : FVec Ideal S8x128x512 .f32) (w : FVec Ideal S8x128x128 .f32) (f : FVec Ideal S8x128x1 .f32) (st : FVec Ideal S8x256x512 .f32) : FVec Ideal S8x128x512 .f32 :=
  addf (Host.dotGeneral (φ₁ := .f32) (φ₂ := .f32) dot_S8x128x128_S8x128x512_S8x128x512_2_1_1_2_0_0 none (mulf (Host.dotGeneral (φ₁ := .f32) (φ₂ := .f32) dot_S8x128x256_S8x128x256_S8x128x128_2_2_1_1_0_0 none q k) w) v)
    (Host.dotGeneral (φ₁ := .f32) (φ₂ := .f32) dot_S8x128x256_S8x256x512_S8x128x512_2_1_1_2_0_0 none (mulf q (broadcastInDim S8x128x256 ![0, 1, 2] bcast_S8x128x1_S8x128x256_0_1_2 f)) st)

theorem upd_at (q k : FVec Ideal S8x128x256 .f32) (v : FVec Ideal S8x128x512 .f32) (w : FVec Ideal S8x128x128 .f32) (f : FVec Ideal S8x128x1 .f32) (st : FVec Ideal S8x256x512 .f32) (i : Fin 8) (r : Fin 128) (e : Fin 512) :
    upd q k v w f st (ix3 i r e) = ((∑ j : Fin 128, (∑ d : Fin 256, q (ix3 i r d) * k (ix3 i j d)) * w (ix3 i r j) * v (ix3 i j e)) + ∑ d : Fin 256, q (ix3 i r d) * f (ix3 i r 0) * st (ix3 i d e) : EReal) := by
  pointwise [upd]

theorem starts_at (V : Valuation τ sig (Elt Ideal)) (k : ℕ) (hk : k < 130) (hc : (V (Proc.devRef .tc main_v86_7) : (⟨S_, .i32⟩ : BufTy).Contents (Elt Ideal)) = fun _ => BitVec.ofNat 32 k) (a : Fin 4) :
    (fun k => (((![V (Proc.devRef .tc main_v86_7), constantI S_ 32 0#32, constantI S_ 32 0#32, constantI S_ 32 0#32] : Fin 4 → (⟨S_, .i32⟩ : BufTy).Contents (Elt Ideal))) k (Shape.Idx.first h_S_)).toInt) a = (((![k, 0, 0, 0] : Fin 4 → ℕ) a : ℕ) : ℤ) := by
  match a with
  | ⟨0, _⟩ =>
    show (V (Proc.devRef .tc main_v86_7) (Shape.Idx.first h_S_)).toInt = (k : ℤ)
    rw [hc]
    exact toInt_ofNat_of_lt (by omega)
  | ⟨1, _⟩ => rfl
  | ⟨2, _⟩ => rfl
  | ⟨3, _⟩ => rfl

/-- Where a trip reads and writes: its block's number, and nothing off the other axes. -/
theorem clamp4 {n1 n2 n3 : ℕ} (V : Valuation τ sig (Elt Ideal)) (k : ℕ) (hk : k < 130) (hc : (V (Proc.devRef .tc main_v86_7) : (⟨S_, .i32⟩ : BufTy).Contents (Elt Ideal)) = fun _ => BitVec.ofNat 32 k) (a : Fin 4) (h : _) :
    Host.clampedStart ⟨4, ![130, n1, n2, n3]⟩ ⟨4, ![1, n1, n2, n3]⟩ h (fun k => (((![V (Proc.devRef .tc main_v86_7), constantI S_ 32 0#32, constantI S_ 32 0#32, constantI S_ 32 0#32] : Fin 4 → (⟨S_, .i32⟩ : BufTy).Contents (Elt Ideal))) k (Shape.Idx.first h_S_)).toInt) a
      = (![k, 0, 0, 0] : Fin 4 → ℕ) a := by
  refine Host.clampedStart_of_le h _ a _ (starts_at V k hk hc a) ?_
  match a with
  | ⟨0, _⟩ => show k + 1 ≤ 130; omega
  | ⟨1, _⟩ => show 0 + n1 ≤ n1; omega
  | ⟨2, _⟩ => show 0 + n2 ≤ n2; omega
  | ⟨3, _⟩ => show 0 + n3 ≤ n3; omega

theorem readQ (V : Valuation τ sig (Elt Ideal)) (k : ℕ) (hk : k < 130) (hc : (V (Proc.devRef .tc main_v86_7) : (⟨S_, .i32⟩ : BufTy).Contents (Elt Ideal)) = fun _ => BitVec.ofNat 32 k)
    (i : Fin 8) (r : Fin 128) (d : Fin 256) : (res_main_while0b_v108 V (ix3 i r d) : EReal) = (V (Proc.devRef .tc main_v86_0) : (⟨S130x8x128x256, .f32⟩ : BufTy).Contents (Elt Ideal)) (ix4 (n0 := 130) (n1 := 8) (n2 := 128) (n3 := 256) ⟨k, hk⟩ i r d) := by
  pointwise [res_main_while0b_v108]
  refine congrArg (V (Proc.devRef .tc main_v86_0) : (⟨S130x8x128x256, .f32⟩ : BufTy).Contents (Elt Ideal)) ?_
  funext a
  match a with
  | ⟨0, _⟩ => exact Fin.ext (clamp4 (n1 := 8) (n2 := 128) (n3 := 256) V k hk hc 0 rfl)
  | ⟨1, _⟩ => exact Fin.ext ((congrArg (· + i.val) (clamp4 (n1 := 8) (n2 := 128) (n3 := 256) V k hk hc 1 rfl)).trans (Nat.zero_add _))
  | ⟨2, _⟩ => exact Fin.ext ((congrArg (· + r.val) (clamp4 (n1 := 8) (n2 := 128) (n3 := 256) V k hk hc 2 rfl)).trans (Nat.zero_add _))
  | ⟨3, _⟩ => exact Fin.ext ((congrArg (· + d.val) (clamp4 (n1 := 8) (n2 := 128) (n3 := 256) V k hk hc 3 rfl)).trans (Nat.zero_add _))

theorem readK (V : Valuation τ sig (Elt Ideal)) (k : ℕ) (hk : k < 130) (hc : (V (Proc.devRef .tc main_v86_7) : (⟨S_, .i32⟩ : BufTy).Contents (Elt Ideal)) = fun _ => BitVec.ofNat 32 k)
    (i : Fin 8) (r : Fin 128) (d : Fin 256) : (res_main_while0b_v109 V (ix3 i r d) : EReal) = (V (Proc.devRef .tc main_v86_1) : (⟨S130x8x128x256, .f32⟩ : BufTy).Contents (Elt Ideal)) (ix4 (n0 := 130) (n1 := 8) (n2 := 128) (n3 := 256) ⟨k, hk⟩ i r d) := by
  pointwise [res_main_while0b_v109]
  refine congrArg (V (Proc.devRef .tc main_v86_1) : (⟨S130x8x128x256, .f32⟩ : BufTy).Contents (Elt Ideal)) ?_
  funext a
  match a with
  | ⟨0, _⟩ => exact Fin.ext (clamp4 (n1 := 8) (n2 := 128) (n3 := 256) V k hk hc 0 rfl)
  | ⟨1, _⟩ => exact Fin.ext ((congrArg (· + i.val) (clamp4 (n1 := 8) (n2 := 128) (n3 := 256) V k hk hc 1 rfl)).trans (Nat.zero_add _))
  | ⟨2, _⟩ => exact Fin.ext ((congrArg (· + r.val) (clamp4 (n1 := 8) (n2 := 128) (n3 := 256) V k hk hc 2 rfl)).trans (Nat.zero_add _))
  | ⟨3, _⟩ => exact Fin.ext ((congrArg (· + d.val) (clamp4 (n1 := 8) (n2 := 128) (n3 := 256) V k hk hc 3 rfl)).trans (Nat.zero_add _))

theorem readV (V : Valuation τ sig (Elt Ideal)) (k : ℕ) (hk : k < 130) (hc : (V (Proc.devRef .tc main_v86_7) : (⟨S_, .i32⟩ : BufTy).Contents (Elt Ideal)) = fun _ => BitVec.ofNat 32 k)
    (i : Fin 8) (r : Fin 128) (d : Fin 512) : (res_main_while0b_v110 V (ix3 i r d) : EReal) = (V (Proc.devRef .tc main_v86_2) : (⟨S130x8x128x512, .f32⟩ : BufTy).Contents (Elt Ideal)) (ix4 (n0 := 130) (n1 := 8) (n2 := 128) (n3 := 512) ⟨k, hk⟩ i r d) := by
  pointwise [res_main_while0b_v110]
  refine congrArg (V (Proc.devRef .tc main_v86_2) : (⟨S130x8x128x512, .f32⟩ : BufTy).Contents (Elt Ideal)) ?_
  funext a
  match a with
  | ⟨0, _⟩ => exact Fin.ext (clamp4 (n1 := 8) (n2 := 128) (n3 := 512) V k hk hc 0 rfl)
  | ⟨1, _⟩ => exact Fin.ext ((congrArg (· + i.val) (clamp4 (n1 := 8) (n2 := 128) (n3 := 512) V k hk hc 1 rfl)).trans (Nat.zero_add _))
  | ⟨2, _⟩ => exact Fin.ext ((congrArg (· + r.val) (clamp4 (n1 := 8) (n2 := 128) (n3 := 512) V k hk hc 2 rfl)).trans (Nat.zero_add _))
  | ⟨3, _⟩ => exact Fin.ext ((congrArg (· + d.val) (clamp4 (n1 := 8) (n2 := 128) (n3 := 512) V k hk hc 3 rfl)).trans (Nat.zero_add _))

theorem write_eq (V : Valuation τ sig (Elt Ideal)) : step_main_v86_9 V = Host.dynamicUpdateSlice (V (Proc.devRef .tc main_v86_9)) (broadcastInDim S1x8x128x512 ![1, 2, 3] bcast_S8x128x512_S1x8x128x512_1_2_3
    (upd (res_main_while0b_v108 V) (res_main_while0b_v109 V) (res_main_while0b_v110 V) (V (Proc.devRef .tc main_v86_3)) (V (Proc.devRef .tc main_v86_4)) (V (Proc.devRef .tc main_v86_8))))
    (fun k => (((![V (Proc.devRef .tc main_v86_7), constantI S_ 32 0#32, constantI S_ 32 0#32, constantI S_ 32 0#32] : Fin 4 → (⟨S_, .i32⟩ : BufTy).Contents (Elt Ideal))) k (Shape.Idx.first h_S_)).toInt) updateFits_S130x8x128x512_S1x8x128x512 := by
  unfold step_main_v86_9 upd
  rfl

theorem clampS (s : Fin 4 → Int) (k : ℕ) (hk : k < 130) (hs : ∀ a, s a = (((![k, 0, 0, 0] : Fin 4 → ℕ) a : ℕ) : ℤ)) (a : Fin 4) (h : _) :
    Host.clampedStart S130x8x128x512 S1x8x128x512 h s a = (![k, 0, 0, 0] : Fin 4 → ℕ) a := by
  refine Host.clampedStart_of_le h _ a _ (hs a) ?_
  match a with
  | ⟨0, _⟩ => show k + 1 ≤ 130; omega
  | ⟨1, _⟩ => show 0 + 8 ≤ 8; omega
  | ⟨2, _⟩ => show 0 + 128 ≤ 128; omega
  | ⟨3, _⟩ => show 0 + 512 ≤ 512; omega

theorem update_here {α : Type} (x : S130x8x128x512.Idx → α) (u : S1x8x128x512.Idx → α) (s : Fin 4 → Int) (k : ℕ) (hk : k < 130)
    (hs : ∀ a, s a = (((![k, 0, 0, 0] : Fin 4 → ℕ) a : ℕ) : ℤ)) (h : _) (i : Fin 8) (r : Fin 128) (e : Fin 512) :
    Host.dynamicUpdateSlice x u s h (ix4 (n0 := 130) (n1 := 8) (n2 := 128) (n3 := 512) ⟨k, hk⟩ i r e) = u (ix4 (n0 := 1) (n1 := 8) (n2 := 128) (n3 := 512) 0 i r e) := by
  have h0 : Host.clampedStart S130x8x128x512 S1x8x128x512 rfl s 0 = k := clampS s k hk hs 0 rfl
  have h1 : Host.clampedStart S130x8x128x512 S1x8x128x512 rfl s 1 = 0 := clampS s k hk hs 1 rfl
  have h2 : Host.clampedStart S130x8x128x512 S1x8x128x512 rfl s 2 = 0 := clampS s k hk hs 2 rfl
  have h3 : Host.clampedStart S130x8x128x512 S1x8x128x512 rfl s 3 = 0 := clampS s k hk hs 3 rfl
  rw [Host.dynamicUpdateSlice_apply]
  refine (dif_pos fun a => ?_).trans ?_
  · match a with
    | ⟨0, _⟩ => exact (show Host.clampedStart S130x8x128x512 S1x8x128x512 rfl s 0 ≤ k ∧ k < Host.clampedStart S130x8x128x512 S1x8x128x512 rfl s 0 + 1 by omega)
    | ⟨1, _⟩ => exact (show Host.clampedStart S130x8x128x512 S1x8x128x512 rfl s 1 ≤ i.val ∧ i.val < Host.clampedStart S130x8x128x512 S1x8x128x512 rfl s 1 + 8 by omega)
    | ⟨2, _⟩ => exact (show Host.clampedStart S130x8x128x512 S1x8x128x512 rfl s 2 ≤ r.val ∧ r.val < Host.clampedStart S130x8x128x512 S1x8x128x512 rfl s 2 + 128 by omega)
    | ⟨3, _⟩ => exact (show Host.clampedStart S130x8x128x512 S1x8x128x512 rfl s 3 ≤ e.val ∧ e.val < Host.clampedStart S130x8x128x512 S1x8x128x512 rfl s 3 + 512 by omega)
  · refine congrArg u (funext fun a => ?_)
    match a with
    | ⟨0, _⟩ => exact Fin.ext (show k - Host.clampedStart S130x8x128x512 S1x8x128x512 rfl s 0 = 0 by omega)
    | ⟨1, _⟩ => exact Fin.ext (show i.val - Host.clampedStart S130x8x128x512 S1x8x128x512 rfl s 1 = i.val by omega)
    | ⟨2, _⟩ => exact Fin.ext (show r.val - Host.clampedStart S130x8x128x512 S1x8x128x512 rfl s 2 = r.val by omega)
    | ⟨3, _⟩ => exact Fin.ext (show e.val - Host.clampedStart S130x8x128x512 S1x8x128x512 rfl s 3 = e.val by omega)

theorem update_there {α : Type} (x : S130x8x128x512.Idx → α) (u : S1x8x128x512.Idx → α) (s : Fin 4 → Int) (k : ℕ) (hk : k < 130)
    (hs : ∀ a, s a = (((![k, 0, 0, 0] : Fin 4 → ℕ) a : ℕ) : ℤ)) (h : _) (ch : Fin 130) (hne : ch.val ≠ k) (i : Fin 8) (r : Fin 128) (e : Fin 512) :
    Host.dynamicUpdateSlice x u s h (ix4 ch i r e) = x (ix4 ch i r e) := by
  have h0 : Host.clampedStart S130x8x128x512 S1x8x128x512 rfl s 0 = k := clampS s k hk hs 0 rfl
  rw [Host.dynamicUpdateSlice_apply]
  refine dif_neg fun h => hne ?_
  have h1 : Host.clampedStart S130x8x128x512 S1x8x128x512 rfl s 0 ≤ ch.val ∧ ch.val < Host.clampedStart S130x8x128x512 S1x8x128x512 rfl s 0 + 1 := h 0
  omega

/-- A trip's block is what the trip makes; -/
theorem write_here (V : Valuation τ sig (Elt Ideal)) (k : ℕ) (hk : k < 130) (hc : (V (Proc.devRef .tc main_v86_7) : (⟨S_, .i32⟩ : BufTy).Contents (Elt Ideal)) = fun _ => BitVec.ofNat 32 k)
    (i : Fin 8) (r : Fin 128) (e : Fin 512) : (step_main_v86_9 V (ix4 (n0 := 130) (n1 := 8) (n2 := 128) (n3 := 512) ⟨k, hk⟩ i r e) : EReal) =
      (upd (res_main_while0b_v108 V) (res_main_while0b_v109 V) (res_main_while0b_v110 V) (V (Proc.devRef .tc main_v86_3)) (V (Proc.devRef .tc main_v86_4)) (V (Proc.devRef .tc main_v86_8))) (ix3 i r e) := by
  rw [write_eq]
  refine (update_here _ _ _ k hk (starts_at V k hk hc) _ i r e).trans ?_
  generalize (upd (res_main_while0b_v108 V) (res_main_while0b_v109 V) (res_main_while0b_v110 V) (V (Proc.devRef .tc main_v86_3)) (V (Proc.devRef .tc main_v86_4)) (V (Proc.devRef .tc main_v86_8))) = y
  pointwise []

/-- the others are left. -/
theorem write_there (V : Valuation τ sig (Elt Ideal)) (k : ℕ) (hk : k < 130) (hc : (V (Proc.devRef .tc main_v86_7) : (⟨S_, .i32⟩ : BufTy).Contents (Elt Ideal)) = fun _ => BitVec.ofNat 32 k)
    (ch : Fin 130) (hne : ch.val ≠ k) (i : Fin 8) (r : Fin 128) (e : Fin 512) : (step_main_v86_9 V (ix4 ch i r e) : EReal) =
      (V (Proc.devRef .tc main_v86_9) : (⟨S130x8x128x512, .f32⟩ : BufTy).Contents (Elt Ideal)) (ix4 ch i r e) := by
  rw [write_eq]
  exact update_there _ _ _ k hk (starts_at V k hk hc) _ ch hne i r e

/-- The state a trip leaves. -/
def nxt (k : FVec Ideal S8x128x256 .f32) (v : FVec Ideal S8x128x512 .f32) (w : FVec Ideal S8x1x1 .f32) (f : FVec Ideal S8x128x1 .f32) (st : FVec Ideal S8x256x512 .f32) : FVec Ideal S8x256x512 .f32 :=
  addf (mulf st (broadcastInDim S8x256x512 ![0, 1, 2] bcast_S8x1x1_S8x256x512_0_1_2 w))
    (Host.dotGeneral (φ₁ := .f32) (φ₂ := .f32) dot_S8x128x256_S8x128x512_S8x256x512_1_1_2_2_0_0 none (mulf k (broadcastInDim S8x128x256 ![0, 1, 2] bcast_S8x128x1_S8x128x256_0_1_2 f)) v)

theorem nxt_at (k : FVec Ideal S8x128x256 .f32) (v : FVec Ideal S8x128x512 .f32) (w : FVec Ideal S8x1x1 .f32) (f : FVec Ideal S8x128x1 .f32) (st : FVec Ideal S8x256x512 .f32) (i : Fin 8) (d : Fin 256) (e : Fin 512) :
    nxt k v w f st (ix3 i d e) = (st (ix3 i d e) * w (ix3 i 0 0) + ∑ j : Fin 128, k (ix3 i j d) * f (ix3 i j 0) * v (ix3 i j e) : EReal) := by
  pointwise [nxt]

theorem next_eq (V : Valuation τ sig (Elt Ideal)) : step_main_v86_8 V
    = nxt (res_main_while0b_v109 V) (res_main_while0b_v110 V) (V (Proc.devRef .tc main_v86_5)) (V (Proc.devRef .tc main_v86_6)) (V (Proc.devRef .tc main_v86_8)) := rfl

/-- What the loop carries before trip `k`. -/
structure Carried (γ : Fin 8 → ℝ) (aq ak : Fin 16640 → Fin 1024 → ℝ) (av : Fin 16640 → Fin 2048 → ℝ) (k : ℕ) (V : Valuation τ sig (Elt Ideal)) : Prop where
  ctr : (V (Proc.devRef .tc main_v86_7) : (⟨S_, .i32⟩ : BufTy).Contents (Elt Ideal)) = fun _ => BitVec.ofNat 32 k
  q : ∀ (ch : Fin 130) (i : Fin 8) (r : Fin 128) (d : Fin 256), ((V (Proc.devRef .tc main_v86_0) : (⟨S130x8x128x256, .f32⟩ : BufTy).Contents (Elt Ideal)) (ix4 ch i r d) : EReal) = ((byPos aq i (128 * ch.val + r.val) d : ℝ) : EReal)
  kk : ∀ (ch : Fin 130) (i : Fin 8) (r : Fin 128) (d : Fin 256), ((V (Proc.devRef .tc main_v86_1) : (⟨S130x8x128x256, .f32⟩ : BufTy).Contents (Elt Ideal)) (ix4 ch i r d) : EReal) = ((byPos ak i (128 * ch.val + r.val) d : ℝ) : EReal)
  v : ∀ (ch : Fin 130) (i : Fin 8) (r : Fin 128) (e : Fin 512), ((V (Proc.devRef .tc main_v86_2) : (⟨S130x8x128x512, .f32⟩ : BufTy).Contents (Elt Ideal)) (ix4 ch i r e) : EReal) = ((byPosV av i (128 * ch.val + r.val) e : ℝ) : EReal)
  w : ∀ (i : Fin 8) (r j : Fin 128), ((V (Proc.devRef .tc main_v86_3) : (⟨S8x128x128, .f32⟩ : BufTy).Contents (Elt Ideal)) (ix3 i r j) : EReal) = ((if j.val ≤ r.val then γ i ^ (r.val - j.val) else 0 : ℝ) : EReal)
  one : ∀ (i : Fin 8) (r : Fin 128), ((V (Proc.devRef .tc main_v86_4) : (⟨S8x128x1, .f32⟩ : BufTy).Contents (Elt Ideal)) (ix3 i r 0) : EReal) = ((γ i ^ (r.val + 1) : ℝ) : EReal)
  whole : ∀ i : Fin 8, ((V (Proc.devRef .tc main_v86_5) : (⟨S8x1x1, .f32⟩ : BufTy).Contents (Elt Ideal)) (ix3 i 0 0) : EReal) = ((γ i ^ 128 : ℝ) : EReal)
  rest : ∀ (i : Fin 8) (r : Fin 128), ((V (Proc.devRef .tc main_v86_6) : (⟨S8x128x1, .f32⟩ : BufTy).Contents (Elt Ideal)) (ix3 i r 0) : EReal) = ((γ i ^ (128 - 1 - r.val) : ℝ) : EReal)
  st : ∀ (i : Fin 8) (d : Fin 256) (e : Fin 512), ((V (Proc.devRef .tc main_v86_8) : (⟨S8x256x512, .f32⟩ : BufTy).Contents (Elt Ideal)) (ix3 i d e) : EReal) = ((state (γ i) (fun n => byPos ak i n d) (fun n => byPosV av i n e) (128 * k) : ℝ) : EReal)
  out : ∀ (ch : Fin 130) (i : Fin 8) (r : Fin 128) (e : Fin 512), ch.val < k → ((V (Proc.devRef .tc main_v86_9) : (⟨S130x8x128x512, .f32⟩ : BufTy).Contents (Elt Ideal)) (ix4 ch i r e) : EReal)
    = ((retain (γ i) (byPos aq i) (byPos ak i) (fun n => byPosV av i n e) (128 * ch.val + r.val) : ℝ) : EReal)

/-- One trip. -/
theorem inv_step {γ : Fin 8 → ℝ} {aq ak : Fin 16640 → Fin 1024 → ℝ} {av : Fin 16640 → Fin 2048 → ℝ} {k : ℕ} (hk : k < 130) {V : Valuation τ sig (Elt Ideal)}
    (h : Carried γ aq ak av k V) : Carried γ aq ak av (k + 1) (STEP V) where
  ctr := by
    rw [STEP_main_v86_7]
    show addi (V (Proc.devRef .tc main_v86_7) : (⟨S_, .i32⟩ : BufTy).Contents (Elt Ideal)) (constantI S_ 32 1#32) = _
    rw [h.ctr]
    funext x
    show BitVec.ofNat 32 k + 1#32 = BitVec.ofNat 32 (k + 1)
    exact (BitVec.ofNat_add k 1).symm
  q := by rw [STEP_main_v86_0]; exact h.q
  kk := by rw [STEP_main_v86_1]; exact h.kk
  v := by rw [STEP_main_v86_2]; exact h.v
  w := by rw [STEP_main_v86_3]; exact h.w
  one := by rw [STEP_main_v86_4]; exact h.one
  whole := by rw [STEP_main_v86_5]; exact h.whole
  rest := by rw [STEP_main_v86_6]; exact h.rest
  st := fun i d e => by
    rw [STEP_main_v86_8, next_eq, nxt_at, show 128 * (k + 1) = 128 * k + 128 by omega]
    refine step_state (Equiv.refl _) (h.st i d e) (h.whole i) (fun j => ?_) (fun j => h.rest i j) (fun j => ?_)
    · rw [readK V k hk h.ctr]; exact h.kk ⟨k, hk⟩ i j d
    · rw [readV V k hk h.ctr]; exact h.v ⟨k, hk⟩ i j e
  out := fun ch i r e hch => by
    rw [STEP_main_v86_9]
    by_cases hne : ch.val = k
    · obtain rfl : ch = ⟨k, hk⟩ := Fin.ext hne
      rw [write_here V k hk h.ctr, upd_at]
      refine step_out' r (fun d => ?_) (fun j d => ?_) (fun j => ?_) (fun j => h.w i r j) (h.one i r) (fun d => h.st i d e)
      · rw [readQ V k hk h.ctr]; exact h.q ⟨k, hk⟩ i r d
      · rw [readK V k hk h.ctr]; exact h.kk ⟨k, hk⟩ i j d
      · rw [readV V k hk h.ctr]; exact h.v ⟨k, hk⟩ i j e
    · rw [write_there V k hk h.ctr ch hne]
      exact h.out ch i r e (by omega)

theorem inv_iter {γ : Fin 8 → ℝ} {aq ak : Fin 16640 → Fin 1024 → ℝ} {av : Fin 16640 → Fin 2048 → ℝ} {V : Valuation τ sig (Elt Ideal)} (h : Carried γ aq ak av 0 V) :
    ∀ k, k ≤ 130 → Carried γ aq ak av k (STEP^[k] V)
  | 0, _ => h
  | k + 1, hk => by
    rw [Function.iterate_succ_apply']
    exact inv_step (by omega) (inv_iter h k (by omega))

/-- Before the first trip. -/
theorem inv_entry (m : (ℓ : Loc nD τ sig) → Buf (Elt Ideal) ℓ) (c : Dev nD) {aq ak : Fin 16640 → Fin 1024 → ℝ} {av : Fin 16640 → Fin 2048 → ℝ}
    (hq : ∀ R k, (m (c, main_arg1) : FVec Ideal S16640x1024 .bf16) (ix2 R k) = ((aq R k : ℝ) : EReal)) (hk : ∀ R k, (m (c, main_arg2) : FVec Ideal S16640x1024 .bf16) (ix2 R k) = ((ak R k : ℝ) : EReal))
    (hv : ∀ R k, (m (c, main_arg3) : FVec Ideal S16640x2048 .bf16) (ix2 R k) = ((av R k : ℝ) : EReal)) :
    Carried (rates (m (c, main_arg0))) aq ak av 0 (entryContents preI m c) where
  ctr := ctr_entry m c
  q := by rw [entry_0]; exact fun ch i r d => arrK_at _ aq hq ch i r d
  kk := by rw [entry_1]; exact fun ch i r d => arrK_at _ ak hk ch i r d
  v := by rw [entry_2]; exact fun ch i r d => arrV_at _ av hv ch i r d
  w := by rw [entry_3]; exact fun i r j => intraW_at _ i r j
  one := by rw [entry_4]; exact fun i r => powsW_at _ _ i r 0 _ (oneW_at r)
  whole := by rw [entry_5]; exact fun i => wholeW_at _ i 0 0
  rest := by rw [entry_6]; exact fun i r => powsW_at _ _ i r 0 _ (restW_at r)
  st := by
    rw [entry_8]
    intro i d e
    pointwise []
    simp [state]
  out := fun ch i r e h => absurd h (Nat.not_lt_zero _)

end Cert.Reference2Ideal.Ret
-- ==== Proof.RetOut.lean ====
/- The retention's reference: its two results. -/
module

public import proofs.«01_k».proof.Proof.RetLoop

@[expose] public section

set_option maxRecDepth 16384

noncomputable section

namespace Cert.Reference2Ideal.Ret

open Cert.Reference2Ideal Cert.Reference2Ideal.Gen Cert.Reference2Ideal.Value Cert.Retention
open Idealize.ShloMosaic Idealize.ShloMosaic.TcCoe Idealize.ShloMosaic.Pointwise Idealize.ShloMosaic.StableHlo

/-- The blocks of the scan in one, by head. -/
def flatW (y : FVec Ideal S130x8x128x512 .f32) : FVec Ideal S8x16640x512 .f32 :=
  shapeCast S8x16640x512 (transpose S8x130x128x512 [1, 0, 2, 3] y transposes_S130x8x128x512_S8x130x128x512_1_0_2_3) shapeCasts_S8x130x128x512_S8x16640x512
def firstW (x : FVec Ideal S8x16640x512 .f32) : FVec Ideal S4x16640x512 .f32 := extractStridedSlice S4x16640x512 ![0, 0, 0] x slices_S8x16640x512_S4x16640x512_0_0_0
def lastW (x : FVec Ideal S8x16640x512 .f32) : FVec Ideal S4x16640x512 .f32 := extractStridedSlice S4x16640x512 ![4, 0, 0] x slices_S8x16640x512_S4x16640x512_4_0_0
def turnW (x : FVec Ideal S4x16640x512 .f32) : FVec Ideal S4x16640x512 .f32 :=
  concatenate S4x16640x512 1 [⟨S4x256x512, Host.reverse [1] (extractStridedSlice S4x256x512 ![0, 0, 0] x slices_S4x16640x512_S4x256x512_0_0_0)⟩,
    ⟨S4x16384x512, Host.reverse [1] (extractStridedSlice S4x16384x512 ![0, 256, 0] x slices_S4x16640x512_S4x16384x512_0_256_0)⟩] concatenates_S4x256x512_S4x16384x512_S4x16640x512_d1
def sideW (x : FVec Ideal S4x16640x512 .f32) : FVec Ideal S16640x2048 .f32 :=
  shapeCast S16640x2048 (transpose S16640x4x512 [1, 0, 2] x transposes_S4x16640x512_S16640x4x512_1_0_2) shapeCasts_S16640x4x512_S16640x2048
def rowsW (z : FVec Ideal S16640x2048 .f32) : FVec Ideal S16640x2048 .bf16 :=
  truncf .bf16 (concatenate S16640x2048 0 [⟨S16384x2048, extractStridedSlice S16384x2048 ![256, 0] z slices_S16640x2048_S16384x2048_256_0⟩,
    ⟨S256x2048, extractStridedSlice S256x2048 ![0, 0] z slices_S16640x2048_S256x2048_0_0⟩] concatenates_S16384x2048_S256x2048_S16640x2048_d0) bitsLt_bf16_f32

theorem flatW_at (y : FVec Ideal S130x8x128x512 .f32) (h : Fin 8) (n : Fin 16640) (e : Fin 512) :
    flatW y (ix3 h n e) = y (ix4 (n0 := 130) (n1 := 8) (n2 := 128) (n3 := 512) ⟨n.val / 128, by omega⟩ h ⟨n.val % 128, by omega⟩ e) := by
  pointwise [flatW]

theorem firstW_at (x : FVec Ideal S8x16640x512 .f32) (h : Fin 4) (n : Fin 16640) (e : Fin 512) :
    firstW x (ix3 h n e) = x (ix3 (n0 := 8) (n1 := 16640) (n2 := 512) ⟨h.val, by omega⟩ n e) := by
  pointwise [firstW]

theorem lastW_at (x : FVec Ideal S8x16640x512 .f32) (h : Fin 4) (n : Fin 16640) (e : Fin 512) :
    lastW x (ix3 h n e) = x (ix3 (n0 := 8) (n1 := 16640) (n2 := 512) ⟨4 + h.val, by omega⟩ n e) := by
  pointwise [lastW]

theorem turnW_at (x : FVec Ideal S4x16640x512 .f32) (h : Fin 4) (n : Fin 16640) (e : Fin 512) :
    turnW x (ix3 h n e) = if hn : n.val < 256 then x (ix3 (n0 := 4) (n1 := 16640) (n2 := 512) h ⟨256 - (n.val + 1), by omega⟩ e)
      else x (ix3 (n0 := 4) (n1 := 16640) (n2 := 512) h ⟨256 + (16384 - (n.val - 256 + 1)), by omega⟩ e) := by
  pointwise [turnW]
  rfl

theorem sideW_at (x : FVec Ideal S4x16640x512 .f32) (R : Fin 16640) (e : Fin 2048) :
    sideW x (ix2 R e) = x (ix3 (n0 := 4) (n1 := 16640) (n2 := 512) ⟨e.val / 512, by omega⟩ R ⟨e.val % 512, by omega⟩) := by
  pointwise [sideW]

set_option maxRecDepth 100000 in
theorem rowsW_at (z : FVec Ideal S16640x2048 .f32) (R : Fin 16640) (e : Fin 2048) :
    (rowsW z (ix2 R e) : EReal) = if hR : R.val < 16384 then (z (ix2 (n0 := 16640) (n1 := 2048) ⟨256 + R.val, by omega⟩ e) : EReal)
      else (z (ix2 (n0 := 16640) (n1 := 2048) ⟨R.val - 16384, by omega⟩ e) : EReal) := by
  pointwise [rowsW]

theorem out_fwd (V : Valuation τ sig (Elt Ideal)) : out_main_v95 V = rowsW (sideW (firstW (flatW (V (Proc.devRef .tc main_v86_9))))) := by
  unfold out_main_v95 rowsW sideW firstW flatW
  rfl

theorem out_bwd (V : Valuation τ sig (Elt Ideal)) : out_main_v107 V = rowsW (sideW (turnW (lastW (flatW (V (Proc.devRef .tc main_v86_9)))))) := by
  unfold out_main_v107 rowsW sideW turnW lastW flatW
  rfl

section
variable (y : FVec Ideal S130x8x128x512 .f32) {γ : Fin 8 → ℝ} {aq ak : Fin 16640 → Fin 1024 → ℝ} {av : Fin 16640 → Fin 2048 → ℝ}
  (hy : ∀ (ch : Fin 130) (i : Fin 8) (r : Fin 128) (e : Fin 512), (y (ix4 ch i r e) : EReal) = ((retain (γ i) (byPos aq i) (byPos ak i) (fun n => byPosV av i n e) (128 * ch.val + r.val) : ℝ) : EReal))

include hy in
theorem flat_at (i : Fin 8) (n : Fin 16640) (e : Fin 512) : (flatW y (ix3 i n e) : EReal) = ((retain (γ i) (byPos aq i) (byPos ak i) (fun n => byPosV av i n e) n.val : ℝ) : EReal) := by
  rw [flatW_at, hy]
  rw [show 128 * (⟨n.val / 128, by omega⟩ : Fin 130).val + (⟨n.val % 128, by omega⟩ : Fin 128).val = n.val from Nat.div_add_mod n.val 128]

include hy in
theorem fwd_at (R : Fin 16640) (e : Fin 2048) : (rowsW (sideW (firstW (flatW y))) (ix2 R e) : EReal) = ((result γ aq ak av 0 (by decide) R e : ℝ) : EReal) := by
  have hh : (⟨e.val / 512, by omega⟩ : Fin 8) = headOf 0 (by decide) e := Fin.ext (Nat.zero_add _).symm
  have hp : pos (headOf 0 (by decide) e) R = if 16384 ≤ R.val then R.val - 16384 else R.val + 256 :=
    if_pos (show 0 + e.val / 512 < 4 by omega)
  rw [rowsW_at]
  simp only [sideW_at, firstW_at, flat_at y hy, hh]
  unfold result
  rw [hp]
  split_ifs with h1 h2 h2
  · omega
  · rw [Nat.add_comm 256]
  · rfl
  · omega

include hy in
theorem bwd_at (R : Fin 16640) (e : Fin 2048) : (rowsW (sideW (turnW (lastW (flatW y)))) (ix2 R e) : EReal) = ((result γ aq ak av 4 (by decide) R e : ℝ) : EReal) := by
  have hh : (⟨4 + e.val / 512, by omega⟩ : Fin 8) = headOf 4 (by decide) e := rfl
  have hp : pos (headOf 4 (by decide) e) R = 16639 - R.val :=
    if_neg (show ¬ 4 + e.val / 512 < 4 by omega)
  rw [rowsW_at]
  simp only [sideW_at, turnW_at, lastW_at, flat_at y hy, hh]
  unfold result
  rw [hp]
  split_ifs with h1 h2 h2
  all_goals first
    | (exfalso; omega)
    | (refine congrArg (fun n : ℕ => ((retain (γ (headOf 4 (by decide) e)) (byPos aq (headOf 4 (by decide) e)) (byPos ak (headOf 4 (by decide) e)) (fun n => byPosV av (headOf 4 (by decide) e) n ⟨e.val % 512, Nat.mod_lt _ (by decide)⟩) n : ℝ) : EReal)) ?_
       omega)
end

section
variable (m : (ℓ : Loc nD τ sig) → Buf (Elt Ideal) ℓ) (c : Dev nD) {aq ak : Fin 16640 → Fin 1024 → ℝ} {av : Fin 16640 → Fin 2048 → ℝ}
    (hq : ∀ R k, (m (c, main_arg1) : FVec Ideal S16640x1024 .bf16) (ix2 R k) = ((aq R k : ℝ) : EReal)) (hk : ∀ R k, (m (c, main_arg2) : FVec Ideal S16640x1024 .bf16) (ix2 R k) = ((ak R k : ℝ) : EReal))
    (hv : ∀ R k, (m (c, main_arg3) : FVec Ideal S16640x2048 .bf16) (ix2 R k) = ((av R k : ℝ) : EReal))
include hq hk hv

theorem final_fwd : out_main_v95 (STEP^[130] (entryContents preI m c))
    = (fun y => ((result (rates (m (c, main_arg0))) aq ak av 0 (by decide) (y 0) (y 1) : ℝ) : EReal) : (⟨S16640x2048, .bf16⟩ : BufTy).Contents (Elt Ideal)) := by
  have h := inv_iter (inv_entry m c hq hk hv) 130 le_rfl
  rw [out_fwd]
  funext y
  exact (congrArg _ (eq_ix2 y)).trans (fwd_at _ (fun ch i r e => h.out ch i r e ch.isLt) (y 0) (y 1))

theorem final_bwd : out_main_v107 (STEP^[130] (entryContents preI m c))
    = (fun y => ((result (rates (m (c, main_arg0))) aq ak av 4 (by decide) (y 0) (y 1) : ℝ) : EReal) : (⟨S16640x2048, .bf16⟩ : BufTy).Contents (Elt Ideal)) := by
  have h := inv_iter (inv_entry m c hq hk hv) 130 le_rfl
  rw [out_bwd]
  funext y
  exact (congrArg _ (eq_ix2 y)).trans (bwd_at _ (fun ch i r e => h.out ch i r e ch.isLt) (y 0) (y 1))
end

end Cert.Reference2Ideal.Ret
-- ==== Proof.lean ====
module

public import proofs.«01_k».proof.Proof.Gen.Pre_sorted_counts
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Frame
public import proofs.«01_k».proof.Proof.Same
public import proofs.«01_k».proof.Proof.RefValue
public import proofs.«01_k».proof.Proof.Gen.Kernel2Ideal.Value
public import proofs.«01_k».proof.Proof.Gen.Reference2Ideal.Run
public import proofs.«01_k».proof.Proof.Gen.Kernel2.Frame
public import proofs.«01_k».proof.Proof.Gen.Pre_sorted_counts3
public import proofs.«01_k».proof.Proof.Gen.Kernel3
public import proofs.«01_k».proof.Proof.Gen.Kernel3.Skeleton
public import proofs.«01_k».proof.Proof.Gen.Kernel3.Launch
public import proofs.«01_k».proof.Proof.Gen.Kernel3.Flash
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Flash
public import proofs.«01_k».proof.Proof.Gen.Reference3Ideal
public import proofs.«01_k».proof.Proof.Gen.Reference3Ideal.Run
public import proofs.«01_k».proof.Proof.LastClaims
public import proofs.«01_k».proof.Proof.RetPre
public import proofs.«01_k».proof.Proof.RetValue
public import proofs.«01_k».proof.Proof.RetOut
public import Idealize.ShloMosaic.Lib.Quiescent
public import Idealize.ShloMosaic.Lib.Claim
public import Idealize.ShloMosaic.Adequacy
public import Idealize.ShloMosaic.Init

@[expose] public section

noncomputable section

namespace Cert.Proof

open Idealize.ShloMosaic Idealize.SL.Sem

open Cert.KernelIdeal.Moe in
/-- The precondition, read of a memory of the kernel at any scalar semantics. -/
theorem good_of {F : FTy → Type} [FloatOps F] (m : (ℓ : Loc Cert.KernelIdeal.nD Cert.KernelIdeal.τ Cert.KernelIdeal.sig) → Buf (Elt F) ℓ)
    (h : ∀ c : Dev Cert.KernelIdeal.nD,
    (Cert.Pre_sorted_counts.fn (F := F) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)) : Good m :=
  have e := pre_read _ _ _ _ _ (h 0)
  ⟨e.1, e.2.1, e.2.2.1, e.2.2.2⟩

open Cert.KernelIdeal.Moe in
theorem frame_ideal : Cert.quiescent_KernelIdeal := fun m ρ h =>
  (θ_run Cert.KernelIdeal.defs _ _).mono (fun _ hr => ⟨fun c => (hr.1 c).2, hr.2⟩) (run_out (F := Ideal) m ρ (good_of m h))

open Cert.KernelIdeal.Moe in
theorem good_kernel (m : (ℓ : Loc Cert.Kernel.nD Cert.Kernel.τ Cert.Kernel.sig) → Buf (Elt Bits) ℓ) (h : Cert.Pre_Kernel m) : Good (F := Bits) m :=
  good_of (F := Bits) m h

open Cert.KernelIdeal.Moe in
theorem run_kernel (m : (ℓ : Loc Cert.KernelIdeal.nD Cert.KernelIdeal.τ Cert.KernelIdeal.sig) → Buf (Elt Bits) ℓ) (ρ : Dev Cert.KernelIdeal.nD → PrngReg) (h : Good m) :
    θ_run (Cert.KernelIdeal.defs (F := Bits)) (onTc (τ := Cert.KernelIdeal.τ) (Cert.KernelIdeal.main (F := Bits))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun _ hr => ⟨fun c => (hr.1 c).2, hr.2⟩) (run_out (F := Bits) m ρ h)

theorem frame_kernel : Cert.quiescent_Kernel := fun m ρ h =>
  run_same defs_same (funext main_same) (run_kernel m ρ (good_kernel m h))

theorem frame_reference : Cert.quiescent_ReferenceIdeal := fun m ρ _ =>
  (θ_run Cert.ReferenceIdeal.defs _ _).mono (fun r hr => ⟨fun c => (hr c).2, sem_eq_zero_of_no_sems rfl _⟩) (Cert.ReferenceIdeal.Value.run (F := Ideal) m ρ)

theorem frame_reference_pre : Cert.quiescent_ReferenceIdeal_pre_sorted_counts := fun m ρ _ => frame_reference m ρ trivial

open Cert.KernelIdeal.Moe in
theorem equal : Cert.algebraic_KernelIdeal_ReferenceIdeal := fun m g m' g' hpre hargs =>
  ⟨fun c => (fun i => resAt m (good_of m hpre) c (i 0) (i 1)),
    (θ_run Cert.KernelIdeal.defs _ _).mono (fun _ hr c => ⟨((hr.1 c).1).trans (final_at m (good_of m hpre) c), (hr.1 c).2⟩) (run_out (F := Ideal) m g (good_of m hpre)),
    (θ_run Cert.ReferenceIdeal.defs _ _).mono (fun _ hr c => ⟨((hr c).1).trans
      (Cert.ReferenceIdeal.Moe.res_at m (good_of m hpre) c m' (hargs c).1 (hargs c).2.1 (hargs c).2.2.1 (hargs c).2.2.2.1 (hargs c).2.2.2.2), (hr c).2⟩)
      (Cert.ReferenceIdeal.Value.run (F := Ideal) m' g')⟩

theorem frame_reference2 : Cert.quiescent_Reference2Ideal := fun m ρ _ =>
  (θ_run Cert.Reference2Ideal.defs _ _).mono (fun r hr => ⟨fun c => (hr c).2.2, sem_eq_zero_of_no_sems rfl _⟩) (Cert.Reference2Ideal.Value.run (F := Ideal) m ρ)

theorem rates_eq (a0 : FVec Ideal Cert.Kernel2Ideal.S2x4 .f32) : Cert.Reference2Ideal.Ret.rates a0 = Cert.Kernel2Ideal.Ret.rates a0 := rfl

/-- The retention's two results, of the memory it starts from. -/
def scan (b : ℕ) (hb : b ≤ 4) (a0 : FVec Ideal Cert.Kernel2Ideal.S2x4 .f32) (a1 a2 : FVec Ideal Cert.Kernel2Ideal.S16640x1024 .bf16) (a3 : FVec Ideal Cert.Kernel2Ideal.S16640x2048 .bf16) : FVec Ideal Cert.Kernel2Ideal.S16640x2048 .bf16 :=
  fun y => ((Cert.Retention.result (Cert.Kernel2Ideal.Ret.rates a0) (fun R k => (a1 (ix2 R k) : EReal).toReal) (fun R k => (a2 (ix2 R k) : EReal).toReal)
    (fun R k => (a3 (ix2 R k) : EReal).toReal) b hb (y 0) (y 1) : ℝ) : EReal)

section
open Cert.Kernel2Ideal Cert.Kernel2Ideal.Ret Cert.Kernel2Ideal.Gen Idealize.ShloMosaic.TcCoe
variable (m : (ℓ : Loc nD τ sig) → Buf (Elt Ideal) ℓ) (h : Cert.Pre_Kernel2Ideal_finite m) (c : Dev nD)
include h

theorem scan_kernel : (dats m 0 c).arrAt 7 cfg0.N = scan 0 (by decide) (m (c, main_arg0)) (m (c, main_arg1)) (m (c, main_arg2)) (m (c, main_arg3))
    ∧ (dats m 0 c).arrAt 8 cfg0.N = scan 4 (by decide) (m (c, main_arg0)) (m (c, main_arg1)) (m (c, main_arg2)) (m (c, main_arg3)) :=
  have e := Cert.Retention.finite_read _ _ _ _ (h c)
  ⟨final_7 m c _ _ _ e.1 e.2.1 e.2.2, final_8 m c _ _ _ e.1 e.2.1 e.2.2⟩
end

section
open Cert.Reference2Ideal Cert.Reference2Ideal.Ret Cert.Reference2Ideal.Gen Cert.Reference2Ideal.Value Idealize.ShloMosaic.StableHlo Idealize.ShloMosaic.TcCoe
variable (m : (ℓ : Loc nD τ sig) → Buf (Elt Ideal) ℓ) (h : Cert.Pre_Reference2Ideal_finite m) (c : Dev nD)
include h

theorem scan_reference : out_main_v95 (STEP^[130] (entryContents preI m c)) = scan 0 (by decide) (m (c, main_arg0)) (m (c, main_arg1)) (m (c, main_arg2)) (m (c, main_arg3))
    ∧ out_main_v107 (STEP^[130] (entryContents preI m c)) = scan 4 (by decide) (m (c, main_arg0)) (m (c, main_arg1)) (m (c, main_arg2)) (m (c, main_arg3)) :=
  have e := Cert.Retention.finite_read _ _ _ _ (h c)
  ⟨final_fwd m c e.1 e.2.1 e.2.2, final_bwd m c e.1 e.2.1 e.2.2⟩
end

theorem scan_same {a0 a0' : FVec Ideal Cert.Kernel2Ideal.S2x4 .f32} {a1 a1' a2 a2' : FVec Ideal Cert.Kernel2Ideal.S16640x1024 .bf16} {a3 a3' : FVec Ideal Cert.Kernel2Ideal.S16640x2048 .bf16}
    (e0 : a0' = a0) (e1 : a1' = a1) (e2 : a2' = a2) (e3 : a3' = a3) (b : ℕ) (hb : b ≤ 4) : scan b hb a0' a1' a2' a3' = scan b hb a0 a1 a2 a3 := by
  rw [e0, e1, e2, e3]

theorem pre_same {a0 a0' : FVec Ideal Cert.Kernel2Ideal.S2x4 .f32} {a1 a1' a2 a2' : FVec Ideal Cert.Kernel2Ideal.S16640x1024 .bf16} {a3 a3' : FVec Ideal Cert.Kernel2Ideal.S16640x2048 .bf16}
    (e0 : a0' = a0) (e1 : a1' = a1) (e2 : a2' = a2) (e3 : a3' = a3) (h : Cert.Pre_finite.fn (F := Ideal) a0 a1 a2 a3 = fun _ => 1#1) : Cert.Pre_finite.fn (F := Ideal) a0' a1' a2' a3' = fun _ => 1#1 := by
  rw [e0, e1, e2, e3]; exact h

open Idealize.ShloMosaic.TcCoe in
theorem equal2 : Cert.algebraic_Kernel2Ideal_Reference2Ideal_pre_finite := fun m g m' g' hpre hargs =>
  have hpre' : Cert.Pre_Reference2Ideal_finite m' := fun c => pre_same (hargs c).1 (hargs c).2.1 (hargs c).2.2.1 (hargs c).2.2.2 (hpre c)
  ⟨fun c => scan 0 (by decide) (m (c, Cert.Kernel2Ideal.main_arg0)) (m (c, Cert.Kernel2Ideal.main_arg1)) (m (c, Cert.Kernel2Ideal.main_arg2)) (m (c, Cert.Kernel2Ideal.main_arg3)),
    fun c => scan 4 (by decide) (m (c, Cert.Kernel2Ideal.main_arg0)) (m (c, Cert.Kernel2Ideal.main_arg1)) (m (c, Cert.Kernel2Ideal.main_arg2)) (m (c, Cert.Kernel2Ideal.main_arg3)),
    (θ_run Cert.Kernel2Ideal.defs _ _).mono (fun _ hr c => ⟨(hr c).1.trans (scan_kernel m hpre c).1, (hr c).2.1.trans (scan_kernel m hpre c).2, (hr c).2.2⟩)
      (Cert.Kernel2Ideal.Value.run_blocks (F := Ideal) m g),
    (θ_run Cert.Reference2Ideal.defs _ _).mono (fun _ hr c => ⟨(hr c).1.trans ((scan_reference m' hpre' c).1.trans (scan_same (hargs c).1 (hargs c).2.1 (hargs c).2.2.1 (hargs c).2.2.2 0 (by decide))),
      (hr c).2.1.trans ((scan_reference m' hpre' c).2.trans (scan_same (hargs c).1 (hargs c).2.1 (hargs c).2.2.1 (hargs c).2.2.2 4 (by decide))), (hr c).2.2⟩)
      (Cert.Reference2Ideal.Value.run (F := Ideal) m' g')⟩

theorem frame_kernel2 : Cert.quiescent_Kernel2 := fun m ρ _ => Cert.Kernel2.Gen.frame m ρ
theorem frame_ideal2 : Cert.quiescent_Kernel2Ideal := fun m ρ _ => Cert.Kernel2Ideal.Gen.frame m ρ

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_sorted_counts.Gen.facts, Cert.Retention.facts_finite, Cert.Pre_sorted_counts3.Gen.facts,
  frame_kernel, frame_ideal, frame_reference, frame_reference_pre, frame_kernel2, frame_ideal2, fun m ρ _ => frame_ideal2 m ρ trivial, frame_reference2,
  fun m ρ _ => frame_reference2 m ρ trivial, Last.frame_kernel, Last.frame_ideal, Last.frame_reference, Last.frame_reference_pre,
  trivial, equal, trivial, equal2, trivial, Last.equal⟩

end Cert.Proof

end
